-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_BrRnn (m : (ℓ : Loc Cert.BrRnn.nD Cert.BrRnn.τ Cert.BrRnn.sig) → Buf (Elt Bits) ℓ) : Prop :=
  True

def Pre_BrRnnIdeal (m : (ℓ : Loc Cert.BrRnnIdeal.nD Cert.BrRnnIdeal.τ Cert.BrRnnIdeal.sig) → Buf (Elt Ideal) ℓ) : Prop :=
  True

def Pre_BrRnnReferenceIdeal (m : (ℓ : Loc Cert.BrRnnReferenceIdeal.nD Cert.BrRnnReferenceIdeal.τ Cert.BrRnnReferenceIdeal.sig) → Buf (Elt Ideal) ℓ) : Prop :=
  True

def Pre_BrAttn (m : (ℓ : Loc Cert.BrAttn.nD Cert.BrAttn.τ Cert.BrAttn.sig) → Buf (Elt Bits) ℓ) : Prop :=
  True

def Pre_BrAttnIdeal (m : (ℓ : Loc Cert.BrAttnIdeal.nD Cert.BrAttnIdeal.τ Cert.BrAttnIdeal.sig) → Buf (Elt Ideal) ℓ) : Prop :=
  True

def Pre_BrAttnReferenceIdeal (m : (ℓ : Loc Cert.BrAttnReferenceIdeal.nD Cert.BrAttnReferenceIdeal.τ Cert.BrAttnReferenceIdeal.sig) → Buf (Elt Ideal) ℓ) : Prop :=
  True

def Pre_Cq (m : (ℓ : Loc Cert.Cq.nD Cert.Cq.τ Cert.Cq.sig) → Buf (Elt Bits) ℓ) : Prop :=
  True

def Pre_CqIdeal (m : (ℓ : Loc Cert.CqIdeal.nD Cert.CqIdeal.τ Cert.CqIdeal.sig) → Buf (Elt Ideal) ℓ) : Prop :=
  True

def Pre_CqReferenceIdeal (m : (ℓ : Loc Cert.CqReferenceIdeal.nD Cert.CqReferenceIdeal.τ Cert.CqReferenceIdeal.sig) → Buf (Elt Ideal) ℓ) : Prop :=
  True

def Pre_Ckv (m : (ℓ : Loc Cert.Ckv.nD Cert.Ckv.τ Cert.Ckv.sig) → Buf (Elt Bits) ℓ) : Prop :=
  True

def Pre_CkvIdeal (m : (ℓ : Loc Cert.CkvIdeal.nD Cert.CkvIdeal.τ Cert.CkvIdeal.sig) → Buf (Elt Ideal) ℓ) : Prop :=
  True

def Pre_CkvReferenceIdeal (m : (ℓ : Loc Cert.CkvReferenceIdeal.nD Cert.CkvReferenceIdeal.τ Cert.CkvReferenceIdeal.sig) → Buf (Elt Ideal) ℓ) : Prop :=
  True

def Pre_FfnWi (m : (ℓ : Loc Cert.FfnWi.nD Cert.FfnWi.τ Cert.FfnWi.sig) → Buf (Elt Bits) ℓ) : Prop :=
  True

def Pre_FfnWiIdeal (m : (ℓ : Loc Cert.FfnWiIdeal.nD Cert.FfnWiIdeal.τ Cert.FfnWiIdeal.sig) → Buf (Elt Ideal) ℓ) : Prop :=
  True

def Pre_FfnWiReferenceIdeal (m : (ℓ : Loc Cert.FfnWiReferenceIdeal.nD Cert.FfnWiReferenceIdeal.τ Cert.FfnWiReferenceIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2ReferenceIdeal (m : (ℓ : Loc Cert.Dh2ReferenceIdeal.nD Cert.Dh2ReferenceIdeal.τ Cert.Dh2ReferenceIdeal.sig) → Buf (Elt Ideal) ℓ) : Prop :=
  True

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoReferenceIdeal (m : (ℓ : Loc Cert.DoReferenceIdeal.nD Cert.DoReferenceIdeal.τ Cert.DoReferenceIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1ReferenceIdeal (m : (ℓ : Loc Cert.Dh1ReferenceIdeal.nD Cert.Dh1ReferenceIdeal.τ Cert.Dh1ReferenceIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedReferenceIdeal (m : (ℓ : Loc Cert.DmergedReferenceIdeal.nD Cert.DmergedReferenceIdeal.τ Cert.DmergedReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_DFfnWo (m : (ℓ : Loc Cert.DFfnWo.nD Cert.DFfnWo.τ Cert.DFfnWo.sig) → Buf (Elt Bits) ℓ) : Prop :=
  True

def Pre_DFfnWoIdeal (m : (ℓ : Loc Cert.DFfnWoIdeal.nD Cert.DFfnWoIdeal.τ Cert.DFfnWoIdeal.sig) → Buf (Elt Ideal) ℓ) : Prop :=
  True

def Pre_DFfnWoReferenceIdeal (m : (ℓ : Loc Cert.DFfnWoReferenceIdeal.nD Cert.DFfnWoReferenceIdeal.τ Cert.DFfnWoReferenceIdeal.sig) → Buf (Elt Ideal) ℓ) : Prop :=
  True

def Pre_DFfnWi (m : (ℓ : Loc Cert.DFfnWi.nD Cert.DFfnWi.τ Cert.DFfnWi.sig) → Buf (Elt Bits) ℓ) : Prop :=
  True

def Pre_DFfnWiIdeal (m : (ℓ : Loc Cert.DFfnWiIdeal.nD Cert.DFfnWiIdeal.τ Cert.DFfnWiIdeal.sig) → Buf (Elt Ideal) ℓ) : Prop :=
  True

def Pre_DFfnWiReferenceIdeal (m : (ℓ : Loc Cert.DFfnWiReferenceIdeal.nD Cert.DFfnWiReferenceIdeal.τ Cert.DFfnWiReferenceIdeal.sig) → Buf (Elt Ideal) ℓ) : Prop :=
  True

def Pre_Dco (m : (ℓ : Loc Cert.Dco.nD Cert.Dco.τ Cert.Dco.sig) → Buf (Elt Bits) ℓ) : Prop :=
  True

def Pre_DcoIdeal (m : (ℓ : Loc Cert.DcoIdeal.nD Cert.DcoIdeal.τ Cert.DcoIdeal.sig) → Buf (Elt Ideal) ℓ) : Prop :=
  True

def Pre_DcoReferenceIdeal (m : (ℓ : Loc Cert.DcoReferenceIdeal.nD Cert.DcoReferenceIdeal.τ Cert.DcoReferenceIdeal.sig) → Buf (Elt Ideal) ℓ) : Prop :=
  True

def Pre_Dcq (m : (ℓ : Loc Cert.Dcq.nD Cert.Dcq.τ Cert.Dcq.sig) → Buf (Elt Bits) ℓ) : Prop :=
  True

def Pre_DcqIdeal (m : (ℓ : Loc Cert.DcqIdeal.nD Cert.DcqIdeal.τ Cert.DcqIdeal.sig) → Buf (Elt Ideal) ℓ) : Prop :=
  True

def Pre_DcqReferenceIdeal (m : (ℓ : Loc Cert.DcqReferenceIdeal.nD Cert.DcqReferenceIdeal.τ Cert.DcqReferenceIdeal.sig) → Buf (Elt Ideal) ℓ) : Prop :=
  True

def Pre_Dckv (m : (ℓ : Loc Cert.Dckv.nD Cert.Dckv.τ Cert.Dckv.sig) → Buf (Elt Bits) ℓ) : Prop :=
  True

def Pre_DckvIdeal (m : (ℓ : Loc Cert.DckvIdeal.nD Cert.DckvIdeal.τ Cert.DckvIdeal.sig) → Buf (Elt Ideal) ℓ) : Prop :=
  True

def Pre_DckvReferenceIdeal (m : (ℓ : Loc Cert.DckvReferenceIdeal.nD Cert.DckvReferenceIdeal.τ Cert.DckvReferenceIdeal.sig) → Buf (Elt Ideal) ℓ) : Prop :=
  True

def Pre_DbrRnn (m : (ℓ : Loc Cert.DbrRnn.nD Cert.DbrRnn.τ Cert.DbrRnn.sig) → Buf (Elt Bits) ℓ) : Prop :=
  True

def Pre_DbrRnnIdeal (m : (ℓ : Loc Cert.DbrRnnIdeal.nD Cert.DbrRnnIdeal.τ Cert.DbrRnnIdeal.sig) → Buf (Elt Ideal) ℓ) : Prop :=
  True

def Pre_DbrRnnReferenceIdeal (m : (ℓ : Loc Cert.DbrRnnReferenceIdeal.nD Cert.DbrRnnReferenceIdeal.τ Cert.DbrRnnReferenceIdeal.sig) → Buf (Elt Ideal) ℓ) : Prop :=
  True

def Pre_DIn (m : (ℓ : Loc Cert.DIn.nD Cert.DIn.τ Cert.DIn.sig) → Buf (Elt Bits) ℓ) : Prop :=
  True

def Pre_DInIdeal (m : (ℓ : Loc Cert.DInIdeal.nD Cert.DInIdeal.τ Cert.DInIdeal.sig) → Buf (Elt Ideal) ℓ) : Prop :=
  True

def Pre_DInReferenceIdeal (m : (ℓ : Loc Cert.DInReferenceIdeal.nD Cert.DInReferenceIdeal.τ Cert.DInReferenceIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBReferenceIdeal (m : (ℓ : Loc Cert.MergeBReferenceIdeal.nD Cert.MergeBReferenceIdeal.τ Cert.MergeBReferenceIdeal.sig) → Buf (Elt Ideal) ℓ) : Prop :=
  True

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFReferenceIdeal (m : (ℓ : Loc Cert.MergeFReferenceIdeal.nD Cert.MergeFReferenceIdeal.τ Cert.MergeFReferenceIdeal.sig) → Buf (Elt Ideal) ℓ) : Prop :=
  True

def Pre_SwigluB (m : (ℓ : Loc Cert.SwigluB.nD Cert.SwigluB.τ Cert.SwigluB.sig) → Buf (Elt Bits) ℓ) : Prop :=
  True

def Pre_SwigluBIdeal (m : (ℓ : Loc Cert.SwigluBIdeal.nD Cert.SwigluBIdeal.τ Cert.SwigluBIdeal.sig) → Buf (Elt Ideal) ℓ) : Prop :=
  True

def Pre_SwigluBIdeal_swiglu_bwd_finite [hPre_swiglu_bwd_finite : Cert.Pre_swiglu_bwd_finite.Facts] (m : (ℓ : Loc Cert.SwigluBIdeal.nD Cert.SwigluBIdeal.τ Cert.SwigluBIdeal.sig) → Buf (Elt Ideal) ℓ) : Prop :=
  ∀ c : Dev Cert.SwigluBIdeal.nD,
    (Cert.Pre_swiglu_bwd_finite.fn (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1))) = (fun _ => 1#1)

def Pre_SwigluBReferenceIdeal (m : (ℓ : Loc Cert.SwigluBReferenceIdeal.nD Cert.SwigluBReferenceIdeal.τ Cert.SwigluBReferenceIdeal.sig) → Buf (Elt Ideal) ℓ) : Prop :=
  True

def Pre_SwigluBReferenceIdeal_swiglu_bwd_finite [hPre_swiglu_bwd_finite : Cert.Pre_swiglu_bwd_finite.Facts] (m : (ℓ : Loc Cert.SwigluBReferenceIdeal.nD Cert.SwigluBReferenceIdeal.τ Cert.SwigluBReferenceIdeal.sig) → Buf (Elt Ideal) ℓ) : Prop :=
  ∀ c : Dev Cert.SwigluBReferenceIdeal.nD,
    (Cert.Pre_swiglu_bwd_finite.fn (F := Ideal) (m ((c.tc : Thread Cert.SwigluBReferenceIdeal.nD Cert.SwigluBReferenceIdeal.τ).loc Cert.SwigluBReferenceIdeal.main_arg0)) (m ((c.tc : Thread Cert.SwigluBReferenceIdeal.nD Cert.SwigluBReferenceIdeal.τ).loc Cert.SwigluBReferenceIdeal.main_arg1))) = (fun _ => 1#1)

def Pre_SwigluF (m : (ℓ : Loc Cert.SwigluF.nD Cert.SwigluF.τ Cert.SwigluF.sig) → Buf (Elt Bits) ℓ) : Prop :=
  True

def Pre_SwigluFIdeal (m : (ℓ : Loc Cert.SwigluFIdeal.nD Cert.SwigluFIdeal.τ Cert.SwigluFIdeal.sig) → Buf (Elt Ideal) ℓ) : Prop :=
  True

def Pre_SwigluFReferenceIdeal (m : (ℓ : Loc Cert.SwigluFReferenceIdeal.nD Cert.SwigluFReferenceIdeal.τ Cert.SwigluFReferenceIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecReferenceIdeal (m : (ℓ : Loc Cert.AdamVecReferenceIdeal.nD Cert.AdamVecReferenceIdeal.τ Cert.AdamVecReferenceIdeal.sig) → Buf (Elt Ideal) ℓ) : Prop :=
  True

def Pre_AdamSinks (m : (ℓ : Loc Cert.AdamSinks.nD Cert.AdamSinks.τ Cert.AdamSinks.sig) → Buf (Elt Bits) ℓ) : Prop :=
  True

def Pre_AdamSinksIdeal (m : (ℓ : Loc Cert.AdamSinksIdeal.nD Cert.AdamSinksIdeal.τ Cert.AdamSinksIdeal.sig) → Buf (Elt Ideal) ℓ) : Prop :=
  True

def Pre_AdamSinksReferenceIdeal (m : (ℓ : Loc Cert.AdamSinksReferenceIdeal.nD Cert.AdamSinksReferenceIdeal.τ Cert.AdamSinksReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamInUp (m : (ℓ : Loc Cert.AdamInUp.nD Cert.AdamInUp.τ Cert.AdamInUp.sig) → Buf (Elt Bits) ℓ) : Prop :=
  True

def Pre_AdamInUpIdeal (m : (ℓ : Loc Cert.AdamInUpIdeal.nD Cert.AdamInUpIdeal.τ Cert.AdamInUpIdeal.sig) → Buf (Elt Ideal) ℓ) : Prop :=
  True

def Pre_AdamInUpReferenceIdeal (m : (ℓ : Loc Cert.AdamInUpReferenceIdeal.nD Cert.AdamInUpReferenceIdeal.τ Cert.AdamInUpReferenceIdeal.sig) → Buf (Elt Ideal) ℓ) : Prop :=
  True

def Pre_AdamInLow (m : (ℓ : Loc Cert.AdamInLow.nD Cert.AdamInLow.τ Cert.AdamInLow.sig) → Buf (Elt Bits) ℓ) : Prop :=
  True

def Pre_AdamInLowIdeal (m : (ℓ : Loc Cert.AdamInLowIdeal.nD Cert.AdamInLowIdeal.τ Cert.AdamInLowIdeal.sig) → Buf (Elt Ideal) ℓ) : Prop :=
  True

def Pre_AdamInLowReferenceIdeal (m : (ℓ : Loc Cert.AdamInLowReferenceIdeal.nD Cert.AdamInLowReferenceIdeal.τ Cert.AdamInLowReferenceIdeal.sig) → Buf (Elt Ideal) ℓ) : Prop :=
  True

def Pre_AdamRgUp (m : (ℓ : Loc Cert.AdamRgUp.nD Cert.AdamRgUp.τ Cert.AdamRgUp.sig) → Buf (Elt Bits) ℓ) : Prop :=
  True

def Pre_AdamRgUpIdeal (m : (ℓ : Loc Cert.AdamRgUpIdeal.nD Cert.AdamRgUpIdeal.τ Cert.AdamRgUpIdeal.sig) → Buf (Elt Ideal) ℓ) : Prop :=
  True

def Pre_AdamRgUpReferenceIdeal (m : (ℓ : Loc Cert.AdamRgUpReferenceIdeal.nD Cert.AdamRgUpReferenceIdeal.τ Cert.AdamRgUpReferenceIdeal.sig) → Buf (Elt Ideal) ℓ) : Prop :=
  True

def Pre_AdamRgLow (m : (ℓ : Loc Cert.AdamRgLow.nD Cert.AdamRgLow.τ Cert.AdamRgLow.sig) → Buf (Elt Bits) ℓ) : Prop :=
  True

def Pre_AdamRgLowIdeal (m : (ℓ : Loc Cert.AdamRgLowIdeal.nD Cert.AdamRgLowIdeal.τ Cert.AdamRgLowIdeal.sig) → Buf (Elt Ideal) ℓ) : Prop :=
  True

def Pre_AdamRgLowReferenceIdeal (m : (ℓ : Loc Cert.AdamRgLowReferenceIdeal.nD Cert.AdamRgLowReferenceIdeal.τ Cert.AdamRgLowReferenceIdeal.sig) → Buf (Elt Ideal) ℓ) : Prop :=
  True

def Pre_AdamOutUp (m : (ℓ : Loc Cert.AdamOutUp.nD Cert.AdamOutUp.τ Cert.AdamOutUp.sig) → Buf (Elt Bits) ℓ) : Prop :=
  True

def Pre_AdamOutUpIdeal (m : (ℓ : Loc Cert.AdamOutUpIdeal.nD Cert.AdamOutUpIdeal.τ Cert.AdamOutUpIdeal.sig) → Buf (Elt Ideal) ℓ) : Prop :=
  True

def Pre_AdamOutUpReferenceIdeal (m : (ℓ : Loc Cert.AdamOutUpReferenceIdeal.nD Cert.AdamOutUpReferenceIdeal.τ Cert.AdamOutUpReferenceIdeal.sig) → Buf (Elt Ideal) ℓ) : Prop :=
  True

def Pre_AdamOutLow (m : (ℓ : Loc Cert.AdamOutLow.nD Cert.AdamOutLow.τ Cert.AdamOutLow.sig) → Buf (Elt Bits) ℓ) : Prop :=
  True

def Pre_AdamOutLowIdeal (m : (ℓ : Loc Cert.AdamOutLowIdeal.nD Cert.AdamOutLowIdeal.τ Cert.AdamOutLowIdeal.sig) → Buf (Elt Ideal) ℓ) : Prop :=
  True

def Pre_AdamOutLowReferenceIdeal (m : (ℓ : Loc Cert.AdamOutLowReferenceIdeal.nD Cert.AdamOutLowReferenceIdeal.τ Cert.AdamOutLowReferenceIdeal.sig) → Buf (Elt Ideal) ℓ) : Prop :=
  True

def Pre_AdamCkvUp (m : (ℓ : Loc Cert.AdamCkvUp.nD Cert.AdamCkvUp.τ Cert.AdamCkvUp.sig) → Buf (Elt Bits) ℓ) : Prop :=
  True

def Pre_AdamCkvUpIdeal (m : (ℓ : Loc Cert.AdamCkvUpIdeal.nD Cert.AdamCkvUpIdeal.τ Cert.AdamCkvUpIdeal.sig) → Buf (Elt Ideal) ℓ) : Prop :=
  True

def Pre_AdamCkvUpReferenceIdeal (m : (ℓ : Loc Cert.AdamCkvUpReferenceIdeal.nD Cert.AdamCkvUpReferenceIdeal.τ Cert.AdamCkvUpReferenceIdeal.sig) → Buf (Elt Ideal) ℓ) : Prop :=
  True

def Pre_AdamCkvLow (m : (ℓ : Loc Cert.AdamCkvLow.nD Cert.AdamCkvLow.τ Cert.AdamCkvLow.sig) → Buf (Elt Bits) ℓ) : Prop :=
  True

def Pre_AdamCkvLowIdeal (m : (ℓ : Loc Cert.AdamCkvLowIdeal.nD Cert.AdamCkvLowIdeal.τ Cert.AdamCkvLowIdeal.sig) → Buf (Elt Ideal) ℓ) : Prop :=
  True

def Pre_AdamCkvLowReferenceIdeal (m : (ℓ : Loc Cert.AdamCkvLowReferenceIdeal.nD Cert.AdamCkvLowReferenceIdeal.τ Cert.AdamCkvLowReferenceIdeal.sig) → Buf (Elt Ideal) ℓ) : Prop :=
  True

def Pre_AdamWiUp (m : (ℓ : Loc Cert.AdamWiUp.nD Cert.AdamWiUp.τ Cert.AdamWiUp.sig) → Buf (Elt Bits) ℓ) : Prop :=
  True

def Pre_AdamWiUpIdeal (m : (ℓ : Loc Cert.AdamWiUpIdeal.nD Cert.AdamWiUpIdeal.τ Cert.AdamWiUpIdeal.sig) → Buf (Elt Ideal) ℓ) : Prop :=
  True

def Pre_AdamWiUpReferenceIdeal (m : (ℓ : Loc Cert.AdamWiUpReferenceIdeal.nD Cert.AdamWiUpReferenceIdeal.τ Cert.AdamWiUpReferenceIdeal.sig) → Buf (Elt Ideal) ℓ) : Prop :=
  True

def Pre_AdamWiLow (m : (ℓ : Loc Cert.AdamWiLow.nD Cert.AdamWiLow.τ Cert.AdamWiLow.sig) → Buf (Elt Bits) ℓ) : Prop :=
  True

def Pre_AdamWiLowIdeal (m : (ℓ : Loc Cert.AdamWiLowIdeal.nD Cert.AdamWiLowIdeal.τ Cert.AdamWiLowIdeal.sig) → Buf (Elt Ideal) ℓ) : Prop :=
  True

def Pre_AdamWiLowReferenceIdeal (m : (ℓ : Loc Cert.AdamWiLowReferenceIdeal.nD Cert.AdamWiLowReferenceIdeal.τ Cert.AdamWiLowReferenceIdeal.sig) → Buf (Elt Ideal) ℓ) : Prop :=
  True

def Pre_AdamWoUp (m : (ℓ : Loc Cert.AdamWoUp.nD Cert.AdamWoUp.τ Cert.AdamWoUp.sig) → Buf (Elt Bits) ℓ) : Prop :=
  True

def Pre_AdamWoUpIdeal (m : (ℓ : Loc Cert.AdamWoUpIdeal.nD Cert.AdamWoUpIdeal.τ Cert.AdamWoUpIdeal.sig) → Buf (Elt Ideal) ℓ) : Prop :=
  True

def Pre_AdamWoUpReferenceIdeal (m : (ℓ : Loc Cert.AdamWoUpReferenceIdeal.nD Cert.AdamWoUpReferenceIdeal.τ Cert.AdamWoUpReferenceIdeal.sig) → Buf (Elt Ideal) ℓ) : Prop :=
  True

def Pre_AdamWoLow (m : (ℓ : Loc Cert.AdamWoLow.nD Cert.AdamWoLow.τ Cert.AdamWoLow.sig) → Buf (Elt Bits) ℓ) : Prop :=
  True

def Pre_AdamWoLowIdeal (m : (ℓ : Loc Cert.AdamWoLowIdeal.nD Cert.AdamWoLowIdeal.τ Cert.AdamWoLowIdeal.sig) → Buf (Elt Ideal) ℓ) : Prop :=
  True

def Pre_AdamWoLowReferenceIdeal (m : (ℓ : Loc Cert.AdamWoLowReferenceIdeal.nD Cert.AdamWoLowReferenceIdeal.τ Cert.AdamWoLowReferenceIdeal.sig) → Buf (Elt Ideal) ℓ) : Prop :=
  True

def Pre_CrossF (m : (ℓ : Loc Cert.CrossF.nD Cert.CrossF.τ Cert.CrossF.sig) → Buf (Elt Bits) ℓ) : Prop :=
  True

def Pre_CrossFIdeal (m : (ℓ : Loc Cert.CrossFIdeal.nD Cert.CrossFIdeal.τ Cert.CrossFIdeal.sig) → Buf (Elt Ideal) ℓ) : Prop :=
  True

def Pre_CrossFReferenceIdeal (m : (ℓ : Loc Cert.CrossFReferenceIdeal.nD Cert.CrossFReferenceIdeal.τ Cert.CrossFReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_CrossB (m : (ℓ : Loc Cert.CrossB.nD Cert.CrossB.τ Cert.CrossB.sig) → Buf (Elt Bits) ℓ) : Prop :=
  True

def Pre_CrossBIdeal (m : (ℓ : Loc Cert.CrossBIdeal.nD Cert.CrossBIdeal.τ Cert.CrossBIdeal.sig) → Buf (Elt Ideal) ℓ) : Prop :=
  True

def Pre_CrossBIdeal_cross_bwd_finite [hPre_cross_bwd_finite : Cert.Pre_cross_bwd_finite.Facts] (m : (ℓ : Loc Cert.CrossBIdeal.nD Cert.CrossBIdeal.τ Cert.CrossBIdeal.sig) → Buf (Elt Ideal) ℓ) : Prop :=
  ∀ c : Dev Cert.CrossBIdeal.nD,
    (Cert.Pre_cross_bwd_finite.fn (F := Ideal) (m ((c.tc : Thread Cert.CrossBIdeal.nD Cert.CrossBIdeal.τ).loc Cert.CrossBIdeal.main_arg0)) (m ((c.tc : Thread Cert.CrossBIdeal.nD Cert.CrossBIdeal.τ).loc Cert.CrossBIdeal.main_arg1)) (m ((c.tc : Thread Cert.CrossBIdeal.nD Cert.CrossBIdeal.τ).loc Cert.CrossBIdeal.main_arg2))) = (fun _ => 1#1)

def Pre_CrossBReferenceIdeal (m : (ℓ : Loc Cert.CrossBReferenceIdeal.nD Cert.CrossBReferenceIdeal.τ Cert.CrossBReferenceIdeal.sig) → Buf (Elt Ideal) ℓ) : Prop :=
  True

def Pre_CrossBReferenceIdeal_cross_bwd_finite [hPre_cross_bwd_finite : Cert.Pre_cross_bwd_finite.Facts] (m : (ℓ : Loc Cert.CrossBReferenceIdeal.nD Cert.CrossBReferenceIdeal.τ Cert.CrossBReferenceIdeal.sig) → Buf (Elt Ideal) ℓ) : Prop :=
  ∀ c : Dev Cert.CrossBReferenceIdeal.nD,
    (Cert.Pre_cross_bwd_finite.fn (F := Ideal) (m ((c.tc : Thread Cert.CrossBReferenceIdeal.nD Cert.CrossBReferenceIdeal.τ).loc Cert.CrossBReferenceIdeal.main_arg0)) (m ((c.tc : Thread Cert.CrossBReferenceIdeal.nD Cert.CrossBReferenceIdeal.τ).loc Cert.CrossBReferenceIdeal.main_arg1)) (m ((c.tc : Thread Cert.CrossBReferenceIdeal.nD Cert.CrossBReferenceIdeal.τ).loc Cert.CrossBReferenceIdeal.main_arg2))) = (fun _ => 1#1)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_BrRnn [hBrRnn : Cert.BrRnn.Facts] : Prop :=
  ∀ (m : (ℓ : Loc Cert.BrRnn.nD Cert.BrRnn.τ Cert.BrRnn.sig) → Buf (Elt Bits) ℓ) (g : Dev Cert.BrRnn.nD → PrngReg), Pre_BrRnn m →
    θ_run (Cert.BrRnn.defs (F := Bits)) (onTc (τ := Cert.BrRnn.τ) (Cert.BrRnn.main (F := Bits))) ⟨m, fun _ => 0, g⟩ (fun r => (∀ c : Dev Cert.BrRnn.nD,
      r.2.mem ((c.tc : Thread Cert.BrRnn.nD Cert.BrRnn.τ).loc Cert.BrRnn.main_arg0) = m ((c.tc : Thread Cert.BrRnn.nD Cert.BrRnn.τ).loc Cert.BrRnn.main_arg0)
      ∧ r.2.mem ((c.tc : Thread Cert.BrRnn.nD Cert.BrRnn.τ).loc Cert.BrRnn.main_arg1) = m ((c.tc : Thread Cert.BrRnn.nD Cert.BrRnn.τ).loc Cert.BrRnn.main_arg1))
      ∧ r.2.sem = fun _ => 0)

def quiescent_BrRnnIdeal [hBrRnnIdeal : Cert.BrRnnIdeal.Facts] : Prop :=
  ∀ (m : (ℓ : Loc Cert.BrRnnIdeal.nD Cert.BrRnnIdeal.τ Cert.BrRnnIdeal.sig) → Buf (Elt Ideal) ℓ) (g : Dev Cert.BrRnnIdeal.nD → PrngReg), Pre_BrRnnIdeal m →
    θ_run (Cert.BrRnnIdeal.defs (F := Ideal)) (onTc (τ := Cert.BrRnnIdeal.τ) (Cert.BrRnnIdeal.main (F := Ideal))) ⟨m, fun _ => 0, g⟩ (fun r => (∀ c : Dev Cert.BrRnnIdeal.nD,
      r.2.mem ((c.tc : Thread Cert.BrRnnIdeal.nD Cert.BrRnnIdeal.τ).loc Cert.BrRnnIdeal.main_arg0) = m ((c.tc : Thread Cert.BrRnnIdeal.nD Cert.BrRnnIdeal.τ).loc Cert.BrRnnIdeal.main_arg0)
      ∧ r.2.mem ((c.tc : Thread Cert.BrRnnIdeal.nD Cert.BrRnnIdeal.τ).loc Cert.BrRnnIdeal.main_arg1) = m ((c.tc : Thread Cert.BrRnnIdeal.nD Cert.BrRnnIdeal.τ).loc Cert.BrRnnIdeal.main_arg1))
      ∧ r.2.sem = fun _ => 0)

def quiescent_BrRnnReferenceIdeal [hBrRnnReferenceIdeal : Cert.BrRnnReferenceIdeal.Facts] : Prop :=
  ∀ (m : (ℓ : Loc Cert.BrRnnReferenceIdeal.nD Cert.BrRnnReferenceIdeal.τ Cert.BrRnnReferenceIdeal.sig) → Buf (Elt Ideal) ℓ) (g : Dev Cert.BrRnnReferenceIdeal.nD → PrngReg), Pre_BrRnnReferenceIdeal m →
    θ_run (Cert.BrRnnReferenceIdeal.defs (F := Ideal)) (onTc (τ := Cert.BrRnnReferenceIdeal.τ) (Cert.BrRnnReferenceIdeal.main (F := Ideal))) ⟨m, fun _ => 0, g⟩ (fun r => (∀ c : Dev Cert.BrRnnReferenceIdeal.nD,
      r.2.mem ((c.tc : Thread Cert.BrRnnReferenceIdeal.nD Cert.BrRnnReferenceIdeal.τ).loc Cert.BrRnnReferenceIdeal.main_arg0) = m ((c.tc : Thread Cert.BrRnnReferenceIdeal.nD Cert.BrRnnReferenceIdeal.τ).loc Cert.BrRnnReferenceIdeal.main_arg0)
      ∧ r.2.mem ((c.tc : Thread Cert.BrRnnReferenceIdeal.nD Cert.BrRnnReferenceIdeal.τ).loc Cert.BrRnnReferenceIdeal.main_arg1) = m ((c.tc : Thread Cert.BrRnnReferenceIdeal.nD Cert.BrRnnReferenceIdeal.τ).loc Cert.BrRnnReferenceIdeal.main_arg1))
      ∧ r.2.sem = fun _ => 0)

def quiescent_BrAttn [hBrAttn : Cert.BrAttn.Facts] : Prop :=
  ∀ (m : (ℓ : Loc Cert.BrAttn.nD Cert.BrAttn.τ Cert.BrAttn.sig) → Buf (Elt Bits) ℓ) (g : Dev Cert.BrAttn.nD → PrngReg), Pre_BrAttn m →
    θ_run (Cert.BrAttn.defs (F := Bits)) (onTc (τ := Cert.BrAttn.τ) (Cert.BrAttn.main (F := Bits))) ⟨m, fun _ => 0, g⟩ (fun r => (∀ c : Dev Cert.BrAttn.nD,
      r.2.mem ((c.tc : Thread Cert.BrAttn.nD Cert.BrAttn.τ).loc Cert.BrAttn.main_arg0) = m ((c.tc : Thread Cert.BrAttn.nD Cert.BrAttn.τ).loc Cert.BrAttn.main_arg0)
      ∧ r.2.mem ((c.tc : Thread Cert.BrAttn.nD Cert.BrAttn.τ).loc Cert.BrAttn.main_arg1) = m ((c.tc : Thread Cert.BrAttn.nD Cert.BrAttn.τ).loc Cert.BrAttn.main_arg1))
      ∧ r.2.sem = fun _ => 0)

def quiescent_BrAttnIdeal [hBrAttnIdeal : Cert.BrAttnIdeal.Facts] : Prop :=
  ∀ (m : (ℓ : Loc Cert.BrAttnIdeal.nD Cert.BrAttnIdeal.τ Cert.BrAttnIdeal.sig) → Buf (Elt Ideal) ℓ) (g : Dev Cert.BrAttnIdeal.nD → PrngReg), Pre_BrAttnIdeal m →
    θ_run (Cert.BrAttnIdeal.defs (F := Ideal)) (onTc (τ := Cert.BrAttnIdeal.τ) (Cert.BrAttnIdeal.main (F := Ideal))) ⟨m, fun _ => 0, g⟩ (fun r => (∀ c : Dev Cert.BrAttnIdeal.nD,
      r.2.mem ((c.tc : Thread Cert.BrAttnIdeal.nD Cert.BrAttnIdeal.τ).loc Cert.BrAttnIdeal.main_arg0) = m ((c.tc : Thread Cert.BrAttnIdeal.nD Cert.BrAttnIdeal.τ).loc Cert.BrAttnIdeal.main_arg0)
      ∧ r.2.mem ((c.tc : Thread Cert.BrAttnIdeal.nD Cert.BrAttnIdeal.τ).loc Cert.BrAttnIdeal.main_arg1) = m ((c.tc : Thread Cert.BrAttnIdeal.nD Cert.BrAttnIdeal.τ).loc Cert.BrAttnIdeal.main_arg1))
      ∧ r.2.sem = fun _ => 0)

def quiescent_BrAttnReferenceIdeal [hBrAttnReferenceIdeal : Cert.BrAttnReferenceIdeal.Facts] : Prop :=
  ∀ (m : (ℓ : Loc Cert.BrAttnReferenceIdeal.nD Cert.BrAttnReferenceIdeal.τ Cert.BrAttnReferenceIdeal.sig) → Buf (Elt Ideal) ℓ) (g : Dev Cert.BrAttnReferenceIdeal.nD → PrngReg), Pre_BrAttnReferenceIdeal m →
    θ_run (Cert.BrAttnReferenceIdeal.defs (F := Ideal)) (onTc (τ := Cert.BrAttnReferenceIdeal.τ) (Cert.BrAttnReferenceIdeal.main (F := Ideal))) ⟨m, fun _ => 0, g⟩ (fun r => (∀ c : Dev Cert.BrAttnReferenceIdeal.nD,
      r.2.mem ((c.tc : Thread Cert.BrAttnReferenceIdeal.nD Cert.BrAttnReferenceIdeal.τ).loc Cert.BrAttnReferenceIdeal.main_arg0) = m ((c.tc : Thread Cert.BrAttnReferenceIdeal.nD Cert.BrAttnReferenceIdeal.τ).loc Cert.BrAttnReferenceIdeal.main_arg0)
      ∧ r.2.mem ((c.tc : Thread Cert.BrAttnReferenceIdeal.nD Cert.BrAttnReferenceIdeal.τ).loc Cert.BrAttnReferenceIdeal.main_arg1) = m ((c.tc : Thread Cert.BrAttnReferenceIdeal.nD Cert.BrAttnReferenceIdeal.τ).loc Cert.BrAttnReferenceIdeal.main_arg1))
      ∧ r.2.sem = fun _ => 0)

def quiescent_Cq [hCq : Cert.Cq.Facts] : Prop :=
  ∀ (m : (ℓ : Loc Cert.Cq.nD Cert.Cq.τ Cert.Cq.sig) → Buf (Elt Bits) ℓ) (g : Dev Cert.Cq.nD → PrngReg), Pre_Cq m →
    θ_run (Cert.Cq.defs (F := Bits)) (onTc (τ := Cert.Cq.τ) (Cert.Cq.main (F := Bits))) ⟨m, fun _ => 0, g⟩ (fun r => (∀ c : Dev Cert.Cq.nD,
      r.2.mem ((c.tc : Thread Cert.Cq.nD Cert.Cq.τ).loc Cert.Cq.main_arg0) = m ((c.tc : Thread Cert.Cq.nD Cert.Cq.τ).loc Cert.Cq.main_arg0)
      ∧ r.2.mem ((c.tc : Thread Cert.Cq.nD Cert.Cq.τ).loc Cert.Cq.main_arg1) = m ((c.tc : Thread Cert.Cq.nD Cert.Cq.τ).loc Cert.Cq.main_arg1))
      ∧ r.2.sem = fun _ => 0)

def quiescent_CqIdeal [hCqIdeal : Cert.CqIdeal.Facts] : Prop :=
  ∀ (m : (ℓ : Loc Cert.CqIdeal.nD Cert.CqIdeal.τ Cert.CqIdeal.sig) → Buf (Elt Ideal) ℓ) (g : Dev Cert.CqIdeal.nD → PrngReg), Pre_CqIdeal m →
    θ_run (Cert.CqIdeal.defs (F := Ideal)) (onTc (τ := Cert.CqIdeal.τ) (Cert.CqIdeal.main (F := Ideal))) ⟨m, fun _ => 0, g⟩ (fun r => (∀ c : Dev Cert.CqIdeal.nD,
      r.2.mem ((c.tc : Thread Cert.CqIdeal.nD Cert.CqIdeal.τ).loc Cert.CqIdeal.main_arg0) = m ((c.tc : Thread Cert.CqIdeal.nD Cert.CqIdeal.τ).loc Cert.CqIdeal.main_arg0)
      ∧ r.2.mem ((c.tc : Thread Cert.CqIdeal.nD Cert.CqIdeal.τ).loc Cert.CqIdeal.main_arg1) = m ((c.tc : Thread Cert.CqIdeal.nD Cert.CqIdeal.τ).loc Cert.CqIdeal.main_arg1))
      ∧ r.2.sem = fun _ => 0)

def quiescent_CqReferenceIdeal [hCqReferenceIdeal : Cert.CqReferenceIdeal.Facts] : Prop :=
  ∀ (m : (ℓ : Loc Cert.CqReferenceIdeal.nD Cert.CqReferenceIdeal.τ Cert.CqReferenceIdeal.sig) → Buf (Elt Ideal) ℓ) (g : Dev Cert.CqReferenceIdeal.nD → PrngReg), Pre_CqReferenceIdeal m →
    θ_run (Cert.CqReferenceIdeal.defs (F := Ideal)) (onTc (τ := Cert.CqReferenceIdeal.τ) (Cert.CqReferenceIdeal.main (F := Ideal))) ⟨m, fun _ => 0, g⟩ (fun r => (∀ c : Dev Cert.CqReferenceIdeal.nD,
      r.2.mem ((c.tc : Thread Cert.CqReferenceIdeal.nD Cert.CqReferenceIdeal.τ).loc Cert.CqReferenceIdeal.main_arg0) = m ((c.tc : Thread Cert.CqReferenceIdeal.nD Cert.CqReferenceIdeal.τ).loc Cert.CqReferenceIdeal.main_arg0)
      ∧ r.2.mem ((c.tc : Thread Cert.CqReferenceIdeal.nD Cert.CqReferenceIdeal.τ).loc Cert.CqReferenceIdeal.main_arg1) = m ((c.tc : Thread Cert.CqReferenceIdeal.nD Cert.CqReferenceIdeal.τ).loc Cert.CqReferenceIdeal.main_arg1))
      ∧ r.2.sem = fun _ => 0)

def quiescent_Ckv [hCkv : Cert.Ckv.Facts] : Prop :=
  ∀ (m : (ℓ : Loc Cert.Ckv.nD Cert.Ckv.τ Cert.Ckv.sig) → Buf (Elt Bits) ℓ) (g : Dev Cert.Ckv.nD → PrngReg), Pre_Ckv m →
    θ_run (Cert.Ckv.defs (F := Bits)) (onTc (τ := Cert.Ckv.τ) (Cert.Ckv.main (F := Bits))) ⟨m, fun _ => 0, g⟩ (fun r => (∀ c : Dev Cert.Ckv.nD,
      r.2.mem ((c.tc : Thread Cert.Ckv.nD Cert.Ckv.τ).loc Cert.Ckv.main_arg0) = m ((c.tc : Thread Cert.Ckv.nD Cert.Ckv.τ).loc Cert.Ckv.main_arg0)
      ∧ r.2.mem ((c.tc : Thread Cert.Ckv.nD Cert.Ckv.τ).loc Cert.Ckv.main_arg1) = m ((c.tc : Thread Cert.Ckv.nD Cert.Ckv.τ).loc Cert.Ckv.main_arg1))
      ∧ r.2.sem = fun _ => 0)

def quiescent_CkvIdeal [hCkvIdeal : Cert.CkvIdeal.Facts] : Prop :=
  ∀ (m : (ℓ : Loc Cert.CkvIdeal.nD Cert.CkvIdeal.τ Cert.CkvIdeal.sig) → Buf (Elt Ideal) ℓ) (g : Dev Cert.CkvIdeal.nD → PrngReg), Pre_CkvIdeal m →
    θ_run (Cert.CkvIdeal.defs (F := Ideal)) (onTc (τ := Cert.CkvIdeal.τ) (Cert.CkvIdeal.main (F := Ideal))) ⟨m, fun _ => 0, g⟩ (fun r => (∀ c : Dev Cert.CkvIdeal.nD,
      r.2.mem ((c.tc : Thread Cert.CkvIdeal.nD Cert.CkvIdeal.τ).loc Cert.CkvIdeal.main_arg0) = m ((c.tc : Thread Cert.CkvIdeal.nD Cert.CkvIdeal.τ).loc Cert.CkvIdeal.main_arg0)
      ∧ r.2.mem ((c.tc : Thread Cert.CkvIdeal.nD Cert.CkvIdeal.τ).loc Cert.CkvIdeal.main_arg1) = m ((c.tc : Thread Cert.CkvIdeal.nD Cert.CkvIdeal.τ).loc Cert.CkvIdeal.main_arg1))
      ∧ r.2.sem = fun _ => 0)

def quiescent_CkvReferenceIdeal [hCkvReferenceIdeal : Cert.CkvReferenceIdeal.Facts] : Prop :=
  ∀ (m : (ℓ : Loc Cert.CkvReferenceIdeal.nD Cert.CkvReferenceIdeal.τ Cert.CkvReferenceIdeal.sig) → Buf (Elt Ideal) ℓ) (g : Dev Cert.CkvReferenceIdeal.nD → PrngReg), Pre_CkvReferenceIdeal m →
    θ_run (Cert.CkvReferenceIdeal.defs (F := Ideal)) (onTc (τ := Cert.CkvReferenceIdeal.τ) (Cert.CkvReferenceIdeal.main (F := Ideal))) ⟨m, fun _ => 0, g⟩ (fun r => (∀ c : Dev Cert.CkvReferenceIdeal.nD,
      r.2.mem ((c.tc : Thread Cert.CkvReferenceIdeal.nD Cert.CkvReferenceIdeal.τ).loc Cert.CkvReferenceIdeal.main_arg0) = m ((c.tc : Thread Cert.CkvReferenceIdeal.nD Cert.CkvReferenceIdeal.τ).loc Cert.CkvReferenceIdeal.main_arg0)
      ∧ r.2.mem ((c.tc : Thread Cert.CkvReferenceIdeal.nD Cert.CkvReferenceIdeal.τ).loc Cert.CkvReferenceIdeal.main_arg1) = m ((c.tc : Thread Cert.CkvReferenceIdeal.nD Cert.CkvReferenceIdeal.τ).loc Cert.CkvReferenceIdeal.main_arg1))
      ∧ r.2.sem = fun _ => 0)

def quiescent_FfnWi [hFfnWi : Cert.FfnWi.Facts] : Prop :=
  ∀ (m : (ℓ : Loc Cert.FfnWi.nD Cert.FfnWi.τ Cert.FfnWi.sig) → Buf (Elt Bits) ℓ) (g : Dev Cert.FfnWi.nD → PrngReg), Pre_FfnWi m →
    θ_run (Cert.FfnWi.defs (F := Bits)) (onTc (τ := Cert.FfnWi.τ) (Cert.FfnWi.main (F := Bits))) ⟨m, fun _ => 0, g⟩ (fun r => (∀ c : Dev Cert.FfnWi.nD,
      r.2.mem ((c.tc : Thread Cert.FfnWi.nD Cert.FfnWi.τ).loc Cert.FfnWi.main_arg0) = m ((c.tc : Thread Cert.FfnWi.nD Cert.FfnWi.τ).loc Cert.FfnWi.main_arg0)
      ∧ r.2.mem ((c.tc : Thread Cert.FfnWi.nD Cert.FfnWi.τ).loc Cert.FfnWi.main_arg1) = m ((c.tc : Thread Cert.FfnWi.nD Cert.FfnWi.τ).loc Cert.FfnWi.main_arg1))
      ∧ r.2.sem = fun _ => 0)

def quiescent_FfnWiIdeal [hFfnWiIdeal : Cert.FfnWiIdeal.Facts] : Prop :=
  ∀ (m : (ℓ : Loc Cert.FfnWiIdeal.nD Cert.FfnWiIdeal.τ Cert.FfnWiIdeal.sig) → Buf (Elt Ideal) ℓ) (g : Dev Cert.FfnWiIdeal.nD → PrngReg), Pre_FfnWiIdeal m →
    θ_run (Cert.FfnWiIdeal.defs (F := Ideal)) (onTc (τ := Cert.FfnWiIdeal.τ) (Cert.FfnWiIdeal.main (F := Ideal))) ⟨m, fun _ => 0, g⟩ (fun r => (∀ c : Dev Cert.FfnWiIdeal.nD,
      r.2.mem ((c.tc : Thread Cert.FfnWiIdeal.nD Cert.FfnWiIdeal.τ).loc Cert.FfnWiIdeal.main_arg0) = m ((c.tc : Thread Cert.FfnWiIdeal.nD Cert.FfnWiIdeal.τ).loc Cert.FfnWiIdeal.main_arg0)
      ∧ r.2.mem ((c.tc : Thread Cert.FfnWiIdeal.nD Cert.FfnWiIdeal.τ).loc Cert.FfnWiIdeal.main_arg1) = m ((c.tc : Thread Cert.FfnWiIdeal.nD Cert.FfnWiIdeal.τ).loc Cert.FfnWiIdeal.main_arg1))
      ∧ r.2.sem = fun _ => 0)

def quiescent_FfnWiReferenceIdeal [hFfnWiReferenceIdeal : Cert.FfnWiReferenceIdeal.Facts] : Prop :=
  ∀ (m : (ℓ : Loc Cert.FfnWiReferenceIdeal.nD Cert.FfnWiReferenceIdeal.τ Cert.FfnWiReferenceIdeal.sig) → Buf (Elt Ideal) ℓ) (g : Dev Cert.FfnWiReferenceIdeal.nD → PrngReg), Pre_FfnWiReferenceIdeal m →
    θ_run (Cert.FfnWiReferenceIdeal.defs (F := Ideal)) (onTc (τ := Cert.FfnWiReferenceIdeal.τ) (Cert.FfnWiReferenceIdeal.main (F := Ideal))) ⟨m, fun _ => 0, g⟩ (fun r => (∀ c : Dev Cert.FfnWiReferenceIdeal.nD,
      r.2.mem ((c.tc : Thread Cert.FfnWiReferenceIdeal.nD Cert.FfnWiReferenceIdeal.τ).loc Cert.FfnWiReferenceIdeal.main_arg0) = m ((c.tc : Thread Cert.FfnWiReferenceIdeal.nD Cert.FfnWiReferenceIdeal.τ).loc Cert.FfnWiReferenceIdeal.main_arg0)
      ∧ r.2.mem ((c.tc : Thread Cert.FfnWiReferenceIdeal.nD Cert.FfnWiReferenceIdeal.τ).loc Cert.FfnWiReferenceIdeal.main_arg1) = m ((c.tc : Thread Cert.FfnWiReferenceIdeal.nD Cert.FfnWiReferenceIdeal.τ).loc Cert.FfnWiReferenceIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2ReferenceIdeal [hDh2ReferenceIdeal : Cert.Dh2ReferenceIdeal.Facts] : Prop :=
  ∀ (m : (ℓ : Loc Cert.Dh2ReferenceIdeal.nD Cert.Dh2ReferenceIdeal.τ Cert.Dh2ReferenceIdeal.sig) → Buf (Elt Ideal) ℓ) (g : Dev Cert.Dh2ReferenceIdeal.nD → PrngReg), Pre_Dh2ReferenceIdeal m →
    θ_run (Cert.Dh2ReferenceIdeal.defs (F := Ideal)) (onTc (τ := Cert.Dh2ReferenceIdeal.τ) (Cert.Dh2ReferenceIdeal.main (F := Ideal))) ⟨m, fun _ => 0, g⟩ (fun r => (∀ c : Dev Cert.Dh2ReferenceIdeal.nD,
      r.2.mem ((c.tc : Thread Cert.Dh2ReferenceIdeal.nD Cert.Dh2ReferenceIdeal.τ).loc Cert.Dh2ReferenceIdeal.main_arg0) = m ((c.tc : Thread Cert.Dh2ReferenceIdeal.nD Cert.Dh2ReferenceIdeal.τ).loc Cert.Dh2ReferenceIdeal.main_arg0)
      ∧ r.2.mem ((c.tc : Thread Cert.Dh2ReferenceIdeal.nD Cert.Dh2ReferenceIdeal.τ).loc Cert.Dh2ReferenceIdeal.main_arg1) = m ((c.tc : Thread Cert.Dh2ReferenceIdeal.nD Cert.Dh2ReferenceIdeal.τ).loc Cert.Dh2ReferenceIdeal.main_arg1))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ r.2.sem = fun _ => 0)

def quiescent_DoReferenceIdeal [hDoReferenceIdeal : Cert.DoReferenceIdeal.Facts] : Prop :=
  ∀ (m : (ℓ : Loc Cert.DoReferenceIdeal.nD Cert.DoReferenceIdeal.τ Cert.DoReferenceIdeal.sig) → Buf (Elt Ideal) ℓ) (g : Dev Cert.DoReferenceIdeal.nD → PrngReg), Pre_DoReferenceIdeal m →
    θ_run (Cert.DoReferenceIdeal.defs (F := Ideal)) (onTc (τ := Cert.DoReferenceIdeal.τ) (Cert.DoReferenceIdeal.main (F := Ideal))) ⟨m, fun _ => 0, g⟩ (fun r => (∀ c : Dev Cert.DoReferenceIdeal.nD,
      r.2.mem ((c.tc : Thread Cert.DoReferenceIdeal.nD Cert.DoReferenceIdeal.τ).loc Cert.DoReferenceIdeal.main_arg0) = m ((c.tc : Thread Cert.DoReferenceIdeal.nD Cert.DoReferenceIdeal.τ).loc Cert.DoReferenceIdeal.main_arg0)
      ∧ r.2.mem ((c.tc : Thread Cert.DoReferenceIdeal.nD Cert.DoReferenceIdeal.τ).loc Cert.DoReferenceIdeal.main_arg1) = m ((c.tc : Thread Cert.DoReferenceIdeal.nD Cert.DoReferenceIdeal.τ).loc Cert.DoReferenceIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_Dh1ReferenceIdeal [hDh1ReferenceIdeal : Cert.Dh1ReferenceIdeal.Facts] : Prop :=
  ∀ (m : (ℓ : Loc Cert.Dh1ReferenceIdeal.nD Cert.Dh1ReferenceIdeal.τ Cert.Dh1ReferenceIdeal.sig) → Buf (Elt Ideal) ℓ) (g : Dev Cert.Dh1ReferenceIdeal.nD → PrngReg), Pre_Dh1ReferenceIdeal m →
    θ_run (Cert.Dh1ReferenceIdeal.defs (F := Ideal)) (onTc (τ := Cert.Dh1ReferenceIdeal.τ) (Cert.Dh1ReferenceIdeal.main (F := Ideal))) ⟨m, fun _ => 0, g⟩ (fun r => (∀ c : Dev Cert.Dh1ReferenceIdeal.nD,
      r.2.mem ((c.tc : Thread Cert.Dh1ReferenceIdeal.nD Cert.Dh1ReferenceIdeal.τ).loc Cert.Dh1ReferenceIdeal.main_arg0) = m ((c.tc : Thread Cert.Dh1ReferenceIdeal.nD Cert.Dh1ReferenceIdeal.τ).loc Cert.Dh1ReferenceIdeal.main_arg0)
      ∧ r.2.mem ((c.tc : Thread Cert.Dh1ReferenceIdeal.nD Cert.Dh1ReferenceIdeal.τ).loc Cert.Dh1ReferenceIdeal.main_arg1) = m ((c.tc : Thread Cert.Dh1ReferenceIdeal.nD Cert.Dh1ReferenceIdeal.τ).loc Cert.Dh1ReferenceIdeal.main_arg1))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_DmergedReferenceIdeal [hDmergedReferenceIdeal : Cert.DmergedReferenceIdeal.Facts] : Prop :=
  ∀ (m : (ℓ : Loc Cert.DmergedReferenceIdeal.nD Cert.DmergedReferenceIdeal.τ Cert.DmergedReferenceIdeal.sig) → Buf (Elt Ideal) ℓ) (g : Dev Cert.DmergedReferenceIdeal.nD → PrngReg), Pre_DmergedReferenceIdeal m →
    θ_run (Cert.DmergedReferenceIdeal.defs (F := Ideal)) (onTc (τ := Cert.DmergedReferenceIdeal.τ) (Cert.DmergedReferenceIdeal.main (F := Ideal))) ⟨m, fun _ => 0, g⟩ (fun r => (∀ c : Dev Cert.DmergedReferenceIdeal.nD,
      r.2.mem ((c.tc : Thread Cert.DmergedReferenceIdeal.nD Cert.DmergedReferenceIdeal.τ).loc Cert.DmergedReferenceIdeal.main_arg0) = m ((c.tc : Thread Cert.DmergedReferenceIdeal.nD Cert.DmergedReferenceIdeal.τ).loc Cert.DmergedReferenceIdeal.main_arg0)
      ∧ r.2.mem ((c.tc : Thread Cert.DmergedReferenceIdeal.nD Cert.DmergedReferenceIdeal.τ).loc Cert.DmergedReferenceIdeal.main_arg1) = m ((c.tc : Thread Cert.DmergedReferenceIdeal.nD Cert.DmergedReferenceIdeal.τ).loc Cert.DmergedReferenceIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2))
      ∧ r.2.sem = fun _ => 0)

def quiescent_DFfnWo [hDFfnWo : Cert.DFfnWo.Facts] : Prop :=
  ∀ (m : (ℓ : Loc Cert.DFfnWo.nD Cert.DFfnWo.τ Cert.DFfnWo.sig) → Buf (Elt Bits) ℓ) (g : Dev Cert.DFfnWo.nD → PrngReg), Pre_DFfnWo m →
    θ_run (Cert.DFfnWo.defs (F := Bits)) (onTc (τ := Cert.DFfnWo.τ) (Cert.DFfnWo.main (F := Bits))) ⟨m, fun _ => 0, g⟩ (fun r => (∀ c : Dev Cert.DFfnWo.nD,
      r.2.mem ((c.tc : Thread Cert.DFfnWo.nD Cert.DFfnWo.τ).loc Cert.DFfnWo.main_arg0) = m ((c.tc : Thread Cert.DFfnWo.nD Cert.DFfnWo.τ).loc Cert.DFfnWo.main_arg0)
      ∧ r.2.mem ((c.tc : Thread Cert.DFfnWo.nD Cert.DFfnWo.τ).loc Cert.DFfnWo.main_arg1) = m ((c.tc : Thread Cert.DFfnWo.nD Cert.DFfnWo.τ).loc Cert.DFfnWo.main_arg1))
      ∧ r.2.sem = fun _ => 0)

def quiescent_DFfnWoIdeal [hDFfnWoIdeal : Cert.DFfnWoIdeal.Facts] : Prop :=
  ∀ (m : (ℓ : Loc Cert.DFfnWoIdeal.nD Cert.DFfnWoIdeal.τ Cert.DFfnWoIdeal.sig) → Buf (Elt Ideal) ℓ) (g : Dev Cert.DFfnWoIdeal.nD → PrngReg), Pre_DFfnWoIdeal m →
    θ_run (Cert.DFfnWoIdeal.defs (F := Ideal)) (onTc (τ := Cert.DFfnWoIdeal.τ) (Cert.DFfnWoIdeal.main (F := Ideal))) ⟨m, fun _ => 0, g⟩ (fun r => (∀ c : Dev Cert.DFfnWoIdeal.nD,
      r.2.mem ((c.tc : Thread Cert.DFfnWoIdeal.nD Cert.DFfnWoIdeal.τ).loc Cert.DFfnWoIdeal.main_arg0) = m ((c.tc : Thread Cert.DFfnWoIdeal.nD Cert.DFfnWoIdeal.τ).loc Cert.DFfnWoIdeal.main_arg0)
      ∧ r.2.mem ((c.tc : Thread Cert.DFfnWoIdeal.nD Cert.DFfnWoIdeal.τ).loc Cert.DFfnWoIdeal.main_arg1) = m ((c.tc : Thread Cert.DFfnWoIdeal.nD Cert.DFfnWoIdeal.τ).loc Cert.DFfnWoIdeal.main_arg1))
      ∧ r.2.sem = fun _ => 0)

def quiescent_DFfnWoReferenceIdeal [hDFfnWoReferenceIdeal : Cert.DFfnWoReferenceIdeal.Facts] : Prop :=
  ∀ (m : (ℓ : Loc Cert.DFfnWoReferenceIdeal.nD Cert.DFfnWoReferenceIdeal.τ Cert.DFfnWoReferenceIdeal.sig) → Buf (Elt Ideal) ℓ) (g : Dev Cert.DFfnWoReferenceIdeal.nD → PrngReg), Pre_DFfnWoReferenceIdeal m →
    θ_run (Cert.DFfnWoReferenceIdeal.defs (F := Ideal)) (onTc (τ := Cert.DFfnWoReferenceIdeal.τ) (Cert.DFfnWoReferenceIdeal.main (F := Ideal))) ⟨m, fun _ => 0, g⟩ (fun r => (∀ c : Dev Cert.DFfnWoReferenceIdeal.nD,
      r.2.mem ((c.tc : Thread Cert.DFfnWoReferenceIdeal.nD Cert.DFfnWoReferenceIdeal.τ).loc Cert.DFfnWoReferenceIdeal.main_arg0) = m ((c.tc : Thread Cert.DFfnWoReferenceIdeal.nD Cert.DFfnWoReferenceIdeal.τ).loc Cert.DFfnWoReferenceIdeal.main_arg0)
      ∧ r.2.mem ((c.tc : Thread Cert.DFfnWoReferenceIdeal.nD Cert.DFfnWoReferenceIdeal.τ).loc Cert.DFfnWoReferenceIdeal.main_arg1) = m ((c.tc : Thread Cert.DFfnWoReferenceIdeal.nD Cert.DFfnWoReferenceIdeal.τ).loc Cert.DFfnWoReferenceIdeal.main_arg1))
      ∧ r.2.sem = fun _ => 0)

def quiescent_DFfnWi [hDFfnWi : Cert.DFfnWi.Facts] : Prop :=
  ∀ (m : (ℓ : Loc Cert.DFfnWi.nD Cert.DFfnWi.τ Cert.DFfnWi.sig) → Buf (Elt Bits) ℓ) (g : Dev Cert.DFfnWi.nD → PrngReg), Pre_DFfnWi m →
    θ_run (Cert.DFfnWi.defs (F := Bits)) (onTc (τ := Cert.DFfnWi.τ) (Cert.DFfnWi.main (F := Bits))) ⟨m, fun _ => 0, g⟩ (fun r => (∀ c : Dev Cert.DFfnWi.nD,
      r.2.mem ((c.tc : Thread Cert.DFfnWi.nD Cert.DFfnWi.τ).loc Cert.DFfnWi.main_arg0) = m ((c.tc : Thread Cert.DFfnWi.nD Cert.DFfnWi.τ).loc Cert.DFfnWi.main_arg0)
      ∧ r.2.mem ((c.tc : Thread Cert.DFfnWi.nD Cert.DFfnWi.τ).loc Cert.DFfnWi.main_arg1) = m ((c.tc : Thread Cert.DFfnWi.nD Cert.DFfnWi.τ).loc Cert.DFfnWi.main_arg1))
      ∧ r.2.sem = fun _ => 0)

def quiescent_DFfnWiIdeal [hDFfnWiIdeal : Cert.DFfnWiIdeal.Facts] : Prop :=
  ∀ (m : (ℓ : Loc Cert.DFfnWiIdeal.nD Cert.DFfnWiIdeal.τ Cert.DFfnWiIdeal.sig) → Buf (Elt Ideal) ℓ) (g : Dev Cert.DFfnWiIdeal.nD → PrngReg), Pre_DFfnWiIdeal m →
    θ_run (Cert.DFfnWiIdeal.defs (F := Ideal)) (onTc (τ := Cert.DFfnWiIdeal.τ) (Cert.DFfnWiIdeal.main (F := Ideal))) ⟨m, fun _ => 0, g⟩ (fun r => (∀ c : Dev Cert.DFfnWiIdeal.nD,
      r.2.mem ((c.tc : Thread Cert.DFfnWiIdeal.nD Cert.DFfnWiIdeal.τ).loc Cert.DFfnWiIdeal.main_arg0) = m ((c.tc : Thread Cert.DFfnWiIdeal.nD Cert.DFfnWiIdeal.τ).loc Cert.DFfnWiIdeal.main_arg0)
      ∧ r.2.mem ((c.tc : Thread Cert.DFfnWiIdeal.nD Cert.DFfnWiIdeal.τ).loc Cert.DFfnWiIdeal.main_arg1) = m ((c.tc : Thread Cert.DFfnWiIdeal.nD Cert.DFfnWiIdeal.τ).loc Cert.DFfnWiIdeal.main_arg1))
      ∧ r.2.sem = fun _ => 0)

def quiescent_DFfnWiReferenceIdeal [hDFfnWiReferenceIdeal : Cert.DFfnWiReferenceIdeal.Facts] : Prop :=
  ∀ (m : (ℓ : Loc Cert.DFfnWiReferenceIdeal.nD Cert.DFfnWiReferenceIdeal.τ Cert.DFfnWiReferenceIdeal.sig) → Buf (Elt Ideal) ℓ) (g : Dev Cert.DFfnWiReferenceIdeal.nD → PrngReg), Pre_DFfnWiReferenceIdeal m →
    θ_run (Cert.DFfnWiReferenceIdeal.defs (F := Ideal)) (onTc (τ := Cert.DFfnWiReferenceIdeal.τ) (Cert.DFfnWiReferenceIdeal.main (F := Ideal))) ⟨m, fun _ => 0, g⟩ (fun r => (∀ c : Dev Cert.DFfnWiReferenceIdeal.nD,
      r.2.mem ((c.tc : Thread Cert.DFfnWiReferenceIdeal.nD Cert.DFfnWiReferenceIdeal.τ).loc Cert.DFfnWiReferenceIdeal.main_arg0) = m ((c.tc : Thread Cert.DFfnWiReferenceIdeal.nD Cert.DFfnWiReferenceIdeal.τ).loc Cert.DFfnWiReferenceIdeal.main_arg0)
      ∧ r.2.mem ((c.tc : Thread Cert.DFfnWiReferenceIdeal.nD Cert.DFfnWiReferenceIdeal.τ).loc Cert.DFfnWiReferenceIdeal.main_arg1) = m ((c.tc : Thread Cert.DFfnWiReferenceIdeal.nD Cert.DFfnWiReferenceIdeal.τ).loc Cert.DFfnWiReferenceIdeal.main_arg1))
      ∧ r.2.sem = fun _ => 0)

def quiescent_Dco [hDco : Cert.Dco.Facts] : Prop :=
  ∀ (m : (ℓ : Loc Cert.Dco.nD Cert.Dco.τ Cert.Dco.sig) → Buf (Elt Bits) ℓ) (g : Dev Cert.Dco.nD → PrngReg), Pre_Dco m →
    θ_run (Cert.Dco.defs (F := Bits)) (onTc (τ := Cert.Dco.τ) (Cert.Dco.main (F := Bits))) ⟨m, fun _ => 0, g⟩ (fun r => (∀ c : Dev Cert.Dco.nD,
      r.2.mem ((c.tc : Thread Cert.Dco.nD Cert.Dco.τ).loc Cert.Dco.main_arg0) = m ((c.tc : Thread Cert.Dco.nD Cert.Dco.τ).loc Cert.Dco.main_arg0)
      ∧ r.2.mem ((c.tc : Thread Cert.Dco.nD Cert.Dco.τ).loc Cert.Dco.main_arg1) = m ((c.tc : Thread Cert.Dco.nD Cert.Dco.τ).loc Cert.Dco.main_arg1))
      ∧ r.2.sem = fun _ => 0)

def quiescent_DcoIdeal [hDcoIdeal : Cert.DcoIdeal.Facts] : Prop :=
  ∀ (m : (ℓ : Loc Cert.DcoIdeal.nD Cert.DcoIdeal.τ Cert.DcoIdeal.sig) → Buf (Elt Ideal) ℓ) (g : Dev Cert.DcoIdeal.nD → PrngReg), Pre_DcoIdeal m →
    θ_run (Cert.DcoIdeal.defs (F := Ideal)) (onTc (τ := Cert.DcoIdeal.τ) (Cert.DcoIdeal.main (F := Ideal))) ⟨m, fun _ => 0, g⟩ (fun r => (∀ c : Dev Cert.DcoIdeal.nD,
      r.2.mem ((c.tc : Thread Cert.DcoIdeal.nD Cert.DcoIdeal.τ).loc Cert.DcoIdeal.main_arg0) = m ((c.tc : Thread Cert.DcoIdeal.nD Cert.DcoIdeal.τ).loc Cert.DcoIdeal.main_arg0)
      ∧ r.2.mem ((c.tc : Thread Cert.DcoIdeal.nD Cert.DcoIdeal.τ).loc Cert.DcoIdeal.main_arg1) = m ((c.tc : Thread Cert.DcoIdeal.nD Cert.DcoIdeal.τ).loc Cert.DcoIdeal.main_arg1))
      ∧ r.2.sem = fun _ => 0)

def quiescent_DcoReferenceIdeal [hDcoReferenceIdeal : Cert.DcoReferenceIdeal.Facts] : Prop :=
  ∀ (m : (ℓ : Loc Cert.DcoReferenceIdeal.nD Cert.DcoReferenceIdeal.τ Cert.DcoReferenceIdeal.sig) → Buf (Elt Ideal) ℓ) (g : Dev Cert.DcoReferenceIdeal.nD → PrngReg), Pre_DcoReferenceIdeal m →
    θ_run (Cert.DcoReferenceIdeal.defs (F := Ideal)) (onTc (τ := Cert.DcoReferenceIdeal.τ) (Cert.DcoReferenceIdeal.main (F := Ideal))) ⟨m, fun _ => 0, g⟩ (fun r => (∀ c : Dev Cert.DcoReferenceIdeal.nD,
      r.2.mem ((c.tc : Thread Cert.DcoReferenceIdeal.nD Cert.DcoReferenceIdeal.τ).loc Cert.DcoReferenceIdeal.main_arg0) = m ((c.tc : Thread Cert.DcoReferenceIdeal.nD Cert.DcoReferenceIdeal.τ).loc Cert.DcoReferenceIdeal.main_arg0)
      ∧ r.2.mem ((c.tc : Thread Cert.DcoReferenceIdeal.nD Cert.DcoReferenceIdeal.τ).loc Cert.DcoReferenceIdeal.main_arg1) = m ((c.tc : Thread Cert.DcoReferenceIdeal.nD Cert.DcoReferenceIdeal.τ).loc Cert.DcoReferenceIdeal.main_arg1))
      ∧ r.2.sem = fun _ => 0)

def quiescent_Dcq [hDcq : Cert.Dcq.Facts] : Prop :=
  ∀ (m : (ℓ : Loc Cert.Dcq.nD Cert.Dcq.τ Cert.Dcq.sig) → Buf (Elt Bits) ℓ) (g : Dev Cert.Dcq.nD → PrngReg), Pre_Dcq m →
    θ_run (Cert.Dcq.defs (F := Bits)) (onTc (τ := Cert.Dcq.τ) (Cert.Dcq.main (F := Bits))) ⟨m, fun _ => 0, g⟩ (fun r => (∀ c : Dev Cert.Dcq.nD,
      r.2.mem ((c.tc : Thread Cert.Dcq.nD Cert.Dcq.τ).loc Cert.Dcq.main_arg0) = m ((c.tc : Thread Cert.Dcq.nD Cert.Dcq.τ).loc Cert.Dcq.main_arg0)
      ∧ r.2.mem ((c.tc : Thread Cert.Dcq.nD Cert.Dcq.τ).loc Cert.Dcq.main_arg1) = m ((c.tc : Thread Cert.Dcq.nD Cert.Dcq.τ).loc Cert.Dcq.main_arg1))
      ∧ r.2.sem = fun _ => 0)

def quiescent_DcqIdeal [hDcqIdeal : Cert.DcqIdeal.Facts] : Prop :=
  ∀ (m : (ℓ : Loc Cert.DcqIdeal.nD Cert.DcqIdeal.τ Cert.DcqIdeal.sig) → Buf (Elt Ideal) ℓ) (g : Dev Cert.DcqIdeal.nD → PrngReg), Pre_DcqIdeal m →
    θ_run (Cert.DcqIdeal.defs (F := Ideal)) (onTc (τ := Cert.DcqIdeal.τ) (Cert.DcqIdeal.main (F := Ideal))) ⟨m, fun _ => 0, g⟩ (fun r => (∀ c : Dev Cert.DcqIdeal.nD,
      r.2.mem ((c.tc : Thread Cert.DcqIdeal.nD Cert.DcqIdeal.τ).loc Cert.DcqIdeal.main_arg0) = m ((c.tc : Thread Cert.DcqIdeal.nD Cert.DcqIdeal.τ).loc Cert.DcqIdeal.main_arg0)
      ∧ r.2.mem ((c.tc : Thread Cert.DcqIdeal.nD Cert.DcqIdeal.τ).loc Cert.DcqIdeal.main_arg1) = m ((c.tc : Thread Cert.DcqIdeal.nD Cert.DcqIdeal.τ).loc Cert.DcqIdeal.main_arg1))
      ∧ r.2.sem = fun _ => 0)

def quiescent_DcqReferenceIdeal [hDcqReferenceIdeal : Cert.DcqReferenceIdeal.Facts] : Prop :=
  ∀ (m : (ℓ : Loc Cert.DcqReferenceIdeal.nD Cert.DcqReferenceIdeal.τ Cert.DcqReferenceIdeal.sig) → Buf (Elt Ideal) ℓ) (g : Dev Cert.DcqReferenceIdeal.nD → PrngReg), Pre_DcqReferenceIdeal m →
    θ_run (Cert.DcqReferenceIdeal.defs (F := Ideal)) (onTc (τ := Cert.DcqReferenceIdeal.τ) (Cert.DcqReferenceIdeal.main (F := Ideal))) ⟨m, fun _ => 0, g⟩ (fun r => (∀ c : Dev Cert.DcqReferenceIdeal.nD,
      r.2.mem ((c.tc : Thread Cert.DcqReferenceIdeal.nD Cert.DcqReferenceIdeal.τ).loc Cert.DcqReferenceIdeal.main_arg0) = m ((c.tc : Thread Cert.DcqReferenceIdeal.nD Cert.DcqReferenceIdeal.τ).loc Cert.DcqReferenceIdeal.main_arg0)
      ∧ r.2.mem ((c.tc : Thread Cert.DcqReferenceIdeal.nD Cert.DcqReferenceIdeal.τ).loc Cert.DcqReferenceIdeal.main_arg1) = m ((c.tc : Thread Cert.DcqReferenceIdeal.nD Cert.DcqReferenceIdeal.τ).loc Cert.DcqReferenceIdeal.main_arg1))
      ∧ r.2.sem = fun _ => 0)

def quiescent_Dckv [hDckv : Cert.Dckv.Facts] : Prop :=
  ∀ (m : (ℓ : Loc Cert.Dckv.nD Cert.Dckv.τ Cert.Dckv.sig) → Buf (Elt Bits) ℓ) (g : Dev Cert.Dckv.nD → PrngReg), Pre_Dckv m →
    θ_run (Cert.Dckv.defs (F := Bits)) (onTc (τ := Cert.Dckv.τ) (Cert.Dckv.main (F := Bits))) ⟨m, fun _ => 0, g⟩ (fun r => (∀ c : Dev Cert.Dckv.nD,
      r.2.mem ((c.tc : Thread Cert.Dckv.nD Cert.Dckv.τ).loc Cert.Dckv.main_arg0) = m ((c.tc : Thread Cert.Dckv.nD Cert.Dckv.τ).loc Cert.Dckv.main_arg0)
      ∧ r.2.mem ((c.tc : Thread Cert.Dckv.nD Cert.Dckv.τ).loc Cert.Dckv.main_arg1) = m ((c.tc : Thread Cert.Dckv.nD Cert.Dckv.τ).loc Cert.Dckv.main_arg1))
      ∧ r.2.sem = fun _ => 0)

def quiescent_DckvIdeal [hDckvIdeal : Cert.DckvIdeal.Facts] : Prop :=
  ∀ (m : (ℓ : Loc Cert.DckvIdeal.nD Cert.DckvIdeal.τ Cert.DckvIdeal.sig) → Buf (Elt Ideal) ℓ) (g : Dev Cert.DckvIdeal.nD → PrngReg), Pre_DckvIdeal m →
    θ_run (Cert.DckvIdeal.defs (F := Ideal)) (onTc (τ := Cert.DckvIdeal.τ) (Cert.DckvIdeal.main (F := Ideal))) ⟨m, fun _ => 0, g⟩ (fun r => (∀ c : Dev Cert.DckvIdeal.nD,
      r.2.mem ((c.tc : Thread Cert.DckvIdeal.nD Cert.DckvIdeal.τ).loc Cert.DckvIdeal.main_arg0) = m ((c.tc : Thread Cert.DckvIdeal.nD Cert.DckvIdeal.τ).loc Cert.DckvIdeal.main_arg0)
      ∧ r.2.mem ((c.tc : Thread Cert.DckvIdeal.nD Cert.DckvIdeal.τ).loc Cert.DckvIdeal.main_arg1) = m ((c.tc : Thread Cert.DckvIdeal.nD Cert.DckvIdeal.τ).loc Cert.DckvIdeal.main_arg1))
      ∧ r.2.sem = fun _ => 0)

def quiescent_DckvReferenceIdeal [hDckvReferenceIdeal : Cert.DckvReferenceIdeal.Facts] : Prop :=
  ∀ (m : (ℓ : Loc Cert.DckvReferenceIdeal.nD Cert.DckvReferenceIdeal.τ Cert.DckvReferenceIdeal.sig) → Buf (Elt Ideal) ℓ) (g : Dev Cert.DckvReferenceIdeal.nD → PrngReg), Pre_DckvReferenceIdeal m →
    θ_run (Cert.DckvReferenceIdeal.defs (F := Ideal)) (onTc (τ := Cert.DckvReferenceIdeal.τ) (Cert.DckvReferenceIdeal.main (F := Ideal))) ⟨m, fun _ => 0, g⟩ (fun r => (∀ c : Dev Cert.DckvReferenceIdeal.nD,
      r.2.mem ((c.tc : Thread Cert.DckvReferenceIdeal.nD Cert.DckvReferenceIdeal.τ).loc Cert.DckvReferenceIdeal.main_arg0) = m ((c.tc : Thread Cert.DckvReferenceIdeal.nD Cert.DckvReferenceIdeal.τ).loc Cert.DckvReferenceIdeal.main_arg0)
      ∧ r.2.mem ((c.tc : Thread Cert.DckvReferenceIdeal.nD Cert.DckvReferenceIdeal.τ).loc Cert.DckvReferenceIdeal.main_arg1) = m ((c.tc : Thread Cert.DckvReferenceIdeal.nD Cert.DckvReferenceIdeal.τ).loc Cert.DckvReferenceIdeal.main_arg1))
      ∧ r.2.sem = fun _ => 0)

def quiescent_DbrRnn [hDbrRnn : Cert.DbrRnn.Facts] : Prop :=
  ∀ (m : (ℓ : Loc Cert.DbrRnn.nD Cert.DbrRnn.τ Cert.DbrRnn.sig) → Buf (Elt Bits) ℓ) (g : Dev Cert.DbrRnn.nD → PrngReg), Pre_DbrRnn m →
    θ_run (Cert.DbrRnn.defs (F := Bits)) (onTc (τ := Cert.DbrRnn.τ) (Cert.DbrRnn.main (F := Bits))) ⟨m, fun _ => 0, g⟩ (fun r => (∀ c : Dev Cert.DbrRnn.nD,
      r.2.mem ((c.tc : Thread Cert.DbrRnn.nD Cert.DbrRnn.τ).loc Cert.DbrRnn.main_arg0) = m ((c.tc : Thread Cert.DbrRnn.nD Cert.DbrRnn.τ).loc Cert.DbrRnn.main_arg0)
      ∧ r.2.mem ((c.tc : Thread Cert.DbrRnn.nD Cert.DbrRnn.τ).loc Cert.DbrRnn.main_arg1) = m ((c.tc : Thread Cert.DbrRnn.nD Cert.DbrRnn.τ).loc Cert.DbrRnn.main_arg1))
      ∧ r.2.sem = fun _ => 0)

def quiescent_DbrRnnIdeal [hDbrRnnIdeal : Cert.DbrRnnIdeal.Facts] : Prop :=
  ∀ (m : (ℓ : Loc Cert.DbrRnnIdeal.nD Cert.DbrRnnIdeal.τ Cert.DbrRnnIdeal.sig) → Buf (Elt Ideal) ℓ) (g : Dev Cert.DbrRnnIdeal.nD → PrngReg), Pre_DbrRnnIdeal m →
    θ_run (Cert.DbrRnnIdeal.defs (F := Ideal)) (onTc (τ := Cert.DbrRnnIdeal.τ) (Cert.DbrRnnIdeal.main (F := Ideal))) ⟨m, fun _ => 0, g⟩ (fun r => (∀ c : Dev Cert.DbrRnnIdeal.nD,
      r.2.mem ((c.tc : Thread Cert.DbrRnnIdeal.nD Cert.DbrRnnIdeal.τ).loc Cert.DbrRnnIdeal.main_arg0) = m ((c.tc : Thread Cert.DbrRnnIdeal.nD Cert.DbrRnnIdeal.τ).loc Cert.DbrRnnIdeal.main_arg0)
      ∧ r.2.mem ((c.tc : Thread Cert.DbrRnnIdeal.nD Cert.DbrRnnIdeal.τ).loc Cert.DbrRnnIdeal.main_arg1) = m ((c.tc : Thread Cert.DbrRnnIdeal.nD Cert.DbrRnnIdeal.τ).loc Cert.DbrRnnIdeal.main_arg1))
      ∧ r.2.sem = fun _ => 0)

def quiescent_DbrRnnReferenceIdeal [hDbrRnnReferenceIdeal : Cert.DbrRnnReferenceIdeal.Facts] : Prop :=
  ∀ (m : (ℓ : Loc Cert.DbrRnnReferenceIdeal.nD Cert.DbrRnnReferenceIdeal.τ Cert.DbrRnnReferenceIdeal.sig) → Buf (Elt Ideal) ℓ) (g : Dev Cert.DbrRnnReferenceIdeal.nD → PrngReg), Pre_DbrRnnReferenceIdeal m →
    θ_run (Cert.DbrRnnReferenceIdeal.defs (F := Ideal)) (onTc (τ := Cert.DbrRnnReferenceIdeal.τ) (Cert.DbrRnnReferenceIdeal.main (F := Ideal))) ⟨m, fun _ => 0, g⟩ (fun r => (∀ c : Dev Cert.DbrRnnReferenceIdeal.nD,
      r.2.mem ((c.tc : Thread Cert.DbrRnnReferenceIdeal.nD Cert.DbrRnnReferenceIdeal.τ).loc Cert.DbrRnnReferenceIdeal.main_arg0) = m ((c.tc : Thread Cert.DbrRnnReferenceIdeal.nD Cert.DbrRnnReferenceIdeal.τ).loc Cert.DbrRnnReferenceIdeal.main_arg0)
      ∧ r.2.mem ((c.tc : Thread Cert.DbrRnnReferenceIdeal.nD Cert.DbrRnnReferenceIdeal.τ).loc Cert.DbrRnnReferenceIdeal.main_arg1) = m ((c.tc : Thread Cert.DbrRnnReferenceIdeal.nD Cert.DbrRnnReferenceIdeal.τ).loc Cert.DbrRnnReferenceIdeal.main_arg1))
      ∧ r.2.sem = fun _ => 0)

def quiescent_DIn [hDIn : Cert.DIn.Facts] : Prop :=
  ∀ (m : (ℓ : Loc Cert.DIn.nD Cert.DIn.τ Cert.DIn.sig) → Buf (Elt Bits) ℓ) (g : Dev Cert.DIn.nD → PrngReg), Pre_DIn m →
    θ_run (Cert.DIn.defs (F := Bits)) (onTc (τ := Cert.DIn.τ) (Cert.DIn.main (F := Bits))) ⟨m, fun _ => 0, g⟩ (fun r => (∀ c : Dev Cert.DIn.nD,
      r.2.mem ((c.tc : Thread Cert.DIn.nD Cert.DIn.τ).loc Cert.DIn.main_arg0) = m ((c.tc : Thread Cert.DIn.nD Cert.DIn.τ).loc Cert.DIn.main_arg0)
      ∧ r.2.mem ((c.tc : Thread Cert.DIn.nD Cert.DIn.τ).loc Cert.DIn.main_arg1) = m ((c.tc : Thread Cert.DIn.nD Cert.DIn.τ).loc Cert.DIn.main_arg1))
      ∧ r.2.sem = fun _ => 0)

def quiescent_DInIdeal [hDInIdeal : Cert.DInIdeal.Facts] : Prop :=
  ∀ (m : (ℓ : Loc Cert.DInIdeal.nD Cert.DInIdeal.τ Cert.DInIdeal.sig) → Buf (Elt Ideal) ℓ) (g : Dev Cert.DInIdeal.nD → PrngReg), Pre_DInIdeal m →
    θ_run (Cert.DInIdeal.defs (F := Ideal)) (onTc (τ := Cert.DInIdeal.τ) (Cert.DInIdeal.main (F := Ideal))) ⟨m, fun _ => 0, g⟩ (fun r => (∀ c : Dev Cert.DInIdeal.nD,
      r.2.mem ((c.tc : Thread Cert.DInIdeal.nD Cert.DInIdeal.τ).loc Cert.DInIdeal.main_arg0) = m ((c.tc : Thread Cert.DInIdeal.nD Cert.DInIdeal.τ).loc Cert.DInIdeal.main_arg0)
      ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ r.2.sem = fun _ => 0)

def quiescent_DInReferenceIdeal [hDInReferenceIdeal : Cert.DInReferenceIdeal.Facts] : Prop :=
  ∀ (m : (ℓ : Loc Cert.DInReferenceIdeal.nD Cert.DInReferenceIdeal.τ Cert.DInReferenceIdeal.sig) → Buf (Elt Ideal) ℓ) (g : Dev Cert.DInReferenceIdeal.nD → PrngReg), Pre_DInReferenceIdeal m →
    θ_run (Cert.DInReferenceIdeal.defs (F := Ideal)) (onTc (τ := Cert.DInReferenceIdeal.τ) (Cert.DInReferenceIdeal.main (F := Ideal))) ⟨m, fun _ => 0, g⟩ (fun r => (∀ c : Dev Cert.DInReferenceIdeal.nD,
      r.2.mem ((c.tc : Thread Cert.DInReferenceIdeal.nD Cert.DInReferenceIdeal.τ).loc Cert.DInReferenceIdeal.main_arg0) = m ((c.tc : Thread Cert.DInReferenceIdeal.nD Cert.DInReferenceIdeal.τ).loc Cert.DInReferenceIdeal.main_arg0)
      ∧ r.2.mem ((c.tc : Thread Cert.DInReferenceIdeal.nD Cert.DInReferenceIdeal.τ).loc Cert.DInReferenceIdeal.main_arg1) = m ((c.tc : Thread Cert.DInReferenceIdeal.nD Cert.DInReferenceIdeal.τ).loc Cert.DInReferenceIdeal.main_arg1))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ r.2.sem = fun _ => 0)

def quiescent_MergeBReferenceIdeal [hMergeBReferenceIdeal : Cert.MergeBReferenceIdeal.Facts] : Prop :=
  ∀ (m : (ℓ : Loc Cert.MergeBReferenceIdeal.nD Cert.MergeBReferenceIdeal.τ Cert.MergeBReferenceIdeal.sig) → Buf (Elt Ideal) ℓ) (g : Dev Cert.MergeBReferenceIdeal.nD → PrngReg), Pre_MergeBReferenceIdeal m →
    θ_run (Cert.MergeBReferenceIdeal.defs (F := Ideal)) (onTc (τ := Cert.MergeBReferenceIdeal.τ) (Cert.MergeBReferenceIdeal.main (F := Ideal))) ⟨m, fun _ => 0, g⟩ (fun r => (∀ c : Dev Cert.MergeBReferenceIdeal.nD,
      r.2.mem ((c.tc : Thread Cert.MergeBReferenceIdeal.nD Cert.MergeBReferenceIdeal.τ).loc Cert.MergeBReferenceIdeal.main_arg0) = m ((c.tc : Thread Cert.MergeBReferenceIdeal.nD Cert.MergeBReferenceIdeal.τ).loc Cert.MergeBReferenceIdeal.main_arg0)
      ∧ r.2.mem ((c.tc : Thread Cert.MergeBReferenceIdeal.nD Cert.MergeBReferenceIdeal.τ).loc Cert.MergeBReferenceIdeal.main_arg1) = m ((c.tc : Thread Cert.MergeBReferenceIdeal.nD Cert.MergeBReferenceIdeal.τ).loc Cert.MergeBReferenceIdeal.main_arg1)
      ∧ r.2.mem ((c.tc : Thread Cert.MergeBReferenceIdeal.nD Cert.MergeBReferenceIdeal.τ).loc Cert.MergeBReferenceIdeal.main_arg2) = m ((c.tc : Thread Cert.MergeBReferenceIdeal.nD Cert.MergeBReferenceIdeal.τ).loc Cert.MergeBReferenceIdeal.main_arg2)
      ∧ r.2.mem ((c.tc : Thread Cert.MergeBReferenceIdeal.nD Cert.MergeBReferenceIdeal.τ).loc Cert.MergeBReferenceIdeal.main_arg3) = m ((c.tc : Thread Cert.MergeBReferenceIdeal.nD Cert.MergeBReferenceIdeal.τ).loc Cert.MergeBReferenceIdeal.main_arg3))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ r.2.sem = fun _ => 0)

def quiescent_MergeFReferenceIdeal [hMergeFReferenceIdeal : Cert.MergeFReferenceIdeal.Facts] : Prop :=
  ∀ (m : (ℓ : Loc Cert.MergeFReferenceIdeal.nD Cert.MergeFReferenceIdeal.τ Cert.MergeFReferenceIdeal.sig) → Buf (Elt Ideal) ℓ) (g : Dev Cert.MergeFReferenceIdeal.nD → PrngReg), Pre_MergeFReferenceIdeal m →
    θ_run (Cert.MergeFReferenceIdeal.defs (F := Ideal)) (onTc (τ := Cert.MergeFReferenceIdeal.τ) (Cert.MergeFReferenceIdeal.main (F := Ideal))) ⟨m, fun _ => 0, g⟩ (fun r => (∀ c : Dev Cert.MergeFReferenceIdeal.nD,
      r.2.mem ((c.tc : Thread Cert.MergeFReferenceIdeal.nD Cert.MergeFReferenceIdeal.τ).loc Cert.MergeFReferenceIdeal.main_arg0) = m ((c.tc : Thread Cert.MergeFReferenceIdeal.nD Cert.MergeFReferenceIdeal.τ).loc Cert.MergeFReferenceIdeal.main_arg0)
      ∧ r.2.mem ((c.tc : Thread Cert.MergeFReferenceIdeal.nD Cert.MergeFReferenceIdeal.τ).loc Cert.MergeFReferenceIdeal.main_arg1) = m ((c.tc : Thread Cert.MergeFReferenceIdeal.nD Cert.MergeFReferenceIdeal.τ).loc Cert.MergeFReferenceIdeal.main_arg1)
      ∧ r.2.mem ((c.tc : Thread Cert.MergeFReferenceIdeal.nD Cert.MergeFReferenceIdeal.τ).loc Cert.MergeFReferenceIdeal.main_arg2) = m ((c.tc : Thread Cert.MergeFReferenceIdeal.nD Cert.MergeFReferenceIdeal.τ).loc Cert.MergeFReferenceIdeal.main_arg2))
      ∧ r.2.sem = fun _ => 0)

def quiescent_SwigluB [hSwigluB : Cert.SwigluB.Facts] : Prop :=
  ∀ (m : (ℓ : Loc Cert.SwigluB.nD Cert.SwigluB.τ Cert.SwigluB.sig) → Buf (Elt Bits) ℓ) (g : Dev Cert.SwigluB.nD → PrngReg), Pre_SwigluB m →
    θ_run (Cert.SwigluB.defs (F := Bits)) (onTc (τ := Cert.SwigluB.τ) (Cert.SwigluB.main (F := Bits))) ⟨m, fun _ => 0, g⟩ (fun r => (∀ c : Dev Cert.SwigluB.nD,
      r.2.mem ((c.tc : Thread Cert.SwigluB.nD Cert.SwigluB.τ).loc Cert.SwigluB.main_arg0) = m ((c.tc : Thread Cert.SwigluB.nD Cert.SwigluB.τ).loc Cert.SwigluB.main_arg0)
      ∧ r.2.mem ((c.tc : Thread Cert.SwigluB.nD Cert.SwigluB.τ).loc Cert.SwigluB.main_arg1) = m ((c.tc : Thread Cert.SwigluB.nD Cert.SwigluB.τ).loc Cert.SwigluB.main_arg1))
      ∧ r.2.sem = fun _ => 0)

def quiescent_SwigluBIdeal [hSwigluBIdeal : Cert.SwigluBIdeal.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ r.2.sem = fun _ => 0)

def quiescent_SwigluBIdeal_pre_swiglu_bwd_finite [hSwigluBIdeal : Cert.SwigluBIdeal.Facts] [hPre_swiglu_bwd_finite : Cert.Pre_swiglu_bwd_finite.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal_swiglu_bwd_finite m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ r.2.sem = fun _ => 0)

def quiescent_SwigluBReferenceIdeal [hSwigluBReferenceIdeal : Cert.SwigluBReferenceIdeal.Facts] : Prop :=
  ∀ (m : (ℓ : Loc Cert.SwigluBReferenceIdeal.nD Cert.SwigluBReferenceIdeal.τ Cert.SwigluBReferenceIdeal.sig) → Buf (Elt Ideal) ℓ) (g : Dev Cert.SwigluBReferenceIdeal.nD → PrngReg), Pre_SwigluBReferenceIdeal m →
    θ_run (Cert.SwigluBReferenceIdeal.defs (F := Ideal)) (onTc (τ := Cert.SwigluBReferenceIdeal.τ) (Cert.SwigluBReferenceIdeal.main (F := Ideal))) ⟨m, fun _ => 0, g⟩ (fun r => (∀ c : Dev Cert.SwigluBReferenceIdeal.nD,
      r.2.mem ((c.tc : Thread Cert.SwigluBReferenceIdeal.nD Cert.SwigluBReferenceIdeal.τ).loc Cert.SwigluBReferenceIdeal.main_arg0) = m ((c.tc : Thread Cert.SwigluBReferenceIdeal.nD Cert.SwigluBReferenceIdeal.τ).loc Cert.SwigluBReferenceIdeal.main_arg0)
      ∧ r.2.mem ((c.tc : Thread Cert.SwigluBReferenceIdeal.nD Cert.SwigluBReferenceIdeal.τ).loc Cert.SwigluBReferenceIdeal.main_arg1) = m ((c.tc : Thread Cert.SwigluBReferenceIdeal.nD Cert.SwigluBReferenceIdeal.τ).loc Cert.SwigluBReferenceIdeal.main_arg1))
      ∧ r.2.sem = fun _ => 0)

def quiescent_SwigluBReferenceIdeal_pre_swiglu_bwd_finite [hSwigluBReferenceIdeal : Cert.SwigluBReferenceIdeal.Facts] [hPre_swiglu_bwd_finite : Cert.Pre_swiglu_bwd_finite.Facts] : Prop :=
  ∀ (m : (ℓ : Loc Cert.SwigluBReferenceIdeal.nD Cert.SwigluBReferenceIdeal.τ Cert.SwigluBReferenceIdeal.sig) → Buf (Elt Ideal) ℓ) (g : Dev Cert.SwigluBReferenceIdeal.nD → PrngReg), Pre_SwigluBReferenceIdeal_swiglu_bwd_finite m →
    θ_run (Cert.SwigluBReferenceIdeal.defs (F := Ideal)) (onTc (τ := Cert.SwigluBReferenceIdeal.τ) (Cert.SwigluBReferenceIdeal.main (F := Ideal))) ⟨m, fun _ => 0, g⟩ (fun r => (∀ c : Dev Cert.SwigluBReferenceIdeal.nD,
      r.2.mem ((c.tc : Thread Cert.SwigluBReferenceIdeal.nD Cert.SwigluBReferenceIdeal.τ).loc Cert.SwigluBReferenceIdeal.main_arg0) = m ((c.tc : Thread Cert.SwigluBReferenceIdeal.nD Cert.SwigluBReferenceIdeal.τ).loc Cert.SwigluBReferenceIdeal.main_arg0)
      ∧ r.2.mem ((c.tc : Thread Cert.SwigluBReferenceIdeal.nD Cert.SwigluBReferenceIdeal.τ).loc Cert.SwigluBReferenceIdeal.main_arg1) = m ((c.tc : Thread Cert.SwigluBReferenceIdeal.nD Cert.SwigluBReferenceIdeal.τ).loc Cert.SwigluBReferenceIdeal.main_arg1))
      ∧ r.2.sem = fun _ => 0)

def quiescent_SwigluF [hSwigluF : Cert.SwigluF.Facts] : Prop :=
  ∀ (m : (ℓ : Loc Cert.SwigluF.nD Cert.SwigluF.τ Cert.SwigluF.sig) → Buf (Elt Bits) ℓ) (g : Dev Cert.SwigluF.nD → PrngReg), Pre_SwigluF m →
    θ_run (Cert.SwigluF.defs (F := Bits)) (onTc (τ := Cert.SwigluF.τ) (Cert.SwigluF.main (F := Bits))) ⟨m, fun _ => 0, g⟩ (fun r => (∀ c : Dev Cert.SwigluF.nD,
      r.2.mem ((c.tc : Thread Cert.SwigluF.nD Cert.SwigluF.τ).loc Cert.SwigluF.main_arg0) = m ((c.tc : Thread Cert.SwigluF.nD Cert.SwigluF.τ).loc Cert.SwigluF.main_arg0))
      ∧ r.2.sem = fun _ => 0)

def quiescent_SwigluFIdeal [hSwigluFIdeal : Cert.SwigluFIdeal.Facts] : Prop :=
  ∀ (m : (ℓ : Loc Cert.SwigluFIdeal.nD Cert.SwigluFIdeal.τ Cert.SwigluFIdeal.sig) → Buf (Elt Ideal) ℓ) (g : Dev Cert.SwigluFIdeal.nD → PrngReg), Pre_SwigluFIdeal m →
    θ_run (Cert.SwigluFIdeal.defs (F := Ideal)) (onTc (τ := Cert.SwigluFIdeal.τ) (Cert.SwigluFIdeal.main (F := Ideal))) ⟨m, fun _ => 0, g⟩ (fun r => (∀ c : Dev Cert.SwigluFIdeal.nD,
      r.2.mem ((c.tc : Thread Cert.SwigluFIdeal.nD Cert.SwigluFIdeal.τ).loc Cert.SwigluFIdeal.main_arg0) = m ((c.tc : Thread Cert.SwigluFIdeal.nD Cert.SwigluFIdeal.τ).loc Cert.SwigluFIdeal.main_arg0))
      ∧ r.2.sem = fun _ => 0)

def quiescent_SwigluFReferenceIdeal [hSwigluFReferenceIdeal : Cert.SwigluFReferenceIdeal.Facts] : Prop :=
  ∀ (m : (ℓ : Loc Cert.SwigluFReferenceIdeal.nD Cert.SwigluFReferenceIdeal.τ Cert.SwigluFReferenceIdeal.sig) → Buf (Elt Ideal) ℓ) (g : Dev Cert.SwigluFReferenceIdeal.nD → PrngReg), Pre_SwigluFReferenceIdeal m →
    θ_run (Cert.SwigluFReferenceIdeal.defs (F := Ideal)) (onTc (τ := Cert.SwigluFReferenceIdeal.τ) (Cert.SwigluFReferenceIdeal.main (F := Ideal))) ⟨m, fun _ => 0, g⟩ (fun r => (∀ c : Dev Cert.SwigluFReferenceIdeal.nD,
      r.2.mem ((c.tc : Thread Cert.SwigluFReferenceIdeal.nD Cert.SwigluFReferenceIdeal.τ).loc Cert.SwigluFReferenceIdeal.main_arg0) = m ((c.tc : Thread Cert.SwigluFReferenceIdeal.nD Cert.SwigluFReferenceIdeal.τ).loc Cert.SwigluFReferenceIdeal.main_arg0))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecReferenceIdeal [hAdamVecReferenceIdeal : Cert.AdamVecReferenceIdeal.Facts] : Prop :=
  ∀ (m : (ℓ : Loc Cert.AdamVecReferenceIdeal.nD Cert.AdamVecReferenceIdeal.τ Cert.AdamVecReferenceIdeal.sig) → Buf (Elt Ideal) ℓ) (g : Dev Cert.AdamVecReferenceIdeal.nD → PrngReg), Pre_AdamVecReferenceIdeal m →
    θ_run (Cert.AdamVecReferenceIdeal.defs (F := Ideal)) (onTc (τ := Cert.AdamVecReferenceIdeal.τ) (Cert.AdamVecReferenceIdeal.main (F := Ideal))) ⟨m, fun _ => 0, g⟩ (fun r => (∀ c : Dev Cert.AdamVecReferenceIdeal.nD,
      r.2.mem ((c.tc : Thread Cert.AdamVecReferenceIdeal.nD Cert.AdamVecReferenceIdeal.τ).loc Cert.AdamVecReferenceIdeal.main_arg0) = m ((c.tc : Thread Cert.AdamVecReferenceIdeal.nD Cert.AdamVecReferenceIdeal.τ).loc Cert.AdamVecReferenceIdeal.main_arg0)
      ∧ r.2.mem ((c.tc : Thread Cert.AdamVecReferenceIdeal.nD Cert.AdamVecReferenceIdeal.τ).loc Cert.AdamVecReferenceIdeal.main_arg1) = m ((c.tc : Thread Cert.AdamVecReferenceIdeal.nD Cert.AdamVecReferenceIdeal.τ).loc Cert.AdamVecReferenceIdeal.main_arg1)
      ∧ r.2.mem ((c.tc : Thread Cert.AdamVecReferenceIdeal.nD Cert.AdamVecReferenceIdeal.τ).loc Cert.AdamVecReferenceIdeal.main_arg2) = m ((c.tc : Thread Cert.AdamVecReferenceIdeal.nD Cert.AdamVecReferenceIdeal.τ).loc Cert.AdamVecReferenceIdeal.main_arg2)
      ∧ r.2.mem ((c.tc : Thread Cert.AdamVecReferenceIdeal.nD Cert.AdamVecReferenceIdeal.τ).loc Cert.AdamVecReferenceIdeal.main_arg3) = m ((c.tc : Thread Cert.AdamVecReferenceIdeal.nD Cert.AdamVecReferenceIdeal.τ).loc Cert.AdamVecReferenceIdeal.main_arg3))
      ∧ r.2.sem = fun _ => 0)

def quiescent_AdamSinks [hAdamSinks : Cert.AdamSinks.Facts] : Prop :=
  ∀ (m : (ℓ : Loc Cert.AdamSinks.nD Cert.AdamSinks.τ Cert.AdamSinks.sig) → Buf (Elt Bits) ℓ) (g : Dev Cert.AdamSinks.nD → PrngReg), Pre_AdamSinks m →
    θ_run (Cert.AdamSinks.defs (F := Bits)) (onTc (τ := Cert.AdamSinks.τ) (Cert.AdamSinks.main (F := Bits))) ⟨m, fun _ => 0, g⟩ (fun r => (∀ c : Dev Cert.AdamSinks.nD,
      r.2.mem ((c.tc : Thread Cert.AdamSinks.nD Cert.AdamSinks.τ).loc Cert.AdamSinks.main_arg0) = m ((c.tc : Thread Cert.AdamSinks.nD Cert.AdamSinks.τ).loc Cert.AdamSinks.main_arg0)
      ∧ r.2.mem ((c.tc : Thread Cert.AdamSinks.nD Cert.AdamSinks.τ).loc Cert.AdamSinks.main_arg1) = m ((c.tc : Thread Cert.AdamSinks.nD Cert.AdamSinks.τ).loc Cert.AdamSinks.main_arg1)
      ∧ r.2.mem ((c.tc : Thread Cert.AdamSinks.nD Cert.AdamSinks.τ).loc Cert.AdamSinks.main_arg2) = m ((c.tc : Thread Cert.AdamSinks.nD Cert.AdamSinks.τ).loc Cert.AdamSinks.main_arg2)
      ∧ r.2.mem ((c.tc : Thread Cert.AdamSinks.nD Cert.AdamSinks.τ).loc Cert.AdamSinks.main_arg3) = m ((c.tc : Thread Cert.AdamSinks.nD Cert.AdamSinks.τ).loc Cert.AdamSinks.main_arg3))
      ∧ r.2.sem = fun _ => 0)

def quiescent_AdamSinksIdeal [hAdamSinksIdeal : Cert.AdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg), Pre_AdamSinksIdeal m →
    θ_run (Cert.AdamSinksIdeal.defs (F := Ideal)) (onTc (τ := Cert.AdamSinksIdeal.τ) (Cert.AdamSinksIdeal.main (F := Ideal))) ⟨m, fun _ => 0, g⟩ (fun r => (∀ c : Dev Cert.AdamSinksIdeal.nD,
      r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
      ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
      ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
      ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ r.2.sem = fun _ => 0)

def quiescent_AdamSinksReferenceIdeal [hAdamSinksReferenceIdeal : Cert.AdamSinksReferenceIdeal.Facts] : Prop :=
  ∀ (m : (ℓ : Loc Cert.AdamSinksReferenceIdeal.nD Cert.AdamSinksReferenceIdeal.τ Cert.AdamSinksReferenceIdeal.sig) → Buf (Elt Ideal) ℓ) (g : Dev Cert.AdamSinksReferenceIdeal.nD → PrngReg), Pre_AdamSinksReferenceIdeal m →
    θ_run (Cert.AdamSinksReferenceIdeal.defs (F := Ideal)) (onTc (τ := Cert.AdamSinksReferenceIdeal.τ) (Cert.AdamSinksReferenceIdeal.main (F := Ideal))) ⟨m, fun _ => 0, g⟩ (fun r => (∀ c : Dev Cert.AdamSinksReferenceIdeal.nD,
      r.2.mem ((c.tc : Thread Cert.AdamSinksReferenceIdeal.nD Cert.AdamSinksReferenceIdeal.τ).loc Cert.AdamSinksReferenceIdeal.main_arg0) = m ((c.tc : Thread Cert.AdamSinksReferenceIdeal.nD Cert.AdamSinksReferenceIdeal.τ).loc Cert.AdamSinksReferenceIdeal.main_arg0)
      ∧ r.2.mem ((c.tc : Thread Cert.AdamSinksReferenceIdeal.nD Cert.AdamSinksReferenceIdeal.τ).loc Cert.AdamSinksReferenceIdeal.main_arg1) = m ((c.tc : Thread Cert.AdamSinksReferenceIdeal.nD Cert.AdamSinksReferenceIdeal.τ).loc Cert.AdamSinksReferenceIdeal.main_arg1)
      ∧ r.2.mem ((c.tc : Thread Cert.AdamSinksReferenceIdeal.nD Cert.AdamSinksReferenceIdeal.τ).loc Cert.AdamSinksReferenceIdeal.main_arg2) = m ((c.tc : Thread Cert.AdamSinksReferenceIdeal.nD Cert.AdamSinksReferenceIdeal.τ).loc Cert.AdamSinksReferenceIdeal.main_arg2)
      ∧ r.2.mem ((c.tc : Thread Cert.AdamSinksReferenceIdeal.nD Cert.AdamSinksReferenceIdeal.τ).loc Cert.AdamSinksReferenceIdeal.main_arg3) = m ((c.tc : Thread Cert.AdamSinksReferenceIdeal.nD Cert.AdamSinksReferenceIdeal.τ).loc Cert.AdamSinksReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamInUp [hAdamInUp : Cert.AdamInUp.Facts] : Prop :=
  ∀ (m : (ℓ : Loc Cert.AdamInUp.nD Cert.AdamInUp.τ Cert.AdamInUp.sig) → Buf (Elt Bits) ℓ) (g : Dev Cert.AdamInUp.nD → PrngReg), Pre_AdamInUp m →
    θ_run (Cert.AdamInUp.defs (F := Bits)) (onTc (τ := Cert.AdamInUp.τ) (Cert.AdamInUp.main (F := Bits))) ⟨m, fun _ => 0, g⟩ (fun r => (∀ c : Dev Cert.AdamInUp.nD,
      r.2.mem ((c.tc : Thread Cert.AdamInUp.nD Cert.AdamInUp.τ).loc Cert.AdamInUp.main_arg0) = m ((c.tc : Thread Cert.AdamInUp.nD Cert.AdamInUp.τ).loc Cert.AdamInUp.main_arg0)
      ∧ r.2.mem ((c.tc : Thread Cert.AdamInUp.nD Cert.AdamInUp.τ).loc Cert.AdamInUp.main_arg1) = m ((c.tc : Thread Cert.AdamInUp.nD Cert.AdamInUp.τ).loc Cert.AdamInUp.main_arg1)
      ∧ r.2.mem ((c.tc : Thread Cert.AdamInUp.nD Cert.AdamInUp.τ).loc Cert.AdamInUp.main_arg2) = m ((c.tc : Thread Cert.AdamInUp.nD Cert.AdamInUp.τ).loc Cert.AdamInUp.main_arg2)
      ∧ r.2.mem ((c.tc : Thread Cert.AdamInUp.nD Cert.AdamInUp.τ).loc Cert.AdamInUp.main_arg3) = m ((c.tc : Thread Cert.AdamInUp.nD Cert.AdamInUp.τ).loc Cert.AdamInUp.main_arg3))
      ∧ r.2.sem = fun _ => 0)

def quiescent_AdamInUpIdeal [hAdamInUpIdeal : Cert.AdamInUpIdeal.Facts] : Prop :=
  ∀ (m : (ℓ : Loc Cert.AdamInUpIdeal.nD Cert.AdamInUpIdeal.τ Cert.AdamInUpIdeal.sig) → Buf (Elt Ideal) ℓ) (g : Dev Cert.AdamInUpIdeal.nD → PrngReg), Pre_AdamInUpIdeal m →
    θ_run (Cert.AdamInUpIdeal.defs (F := Ideal)) (onTc (τ := Cert.AdamInUpIdeal.τ) (Cert.AdamInUpIdeal.main (F := Ideal))) ⟨m, fun _ => 0, g⟩ (fun r => (∀ c : Dev Cert.AdamInUpIdeal.nD,
      r.2.mem ((c.tc : Thread Cert.AdamInUpIdeal.nD Cert.AdamInUpIdeal.τ).loc Cert.AdamInUpIdeal.main_arg0) = m ((c.tc : Thread Cert.AdamInUpIdeal.nD Cert.AdamInUpIdeal.τ).loc Cert.AdamInUpIdeal.main_arg0)
      ∧ r.2.mem ((c.tc : Thread Cert.AdamInUpIdeal.nD Cert.AdamInUpIdeal.τ).loc Cert.AdamInUpIdeal.main_arg1) = m ((c.tc : Thread Cert.AdamInUpIdeal.nD Cert.AdamInUpIdeal.τ).loc Cert.AdamInUpIdeal.main_arg1)
      ∧ r.2.mem ((c.tc : Thread Cert.AdamInUpIdeal.nD Cert.AdamInUpIdeal.τ).loc Cert.AdamInUpIdeal.main_arg2) = m ((c.tc : Thread Cert.AdamInUpIdeal.nD Cert.AdamInUpIdeal.τ).loc Cert.AdamInUpIdeal.main_arg2)
      ∧ r.2.mem ((c.tc : Thread Cert.AdamInUpIdeal.nD Cert.AdamInUpIdeal.τ).loc Cert.AdamInUpIdeal.main_arg3) = m ((c.tc : Thread Cert.AdamInUpIdeal.nD Cert.AdamInUpIdeal.τ).loc Cert.AdamInUpIdeal.main_arg3))
      ∧ r.2.sem = fun _ => 0)

def quiescent_AdamInUpReferenceIdeal [hAdamInUpReferenceIdeal : Cert.AdamInUpReferenceIdeal.Facts] : Prop :=
  ∀ (m : (ℓ : Loc Cert.AdamInUpReferenceIdeal.nD Cert.AdamInUpReferenceIdeal.τ Cert.AdamInUpReferenceIdeal.sig) → Buf (Elt Ideal) ℓ) (g : Dev Cert.AdamInUpReferenceIdeal.nD → PrngReg), Pre_AdamInUpReferenceIdeal m →
    θ_run (Cert.AdamInUpReferenceIdeal.defs (F := Ideal)) (onTc (τ := Cert.AdamInUpReferenceIdeal.τ) (Cert.AdamInUpReferenceIdeal.main (F := Ideal))) ⟨m, fun _ => 0, g⟩ (fun r => (∀ c : Dev Cert.AdamInUpReferenceIdeal.nD,
      r.2.mem ((c.tc : Thread Cert.AdamInUpReferenceIdeal.nD Cert.AdamInUpReferenceIdeal.τ).loc Cert.AdamInUpReferenceIdeal.main_arg0) = m ((c.tc : Thread Cert.AdamInUpReferenceIdeal.nD Cert.AdamInUpReferenceIdeal.τ).loc Cert.AdamInUpReferenceIdeal.main_arg0)
      ∧ r.2.mem ((c.tc : Thread Cert.AdamInUpReferenceIdeal.nD Cert.AdamInUpReferenceIdeal.τ).loc Cert.AdamInUpReferenceIdeal.main_arg1) = m ((c.tc : Thread Cert.AdamInUpReferenceIdeal.nD Cert.AdamInUpReferenceIdeal.τ).loc Cert.AdamInUpReferenceIdeal.main_arg1)
      ∧ r.2.mem ((c.tc : Thread Cert.AdamInUpReferenceIdeal.nD Cert.AdamInUpReferenceIdeal.τ).loc Cert.AdamInUpReferenceIdeal.main_arg2) = m ((c.tc : Thread Cert.AdamInUpReferenceIdeal.nD Cert.AdamInUpReferenceIdeal.τ).loc Cert.AdamInUpReferenceIdeal.main_arg2)
      ∧ r.2.mem ((c.tc : Thread Cert.AdamInUpReferenceIdeal.nD Cert.AdamInUpReferenceIdeal.τ).loc Cert.AdamInUpReferenceIdeal.main_arg3) = m ((c.tc : Thread Cert.AdamInUpReferenceIdeal.nD Cert.AdamInUpReferenceIdeal.τ).loc Cert.AdamInUpReferenceIdeal.main_arg3))
      ∧ r.2.sem = fun _ => 0)

def quiescent_AdamInLow [hAdamInLow : Cert.AdamInLow.Facts] : Prop :=
  ∀ (m : (ℓ : Loc Cert.AdamInLow.nD Cert.AdamInLow.τ Cert.AdamInLow.sig) → Buf (Elt Bits) ℓ) (g : Dev Cert.AdamInLow.nD → PrngReg), Pre_AdamInLow m →
    θ_run (Cert.AdamInLow.defs (F := Bits)) (onTc (τ := Cert.AdamInLow.τ) (Cert.AdamInLow.main (F := Bits))) ⟨m, fun _ => 0, g⟩ (fun r => (∀ c : Dev Cert.AdamInLow.nD,
      r.2.mem ((c.tc : Thread Cert.AdamInLow.nD Cert.AdamInLow.τ).loc Cert.AdamInLow.main_arg0) = m ((c.tc : Thread Cert.AdamInLow.nD Cert.AdamInLow.τ).loc Cert.AdamInLow.main_arg0)
      ∧ r.2.mem ((c.tc : Thread Cert.AdamInLow.nD Cert.AdamInLow.τ).loc Cert.AdamInLow.main_arg1) = m ((c.tc : Thread Cert.AdamInLow.nD Cert.AdamInLow.τ).loc Cert.AdamInLow.main_arg1)
      ∧ r.2.mem ((c.tc : Thread Cert.AdamInLow.nD Cert.AdamInLow.τ).loc Cert.AdamInLow.main_arg2) = m ((c.tc : Thread Cert.AdamInLow.nD Cert.AdamInLow.τ).loc Cert.AdamInLow.main_arg2)
      ∧ r.2.mem ((c.tc : Thread Cert.AdamInLow.nD Cert.AdamInLow.τ).loc Cert.AdamInLow.main_arg3) = m ((c.tc : Thread Cert.AdamInLow.nD Cert.AdamInLow.τ).loc Cert.AdamInLow.main_arg3)
      ∧ r.2.mem ((c.tc : Thread Cert.AdamInLow.nD Cert.AdamInLow.τ).loc Cert.AdamInLow.main_arg4) = m ((c.tc : Thread Cert.AdamInLow.nD Cert.AdamInLow.τ).loc Cert.AdamInLow.main_arg4)
      ∧ r.2.mem ((c.tc : Thread Cert.AdamInLow.nD Cert.AdamInLow.τ).loc Cert.AdamInLow.main_arg5) = m ((c.tc : Thread Cert.AdamInLow.nD Cert.AdamInLow.τ).loc Cert.AdamInLow.main_arg5)
      ∧ r.2.mem ((c.tc : Thread Cert.AdamInLow.nD Cert.AdamInLow.τ).loc Cert.AdamInLow.main_arg6) = m ((c.tc : Thread Cert.AdamInLow.nD Cert.AdamInLow.τ).loc Cert.AdamInLow.main_arg6)
      ∧ r.2.mem ((c.tc : Thread Cert.AdamInLow.nD Cert.AdamInLow.τ).loc Cert.AdamInLow.main_arg7) = m ((c.tc : Thread Cert.AdamInLow.nD Cert.AdamInLow.τ).loc Cert.AdamInLow.main_arg7))
      ∧ r.2.sem = fun _ => 0)

def quiescent_AdamInLowIdeal [hAdamInLowIdeal : Cert.AdamInLowIdeal.Facts] : Prop :=
  ∀ (m : (ℓ : Loc Cert.AdamInLowIdeal.nD Cert.AdamInLowIdeal.τ Cert.AdamInLowIdeal.sig) → Buf (Elt Ideal) ℓ) (g : Dev Cert.AdamInLowIdeal.nD → PrngReg), Pre_AdamInLowIdeal m →
    θ_run (Cert.AdamInLowIdeal.defs (F := Ideal)) (onTc (τ := Cert.AdamInLowIdeal.τ) (Cert.AdamInLowIdeal.main (F := Ideal))) ⟨m, fun _ => 0, g⟩ (fun r => (∀ c : Dev Cert.AdamInLowIdeal.nD,
      r.2.mem ((c.tc : Thread Cert.AdamInLowIdeal.nD Cert.AdamInLowIdeal.τ).loc Cert.AdamInLowIdeal.main_arg0) = m ((c.tc : Thread Cert.AdamInLowIdeal.nD Cert.AdamInLowIdeal.τ).loc Cert.AdamInLowIdeal.main_arg0)
      ∧ r.2.mem ((c.tc : Thread Cert.AdamInLowIdeal.nD Cert.AdamInLowIdeal.τ).loc Cert.AdamInLowIdeal.main_arg1) = m ((c.tc : Thread Cert.AdamInLowIdeal.nD Cert.AdamInLowIdeal.τ).loc Cert.AdamInLowIdeal.main_arg1)
      ∧ r.2.mem ((c.tc : Thread Cert.AdamInLowIdeal.nD Cert.AdamInLowIdeal.τ).loc Cert.AdamInLowIdeal.main_arg2) = m ((c.tc : Thread Cert.AdamInLowIdeal.nD Cert.AdamInLowIdeal.τ).loc Cert.AdamInLowIdeal.main_arg2)
      ∧ r.2.mem ((c.tc : Thread Cert.AdamInLowIdeal.nD Cert.AdamInLowIdeal.τ).loc Cert.AdamInLowIdeal.main_arg3) = m ((c.tc : Thread Cert.AdamInLowIdeal.nD Cert.AdamInLowIdeal.τ).loc Cert.AdamInLowIdeal.main_arg3)
      ∧ r.2.mem ((c.tc : Thread Cert.AdamInLowIdeal.nD Cert.AdamInLowIdeal.τ).loc Cert.AdamInLowIdeal.main_arg4) = m ((c.tc : Thread Cert.AdamInLowIdeal.nD Cert.AdamInLowIdeal.τ).loc Cert.AdamInLowIdeal.main_arg4)
      ∧ r.2.mem ((c.tc : Thread Cert.AdamInLowIdeal.nD Cert.AdamInLowIdeal.τ).loc Cert.AdamInLowIdeal.main_arg5) = m ((c.tc : Thread Cert.AdamInLowIdeal.nD Cert.AdamInLowIdeal.τ).loc Cert.AdamInLowIdeal.main_arg5)
      ∧ r.2.mem ((c.tc : Thread Cert.AdamInLowIdeal.nD Cert.AdamInLowIdeal.τ).loc Cert.AdamInLowIdeal.main_arg6) = m ((c.tc : Thread Cert.AdamInLowIdeal.nD Cert.AdamInLowIdeal.τ).loc Cert.AdamInLowIdeal.main_arg6)
      ∧ r.2.mem ((c.tc : Thread Cert.AdamInLowIdeal.nD Cert.AdamInLowIdeal.τ).loc Cert.AdamInLowIdeal.main_arg7) = m ((c.tc : Thread Cert.AdamInLowIdeal.nD Cert.AdamInLowIdeal.τ).loc Cert.AdamInLowIdeal.main_arg7))
      ∧ r.2.sem = fun _ => 0)

def quiescent_AdamInLowReferenceIdeal [hAdamInLowReferenceIdeal : Cert.AdamInLowReferenceIdeal.Facts] : Prop :=
  ∀ (m : (ℓ : Loc Cert.AdamInLowReferenceIdeal.nD Cert.AdamInLowReferenceIdeal.τ Cert.AdamInLowReferenceIdeal.sig) → Buf (Elt Ideal) ℓ) (g : Dev Cert.AdamInLowReferenceIdeal.nD → PrngReg), Pre_AdamInLowReferenceIdeal m →
    θ_run (Cert.AdamInLowReferenceIdeal.defs (F := Ideal)) (onTc (τ := Cert.AdamInLowReferenceIdeal.τ) (Cert.AdamInLowReferenceIdeal.main (F := Ideal))) ⟨m, fun _ => 0, g⟩ (fun r => (∀ c : Dev Cert.AdamInLowReferenceIdeal.nD,
      r.2.mem ((c.tc : Thread Cert.AdamInLowReferenceIdeal.nD Cert.AdamInLowReferenceIdeal.τ).loc Cert.AdamInLowReferenceIdeal.main_arg0) = m ((c.tc : Thread Cert.AdamInLowReferenceIdeal.nD Cert.AdamInLowReferenceIdeal.τ).loc Cert.AdamInLowReferenceIdeal.main_arg0)
      ∧ r.2.mem ((c.tc : Thread Cert.AdamInLowReferenceIdeal.nD Cert.AdamInLowReferenceIdeal.τ).loc Cert.AdamInLowReferenceIdeal.main_arg1) = m ((c.tc : Thread Cert.AdamInLowReferenceIdeal.nD Cert.AdamInLowReferenceIdeal.τ).loc Cert.AdamInLowReferenceIdeal.main_arg1)
      ∧ r.2.mem ((c.tc : Thread Cert.AdamInLowReferenceIdeal.nD Cert.AdamInLowReferenceIdeal.τ).loc Cert.AdamInLowReferenceIdeal.main_arg2) = m ((c.tc : Thread Cert.AdamInLowReferenceIdeal.nD Cert.AdamInLowReferenceIdeal.τ).loc Cert.AdamInLowReferenceIdeal.main_arg2)
      ∧ r.2.mem ((c.tc : Thread Cert.AdamInLowReferenceIdeal.nD Cert.AdamInLowReferenceIdeal.τ).loc Cert.AdamInLowReferenceIdeal.main_arg3) = m ((c.tc : Thread Cert.AdamInLowReferenceIdeal.nD Cert.AdamInLowReferenceIdeal.τ).loc Cert.AdamInLowReferenceIdeal.main_arg3)
      ∧ r.2.mem ((c.tc : Thread Cert.AdamInLowReferenceIdeal.nD Cert.AdamInLowReferenceIdeal.τ).loc Cert.AdamInLowReferenceIdeal.main_arg4) = m ((c.tc : Thread Cert.AdamInLowReferenceIdeal.nD Cert.AdamInLowReferenceIdeal.τ).loc Cert.AdamInLowReferenceIdeal.main_arg4)
      ∧ r.2.mem ((c.tc : Thread Cert.AdamInLowReferenceIdeal.nD Cert.AdamInLowReferenceIdeal.τ).loc Cert.AdamInLowReferenceIdeal.main_arg5) = m ((c.tc : Thread Cert.AdamInLowReferenceIdeal.nD Cert.AdamInLowReferenceIdeal.τ).loc Cert.AdamInLowReferenceIdeal.main_arg5)
      ∧ r.2.mem ((c.tc : Thread Cert.AdamInLowReferenceIdeal.nD Cert.AdamInLowReferenceIdeal.τ).loc Cert.AdamInLowReferenceIdeal.main_arg6) = m ((c.tc : Thread Cert.AdamInLowReferenceIdeal.nD Cert.AdamInLowReferenceIdeal.τ).loc Cert.AdamInLowReferenceIdeal.main_arg6)
      ∧ r.2.mem ((c.tc : Thread Cert.AdamInLowReferenceIdeal.nD Cert.AdamInLowReferenceIdeal.τ).loc Cert.AdamInLowReferenceIdeal.main_arg7) = m ((c.tc : Thread Cert.AdamInLowReferenceIdeal.nD Cert.AdamInLowReferenceIdeal.τ).loc Cert.AdamInLowReferenceIdeal.main_arg7))
      ∧ r.2.sem = fun _ => 0)

def quiescent_AdamRgUp [hAdamRgUp : Cert.AdamRgUp.Facts] : Prop :=
  ∀ (m : (ℓ : Loc Cert.AdamRgUp.nD Cert.AdamRgUp.τ Cert.AdamRgUp.sig) → Buf (Elt Bits) ℓ) (g : Dev Cert.AdamRgUp.nD → PrngReg), Pre_AdamRgUp m →
    θ_run (Cert.AdamRgUp.defs (F := Bits)) (onTc (τ := Cert.AdamRgUp.τ) (Cert.AdamRgUp.main (F := Bits))) ⟨m, fun _ => 0, g⟩ (fun r => (∀ c : Dev Cert.AdamRgUp.nD,
      r.2.mem ((c.tc : Thread Cert.AdamRgUp.nD Cert.AdamRgUp.τ).loc Cert.AdamRgUp.main_arg0) = m ((c.tc : Thread Cert.AdamRgUp.nD Cert.AdamRgUp.τ).loc Cert.AdamRgUp.main_arg0)
      ∧ r.2.mem ((c.tc : Thread Cert.AdamRgUp.nD Cert.AdamRgUp.τ).loc Cert.AdamRgUp.main_arg1) = m ((c.tc : Thread Cert.AdamRgUp.nD Cert.AdamRgUp.τ).loc Cert.AdamRgUp.main_arg1)
      ∧ r.2.mem ((c.tc : Thread Cert.AdamRgUp.nD Cert.AdamRgUp.τ).loc Cert.AdamRgUp.main_arg2) = m ((c.tc : Thread Cert.AdamRgUp.nD Cert.AdamRgUp.τ).loc Cert.AdamRgUp.main_arg2)
      ∧ r.2.mem ((c.tc : Thread Cert.AdamRgUp.nD Cert.AdamRgUp.τ).loc Cert.AdamRgUp.main_arg3) = m ((c.tc : Thread Cert.AdamRgUp.nD Cert.AdamRgUp.τ).loc Cert.AdamRgUp.main_arg3))
      ∧ r.2.sem = fun _ => 0)

def quiescent_AdamRgUpIdeal [hAdamRgUpIdeal : Cert.AdamRgUpIdeal.Facts] : Prop :=
  ∀ (m : (ℓ : Loc Cert.AdamRgUpIdeal.nD Cert.AdamRgUpIdeal.τ Cert.AdamRgUpIdeal.sig) → Buf (Elt Ideal) ℓ) (g : Dev Cert.AdamRgUpIdeal.nD → PrngReg), Pre_AdamRgUpIdeal m →
    θ_run (Cert.AdamRgUpIdeal.defs (F := Ideal)) (onTc (τ := Cert.AdamRgUpIdeal.τ) (Cert.AdamRgUpIdeal.main (F := Ideal))) ⟨m, fun _ => 0, g⟩ (fun r => (∀ c : Dev Cert.AdamRgUpIdeal.nD,
      r.2.mem ((c.tc : Thread Cert.AdamRgUpIdeal.nD Cert.AdamRgUpIdeal.τ).loc Cert.AdamRgUpIdeal.main_arg0) = m ((c.tc : Thread Cert.AdamRgUpIdeal.nD Cert.AdamRgUpIdeal.τ).loc Cert.AdamRgUpIdeal.main_arg0)
      ∧ r.2.mem ((c.tc : Thread Cert.AdamRgUpIdeal.nD Cert.AdamRgUpIdeal.τ).loc Cert.AdamRgUpIdeal.main_arg1) = m ((c.tc : Thread Cert.AdamRgUpIdeal.nD Cert.AdamRgUpIdeal.τ).loc Cert.AdamRgUpIdeal.main_arg1)
      ∧ r.2.mem ((c.tc : Thread Cert.AdamRgUpIdeal.nD Cert.AdamRgUpIdeal.τ).loc Cert.AdamRgUpIdeal.main_arg2) = m ((c.tc : Thread Cert.AdamRgUpIdeal.nD Cert.AdamRgUpIdeal.τ).loc Cert.AdamRgUpIdeal.main_arg2)
      ∧ r.2.mem ((c.tc : Thread Cert.AdamRgUpIdeal.nD Cert.AdamRgUpIdeal.τ).loc Cert.AdamRgUpIdeal.main_arg3) = m ((c.tc : Thread Cert.AdamRgUpIdeal.nD Cert.AdamRgUpIdeal.τ).loc Cert.AdamRgUpIdeal.main_arg3))
      ∧ r.2.sem = fun _ => 0)

def quiescent_AdamRgUpReferenceIdeal [hAdamRgUpReferenceIdeal : Cert.AdamRgUpReferenceIdeal.Facts] : Prop :=
  ∀ (m : (ℓ : Loc Cert.AdamRgUpReferenceIdeal.nD Cert.AdamRgUpReferenceIdeal.τ Cert.AdamRgUpReferenceIdeal.sig) → Buf (Elt Ideal) ℓ) (g : Dev Cert.AdamRgUpReferenceIdeal.nD → PrngReg), Pre_AdamRgUpReferenceIdeal m →
    θ_run (Cert.AdamRgUpReferenceIdeal.defs (F := Ideal)) (onTc (τ := Cert.AdamRgUpReferenceIdeal.τ) (Cert.AdamRgUpReferenceIdeal.main (F := Ideal))) ⟨m, fun _ => 0, g⟩ (fun r => (∀ c : Dev Cert.AdamRgUpReferenceIdeal.nD,
      r.2.mem ((c.tc : Thread Cert.AdamRgUpReferenceIdeal.nD Cert.AdamRgUpReferenceIdeal.τ).loc Cert.AdamRgUpReferenceIdeal.main_arg0) = m ((c.tc : Thread Cert.AdamRgUpReferenceIdeal.nD Cert.AdamRgUpReferenceIdeal.τ).loc Cert.AdamRgUpReferenceIdeal.main_arg0)
      ∧ r.2.mem ((c.tc : Thread Cert.AdamRgUpReferenceIdeal.nD Cert.AdamRgUpReferenceIdeal.τ).loc Cert.AdamRgUpReferenceIdeal.main_arg1) = m ((c.tc : Thread Cert.AdamRgUpReferenceIdeal.nD Cert.AdamRgUpReferenceIdeal.τ).loc Cert.AdamRgUpReferenceIdeal.main_arg1)
      ∧ r.2.mem ((c.tc : Thread Cert.AdamRgUpReferenceIdeal.nD Cert.AdamRgUpReferenceIdeal.τ).loc Cert.AdamRgUpReferenceIdeal.main_arg2) = m ((c.tc : Thread Cert.AdamRgUpReferenceIdeal.nD Cert.AdamRgUpReferenceIdeal.τ).loc Cert.AdamRgUpReferenceIdeal.main_arg2)
      ∧ r.2.mem ((c.tc : Thread Cert.AdamRgUpReferenceIdeal.nD Cert.AdamRgUpReferenceIdeal.τ).loc Cert.AdamRgUpReferenceIdeal.main_arg3) = m ((c.tc : Thread Cert.AdamRgUpReferenceIdeal.nD Cert.AdamRgUpReferenceIdeal.τ).loc Cert.AdamRgUpReferenceIdeal.main_arg3))
      ∧ r.2.sem = fun _ => 0)

def quiescent_AdamRgLow [hAdamRgLow : Cert.AdamRgLow.Facts] : Prop :=
  ∀ (m : (ℓ : Loc Cert.AdamRgLow.nD Cert.AdamRgLow.τ Cert.AdamRgLow.sig) → Buf (Elt Bits) ℓ) (g : Dev Cert.AdamRgLow.nD → PrngReg), Pre_AdamRgLow m →
    θ_run (Cert.AdamRgLow.defs (F := Bits)) (onTc (τ := Cert.AdamRgLow.τ) (Cert.AdamRgLow.main (F := Bits))) ⟨m, fun _ => 0, g⟩ (fun r => (∀ c : Dev Cert.AdamRgLow.nD,
      r.2.mem ((c.tc : Thread Cert.AdamRgLow.nD Cert.AdamRgLow.τ).loc Cert.AdamRgLow.main_arg0) = m ((c.tc : Thread Cert.AdamRgLow.nD Cert.AdamRgLow.τ).loc Cert.AdamRgLow.main_arg0)
      ∧ r.2.mem ((c.tc : Thread Cert.AdamRgLow.nD Cert.AdamRgLow.τ).loc Cert.AdamRgLow.main_arg1) = m ((c.tc : Thread Cert.AdamRgLow.nD Cert.AdamRgLow.τ).loc Cert.AdamRgLow.main_arg1)
      ∧ r.2.mem ((c.tc : Thread Cert.AdamRgLow.nD Cert.AdamRgLow.τ).loc Cert.AdamRgLow.main_arg2) = m ((c.tc : Thread Cert.AdamRgLow.nD Cert.AdamRgLow.τ).loc Cert.AdamRgLow.main_arg2)
      ∧ r.2.mem ((c.tc : Thread Cert.AdamRgLow.nD Cert.AdamRgLow.τ).loc Cert.AdamRgLow.main_arg3) = m ((c.tc : Thread Cert.AdamRgLow.nD Cert.AdamRgLow.τ).loc Cert.AdamRgLow.main_arg3)
      ∧ r.2.mem ((c.tc : Thread Cert.AdamRgLow.nD Cert.AdamRgLow.τ).loc Cert.AdamRgLow.main_arg4) = m ((c.tc : Thread Cert.AdamRgLow.nD Cert.AdamRgLow.τ).loc Cert.AdamRgLow.main_arg4)
      ∧ r.2.mem ((c.tc : Thread Cert.AdamRgLow.nD Cert.AdamRgLow.τ).loc Cert.AdamRgLow.main_arg5) = m ((c.tc : Thread Cert.AdamRgLow.nD Cert.AdamRgLow.τ).loc Cert.AdamRgLow.main_arg5)
      ∧ r.2.mem ((c.tc : Thread Cert.AdamRgLow.nD Cert.AdamRgLow.τ).loc Cert.AdamRgLow.main_arg6) = m ((c.tc : Thread Cert.AdamRgLow.nD Cert.AdamRgLow.τ).loc Cert.AdamRgLow.main_arg6)
      ∧ r.2.mem ((c.tc : Thread Cert.AdamRgLow.nD Cert.AdamRgLow.τ).loc Cert.AdamRgLow.main_arg7) = m ((c.tc : Thread Cert.AdamRgLow.nD Cert.AdamRgLow.τ).loc Cert.AdamRgLow.main_arg7))
      ∧ r.2.sem = fun _ => 0)

def quiescent_AdamRgLowIdeal [hAdamRgLowIdeal : Cert.AdamRgLowIdeal.Facts] : Prop :=
  ∀ (m : (ℓ : Loc Cert.AdamRgLowIdeal.nD Cert.AdamRgLowIdeal.τ Cert.AdamRgLowIdeal.sig) → Buf (Elt Ideal) ℓ) (g : Dev Cert.AdamRgLowIdeal.nD → PrngReg), Pre_AdamRgLowIdeal m →
    θ_run (Cert.AdamRgLowIdeal.defs (F := Ideal)) (onTc (τ := Cert.AdamRgLowIdeal.τ) (Cert.AdamRgLowIdeal.main (F := Ideal))) ⟨m, fun _ => 0, g⟩ (fun r => (∀ c : Dev Cert.AdamRgLowIdeal.nD,
      r.2.mem ((c.tc : Thread Cert.AdamRgLowIdeal.nD Cert.AdamRgLowIdeal.τ).loc Cert.AdamRgLowIdeal.main_arg0) = m ((c.tc : Thread Cert.AdamRgLowIdeal.nD Cert.AdamRgLowIdeal.τ).loc Cert.AdamRgLowIdeal.main_arg0)
      ∧ r.2.mem ((c.tc : Thread Cert.AdamRgLowIdeal.nD Cert.AdamRgLowIdeal.τ).loc Cert.AdamRgLowIdeal.main_arg1) = m ((c.tc : Thread Cert.AdamRgLowIdeal.nD Cert.AdamRgLowIdeal.τ).loc Cert.AdamRgLowIdeal.main_arg1)
      ∧ r.2.mem ((c.tc : Thread Cert.AdamRgLowIdeal.nD Cert.AdamRgLowIdeal.τ).loc Cert.AdamRgLowIdeal.main_arg2) = m ((c.tc : Thread Cert.AdamRgLowIdeal.nD Cert.AdamRgLowIdeal.τ).loc Cert.AdamRgLowIdeal.main_arg2)
      ∧ r.2.mem ((c.tc : Thread Cert.AdamRgLowIdeal.nD Cert.AdamRgLowIdeal.τ).loc Cert.AdamRgLowIdeal.main_arg3) = m ((c.tc : Thread Cert.AdamRgLowIdeal.nD Cert.AdamRgLowIdeal.τ).loc Cert.AdamRgLowIdeal.main_arg3)
      ∧ r.2.mem ((c.tc : Thread Cert.AdamRgLowIdeal.nD Cert.AdamRgLowIdeal.τ).loc Cert.AdamRgLowIdeal.main_arg4) = m ((c.tc : Thread Cert.AdamRgLowIdeal.nD Cert.AdamRgLowIdeal.τ).loc Cert.AdamRgLowIdeal.main_arg4)
      ∧ r.2.mem ((c.tc : Thread Cert.AdamRgLowIdeal.nD Cert.AdamRgLowIdeal.τ).loc Cert.AdamRgLowIdeal.main_arg5) = m ((c.tc : Thread Cert.AdamRgLowIdeal.nD Cert.AdamRgLowIdeal.τ).loc Cert.AdamRgLowIdeal.main_arg5)
      ∧ r.2.mem ((c.tc : Thread Cert.AdamRgLowIdeal.nD Cert.AdamRgLowIdeal.τ).loc Cert.AdamRgLowIdeal.main_arg6) = m ((c.tc : Thread Cert.AdamRgLowIdeal.nD Cert.AdamRgLowIdeal.τ).loc Cert.AdamRgLowIdeal.main_arg6)
      ∧ r.2.mem ((c.tc : Thread Cert.AdamRgLowIdeal.nD Cert.AdamRgLowIdeal.τ).loc Cert.AdamRgLowIdeal.main_arg7) = m ((c.tc : Thread Cert.AdamRgLowIdeal.nD Cert.AdamRgLowIdeal.τ).loc Cert.AdamRgLowIdeal.main_arg7))
      ∧ r.2.sem = fun _ => 0)

def quiescent_AdamRgLowReferenceIdeal [hAdamRgLowReferenceIdeal : Cert.AdamRgLowReferenceIdeal.Facts] : Prop :=
  ∀ (m : (ℓ : Loc Cert.AdamRgLowReferenceIdeal.nD Cert.AdamRgLowReferenceIdeal.τ Cert.AdamRgLowReferenceIdeal.sig) → Buf (Elt Ideal) ℓ) (g : Dev Cert.AdamRgLowReferenceIdeal.nD → PrngReg), Pre_AdamRgLowReferenceIdeal m →
    θ_run (Cert.AdamRgLowReferenceIdeal.defs (F := Ideal)) (onTc (τ := Cert.AdamRgLowReferenceIdeal.τ) (Cert.AdamRgLowReferenceIdeal.main (F := Ideal))) ⟨m, fun _ => 0, g⟩ (fun r => (∀ c : Dev Cert.AdamRgLowReferenceIdeal.nD,
      r.2.mem ((c.tc : Thread Cert.AdamRgLowReferenceIdeal.nD Cert.AdamRgLowReferenceIdeal.τ).loc Cert.AdamRgLowReferenceIdeal.main_arg0) = m ((c.tc : Thread Cert.AdamRgLowReferenceIdeal.nD Cert.AdamRgLowReferenceIdeal.τ).loc Cert.AdamRgLowReferenceIdeal.main_arg0)
      ∧ r.2.mem ((c.tc : Thread Cert.AdamRgLowReferenceIdeal.nD Cert.AdamRgLowReferenceIdeal.τ).loc Cert.AdamRgLowReferenceIdeal.main_arg1) = m ((c.tc : Thread Cert.AdamRgLowReferenceIdeal.nD Cert.AdamRgLowReferenceIdeal.τ).loc Cert.AdamRgLowReferenceIdeal.main_arg1)
      ∧ r.2.mem ((c.tc : Thread Cert.AdamRgLowReferenceIdeal.nD Cert.AdamRgLowReferenceIdeal.τ).loc Cert.AdamRgLowReferenceIdeal.main_arg2) = m ((c.tc : Thread Cert.AdamRgLowReferenceIdeal.nD Cert.AdamRgLowReferenceIdeal.τ).loc Cert.AdamRgLowReferenceIdeal.main_arg2)
      ∧ r.2.mem ((c.tc : Thread Cert.AdamRgLowReferenceIdeal.nD Cert.AdamRgLowReferenceIdeal.τ).loc Cert.AdamRgLowReferenceIdeal.main_arg3) = m ((c.tc : Thread Cert.AdamRgLowReferenceIdeal.nD Cert.AdamRgLowReferenceIdeal.τ).loc Cert.AdamRgLowReferenceIdeal.main_arg3)
      ∧ r.2.mem ((c.tc : Thread Cert.AdamRgLowReferenceIdeal.nD Cert.AdamRgLowReferenceIdeal.τ).loc Cert.AdamRgLowReferenceIdeal.main_arg4) = m ((c.tc : Thread Cert.AdamRgLowReferenceIdeal.nD Cert.AdamRgLowReferenceIdeal.τ).loc Cert.AdamRgLowReferenceIdeal.main_arg4)
      ∧ r.2.mem ((c.tc : Thread Cert.AdamRgLowReferenceIdeal.nD Cert.AdamRgLowReferenceIdeal.τ).loc Cert.AdamRgLowReferenceIdeal.main_arg5) = m ((c.tc : Thread Cert.AdamRgLowReferenceIdeal.nD Cert.AdamRgLowReferenceIdeal.τ).loc Cert.AdamRgLowReferenceIdeal.main_arg5)
      ∧ r.2.mem ((c.tc : Thread Cert.AdamRgLowReferenceIdeal.nD Cert.AdamRgLowReferenceIdeal.τ).loc Cert.AdamRgLowReferenceIdeal.main_arg6) = m ((c.tc : Thread Cert.AdamRgLowReferenceIdeal.nD Cert.AdamRgLowReferenceIdeal.τ).loc Cert.AdamRgLowReferenceIdeal.main_arg6)
      ∧ r.2.mem ((c.tc : Thread Cert.AdamRgLowReferenceIdeal.nD Cert.AdamRgLowReferenceIdeal.τ).loc Cert.AdamRgLowReferenceIdeal.main_arg7) = m ((c.tc : Thread Cert.AdamRgLowReferenceIdeal.nD Cert.AdamRgLowReferenceIdeal.τ).loc Cert.AdamRgLowReferenceIdeal.main_arg7))
      ∧ r.2.sem = fun _ => 0)

def quiescent_AdamOutUp [hAdamOutUp : Cert.AdamOutUp.Facts] : Prop :=
  ∀ (m : (ℓ : Loc Cert.AdamOutUp.nD Cert.AdamOutUp.τ Cert.AdamOutUp.sig) → Buf (Elt Bits) ℓ) (g : Dev Cert.AdamOutUp.nD → PrngReg), Pre_AdamOutUp m →
    θ_run (Cert.AdamOutUp.defs (F := Bits)) (onTc (τ := Cert.AdamOutUp.τ) (Cert.AdamOutUp.main (F := Bits))) ⟨m, fun _ => 0, g⟩ (fun r => (∀ c : Dev Cert.AdamOutUp.nD,
      r.2.mem ((c.tc : Thread Cert.AdamOutUp.nD Cert.AdamOutUp.τ).loc Cert.AdamOutUp.main_arg0) = m ((c.tc : Thread Cert.AdamOutUp.nD Cert.AdamOutUp.τ).loc Cert.AdamOutUp.main_arg0)
      ∧ r.2.mem ((c.tc : Thread Cert.AdamOutUp.nD Cert.AdamOutUp.τ).loc Cert.AdamOutUp.main_arg1) = m ((c.tc : Thread Cert.AdamOutUp.nD Cert.AdamOutUp.τ).loc Cert.AdamOutUp.main_arg1)
      ∧ r.2.mem ((c.tc : Thread Cert.AdamOutUp.nD Cert.AdamOutUp.τ).loc Cert.AdamOutUp.main_arg2) = m ((c.tc : Thread Cert.AdamOutUp.nD Cert.AdamOutUp.τ).loc Cert.AdamOutUp.main_arg2)
      ∧ r.2.mem ((c.tc : Thread Cert.AdamOutUp.nD Cert.AdamOutUp.τ).loc Cert.AdamOutUp.main_arg3) = m ((c.tc : Thread Cert.AdamOutUp.nD Cert.AdamOutUp.τ).loc Cert.AdamOutUp.main_arg3))
      ∧ r.2.sem = fun _ => 0)

def quiescent_AdamOutUpIdeal [hAdamOutUpIdeal : Cert.AdamOutUpIdeal.Facts] : Prop :=
  ∀ (m : (ℓ : Loc Cert.AdamOutUpIdeal.nD Cert.AdamOutUpIdeal.τ Cert.AdamOutUpIdeal.sig) → Buf (Elt Ideal) ℓ) (g : Dev Cert.AdamOutUpIdeal.nD → PrngReg), Pre_AdamOutUpIdeal m →
    θ_run (Cert.AdamOutUpIdeal.defs (F := Ideal)) (onTc (τ := Cert.AdamOutUpIdeal.τ) (Cert.AdamOutUpIdeal.main (F := Ideal))) ⟨m, fun _ => 0, g⟩ (fun r => (∀ c : Dev Cert.AdamOutUpIdeal.nD,
      r.2.mem ((c.tc : Thread Cert.AdamOutUpIdeal.nD Cert.AdamOutUpIdeal.τ).loc Cert.AdamOutUpIdeal.main_arg0) = m ((c.tc : Thread Cert.AdamOutUpIdeal.nD Cert.AdamOutUpIdeal.τ).loc Cert.AdamOutUpIdeal.main_arg0)
      ∧ r.2.mem ((c.tc : Thread Cert.AdamOutUpIdeal.nD Cert.AdamOutUpIdeal.τ).loc Cert.AdamOutUpIdeal.main_arg1) = m ((c.tc : Thread Cert.AdamOutUpIdeal.nD Cert.AdamOutUpIdeal.τ).loc Cert.AdamOutUpIdeal.main_arg1)
      ∧ r.2.mem ((c.tc : Thread Cert.AdamOutUpIdeal.nD Cert.AdamOutUpIdeal.τ).loc Cert.AdamOutUpIdeal.main_arg2) = m ((c.tc : Thread Cert.AdamOutUpIdeal.nD Cert.AdamOutUpIdeal.τ).loc Cert.AdamOutUpIdeal.main_arg2)
      ∧ r.2.mem ((c.tc : Thread Cert.AdamOutUpIdeal.nD Cert.AdamOutUpIdeal.τ).loc Cert.AdamOutUpIdeal.main_arg3) = m ((c.tc : Thread Cert.AdamOutUpIdeal.nD Cert.AdamOutUpIdeal.τ).loc Cert.AdamOutUpIdeal.main_arg3))
      ∧ r.2.sem = fun _ => 0)

def quiescent_AdamOutUpReferenceIdeal [hAdamOutUpReferenceIdeal : Cert.AdamOutUpReferenceIdeal.Facts] : Prop :=
  ∀ (m : (ℓ : Loc Cert.AdamOutUpReferenceIdeal.nD Cert.AdamOutUpReferenceIdeal.τ Cert.AdamOutUpReferenceIdeal.sig) → Buf (Elt Ideal) ℓ) (g : Dev Cert.AdamOutUpReferenceIdeal.nD → PrngReg), Pre_AdamOutUpReferenceIdeal m →
    θ_run (Cert.AdamOutUpReferenceIdeal.defs (F := Ideal)) (onTc (τ := Cert.AdamOutUpReferenceIdeal.τ) (Cert.AdamOutUpReferenceIdeal.main (F := Ideal))) ⟨m, fun _ => 0, g⟩ (fun r => (∀ c : Dev Cert.AdamOutUpReferenceIdeal.nD,
      r.2.mem ((c.tc : Thread Cert.AdamOutUpReferenceIdeal.nD Cert.AdamOutUpReferenceIdeal.τ).loc Cert.AdamOutUpReferenceIdeal.main_arg0) = m ((c.tc : Thread Cert.AdamOutUpReferenceIdeal.nD Cert.AdamOutUpReferenceIdeal.τ).loc Cert.AdamOutUpReferenceIdeal.main_arg0)
      ∧ r.2.mem ((c.tc : Thread Cert.AdamOutUpReferenceIdeal.nD Cert.AdamOutUpReferenceIdeal.τ).loc Cert.AdamOutUpReferenceIdeal.main_arg1) = m ((c.tc : Thread Cert.AdamOutUpReferenceIdeal.nD Cert.AdamOutUpReferenceIdeal.τ).loc Cert.AdamOutUpReferenceIdeal.main_arg1)
      ∧ r.2.mem ((c.tc : Thread Cert.AdamOutUpReferenceIdeal.nD Cert.AdamOutUpReferenceIdeal.τ).loc Cert.AdamOutUpReferenceIdeal.main_arg2) = m ((c.tc : Thread Cert.AdamOutUpReferenceIdeal.nD Cert.AdamOutUpReferenceIdeal.τ).loc Cert.AdamOutUpReferenceIdeal.main_arg2)
      ∧ r.2.mem ((c.tc : Thread Cert.AdamOutUpReferenceIdeal.nD Cert.AdamOutUpReferenceIdeal.τ).loc Cert.AdamOutUpReferenceIdeal.main_arg3) = m ((c.tc : Thread Cert.AdamOutUpReferenceIdeal.nD Cert.AdamOutUpReferenceIdeal.τ).loc Cert.AdamOutUpReferenceIdeal.main_arg3))
      ∧ r.2.sem = fun _ => 0)

def quiescent_AdamOutLow [hAdamOutLow : Cert.AdamOutLow.Facts] : Prop :=
  ∀ (m : (ℓ : Loc Cert.AdamOutLow.nD Cert.AdamOutLow.τ Cert.AdamOutLow.sig) → Buf (Elt Bits) ℓ) (g : Dev Cert.AdamOutLow.nD → PrngReg), Pre_AdamOutLow m →
    θ_run (Cert.AdamOutLow.defs (F := Bits)) (onTc (τ := Cert.AdamOutLow.τ) (Cert.AdamOutLow.main (F := Bits))) ⟨m, fun _ => 0, g⟩ (fun r => (∀ c : Dev Cert.AdamOutLow.nD,
      r.2.mem ((c.tc : Thread Cert.AdamOutLow.nD Cert.AdamOutLow.τ).loc Cert.AdamOutLow.main_arg0) = m ((c.tc : Thread Cert.AdamOutLow.nD Cert.AdamOutLow.τ).loc Cert.AdamOutLow.main_arg0)
      ∧ r.2.mem ((c.tc : Thread Cert.AdamOutLow.nD Cert.AdamOutLow.τ).loc Cert.AdamOutLow.main_arg1) = m ((c.tc : Thread Cert.AdamOutLow.nD Cert.AdamOutLow.τ).loc Cert.AdamOutLow.main_arg1)
      ∧ r.2.mem ((c.tc : Thread Cert.AdamOutLow.nD Cert.AdamOutLow.τ).loc Cert.AdamOutLow.main_arg2) = m ((c.tc : Thread Cert.AdamOutLow.nD Cert.AdamOutLow.τ).loc Cert.AdamOutLow.main_arg2)
      ∧ r.2.mem ((c.tc : Thread Cert.AdamOutLow.nD Cert.AdamOutLow.τ).loc Cert.AdamOutLow.main_arg3) = m ((c.tc : Thread Cert.AdamOutLow.nD Cert.AdamOutLow.τ).loc Cert.AdamOutLow.main_arg3)
      ∧ r.2.mem ((c.tc : Thread Cert.AdamOutLow.nD Cert.AdamOutLow.τ).loc Cert.AdamOutLow.main_arg4) = m ((c.tc : Thread Cert.AdamOutLow.nD Cert.AdamOutLow.τ).loc Cert.AdamOutLow.main_arg4)
      ∧ r.2.mem ((c.tc : Thread Cert.AdamOutLow.nD Cert.AdamOutLow.τ).loc Cert.AdamOutLow.main_arg5) = m ((c.tc : Thread Cert.AdamOutLow.nD Cert.AdamOutLow.τ).loc Cert.AdamOutLow.main_arg5)
      ∧ r.2.mem ((c.tc : Thread Cert.AdamOutLow.nD Cert.AdamOutLow.τ).loc Cert.AdamOutLow.main_arg6) = m ((c.tc : Thread Cert.AdamOutLow.nD Cert.AdamOutLow.τ).loc Cert.AdamOutLow.main_arg6)
      ∧ r.2.mem ((c.tc : Thread Cert.AdamOutLow.nD Cert.AdamOutLow.τ).loc Cert.AdamOutLow.main_arg7) = m ((c.tc : Thread Cert.AdamOutLow.nD Cert.AdamOutLow.τ).loc Cert.AdamOutLow.main_arg7))
      ∧ r.2.sem = fun _ => 0)

def quiescent_AdamOutLowIdeal [hAdamOutLowIdeal : Cert.AdamOutLowIdeal.Facts] : Prop :=
  ∀ (m : (ℓ : Loc Cert.AdamOutLowIdeal.nD Cert.AdamOutLowIdeal.τ Cert.AdamOutLowIdeal.sig) → Buf (Elt Ideal) ℓ) (g : Dev Cert.AdamOutLowIdeal.nD → PrngReg), Pre_AdamOutLowIdeal m →
    θ_run (Cert.AdamOutLowIdeal.defs (F := Ideal)) (onTc (τ := Cert.AdamOutLowIdeal.τ) (Cert.AdamOutLowIdeal.main (F := Ideal))) ⟨m, fun _ => 0, g⟩ (fun r => (∀ c : Dev Cert.AdamOutLowIdeal.nD,
      r.2.mem ((c.tc : Thread Cert.AdamOutLowIdeal.nD Cert.AdamOutLowIdeal.τ).loc Cert.AdamOutLowIdeal.main_arg0) = m ((c.tc : Thread Cert.AdamOutLowIdeal.nD Cert.AdamOutLowIdeal.τ).loc Cert.AdamOutLowIdeal.main_arg0)
      ∧ r.2.mem ((c.tc : Thread Cert.AdamOutLowIdeal.nD Cert.AdamOutLowIdeal.τ).loc Cert.AdamOutLowIdeal.main_arg1) = m ((c.tc : Thread Cert.AdamOutLowIdeal.nD Cert.AdamOutLowIdeal.τ).loc Cert.AdamOutLowIdeal.main_arg1)
      ∧ r.2.mem ((c.tc : Thread Cert.AdamOutLowIdeal.nD Cert.AdamOutLowIdeal.τ).loc Cert.AdamOutLowIdeal.main_arg2) = m ((c.tc : Thread Cert.AdamOutLowIdeal.nD Cert.AdamOutLowIdeal.τ).loc Cert.AdamOutLowIdeal.main_arg2)
      ∧ r.2.mem ((c.tc : Thread Cert.AdamOutLowIdeal.nD Cert.AdamOutLowIdeal.τ).loc Cert.AdamOutLowIdeal.main_arg3) = m ((c.tc : Thread Cert.AdamOutLowIdeal.nD Cert.AdamOutLowIdeal.τ).loc Cert.AdamOutLowIdeal.main_arg3)
      ∧ r.2.mem ((c.tc : Thread Cert.AdamOutLowIdeal.nD Cert.AdamOutLowIdeal.τ).loc Cert.AdamOutLowIdeal.main_arg4) = m ((c.tc : Thread Cert.AdamOutLowIdeal.nD Cert.AdamOutLowIdeal.τ).loc Cert.AdamOutLowIdeal.main_arg4)
      ∧ r.2.mem ((c.tc : Thread Cert.AdamOutLowIdeal.nD Cert.AdamOutLowIdeal.τ).loc Cert.AdamOutLowIdeal.main_arg5) = m ((c.tc : Thread Cert.AdamOutLowIdeal.nD Cert.AdamOutLowIdeal.τ).loc Cert.AdamOutLowIdeal.main_arg5)
      ∧ r.2.mem ((c.tc : Thread Cert.AdamOutLowIdeal.nD Cert.AdamOutLowIdeal.τ).loc Cert.AdamOutLowIdeal.main_arg6) = m ((c.tc : Thread Cert.AdamOutLowIdeal.nD Cert.AdamOutLowIdeal.τ).loc Cert.AdamOutLowIdeal.main_arg6)
      ∧ r.2.mem ((c.tc : Thread Cert.AdamOutLowIdeal.nD Cert.AdamOutLowIdeal.τ).loc Cert.AdamOutLowIdeal.main_arg7) = m ((c.tc : Thread Cert.AdamOutLowIdeal.nD Cert.AdamOutLowIdeal.τ).loc Cert.AdamOutLowIdeal.main_arg7))
      ∧ r.2.sem = fun _ => 0)

def quiescent_AdamOutLowReferenceIdeal [hAdamOutLowReferenceIdeal : Cert.AdamOutLowReferenceIdeal.Facts] : Prop :=
  ∀ (m : (ℓ : Loc Cert.AdamOutLowReferenceIdeal.nD Cert.AdamOutLowReferenceIdeal.τ Cert.AdamOutLowReferenceIdeal.sig) → Buf (Elt Ideal) ℓ) (g : Dev Cert.AdamOutLowReferenceIdeal.nD → PrngReg), Pre_AdamOutLowReferenceIdeal m →
    θ_run (Cert.AdamOutLowReferenceIdeal.defs (F := Ideal)) (onTc (τ := Cert.AdamOutLowReferenceIdeal.τ) (Cert.AdamOutLowReferenceIdeal.main (F := Ideal))) ⟨m, fun _ => 0, g⟩ (fun r => (∀ c : Dev Cert.AdamOutLowReferenceIdeal.nD,
      r.2.mem ((c.tc : Thread Cert.AdamOutLowReferenceIdeal.nD Cert.AdamOutLowReferenceIdeal.τ).loc Cert.AdamOutLowReferenceIdeal.main_arg0) = m ((c.tc : Thread Cert.AdamOutLowReferenceIdeal.nD Cert.AdamOutLowReferenceIdeal.τ).loc Cert.AdamOutLowReferenceIdeal.main_arg0)
      ∧ r.2.mem ((c.tc : Thread Cert.AdamOutLowReferenceIdeal.nD Cert.AdamOutLowReferenceIdeal.τ).loc Cert.AdamOutLowReferenceIdeal.main_arg1) = m ((c.tc : Thread Cert.AdamOutLowReferenceIdeal.nD Cert.AdamOutLowReferenceIdeal.τ).loc Cert.AdamOutLowReferenceIdeal.main_arg1)
      ∧ r.2.mem ((c.tc : Thread Cert.AdamOutLowReferenceIdeal.nD Cert.AdamOutLowReferenceIdeal.τ).loc Cert.AdamOutLowReferenceIdeal.main_arg2) = m ((c.tc : Thread Cert.AdamOutLowReferenceIdeal.nD Cert.AdamOutLowReferenceIdeal.τ).loc Cert.AdamOutLowReferenceIdeal.main_arg2)
      ∧ r.2.mem ((c.tc : Thread Cert.AdamOutLowReferenceIdeal.nD Cert.AdamOutLowReferenceIdeal.τ).loc Cert.AdamOutLowReferenceIdeal.main_arg3) = m ((c.tc : Thread Cert.AdamOutLowReferenceIdeal.nD Cert.AdamOutLowReferenceIdeal.τ).loc Cert.AdamOutLowReferenceIdeal.main_arg3)
      ∧ r.2.mem ((c.tc : Thread Cert.AdamOutLowReferenceIdeal.nD Cert.AdamOutLowReferenceIdeal.τ).loc Cert.AdamOutLowReferenceIdeal.main_arg4) = m ((c.tc : Thread Cert.AdamOutLowReferenceIdeal.nD Cert.AdamOutLowReferenceIdeal.τ).loc Cert.AdamOutLowReferenceIdeal.main_arg4)
      ∧ r.2.mem ((c.tc : Thread Cert.AdamOutLowReferenceIdeal.nD Cert.AdamOutLowReferenceIdeal.τ).loc Cert.AdamOutLowReferenceIdeal.main_arg5) = m ((c.tc : Thread Cert.AdamOutLowReferenceIdeal.nD Cert.AdamOutLowReferenceIdeal.τ).loc Cert.AdamOutLowReferenceIdeal.main_arg5)
      ∧ r.2.mem ((c.tc : Thread Cert.AdamOutLowReferenceIdeal.nD Cert.AdamOutLowReferenceIdeal.τ).loc Cert.AdamOutLowReferenceIdeal.main_arg6) = m ((c.tc : Thread Cert.AdamOutLowReferenceIdeal.nD Cert.AdamOutLowReferenceIdeal.τ).loc Cert.AdamOutLowReferenceIdeal.main_arg6)
      ∧ r.2.mem ((c.tc : Thread Cert.AdamOutLowReferenceIdeal.nD Cert.AdamOutLowReferenceIdeal.τ).loc Cert.AdamOutLowReferenceIdeal.main_arg7) = m ((c.tc : Thread Cert.AdamOutLowReferenceIdeal.nD Cert.AdamOutLowReferenceIdeal.τ).loc Cert.AdamOutLowReferenceIdeal.main_arg7))
      ∧ r.2.sem = fun _ => 0)

def quiescent_AdamCkvUp [hAdamCkvUp : Cert.AdamCkvUp.Facts] : Prop :=
  ∀ (m : (ℓ : Loc Cert.AdamCkvUp.nD Cert.AdamCkvUp.τ Cert.AdamCkvUp.sig) → Buf (Elt Bits) ℓ) (g : Dev Cert.AdamCkvUp.nD → PrngReg), Pre_AdamCkvUp m →
    θ_run (Cert.AdamCkvUp.defs (F := Bits)) (onTc (τ := Cert.AdamCkvUp.τ) (Cert.AdamCkvUp.main (F := Bits))) ⟨m, fun _ => 0, g⟩ (fun r => (∀ c : Dev Cert.AdamCkvUp.nD,
      r.2.mem ((c.tc : Thread Cert.AdamCkvUp.nD Cert.AdamCkvUp.τ).loc Cert.AdamCkvUp.main_arg0) = m ((c.tc : Thread Cert.AdamCkvUp.nD Cert.AdamCkvUp.τ).loc Cert.AdamCkvUp.main_arg0)
      ∧ r.2.mem ((c.tc : Thread Cert.AdamCkvUp.nD Cert.AdamCkvUp.τ).loc Cert.AdamCkvUp.main_arg1) = m ((c.tc : Thread Cert.AdamCkvUp.nD Cert.AdamCkvUp.τ).loc Cert.AdamCkvUp.main_arg1)
      ∧ r.2.mem ((c.tc : Thread Cert.AdamCkvUp.nD Cert.AdamCkvUp.τ).loc Cert.AdamCkvUp.main_arg2) = m ((c.tc : Thread Cert.AdamCkvUp.nD Cert.AdamCkvUp.τ).loc Cert.AdamCkvUp.main_arg2)
      ∧ r.2.mem ((c.tc : Thread Cert.AdamCkvUp.nD Cert.AdamCkvUp.τ).loc Cert.AdamCkvUp.main_arg3) = m ((c.tc : Thread Cert.AdamCkvUp.nD Cert.AdamCkvUp.τ).loc Cert.AdamCkvUp.main_arg3))
      ∧ r.2.sem = fun _ => 0)

def quiescent_AdamCkvUpIdeal [hAdamCkvUpIdeal : Cert.AdamCkvUpIdeal.Facts] : Prop :=
  ∀ (m : (ℓ : Loc Cert.AdamCkvUpIdeal.nD Cert.AdamCkvUpIdeal.τ Cert.AdamCkvUpIdeal.sig) → Buf (Elt Ideal) ℓ) (g : Dev Cert.AdamCkvUpIdeal.nD → PrngReg), Pre_AdamCkvUpIdeal m →
    θ_run (Cert.AdamCkvUpIdeal.defs (F := Ideal)) (onTc (τ := Cert.AdamCkvUpIdeal.τ) (Cert.AdamCkvUpIdeal.main (F := Ideal))) ⟨m, fun _ => 0, g⟩ (fun r => (∀ c : Dev Cert.AdamCkvUpIdeal.nD,
      r.2.mem ((c.tc : Thread Cert.AdamCkvUpIdeal.nD Cert.AdamCkvUpIdeal.τ).loc Cert.AdamCkvUpIdeal.main_arg0) = m ((c.tc : Thread Cert.AdamCkvUpIdeal.nD Cert.AdamCkvUpIdeal.τ).loc Cert.AdamCkvUpIdeal.main_arg0)
      ∧ r.2.mem ((c.tc : Thread Cert.AdamCkvUpIdeal.nD Cert.AdamCkvUpIdeal.τ).loc Cert.AdamCkvUpIdeal.main_arg1) = m ((c.tc : Thread Cert.AdamCkvUpIdeal.nD Cert.AdamCkvUpIdeal.τ).loc Cert.AdamCkvUpIdeal.main_arg1)
      ∧ r.2.mem ((c.tc : Thread Cert.AdamCkvUpIdeal.nD Cert.AdamCkvUpIdeal.τ).loc Cert.AdamCkvUpIdeal.main_arg2) = m ((c.tc : Thread Cert.AdamCkvUpIdeal.nD Cert.AdamCkvUpIdeal.τ).loc Cert.AdamCkvUpIdeal.main_arg2)
      ∧ r.2.mem ((c.tc : Thread Cert.AdamCkvUpIdeal.nD Cert.AdamCkvUpIdeal.τ).loc Cert.AdamCkvUpIdeal.main_arg3) = m ((c.tc : Thread Cert.AdamCkvUpIdeal.nD Cert.AdamCkvUpIdeal.τ).loc Cert.AdamCkvUpIdeal.main_arg3))
      ∧ r.2.sem = fun _ => 0)

def quiescent_AdamCkvUpReferenceIdeal [hAdamCkvUpReferenceIdeal : Cert.AdamCkvUpReferenceIdeal.Facts] : Prop :=
  ∀ (m : (ℓ : Loc Cert.AdamCkvUpReferenceIdeal.nD Cert.AdamCkvUpReferenceIdeal.τ Cert.AdamCkvUpReferenceIdeal.sig) → Buf (Elt Ideal) ℓ) (g : Dev Cert.AdamCkvUpReferenceIdeal.nD → PrngReg), Pre_AdamCkvUpReferenceIdeal m →
    θ_run (Cert.AdamCkvUpReferenceIdeal.defs (F := Ideal)) (onTc (τ := Cert.AdamCkvUpReferenceIdeal.τ) (Cert.AdamCkvUpReferenceIdeal.main (F := Ideal))) ⟨m, fun _ => 0, g⟩ (fun r => (∀ c : Dev Cert.AdamCkvUpReferenceIdeal.nD,
      r.2.mem ((c.tc : Thread Cert.AdamCkvUpReferenceIdeal.nD Cert.AdamCkvUpReferenceIdeal.τ).loc Cert.AdamCkvUpReferenceIdeal.main_arg0) = m ((c.tc : Thread Cert.AdamCkvUpReferenceIdeal.nD Cert.AdamCkvUpReferenceIdeal.τ).loc Cert.AdamCkvUpReferenceIdeal.main_arg0)
      ∧ r.2.mem ((c.tc : Thread Cert.AdamCkvUpReferenceIdeal.nD Cert.AdamCkvUpReferenceIdeal.τ).loc Cert.AdamCkvUpReferenceIdeal.main_arg1) = m ((c.tc : Thread Cert.AdamCkvUpReferenceIdeal.nD Cert.AdamCkvUpReferenceIdeal.τ).loc Cert.AdamCkvUpReferenceIdeal.main_arg1)
      ∧ r.2.mem ((c.tc : Thread Cert.AdamCkvUpReferenceIdeal.nD Cert.AdamCkvUpReferenceIdeal.τ).loc Cert.AdamCkvUpReferenceIdeal.main_arg2) = m ((c.tc : Thread Cert.AdamCkvUpReferenceIdeal.nD Cert.AdamCkvUpReferenceIdeal.τ).loc Cert.AdamCkvUpReferenceIdeal.main_arg2)
      ∧ r.2.mem ((c.tc : Thread Cert.AdamCkvUpReferenceIdeal.nD Cert.AdamCkvUpReferenceIdeal.τ).loc Cert.AdamCkvUpReferenceIdeal.main_arg3) = m ((c.tc : Thread Cert.AdamCkvUpReferenceIdeal.nD Cert.AdamCkvUpReferenceIdeal.τ).loc Cert.AdamCkvUpReferenceIdeal.main_arg3))
      ∧ r.2.sem = fun _ => 0)

def quiescent_AdamCkvLow [hAdamCkvLow : Cert.AdamCkvLow.Facts] : Prop :=
  ∀ (m : (ℓ : Loc Cert.AdamCkvLow.nD Cert.AdamCkvLow.τ Cert.AdamCkvLow.sig) → Buf (Elt Bits) ℓ) (g : Dev Cert.AdamCkvLow.nD → PrngReg), Pre_AdamCkvLow m →
    θ_run (Cert.AdamCkvLow.defs (F := Bits)) (onTc (τ := Cert.AdamCkvLow.τ) (Cert.AdamCkvLow.main (F := Bits))) ⟨m, fun _ => 0, g⟩ (fun r => (∀ c : Dev Cert.AdamCkvLow.nD,
      r.2.mem ((c.tc : Thread Cert.AdamCkvLow.nD Cert.AdamCkvLow.τ).loc Cert.AdamCkvLow.main_arg0) = m ((c.tc : Thread Cert.AdamCkvLow.nD Cert.AdamCkvLow.τ).loc Cert.AdamCkvLow.main_arg0)
      ∧ r.2.mem ((c.tc : Thread Cert.AdamCkvLow.nD Cert.AdamCkvLow.τ).loc Cert.AdamCkvLow.main_arg1) = m ((c.tc : Thread Cert.AdamCkvLow.nD Cert.AdamCkvLow.τ).loc Cert.AdamCkvLow.main_arg1)
      ∧ r.2.mem ((c.tc : Thread Cert.AdamCkvLow.nD Cert.AdamCkvLow.τ).loc Cert.AdamCkvLow.main_arg2) = m ((c.tc : Thread Cert.AdamCkvLow.nD Cert.AdamCkvLow.τ).loc Cert.AdamCkvLow.main_arg2)
      ∧ r.2.mem ((c.tc : Thread Cert.AdamCkvLow.nD Cert.AdamCkvLow.τ).loc Cert.AdamCkvLow.main_arg3) = m ((c.tc : Thread Cert.AdamCkvLow.nD Cert.AdamCkvLow.τ).loc Cert.AdamCkvLow.main_arg3)
      ∧ r.2.mem ((c.tc : Thread Cert.AdamCkvLow.nD Cert.AdamCkvLow.τ).loc Cert.AdamCkvLow.main_arg4) = m ((c.tc : Thread Cert.AdamCkvLow.nD Cert.AdamCkvLow.τ).loc Cert.AdamCkvLow.main_arg4)
      ∧ r.2.mem ((c.tc : Thread Cert.AdamCkvLow.nD Cert.AdamCkvLow.τ).loc Cert.AdamCkvLow.main_arg5) = m ((c.tc : Thread Cert.AdamCkvLow.nD Cert.AdamCkvLow.τ).loc Cert.AdamCkvLow.main_arg5)
      ∧ r.2.mem ((c.tc : Thread Cert.AdamCkvLow.nD Cert.AdamCkvLow.τ).loc Cert.AdamCkvLow.main_arg6) = m ((c.tc : Thread Cert.AdamCkvLow.nD Cert.AdamCkvLow.τ).loc Cert.AdamCkvLow.main_arg6)
      ∧ r.2.mem ((c.tc : Thread Cert.AdamCkvLow.nD Cert.AdamCkvLow.τ).loc Cert.AdamCkvLow.main_arg7) = m ((c.tc : Thread Cert.AdamCkvLow.nD Cert.AdamCkvLow.τ).loc Cert.AdamCkvLow.main_arg7))
      ∧ r.2.sem = fun _ => 0)

def quiescent_AdamCkvLowIdeal [hAdamCkvLowIdeal : Cert.AdamCkvLowIdeal.Facts] : Prop :=
  ∀ (m : (ℓ : Loc Cert.AdamCkvLowIdeal.nD Cert.AdamCkvLowIdeal.τ Cert.AdamCkvLowIdeal.sig) → Buf (Elt Ideal) ℓ) (g : Dev Cert.AdamCkvLowIdeal.nD → PrngReg), Pre_AdamCkvLowIdeal m →
    θ_run (Cert.AdamCkvLowIdeal.defs (F := Ideal)) (onTc (τ := Cert.AdamCkvLowIdeal.τ) (Cert.AdamCkvLowIdeal.main (F := Ideal))) ⟨m, fun _ => 0, g⟩ (fun r => (∀ c : Dev Cert.AdamCkvLowIdeal.nD,
      r.2.mem ((c.tc : Thread Cert.AdamCkvLowIdeal.nD Cert.AdamCkvLowIdeal.τ).loc Cert.AdamCkvLowIdeal.main_arg0) = m ((c.tc : Thread Cert.AdamCkvLowIdeal.nD Cert.AdamCkvLowIdeal.τ).loc Cert.AdamCkvLowIdeal.main_arg0)
      ∧ r.2.mem ((c.tc : Thread Cert.AdamCkvLowIdeal.nD Cert.AdamCkvLowIdeal.τ).loc Cert.AdamCkvLowIdeal.main_arg1) = m ((c.tc : Thread Cert.AdamCkvLowIdeal.nD Cert.AdamCkvLowIdeal.τ).loc Cert.AdamCkvLowIdeal.main_arg1)
      ∧ r.2.mem ((c.tc : Thread Cert.AdamCkvLowIdeal.nD Cert.AdamCkvLowIdeal.τ).loc Cert.AdamCkvLowIdeal.main_arg2) = m ((c.tc : Thread Cert.AdamCkvLowIdeal.nD Cert.AdamCkvLowIdeal.τ).loc Cert.AdamCkvLowIdeal.main_arg2)
      ∧ r.2.mem ((c.tc : Thread Cert.AdamCkvLowIdeal.nD Cert.AdamCkvLowIdeal.τ).loc Cert.AdamCkvLowIdeal.main_arg3) = m ((c.tc : Thread Cert.AdamCkvLowIdeal.nD Cert.AdamCkvLowIdeal.τ).loc Cert.AdamCkvLowIdeal.main_arg3)
      ∧ r.2.mem ((c.tc : Thread Cert.AdamCkvLowIdeal.nD Cert.AdamCkvLowIdeal.τ).loc Cert.AdamCkvLowIdeal.main_arg4) = m ((c.tc : Thread Cert.AdamCkvLowIdeal.nD Cert.AdamCkvLowIdeal.τ).loc Cert.AdamCkvLowIdeal.main_arg4)
      ∧ r.2.mem ((c.tc : Thread Cert.AdamCkvLowIdeal.nD Cert.AdamCkvLowIdeal.τ).loc Cert.AdamCkvLowIdeal.main_arg5) = m ((c.tc : Thread Cert.AdamCkvLowIdeal.nD Cert.AdamCkvLowIdeal.τ).loc Cert.AdamCkvLowIdeal.main_arg5)
      ∧ r.2.mem ((c.tc : Thread Cert.AdamCkvLowIdeal.nD Cert.AdamCkvLowIdeal.τ).loc Cert.AdamCkvLowIdeal.main_arg6) = m ((c.tc : Thread Cert.AdamCkvLowIdeal.nD Cert.AdamCkvLowIdeal.τ).loc Cert.AdamCkvLowIdeal.main_arg6)
      ∧ r.2.mem ((c.tc : Thread Cert.AdamCkvLowIdeal.nD Cert.AdamCkvLowIdeal.τ).loc Cert.AdamCkvLowIdeal.main_arg7) = m ((c.tc : Thread Cert.AdamCkvLowIdeal.nD Cert.AdamCkvLowIdeal.τ).loc Cert.AdamCkvLowIdeal.main_arg7))
      ∧ r.2.sem = fun _ => 0)

def quiescent_AdamCkvLowReferenceIdeal [hAdamCkvLowReferenceIdeal : Cert.AdamCkvLowReferenceIdeal.Facts] : Prop :=
  ∀ (m : (ℓ : Loc Cert.AdamCkvLowReferenceIdeal.nD Cert.AdamCkvLowReferenceIdeal.τ Cert.AdamCkvLowReferenceIdeal.sig) → Buf (Elt Ideal) ℓ) (g : Dev Cert.AdamCkvLowReferenceIdeal.nD → PrngReg), Pre_AdamCkvLowReferenceIdeal m →
    θ_run (Cert.AdamCkvLowReferenceIdeal.defs (F := Ideal)) (onTc (τ := Cert.AdamCkvLowReferenceIdeal.τ) (Cert.AdamCkvLowReferenceIdeal.main (F := Ideal))) ⟨m, fun _ => 0, g⟩ (fun r => (∀ c : Dev Cert.AdamCkvLowReferenceIdeal.nD,
      r.2.mem ((c.tc : Thread Cert.AdamCkvLowReferenceIdeal.nD Cert.AdamCkvLowReferenceIdeal.τ).loc Cert.AdamCkvLowReferenceIdeal.main_arg0) = m ((c.tc : Thread Cert.AdamCkvLowReferenceIdeal.nD Cert.AdamCkvLowReferenceIdeal.τ).loc Cert.AdamCkvLowReferenceIdeal.main_arg0)
      ∧ r.2.mem ((c.tc : Thread Cert.AdamCkvLowReferenceIdeal.nD Cert.AdamCkvLowReferenceIdeal.τ).loc Cert.AdamCkvLowReferenceIdeal.main_arg1) = m ((c.tc : Thread Cert.AdamCkvLowReferenceIdeal.nD Cert.AdamCkvLowReferenceIdeal.τ).loc Cert.AdamCkvLowReferenceIdeal.main_arg1)
      ∧ r.2.mem ((c.tc : Thread Cert.AdamCkvLowReferenceIdeal.nD Cert.AdamCkvLowReferenceIdeal.τ).loc Cert.AdamCkvLowReferenceIdeal.main_arg2) = m ((c.tc : Thread Cert.AdamCkvLowReferenceIdeal.nD Cert.AdamCkvLowReferenceIdeal.τ).loc Cert.AdamCkvLowReferenceIdeal.main_arg2)
      ∧ r.2.mem ((c.tc : Thread Cert.AdamCkvLowReferenceIdeal.nD Cert.AdamCkvLowReferenceIdeal.τ).loc Cert.AdamCkvLowReferenceIdeal.main_arg3) = m ((c.tc : Thread Cert.AdamCkvLowReferenceIdeal.nD Cert.AdamCkvLowReferenceIdeal.τ).loc Cert.AdamCkvLowReferenceIdeal.main_arg3)
      ∧ r.2.mem ((c.tc : Thread Cert.AdamCkvLowReferenceIdeal.nD Cert.AdamCkvLowReferenceIdeal.τ).loc Cert.AdamCkvLowReferenceIdeal.main_arg4) = m ((c.tc : Thread Cert.AdamCkvLowReferenceIdeal.nD Cert.AdamCkvLowReferenceIdeal.τ).loc Cert.AdamCkvLowReferenceIdeal.main_arg4)
      ∧ r.2.mem ((c.tc : Thread Cert.AdamCkvLowReferenceIdeal.nD Cert.AdamCkvLowReferenceIdeal.τ).loc Cert.AdamCkvLowReferenceIdeal.main_arg5) = m ((c.tc : Thread Cert.AdamCkvLowReferenceIdeal.nD Cert.AdamCkvLowReferenceIdeal.τ).loc Cert.AdamCkvLowReferenceIdeal.main_arg5)
      ∧ r.2.mem ((c.tc : Thread Cert.AdamCkvLowReferenceIdeal.nD Cert.AdamCkvLowReferenceIdeal.τ).loc Cert.AdamCkvLowReferenceIdeal.main_arg6) = m ((c.tc : Thread Cert.AdamCkvLowReferenceIdeal.nD Cert.AdamCkvLowReferenceIdeal.τ).loc Cert.AdamCkvLowReferenceIdeal.main_arg6)
      ∧ r.2.mem ((c.tc : Thread Cert.AdamCkvLowReferenceIdeal.nD Cert.AdamCkvLowReferenceIdeal.τ).loc Cert.AdamCkvLowReferenceIdeal.main_arg7) = m ((c.tc : Thread Cert.AdamCkvLowReferenceIdeal.nD Cert.AdamCkvLowReferenceIdeal.τ).loc Cert.AdamCkvLowReferenceIdeal.main_arg7))
      ∧ r.2.sem = fun _ => 0)

def quiescent_AdamWiUp [hAdamWiUp : Cert.AdamWiUp.Facts] : Prop :=
  ∀ (m : (ℓ : Loc Cert.AdamWiUp.nD Cert.AdamWiUp.τ Cert.AdamWiUp.sig) → Buf (Elt Bits) ℓ) (g : Dev Cert.AdamWiUp.nD → PrngReg), Pre_AdamWiUp m →
    θ_run (Cert.AdamWiUp.defs (F := Bits)) (onTc (τ := Cert.AdamWiUp.τ) (Cert.AdamWiUp.main (F := Bits))) ⟨m, fun _ => 0, g⟩ (fun r => (∀ c : Dev Cert.AdamWiUp.nD,
      r.2.mem ((c.tc : Thread Cert.AdamWiUp.nD Cert.AdamWiUp.τ).loc Cert.AdamWiUp.main_arg0) = m ((c.tc : Thread Cert.AdamWiUp.nD Cert.AdamWiUp.τ).loc Cert.AdamWiUp.main_arg0)
      ∧ r.2.mem ((c.tc : Thread Cert.AdamWiUp.nD Cert.AdamWiUp.τ).loc Cert.AdamWiUp.main_arg1) = m ((c.tc : Thread Cert.AdamWiUp.nD Cert.AdamWiUp.τ).loc Cert.AdamWiUp.main_arg1)
      ∧ r.2.mem ((c.tc : Thread Cert.AdamWiUp.nD Cert.AdamWiUp.τ).loc Cert.AdamWiUp.main_arg2) = m ((c.tc : Thread Cert.AdamWiUp.nD Cert.AdamWiUp.τ).loc Cert.AdamWiUp.main_arg2)
      ∧ r.2.mem ((c.tc : Thread Cert.AdamWiUp.nD Cert.AdamWiUp.τ).loc Cert.AdamWiUp.main_arg3) = m ((c.tc : Thread Cert.AdamWiUp.nD Cert.AdamWiUp.τ).loc Cert.AdamWiUp.main_arg3))
      ∧ r.2.sem = fun _ => 0)

def quiescent_AdamWiUpIdeal [hAdamWiUpIdeal : Cert.AdamWiUpIdeal.Facts] : Prop :=
  ∀ (m : (ℓ : Loc Cert.AdamWiUpIdeal.nD Cert.AdamWiUpIdeal.τ Cert.AdamWiUpIdeal.sig) → Buf (Elt Ideal) ℓ) (g : Dev Cert.AdamWiUpIdeal.nD → PrngReg), Pre_AdamWiUpIdeal m →
    θ_run (Cert.AdamWiUpIdeal.defs (F := Ideal)) (onTc (τ := Cert.AdamWiUpIdeal.τ) (Cert.AdamWiUpIdeal.main (F := Ideal))) ⟨m, fun _ => 0, g⟩ (fun r => (∀ c : Dev Cert.AdamWiUpIdeal.nD,
      r.2.mem ((c.tc : Thread Cert.AdamWiUpIdeal.nD Cert.AdamWiUpIdeal.τ).loc Cert.AdamWiUpIdeal.main_arg0) = m ((c.tc : Thread Cert.AdamWiUpIdeal.nD Cert.AdamWiUpIdeal.τ).loc Cert.AdamWiUpIdeal.main_arg0)
      ∧ r.2.mem ((c.tc : Thread Cert.AdamWiUpIdeal.nD Cert.AdamWiUpIdeal.τ).loc Cert.AdamWiUpIdeal.main_arg1) = m ((c.tc : Thread Cert.AdamWiUpIdeal.nD Cert.AdamWiUpIdeal.τ).loc Cert.AdamWiUpIdeal.main_arg1)
      ∧ r.2.mem ((c.tc : Thread Cert.AdamWiUpIdeal.nD Cert.AdamWiUpIdeal.τ).loc Cert.AdamWiUpIdeal.main_arg2) = m ((c.tc : Thread Cert.AdamWiUpIdeal.nD Cert.AdamWiUpIdeal.τ).loc Cert.AdamWiUpIdeal.main_arg2)
      ∧ r.2.mem ((c.tc : Thread Cert.AdamWiUpIdeal.nD Cert.AdamWiUpIdeal.τ).loc Cert.AdamWiUpIdeal.main_arg3) = m ((c.tc : Thread Cert.AdamWiUpIdeal.nD Cert.AdamWiUpIdeal.τ).loc Cert.AdamWiUpIdeal.main_arg3))
      ∧ r.2.sem = fun _ => 0)

def quiescent_AdamWiUpReferenceIdeal [hAdamWiUpReferenceIdeal : Cert.AdamWiUpReferenceIdeal.Facts] : Prop :=
  ∀ (m : (ℓ : Loc Cert.AdamWiUpReferenceIdeal.nD Cert.AdamWiUpReferenceIdeal.τ Cert.AdamWiUpReferenceIdeal.sig) → Buf (Elt Ideal) ℓ) (g : Dev Cert.AdamWiUpReferenceIdeal.nD → PrngReg), Pre_AdamWiUpReferenceIdeal m →
    θ_run (Cert.AdamWiUpReferenceIdeal.defs (F := Ideal)) (onTc (τ := Cert.AdamWiUpReferenceIdeal.τ) (Cert.AdamWiUpReferenceIdeal.main (F := Ideal))) ⟨m, fun _ => 0, g⟩ (fun r => (∀ c : Dev Cert.AdamWiUpReferenceIdeal.nD,
      r.2.mem ((c.tc : Thread Cert.AdamWiUpReferenceIdeal.nD Cert.AdamWiUpReferenceIdeal.τ).loc Cert.AdamWiUpReferenceIdeal.main_arg0) = m ((c.tc : Thread Cert.AdamWiUpReferenceIdeal.nD Cert.AdamWiUpReferenceIdeal.τ).loc Cert.AdamWiUpReferenceIdeal.main_arg0)
      ∧ r.2.mem ((c.tc : Thread Cert.AdamWiUpReferenceIdeal.nD Cert.AdamWiUpReferenceIdeal.τ).loc Cert.AdamWiUpReferenceIdeal.main_arg1) = m ((c.tc : Thread Cert.AdamWiUpReferenceIdeal.nD Cert.AdamWiUpReferenceIdeal.τ).loc Cert.AdamWiUpReferenceIdeal.main_arg1)
      ∧ r.2.mem ((c.tc : Thread Cert.AdamWiUpReferenceIdeal.nD Cert.AdamWiUpReferenceIdeal.τ).loc Cert.AdamWiUpReferenceIdeal.main_arg2) = m ((c.tc : Thread Cert.AdamWiUpReferenceIdeal.nD Cert.AdamWiUpReferenceIdeal.τ).loc Cert.AdamWiUpReferenceIdeal.main_arg2)
      ∧ r.2.mem ((c.tc : Thread Cert.AdamWiUpReferenceIdeal.nD Cert.AdamWiUpReferenceIdeal.τ).loc Cert.AdamWiUpReferenceIdeal.main_arg3) = m ((c.tc : Thread Cert.AdamWiUpReferenceIdeal.nD Cert.AdamWiUpReferenceIdeal.τ).loc Cert.AdamWiUpReferenceIdeal.main_arg3))
      ∧ r.2.sem = fun _ => 0)

def quiescent_AdamWiLow [hAdamWiLow : Cert.AdamWiLow.Facts] : Prop :=
  ∀ (m : (ℓ : Loc Cert.AdamWiLow.nD Cert.AdamWiLow.τ Cert.AdamWiLow.sig) → Buf (Elt Bits) ℓ) (g : Dev Cert.AdamWiLow.nD → PrngReg), Pre_AdamWiLow m →
    θ_run (Cert.AdamWiLow.defs (F := Bits)) (onTc (τ := Cert.AdamWiLow.τ) (Cert.AdamWiLow.main (F := Bits))) ⟨m, fun _ => 0, g⟩ (fun r => (∀ c : Dev Cert.AdamWiLow.nD,
      r.2.mem ((c.tc : Thread Cert.AdamWiLow.nD Cert.AdamWiLow.τ).loc Cert.AdamWiLow.main_arg0) = m ((c.tc : Thread Cert.AdamWiLow.nD Cert.AdamWiLow.τ).loc Cert.AdamWiLow.main_arg0)
      ∧ r.2.mem ((c.tc : Thread Cert.AdamWiLow.nD Cert.AdamWiLow.τ).loc Cert.AdamWiLow.main_arg1) = m ((c.tc : Thread Cert.AdamWiLow.nD Cert.AdamWiLow.τ).loc Cert.AdamWiLow.main_arg1)
      ∧ r.2.mem ((c.tc : Thread Cert.AdamWiLow.nD Cert.AdamWiLow.τ).loc Cert.AdamWiLow.main_arg2) = m ((c.tc : Thread Cert.AdamWiLow.nD Cert.AdamWiLow.τ).loc Cert.AdamWiLow.main_arg2)
      ∧ r.2.mem ((c.tc : Thread Cert.AdamWiLow.nD Cert.AdamWiLow.τ).loc Cert.AdamWiLow.main_arg3) = m ((c.tc : Thread Cert.AdamWiLow.nD Cert.AdamWiLow.τ).loc Cert.AdamWiLow.main_arg3)
      ∧ r.2.mem ((c.tc : Thread Cert.AdamWiLow.nD Cert.AdamWiLow.τ).loc Cert.AdamWiLow.main_arg4) = m ((c.tc : Thread Cert.AdamWiLow.nD Cert.AdamWiLow.τ).loc Cert.AdamWiLow.main_arg4)
      ∧ r.2.mem ((c.tc : Thread Cert.AdamWiLow.nD Cert.AdamWiLow.τ).loc Cert.AdamWiLow.main_arg5) = m ((c.tc : Thread Cert.AdamWiLow.nD Cert.AdamWiLow.τ).loc Cert.AdamWiLow.main_arg5)
      ∧ r.2.mem ((c.tc : Thread Cert.AdamWiLow.nD Cert.AdamWiLow.τ).loc Cert.AdamWiLow.main_arg6) = m ((c.tc : Thread Cert.AdamWiLow.nD Cert.AdamWiLow.τ).loc Cert.AdamWiLow.main_arg6)
      ∧ r.2.mem ((c.tc : Thread Cert.AdamWiLow.nD Cert.AdamWiLow.τ).loc Cert.AdamWiLow.main_arg7) = m ((c.tc : Thread Cert.AdamWiLow.nD Cert.AdamWiLow.τ).loc Cert.AdamWiLow.main_arg7))
      ∧ r.2.sem = fun _ => 0)

def quiescent_AdamWiLowIdeal [hAdamWiLowIdeal : Cert.AdamWiLowIdeal.Facts] : Prop :=
  ∀ (m : (ℓ : Loc Cert.AdamWiLowIdeal.nD Cert.AdamWiLowIdeal.τ Cert.AdamWiLowIdeal.sig) → Buf (Elt Ideal) ℓ) (g : Dev Cert.AdamWiLowIdeal.nD → PrngReg), Pre_AdamWiLowIdeal m →
    θ_run (Cert.AdamWiLowIdeal.defs (F := Ideal)) (onTc (τ := Cert.AdamWiLowIdeal.τ) (Cert.AdamWiLowIdeal.main (F := Ideal))) ⟨m, fun _ => 0, g⟩ (fun r => (∀ c : Dev Cert.AdamWiLowIdeal.nD,
      r.2.mem ((c.tc : Thread Cert.AdamWiLowIdeal.nD Cert.AdamWiLowIdeal.τ).loc Cert.AdamWiLowIdeal.main_arg0) = m ((c.tc : Thread Cert.AdamWiLowIdeal.nD Cert.AdamWiLowIdeal.τ).loc Cert.AdamWiLowIdeal.main_arg0)
      ∧ r.2.mem ((c.tc : Thread Cert.AdamWiLowIdeal.nD Cert.AdamWiLowIdeal.τ).loc Cert.AdamWiLowIdeal.main_arg1) = m ((c.tc : Thread Cert.AdamWiLowIdeal.nD Cert.AdamWiLowIdeal.τ).loc Cert.AdamWiLowIdeal.main_arg1)
      ∧ r.2.mem ((c.tc : Thread Cert.AdamWiLowIdeal.nD Cert.AdamWiLowIdeal.τ).loc Cert.AdamWiLowIdeal.main_arg2) = m ((c.tc : Thread Cert.AdamWiLowIdeal.nD Cert.AdamWiLowIdeal.τ).loc Cert.AdamWiLowIdeal.main_arg2)
      ∧ r.2.mem ((c.tc : Thread Cert.AdamWiLowIdeal.nD Cert.AdamWiLowIdeal.τ).loc Cert.AdamWiLowIdeal.main_arg3) = m ((c.tc : Thread Cert.AdamWiLowIdeal.nD Cert.AdamWiLowIdeal.τ).loc Cert.AdamWiLowIdeal.main_arg3)
      ∧ r.2.mem ((c.tc : Thread Cert.AdamWiLowIdeal.nD Cert.AdamWiLowIdeal.τ).loc Cert.AdamWiLowIdeal.main_arg4) = m ((c.tc : Thread Cert.AdamWiLowIdeal.nD Cert.AdamWiLowIdeal.τ).loc Cert.AdamWiLowIdeal.main_arg4)
      ∧ r.2.mem ((c.tc : Thread Cert.AdamWiLowIdeal.nD Cert.AdamWiLowIdeal.τ).loc Cert.AdamWiLowIdeal.main_arg5) = m ((c.tc : Thread Cert.AdamWiLowIdeal.nD Cert.AdamWiLowIdeal.τ).loc Cert.AdamWiLowIdeal.main_arg5)
      ∧ r.2.mem ((c.tc : Thread Cert.AdamWiLowIdeal.nD Cert.AdamWiLowIdeal.τ).loc Cert.AdamWiLowIdeal.main_arg6) = m ((c.tc : Thread Cert.AdamWiLowIdeal.nD Cert.AdamWiLowIdeal.τ).loc Cert.AdamWiLowIdeal.main_arg6)
      ∧ r.2.mem ((c.tc : Thread Cert.AdamWiLowIdeal.nD Cert.AdamWiLowIdeal.τ).loc Cert.AdamWiLowIdeal.main_arg7) = m ((c.tc : Thread Cert.AdamWiLowIdeal.nD Cert.AdamWiLowIdeal.τ).loc Cert.AdamWiLowIdeal.main_arg7))
      ∧ r.2.sem = fun _ => 0)

def quiescent_AdamWiLowReferenceIdeal [hAdamWiLowReferenceIdeal : Cert.AdamWiLowReferenceIdeal.Facts] : Prop :=
  ∀ (m : (ℓ : Loc Cert.AdamWiLowReferenceIdeal.nD Cert.AdamWiLowReferenceIdeal.τ Cert.AdamWiLowReferenceIdeal.sig) → Buf (Elt Ideal) ℓ) (g : Dev Cert.AdamWiLowReferenceIdeal.nD → PrngReg), Pre_AdamWiLowReferenceIdeal m →
    θ_run (Cert.AdamWiLowReferenceIdeal.defs (F := Ideal)) (onTc (τ := Cert.AdamWiLowReferenceIdeal.τ) (Cert.AdamWiLowReferenceIdeal.main (F := Ideal))) ⟨m, fun _ => 0, g⟩ (fun r => (∀ c : Dev Cert.AdamWiLowReferenceIdeal.nD,
      r.2.mem ((c.tc : Thread Cert.AdamWiLowReferenceIdeal.nD Cert.AdamWiLowReferenceIdeal.τ).loc Cert.AdamWiLowReferenceIdeal.main_arg0) = m ((c.tc : Thread Cert.AdamWiLowReferenceIdeal.nD Cert.AdamWiLowReferenceIdeal.τ).loc Cert.AdamWiLowReferenceIdeal.main_arg0)
      ∧ r.2.mem ((c.tc : Thread Cert.AdamWiLowReferenceIdeal.nD Cert.AdamWiLowReferenceIdeal.τ).loc Cert.AdamWiLowReferenceIdeal.main_arg1) = m ((c.tc : Thread Cert.AdamWiLowReferenceIdeal.nD Cert.AdamWiLowReferenceIdeal.τ).loc Cert.AdamWiLowReferenceIdeal.main_arg1)
      ∧ r.2.mem ((c.tc : Thread Cert.AdamWiLowReferenceIdeal.nD Cert.AdamWiLowReferenceIdeal.τ).loc Cert.AdamWiLowReferenceIdeal.main_arg2) = m ((c.tc : Thread Cert.AdamWiLowReferenceIdeal.nD Cert.AdamWiLowReferenceIdeal.τ).loc Cert.AdamWiLowReferenceIdeal.main_arg2)
      ∧ r.2.mem ((c.tc : Thread Cert.AdamWiLowReferenceIdeal.nD Cert.AdamWiLowReferenceIdeal.τ).loc Cert.AdamWiLowReferenceIdeal.main_arg3) = m ((c.tc : Thread Cert.AdamWiLowReferenceIdeal.nD Cert.AdamWiLowReferenceIdeal.τ).loc Cert.AdamWiLowReferenceIdeal.main_arg3)
      ∧ r.2.mem ((c.tc : Thread Cert.AdamWiLowReferenceIdeal.nD Cert.AdamWiLowReferenceIdeal.τ).loc Cert.AdamWiLowReferenceIdeal.main_arg4) = m ((c.tc : Thread Cert.AdamWiLowReferenceIdeal.nD Cert.AdamWiLowReferenceIdeal.τ).loc Cert.AdamWiLowReferenceIdeal.main_arg4)
      ∧ r.2.mem ((c.tc : Thread Cert.AdamWiLowReferenceIdeal.nD Cert.AdamWiLowReferenceIdeal.τ).loc Cert.AdamWiLowReferenceIdeal.main_arg5) = m ((c.tc : Thread Cert.AdamWiLowReferenceIdeal.nD Cert.AdamWiLowReferenceIdeal.τ).loc Cert.AdamWiLowReferenceIdeal.main_arg5)
      ∧ r.2.mem ((c.tc : Thread Cert.AdamWiLowReferenceIdeal.nD Cert.AdamWiLowReferenceIdeal.τ).loc Cert.AdamWiLowReferenceIdeal.main_arg6) = m ((c.tc : Thread Cert.AdamWiLowReferenceIdeal.nD Cert.AdamWiLowReferenceIdeal.τ).loc Cert.AdamWiLowReferenceIdeal.main_arg6)
      ∧ r.2.mem ((c.tc : Thread Cert.AdamWiLowReferenceIdeal.nD Cert.AdamWiLowReferenceIdeal.τ).loc Cert.AdamWiLowReferenceIdeal.main_arg7) = m ((c.tc : Thread Cert.AdamWiLowReferenceIdeal.nD Cert.AdamWiLowReferenceIdeal.τ).loc Cert.AdamWiLowReferenceIdeal.main_arg7))
      ∧ r.2.sem = fun _ => 0)

def quiescent_AdamWoUp [hAdamWoUp : Cert.AdamWoUp.Facts] : Prop :=
  ∀ (m : (ℓ : Loc Cert.AdamWoUp.nD Cert.AdamWoUp.τ Cert.AdamWoUp.sig) → Buf (Elt Bits) ℓ) (g : Dev Cert.AdamWoUp.nD → PrngReg), Pre_AdamWoUp m →
    θ_run (Cert.AdamWoUp.defs (F := Bits)) (onTc (τ := Cert.AdamWoUp.τ) (Cert.AdamWoUp.main (F := Bits))) ⟨m, fun _ => 0, g⟩ (fun r => (∀ c : Dev Cert.AdamWoUp.nD,
      r.2.mem ((c.tc : Thread Cert.AdamWoUp.nD Cert.AdamWoUp.τ).loc Cert.AdamWoUp.main_arg0) = m ((c.tc : Thread Cert.AdamWoUp.nD Cert.AdamWoUp.τ).loc Cert.AdamWoUp.main_arg0)
      ∧ r.2.mem ((c.tc : Thread Cert.AdamWoUp.nD Cert.AdamWoUp.τ).loc Cert.AdamWoUp.main_arg1) = m ((c.tc : Thread Cert.AdamWoUp.nD Cert.AdamWoUp.τ).loc Cert.AdamWoUp.main_arg1)
      ∧ r.2.mem ((c.tc : Thread Cert.AdamWoUp.nD Cert.AdamWoUp.τ).loc Cert.AdamWoUp.main_arg2) = m ((c.tc : Thread Cert.AdamWoUp.nD Cert.AdamWoUp.τ).loc Cert.AdamWoUp.main_arg2)
      ∧ r.2.mem ((c.tc : Thread Cert.AdamWoUp.nD Cert.AdamWoUp.τ).loc Cert.AdamWoUp.main_arg3) = m ((c.tc : Thread Cert.AdamWoUp.nD Cert.AdamWoUp.τ).loc Cert.AdamWoUp.main_arg3))
      ∧ r.2.sem = fun _ => 0)

def quiescent_AdamWoUpIdeal [hAdamWoUpIdeal : Cert.AdamWoUpIdeal.Facts] : Prop :=
  ∀ (m : (ℓ : Loc Cert.AdamWoUpIdeal.nD Cert.AdamWoUpIdeal.τ Cert.AdamWoUpIdeal.sig) → Buf (Elt Ideal) ℓ) (g : Dev Cert.AdamWoUpIdeal.nD → PrngReg), Pre_AdamWoUpIdeal m →
    θ_run (Cert.AdamWoUpIdeal.defs (F := Ideal)) (onTc (τ := Cert.AdamWoUpIdeal.τ) (Cert.AdamWoUpIdeal.main (F := Ideal))) ⟨m, fun _ => 0, g⟩ (fun r => (∀ c : Dev Cert.AdamWoUpIdeal.nD,
      r.2.mem ((c.tc : Thread Cert.AdamWoUpIdeal.nD Cert.AdamWoUpIdeal.τ).loc Cert.AdamWoUpIdeal.main_arg0) = m ((c.tc : Thread Cert.AdamWoUpIdeal.nD Cert.AdamWoUpIdeal.τ).loc Cert.AdamWoUpIdeal.main_arg0)
      ∧ r.2.mem ((c.tc : Thread Cert.AdamWoUpIdeal.nD Cert.AdamWoUpIdeal.τ).loc Cert.AdamWoUpIdeal.main_arg1) = m ((c.tc : Thread Cert.AdamWoUpIdeal.nD Cert.AdamWoUpIdeal.τ).loc Cert.AdamWoUpIdeal.main_arg1)
      ∧ r.2.mem ((c.tc : Thread Cert.AdamWoUpIdeal.nD Cert.AdamWoUpIdeal.τ).loc Cert.AdamWoUpIdeal.main_arg2) = m ((c.tc : Thread Cert.AdamWoUpIdeal.nD Cert.AdamWoUpIdeal.τ).loc Cert.AdamWoUpIdeal.main_arg2)
      ∧ r.2.mem ((c.tc : Thread Cert.AdamWoUpIdeal.nD Cert.AdamWoUpIdeal.τ).loc Cert.AdamWoUpIdeal.main_arg3) = m ((c.tc : Thread Cert.AdamWoUpIdeal.nD Cert.AdamWoUpIdeal.τ).loc Cert.AdamWoUpIdeal.main_arg3))
      ∧ r.2.sem = fun _ => 0)

def quiescent_AdamWoUpReferenceIdeal [hAdamWoUpReferenceIdeal : Cert.AdamWoUpReferenceIdeal.Facts] : Prop :=
  ∀ (m : (ℓ : Loc Cert.AdamWoUpReferenceIdeal.nD Cert.AdamWoUpReferenceIdeal.τ Cert.AdamWoUpReferenceIdeal.sig) → Buf (Elt Ideal) ℓ) (g : Dev Cert.AdamWoUpReferenceIdeal.nD → PrngReg), Pre_AdamWoUpReferenceIdeal m →
    θ_run (Cert.AdamWoUpReferenceIdeal.defs (F := Ideal)) (onTc (τ := Cert.AdamWoUpReferenceIdeal.τ) (Cert.AdamWoUpReferenceIdeal.main (F := Ideal))) ⟨m, fun _ => 0, g⟩ (fun r => (∀ c : Dev Cert.AdamWoUpReferenceIdeal.nD,
      r.2.mem ((c.tc : Thread Cert.AdamWoUpReferenceIdeal.nD Cert.AdamWoUpReferenceIdeal.τ).loc Cert.AdamWoUpReferenceIdeal.main_arg0) = m ((c.tc : Thread Cert.AdamWoUpReferenceIdeal.nD Cert.AdamWoUpReferenceIdeal.τ).loc Cert.AdamWoUpReferenceIdeal.main_arg0)
      ∧ r.2.mem ((c.tc : Thread Cert.AdamWoUpReferenceIdeal.nD Cert.AdamWoUpReferenceIdeal.τ).loc Cert.AdamWoUpReferenceIdeal.main_arg1) = m ((c.tc : Thread Cert.AdamWoUpReferenceIdeal.nD Cert.AdamWoUpReferenceIdeal.τ).loc Cert.AdamWoUpReferenceIdeal.main_arg1)
      ∧ r.2.mem ((c.tc : Thread Cert.AdamWoUpReferenceIdeal.nD Cert.AdamWoUpReferenceIdeal.τ).loc Cert.AdamWoUpReferenceIdeal.main_arg2) = m ((c.tc : Thread Cert.AdamWoUpReferenceIdeal.nD Cert.AdamWoUpReferenceIdeal.τ).loc Cert.AdamWoUpReferenceIdeal.main_arg2)
      ∧ r.2.mem ((c.tc : Thread Cert.AdamWoUpReferenceIdeal.nD Cert.AdamWoUpReferenceIdeal.τ).loc Cert.AdamWoUpReferenceIdeal.main_arg3) = m ((c.tc : Thread Cert.AdamWoUpReferenceIdeal.nD Cert.AdamWoUpReferenceIdeal.τ).loc Cert.AdamWoUpReferenceIdeal.main_arg3))
      ∧ r.2.sem = fun _ => 0)

def quiescent_AdamWoLow [hAdamWoLow : Cert.AdamWoLow.Facts] : Prop :=
  ∀ (m : (ℓ : Loc Cert.AdamWoLow.nD Cert.AdamWoLow.τ Cert.AdamWoLow.sig) → Buf (Elt Bits) ℓ) (g : Dev Cert.AdamWoLow.nD → PrngReg), Pre_AdamWoLow m →
    θ_run (Cert.AdamWoLow.defs (F := Bits)) (onTc (τ := Cert.AdamWoLow.τ) (Cert.AdamWoLow.main (F := Bits))) ⟨m, fun _ => 0, g⟩ (fun r => (∀ c : Dev Cert.AdamWoLow.nD,
      r.2.mem ((c.tc : Thread Cert.AdamWoLow.nD Cert.AdamWoLow.τ).loc Cert.AdamWoLow.main_arg0) = m ((c.tc : Thread Cert.AdamWoLow.nD Cert.AdamWoLow.τ).loc Cert.AdamWoLow.main_arg0)
      ∧ r.2.mem ((c.tc : Thread Cert.AdamWoLow.nD Cert.AdamWoLow.τ).loc Cert.AdamWoLow.main_arg1) = m ((c.tc : Thread Cert.AdamWoLow.nD Cert.AdamWoLow.τ).loc Cert.AdamWoLow.main_arg1)
      ∧ r.2.mem ((c.tc : Thread Cert.AdamWoLow.nD Cert.AdamWoLow.τ).loc Cert.AdamWoLow.main_arg2) = m ((c.tc : Thread Cert.AdamWoLow.nD Cert.AdamWoLow.τ).loc Cert.AdamWoLow.main_arg2)
      ∧ r.2.mem ((c.tc : Thread Cert.AdamWoLow.nD Cert.AdamWoLow.τ).loc Cert.AdamWoLow.main_arg3) = m ((c.tc : Thread Cert.AdamWoLow.nD Cert.AdamWoLow.τ).loc Cert.AdamWoLow.main_arg3)
      ∧ r.2.mem ((c.tc : Thread Cert.AdamWoLow.nD Cert.AdamWoLow.τ).loc Cert.AdamWoLow.main_arg4) = m ((c.tc : Thread Cert.AdamWoLow.nD Cert.AdamWoLow.τ).loc Cert.AdamWoLow.main_arg4)
      ∧ r.2.mem ((c.tc : Thread Cert.AdamWoLow.nD Cert.AdamWoLow.τ).loc Cert.AdamWoLow.main_arg5) = m ((c.tc : Thread Cert.AdamWoLow.nD Cert.AdamWoLow.τ).loc Cert.AdamWoLow.main_arg5)
      ∧ r.2.mem ((c.tc : Thread Cert.AdamWoLow.nD Cert.AdamWoLow.τ).loc Cert.AdamWoLow.main_arg6) = m ((c.tc : Thread Cert.AdamWoLow.nD Cert.AdamWoLow.τ).loc Cert.AdamWoLow.main_arg6)
      ∧ r.2.mem ((c.tc : Thread Cert.AdamWoLow.nD Cert.AdamWoLow.τ).loc Cert.AdamWoLow.main_arg7) = m ((c.tc : Thread Cert.AdamWoLow.nD Cert.AdamWoLow.τ).loc Cert.AdamWoLow.main_arg7))
      ∧ r.2.sem = fun _ => 0)

def quiescent_AdamWoLowIdeal [hAdamWoLowIdeal : Cert.AdamWoLowIdeal.Facts] : Prop :=
  ∀ (m : (ℓ : Loc Cert.AdamWoLowIdeal.nD Cert.AdamWoLowIdeal.τ Cert.AdamWoLowIdeal.sig) → Buf (Elt Ideal) ℓ) (g : Dev Cert.AdamWoLowIdeal.nD → PrngReg), Pre_AdamWoLowIdeal m →
    θ_run (Cert.AdamWoLowIdeal.defs (F := Ideal)) (onTc (τ := Cert.AdamWoLowIdeal.τ) (Cert.AdamWoLowIdeal.main (F := Ideal))) ⟨m, fun _ => 0, g⟩ (fun r => (∀ c : Dev Cert.AdamWoLowIdeal.nD,
      r.2.mem ((c.tc : Thread Cert.AdamWoLowIdeal.nD Cert.AdamWoLowIdeal.τ).loc Cert.AdamWoLowIdeal.main_arg0) = m ((c.tc : Thread Cert.AdamWoLowIdeal.nD Cert.AdamWoLowIdeal.τ).loc Cert.AdamWoLowIdeal.main_arg0)
      ∧ r.2.mem ((c.tc : Thread Cert.AdamWoLowIdeal.nD Cert.AdamWoLowIdeal.τ).loc Cert.AdamWoLowIdeal.main_arg1) = m ((c.tc : Thread Cert.AdamWoLowIdeal.nD Cert.AdamWoLowIdeal.τ).loc Cert.AdamWoLowIdeal.main_arg1)
      ∧ r.2.mem ((c.tc : Thread Cert.AdamWoLowIdeal.nD Cert.AdamWoLowIdeal.τ).loc Cert.AdamWoLowIdeal.main_arg2) = m ((c.tc : Thread Cert.AdamWoLowIdeal.nD Cert.AdamWoLowIdeal.τ).loc Cert.AdamWoLowIdeal.main_arg2)
      ∧ r.2.mem ((c.tc : Thread Cert.AdamWoLowIdeal.nD Cert.AdamWoLowIdeal.τ).loc Cert.AdamWoLowIdeal.main_arg3) = m ((c.tc : Thread Cert.AdamWoLowIdeal.nD Cert.AdamWoLowIdeal.τ).loc Cert.AdamWoLowIdeal.main_arg3)
      ∧ r.2.mem ((c.tc : Thread Cert.AdamWoLowIdeal.nD Cert.AdamWoLowIdeal.τ).loc Cert.AdamWoLowIdeal.main_arg4) = m ((c.tc : Thread Cert.AdamWoLowIdeal.nD Cert.AdamWoLowIdeal.τ).loc Cert.AdamWoLowIdeal.main_arg4)
      ∧ r.2.mem ((c.tc : Thread Cert.AdamWoLowIdeal.nD Cert.AdamWoLowIdeal.τ).loc Cert.AdamWoLowIdeal.main_arg5) = m ((c.tc : Thread Cert.AdamWoLowIdeal.nD Cert.AdamWoLowIdeal.τ).loc Cert.AdamWoLowIdeal.main_arg5)
      ∧ r.2.mem ((c.tc : Thread Cert.AdamWoLowIdeal.nD Cert.AdamWoLowIdeal.τ).loc Cert.AdamWoLowIdeal.main_arg6) = m ((c.tc : Thread Cert.AdamWoLowIdeal.nD Cert.AdamWoLowIdeal.τ).loc Cert.AdamWoLowIdeal.main_arg6)
      ∧ r.2.mem ((c.tc : Thread Cert.AdamWoLowIdeal.nD Cert.AdamWoLowIdeal.τ).loc Cert.AdamWoLowIdeal.main_arg7) = m ((c.tc : Thread Cert.AdamWoLowIdeal.nD Cert.AdamWoLowIdeal.τ).loc Cert.AdamWoLowIdeal.main_arg7))
      ∧ r.2.sem = fun _ => 0)

def quiescent_AdamWoLowReferenceIdeal [hAdamWoLowReferenceIdeal : Cert.AdamWoLowReferenceIdeal.Facts] : Prop :=
  ∀ (m : (ℓ : Loc Cert.AdamWoLowReferenceIdeal.nD Cert.AdamWoLowReferenceIdeal.τ Cert.AdamWoLowReferenceIdeal.sig) → Buf (Elt Ideal) ℓ) (g : Dev Cert.AdamWoLowReferenceIdeal.nD → PrngReg), Pre_AdamWoLowReferenceIdeal m →
    θ_run (Cert.AdamWoLowReferenceIdeal.defs (F := Ideal)) (onTc (τ := Cert.AdamWoLowReferenceIdeal.τ) (Cert.AdamWoLowReferenceIdeal.main (F := Ideal))) ⟨m, fun _ => 0, g⟩ (fun r => (∀ c : Dev Cert.AdamWoLowReferenceIdeal.nD,
      r.2.mem ((c.tc : Thread Cert.AdamWoLowReferenceIdeal.nD Cert.AdamWoLowReferenceIdeal.τ).loc Cert.AdamWoLowReferenceIdeal.main_arg0) = m ((c.tc : Thread Cert.AdamWoLowReferenceIdeal.nD Cert.AdamWoLowReferenceIdeal.τ).loc Cert.AdamWoLowReferenceIdeal.main_arg0)
      ∧ r.2.mem ((c.tc : Thread Cert.AdamWoLowReferenceIdeal.nD Cert.AdamWoLowReferenceIdeal.τ).loc Cert.AdamWoLowReferenceIdeal.main_arg1) = m ((c.tc : Thread Cert.AdamWoLowReferenceIdeal.nD Cert.AdamWoLowReferenceIdeal.τ).loc Cert.AdamWoLowReferenceIdeal.main_arg1)
      ∧ r.2.mem ((c.tc : Thread Cert.AdamWoLowReferenceIdeal.nD Cert.AdamWoLowReferenceIdeal.τ).loc Cert.AdamWoLowReferenceIdeal.main_arg2) = m ((c.tc : Thread Cert.AdamWoLowReferenceIdeal.nD Cert.AdamWoLowReferenceIdeal.τ).loc Cert.AdamWoLowReferenceIdeal.main_arg2)
      ∧ r.2.mem ((c.tc : Thread Cert.AdamWoLowReferenceIdeal.nD Cert.AdamWoLowReferenceIdeal.τ).loc Cert.AdamWoLowReferenceIdeal.main_arg3) = m ((c.tc : Thread Cert.AdamWoLowReferenceIdeal.nD Cert.AdamWoLowReferenceIdeal.τ).loc Cert.AdamWoLowReferenceIdeal.main_arg3)
      ∧ r.2.mem ((c.tc : Thread Cert.AdamWoLowReferenceIdeal.nD Cert.AdamWoLowReferenceIdeal.τ).loc Cert.AdamWoLowReferenceIdeal.main_arg4) = m ((c.tc : Thread Cert.AdamWoLowReferenceIdeal.nD Cert.AdamWoLowReferenceIdeal.τ).loc Cert.AdamWoLowReferenceIdeal.main_arg4)
      ∧ r.2.mem ((c.tc : Thread Cert.AdamWoLowReferenceIdeal.nD Cert.AdamWoLowReferenceIdeal.τ).loc Cert.AdamWoLowReferenceIdeal.main_arg5) = m ((c.tc : Thread Cert.AdamWoLowReferenceIdeal.nD Cert.AdamWoLowReferenceIdeal.τ).loc Cert.AdamWoLowReferenceIdeal.main_arg5)
      ∧ r.2.mem ((c.tc : Thread Cert.AdamWoLowReferenceIdeal.nD Cert.AdamWoLowReferenceIdeal.τ).loc Cert.AdamWoLowReferenceIdeal.main_arg6) = m ((c.tc : Thread Cert.AdamWoLowReferenceIdeal.nD Cert.AdamWoLowReferenceIdeal.τ).loc Cert.AdamWoLowReferenceIdeal.main_arg6)
      ∧ r.2.mem ((c.tc : Thread Cert.AdamWoLowReferenceIdeal.nD Cert.AdamWoLowReferenceIdeal.τ).loc Cert.AdamWoLowReferenceIdeal.main_arg7) = m ((c.tc : Thread Cert.AdamWoLowReferenceIdeal.nD Cert.AdamWoLowReferenceIdeal.τ).loc Cert.AdamWoLowReferenceIdeal.main_arg7))
      ∧ r.2.sem = fun _ => 0)

def quiescent_CrossF [hCrossF : Cert.CrossF.Facts] : Prop :=
  ∀ (m : (ℓ : Loc Cert.CrossF.nD Cert.CrossF.τ Cert.CrossF.sig) → Buf (Elt Bits) ℓ) (g : Dev Cert.CrossF.nD → PrngReg), Pre_CrossF m →
    θ_run (Cert.CrossF.defs (F := Bits)) (onTc (τ := Cert.CrossF.τ) (Cert.CrossF.main (F := Bits))) ⟨m, fun _ => 0, g⟩ (fun r => (∀ c : Dev Cert.CrossF.nD,
      r.2.mem ((c.tc : Thread Cert.CrossF.nD Cert.CrossF.τ).loc Cert.CrossF.main_arg0) = m ((c.tc : Thread Cert.CrossF.nD Cert.CrossF.τ).loc Cert.CrossF.main_arg0)
      ∧ r.2.mem ((c.tc : Thread Cert.CrossF.nD Cert.CrossF.τ).loc Cert.CrossF.main_arg1) = m ((c.tc : Thread Cert.CrossF.nD Cert.CrossF.τ).loc Cert.CrossF.main_arg1))
      ∧ r.2.sem = fun _ => 0)

def quiescent_CrossFIdeal [hCrossFIdeal : Cert.CrossFIdeal.Facts] : Prop :=
  ∀ (m : (ℓ : Loc Cert.CrossFIdeal.nD Cert.CrossFIdeal.τ Cert.CrossFIdeal.sig) → Buf (Elt Ideal) ℓ) (g : Dev Cert.CrossFIdeal.nD → PrngReg), Pre_CrossFIdeal m →
    θ_run (Cert.CrossFIdeal.defs (F := Ideal)) (onTc (τ := Cert.CrossFIdeal.τ) (Cert.CrossFIdeal.main (F := Ideal))) ⟨m, fun _ => 0, g⟩ (fun r => (∀ c : Dev Cert.CrossFIdeal.nD,
      r.2.mem ((c.tc : Thread Cert.CrossFIdeal.nD Cert.CrossFIdeal.τ).loc Cert.CrossFIdeal.main_arg0) = m ((c.tc : Thread Cert.CrossFIdeal.nD Cert.CrossFIdeal.τ).loc Cert.CrossFIdeal.main_arg0)
      ∧ r.2.mem ((c.tc : Thread Cert.CrossFIdeal.nD Cert.CrossFIdeal.τ).loc Cert.CrossFIdeal.main_arg1) = m ((c.tc : Thread Cert.CrossFIdeal.nD Cert.CrossFIdeal.τ).loc Cert.CrossFIdeal.main_arg1))
      ∧ r.2.sem = fun _ => 0)

def quiescent_CrossFReferenceIdeal [hCrossFReferenceIdeal : Cert.CrossFReferenceIdeal.Facts] : Prop :=
  ∀ (m : (ℓ : Loc Cert.CrossFReferenceIdeal.nD Cert.CrossFReferenceIdeal.τ Cert.CrossFReferenceIdeal.sig) → Buf (Elt Ideal) ℓ) (g : Dev Cert.CrossFReferenceIdeal.nD → PrngReg), Pre_CrossFReferenceIdeal m →
    θ_run (Cert.CrossFReferenceIdeal.defs (F := Ideal)) (onTc (τ := Cert.CrossFReferenceIdeal.τ) (Cert.CrossFReferenceIdeal.main (F := Ideal))) ⟨m, fun _ => 0, g⟩ (fun r => (∀ c : Dev Cert.CrossFReferenceIdeal.nD,
      r.2.mem ((c.tc : Thread Cert.CrossFReferenceIdeal.nD Cert.CrossFReferenceIdeal.τ).loc Cert.CrossFReferenceIdeal.main_arg0) = m ((c.tc : Thread Cert.CrossFReferenceIdeal.nD Cert.CrossFReferenceIdeal.τ).loc Cert.CrossFReferenceIdeal.main_arg0)
      ∧ r.2.mem ((c.tc : Thread Cert.CrossFReferenceIdeal.nD Cert.CrossFReferenceIdeal.τ).loc Cert.CrossFReferenceIdeal.main_arg1) = m ((c.tc : Thread Cert.CrossFReferenceIdeal.nD Cert.CrossFReferenceIdeal.τ).loc Cert.CrossFReferenceIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_CrossB [hCrossB : Cert.CrossB.Facts] : Prop :=
  ∀ (m : (ℓ : Loc Cert.CrossB.nD Cert.CrossB.τ Cert.CrossB.sig) → Buf (Elt Bits) ℓ) (g : Dev Cert.CrossB.nD → PrngReg), Pre_CrossB m →
    θ_run (Cert.CrossB.defs (F := Bits)) (onTc (τ := Cert.CrossB.τ) (Cert.CrossB.main (F := Bits))) ⟨m, fun _ => 0, g⟩ (fun r => (∀ c : Dev Cert.CrossB.nD,
      r.2.mem ((c.tc : Thread Cert.CrossB.nD Cert.CrossB.τ).loc Cert.CrossB.main_arg0) = m ((c.tc : Thread Cert.CrossB.nD Cert.CrossB.τ).loc Cert.CrossB.main_arg0)
      ∧ r.2.mem ((c.tc : Thread Cert.CrossB.nD Cert.CrossB.τ).loc Cert.CrossB.main_arg1) = m ((c.tc : Thread Cert.CrossB.nD Cert.CrossB.τ).loc Cert.CrossB.main_arg1)
      ∧ r.2.mem ((c.tc : Thread Cert.CrossB.nD Cert.CrossB.τ).loc Cert.CrossB.main_arg2) = m ((c.tc : Thread Cert.CrossB.nD Cert.CrossB.τ).loc Cert.CrossB.main_arg2))
      ∧ r.2.sem = fun _ => 0)

def quiescent_CrossBIdeal [hCrossBIdeal : Cert.CrossBIdeal.Facts] : Prop :=
  ∀ (m : (ℓ : Loc Cert.CrossBIdeal.nD Cert.CrossBIdeal.τ Cert.CrossBIdeal.sig) → Buf (Elt Ideal) ℓ) (g : Dev Cert.CrossBIdeal.nD → PrngReg), Pre_CrossBIdeal m →
    θ_run (Cert.CrossBIdeal.defs (F := Ideal)) (onTc (τ := Cert.CrossBIdeal.τ) (Cert.CrossBIdeal.main (F := Ideal))) ⟨m, fun _ => 0, g⟩ (fun r => (∀ c : Dev Cert.CrossBIdeal.nD,
      r.2.mem ((c.tc : Thread Cert.CrossBIdeal.nD Cert.CrossBIdeal.τ).loc Cert.CrossBIdeal.main_arg0) = m ((c.tc : Thread Cert.CrossBIdeal.nD Cert.CrossBIdeal.τ).loc Cert.CrossBIdeal.main_arg0)
      ∧ r.2.mem ((c.tc : Thread Cert.CrossBIdeal.nD Cert.CrossBIdeal.τ).loc Cert.CrossBIdeal.main_arg1) = m ((c.tc : Thread Cert.CrossBIdeal.nD Cert.CrossBIdeal.τ).loc Cert.CrossBIdeal.main_arg1)
      ∧ r.2.mem ((c.tc : Thread Cert.CrossBIdeal.nD Cert.CrossBIdeal.τ).loc Cert.CrossBIdeal.main_arg2) = m ((c.tc : Thread Cert.CrossBIdeal.nD Cert.CrossBIdeal.τ).loc Cert.CrossBIdeal.main_arg2))
      ∧ r.2.sem = fun _ => 0)

def quiescent_CrossBIdeal_pre_cross_bwd_finite [hCrossBIdeal : Cert.CrossBIdeal.Facts] [hPre_cross_bwd_finite : Cert.Pre_cross_bwd_finite.Facts] : Prop :=
  ∀ (m : (ℓ : Loc Cert.CrossBIdeal.nD Cert.CrossBIdeal.τ Cert.CrossBIdeal.sig) → Buf (Elt Ideal) ℓ) (g : Dev Cert.CrossBIdeal.nD → PrngReg), Pre_CrossBIdeal_cross_bwd_finite m →
    θ_run (Cert.CrossBIdeal.defs (F := Ideal)) (onTc (τ := Cert.CrossBIdeal.τ) (Cert.CrossBIdeal.main (F := Ideal))) ⟨m, fun _ => 0, g⟩ (fun r => (∀ c : Dev Cert.CrossBIdeal.nD,
      r.2.mem ((c.tc : Thread Cert.CrossBIdeal.nD Cert.CrossBIdeal.τ).loc Cert.CrossBIdeal.main_arg0) = m ((c.tc : Thread Cert.CrossBIdeal.nD Cert.CrossBIdeal.τ).loc Cert.CrossBIdeal.main_arg0)
      ∧ r.2.mem ((c.tc : Thread Cert.CrossBIdeal.nD Cert.CrossBIdeal.τ).loc Cert.CrossBIdeal.main_arg1) = m ((c.tc : Thread Cert.CrossBIdeal.nD Cert.CrossBIdeal.τ).loc Cert.CrossBIdeal.main_arg1)
      ∧ r.2.mem ((c.tc : Thread Cert.CrossBIdeal.nD Cert.CrossBIdeal.τ).loc Cert.CrossBIdeal.main_arg2) = m ((c.tc : Thread Cert.CrossBIdeal.nD Cert.CrossBIdeal.τ).loc Cert.CrossBIdeal.main_arg2))
      ∧ r.2.sem = fun _ => 0)

def quiescent_CrossBReferenceIdeal [hCrossBReferenceIdeal : Cert.CrossBReferenceIdeal.Facts] : Prop :=
  ∀ (m : (ℓ : Loc Cert.CrossBReferenceIdeal.nD Cert.CrossBReferenceIdeal.τ Cert.CrossBReferenceIdeal.sig) → Buf (Elt Ideal) ℓ) (g : Dev Cert.CrossBReferenceIdeal.nD → PrngReg), Pre_CrossBReferenceIdeal m →
    θ_run (Cert.CrossBReferenceIdeal.defs (F := Ideal)) (onTc (τ := Cert.CrossBReferenceIdeal.τ) (Cert.CrossBReferenceIdeal.main (F := Ideal))) ⟨m, fun _ => 0, g⟩ (fun r => (∀ c : Dev Cert.CrossBReferenceIdeal.nD,
      r.2.mem ((c.tc : Thread Cert.CrossBReferenceIdeal.nD Cert.CrossBReferenceIdeal.τ).loc Cert.CrossBReferenceIdeal.main_arg0) = m ((c.tc : Thread Cert.CrossBReferenceIdeal.nD Cert.CrossBReferenceIdeal.τ).loc Cert.CrossBReferenceIdeal.main_arg0)
      ∧ r.2.mem ((c.tc : Thread Cert.CrossBReferenceIdeal.nD Cert.CrossBReferenceIdeal.τ).loc Cert.CrossBReferenceIdeal.main_arg1) = m ((c.tc : Thread Cert.CrossBReferenceIdeal.nD Cert.CrossBReferenceIdeal.τ).loc Cert.CrossBReferenceIdeal.main_arg1)
      ∧ r.2.mem ((c.tc : Thread Cert.CrossBReferenceIdeal.nD Cert.CrossBReferenceIdeal.τ).loc Cert.CrossBReferenceIdeal.main_arg2) = m ((c.tc : Thread Cert.CrossBReferenceIdeal.nD Cert.CrossBReferenceIdeal.τ).loc Cert.CrossBReferenceIdeal.main_arg2))
      ∧ r.2.sem = fun _ => 0)

def quiescent_CrossBReferenceIdeal_pre_cross_bwd_finite [hCrossBReferenceIdeal : Cert.CrossBReferenceIdeal.Facts] [hPre_cross_bwd_finite : Cert.Pre_cross_bwd_finite.Facts] : Prop :=
  ∀ (m : (ℓ : Loc Cert.CrossBReferenceIdeal.nD Cert.CrossBReferenceIdeal.τ Cert.CrossBReferenceIdeal.sig) → Buf (Elt Ideal) ℓ) (g : Dev Cert.CrossBReferenceIdeal.nD → PrngReg), Pre_CrossBReferenceIdeal_cross_bwd_finite m →
    θ_run (Cert.CrossBReferenceIdeal.defs (F := Ideal)) (onTc (τ := Cert.CrossBReferenceIdeal.τ) (Cert.CrossBReferenceIdeal.main (F := Ideal))) ⟨m, fun _ => 0, g⟩ (fun r => (∀ c : Dev Cert.CrossBReferenceIdeal.nD,
      r.2.mem ((c.tc : Thread Cert.CrossBReferenceIdeal.nD Cert.CrossBReferenceIdeal.τ).loc Cert.CrossBReferenceIdeal.main_arg0) = m ((c.tc : Thread Cert.CrossBReferenceIdeal.nD Cert.CrossBReferenceIdeal.τ).loc Cert.CrossBReferenceIdeal.main_arg0)
      ∧ r.2.mem ((c.tc : Thread Cert.CrossBReferenceIdeal.nD Cert.CrossBReferenceIdeal.τ).loc Cert.CrossBReferenceIdeal.main_arg1) = m ((c.tc : Thread Cert.CrossBReferenceIdeal.nD Cert.CrossBReferenceIdeal.τ).loc Cert.CrossBReferenceIdeal.main_arg1)
      ∧ r.2.mem ((c.tc : Thread Cert.CrossBReferenceIdeal.nD Cert.CrossBReferenceIdeal.τ).loc Cert.CrossBReferenceIdeal.main_arg2) = m ((c.tc : Thread Cert.CrossBReferenceIdeal.nD Cert.CrossBReferenceIdeal.τ).loc Cert.CrossBReferenceIdeal.main_arg2))
      ∧ r.2.sem = fun _ => 0)

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_BrRnn_BrRnnIdeal : Prop :=
  True

def algebraic_BrRnnIdeal_BrRnnReferenceIdeal [hBrRnnIdeal : Cert.BrRnnIdeal.Facts] [hBrRnnReferenceIdeal : Cert.BrRnnReferenceIdeal.Facts] : Prop :=
  ∀ (m : (ℓ : Loc Cert.BrRnnIdeal.nD Cert.BrRnnIdeal.τ Cert.BrRnnIdeal.sig) → Buf (Elt Ideal) ℓ) (g : Dev Cert.BrRnnIdeal.nD → PrngReg)
    (m' : (ℓ : Loc Cert.BrRnnReferenceIdeal.nD Cert.BrRnnReferenceIdeal.τ Cert.BrRnnReferenceIdeal.sig) → Buf (Elt Ideal) ℓ) (g' : Dev Cert.BrRnnReferenceIdeal.nD → PrngReg), Pre_BrRnnIdeal m →
    (∀ c : Dev Cert.BrRnnIdeal.nD,
      m' ((c.tc : Thread Cert.BrRnnReferenceIdeal.nD Cert.BrRnnReferenceIdeal.τ).loc Cert.BrRnnReferenceIdeal.main_arg0) = m ((c.tc : Thread Cert.BrRnnIdeal.nD Cert.BrRnnIdeal.τ).loc Cert.BrRnnIdeal.main_arg0)
      ∧ m' ((c.tc : Thread Cert.BrRnnReferenceIdeal.nD Cert.BrRnnReferenceIdeal.τ).loc Cert.BrRnnReferenceIdeal.main_arg1) = m ((c.tc : Thread Cert.BrRnnIdeal.nD Cert.BrRnnIdeal.τ).loc Cert.BrRnnIdeal.main_arg1)) →
    ∃ (v0 : (c : Dev Cert.BrRnnIdeal.nD) → Buf (Elt Ideal) ((c.tc : Thread Cert.BrRnnIdeal.nD Cert.BrRnnIdeal.τ).loc Cert.BrRnnIdeal.main_v0)),
      θ_run (Cert.BrRnnIdeal.defs (F := Ideal)) (onTc (τ := Cert.BrRnnIdeal.τ) (Cert.BrRnnIdeal.main (F := Ideal))) ⟨m, fun _ => 0, g⟩ (fun r => ∀ c : Dev Cert.BrRnnIdeal.nD,
          r.2.mem ((c.tc : Thread Cert.BrRnnIdeal.nD Cert.BrRnnIdeal.τ).loc Cert.BrRnnIdeal.main_v0) = v0 c
          ∧ r.2.mem ((c.tc : Thread Cert.BrRnnIdeal.nD Cert.BrRnnIdeal.τ).loc Cert.BrRnnIdeal.main_arg0) = m ((c.tc : Thread Cert.BrRnnIdeal.nD Cert.BrRnnIdeal.τ).loc Cert.BrRnnIdeal.main_arg0)
          ∧ r.2.mem ((c.tc : Thread Cert.BrRnnIdeal.nD Cert.BrRnnIdeal.τ).loc Cert.BrRnnIdeal.main_arg1) = m ((c.tc : Thread Cert.BrRnnIdeal.nD Cert.BrRnnIdeal.τ).loc Cert.BrRnnIdeal.main_arg1))
      ∧ θ_run (Cert.BrRnnReferenceIdeal.defs (F := Ideal)) (onTc (τ := Cert.BrRnnReferenceIdeal.τ) (Cert.BrRnnReferenceIdeal.main (F := Ideal))) ⟨m', fun _ => 0, g'⟩ (fun r => ∀ c : Dev Cert.BrRnnReferenceIdeal.nD,
          r.2.mem ((c.tc : Thread Cert.BrRnnReferenceIdeal.nD Cert.BrRnnReferenceIdeal.τ).loc Cert.BrRnnReferenceIdeal.main_v2) = v0 c
          ∧ r.2.mem ((c.tc : Thread Cert.BrRnnReferenceIdeal.nD Cert.BrRnnReferenceIdeal.τ).loc Cert.BrRnnReferenceIdeal.main_arg0) = m' ((c.tc : Thread Cert.BrRnnReferenceIdeal.nD Cert.BrRnnReferenceIdeal.τ).loc Cert.BrRnnReferenceIdeal.main_arg0)
          ∧ r.2.mem ((c.tc : Thread Cert.BrRnnReferenceIdeal.nD Cert.BrRnnReferenceIdeal.τ).loc Cert.BrRnnReferenceIdeal.main_arg1) = m' ((c.tc : Thread Cert.BrRnnReferenceIdeal.nD Cert.BrRnnReferenceIdeal.τ).loc Cert.BrRnnReferenceIdeal.main_arg1))

def preserves_BrAttn_BrAttnIdeal : Prop :=
  True

def algebraic_BrAttnIdeal_BrAttnReferenceIdeal [hBrAttnIdeal : Cert.BrAttnIdeal.Facts] [hBrAttnReferenceIdeal : Cert.BrAttnReferenceIdeal.Facts] : Prop :=
  ∀ (m : (ℓ : Loc Cert.BrAttnIdeal.nD Cert.BrAttnIdeal.τ Cert.BrAttnIdeal.sig) → Buf (Elt Ideal) ℓ) (g : Dev Cert.BrAttnIdeal.nD → PrngReg)
    (m' : (ℓ : Loc Cert.BrAttnReferenceIdeal.nD Cert.BrAttnReferenceIdeal.τ Cert.BrAttnReferenceIdeal.sig) → Buf (Elt Ideal) ℓ) (g' : Dev Cert.BrAttnReferenceIdeal.nD → PrngReg), Pre_BrAttnIdeal m →
    (∀ c : Dev Cert.BrAttnIdeal.nD,
      m' ((c.tc : Thread Cert.BrAttnReferenceIdeal.nD Cert.BrAttnReferenceIdeal.τ).loc Cert.BrAttnReferenceIdeal.main_arg0) = m ((c.tc : Thread Cert.BrAttnIdeal.nD Cert.BrAttnIdeal.τ).loc Cert.BrAttnIdeal.main_arg0)
      ∧ m' ((c.tc : Thread Cert.BrAttnReferenceIdeal.nD Cert.BrAttnReferenceIdeal.τ).loc Cert.BrAttnReferenceIdeal.main_arg1) = m ((c.tc : Thread Cert.BrAttnIdeal.nD Cert.BrAttnIdeal.τ).loc Cert.BrAttnIdeal.main_arg1)) →
    ∃ (v0 : (c : Dev Cert.BrAttnIdeal.nD) → Buf (Elt Ideal) ((c.tc : Thread Cert.BrAttnIdeal.nD Cert.BrAttnIdeal.τ).loc Cert.BrAttnIdeal.main_v0)),
      θ_run (Cert.BrAttnIdeal.defs (F := Ideal)) (onTc (τ := Cert.BrAttnIdeal.τ) (Cert.BrAttnIdeal.main (F := Ideal))) ⟨m, fun _ => 0, g⟩ (fun r => ∀ c : Dev Cert.BrAttnIdeal.nD,
          r.2.mem ((c.tc : Thread Cert.BrAttnIdeal.nD Cert.BrAttnIdeal.τ).loc Cert.BrAttnIdeal.main_v0) = v0 c
          ∧ r.2.mem ((c.tc : Thread Cert.BrAttnIdeal.nD Cert.BrAttnIdeal.τ).loc Cert.BrAttnIdeal.main_arg0) = m ((c.tc : Thread Cert.BrAttnIdeal.nD Cert.BrAttnIdeal.τ).loc Cert.BrAttnIdeal.main_arg0)
          ∧ r.2.mem ((c.tc : Thread Cert.BrAttnIdeal.nD Cert.BrAttnIdeal.τ).loc Cert.BrAttnIdeal.main_arg1) = m ((c.tc : Thread Cert.BrAttnIdeal.nD Cert.BrAttnIdeal.τ).loc Cert.BrAttnIdeal.main_arg1))
      ∧ θ_run (Cert.BrAttnReferenceIdeal.defs (F := Ideal)) (onTc (τ := Cert.BrAttnReferenceIdeal.τ) (Cert.BrAttnReferenceIdeal.main (F := Ideal))) ⟨m', fun _ => 0, g'⟩ (fun r => ∀ c : Dev Cert.BrAttnReferenceIdeal.nD,
          r.2.mem ((c.tc : Thread Cert.BrAttnReferenceIdeal.nD Cert.BrAttnReferenceIdeal.τ).loc Cert.BrAttnReferenceIdeal.main_v1) = v0 c
          ∧ r.2.mem ((c.tc : Thread Cert.BrAttnReferenceIdeal.nD Cert.BrAttnReferenceIdeal.τ).loc Cert.BrAttnReferenceIdeal.main_arg0) = m' ((c.tc : Thread Cert.BrAttnReferenceIdeal.nD Cert.BrAttnReferenceIdeal.τ).loc Cert.BrAttnReferenceIdeal.main_arg0)
          ∧ r.2.mem ((c.tc : Thread Cert.BrAttnReferenceIdeal.nD Cert.BrAttnReferenceIdeal.τ).loc Cert.BrAttnReferenceIdeal.main_arg1) = m' ((c.tc : Thread Cert.BrAttnReferenceIdeal.nD Cert.BrAttnReferenceIdeal.τ).loc Cert.BrAttnReferenceIdeal.main_arg1))

def preserves_Cq_CqIdeal : Prop :=
  True

def algebraic_CqIdeal_CqReferenceIdeal [hCqIdeal : Cert.CqIdeal.Facts] [hCqReferenceIdeal : Cert.CqReferenceIdeal.Facts] : Prop :=
  ∀ (m : (ℓ : Loc Cert.CqIdeal.nD Cert.CqIdeal.τ Cert.CqIdeal.sig) → Buf (Elt Ideal) ℓ) (g : Dev Cert.CqIdeal.nD → PrngReg)
    (m' : (ℓ : Loc Cert.CqReferenceIdeal.nD Cert.CqReferenceIdeal.τ Cert.CqReferenceIdeal.sig) → Buf (Elt Ideal) ℓ) (g' : Dev Cert.CqReferenceIdeal.nD → PrngReg), Pre_CqIdeal m →
    (∀ c : Dev Cert.CqIdeal.nD,
      m' ((c.tc : Thread Cert.CqReferenceIdeal.nD Cert.CqReferenceIdeal.τ).loc Cert.CqReferenceIdeal.main_arg0) = m ((c.tc : Thread Cert.CqIdeal.nD Cert.CqIdeal.τ).loc Cert.CqIdeal.main_arg0)
      ∧ m' ((c.tc : Thread Cert.CqReferenceIdeal.nD Cert.CqReferenceIdeal.τ).loc Cert.CqReferenceIdeal.main_arg1) = m ((c.tc : Thread Cert.CqIdeal.nD Cert.CqIdeal.τ).loc Cert.CqIdeal.main_arg1)) →
    ∃ (v0 : (c : Dev Cert.CqIdeal.nD) → Buf (Elt Ideal) ((c.tc : Thread Cert.CqIdeal.nD Cert.CqIdeal.τ).loc Cert.CqIdeal.main_v0)),
      θ_run (Cert.CqIdeal.defs (F := Ideal)) (onTc (τ := Cert.CqIdeal.τ) (Cert.CqIdeal.main (F := Ideal))) ⟨m, fun _ => 0, g⟩ (fun r => ∀ c : Dev Cert.CqIdeal.nD,
          r.2.mem ((c.tc : Thread Cert.CqIdeal.nD Cert.CqIdeal.τ).loc Cert.CqIdeal.main_v0) = v0 c
          ∧ r.2.mem ((c.tc : Thread Cert.CqIdeal.nD Cert.CqIdeal.τ).loc Cert.CqIdeal.main_arg0) = m ((c.tc : Thread Cert.CqIdeal.nD Cert.CqIdeal.τ).loc Cert.CqIdeal.main_arg0)
          ∧ r.2.mem ((c.tc : Thread Cert.CqIdeal.nD Cert.CqIdeal.τ).loc Cert.CqIdeal.main_arg1) = m ((c.tc : Thread Cert.CqIdeal.nD Cert.CqIdeal.τ).loc Cert.CqIdeal.main_arg1))
      ∧ θ_run (Cert.CqReferenceIdeal.defs (F := Ideal)) (onTc (τ := Cert.CqReferenceIdeal.τ) (Cert.CqReferenceIdeal.main (F := Ideal))) ⟨m', fun _ => 0, g'⟩ (fun r => ∀ c : Dev Cert.CqReferenceIdeal.nD,
          r.2.mem ((c.tc : Thread Cert.CqReferenceIdeal.nD Cert.CqReferenceIdeal.τ).loc Cert.CqReferenceIdeal.main_v2) = v0 c
          ∧ r.2.mem ((c.tc : Thread Cert.CqReferenceIdeal.nD Cert.CqReferenceIdeal.τ).loc Cert.CqReferenceIdeal.main_arg0) = m' ((c.tc : Thread Cert.CqReferenceIdeal.nD Cert.CqReferenceIdeal.τ).loc Cert.CqReferenceIdeal.main_arg0)
          ∧ r.2.mem ((c.tc : Thread Cert.CqReferenceIdeal.nD Cert.CqReferenceIdeal.τ).loc Cert.CqReferenceIdeal.main_arg1) = m' ((c.tc : Thread Cert.CqReferenceIdeal.nD Cert.CqReferenceIdeal.τ).loc Cert.CqReferenceIdeal.main_arg1))

def preserves_Ckv_CkvIdeal : Prop :=
  True

def algebraic_CkvIdeal_CkvReferenceIdeal [hCkvIdeal : Cert.CkvIdeal.Facts] [hCkvReferenceIdeal : Cert.CkvReferenceIdeal.Facts] : Prop :=
  ∀ (m : (ℓ : Loc Cert.CkvIdeal.nD Cert.CkvIdeal.τ Cert.CkvIdeal.sig) → Buf (Elt Ideal) ℓ) (g : Dev Cert.CkvIdeal.nD → PrngReg)
    (m' : (ℓ : Loc Cert.CkvReferenceIdeal.nD Cert.CkvReferenceIdeal.τ Cert.CkvReferenceIdeal.sig) → Buf (Elt Ideal) ℓ) (g' : Dev Cert.CkvReferenceIdeal.nD → PrngReg), Pre_CkvIdeal m →
    (∀ c : Dev Cert.CkvIdeal.nD,
      m' ((c.tc : Thread Cert.CkvReferenceIdeal.nD Cert.CkvReferenceIdeal.τ).loc Cert.CkvReferenceIdeal.main_arg0) = m ((c.tc : Thread Cert.CkvIdeal.nD Cert.CkvIdeal.τ).loc Cert.CkvIdeal.main_arg0)
      ∧ m' ((c.tc : Thread Cert.CkvReferenceIdeal.nD Cert.CkvReferenceIdeal.τ).loc Cert.CkvReferenceIdeal.main_arg1) = m ((c.tc : Thread Cert.CkvIdeal.nD Cert.CkvIdeal.τ).loc Cert.CkvIdeal.main_arg1)) →
    ∃ (v0 : (c : Dev Cert.CkvIdeal.nD) → Buf (Elt Ideal) ((c.tc : Thread Cert.CkvIdeal.nD Cert.CkvIdeal.τ).loc Cert.CkvIdeal.main_v0)),
      θ_run (Cert.CkvIdeal.defs (F := Ideal)) (onTc (τ := Cert.CkvIdeal.τ) (Cert.CkvIdeal.main (F := Ideal))) ⟨m, fun _ => 0, g⟩ (fun r => ∀ c : Dev Cert.CkvIdeal.nD,
          r.2.mem ((c.tc : Thread Cert.CkvIdeal.nD Cert.CkvIdeal.τ).loc Cert.CkvIdeal.main_v0) = v0 c
          ∧ r.2.mem ((c.tc : Thread Cert.CkvIdeal.nD Cert.CkvIdeal.τ).loc Cert.CkvIdeal.main_arg0) = m ((c.tc : Thread Cert.CkvIdeal.nD Cert.CkvIdeal.τ).loc Cert.CkvIdeal.main_arg0)
          ∧ r.2.mem ((c.tc : Thread Cert.CkvIdeal.nD Cert.CkvIdeal.τ).loc Cert.CkvIdeal.main_arg1) = m ((c.tc : Thread Cert.CkvIdeal.nD Cert.CkvIdeal.τ).loc Cert.CkvIdeal.main_arg1))
      ∧ θ_run (Cert.CkvReferenceIdeal.defs (F := Ideal)) (onTc (τ := Cert.CkvReferenceIdeal.τ) (Cert.CkvReferenceIdeal.main (F := Ideal))) ⟨m', fun _ => 0, g'⟩ (fun r => ∀ c : Dev Cert.CkvReferenceIdeal.nD,
          r.2.mem ((c.tc : Thread Cert.CkvReferenceIdeal.nD Cert.CkvReferenceIdeal.τ).loc Cert.CkvReferenceIdeal.main_v4) = v0 c
          ∧ r.2.mem ((c.tc : Thread Cert.CkvReferenceIdeal.nD Cert.CkvReferenceIdeal.τ).loc Cert.CkvReferenceIdeal.main_arg0) = m' ((c.tc : Thread Cert.CkvReferenceIdeal.nD Cert.CkvReferenceIdeal.τ).loc Cert.CkvReferenceIdeal.main_arg0)
          ∧ r.2.mem ((c.tc : Thread Cert.CkvReferenceIdeal.nD Cert.CkvReferenceIdeal.τ).loc Cert.CkvReferenceIdeal.main_arg1) = m' ((c.tc : Thread Cert.CkvReferenceIdeal.nD Cert.CkvReferenceIdeal.τ).loc Cert.CkvReferenceIdeal.main_arg1))

def preserves_FfnWi_FfnWiIdeal : Prop :=
  True

def algebraic_FfnWiIdeal_FfnWiReferenceIdeal [hFfnWiIdeal : Cert.FfnWiIdeal.Facts] [hFfnWiReferenceIdeal : Cert.FfnWiReferenceIdeal.Facts] : Prop :=
  ∀ (m : (ℓ : Loc Cert.FfnWiIdeal.nD Cert.FfnWiIdeal.τ Cert.FfnWiIdeal.sig) → Buf (Elt Ideal) ℓ) (g : Dev Cert.FfnWiIdeal.nD → PrngReg)
    (m' : (ℓ : Loc Cert.FfnWiReferenceIdeal.nD Cert.FfnWiReferenceIdeal.τ Cert.FfnWiReferenceIdeal.sig) → Buf (Elt Ideal) ℓ) (g' : Dev Cert.FfnWiReferenceIdeal.nD → PrngReg), Pre_FfnWiIdeal m →
    (∀ c : Dev Cert.FfnWiIdeal.nD,
      m' ((c.tc : Thread Cert.FfnWiReferenceIdeal.nD Cert.FfnWiReferenceIdeal.τ).loc Cert.FfnWiReferenceIdeal.main_arg0) = m ((c.tc : Thread Cert.FfnWiIdeal.nD Cert.FfnWiIdeal.τ).loc Cert.FfnWiIdeal.main_arg0)
      ∧ m' ((c.tc : Thread Cert.FfnWiReferenceIdeal.nD Cert.FfnWiReferenceIdeal.τ).loc Cert.FfnWiReferenceIdeal.main_arg1) = m ((c.tc : Thread Cert.FfnWiIdeal.nD Cert.FfnWiIdeal.τ).loc Cert.FfnWiIdeal.main_arg1)) →
    ∃ (v0 : (c : Dev Cert.FfnWiIdeal.nD) → Buf (Elt Ideal) ((c.tc : Thread Cert.FfnWiIdeal.nD Cert.FfnWiIdeal.τ).loc Cert.FfnWiIdeal.main_v0)),
      θ_run (Cert.FfnWiIdeal.defs (F := Ideal)) (onTc (τ := Cert.FfnWiIdeal.τ) (Cert.FfnWiIdeal.main (F := Ideal))) ⟨m, fun _ => 0, g⟩ (fun r => ∀ c : Dev Cert.FfnWiIdeal.nD,
          r.2.mem ((c.tc : Thread Cert.FfnWiIdeal.nD Cert.FfnWiIdeal.τ).loc Cert.FfnWiIdeal.main_v0) = v0 c
          ∧ r.2.mem ((c.tc : Thread Cert.FfnWiIdeal.nD Cert.FfnWiIdeal.τ).loc Cert.FfnWiIdeal.main_arg0) = m ((c.tc : Thread Cert.FfnWiIdeal.nD Cert.FfnWiIdeal.τ).loc Cert.FfnWiIdeal.main_arg0)
          ∧ r.2.mem ((c.tc : Thread Cert.FfnWiIdeal.nD Cert.FfnWiIdeal.τ).loc Cert.FfnWiIdeal.main_arg1) = m ((c.tc : Thread Cert.FfnWiIdeal.nD Cert.FfnWiIdeal.τ).loc Cert.FfnWiIdeal.main_arg1))
      ∧ θ_run (Cert.FfnWiReferenceIdeal.defs (F := Ideal)) (onTc (τ := Cert.FfnWiReferenceIdeal.τ) (Cert.FfnWiReferenceIdeal.main (F := Ideal))) ⟨m', fun _ => 0, g'⟩ (fun r => ∀ c : Dev Cert.FfnWiReferenceIdeal.nD,
          r.2.mem ((c.tc : Thread Cert.FfnWiReferenceIdeal.nD Cert.FfnWiReferenceIdeal.τ).loc Cert.FfnWiReferenceIdeal.main_v8) = v0 c
          ∧ r.2.mem ((c.tc : Thread Cert.FfnWiReferenceIdeal.nD Cert.FfnWiReferenceIdeal.τ).loc Cert.FfnWiReferenceIdeal.main_arg0) = m' ((c.tc : Thread Cert.FfnWiReferenceIdeal.nD Cert.FfnWiReferenceIdeal.τ).loc Cert.FfnWiReferenceIdeal.main_arg0)
          ∧ r.2.mem ((c.tc : Thread Cert.FfnWiReferenceIdeal.nD Cert.FfnWiReferenceIdeal.τ).loc Cert.FfnWiReferenceIdeal.main_arg1) = m' ((c.tc : Thread Cert.FfnWiReferenceIdeal.nD Cert.FfnWiReferenceIdeal.τ).loc Cert.FfnWiReferenceIdeal.main_arg1))

def preserves_Dact_DactIdeal : Prop :=
  True

def algebraic_DactIdeal_DactReferenceIdeal [hDactIdeal : Cert.DactIdeal.Facts] [hDactReferenceIdeal : Cert.DactReferenceIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v1) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1))

def preserves_Dh2_Dh2Ideal : Prop :=
  True

def algebraic_Dh2Ideal_Dh2ReferenceIdeal [hDh2Ideal : Cert.Dh2Ideal.Facts] [hDh2ReferenceIdeal : Cert.Dh2ReferenceIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2ReferenceIdeal.nD Cert.Dh2ReferenceIdeal.τ Cert.Dh2ReferenceIdeal.sig) → Buf (Elt Ideal) ℓ) (g' : Dev Cert.Dh2ReferenceIdeal.nD → PrngReg), Pre_Dh2Ideal m →
    (∀ c : Dev Cert.Dh2Ideal.nD,
      m' ((c.tc : Thread Cert.Dh2ReferenceIdeal.nD Cert.Dh2ReferenceIdeal.τ).loc Cert.Dh2ReferenceIdeal.main_arg0) = m ((c.tc : Thread Cert.Dh2Ideal.nD Cert.Dh2Ideal.τ).loc Cert.Dh2Ideal.main_arg0)
      ∧ m' ((c.tc : Thread Cert.Dh2ReferenceIdeal.nD Cert.Dh2ReferenceIdeal.τ).loc Cert.Dh2ReferenceIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2ReferenceIdeal.defs (F := Ideal)) (onTc (τ := Cert.Dh2ReferenceIdeal.τ) (Cert.Dh2ReferenceIdeal.main (F := Ideal))) ⟨m', fun _ => 0, g'⟩ (fun r => ∀ c : Dev Cert.Dh2ReferenceIdeal.nD,
          r.2.mem ((c.tc : Thread Cert.Dh2ReferenceIdeal.nD Cert.Dh2ReferenceIdeal.τ).loc Cert.Dh2ReferenceIdeal.main_v9) = v0 c
          ∧ r.2.mem ((c.tc : Thread Cert.Dh2ReferenceIdeal.nD Cert.Dh2ReferenceIdeal.τ).loc Cert.Dh2ReferenceIdeal.main_arg0) = m' ((c.tc : Thread Cert.Dh2ReferenceIdeal.nD Cert.Dh2ReferenceIdeal.τ).loc Cert.Dh2ReferenceIdeal.main_arg0)
          ∧ r.2.mem ((c.tc : Thread Cert.Dh2ReferenceIdeal.nD Cert.Dh2ReferenceIdeal.τ).loc Cert.Dh2ReferenceIdeal.main_arg1) = m' ((c.tc : Thread Cert.Dh2ReferenceIdeal.nD Cert.Dh2ReferenceIdeal.τ).loc Cert.Dh2ReferenceIdeal.main_arg1))

def preserves_Do_DoIdeal : Prop :=
  True

def algebraic_DoIdeal_DoReferenceIdeal [hDoIdeal : Cert.DoIdeal.Facts] [hDoReferenceIdeal : Cert.DoReferenceIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoReferenceIdeal.nD Cert.DoReferenceIdeal.τ Cert.DoReferenceIdeal.sig) → Buf (Elt Ideal) ℓ) (g' : Dev Cert.DoReferenceIdeal.nD → PrngReg), Pre_DoIdeal m →
    (∀ c : Dev Cert.DoIdeal.nD,
      m' ((c.tc : Thread Cert.DoReferenceIdeal.nD Cert.DoReferenceIdeal.τ).loc Cert.DoReferenceIdeal.main_arg0) = m ((c.tc : Thread Cert.DoIdeal.nD Cert.DoIdeal.τ).loc Cert.DoIdeal.main_arg0)
      ∧ m' ((c.tc : Thread Cert.DoReferenceIdeal.nD Cert.DoReferenceIdeal.τ).loc Cert.DoReferenceIdeal.main_arg1) = m ((c.tc : Thread Cert.DoIdeal.nD Cert.DoIdeal.τ).loc Cert.DoIdeal.main_arg1)) →
    ∃ (v0 : (c : Dev Cert.DoIdeal.nD) → Buf (Elt Ideal) ((c.tc : Thread Cert.DoIdeal.nD Cert.DoIdeal.τ).loc Cert.DoIdeal.main_v0)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v0) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ θ_run (Cert.DoReferenceIdeal.defs (F := Ideal)) (onTc (τ := Cert.DoReferenceIdeal.τ) (Cert.DoReferenceIdeal.main (F := Ideal))) ⟨m', fun _ => 0, g'⟩ (fun r => ∀ c : Dev Cert.DoReferenceIdeal.nD,
          r.2.mem ((c.tc : Thread Cert.DoReferenceIdeal.nD Cert.DoReferenceIdeal.τ).loc Cert.DoReferenceIdeal.main_v2) = v0 c
          ∧ r.2.mem ((c.tc : Thread Cert.DoReferenceIdeal.nD Cert.DoReferenceIdeal.τ).loc Cert.DoReferenceIdeal.main_arg0) = m' ((c.tc : Thread Cert.DoReferenceIdeal.nD Cert.DoReferenceIdeal.τ).loc Cert.DoReferenceIdeal.main_arg0)
          ∧ r.2.mem ((c.tc : Thread Cert.DoReferenceIdeal.nD Cert.DoReferenceIdeal.τ).loc Cert.DoReferenceIdeal.main_arg1) = m' ((c.tc : Thread Cert.DoReferenceIdeal.nD Cert.DoReferenceIdeal.τ).loc Cert.DoReferenceIdeal.main_arg1))

def preserves_Dh1_Dh1Ideal : Prop :=
  True

def algebraic_Dh1Ideal_Dh1ReferenceIdeal [hDh1Ideal : Cert.Dh1Ideal.Facts] [hDh1ReferenceIdeal : Cert.Dh1ReferenceIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1ReferenceIdeal.nD Cert.Dh1ReferenceIdeal.τ Cert.Dh1ReferenceIdeal.sig) → Buf (Elt Ideal) ℓ) (g' : Dev Cert.Dh1ReferenceIdeal.nD → PrngReg), Pre_Dh1Ideal m →
    (∀ c : Dev Cert.Dh1Ideal.nD,
      m' ((c.tc : Thread Cert.Dh1ReferenceIdeal.nD Cert.Dh1ReferenceIdeal.τ).loc Cert.Dh1ReferenceIdeal.main_arg0) = m ((c.tc : Thread Cert.Dh1Ideal.nD Cert.Dh1Ideal.τ).loc Cert.Dh1Ideal.main_arg0)
      ∧ m' ((c.tc : Thread Cert.Dh1ReferenceIdeal.nD Cert.Dh1ReferenceIdeal.τ).loc Cert.Dh1ReferenceIdeal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.Dh1ReferenceIdeal.defs (F := Ideal)) (onTc (τ := Cert.Dh1ReferenceIdeal.τ) (Cert.Dh1ReferenceIdeal.main (F := Ideal))) ⟨m', fun _ => 0, g'⟩ (fun r => ∀ c : Dev Cert.Dh1ReferenceIdeal.nD,
          r.2.mem ((c.tc : Thread Cert.Dh1ReferenceIdeal.nD Cert.Dh1ReferenceIdeal.τ).loc Cert.Dh1ReferenceIdeal.main_v2) = v0 c
          ∧ r.2.mem ((c.tc : Thread Cert.Dh1ReferenceIdeal.nD Cert.Dh1ReferenceIdeal.τ).loc Cert.Dh1ReferenceIdeal.main_arg0) = m' ((c.tc : Thread Cert.Dh1ReferenceIdeal.nD Cert.Dh1ReferenceIdeal.τ).loc Cert.Dh1ReferenceIdeal.main_arg0)
          ∧ r.2.mem ((c.tc : Thread Cert.Dh1ReferenceIdeal.nD Cert.Dh1ReferenceIdeal.τ).loc Cert.Dh1ReferenceIdeal.main_arg1) = m' ((c.tc : Thread Cert.Dh1ReferenceIdeal.nD Cert.Dh1ReferenceIdeal.τ).loc Cert.Dh1ReferenceIdeal.main_arg1))

def preserves_Dmerged_DmergedIdeal : Prop :=
  True

def algebraic_DmergedIdeal_DmergedReferenceIdeal [hDmergedIdeal : Cert.DmergedIdeal.Facts] [hDmergedReferenceIdeal : Cert.DmergedReferenceIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedReferenceIdeal.nD Cert.DmergedReferenceIdeal.τ Cert.DmergedReferenceIdeal.sig) → Buf (Elt Ideal) ℓ) (g' : Dev Cert.DmergedReferenceIdeal.nD → PrngReg), Pre_DmergedIdeal m →
    (∀ c : Dev Cert.DmergedIdeal.nD,
      m' ((c.tc : Thread Cert.DmergedReferenceIdeal.nD Cert.DmergedReferenceIdeal.τ).loc Cert.DmergedReferenceIdeal.main_arg0) = m ((c.tc : Thread Cert.DmergedIdeal.nD Cert.DmergedIdeal.τ).loc Cert.DmergedIdeal.main_arg0)
      ∧ m' ((c.tc : Thread Cert.DmergedReferenceIdeal.nD Cert.DmergedReferenceIdeal.τ).loc Cert.DmergedReferenceIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v0)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v0) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.DmergedReferenceIdeal.defs (F := Ideal)) (onTc (τ := Cert.DmergedReferenceIdeal.τ) (Cert.DmergedReferenceIdeal.main (F := Ideal))) ⟨m', fun _ => 0, g'⟩ (fun r => ∀ c : Dev Cert.DmergedReferenceIdeal.nD,
          r.2.mem ((c.tc : Thread Cert.DmergedReferenceIdeal.nD Cert.DmergedReferenceIdeal.τ).loc Cert.DmergedReferenceIdeal.main_v1) = v0 c
          ∧ r.2.mem ((c.tc : Thread Cert.DmergedReferenceIdeal.nD Cert.DmergedReferenceIdeal.τ).loc Cert.DmergedReferenceIdeal.main_arg0) = m' ((c.tc : Thread Cert.DmergedReferenceIdeal.nD Cert.DmergedReferenceIdeal.τ).loc Cert.DmergedReferenceIdeal.main_arg0)
          ∧ r.2.mem ((c.tc : Thread Cert.DmergedReferenceIdeal.nD Cert.DmergedReferenceIdeal.τ).loc Cert.DmergedReferenceIdeal.main_arg1) = m' ((c.tc : Thread Cert.DmergedReferenceIdeal.nD Cert.DmergedReferenceIdeal.τ).loc Cert.DmergedReferenceIdeal.main_arg1))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)
      ∧ m' ((c.tc : Thread Cert.DhReferenceIdeal.nD Cert.DhReferenceIdeal.τ).loc Cert.DhReferenceIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v6) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2))

def preserves_DFfnWo_DFfnWoIdeal : Prop :=
  True

def algebraic_DFfnWoIdeal_DFfnWoReferenceIdeal [hDFfnWoIdeal : Cert.DFfnWoIdeal.Facts] [hDFfnWoReferenceIdeal : Cert.DFfnWoReferenceIdeal.Facts] : Prop :=
  ∀ (m : (ℓ : Loc Cert.DFfnWoIdeal.nD Cert.DFfnWoIdeal.τ Cert.DFfnWoIdeal.sig) → Buf (Elt Ideal) ℓ) (g : Dev Cert.DFfnWoIdeal.nD → PrngReg)
    (m' : (ℓ : Loc Cert.DFfnWoReferenceIdeal.nD Cert.DFfnWoReferenceIdeal.τ Cert.DFfnWoReferenceIdeal.sig) → Buf (Elt Ideal) ℓ) (g' : Dev Cert.DFfnWoReferenceIdeal.nD → PrngReg), Pre_DFfnWoIdeal m →
    (∀ c : Dev Cert.DFfnWoIdeal.nD,
      m' ((c.tc : Thread Cert.DFfnWoReferenceIdeal.nD Cert.DFfnWoReferenceIdeal.τ).loc Cert.DFfnWoReferenceIdeal.main_arg0) = m ((c.tc : Thread Cert.DFfnWoIdeal.nD Cert.DFfnWoIdeal.τ).loc Cert.DFfnWoIdeal.main_arg0)
      ∧ m' ((c.tc : Thread Cert.DFfnWoReferenceIdeal.nD Cert.DFfnWoReferenceIdeal.τ).loc Cert.DFfnWoReferenceIdeal.main_arg1) = m ((c.tc : Thread Cert.DFfnWoIdeal.nD Cert.DFfnWoIdeal.τ).loc Cert.DFfnWoIdeal.main_arg1)) →
    ∃ (v0 : (c : Dev Cert.DFfnWoIdeal.nD) → Buf (Elt Ideal) ((c.tc : Thread Cert.DFfnWoIdeal.nD Cert.DFfnWoIdeal.τ).loc Cert.DFfnWoIdeal.main_v0)),
      θ_run (Cert.DFfnWoIdeal.defs (F := Ideal)) (onTc (τ := Cert.DFfnWoIdeal.τ) (Cert.DFfnWoIdeal.main (F := Ideal))) ⟨m, fun _ => 0, g⟩ (fun r => ∀ c : Dev Cert.DFfnWoIdeal.nD,
          r.2.mem ((c.tc : Thread Cert.DFfnWoIdeal.nD Cert.DFfnWoIdeal.τ).loc Cert.DFfnWoIdeal.main_v0) = v0 c
          ∧ r.2.mem ((c.tc : Thread Cert.DFfnWoIdeal.nD Cert.DFfnWoIdeal.τ).loc Cert.DFfnWoIdeal.main_arg0) = m ((c.tc : Thread Cert.DFfnWoIdeal.nD Cert.DFfnWoIdeal.τ).loc Cert.DFfnWoIdeal.main_arg0)
          ∧ r.2.mem ((c.tc : Thread Cert.DFfnWoIdeal.nD Cert.DFfnWoIdeal.τ).loc Cert.DFfnWoIdeal.main_arg1) = m ((c.tc : Thread Cert.DFfnWoIdeal.nD Cert.DFfnWoIdeal.τ).loc Cert.DFfnWoIdeal.main_arg1))
      ∧ θ_run (Cert.DFfnWoReferenceIdeal.defs (F := Ideal)) (onTc (τ := Cert.DFfnWoReferenceIdeal.τ) (Cert.DFfnWoReferenceIdeal.main (F := Ideal))) ⟨m', fun _ => 0, g'⟩ (fun r => ∀ c : Dev Cert.DFfnWoReferenceIdeal.nD,
          r.2.mem ((c.tc : Thread Cert.DFfnWoReferenceIdeal.nD Cert.DFfnWoReferenceIdeal.τ).loc Cert.DFfnWoReferenceIdeal.main_v3) = v0 c
          ∧ r.2.mem ((c.tc : Thread Cert.DFfnWoReferenceIdeal.nD Cert.DFfnWoReferenceIdeal.τ).loc Cert.DFfnWoReferenceIdeal.main_arg0) = m' ((c.tc : Thread Cert.DFfnWoReferenceIdeal.nD Cert.DFfnWoReferenceIdeal.τ).loc Cert.DFfnWoReferenceIdeal.main_arg0)
          ∧ r.2.mem ((c.tc : Thread Cert.DFfnWoReferenceIdeal.nD Cert.DFfnWoReferenceIdeal.τ).loc Cert.DFfnWoReferenceIdeal.main_arg1) = m' ((c.tc : Thread Cert.DFfnWoReferenceIdeal.nD Cert.DFfnWoReferenceIdeal.τ).loc Cert.DFfnWoReferenceIdeal.main_arg1))

def preserves_DFfnWi_DFfnWiIdeal : Prop :=
  True

def algebraic_DFfnWiIdeal_DFfnWiReferenceIdeal [hDFfnWiIdeal : Cert.DFfnWiIdeal.Facts] [hDFfnWiReferenceIdeal : Cert.DFfnWiReferenceIdeal.Facts] : Prop :=
  ∀ (m : (ℓ : Loc Cert.DFfnWiIdeal.nD Cert.DFfnWiIdeal.τ Cert.DFfnWiIdeal.sig) → Buf (Elt Ideal) ℓ) (g : Dev Cert.DFfnWiIdeal.nD → PrngReg)
    (m' : (ℓ : Loc Cert.DFfnWiReferenceIdeal.nD Cert.DFfnWiReferenceIdeal.τ Cert.DFfnWiReferenceIdeal.sig) → Buf (Elt Ideal) ℓ) (g' : Dev Cert.DFfnWiReferenceIdeal.nD → PrngReg), Pre_DFfnWiIdeal m →
    (∀ c : Dev Cert.DFfnWiIdeal.nD,
      m' ((c.tc : Thread Cert.DFfnWiReferenceIdeal.nD Cert.DFfnWiReferenceIdeal.τ).loc Cert.DFfnWiReferenceIdeal.main_arg0) = m ((c.tc : Thread Cert.DFfnWiIdeal.nD Cert.DFfnWiIdeal.τ).loc Cert.DFfnWiIdeal.main_arg0)
      ∧ m' ((c.tc : Thread Cert.DFfnWiReferenceIdeal.nD Cert.DFfnWiReferenceIdeal.τ).loc Cert.DFfnWiReferenceIdeal.main_arg1) = m ((c.tc : Thread Cert.DFfnWiIdeal.nD Cert.DFfnWiIdeal.τ).loc Cert.DFfnWiIdeal.main_arg1)) →
    ∃ (v0 : (c : Dev Cert.DFfnWiIdeal.nD) → Buf (Elt Ideal) ((c.tc : Thread Cert.DFfnWiIdeal.nD Cert.DFfnWiIdeal.τ).loc Cert.DFfnWiIdeal.main_v0)),
      θ_run (Cert.DFfnWiIdeal.defs (F := Ideal)) (onTc (τ := Cert.DFfnWiIdeal.τ) (Cert.DFfnWiIdeal.main (F := Ideal))) ⟨m, fun _ => 0, g⟩ (fun r => ∀ c : Dev Cert.DFfnWiIdeal.nD,
          r.2.mem ((c.tc : Thread Cert.DFfnWiIdeal.nD Cert.DFfnWiIdeal.τ).loc Cert.DFfnWiIdeal.main_v0) = v0 c
          ∧ r.2.mem ((c.tc : Thread Cert.DFfnWiIdeal.nD Cert.DFfnWiIdeal.τ).loc Cert.DFfnWiIdeal.main_arg0) = m ((c.tc : Thread Cert.DFfnWiIdeal.nD Cert.DFfnWiIdeal.τ).loc Cert.DFfnWiIdeal.main_arg0)
          ∧ r.2.mem ((c.tc : Thread Cert.DFfnWiIdeal.nD Cert.DFfnWiIdeal.τ).loc Cert.DFfnWiIdeal.main_arg1) = m ((c.tc : Thread Cert.DFfnWiIdeal.nD Cert.DFfnWiIdeal.τ).loc Cert.DFfnWiIdeal.main_arg1))
      ∧ θ_run (Cert.DFfnWiReferenceIdeal.defs (F := Ideal)) (onTc (τ := Cert.DFfnWiReferenceIdeal.τ) (Cert.DFfnWiReferenceIdeal.main (F := Ideal))) ⟨m', fun _ => 0, g'⟩ (fun r => ∀ c : Dev Cert.DFfnWiReferenceIdeal.nD,
          r.2.mem ((c.tc : Thread Cert.DFfnWiReferenceIdeal.nD Cert.DFfnWiReferenceIdeal.τ).loc Cert.DFfnWiReferenceIdeal.main_v10) = v0 c
          ∧ r.2.mem ((c.tc : Thread Cert.DFfnWiReferenceIdeal.nD Cert.DFfnWiReferenceIdeal.τ).loc Cert.DFfnWiReferenceIdeal.main_arg0) = m' ((c.tc : Thread Cert.DFfnWiReferenceIdeal.nD Cert.DFfnWiReferenceIdeal.τ).loc Cert.DFfnWiReferenceIdeal.main_arg0)
          ∧ r.2.mem ((c.tc : Thread Cert.DFfnWiReferenceIdeal.nD Cert.DFfnWiReferenceIdeal.τ).loc Cert.DFfnWiReferenceIdeal.main_arg1) = m' ((c.tc : Thread Cert.DFfnWiReferenceIdeal.nD Cert.DFfnWiReferenceIdeal.τ).loc Cert.DFfnWiReferenceIdeal.main_arg1))

def preserves_Dco_DcoIdeal : Prop :=
  True

def algebraic_DcoIdeal_DcoReferenceIdeal [hDcoIdeal : Cert.DcoIdeal.Facts] [hDcoReferenceIdeal : Cert.DcoReferenceIdeal.Facts] : Prop :=
  ∀ (m : (ℓ : Loc Cert.DcoIdeal.nD Cert.DcoIdeal.τ Cert.DcoIdeal.sig) → Buf (Elt Ideal) ℓ) (g : Dev Cert.DcoIdeal.nD → PrngReg)
    (m' : (ℓ : Loc Cert.DcoReferenceIdeal.nD Cert.DcoReferenceIdeal.τ Cert.DcoReferenceIdeal.sig) → Buf (Elt Ideal) ℓ) (g' : Dev Cert.DcoReferenceIdeal.nD → PrngReg), Pre_DcoIdeal m →
    (∀ c : Dev Cert.DcoIdeal.nD,
      m' ((c.tc : Thread Cert.DcoReferenceIdeal.nD Cert.DcoReferenceIdeal.τ).loc Cert.DcoReferenceIdeal.main_arg0) = m ((c.tc : Thread Cert.DcoIdeal.nD Cert.DcoIdeal.τ).loc Cert.DcoIdeal.main_arg0)
      ∧ m' ((c.tc : Thread Cert.DcoReferenceIdeal.nD Cert.DcoReferenceIdeal.τ).loc Cert.DcoReferenceIdeal.main_arg1) = m ((c.tc : Thread Cert.DcoIdeal.nD Cert.DcoIdeal.τ).loc Cert.DcoIdeal.main_arg1)) →
    ∃ (v0 : (c : Dev Cert.DcoIdeal.nD) → Buf (Elt Ideal) ((c.tc : Thread Cert.DcoIdeal.nD Cert.DcoIdeal.τ).loc Cert.DcoIdeal.main_v0)),
      θ_run (Cert.DcoIdeal.defs (F := Ideal)) (onTc (τ := Cert.DcoIdeal.τ) (Cert.DcoIdeal.main (F := Ideal))) ⟨m, fun _ => 0, g⟩ (fun r => ∀ c : Dev Cert.DcoIdeal.nD,
          r.2.mem ((c.tc : Thread Cert.DcoIdeal.nD Cert.DcoIdeal.τ).loc Cert.DcoIdeal.main_v0) = v0 c
          ∧ r.2.mem ((c.tc : Thread Cert.DcoIdeal.nD Cert.DcoIdeal.τ).loc Cert.DcoIdeal.main_arg0) = m ((c.tc : Thread Cert.DcoIdeal.nD Cert.DcoIdeal.τ).loc Cert.DcoIdeal.main_arg0)
          ∧ r.2.mem ((c.tc : Thread Cert.DcoIdeal.nD Cert.DcoIdeal.τ).loc Cert.DcoIdeal.main_arg1) = m ((c.tc : Thread Cert.DcoIdeal.nD Cert.DcoIdeal.τ).loc Cert.DcoIdeal.main_arg1))
      ∧ θ_run (Cert.DcoReferenceIdeal.defs (F := Ideal)) (onTc (τ := Cert.DcoReferenceIdeal.τ) (Cert.DcoReferenceIdeal.main (F := Ideal))) ⟨m', fun _ => 0, g'⟩ (fun r => ∀ c : Dev Cert.DcoReferenceIdeal.nD,
          r.2.mem ((c.tc : Thread Cert.DcoReferenceIdeal.nD Cert.DcoReferenceIdeal.τ).loc Cert.DcoReferenceIdeal.main_v3) = v0 c
          ∧ r.2.mem ((c.tc : Thread Cert.DcoReferenceIdeal.nD Cert.DcoReferenceIdeal.τ).loc Cert.DcoReferenceIdeal.main_arg0) = m' ((c.tc : Thread Cert.DcoReferenceIdeal.nD Cert.DcoReferenceIdeal.τ).loc Cert.DcoReferenceIdeal.main_arg0)
          ∧ r.2.mem ((c.tc : Thread Cert.DcoReferenceIdeal.nD Cert.DcoReferenceIdeal.τ).loc Cert.DcoReferenceIdeal.main_arg1) = m' ((c.tc : Thread Cert.DcoReferenceIdeal.nD Cert.DcoReferenceIdeal.τ).loc Cert.DcoReferenceIdeal.main_arg1))

def preserves_Dcq_DcqIdeal : Prop :=
  True

def algebraic_DcqIdeal_DcqReferenceIdeal [hDcqIdeal : Cert.DcqIdeal.Facts] [hDcqReferenceIdeal : Cert.DcqReferenceIdeal.Facts] : Prop :=
  ∀ (m : (ℓ : Loc Cert.DcqIdeal.nD Cert.DcqIdeal.τ Cert.DcqIdeal.sig) → Buf (Elt Ideal) ℓ) (g : Dev Cert.DcqIdeal.nD → PrngReg)
    (m' : (ℓ : Loc Cert.DcqReferenceIdeal.nD Cert.DcqReferenceIdeal.τ Cert.DcqReferenceIdeal.sig) → Buf (Elt Ideal) ℓ) (g' : Dev Cert.DcqReferenceIdeal.nD → PrngReg), Pre_DcqIdeal m →
    (∀ c : Dev Cert.DcqIdeal.nD,
      m' ((c.tc : Thread Cert.DcqReferenceIdeal.nD Cert.DcqReferenceIdeal.τ).loc Cert.DcqReferenceIdeal.main_arg0) = m ((c.tc : Thread Cert.DcqIdeal.nD Cert.DcqIdeal.τ).loc Cert.DcqIdeal.main_arg0)
      ∧ m' ((c.tc : Thread Cert.DcqReferenceIdeal.nD Cert.DcqReferenceIdeal.τ).loc Cert.DcqReferenceIdeal.main_arg1) = m ((c.tc : Thread Cert.DcqIdeal.nD Cert.DcqIdeal.τ).loc Cert.DcqIdeal.main_arg1)) →
    ∃ (v0 : (c : Dev Cert.DcqIdeal.nD) → Buf (Elt Ideal) ((c.tc : Thread Cert.DcqIdeal.nD Cert.DcqIdeal.τ).loc Cert.DcqIdeal.main_v0)),
      θ_run (Cert.DcqIdeal.defs (F := Ideal)) (onTc (τ := Cert.DcqIdeal.τ) (Cert.DcqIdeal.main (F := Ideal))) ⟨m, fun _ => 0, g⟩ (fun r => ∀ c : Dev Cert.DcqIdeal.nD,
          r.2.mem ((c.tc : Thread Cert.DcqIdeal.nD Cert.DcqIdeal.τ).loc Cert.DcqIdeal.main_v0) = v0 c
          ∧ r.2.mem ((c.tc : Thread Cert.DcqIdeal.nD Cert.DcqIdeal.τ).loc Cert.DcqIdeal.main_arg0) = m ((c.tc : Thread Cert.DcqIdeal.nD Cert.DcqIdeal.τ).loc Cert.DcqIdeal.main_arg0)
          ∧ r.2.mem ((c.tc : Thread Cert.DcqIdeal.nD Cert.DcqIdeal.τ).loc Cert.DcqIdeal.main_arg1) = m ((c.tc : Thread Cert.DcqIdeal.nD Cert.DcqIdeal.τ).loc Cert.DcqIdeal.main_arg1))
      ∧ θ_run (Cert.DcqReferenceIdeal.defs (F := Ideal)) (onTc (τ := Cert.DcqReferenceIdeal.τ) (Cert.DcqReferenceIdeal.main (F := Ideal))) ⟨m', fun _ => 0, g'⟩ (fun r => ∀ c : Dev Cert.DcqReferenceIdeal.nD,
          r.2.mem ((c.tc : Thread Cert.DcqReferenceIdeal.nD Cert.DcqReferenceIdeal.τ).loc Cert.DcqReferenceIdeal.main_v3) = v0 c
          ∧ r.2.mem ((c.tc : Thread Cert.DcqReferenceIdeal.nD Cert.DcqReferenceIdeal.τ).loc Cert.DcqReferenceIdeal.main_arg0) = m' ((c.tc : Thread Cert.DcqReferenceIdeal.nD Cert.DcqReferenceIdeal.τ).loc Cert.DcqReferenceIdeal.main_arg0)
          ∧ r.2.mem ((c.tc : Thread Cert.DcqReferenceIdeal.nD Cert.DcqReferenceIdeal.τ).loc Cert.DcqReferenceIdeal.main_arg1) = m' ((c.tc : Thread Cert.DcqReferenceIdeal.nD Cert.DcqReferenceIdeal.τ).loc Cert.DcqReferenceIdeal.main_arg1))

def preserves_Dckv_DckvIdeal : Prop :=
  True

def algebraic_DckvIdeal_DckvReferenceIdeal [hDckvIdeal : Cert.DckvIdeal.Facts] [hDckvReferenceIdeal : Cert.DckvReferenceIdeal.Facts] : Prop :=
  ∀ (m : (ℓ : Loc Cert.DckvIdeal.nD Cert.DckvIdeal.τ Cert.DckvIdeal.sig) → Buf (Elt Ideal) ℓ) (g : Dev Cert.DckvIdeal.nD → PrngReg)
    (m' : (ℓ : Loc Cert.DckvReferenceIdeal.nD Cert.DckvReferenceIdeal.τ Cert.DckvReferenceIdeal.sig) → Buf (Elt Ideal) ℓ) (g' : Dev Cert.DckvReferenceIdeal.nD → PrngReg), Pre_DckvIdeal m →
    (∀ c : Dev Cert.DckvIdeal.nD,
      m' ((c.tc : Thread Cert.DckvReferenceIdeal.nD Cert.DckvReferenceIdeal.τ).loc Cert.DckvReferenceIdeal.main_arg0) = m ((c.tc : Thread Cert.DckvIdeal.nD Cert.DckvIdeal.τ).loc Cert.DckvIdeal.main_arg0)
      ∧ m' ((c.tc : Thread Cert.DckvReferenceIdeal.nD Cert.DckvReferenceIdeal.τ).loc Cert.DckvReferenceIdeal.main_arg1) = m ((c.tc : Thread Cert.DckvIdeal.nD Cert.DckvIdeal.τ).loc Cert.DckvIdeal.main_arg1)) →
    ∃ (v0 : (c : Dev Cert.DckvIdeal.nD) → Buf (Elt Ideal) ((c.tc : Thread Cert.DckvIdeal.nD Cert.DckvIdeal.τ).loc Cert.DckvIdeal.main_v0)),
      θ_run (Cert.DckvIdeal.defs (F := Ideal)) (onTc (τ := Cert.DckvIdeal.τ) (Cert.DckvIdeal.main (F := Ideal))) ⟨m, fun _ => 0, g⟩ (fun r => ∀ c : Dev Cert.DckvIdeal.nD,
          r.2.mem ((c.tc : Thread Cert.DckvIdeal.nD Cert.DckvIdeal.τ).loc Cert.DckvIdeal.main_v0) = v0 c
          ∧ r.2.mem ((c.tc : Thread Cert.DckvIdeal.nD Cert.DckvIdeal.τ).loc Cert.DckvIdeal.main_arg0) = m ((c.tc : Thread Cert.DckvIdeal.nD Cert.DckvIdeal.τ).loc Cert.DckvIdeal.main_arg0)
          ∧ r.2.mem ((c.tc : Thread Cert.DckvIdeal.nD Cert.DckvIdeal.τ).loc Cert.DckvIdeal.main_arg1) = m ((c.tc : Thread Cert.DckvIdeal.nD Cert.DckvIdeal.τ).loc Cert.DckvIdeal.main_arg1))
      ∧ θ_run (Cert.DckvReferenceIdeal.defs (F := Ideal)) (onTc (τ := Cert.DckvReferenceIdeal.τ) (Cert.DckvReferenceIdeal.main (F := Ideal))) ⟨m', fun _ => 0, g'⟩ (fun r => ∀ c : Dev Cert.DckvReferenceIdeal.nD,
          r.2.mem ((c.tc : Thread Cert.DckvReferenceIdeal.nD Cert.DckvReferenceIdeal.τ).loc Cert.DckvReferenceIdeal.main_v4) = v0 c
          ∧ r.2.mem ((c.tc : Thread Cert.DckvReferenceIdeal.nD Cert.DckvReferenceIdeal.τ).loc Cert.DckvReferenceIdeal.main_arg0) = m' ((c.tc : Thread Cert.DckvReferenceIdeal.nD Cert.DckvReferenceIdeal.τ).loc Cert.DckvReferenceIdeal.main_arg0)
          ∧ r.2.mem ((c.tc : Thread Cert.DckvReferenceIdeal.nD Cert.DckvReferenceIdeal.τ).loc Cert.DckvReferenceIdeal.main_arg1) = m' ((c.tc : Thread Cert.DckvReferenceIdeal.nD Cert.DckvReferenceIdeal.τ).loc Cert.DckvReferenceIdeal.main_arg1))

def preserves_DbrRnn_DbrRnnIdeal : Prop :=
  True

def algebraic_DbrRnnIdeal_DbrRnnReferenceIdeal [hDbrRnnIdeal : Cert.DbrRnnIdeal.Facts] [hDbrRnnReferenceIdeal : Cert.DbrRnnReferenceIdeal.Facts] : Prop :=
  ∀ (m : (ℓ : Loc Cert.DbrRnnIdeal.nD Cert.DbrRnnIdeal.τ Cert.DbrRnnIdeal.sig) → Buf (Elt Ideal) ℓ) (g : Dev Cert.DbrRnnIdeal.nD → PrngReg)
    (m' : (ℓ : Loc Cert.DbrRnnReferenceIdeal.nD Cert.DbrRnnReferenceIdeal.τ Cert.DbrRnnReferenceIdeal.sig) → Buf (Elt Ideal) ℓ) (g' : Dev Cert.DbrRnnReferenceIdeal.nD → PrngReg), Pre_DbrRnnIdeal m →
    (∀ c : Dev Cert.DbrRnnIdeal.nD,
      m' ((c.tc : Thread Cert.DbrRnnReferenceIdeal.nD Cert.DbrRnnReferenceIdeal.τ).loc Cert.DbrRnnReferenceIdeal.main_arg0) = m ((c.tc : Thread Cert.DbrRnnIdeal.nD Cert.DbrRnnIdeal.τ).loc Cert.DbrRnnIdeal.main_arg0)
      ∧ m' ((c.tc : Thread Cert.DbrRnnReferenceIdeal.nD Cert.DbrRnnReferenceIdeal.τ).loc Cert.DbrRnnReferenceIdeal.main_arg1) = m ((c.tc : Thread Cert.DbrRnnIdeal.nD Cert.DbrRnnIdeal.τ).loc Cert.DbrRnnIdeal.main_arg1)) →
    ∃ (v0 : (c : Dev Cert.DbrRnnIdeal.nD) → Buf (Elt Ideal) ((c.tc : Thread Cert.DbrRnnIdeal.nD Cert.DbrRnnIdeal.τ).loc Cert.DbrRnnIdeal.main_v0)),
      θ_run (Cert.DbrRnnIdeal.defs (F := Ideal)) (onTc (τ := Cert.DbrRnnIdeal.τ) (Cert.DbrRnnIdeal.main (F := Ideal))) ⟨m, fun _ => 0, g⟩ (fun r => ∀ c : Dev Cert.DbrRnnIdeal.nD,
          r.2.mem ((c.tc : Thread Cert.DbrRnnIdeal.nD Cert.DbrRnnIdeal.τ).loc Cert.DbrRnnIdeal.main_v0) = v0 c
          ∧ r.2.mem ((c.tc : Thread Cert.DbrRnnIdeal.nD Cert.DbrRnnIdeal.τ).loc Cert.DbrRnnIdeal.main_arg0) = m ((c.tc : Thread Cert.DbrRnnIdeal.nD Cert.DbrRnnIdeal.τ).loc Cert.DbrRnnIdeal.main_arg0)
          ∧ r.2.mem ((c.tc : Thread Cert.DbrRnnIdeal.nD Cert.DbrRnnIdeal.τ).loc Cert.DbrRnnIdeal.main_arg1) = m ((c.tc : Thread Cert.DbrRnnIdeal.nD Cert.DbrRnnIdeal.τ).loc Cert.DbrRnnIdeal.main_arg1))
      ∧ θ_run (Cert.DbrRnnReferenceIdeal.defs (F := Ideal)) (onTc (τ := Cert.DbrRnnReferenceIdeal.τ) (Cert.DbrRnnReferenceIdeal.main (F := Ideal))) ⟨m', fun _ => 0, g'⟩ (fun r => ∀ c : Dev Cert.DbrRnnReferenceIdeal.nD,
          r.2.mem ((c.tc : Thread Cert.DbrRnnReferenceIdeal.nD Cert.DbrRnnReferenceIdeal.τ).loc Cert.DbrRnnReferenceIdeal.main_v4) = v0 c
          ∧ r.2.mem ((c.tc : Thread Cert.DbrRnnReferenceIdeal.nD Cert.DbrRnnReferenceIdeal.τ).loc Cert.DbrRnnReferenceIdeal.main_arg0) = m' ((c.tc : Thread Cert.DbrRnnReferenceIdeal.nD Cert.DbrRnnReferenceIdeal.τ).loc Cert.DbrRnnReferenceIdeal.main_arg0)
          ∧ r.2.mem ((c.tc : Thread Cert.DbrRnnReferenceIdeal.nD Cert.DbrRnnReferenceIdeal.τ).loc Cert.DbrRnnReferenceIdeal.main_arg1) = m' ((c.tc : Thread Cert.DbrRnnReferenceIdeal.nD Cert.DbrRnnReferenceIdeal.τ).loc Cert.DbrRnnReferenceIdeal.main_arg1))

def preserves_DIn_DInIdeal : Prop :=
  True

def algebraic_DInIdeal_DInReferenceIdeal [hDInIdeal : Cert.DInIdeal.Facts] [hDInReferenceIdeal : Cert.DInReferenceIdeal.Facts] : Prop :=
  ∀ (m : (ℓ : Loc Cert.DInIdeal.nD Cert.DInIdeal.τ Cert.DInIdeal.sig) → Buf (Elt Ideal) ℓ) (g : Dev Cert.DInIdeal.nD → PrngReg)
    (m' : (ℓ : Loc Cert.DInReferenceIdeal.nD Cert.DInReferenceIdeal.τ Cert.DInReferenceIdeal.sig) → Buf (Elt Ideal) ℓ) (g' : Dev Cert.DInReferenceIdeal.nD → PrngReg), Pre_DInIdeal m →
    (∀ c : Dev Cert.DInIdeal.nD,
      m' ((c.tc : Thread Cert.DInReferenceIdeal.nD Cert.DInReferenceIdeal.τ).loc Cert.DInReferenceIdeal.main_arg0) = m ((c.tc : Thread Cert.DInIdeal.nD Cert.DInIdeal.τ).loc Cert.DInIdeal.main_arg0)
      ∧ m' ((c.tc : Thread Cert.DInReferenceIdeal.nD Cert.DInReferenceIdeal.τ).loc Cert.DInReferenceIdeal.main_arg1) = m ((c.tc : Thread Cert.DInIdeal.nD Cert.DInIdeal.τ).loc Cert.DInIdeal.main_arg1)) →
    ∃ (v0 : (c : Dev Cert.DInIdeal.nD) → Buf (Elt Ideal) ((c.tc : Thread Cert.DInIdeal.nD Cert.DInIdeal.τ).loc Cert.DInIdeal.main_v0)),
      θ_run (Cert.DInIdeal.defs (F := Ideal)) (onTc (τ := Cert.DInIdeal.τ) (Cert.DInIdeal.main (F := Ideal))) ⟨m, fun _ => 0, g⟩ (fun r => ∀ c : Dev Cert.DInIdeal.nD,
          r.2.mem ((c.tc : Thread Cert.DInIdeal.nD Cert.DInIdeal.τ).loc Cert.DInIdeal.main_v0) = v0 c
          ∧ r.2.mem ((c.tc : Thread Cert.DInIdeal.nD Cert.DInIdeal.τ).loc Cert.DInIdeal.main_arg0) = m ((c.tc : Thread Cert.DInIdeal.nD Cert.DInIdeal.τ).loc Cert.DInIdeal.main_arg0)
          ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ θ_run (Cert.DInReferenceIdeal.defs (F := Ideal)) (onTc (τ := Cert.DInReferenceIdeal.τ) (Cert.DInReferenceIdeal.main (F := Ideal))) ⟨m', fun _ => 0, g'⟩ (fun r => ∀ c : Dev Cert.DInReferenceIdeal.nD,
          r.2.mem ((c.tc : Thread Cert.DInReferenceIdeal.nD Cert.DInReferenceIdeal.τ).loc Cert.DInReferenceIdeal.main_v4) = v0 c
          ∧ r.2.mem ((c.tc : Thread Cert.DInReferenceIdeal.nD Cert.DInReferenceIdeal.τ).loc Cert.DInReferenceIdeal.main_arg0) = m' ((c.tc : Thread Cert.DInReferenceIdeal.nD Cert.DInReferenceIdeal.τ).loc Cert.DInReferenceIdeal.main_arg0)
          ∧ r.2.mem ((c.tc : Thread Cert.DInReferenceIdeal.nD Cert.DInReferenceIdeal.τ).loc Cert.DInReferenceIdeal.main_arg1) = m' ((c.tc : Thread Cert.DInReferenceIdeal.nD Cert.DInReferenceIdeal.τ).loc Cert.DInReferenceIdeal.main_arg1))

def preserves_MergeB_MergeBIdeal : Prop :=
  True

def algebraic_MergeBIdeal_MergeBReferenceIdeal [hMergeBIdeal : Cert.MergeBIdeal.Facts] [hMergeBReferenceIdeal : Cert.MergeBReferenceIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBReferenceIdeal.nD Cert.MergeBReferenceIdeal.τ Cert.MergeBReferenceIdeal.sig) → Buf (Elt Ideal) ℓ) (g' : Dev Cert.MergeBReferenceIdeal.nD → PrngReg), Pre_MergeBIdeal m →
    (∀ c : Dev Cert.MergeBIdeal.nD,
      m' ((c.tc : Thread Cert.MergeBReferenceIdeal.nD Cert.MergeBReferenceIdeal.τ).loc Cert.MergeBReferenceIdeal.main_arg0) = m ((c.tc : Thread Cert.MergeBIdeal.nD Cert.MergeBIdeal.τ).loc Cert.MergeBIdeal.main_arg0)
      ∧ m' ((c.tc : Thread Cert.MergeBReferenceIdeal.nD Cert.MergeBReferenceIdeal.τ).loc Cert.MergeBReferenceIdeal.main_arg1) = m ((c.tc : Thread Cert.MergeBIdeal.nD Cert.MergeBIdeal.τ).loc Cert.MergeBIdeal.main_arg1)
      ∧ m' ((c.tc : Thread Cert.MergeBReferenceIdeal.nD Cert.MergeBReferenceIdeal.τ).loc Cert.MergeBReferenceIdeal.main_arg2) = m ((c.tc : Thread Cert.MergeBIdeal.nD Cert.MergeBIdeal.τ).loc Cert.MergeBIdeal.main_arg2)
      ∧ m' ((c.tc : Thread Cert.MergeBReferenceIdeal.nD Cert.MergeBReferenceIdeal.τ).loc Cert.MergeBReferenceIdeal.main_arg3) = m ((c.tc : Thread Cert.MergeBIdeal.nD Cert.MergeBIdeal.τ).loc Cert.MergeBIdeal.main_arg3)) →
    ∃ (v0 : (c : Dev Cert.MergeBIdeal.nD) → Buf (Elt Ideal) ((c.tc : Thread Cert.MergeBIdeal.nD Cert.MergeBIdeal.τ).loc Cert.MergeBIdeal.main_v0_0)) (v1 : (c : Dev Cert.MergeBIdeal.nD) → Buf (Elt Ideal) ((c.tc : Thread Cert.MergeBIdeal.nD Cert.MergeBIdeal.τ).loc Cert.MergeBIdeal.main_v0_1)) (v2 : (c : Dev Cert.MergeBIdeal.nD) → Buf (Elt Ideal) ((c.tc : Thread Cert.MergeBIdeal.nD Cert.MergeBIdeal.τ).loc Cert.MergeBIdeal.main_v0_2)) (v3 : (c : Dev Cert.MergeBIdeal.nD) → Buf (Elt Ideal) ((c.tc : Thread Cert.MergeBIdeal.nD Cert.MergeBIdeal.τ).loc Cert.MergeBIdeal.main_v0_3)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v0_0) = v0 c
          ∧ r.2.mem ((c.tc : Thread Cert.MergeBIdeal.nD Cert.MergeBIdeal.τ).loc Cert.MergeBIdeal.main_v0_1) = v1 c
          ∧ r.2.mem ((c.tc : Thread Cert.MergeBIdeal.nD Cert.MergeBIdeal.τ).loc Cert.MergeBIdeal.main_v0_2) = v2 c
          ∧ r.2.mem ((c.tc : Thread Cert.MergeBIdeal.nD Cert.MergeBIdeal.τ).loc Cert.MergeBIdeal.main_v0_3) = v3 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ θ_run (Cert.MergeBReferenceIdeal.defs (F := Ideal)) (onTc (τ := Cert.MergeBReferenceIdeal.τ) (Cert.MergeBReferenceIdeal.main (F := Ideal))) ⟨m', fun _ => 0, g'⟩ (fun r => ∀ c : Dev Cert.MergeBReferenceIdeal.nD,
          r.2.mem ((c.tc : Thread Cert.MergeBReferenceIdeal.nD Cert.MergeBReferenceIdeal.τ).loc Cert.MergeBReferenceIdeal.main_v31) = v0 c
          ∧ r.2.mem ((c.tc : Thread Cert.MergeBReferenceIdeal.nD Cert.MergeBReferenceIdeal.τ).loc Cert.MergeBReferenceIdeal.main_v32) = v1 c
          ∧ r.2.mem ((c.tc : Thread Cert.MergeBReferenceIdeal.nD Cert.MergeBReferenceIdeal.τ).loc Cert.MergeBReferenceIdeal.main_v33) = v2 c
          ∧ r.2.mem ((c.tc : Thread Cert.MergeBReferenceIdeal.nD Cert.MergeBReferenceIdeal.τ).loc Cert.MergeBReferenceIdeal.main_v34) = v3 c
          ∧ r.2.mem ((c.tc : Thread Cert.MergeBReferenceIdeal.nD Cert.MergeBReferenceIdeal.τ).loc Cert.MergeBReferenceIdeal.main_arg0) = m' ((c.tc : Thread Cert.MergeBReferenceIdeal.nD Cert.MergeBReferenceIdeal.τ).loc Cert.MergeBReferenceIdeal.main_arg0)
          ∧ r.2.mem ((c.tc : Thread Cert.MergeBReferenceIdeal.nD Cert.MergeBReferenceIdeal.τ).loc Cert.MergeBReferenceIdeal.main_arg1) = m' ((c.tc : Thread Cert.MergeBReferenceIdeal.nD Cert.MergeBReferenceIdeal.τ).loc Cert.MergeBReferenceIdeal.main_arg1)
          ∧ r.2.mem ((c.tc : Thread Cert.MergeBReferenceIdeal.nD Cert.MergeBReferenceIdeal.τ).loc Cert.MergeBReferenceIdeal.main_arg2) = m' ((c.tc : Thread Cert.MergeBReferenceIdeal.nD Cert.MergeBReferenceIdeal.τ).loc Cert.MergeBReferenceIdeal.main_arg2)
          ∧ r.2.mem ((c.tc : Thread Cert.MergeBReferenceIdeal.nD Cert.MergeBReferenceIdeal.τ).loc Cert.MergeBReferenceIdeal.main_arg3) = m' ((c.tc : Thread Cert.MergeBReferenceIdeal.nD Cert.MergeBReferenceIdeal.τ).loc Cert.MergeBReferenceIdeal.main_arg3))

def preserves_MergeF_MergeFIdeal : Prop :=
  True

def algebraic_MergeFIdeal_MergeFReferenceIdeal [hMergeFIdeal : Cert.MergeFIdeal.Facts] [hMergeFReferenceIdeal : Cert.MergeFReferenceIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFReferenceIdeal.nD Cert.MergeFReferenceIdeal.τ Cert.MergeFReferenceIdeal.sig) → Buf (Elt Ideal) ℓ) (g' : Dev Cert.MergeFReferenceIdeal.nD → PrngReg), Pre_MergeFIdeal m →
    (∀ c : Dev Cert.MergeFIdeal.nD,
      m' ((c.tc : Thread Cert.MergeFReferenceIdeal.nD Cert.MergeFReferenceIdeal.τ).loc Cert.MergeFReferenceIdeal.main_arg0) = m ((c.tc : Thread Cert.MergeFIdeal.nD Cert.MergeFIdeal.τ).loc Cert.MergeFIdeal.main_arg0)
      ∧ m' ((c.tc : Thread Cert.MergeFReferenceIdeal.nD Cert.MergeFReferenceIdeal.τ).loc Cert.MergeFReferenceIdeal.main_arg1) = m ((c.tc : Thread Cert.MergeFIdeal.nD Cert.MergeFIdeal.τ).loc Cert.MergeFIdeal.main_arg1)
      ∧ m' ((c.tc : Thread Cert.MergeFReferenceIdeal.nD Cert.MergeFReferenceIdeal.τ).loc Cert.MergeFReferenceIdeal.main_arg2) = m ((c.tc : Thread Cert.MergeFIdeal.nD Cert.MergeFIdeal.τ).loc Cert.MergeFIdeal.main_arg2)) →
    ∃ (v0 : (c : Dev Cert.MergeFIdeal.nD) → Buf (Elt Ideal) ((c.tc : Thread Cert.MergeFIdeal.nD Cert.MergeFIdeal.τ).loc Cert.MergeFIdeal.main_v0)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v0) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ θ_run (Cert.MergeFReferenceIdeal.defs (F := Ideal)) (onTc (τ := Cert.MergeFReferenceIdeal.τ) (Cert.MergeFReferenceIdeal.main (F := Ideal))) ⟨m', fun _ => 0, g'⟩ (fun r => ∀ c : Dev Cert.MergeFReferenceIdeal.nD,
          r.2.mem ((c.tc : Thread Cert.MergeFReferenceIdeal.nD Cert.MergeFReferenceIdeal.τ).loc Cert.MergeFReferenceIdeal.main_v17) = v0 c
          ∧ r.2.mem ((c.tc : Thread Cert.MergeFReferenceIdeal.nD Cert.MergeFReferenceIdeal.τ).loc Cert.MergeFReferenceIdeal.main_arg0) = m' ((c.tc : Thread Cert.MergeFReferenceIdeal.nD Cert.MergeFReferenceIdeal.τ).loc Cert.MergeFReferenceIdeal.main_arg0)
          ∧ r.2.mem ((c.tc : Thread Cert.MergeFReferenceIdeal.nD Cert.MergeFReferenceIdeal.τ).loc Cert.MergeFReferenceIdeal.main_arg1) = m' ((c.tc : Thread Cert.MergeFReferenceIdeal.nD Cert.MergeFReferenceIdeal.τ).loc Cert.MergeFReferenceIdeal.main_arg1)
          ∧ r.2.mem ((c.tc : Thread Cert.MergeFReferenceIdeal.nD Cert.MergeFReferenceIdeal.τ).loc Cert.MergeFReferenceIdeal.main_arg2) = m' ((c.tc : Thread Cert.MergeFReferenceIdeal.nD Cert.MergeFReferenceIdeal.τ).loc Cert.MergeFReferenceIdeal.main_arg2))

def preserves_SwigluB_SwigluBIdeal : Prop :=
  True

def algebraic_SwigluBIdeal_SwigluBReferenceIdeal_pre_swiglu_bwd_finite [hSwigluBIdeal : Cert.SwigluBIdeal.Facts] [hSwigluBReferenceIdeal : Cert.SwigluBReferenceIdeal.Facts] [hPre_swiglu_bwd_finite : Cert.Pre_swiglu_bwd_finite.Facts] : Prop :=
  ∀ (m : (ℓ : Loc Cert.SwigluBIdeal.nD Cert.SwigluBIdeal.τ Cert.SwigluBIdeal.sig) → Buf (Elt Ideal) ℓ) (g : Dev Cert.SwigluBIdeal.nD → PrngReg)
    (m' : (ℓ : Loc Cert.SwigluBReferenceIdeal.nD Cert.SwigluBReferenceIdeal.τ Cert.SwigluBReferenceIdeal.sig) → Buf (Elt Ideal) ℓ) (g' : Dev Cert.SwigluBReferenceIdeal.nD → PrngReg), Pre_SwigluBIdeal_swiglu_bwd_finite m →
    (∀ c : Dev Cert.SwigluBIdeal.nD,
      m' ((c.tc : Thread Cert.SwigluBReferenceIdeal.nD Cert.SwigluBReferenceIdeal.τ).loc Cert.SwigluBReferenceIdeal.main_arg0) = m ((c.tc : Thread Cert.SwigluBIdeal.nD Cert.SwigluBIdeal.τ).loc Cert.SwigluBIdeal.main_arg0)
      ∧ m' ((c.tc : Thread Cert.SwigluBReferenceIdeal.nD Cert.SwigluBReferenceIdeal.τ).loc Cert.SwigluBReferenceIdeal.main_arg1) = m ((c.tc : Thread Cert.SwigluBIdeal.nD Cert.SwigluBIdeal.τ).loc Cert.SwigluBIdeal.main_arg1)) →
    ∃ (v0 : (c : Dev Cert.SwigluBIdeal.nD) → Buf (Elt Ideal) ((c.tc : Thread Cert.SwigluBIdeal.nD Cert.SwigluBIdeal.τ).loc Cert.SwigluBIdeal.main_v0)),
      θ_run (Cert.SwigluBIdeal.defs (F := Ideal)) (onTc (τ := Cert.SwigluBIdeal.τ) (Cert.SwigluBIdeal.main (F := Ideal))) ⟨m, fun _ => 0, g⟩ (fun r => ∀ c : Dev Cert.SwigluBIdeal.nD,
          r.2.mem ((c.tc : Thread Cert.SwigluBIdeal.nD Cert.SwigluBIdeal.τ).loc Cert.SwigluBIdeal.main_v0) = v0 c
          ∧ r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
          ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ θ_run (Cert.SwigluBReferenceIdeal.defs (F := Ideal)) (onTc (τ := Cert.SwigluBReferenceIdeal.τ) (Cert.SwigluBReferenceIdeal.main (F := Ideal))) ⟨m', fun _ => 0, g'⟩ (fun r => ∀ c : Dev Cert.SwigluBReferenceIdeal.nD,
          r.2.mem ((c.tc : Thread Cert.SwigluBReferenceIdeal.nD Cert.SwigluBReferenceIdeal.τ).loc Cert.SwigluBReferenceIdeal.main_v12) = v0 c
          ∧ r.2.mem ((c.tc : Thread Cert.SwigluBReferenceIdeal.nD Cert.SwigluBReferenceIdeal.τ).loc Cert.SwigluBReferenceIdeal.main_arg0) = m' ((c.tc : Thread Cert.SwigluBReferenceIdeal.nD Cert.SwigluBReferenceIdeal.τ).loc Cert.SwigluBReferenceIdeal.main_arg0)
          ∧ r.2.mem ((c.tc : Thread Cert.SwigluBReferenceIdeal.nD Cert.SwigluBReferenceIdeal.τ).loc Cert.SwigluBReferenceIdeal.main_arg1) = m' ((c.tc : Thread Cert.SwigluBReferenceIdeal.nD Cert.SwigluBReferenceIdeal.τ).loc Cert.SwigluBReferenceIdeal.main_arg1))

def preserves_SwigluF_SwigluFIdeal : Prop :=
  True

def algebraic_SwigluFIdeal_SwigluFReferenceIdeal [hSwigluFIdeal : Cert.SwigluFIdeal.Facts] [hSwigluFReferenceIdeal : Cert.SwigluFReferenceIdeal.Facts] : Prop :=
  ∀ (m : (ℓ : Loc Cert.SwigluFIdeal.nD Cert.SwigluFIdeal.τ Cert.SwigluFIdeal.sig) → Buf (Elt Ideal) ℓ) (g : Dev Cert.SwigluFIdeal.nD → PrngReg)
    (m' : (ℓ : Loc Cert.SwigluFReferenceIdeal.nD Cert.SwigluFReferenceIdeal.τ Cert.SwigluFReferenceIdeal.sig) → Buf (Elt Ideal) ℓ) (g' : Dev Cert.SwigluFReferenceIdeal.nD → PrngReg), Pre_SwigluFIdeal m →
    (∀ c : Dev Cert.SwigluFIdeal.nD,
      m' ((c.tc : Thread Cert.SwigluFReferenceIdeal.nD Cert.SwigluFReferenceIdeal.τ).loc Cert.SwigluFReferenceIdeal.main_arg0) = m ((c.tc : Thread Cert.SwigluFIdeal.nD Cert.SwigluFIdeal.τ).loc Cert.SwigluFIdeal.main_arg0)) →
    ∃ (v0 : (c : Dev Cert.SwigluFIdeal.nD) → Buf (Elt Ideal) ((c.tc : Thread Cert.SwigluFIdeal.nD Cert.SwigluFIdeal.τ).loc Cert.SwigluFIdeal.main_v0)),
      θ_run (Cert.SwigluFIdeal.defs (F := Ideal)) (onTc (τ := Cert.SwigluFIdeal.τ) (Cert.SwigluFIdeal.main (F := Ideal))) ⟨m, fun _ => 0, g⟩ (fun r => ∀ c : Dev Cert.SwigluFIdeal.nD,
          r.2.mem ((c.tc : Thread Cert.SwigluFIdeal.nD Cert.SwigluFIdeal.τ).loc Cert.SwigluFIdeal.main_v0) = v0 c
          ∧ r.2.mem ((c.tc : Thread Cert.SwigluFIdeal.nD Cert.SwigluFIdeal.τ).loc Cert.SwigluFIdeal.main_arg0) = m ((c.tc : Thread Cert.SwigluFIdeal.nD Cert.SwigluFIdeal.τ).loc Cert.SwigluFIdeal.main_arg0))
      ∧ θ_run (Cert.SwigluFReferenceIdeal.defs (F := Ideal)) (onTc (τ := Cert.SwigluFReferenceIdeal.τ) (Cert.SwigluFReferenceIdeal.main (F := Ideal))) ⟨m', fun _ => 0, g'⟩ (fun r => ∀ c : Dev Cert.SwigluFReferenceIdeal.nD,
          r.2.mem ((c.tc : Thread Cert.SwigluFReferenceIdeal.nD Cert.SwigluFReferenceIdeal.τ).loc Cert.SwigluFReferenceIdeal.main_v6) = v0 c
          ∧ r.2.mem ((c.tc : Thread Cert.SwigluFReferenceIdeal.nD Cert.SwigluFReferenceIdeal.τ).loc Cert.SwigluFReferenceIdeal.main_arg0) = m' ((c.tc : Thread Cert.SwigluFReferenceIdeal.nD Cert.SwigluFReferenceIdeal.τ).loc Cert.SwigluFReferenceIdeal.main_arg0))

def preserves_AdamVec_AdamVecIdeal : Prop :=
  True

def algebraic_AdamVecIdeal_AdamVecReferenceIdeal [hAdamVecIdeal : Cert.AdamVecIdeal.Facts] [hAdamVecReferenceIdeal : Cert.AdamVecReferenceIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecReferenceIdeal.nD Cert.AdamVecReferenceIdeal.τ Cert.AdamVecReferenceIdeal.sig) → Buf (Elt Ideal) ℓ) (g' : Dev Cert.AdamVecReferenceIdeal.nD → PrngReg), Pre_AdamVecIdeal m →
    (∀ c : Dev Cert.AdamVecIdeal.nD,
      m' ((c.tc : Thread Cert.AdamVecReferenceIdeal.nD Cert.AdamVecReferenceIdeal.τ).loc Cert.AdamVecReferenceIdeal.main_arg0) = m ((c.tc : Thread Cert.AdamVecIdeal.nD Cert.AdamVecIdeal.τ).loc Cert.AdamVecIdeal.main_arg0)
      ∧ m' ((c.tc : Thread Cert.AdamVecReferenceIdeal.nD Cert.AdamVecReferenceIdeal.τ).loc Cert.AdamVecReferenceIdeal.main_arg1) = m ((c.tc : Thread Cert.AdamVecIdeal.nD Cert.AdamVecIdeal.τ).loc Cert.AdamVecIdeal.main_arg1)
      ∧ m' ((c.tc : Thread Cert.AdamVecReferenceIdeal.nD Cert.AdamVecReferenceIdeal.τ).loc Cert.AdamVecReferenceIdeal.main_arg2) = m ((c.tc : Thread Cert.AdamVecIdeal.nD Cert.AdamVecIdeal.τ).loc Cert.AdamVecIdeal.main_arg2)
      ∧ m' ((c.tc : Thread Cert.AdamVecReferenceIdeal.nD Cert.AdamVecReferenceIdeal.τ).loc Cert.AdamVecReferenceIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v5)) (v1 : (c : Dev Cert.AdamVecIdeal.nD) → Buf (Elt Ideal) ((c.tc : Thread Cert.AdamVecIdeal.nD Cert.AdamVecIdeal.τ).loc Cert.AdamVecIdeal.main_v6)) (v2 : (c : Dev Cert.AdamVecIdeal.nD) → Buf (Elt Ideal) ((c.tc : Thread Cert.AdamVecIdeal.nD Cert.AdamVecIdeal.τ).loc Cert.AdamVecIdeal.main_v7)) (v3 : (c : Dev Cert.AdamVecIdeal.nD) → Buf (Elt Ideal) ((c.tc : Thread Cert.AdamVecIdeal.nD Cert.AdamVecIdeal.τ).loc Cert.AdamVecIdeal.main_v8)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v5) = v0 c
          ∧ r.2.mem ((c.tc : Thread Cert.AdamVecIdeal.nD Cert.AdamVecIdeal.τ).loc Cert.AdamVecIdeal.main_v6) = v1 c
          ∧ r.2.mem ((c.tc : Thread Cert.AdamVecIdeal.nD Cert.AdamVecIdeal.τ).loc Cert.AdamVecIdeal.main_v7) = v2 c
          ∧ r.2.mem ((c.tc : Thread Cert.AdamVecIdeal.nD Cert.AdamVecIdeal.τ).loc Cert.AdamVecIdeal.main_v8) = v3 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecReferenceIdeal.defs (F := Ideal)) (onTc (τ := Cert.AdamVecReferenceIdeal.τ) (Cert.AdamVecReferenceIdeal.main (F := Ideal))) ⟨m', fun _ => 0, g'⟩ (fun r => ∀ c : Dev Cert.AdamVecReferenceIdeal.nD,
          r.2.mem ((c.tc : Thread Cert.AdamVecReferenceIdeal.nD Cert.AdamVecReferenceIdeal.τ).loc Cert.AdamVecReferenceIdeal.main_v23) = v0 c
          ∧ r.2.mem ((c.tc : Thread Cert.AdamVecReferenceIdeal.nD Cert.AdamVecReferenceIdeal.τ).loc Cert.AdamVecReferenceIdeal.main_v4) = v1 c
          ∧ r.2.mem ((c.tc : Thread Cert.AdamVecReferenceIdeal.nD Cert.AdamVecReferenceIdeal.τ).loc Cert.AdamVecReferenceIdeal.main_v10) = v2 c
          ∧ r.2.mem ((c.tc : Thread Cert.AdamVecReferenceIdeal.nD Cert.AdamVecReferenceIdeal.τ).loc Cert.AdamVecReferenceIdeal.main_arg1) = v3 c
          ∧ r.2.mem ((c.tc : Thread Cert.AdamVecReferenceIdeal.nD Cert.AdamVecReferenceIdeal.τ).loc Cert.AdamVecReferenceIdeal.main_arg0) = m' ((c.tc : Thread Cert.AdamVecReferenceIdeal.nD Cert.AdamVecReferenceIdeal.τ).loc Cert.AdamVecReferenceIdeal.main_arg0)
          ∧ r.2.mem ((c.tc : Thread Cert.AdamVecReferenceIdeal.nD Cert.AdamVecReferenceIdeal.τ).loc Cert.AdamVecReferenceIdeal.main_arg1) = m' ((c.tc : Thread Cert.AdamVecReferenceIdeal.nD Cert.AdamVecReferenceIdeal.τ).loc Cert.AdamVecReferenceIdeal.main_arg1)
          ∧ r.2.mem ((c.tc : Thread Cert.AdamVecReferenceIdeal.nD Cert.AdamVecReferenceIdeal.τ).loc Cert.AdamVecReferenceIdeal.main_arg2) = m' ((c.tc : Thread Cert.AdamVecReferenceIdeal.nD Cert.AdamVecReferenceIdeal.τ).loc Cert.AdamVecReferenceIdeal.main_arg2)
          ∧ r.2.mem ((c.tc : Thread Cert.AdamVecReferenceIdeal.nD Cert.AdamVecReferenceIdeal.τ).loc Cert.AdamVecReferenceIdeal.main_arg3) = m' ((c.tc : Thread Cert.AdamVecReferenceIdeal.nD Cert.AdamVecReferenceIdeal.τ).loc Cert.AdamVecReferenceIdeal.main_arg3))

def preserves_AdamSinks_AdamSinksIdeal : Prop :=
  True

def algebraic_AdamSinksIdeal_AdamSinksReferenceIdeal [hAdamSinksIdeal : Cert.AdamSinksIdeal.Facts] [hAdamSinksReferenceIdeal : Cert.AdamSinksReferenceIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg)
    (m' : (ℓ : Loc Cert.AdamSinksReferenceIdeal.nD Cert.AdamSinksReferenceIdeal.τ Cert.AdamSinksReferenceIdeal.sig) → Buf (Elt Ideal) ℓ) (g' : Dev Cert.AdamSinksReferenceIdeal.nD → PrngReg), Pre_AdamSinksIdeal m →
    (∀ c : Dev Cert.AdamSinksIdeal.nD,
      m' ((c.tc : Thread Cert.AdamSinksReferenceIdeal.nD Cert.AdamSinksReferenceIdeal.τ).loc Cert.AdamSinksReferenceIdeal.main_arg0) = m ((c.tc : Thread Cert.AdamSinksIdeal.nD Cert.AdamSinksIdeal.τ).loc Cert.AdamSinksIdeal.main_arg0)
      ∧ m' ((c.tc : Thread Cert.AdamSinksReferenceIdeal.nD Cert.AdamSinksReferenceIdeal.τ).loc Cert.AdamSinksReferenceIdeal.main_arg1) = m ((c.tc : Thread Cert.AdamSinksIdeal.nD Cert.AdamSinksIdeal.τ).loc Cert.AdamSinksIdeal.main_arg1)
      ∧ m' ((c.tc : Thread Cert.AdamSinksReferenceIdeal.nD Cert.AdamSinksReferenceIdeal.τ).loc Cert.AdamSinksReferenceIdeal.main_arg2) = m ((c.tc : Thread Cert.AdamSinksIdeal.nD Cert.AdamSinksIdeal.τ).loc Cert.AdamSinksIdeal.main_arg2)
      ∧ m' ((c.tc : Thread Cert.AdamSinksReferenceIdeal.nD Cert.AdamSinksReferenceIdeal.τ).loc Cert.AdamSinksReferenceIdeal.main_arg3) = m ((c.tc : Thread Cert.AdamSinksIdeal.nD Cert.AdamSinksIdeal.τ).loc Cert.AdamSinksIdeal.main_arg3)) →
    ∃ (v0 : (c : Dev Cert.AdamSinksIdeal.nD) → Buf (Elt Ideal) ((c.tc : Thread Cert.AdamSinksIdeal.nD Cert.AdamSinksIdeal.τ).loc Cert.AdamSinksIdeal.main_v5)) (v1 : (c : Dev Cert.AdamSinksIdeal.nD) → Buf (Elt Ideal) ((c.tc : Thread Cert.AdamSinksIdeal.nD Cert.AdamSinksIdeal.τ).loc Cert.AdamSinksIdeal.main_v6)) (v2 : (c : Dev Cert.AdamSinksIdeal.nD) → Buf (Elt Ideal) ((c.tc : Thread Cert.AdamSinksIdeal.nD Cert.AdamSinksIdeal.τ).loc Cert.AdamSinksIdeal.main_v7)) (v3 : (c : Dev Cert.AdamSinksIdeal.nD) → Buf (Elt Ideal) ((c.tc : Thread Cert.AdamSinksIdeal.nD Cert.AdamSinksIdeal.τ).loc Cert.AdamSinksIdeal.main_v8)),
      θ_run (Cert.AdamSinksIdeal.defs (F := Ideal)) (onTc (τ := Cert.AdamSinksIdeal.τ) (Cert.AdamSinksIdeal.main (F := Ideal))) ⟨m, fun _ => 0, g⟩ (fun r => ∀ c : Dev Cert.AdamSinksIdeal.nD,
          r.2.mem ((c.tc : Thread Cert.AdamSinksIdeal.nD Cert.AdamSinksIdeal.τ).loc Cert.AdamSinksIdeal.main_v5) = v0 c
          ∧ r.2.mem ((c.tc : Thread Cert.AdamSinksIdeal.nD Cert.AdamSinksIdeal.τ).loc Cert.AdamSinksIdeal.main_v6) = v1 c
          ∧ r.2.mem ((c.tc : Thread Cert.AdamSinksIdeal.nD Cert.AdamSinksIdeal.τ).loc Cert.AdamSinksIdeal.main_v7) = v2 c
          ∧ r.2.mem ((c.tc : Thread Cert.AdamSinksIdeal.nD Cert.AdamSinksIdeal.τ).loc Cert.AdamSinksIdeal.main_v8) = v3 c
          ∧ r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
          ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
          ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
          ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ θ_run (Cert.AdamSinksReferenceIdeal.defs (F := Ideal)) (onTc (τ := Cert.AdamSinksReferenceIdeal.τ) (Cert.AdamSinksReferenceIdeal.main (F := Ideal))) ⟨m', fun _ => 0, g'⟩ (fun r => ∀ c : Dev Cert.AdamSinksReferenceIdeal.nD,
          r.2.mem ((c.tc : Thread Cert.AdamSinksReferenceIdeal.nD Cert.AdamSinksReferenceIdeal.τ).loc Cert.AdamSinksReferenceIdeal.main_v23) = v0 c
          ∧ r.2.mem ((c.tc : Thread Cert.AdamSinksReferenceIdeal.nD Cert.AdamSinksReferenceIdeal.τ).loc Cert.AdamSinksReferenceIdeal.main_v4) = v1 c
          ∧ r.2.mem ((c.tc : Thread Cert.AdamSinksReferenceIdeal.nD Cert.AdamSinksReferenceIdeal.τ).loc Cert.AdamSinksReferenceIdeal.main_v10) = v2 c
          ∧ r.2.mem ((c.tc : Thread Cert.AdamSinksReferenceIdeal.nD Cert.AdamSinksReferenceIdeal.τ).loc Cert.AdamSinksReferenceIdeal.main_arg1) = v3 c
          ∧ r.2.mem ((c.tc : Thread Cert.AdamSinksReferenceIdeal.nD Cert.AdamSinksReferenceIdeal.τ).loc Cert.AdamSinksReferenceIdeal.main_arg0) = m' ((c.tc : Thread Cert.AdamSinksReferenceIdeal.nD Cert.AdamSinksReferenceIdeal.τ).loc Cert.AdamSinksReferenceIdeal.main_arg0)
          ∧ r.2.mem ((c.tc : Thread Cert.AdamSinksReferenceIdeal.nD Cert.AdamSinksReferenceIdeal.τ).loc Cert.AdamSinksReferenceIdeal.main_arg1) = m' ((c.tc : Thread Cert.AdamSinksReferenceIdeal.nD Cert.AdamSinksReferenceIdeal.τ).loc Cert.AdamSinksReferenceIdeal.main_arg1)
          ∧ r.2.mem ((c.tc : Thread Cert.AdamSinksReferenceIdeal.nD Cert.AdamSinksReferenceIdeal.τ).loc Cert.AdamSinksReferenceIdeal.main_arg2) = m' ((c.tc : Thread Cert.AdamSinksReferenceIdeal.nD Cert.AdamSinksReferenceIdeal.τ).loc Cert.AdamSinksReferenceIdeal.main_arg2)
          ∧ r.2.mem ((c.tc : Thread Cert.AdamSinksReferenceIdeal.nD Cert.AdamSinksReferenceIdeal.τ).loc Cert.AdamSinksReferenceIdeal.main_arg3) = m' ((c.tc : Thread Cert.AdamSinksReferenceIdeal.nD Cert.AdamSinksReferenceIdeal.τ).loc Cert.AdamSinksReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg1) = v3 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamInUp_AdamInUpIdeal : Prop :=
  True

def algebraic_AdamInUpIdeal_AdamInUpReferenceIdeal [hAdamInUpIdeal : Cert.AdamInUpIdeal.Facts] [hAdamInUpReferenceIdeal : Cert.AdamInUpReferenceIdeal.Facts] : Prop :=
  ∀ (m : (ℓ : Loc Cert.AdamInUpIdeal.nD Cert.AdamInUpIdeal.τ Cert.AdamInUpIdeal.sig) → Buf (Elt Ideal) ℓ) (g : Dev Cert.AdamInUpIdeal.nD → PrngReg)
    (m' : (ℓ : Loc Cert.AdamInUpReferenceIdeal.nD Cert.AdamInUpReferenceIdeal.τ Cert.AdamInUpReferenceIdeal.sig) → Buf (Elt Ideal) ℓ) (g' : Dev Cert.AdamInUpReferenceIdeal.nD → PrngReg), Pre_AdamInUpIdeal m →
    (∀ c : Dev Cert.AdamInUpIdeal.nD,
      m' ((c.tc : Thread Cert.AdamInUpReferenceIdeal.nD Cert.AdamInUpReferenceIdeal.τ).loc Cert.AdamInUpReferenceIdeal.main_arg0) = m ((c.tc : Thread Cert.AdamInUpIdeal.nD Cert.AdamInUpIdeal.τ).loc Cert.AdamInUpIdeal.main_arg0)
      ∧ m' ((c.tc : Thread Cert.AdamInUpReferenceIdeal.nD Cert.AdamInUpReferenceIdeal.τ).loc Cert.AdamInUpReferenceIdeal.main_arg1) = m ((c.tc : Thread Cert.AdamInUpIdeal.nD Cert.AdamInUpIdeal.τ).loc Cert.AdamInUpIdeal.main_arg1)
      ∧ m' ((c.tc : Thread Cert.AdamInUpReferenceIdeal.nD Cert.AdamInUpReferenceIdeal.τ).loc Cert.AdamInUpReferenceIdeal.main_arg2) = m ((c.tc : Thread Cert.AdamInUpIdeal.nD Cert.AdamInUpIdeal.τ).loc Cert.AdamInUpIdeal.main_arg2)
      ∧ m' ((c.tc : Thread Cert.AdamInUpReferenceIdeal.nD Cert.AdamInUpReferenceIdeal.τ).loc Cert.AdamInUpReferenceIdeal.main_arg3) = m ((c.tc : Thread Cert.AdamInUpIdeal.nD Cert.AdamInUpIdeal.τ).loc Cert.AdamInUpIdeal.main_arg3)) →
    ∃ (v0 : (c : Dev Cert.AdamInUpIdeal.nD) → Buf (Elt Ideal) ((c.tc : Thread Cert.AdamInUpIdeal.nD Cert.AdamInUpIdeal.τ).loc Cert.AdamInUpIdeal.main_v1)) (v1 : (c : Dev Cert.AdamInUpIdeal.nD) → Buf (Elt Ideal) ((c.tc : Thread Cert.AdamInUpIdeal.nD Cert.AdamInUpIdeal.τ).loc Cert.AdamInUpIdeal.main_v2)) (v2 : (c : Dev Cert.AdamInUpIdeal.nD) → Buf (Elt Ideal) ((c.tc : Thread Cert.AdamInUpIdeal.nD Cert.AdamInUpIdeal.τ).loc Cert.AdamInUpIdeal.main_v3)) (v3 : (c : Dev Cert.AdamInUpIdeal.nD) → Buf (Elt Ideal) ((c.tc : Thread Cert.AdamInUpIdeal.nD Cert.AdamInUpIdeal.τ).loc Cert.AdamInUpIdeal.main_v4)),
      θ_run (Cert.AdamInUpIdeal.defs (F := Ideal)) (onTc (τ := Cert.AdamInUpIdeal.τ) (Cert.AdamInUpIdeal.main (F := Ideal))) ⟨m, fun _ => 0, g⟩ (fun r => ∀ c : Dev Cert.AdamInUpIdeal.nD,
          r.2.mem ((c.tc : Thread Cert.AdamInUpIdeal.nD Cert.AdamInUpIdeal.τ).loc Cert.AdamInUpIdeal.main_v1) = v0 c
          ∧ r.2.mem ((c.tc : Thread Cert.AdamInUpIdeal.nD Cert.AdamInUpIdeal.τ).loc Cert.AdamInUpIdeal.main_v2) = v1 c
          ∧ r.2.mem ((c.tc : Thread Cert.AdamInUpIdeal.nD Cert.AdamInUpIdeal.τ).loc Cert.AdamInUpIdeal.main_v3) = v2 c
          ∧ r.2.mem ((c.tc : Thread Cert.AdamInUpIdeal.nD Cert.AdamInUpIdeal.τ).loc Cert.AdamInUpIdeal.main_v4) = v3 c
          ∧ r.2.mem ((c.tc : Thread Cert.AdamInUpIdeal.nD Cert.AdamInUpIdeal.τ).loc Cert.AdamInUpIdeal.main_arg0) = m ((c.tc : Thread Cert.AdamInUpIdeal.nD Cert.AdamInUpIdeal.τ).loc Cert.AdamInUpIdeal.main_arg0)
          ∧ r.2.mem ((c.tc : Thread Cert.AdamInUpIdeal.nD Cert.AdamInUpIdeal.τ).loc Cert.AdamInUpIdeal.main_arg1) = m ((c.tc : Thread Cert.AdamInUpIdeal.nD Cert.AdamInUpIdeal.τ).loc Cert.AdamInUpIdeal.main_arg1)
          ∧ r.2.mem ((c.tc : Thread Cert.AdamInUpIdeal.nD Cert.AdamInUpIdeal.τ).loc Cert.AdamInUpIdeal.main_arg2) = m ((c.tc : Thread Cert.AdamInUpIdeal.nD Cert.AdamInUpIdeal.τ).loc Cert.AdamInUpIdeal.main_arg2)
          ∧ r.2.mem ((c.tc : Thread Cert.AdamInUpIdeal.nD Cert.AdamInUpIdeal.τ).loc Cert.AdamInUpIdeal.main_arg3) = m ((c.tc : Thread Cert.AdamInUpIdeal.nD Cert.AdamInUpIdeal.τ).loc Cert.AdamInUpIdeal.main_arg3))
      ∧ θ_run (Cert.AdamInUpReferenceIdeal.defs (F := Ideal)) (onTc (τ := Cert.AdamInUpReferenceIdeal.τ) (Cert.AdamInUpReferenceIdeal.main (F := Ideal))) ⟨m', fun _ => 0, g'⟩ (fun r => ∀ c : Dev Cert.AdamInUpReferenceIdeal.nD,
          r.2.mem ((c.tc : Thread Cert.AdamInUpReferenceIdeal.nD Cert.AdamInUpReferenceIdeal.τ).loc Cert.AdamInUpReferenceIdeal.main_v24) = v0 c
          ∧ r.2.mem ((c.tc : Thread Cert.AdamInUpReferenceIdeal.nD Cert.AdamInUpReferenceIdeal.τ).loc Cert.AdamInUpReferenceIdeal.main_v25) = v1 c
          ∧ r.2.mem ((c.tc : Thread Cert.AdamInUpReferenceIdeal.nD Cert.AdamInUpReferenceIdeal.τ).loc Cert.AdamInUpReferenceIdeal.main_v26) = v2 c
          ∧ r.2.mem ((c.tc : Thread Cert.AdamInUpReferenceIdeal.nD Cert.AdamInUpReferenceIdeal.τ).loc Cert.AdamInUpReferenceIdeal.main_v27) = v3 c
          ∧ r.2.mem ((c.tc : Thread Cert.AdamInUpReferenceIdeal.nD Cert.AdamInUpReferenceIdeal.τ).loc Cert.AdamInUpReferenceIdeal.main_arg0) = m' ((c.tc : Thread Cert.AdamInUpReferenceIdeal.nD Cert.AdamInUpReferenceIdeal.τ).loc Cert.AdamInUpReferenceIdeal.main_arg0)
          ∧ r.2.mem ((c.tc : Thread Cert.AdamInUpReferenceIdeal.nD Cert.AdamInUpReferenceIdeal.τ).loc Cert.AdamInUpReferenceIdeal.main_arg1) = m' ((c.tc : Thread Cert.AdamInUpReferenceIdeal.nD Cert.AdamInUpReferenceIdeal.τ).loc Cert.AdamInUpReferenceIdeal.main_arg1)
          ∧ r.2.mem ((c.tc : Thread Cert.AdamInUpReferenceIdeal.nD Cert.AdamInUpReferenceIdeal.τ).loc Cert.AdamInUpReferenceIdeal.main_arg2) = m' ((c.tc : Thread Cert.AdamInUpReferenceIdeal.nD Cert.AdamInUpReferenceIdeal.τ).loc Cert.AdamInUpReferenceIdeal.main_arg2)
          ∧ r.2.mem ((c.tc : Thread Cert.AdamInUpReferenceIdeal.nD Cert.AdamInUpReferenceIdeal.τ).loc Cert.AdamInUpReferenceIdeal.main_arg3) = m' ((c.tc : Thread Cert.AdamInUpReferenceIdeal.nD Cert.AdamInUpReferenceIdeal.τ).loc Cert.AdamInUpReferenceIdeal.main_arg3))

def preserves_AdamInLow_AdamInLowIdeal : Prop :=
  True

def algebraic_AdamInLowIdeal_AdamInLowReferenceIdeal [hAdamInLowIdeal : Cert.AdamInLowIdeal.Facts] [hAdamInLowReferenceIdeal : Cert.AdamInLowReferenceIdeal.Facts] : Prop :=
  ∀ (m : (ℓ : Loc Cert.AdamInLowIdeal.nD Cert.AdamInLowIdeal.τ Cert.AdamInLowIdeal.sig) → Buf (Elt Ideal) ℓ) (g : Dev Cert.AdamInLowIdeal.nD → PrngReg)
    (m' : (ℓ : Loc Cert.AdamInLowReferenceIdeal.nD Cert.AdamInLowReferenceIdeal.τ Cert.AdamInLowReferenceIdeal.sig) → Buf (Elt Ideal) ℓ) (g' : Dev Cert.AdamInLowReferenceIdeal.nD → PrngReg), Pre_AdamInLowIdeal m →
    (∀ c : Dev Cert.AdamInLowIdeal.nD,
      m' ((c.tc : Thread Cert.AdamInLowReferenceIdeal.nD Cert.AdamInLowReferenceIdeal.τ).loc Cert.AdamInLowReferenceIdeal.main_arg0) = m ((c.tc : Thread Cert.AdamInLowIdeal.nD Cert.AdamInLowIdeal.τ).loc Cert.AdamInLowIdeal.main_arg0)
      ∧ m' ((c.tc : Thread Cert.AdamInLowReferenceIdeal.nD Cert.AdamInLowReferenceIdeal.τ).loc Cert.AdamInLowReferenceIdeal.main_arg1) = m ((c.tc : Thread Cert.AdamInLowIdeal.nD Cert.AdamInLowIdeal.τ).loc Cert.AdamInLowIdeal.main_arg1)
      ∧ m' ((c.tc : Thread Cert.AdamInLowReferenceIdeal.nD Cert.AdamInLowReferenceIdeal.τ).loc Cert.AdamInLowReferenceIdeal.main_arg2) = m ((c.tc : Thread Cert.AdamInLowIdeal.nD Cert.AdamInLowIdeal.τ).loc Cert.AdamInLowIdeal.main_arg2)
      ∧ m' ((c.tc : Thread Cert.AdamInLowReferenceIdeal.nD Cert.AdamInLowReferenceIdeal.τ).loc Cert.AdamInLowReferenceIdeal.main_arg3) = m ((c.tc : Thread Cert.AdamInLowIdeal.nD Cert.AdamInLowIdeal.τ).loc Cert.AdamInLowIdeal.main_arg3)
      ∧ m' ((c.tc : Thread Cert.AdamInLowReferenceIdeal.nD Cert.AdamInLowReferenceIdeal.τ).loc Cert.AdamInLowReferenceIdeal.main_arg4) = m ((c.tc : Thread Cert.AdamInLowIdeal.nD Cert.AdamInLowIdeal.τ).loc Cert.AdamInLowIdeal.main_arg4)
      ∧ m' ((c.tc : Thread Cert.AdamInLowReferenceIdeal.nD Cert.AdamInLowReferenceIdeal.τ).loc Cert.AdamInLowReferenceIdeal.main_arg5) = m ((c.tc : Thread Cert.AdamInLowIdeal.nD Cert.AdamInLowIdeal.τ).loc Cert.AdamInLowIdeal.main_arg5)
      ∧ m' ((c.tc : Thread Cert.AdamInLowReferenceIdeal.nD Cert.AdamInLowReferenceIdeal.τ).loc Cert.AdamInLowReferenceIdeal.main_arg6) = m ((c.tc : Thread Cert.AdamInLowIdeal.nD Cert.AdamInLowIdeal.τ).loc Cert.AdamInLowIdeal.main_arg6)
      ∧ m' ((c.tc : Thread Cert.AdamInLowReferenceIdeal.nD Cert.AdamInLowReferenceIdeal.τ).loc Cert.AdamInLowReferenceIdeal.main_arg7) = m ((c.tc : Thread Cert.AdamInLowIdeal.nD Cert.AdamInLowIdeal.τ).loc Cert.AdamInLowIdeal.main_arg7)) →
    ∃ (v0 : (c : Dev Cert.AdamInLowIdeal.nD) → Buf (Elt Ideal) ((c.tc : Thread Cert.AdamInLowIdeal.nD Cert.AdamInLowIdeal.τ).loc Cert.AdamInLowIdeal.main_v0_0)) (v1 : (c : Dev Cert.AdamInLowIdeal.nD) → Buf (Elt Ideal) ((c.tc : Thread Cert.AdamInLowIdeal.nD Cert.AdamInLowIdeal.τ).loc Cert.AdamInLowIdeal.main_v0_1)) (v2 : (c : Dev Cert.AdamInLowIdeal.nD) → Buf (Elt Ideal) ((c.tc : Thread Cert.AdamInLowIdeal.nD Cert.AdamInLowIdeal.τ).loc Cert.AdamInLowIdeal.main_v0_2)) (v3 : (c : Dev Cert.AdamInLowIdeal.nD) → Buf (Elt Ideal) ((c.tc : Thread Cert.AdamInLowIdeal.nD Cert.AdamInLowIdeal.τ).loc Cert.AdamInLowIdeal.main_v0_3)),
      θ_run (Cert.AdamInLowIdeal.defs (F := Ideal)) (onTc (τ := Cert.AdamInLowIdeal.τ) (Cert.AdamInLowIdeal.main (F := Ideal))) ⟨m, fun _ => 0, g⟩ (fun r => ∀ c : Dev Cert.AdamInLowIdeal.nD,
          r.2.mem ((c.tc : Thread Cert.AdamInLowIdeal.nD Cert.AdamInLowIdeal.τ).loc Cert.AdamInLowIdeal.main_v0_0) = v0 c
          ∧ r.2.mem ((c.tc : Thread Cert.AdamInLowIdeal.nD Cert.AdamInLowIdeal.τ).loc Cert.AdamInLowIdeal.main_v0_1) = v1 c
          ∧ r.2.mem ((c.tc : Thread Cert.AdamInLowIdeal.nD Cert.AdamInLowIdeal.τ).loc Cert.AdamInLowIdeal.main_v0_2) = v2 c
          ∧ r.2.mem ((c.tc : Thread Cert.AdamInLowIdeal.nD Cert.AdamInLowIdeal.τ).loc Cert.AdamInLowIdeal.main_v0_3) = v3 c
          ∧ r.2.mem ((c.tc : Thread Cert.AdamInLowIdeal.nD Cert.AdamInLowIdeal.τ).loc Cert.AdamInLowIdeal.main_arg0) = m ((c.tc : Thread Cert.AdamInLowIdeal.nD Cert.AdamInLowIdeal.τ).loc Cert.AdamInLowIdeal.main_arg0)
          ∧ r.2.mem ((c.tc : Thread Cert.AdamInLowIdeal.nD Cert.AdamInLowIdeal.τ).loc Cert.AdamInLowIdeal.main_arg1) = m ((c.tc : Thread Cert.AdamInLowIdeal.nD Cert.AdamInLowIdeal.τ).loc Cert.AdamInLowIdeal.main_arg1)
          ∧ r.2.mem ((c.tc : Thread Cert.AdamInLowIdeal.nD Cert.AdamInLowIdeal.τ).loc Cert.AdamInLowIdeal.main_arg2) = m ((c.tc : Thread Cert.AdamInLowIdeal.nD Cert.AdamInLowIdeal.τ).loc Cert.AdamInLowIdeal.main_arg2)
          ∧ r.2.mem ((c.tc : Thread Cert.AdamInLowIdeal.nD Cert.AdamInLowIdeal.τ).loc Cert.AdamInLowIdeal.main_arg3) = m ((c.tc : Thread Cert.AdamInLowIdeal.nD Cert.AdamInLowIdeal.τ).loc Cert.AdamInLowIdeal.main_arg3)
          ∧ r.2.mem ((c.tc : Thread Cert.AdamInLowIdeal.nD Cert.AdamInLowIdeal.τ).loc Cert.AdamInLowIdeal.main_arg4) = m ((c.tc : Thread Cert.AdamInLowIdeal.nD Cert.AdamInLowIdeal.τ).loc Cert.AdamInLowIdeal.main_arg4)
          ∧ r.2.mem ((c.tc : Thread Cert.AdamInLowIdeal.nD Cert.AdamInLowIdeal.τ).loc Cert.AdamInLowIdeal.main_arg5) = m ((c.tc : Thread Cert.AdamInLowIdeal.nD Cert.AdamInLowIdeal.τ).loc Cert.AdamInLowIdeal.main_arg5)
          ∧ r.2.mem ((c.tc : Thread Cert.AdamInLowIdeal.nD Cert.AdamInLowIdeal.τ).loc Cert.AdamInLowIdeal.main_arg6) = m ((c.tc : Thread Cert.AdamInLowIdeal.nD Cert.AdamInLowIdeal.τ).loc Cert.AdamInLowIdeal.main_arg6)
          ∧ r.2.mem ((c.tc : Thread Cert.AdamInLowIdeal.nD Cert.AdamInLowIdeal.τ).loc Cert.AdamInLowIdeal.main_arg7) = m ((c.tc : Thread Cert.AdamInLowIdeal.nD Cert.AdamInLowIdeal.τ).loc Cert.AdamInLowIdeal.main_arg7))
      ∧ θ_run (Cert.AdamInLowReferenceIdeal.defs (F := Ideal)) (onTc (τ := Cert.AdamInLowReferenceIdeal.τ) (Cert.AdamInLowReferenceIdeal.main (F := Ideal))) ⟨m', fun _ => 0, g'⟩ (fun r => ∀ c : Dev Cert.AdamInLowReferenceIdeal.nD,
          r.2.mem ((c.tc : Thread Cert.AdamInLowReferenceIdeal.nD Cert.AdamInLowReferenceIdeal.τ).loc Cert.AdamInLowReferenceIdeal.main_v26) = v0 c
          ∧ r.2.mem ((c.tc : Thread Cert.AdamInLowReferenceIdeal.nD Cert.AdamInLowReferenceIdeal.τ).loc Cert.AdamInLowReferenceIdeal.main_v29) = v1 c
          ∧ r.2.mem ((c.tc : Thread Cert.AdamInLowReferenceIdeal.nD Cert.AdamInLowReferenceIdeal.τ).loc Cert.AdamInLowReferenceIdeal.main_v32) = v2 c
          ∧ r.2.mem ((c.tc : Thread Cert.AdamInLowReferenceIdeal.nD Cert.AdamInLowReferenceIdeal.τ).loc Cert.AdamInLowReferenceIdeal.main_v35) = v3 c
          ∧ r.2.mem ((c.tc : Thread Cert.AdamInLowReferenceIdeal.nD Cert.AdamInLowReferenceIdeal.τ).loc Cert.AdamInLowReferenceIdeal.main_arg0) = m' ((c.tc : Thread Cert.AdamInLowReferenceIdeal.nD Cert.AdamInLowReferenceIdeal.τ).loc Cert.AdamInLowReferenceIdeal.main_arg0)
          ∧ r.2.mem ((c.tc : Thread Cert.AdamInLowReferenceIdeal.nD Cert.AdamInLowReferenceIdeal.τ).loc Cert.AdamInLowReferenceIdeal.main_arg1) = m' ((c.tc : Thread Cert.AdamInLowReferenceIdeal.nD Cert.AdamInLowReferenceIdeal.τ).loc Cert.AdamInLowReferenceIdeal.main_arg1)
          ∧ r.2.mem ((c.tc : Thread Cert.AdamInLowReferenceIdeal.nD Cert.AdamInLowReferenceIdeal.τ).loc Cert.AdamInLowReferenceIdeal.main_arg2) = m' ((c.tc : Thread Cert.AdamInLowReferenceIdeal.nD Cert.AdamInLowReferenceIdeal.τ).loc Cert.AdamInLowReferenceIdeal.main_arg2)
          ∧ r.2.mem ((c.tc : Thread Cert.AdamInLowReferenceIdeal.nD Cert.AdamInLowReferenceIdeal.τ).loc Cert.AdamInLowReferenceIdeal.main_arg3) = m' ((c.tc : Thread Cert.AdamInLowReferenceIdeal.nD Cert.AdamInLowReferenceIdeal.τ).loc Cert.AdamInLowReferenceIdeal.main_arg3)
          ∧ r.2.mem ((c.tc : Thread Cert.AdamInLowReferenceIdeal.nD Cert.AdamInLowReferenceIdeal.τ).loc Cert.AdamInLowReferenceIdeal.main_arg4) = m' ((c.tc : Thread Cert.AdamInLowReferenceIdeal.nD Cert.AdamInLowReferenceIdeal.τ).loc Cert.AdamInLowReferenceIdeal.main_arg4)
          ∧ r.2.mem ((c.tc : Thread Cert.AdamInLowReferenceIdeal.nD Cert.AdamInLowReferenceIdeal.τ).loc Cert.AdamInLowReferenceIdeal.main_arg5) = m' ((c.tc : Thread Cert.AdamInLowReferenceIdeal.nD Cert.AdamInLowReferenceIdeal.τ).loc Cert.AdamInLowReferenceIdeal.main_arg5)
          ∧ r.2.mem ((c.tc : Thread Cert.AdamInLowReferenceIdeal.nD Cert.AdamInLowReferenceIdeal.τ).loc Cert.AdamInLowReferenceIdeal.main_arg6) = m' ((c.tc : Thread Cert.AdamInLowReferenceIdeal.nD Cert.AdamInLowReferenceIdeal.τ).loc Cert.AdamInLowReferenceIdeal.main_arg6)
          ∧ r.2.mem ((c.tc : Thread Cert.AdamInLowReferenceIdeal.nD Cert.AdamInLowReferenceIdeal.τ).loc Cert.AdamInLowReferenceIdeal.main_arg7) = m' ((c.tc : Thread Cert.AdamInLowReferenceIdeal.nD Cert.AdamInLowReferenceIdeal.τ).loc Cert.AdamInLowReferenceIdeal.main_arg7))

def preserves_AdamRgUp_AdamRgUpIdeal : Prop :=
  True

def algebraic_AdamRgUpIdeal_AdamRgUpReferenceIdeal [hAdamRgUpIdeal : Cert.AdamRgUpIdeal.Facts] [hAdamRgUpReferenceIdeal : Cert.AdamRgUpReferenceIdeal.Facts] : Prop :=
  ∀ (m : (ℓ : Loc Cert.AdamRgUpIdeal.nD Cert.AdamRgUpIdeal.τ Cert.AdamRgUpIdeal.sig) → Buf (Elt Ideal) ℓ) (g : Dev Cert.AdamRgUpIdeal.nD → PrngReg)
    (m' : (ℓ : Loc Cert.AdamRgUpReferenceIdeal.nD Cert.AdamRgUpReferenceIdeal.τ Cert.AdamRgUpReferenceIdeal.sig) → Buf (Elt Ideal) ℓ) (g' : Dev Cert.AdamRgUpReferenceIdeal.nD → PrngReg), Pre_AdamRgUpIdeal m →
    (∀ c : Dev Cert.AdamRgUpIdeal.nD,
      m' ((c.tc : Thread Cert.AdamRgUpReferenceIdeal.nD Cert.AdamRgUpReferenceIdeal.τ).loc Cert.AdamRgUpReferenceIdeal.main_arg0) = m ((c.tc : Thread Cert.AdamRgUpIdeal.nD Cert.AdamRgUpIdeal.τ).loc Cert.AdamRgUpIdeal.main_arg0)
      ∧ m' ((c.tc : Thread Cert.AdamRgUpReferenceIdeal.nD Cert.AdamRgUpReferenceIdeal.τ).loc Cert.AdamRgUpReferenceIdeal.main_arg1) = m ((c.tc : Thread Cert.AdamRgUpIdeal.nD Cert.AdamRgUpIdeal.τ).loc Cert.AdamRgUpIdeal.main_arg1)
      ∧ m' ((c.tc : Thread Cert.AdamRgUpReferenceIdeal.nD Cert.AdamRgUpReferenceIdeal.τ).loc Cert.AdamRgUpReferenceIdeal.main_arg2) = m ((c.tc : Thread Cert.AdamRgUpIdeal.nD Cert.AdamRgUpIdeal.τ).loc Cert.AdamRgUpIdeal.main_arg2)
      ∧ m' ((c.tc : Thread Cert.AdamRgUpReferenceIdeal.nD Cert.AdamRgUpReferenceIdeal.τ).loc Cert.AdamRgUpReferenceIdeal.main_arg3) = m ((c.tc : Thread Cert.AdamRgUpIdeal.nD Cert.AdamRgUpIdeal.τ).loc Cert.AdamRgUpIdeal.main_arg3)) →
    ∃ (v0 : (c : Dev Cert.AdamRgUpIdeal.nD) → Buf (Elt Ideal) ((c.tc : Thread Cert.AdamRgUpIdeal.nD Cert.AdamRgUpIdeal.τ).loc Cert.AdamRgUpIdeal.main_v9)) (v1 : (c : Dev Cert.AdamRgUpIdeal.nD) → Buf (Elt Ideal) ((c.tc : Thread Cert.AdamRgUpIdeal.nD Cert.AdamRgUpIdeal.τ).loc Cert.AdamRgUpIdeal.main_v10)) (v2 : (c : Dev Cert.AdamRgUpIdeal.nD) → Buf (Elt Ideal) ((c.tc : Thread Cert.AdamRgUpIdeal.nD Cert.AdamRgUpIdeal.τ).loc Cert.AdamRgUpIdeal.main_v11)) (v3 : (c : Dev Cert.AdamRgUpIdeal.nD) → Buf (Elt Ideal) ((c.tc : Thread Cert.AdamRgUpIdeal.nD Cert.AdamRgUpIdeal.τ).loc Cert.AdamRgUpIdeal.main_v12)),
      θ_run (Cert.AdamRgUpIdeal.defs (F := Ideal)) (onTc (τ := Cert.AdamRgUpIdeal.τ) (Cert.AdamRgUpIdeal.main (F := Ideal))) ⟨m, fun _ => 0, g⟩ (fun r => ∀ c : Dev Cert.AdamRgUpIdeal.nD,
          r.2.mem ((c.tc : Thread Cert.AdamRgUpIdeal.nD Cert.AdamRgUpIdeal.τ).loc Cert.AdamRgUpIdeal.main_v9) = v0 c
          ∧ r.2.mem ((c.tc : Thread Cert.AdamRgUpIdeal.nD Cert.AdamRgUpIdeal.τ).loc Cert.AdamRgUpIdeal.main_v10) = v1 c
          ∧ r.2.mem ((c.tc : Thread Cert.AdamRgUpIdeal.nD Cert.AdamRgUpIdeal.τ).loc Cert.AdamRgUpIdeal.main_v11) = v2 c
          ∧ r.2.mem ((c.tc : Thread Cert.AdamRgUpIdeal.nD Cert.AdamRgUpIdeal.τ).loc Cert.AdamRgUpIdeal.main_v12) = v3 c
          ∧ r.2.mem ((c.tc : Thread Cert.AdamRgUpIdeal.nD Cert.AdamRgUpIdeal.τ).loc Cert.AdamRgUpIdeal.main_arg0) = m ((c.tc : Thread Cert.AdamRgUpIdeal.nD Cert.AdamRgUpIdeal.τ).loc Cert.AdamRgUpIdeal.main_arg0)
          ∧ r.2.mem ((c.tc : Thread Cert.AdamRgUpIdeal.nD Cert.AdamRgUpIdeal.τ).loc Cert.AdamRgUpIdeal.main_arg1) = m ((c.tc : Thread Cert.AdamRgUpIdeal.nD Cert.AdamRgUpIdeal.τ).loc Cert.AdamRgUpIdeal.main_arg1)
          ∧ r.2.mem ((c.tc : Thread Cert.AdamRgUpIdeal.nD Cert.AdamRgUpIdeal.τ).loc Cert.AdamRgUpIdeal.main_arg2) = m ((c.tc : Thread Cert.AdamRgUpIdeal.nD Cert.AdamRgUpIdeal.τ).loc Cert.AdamRgUpIdeal.main_arg2)
          ∧ r.2.mem ((c.tc : Thread Cert.AdamRgUpIdeal.nD Cert.AdamRgUpIdeal.τ).loc Cert.AdamRgUpIdeal.main_arg3) = m ((c.tc : Thread Cert.AdamRgUpIdeal.nD Cert.AdamRgUpIdeal.τ).loc Cert.AdamRgUpIdeal.main_arg3))
      ∧ θ_run (Cert.AdamRgUpReferenceIdeal.defs (F := Ideal)) (onTc (τ := Cert.AdamRgUpReferenceIdeal.τ) (Cert.AdamRgUpReferenceIdeal.main (F := Ideal))) ⟨m', fun _ => 0, g'⟩ (fun r => ∀ c : Dev Cert.AdamRgUpReferenceIdeal.nD,
          r.2.mem ((c.tc : Thread Cert.AdamRgUpReferenceIdeal.nD Cert.AdamRgUpReferenceIdeal.τ).loc Cert.AdamRgUpReferenceIdeal.main_v24) = v0 c
          ∧ r.2.mem ((c.tc : Thread Cert.AdamRgUpReferenceIdeal.nD Cert.AdamRgUpReferenceIdeal.τ).loc Cert.AdamRgUpReferenceIdeal.main_v25) = v1 c
          ∧ r.2.mem ((c.tc : Thread Cert.AdamRgUpReferenceIdeal.nD Cert.AdamRgUpReferenceIdeal.τ).loc Cert.AdamRgUpReferenceIdeal.main_v26) = v2 c
          ∧ r.2.mem ((c.tc : Thread Cert.AdamRgUpReferenceIdeal.nD Cert.AdamRgUpReferenceIdeal.τ).loc Cert.AdamRgUpReferenceIdeal.main_v27) = v3 c
          ∧ r.2.mem ((c.tc : Thread Cert.AdamRgUpReferenceIdeal.nD Cert.AdamRgUpReferenceIdeal.τ).loc Cert.AdamRgUpReferenceIdeal.main_arg0) = m' ((c.tc : Thread Cert.AdamRgUpReferenceIdeal.nD Cert.AdamRgUpReferenceIdeal.τ).loc Cert.AdamRgUpReferenceIdeal.main_arg0)
          ∧ r.2.mem ((c.tc : Thread Cert.AdamRgUpReferenceIdeal.nD Cert.AdamRgUpReferenceIdeal.τ).loc Cert.AdamRgUpReferenceIdeal.main_arg1) = m' ((c.tc : Thread Cert.AdamRgUpReferenceIdeal.nD Cert.AdamRgUpReferenceIdeal.τ).loc Cert.AdamRgUpReferenceIdeal.main_arg1)
          ∧ r.2.mem ((c.tc : Thread Cert.AdamRgUpReferenceIdeal.nD Cert.AdamRgUpReferenceIdeal.τ).loc Cert.AdamRgUpReferenceIdeal.main_arg2) = m' ((c.tc : Thread Cert.AdamRgUpReferenceIdeal.nD Cert.AdamRgUpReferenceIdeal.τ).loc Cert.AdamRgUpReferenceIdeal.main_arg2)
          ∧ r.2.mem ((c.tc : Thread Cert.AdamRgUpReferenceIdeal.nD Cert.AdamRgUpReferenceIdeal.τ).loc Cert.AdamRgUpReferenceIdeal.main_arg3) = m' ((c.tc : Thread Cert.AdamRgUpReferenceIdeal.nD Cert.AdamRgUpReferenceIdeal.τ).loc Cert.AdamRgUpReferenceIdeal.main_arg3))

def preserves_AdamRgLow_AdamRgLowIdeal : Prop :=
  True

def algebraic_AdamRgLowIdeal_AdamRgLowReferenceIdeal [hAdamRgLowIdeal : Cert.AdamRgLowIdeal.Facts] [hAdamRgLowReferenceIdeal : Cert.AdamRgLowReferenceIdeal.Facts] : Prop :=
  ∀ (m : (ℓ : Loc Cert.AdamRgLowIdeal.nD Cert.AdamRgLowIdeal.τ Cert.AdamRgLowIdeal.sig) → Buf (Elt Ideal) ℓ) (g : Dev Cert.AdamRgLowIdeal.nD → PrngReg)
    (m' : (ℓ : Loc Cert.AdamRgLowReferenceIdeal.nD Cert.AdamRgLowReferenceIdeal.τ Cert.AdamRgLowReferenceIdeal.sig) → Buf (Elt Ideal) ℓ) (g' : Dev Cert.AdamRgLowReferenceIdeal.nD → PrngReg), Pre_AdamRgLowIdeal m →
    (∀ c : Dev Cert.AdamRgLowIdeal.nD,
      m' ((c.tc : Thread Cert.AdamRgLowReferenceIdeal.nD Cert.AdamRgLowReferenceIdeal.τ).loc Cert.AdamRgLowReferenceIdeal.main_arg0) = m ((c.tc : Thread Cert.AdamRgLowIdeal.nD Cert.AdamRgLowIdeal.τ).loc Cert.AdamRgLowIdeal.main_arg0)
      ∧ m' ((c.tc : Thread Cert.AdamRgLowReferenceIdeal.nD Cert.AdamRgLowReferenceIdeal.τ).loc Cert.AdamRgLowReferenceIdeal.main_arg1) = m ((c.tc : Thread Cert.AdamRgLowIdeal.nD Cert.AdamRgLowIdeal.τ).loc Cert.AdamRgLowIdeal.main_arg1)
      ∧ m' ((c.tc : Thread Cert.AdamRgLowReferenceIdeal.nD Cert.AdamRgLowReferenceIdeal.τ).loc Cert.AdamRgLowReferenceIdeal.main_arg2) = m ((c.tc : Thread Cert.AdamRgLowIdeal.nD Cert.AdamRgLowIdeal.τ).loc Cert.AdamRgLowIdeal.main_arg2)
      ∧ m' ((c.tc : Thread Cert.AdamRgLowReferenceIdeal.nD Cert.AdamRgLowReferenceIdeal.τ).loc Cert.AdamRgLowReferenceIdeal.main_arg3) = m ((c.tc : Thread Cert.AdamRgLowIdeal.nD Cert.AdamRgLowIdeal.τ).loc Cert.AdamRgLowIdeal.main_arg3)
      ∧ m' ((c.tc : Thread Cert.AdamRgLowReferenceIdeal.nD Cert.AdamRgLowReferenceIdeal.τ).loc Cert.AdamRgLowReferenceIdeal.main_arg4) = m ((c.tc : Thread Cert.AdamRgLowIdeal.nD Cert.AdamRgLowIdeal.τ).loc Cert.AdamRgLowIdeal.main_arg4)
      ∧ m' ((c.tc : Thread Cert.AdamRgLowReferenceIdeal.nD Cert.AdamRgLowReferenceIdeal.τ).loc Cert.AdamRgLowReferenceIdeal.main_arg5) = m ((c.tc : Thread Cert.AdamRgLowIdeal.nD Cert.AdamRgLowIdeal.τ).loc Cert.AdamRgLowIdeal.main_arg5)
      ∧ m' ((c.tc : Thread Cert.AdamRgLowReferenceIdeal.nD Cert.AdamRgLowReferenceIdeal.τ).loc Cert.AdamRgLowReferenceIdeal.main_arg6) = m ((c.tc : Thread Cert.AdamRgLowIdeal.nD Cert.AdamRgLowIdeal.τ).loc Cert.AdamRgLowIdeal.main_arg6)
      ∧ m' ((c.tc : Thread Cert.AdamRgLowReferenceIdeal.nD Cert.AdamRgLowReferenceIdeal.τ).loc Cert.AdamRgLowReferenceIdeal.main_arg7) = m ((c.tc : Thread Cert.AdamRgLowIdeal.nD Cert.AdamRgLowIdeal.τ).loc Cert.AdamRgLowIdeal.main_arg7)) →
    ∃ (v0 : (c : Dev Cert.AdamRgLowIdeal.nD) → Buf (Elt Ideal) ((c.tc : Thread Cert.AdamRgLowIdeal.nD Cert.AdamRgLowIdeal.τ).loc Cert.AdamRgLowIdeal.main_v9)) (v1 : (c : Dev Cert.AdamRgLowIdeal.nD) → Buf (Elt Ideal) ((c.tc : Thread Cert.AdamRgLowIdeal.nD Cert.AdamRgLowIdeal.τ).loc Cert.AdamRgLowIdeal.main_v10)) (v2 : (c : Dev Cert.AdamRgLowIdeal.nD) → Buf (Elt Ideal) ((c.tc : Thread Cert.AdamRgLowIdeal.nD Cert.AdamRgLowIdeal.τ).loc Cert.AdamRgLowIdeal.main_v11)) (v3 : (c : Dev Cert.AdamRgLowIdeal.nD) → Buf (Elt Ideal) ((c.tc : Thread Cert.AdamRgLowIdeal.nD Cert.AdamRgLowIdeal.τ).loc Cert.AdamRgLowIdeal.main_v12)),
      θ_run (Cert.AdamRgLowIdeal.defs (F := Ideal)) (onTc (τ := Cert.AdamRgLowIdeal.τ) (Cert.AdamRgLowIdeal.main (F := Ideal))) ⟨m, fun _ => 0, g⟩ (fun r => ∀ c : Dev Cert.AdamRgLowIdeal.nD,
          r.2.mem ((c.tc : Thread Cert.AdamRgLowIdeal.nD Cert.AdamRgLowIdeal.τ).loc Cert.AdamRgLowIdeal.main_v9) = v0 c
          ∧ r.2.mem ((c.tc : Thread Cert.AdamRgLowIdeal.nD Cert.AdamRgLowIdeal.τ).loc Cert.AdamRgLowIdeal.main_v10) = v1 c
          ∧ r.2.mem ((c.tc : Thread Cert.AdamRgLowIdeal.nD Cert.AdamRgLowIdeal.τ).loc Cert.AdamRgLowIdeal.main_v11) = v2 c
          ∧ r.2.mem ((c.tc : Thread Cert.AdamRgLowIdeal.nD Cert.AdamRgLowIdeal.τ).loc Cert.AdamRgLowIdeal.main_v12) = v3 c
          ∧ r.2.mem ((c.tc : Thread Cert.AdamRgLowIdeal.nD Cert.AdamRgLowIdeal.τ).loc Cert.AdamRgLowIdeal.main_arg0) = m ((c.tc : Thread Cert.AdamRgLowIdeal.nD Cert.AdamRgLowIdeal.τ).loc Cert.AdamRgLowIdeal.main_arg0)
          ∧ r.2.mem ((c.tc : Thread Cert.AdamRgLowIdeal.nD Cert.AdamRgLowIdeal.τ).loc Cert.AdamRgLowIdeal.main_arg1) = m ((c.tc : Thread Cert.AdamRgLowIdeal.nD Cert.AdamRgLowIdeal.τ).loc Cert.AdamRgLowIdeal.main_arg1)
          ∧ r.2.mem ((c.tc : Thread Cert.AdamRgLowIdeal.nD Cert.AdamRgLowIdeal.τ).loc Cert.AdamRgLowIdeal.main_arg2) = m ((c.tc : Thread Cert.AdamRgLowIdeal.nD Cert.AdamRgLowIdeal.τ).loc Cert.AdamRgLowIdeal.main_arg2)
          ∧ r.2.mem ((c.tc : Thread Cert.AdamRgLowIdeal.nD Cert.AdamRgLowIdeal.τ).loc Cert.AdamRgLowIdeal.main_arg3) = m ((c.tc : Thread Cert.AdamRgLowIdeal.nD Cert.AdamRgLowIdeal.τ).loc Cert.AdamRgLowIdeal.main_arg3)
          ∧ r.2.mem ((c.tc : Thread Cert.AdamRgLowIdeal.nD Cert.AdamRgLowIdeal.τ).loc Cert.AdamRgLowIdeal.main_arg4) = m ((c.tc : Thread Cert.AdamRgLowIdeal.nD Cert.AdamRgLowIdeal.τ).loc Cert.AdamRgLowIdeal.main_arg4)
          ∧ r.2.mem ((c.tc : Thread Cert.AdamRgLowIdeal.nD Cert.AdamRgLowIdeal.τ).loc Cert.AdamRgLowIdeal.main_arg5) = m ((c.tc : Thread Cert.AdamRgLowIdeal.nD Cert.AdamRgLowIdeal.τ).loc Cert.AdamRgLowIdeal.main_arg5)
          ∧ r.2.mem ((c.tc : Thread Cert.AdamRgLowIdeal.nD Cert.AdamRgLowIdeal.τ).loc Cert.AdamRgLowIdeal.main_arg6) = m ((c.tc : Thread Cert.AdamRgLowIdeal.nD Cert.AdamRgLowIdeal.τ).loc Cert.AdamRgLowIdeal.main_arg6)
          ∧ r.2.mem ((c.tc : Thread Cert.AdamRgLowIdeal.nD Cert.AdamRgLowIdeal.τ).loc Cert.AdamRgLowIdeal.main_arg7) = m ((c.tc : Thread Cert.AdamRgLowIdeal.nD Cert.AdamRgLowIdeal.τ).loc Cert.AdamRgLowIdeal.main_arg7))
      ∧ θ_run (Cert.AdamRgLowReferenceIdeal.defs (F := Ideal)) (onTc (τ := Cert.AdamRgLowReferenceIdeal.τ) (Cert.AdamRgLowReferenceIdeal.main (F := Ideal))) ⟨m', fun _ => 0, g'⟩ (fun r => ∀ c : Dev Cert.AdamRgLowReferenceIdeal.nD,
          r.2.mem ((c.tc : Thread Cert.AdamRgLowReferenceIdeal.nD Cert.AdamRgLowReferenceIdeal.τ).loc Cert.AdamRgLowReferenceIdeal.main_v26) = v0 c
          ∧ r.2.mem ((c.tc : Thread Cert.AdamRgLowReferenceIdeal.nD Cert.AdamRgLowReferenceIdeal.τ).loc Cert.AdamRgLowReferenceIdeal.main_v29) = v1 c
          ∧ r.2.mem ((c.tc : Thread Cert.AdamRgLowReferenceIdeal.nD Cert.AdamRgLowReferenceIdeal.τ).loc Cert.AdamRgLowReferenceIdeal.main_v32) = v2 c
          ∧ r.2.mem ((c.tc : Thread Cert.AdamRgLowReferenceIdeal.nD Cert.AdamRgLowReferenceIdeal.τ).loc Cert.AdamRgLowReferenceIdeal.main_v35) = v3 c
          ∧ r.2.mem ((c.tc : Thread Cert.AdamRgLowReferenceIdeal.nD Cert.AdamRgLowReferenceIdeal.τ).loc Cert.AdamRgLowReferenceIdeal.main_arg0) = m' ((c.tc : Thread Cert.AdamRgLowReferenceIdeal.nD Cert.AdamRgLowReferenceIdeal.τ).loc Cert.AdamRgLowReferenceIdeal.main_arg0)
          ∧ r.2.mem ((c.tc : Thread Cert.AdamRgLowReferenceIdeal.nD Cert.AdamRgLowReferenceIdeal.τ).loc Cert.AdamRgLowReferenceIdeal.main_arg1) = m' ((c.tc : Thread Cert.AdamRgLowReferenceIdeal.nD Cert.AdamRgLowReferenceIdeal.τ).loc Cert.AdamRgLowReferenceIdeal.main_arg1)
          ∧ r.2.mem ((c.tc : Thread Cert.AdamRgLowReferenceIdeal.nD Cert.AdamRgLowReferenceIdeal.τ).loc Cert.AdamRgLowReferenceIdeal.main_arg2) = m' ((c.tc : Thread Cert.AdamRgLowReferenceIdeal.nD Cert.AdamRgLowReferenceIdeal.τ).loc Cert.AdamRgLowReferenceIdeal.main_arg2)
          ∧ r.2.mem ((c.tc : Thread Cert.AdamRgLowReferenceIdeal.nD Cert.AdamRgLowReferenceIdeal.τ).loc Cert.AdamRgLowReferenceIdeal.main_arg3) = m' ((c.tc : Thread Cert.AdamRgLowReferenceIdeal.nD Cert.AdamRgLowReferenceIdeal.τ).loc Cert.AdamRgLowReferenceIdeal.main_arg3)
          ∧ r.2.mem ((c.tc : Thread Cert.AdamRgLowReferenceIdeal.nD Cert.AdamRgLowReferenceIdeal.τ).loc Cert.AdamRgLowReferenceIdeal.main_arg4) = m' ((c.tc : Thread Cert.AdamRgLowReferenceIdeal.nD Cert.AdamRgLowReferenceIdeal.τ).loc Cert.AdamRgLowReferenceIdeal.main_arg4)
          ∧ r.2.mem ((c.tc : Thread Cert.AdamRgLowReferenceIdeal.nD Cert.AdamRgLowReferenceIdeal.τ).loc Cert.AdamRgLowReferenceIdeal.main_arg5) = m' ((c.tc : Thread Cert.AdamRgLowReferenceIdeal.nD Cert.AdamRgLowReferenceIdeal.τ).loc Cert.AdamRgLowReferenceIdeal.main_arg5)
          ∧ r.2.mem ((c.tc : Thread Cert.AdamRgLowReferenceIdeal.nD Cert.AdamRgLowReferenceIdeal.τ).loc Cert.AdamRgLowReferenceIdeal.main_arg6) = m' ((c.tc : Thread Cert.AdamRgLowReferenceIdeal.nD Cert.AdamRgLowReferenceIdeal.τ).loc Cert.AdamRgLowReferenceIdeal.main_arg6)
          ∧ r.2.mem ((c.tc : Thread Cert.AdamRgLowReferenceIdeal.nD Cert.AdamRgLowReferenceIdeal.τ).loc Cert.AdamRgLowReferenceIdeal.main_arg7) = m' ((c.tc : Thread Cert.AdamRgLowReferenceIdeal.nD Cert.AdamRgLowReferenceIdeal.τ).loc Cert.AdamRgLowReferenceIdeal.main_arg7))

def preserves_AdamOutUp_AdamOutUpIdeal : Prop :=
  True

def algebraic_AdamOutUpIdeal_AdamOutUpReferenceIdeal [hAdamOutUpIdeal : Cert.AdamOutUpIdeal.Facts] [hAdamOutUpReferenceIdeal : Cert.AdamOutUpReferenceIdeal.Facts] : Prop :=
  ∀ (m : (ℓ : Loc Cert.AdamOutUpIdeal.nD Cert.AdamOutUpIdeal.τ Cert.AdamOutUpIdeal.sig) → Buf (Elt Ideal) ℓ) (g : Dev Cert.AdamOutUpIdeal.nD → PrngReg)
    (m' : (ℓ : Loc Cert.AdamOutUpReferenceIdeal.nD Cert.AdamOutUpReferenceIdeal.τ Cert.AdamOutUpReferenceIdeal.sig) → Buf (Elt Ideal) ℓ) (g' : Dev Cert.AdamOutUpReferenceIdeal.nD → PrngReg), Pre_AdamOutUpIdeal m →
    (∀ c : Dev Cert.AdamOutUpIdeal.nD,
      m' ((c.tc : Thread Cert.AdamOutUpReferenceIdeal.nD Cert.AdamOutUpReferenceIdeal.τ).loc Cert.AdamOutUpReferenceIdeal.main_arg0) = m ((c.tc : Thread Cert.AdamOutUpIdeal.nD Cert.AdamOutUpIdeal.τ).loc Cert.AdamOutUpIdeal.main_arg0)
      ∧ m' ((c.tc : Thread Cert.AdamOutUpReferenceIdeal.nD Cert.AdamOutUpReferenceIdeal.τ).loc Cert.AdamOutUpReferenceIdeal.main_arg1) = m ((c.tc : Thread Cert.AdamOutUpIdeal.nD Cert.AdamOutUpIdeal.τ).loc Cert.AdamOutUpIdeal.main_arg1)
      ∧ m' ((c.tc : Thread Cert.AdamOutUpReferenceIdeal.nD Cert.AdamOutUpReferenceIdeal.τ).loc Cert.AdamOutUpReferenceIdeal.main_arg2) = m ((c.tc : Thread Cert.AdamOutUpIdeal.nD Cert.AdamOutUpIdeal.τ).loc Cert.AdamOutUpIdeal.main_arg2)
      ∧ m' ((c.tc : Thread Cert.AdamOutUpReferenceIdeal.nD Cert.AdamOutUpReferenceIdeal.τ).loc Cert.AdamOutUpReferenceIdeal.main_arg3) = m ((c.tc : Thread Cert.AdamOutUpIdeal.nD Cert.AdamOutUpIdeal.τ).loc Cert.AdamOutUpIdeal.main_arg3)) →
    ∃ (v0 : (c : Dev Cert.AdamOutUpIdeal.nD) → Buf (Elt Ideal) ((c.tc : Thread Cert.AdamOutUpIdeal.nD Cert.AdamOutUpIdeal.τ).loc Cert.AdamOutUpIdeal.main_v1)) (v1 : (c : Dev Cert.AdamOutUpIdeal.nD) → Buf (Elt Ideal) ((c.tc : Thread Cert.AdamOutUpIdeal.nD Cert.AdamOutUpIdeal.τ).loc Cert.AdamOutUpIdeal.main_v2)) (v2 : (c : Dev Cert.AdamOutUpIdeal.nD) → Buf (Elt Ideal) ((c.tc : Thread Cert.AdamOutUpIdeal.nD Cert.AdamOutUpIdeal.τ).loc Cert.AdamOutUpIdeal.main_v3)) (v3 : (c : Dev Cert.AdamOutUpIdeal.nD) → Buf (Elt Ideal) ((c.tc : Thread Cert.AdamOutUpIdeal.nD Cert.AdamOutUpIdeal.τ).loc Cert.AdamOutUpIdeal.main_v4)),
      θ_run (Cert.AdamOutUpIdeal.defs (F := Ideal)) (onTc (τ := Cert.AdamOutUpIdeal.τ) (Cert.AdamOutUpIdeal.main (F := Ideal))) ⟨m, fun _ => 0, g⟩ (fun r => ∀ c : Dev Cert.AdamOutUpIdeal.nD,
          r.2.mem ((c.tc : Thread Cert.AdamOutUpIdeal.nD Cert.AdamOutUpIdeal.τ).loc Cert.AdamOutUpIdeal.main_v1) = v0 c
          ∧ r.2.mem ((c.tc : Thread Cert.AdamOutUpIdeal.nD Cert.AdamOutUpIdeal.τ).loc Cert.AdamOutUpIdeal.main_v2) = v1 c
          ∧ r.2.mem ((c.tc : Thread Cert.AdamOutUpIdeal.nD Cert.AdamOutUpIdeal.τ).loc Cert.AdamOutUpIdeal.main_v3) = v2 c
          ∧ r.2.mem ((c.tc : Thread Cert.AdamOutUpIdeal.nD Cert.AdamOutUpIdeal.τ).loc Cert.AdamOutUpIdeal.main_v4) = v3 c
          ∧ r.2.mem ((c.tc : Thread Cert.AdamOutUpIdeal.nD Cert.AdamOutUpIdeal.τ).loc Cert.AdamOutUpIdeal.main_arg0) = m ((c.tc : Thread Cert.AdamOutUpIdeal.nD Cert.AdamOutUpIdeal.τ).loc Cert.AdamOutUpIdeal.main_arg0)
          ∧ r.2.mem ((c.tc : Thread Cert.AdamOutUpIdeal.nD Cert.AdamOutUpIdeal.τ).loc Cert.AdamOutUpIdeal.main_arg1) = m ((c.tc : Thread Cert.AdamOutUpIdeal.nD Cert.AdamOutUpIdeal.τ).loc Cert.AdamOutUpIdeal.main_arg1)
          ∧ r.2.mem ((c.tc : Thread Cert.AdamOutUpIdeal.nD Cert.AdamOutUpIdeal.τ).loc Cert.AdamOutUpIdeal.main_arg2) = m ((c.tc : Thread Cert.AdamOutUpIdeal.nD Cert.AdamOutUpIdeal.τ).loc Cert.AdamOutUpIdeal.main_arg2)
          ∧ r.2.mem ((c.tc : Thread Cert.AdamOutUpIdeal.nD Cert.AdamOutUpIdeal.τ).loc Cert.AdamOutUpIdeal.main_arg3) = m ((c.tc : Thread Cert.AdamOutUpIdeal.nD Cert.AdamOutUpIdeal.τ).loc Cert.AdamOutUpIdeal.main_arg3))
      ∧ θ_run (Cert.AdamOutUpReferenceIdeal.defs (F := Ideal)) (onTc (τ := Cert.AdamOutUpReferenceIdeal.τ) (Cert.AdamOutUpReferenceIdeal.main (F := Ideal))) ⟨m', fun _ => 0, g'⟩ (fun r => ∀ c : Dev Cert.AdamOutUpReferenceIdeal.nD,
          r.2.mem ((c.tc : Thread Cert.AdamOutUpReferenceIdeal.nD Cert.AdamOutUpReferenceIdeal.τ).loc Cert.AdamOutUpReferenceIdeal.main_v24) = v0 c
          ∧ r.2.mem ((c.tc : Thread Cert.AdamOutUpReferenceIdeal.nD Cert.AdamOutUpReferenceIdeal.τ).loc Cert.AdamOutUpReferenceIdeal.main_v25) = v1 c
          ∧ r.2.mem ((c.tc : Thread Cert.AdamOutUpReferenceIdeal.nD Cert.AdamOutUpReferenceIdeal.τ).loc Cert.AdamOutUpReferenceIdeal.main_v26) = v2 c
          ∧ r.2.mem ((c.tc : Thread Cert.AdamOutUpReferenceIdeal.nD Cert.AdamOutUpReferenceIdeal.τ).loc Cert.AdamOutUpReferenceIdeal.main_v27) = v3 c
          ∧ r.2.mem ((c.tc : Thread Cert.AdamOutUpReferenceIdeal.nD Cert.AdamOutUpReferenceIdeal.τ).loc Cert.AdamOutUpReferenceIdeal.main_arg0) = m' ((c.tc : Thread Cert.AdamOutUpReferenceIdeal.nD Cert.AdamOutUpReferenceIdeal.τ).loc Cert.AdamOutUpReferenceIdeal.main_arg0)
          ∧ r.2.mem ((c.tc : Thread Cert.AdamOutUpReferenceIdeal.nD Cert.AdamOutUpReferenceIdeal.τ).loc Cert.AdamOutUpReferenceIdeal.main_arg1) = m' ((c.tc : Thread Cert.AdamOutUpReferenceIdeal.nD Cert.AdamOutUpReferenceIdeal.τ).loc Cert.AdamOutUpReferenceIdeal.main_arg1)
          ∧ r.2.mem ((c.tc : Thread Cert.AdamOutUpReferenceIdeal.nD Cert.AdamOutUpReferenceIdeal.τ).loc Cert.AdamOutUpReferenceIdeal.main_arg2) = m' ((c.tc : Thread Cert.AdamOutUpReferenceIdeal.nD Cert.AdamOutUpReferenceIdeal.τ).loc Cert.AdamOutUpReferenceIdeal.main_arg2)
          ∧ r.2.mem ((c.tc : Thread Cert.AdamOutUpReferenceIdeal.nD Cert.AdamOutUpReferenceIdeal.τ).loc Cert.AdamOutUpReferenceIdeal.main_arg3) = m' ((c.tc : Thread Cert.AdamOutUpReferenceIdeal.nD Cert.AdamOutUpReferenceIdeal.τ).loc Cert.AdamOutUpReferenceIdeal.main_arg3))

def preserves_AdamOutLow_AdamOutLowIdeal : Prop :=
  True

def algebraic_AdamOutLowIdeal_AdamOutLowReferenceIdeal [hAdamOutLowIdeal : Cert.AdamOutLowIdeal.Facts] [hAdamOutLowReferenceIdeal : Cert.AdamOutLowReferenceIdeal.Facts] : Prop :=
  ∀ (m : (ℓ : Loc Cert.AdamOutLowIdeal.nD Cert.AdamOutLowIdeal.τ Cert.AdamOutLowIdeal.sig) → Buf (Elt Ideal) ℓ) (g : Dev Cert.AdamOutLowIdeal.nD → PrngReg)
    (m' : (ℓ : Loc Cert.AdamOutLowReferenceIdeal.nD Cert.AdamOutLowReferenceIdeal.τ Cert.AdamOutLowReferenceIdeal.sig) → Buf (Elt Ideal) ℓ) (g' : Dev Cert.AdamOutLowReferenceIdeal.nD → PrngReg), Pre_AdamOutLowIdeal m →
    (∀ c : Dev Cert.AdamOutLowIdeal.nD,
      m' ((c.tc : Thread Cert.AdamOutLowReferenceIdeal.nD Cert.AdamOutLowReferenceIdeal.τ).loc Cert.AdamOutLowReferenceIdeal.main_arg0) = m ((c.tc : Thread Cert.AdamOutLowIdeal.nD Cert.AdamOutLowIdeal.τ).loc Cert.AdamOutLowIdeal.main_arg0)
      ∧ m' ((c.tc : Thread Cert.AdamOutLowReferenceIdeal.nD Cert.AdamOutLowReferenceIdeal.τ).loc Cert.AdamOutLowReferenceIdeal.main_arg1) = m ((c.tc : Thread Cert.AdamOutLowIdeal.nD Cert.AdamOutLowIdeal.τ).loc Cert.AdamOutLowIdeal.main_arg1)
      ∧ m' ((c.tc : Thread Cert.AdamOutLowReferenceIdeal.nD Cert.AdamOutLowReferenceIdeal.τ).loc Cert.AdamOutLowReferenceIdeal.main_arg2) = m ((c.tc : Thread Cert.AdamOutLowIdeal.nD Cert.AdamOutLowIdeal.τ).loc Cert.AdamOutLowIdeal.main_arg2)
      ∧ m' ((c.tc : Thread Cert.AdamOutLowReferenceIdeal.nD Cert.AdamOutLowReferenceIdeal.τ).loc Cert.AdamOutLowReferenceIdeal.main_arg3) = m ((c.tc : Thread Cert.AdamOutLowIdeal.nD Cert.AdamOutLowIdeal.τ).loc Cert.AdamOutLowIdeal.main_arg3)
      ∧ m' ((c.tc : Thread Cert.AdamOutLowReferenceIdeal.nD Cert.AdamOutLowReferenceIdeal.τ).loc Cert.AdamOutLowReferenceIdeal.main_arg4) = m ((c.tc : Thread Cert.AdamOutLowIdeal.nD Cert.AdamOutLowIdeal.τ).loc Cert.AdamOutLowIdeal.main_arg4)
      ∧ m' ((c.tc : Thread Cert.AdamOutLowReferenceIdeal.nD Cert.AdamOutLowReferenceIdeal.τ).loc Cert.AdamOutLowReferenceIdeal.main_arg5) = m ((c.tc : Thread Cert.AdamOutLowIdeal.nD Cert.AdamOutLowIdeal.τ).loc Cert.AdamOutLowIdeal.main_arg5)
      ∧ m' ((c.tc : Thread Cert.AdamOutLowReferenceIdeal.nD Cert.AdamOutLowReferenceIdeal.τ).loc Cert.AdamOutLowReferenceIdeal.main_arg6) = m ((c.tc : Thread Cert.AdamOutLowIdeal.nD Cert.AdamOutLowIdeal.τ).loc Cert.AdamOutLowIdeal.main_arg6)
      ∧ m' ((c.tc : Thread Cert.AdamOutLowReferenceIdeal.nD Cert.AdamOutLowReferenceIdeal.τ).loc Cert.AdamOutLowReferenceIdeal.main_arg7) = m ((c.tc : Thread Cert.AdamOutLowIdeal.nD Cert.AdamOutLowIdeal.τ).loc Cert.AdamOutLowIdeal.main_arg7)) →
    ∃ (v0 : (c : Dev Cert.AdamOutLowIdeal.nD) → Buf (Elt Ideal) ((c.tc : Thread Cert.AdamOutLowIdeal.nD Cert.AdamOutLowIdeal.τ).loc Cert.AdamOutLowIdeal.main_v0_0)) (v1 : (c : Dev Cert.AdamOutLowIdeal.nD) → Buf (Elt Ideal) ((c.tc : Thread Cert.AdamOutLowIdeal.nD Cert.AdamOutLowIdeal.τ).loc Cert.AdamOutLowIdeal.main_v0_1)) (v2 : (c : Dev Cert.AdamOutLowIdeal.nD) → Buf (Elt Ideal) ((c.tc : Thread Cert.AdamOutLowIdeal.nD Cert.AdamOutLowIdeal.τ).loc Cert.AdamOutLowIdeal.main_v0_2)) (v3 : (c : Dev Cert.AdamOutLowIdeal.nD) → Buf (Elt Ideal) ((c.tc : Thread Cert.AdamOutLowIdeal.nD Cert.AdamOutLowIdeal.τ).loc Cert.AdamOutLowIdeal.main_v0_3)),
      θ_run (Cert.AdamOutLowIdeal.defs (F := Ideal)) (onTc (τ := Cert.AdamOutLowIdeal.τ) (Cert.AdamOutLowIdeal.main (F := Ideal))) ⟨m, fun _ => 0, g⟩ (fun r => ∀ c : Dev Cert.AdamOutLowIdeal.nD,
          r.2.mem ((c.tc : Thread Cert.AdamOutLowIdeal.nD Cert.AdamOutLowIdeal.τ).loc Cert.AdamOutLowIdeal.main_v0_0) = v0 c
          ∧ r.2.mem ((c.tc : Thread Cert.AdamOutLowIdeal.nD Cert.AdamOutLowIdeal.τ).loc Cert.AdamOutLowIdeal.main_v0_1) = v1 c
          ∧ r.2.mem ((c.tc : Thread Cert.AdamOutLowIdeal.nD Cert.AdamOutLowIdeal.τ).loc Cert.AdamOutLowIdeal.main_v0_2) = v2 c
          ∧ r.2.mem ((c.tc : Thread Cert.AdamOutLowIdeal.nD Cert.AdamOutLowIdeal.τ).loc Cert.AdamOutLowIdeal.main_v0_3) = v3 c
          ∧ r.2.mem ((c.tc : Thread Cert.AdamOutLowIdeal.nD Cert.AdamOutLowIdeal.τ).loc Cert.AdamOutLowIdeal.main_arg0) = m ((c.tc : Thread Cert.AdamOutLowIdeal.nD Cert.AdamOutLowIdeal.τ).loc Cert.AdamOutLowIdeal.main_arg0)
          ∧ r.2.mem ((c.tc : Thread Cert.AdamOutLowIdeal.nD Cert.AdamOutLowIdeal.τ).loc Cert.AdamOutLowIdeal.main_arg1) = m ((c.tc : Thread Cert.AdamOutLowIdeal.nD Cert.AdamOutLowIdeal.τ).loc Cert.AdamOutLowIdeal.main_arg1)
          ∧ r.2.mem ((c.tc : Thread Cert.AdamOutLowIdeal.nD Cert.AdamOutLowIdeal.τ).loc Cert.AdamOutLowIdeal.main_arg2) = m ((c.tc : Thread Cert.AdamOutLowIdeal.nD Cert.AdamOutLowIdeal.τ).loc Cert.AdamOutLowIdeal.main_arg2)
          ∧ r.2.mem ((c.tc : Thread Cert.AdamOutLowIdeal.nD Cert.AdamOutLowIdeal.τ).loc Cert.AdamOutLowIdeal.main_arg3) = m ((c.tc : Thread Cert.AdamOutLowIdeal.nD Cert.AdamOutLowIdeal.τ).loc Cert.AdamOutLowIdeal.main_arg3)
          ∧ r.2.mem ((c.tc : Thread Cert.AdamOutLowIdeal.nD Cert.AdamOutLowIdeal.τ).loc Cert.AdamOutLowIdeal.main_arg4) = m ((c.tc : Thread Cert.AdamOutLowIdeal.nD Cert.AdamOutLowIdeal.τ).loc Cert.AdamOutLowIdeal.main_arg4)
          ∧ r.2.mem ((c.tc : Thread Cert.AdamOutLowIdeal.nD Cert.AdamOutLowIdeal.τ).loc Cert.AdamOutLowIdeal.main_arg5) = m ((c.tc : Thread Cert.AdamOutLowIdeal.nD Cert.AdamOutLowIdeal.τ).loc Cert.AdamOutLowIdeal.main_arg5)
          ∧ r.2.mem ((c.tc : Thread Cert.AdamOutLowIdeal.nD Cert.AdamOutLowIdeal.τ).loc Cert.AdamOutLowIdeal.main_arg6) = m ((c.tc : Thread Cert.AdamOutLowIdeal.nD Cert.AdamOutLowIdeal.τ).loc Cert.AdamOutLowIdeal.main_arg6)
          ∧ r.2.mem ((c.tc : Thread Cert.AdamOutLowIdeal.nD Cert.AdamOutLowIdeal.τ).loc Cert.AdamOutLowIdeal.main_arg7) = m ((c.tc : Thread Cert.AdamOutLowIdeal.nD Cert.AdamOutLowIdeal.τ).loc Cert.AdamOutLowIdeal.main_arg7))
      ∧ θ_run (Cert.AdamOutLowReferenceIdeal.defs (F := Ideal)) (onTc (τ := Cert.AdamOutLowReferenceIdeal.τ) (Cert.AdamOutLowReferenceIdeal.main (F := Ideal))) ⟨m', fun _ => 0, g'⟩ (fun r => ∀ c : Dev Cert.AdamOutLowReferenceIdeal.nD,
          r.2.mem ((c.tc : Thread Cert.AdamOutLowReferenceIdeal.nD Cert.AdamOutLowReferenceIdeal.τ).loc Cert.AdamOutLowReferenceIdeal.main_v26) = v0 c
          ∧ r.2.mem ((c.tc : Thread Cert.AdamOutLowReferenceIdeal.nD Cert.AdamOutLowReferenceIdeal.τ).loc Cert.AdamOutLowReferenceIdeal.main_v29) = v1 c
          ∧ r.2.mem ((c.tc : Thread Cert.AdamOutLowReferenceIdeal.nD Cert.AdamOutLowReferenceIdeal.τ).loc Cert.AdamOutLowReferenceIdeal.main_v32) = v2 c
          ∧ r.2.mem ((c.tc : Thread Cert.AdamOutLowReferenceIdeal.nD Cert.AdamOutLowReferenceIdeal.τ).loc Cert.AdamOutLowReferenceIdeal.main_v35) = v3 c
          ∧ r.2.mem ((c.tc : Thread Cert.AdamOutLowReferenceIdeal.nD Cert.AdamOutLowReferenceIdeal.τ).loc Cert.AdamOutLowReferenceIdeal.main_arg0) = m' ((c.tc : Thread Cert.AdamOutLowReferenceIdeal.nD Cert.AdamOutLowReferenceIdeal.τ).loc Cert.AdamOutLowReferenceIdeal.main_arg0)
          ∧ r.2.mem ((c.tc : Thread Cert.AdamOutLowReferenceIdeal.nD Cert.AdamOutLowReferenceIdeal.τ).loc Cert.AdamOutLowReferenceIdeal.main_arg1) = m' ((c.tc : Thread Cert.AdamOutLowReferenceIdeal.nD Cert.AdamOutLowReferenceIdeal.τ).loc Cert.AdamOutLowReferenceIdeal.main_arg1)
          ∧ r.2.mem ((c.tc : Thread Cert.AdamOutLowReferenceIdeal.nD Cert.AdamOutLowReferenceIdeal.τ).loc Cert.AdamOutLowReferenceIdeal.main_arg2) = m' ((c.tc : Thread Cert.AdamOutLowReferenceIdeal.nD Cert.AdamOutLowReferenceIdeal.τ).loc Cert.AdamOutLowReferenceIdeal.main_arg2)
          ∧ r.2.mem ((c.tc : Thread Cert.AdamOutLowReferenceIdeal.nD Cert.AdamOutLowReferenceIdeal.τ).loc Cert.AdamOutLowReferenceIdeal.main_arg3) = m' ((c.tc : Thread Cert.AdamOutLowReferenceIdeal.nD Cert.AdamOutLowReferenceIdeal.τ).loc Cert.AdamOutLowReferenceIdeal.main_arg3)
          ∧ r.2.mem ((c.tc : Thread Cert.AdamOutLowReferenceIdeal.nD Cert.AdamOutLowReferenceIdeal.τ).loc Cert.AdamOutLowReferenceIdeal.main_arg4) = m' ((c.tc : Thread Cert.AdamOutLowReferenceIdeal.nD Cert.AdamOutLowReferenceIdeal.τ).loc Cert.AdamOutLowReferenceIdeal.main_arg4)
          ∧ r.2.mem ((c.tc : Thread Cert.AdamOutLowReferenceIdeal.nD Cert.AdamOutLowReferenceIdeal.τ).loc Cert.AdamOutLowReferenceIdeal.main_arg5) = m' ((c.tc : Thread Cert.AdamOutLowReferenceIdeal.nD Cert.AdamOutLowReferenceIdeal.τ).loc Cert.AdamOutLowReferenceIdeal.main_arg5)
          ∧ r.2.mem ((c.tc : Thread Cert.AdamOutLowReferenceIdeal.nD Cert.AdamOutLowReferenceIdeal.τ).loc Cert.AdamOutLowReferenceIdeal.main_arg6) = m' ((c.tc : Thread Cert.AdamOutLowReferenceIdeal.nD Cert.AdamOutLowReferenceIdeal.τ).loc Cert.AdamOutLowReferenceIdeal.main_arg6)
          ∧ r.2.mem ((c.tc : Thread Cert.AdamOutLowReferenceIdeal.nD Cert.AdamOutLowReferenceIdeal.τ).loc Cert.AdamOutLowReferenceIdeal.main_arg7) = m' ((c.tc : Thread Cert.AdamOutLowReferenceIdeal.nD Cert.AdamOutLowReferenceIdeal.τ).loc Cert.AdamOutLowReferenceIdeal.main_arg7))

def preserves_AdamCkvUp_AdamCkvUpIdeal : Prop :=
  True

def algebraic_AdamCkvUpIdeal_AdamCkvUpReferenceIdeal [hAdamCkvUpIdeal : Cert.AdamCkvUpIdeal.Facts] [hAdamCkvUpReferenceIdeal : Cert.AdamCkvUpReferenceIdeal.Facts] : Prop :=
  ∀ (m : (ℓ : Loc Cert.AdamCkvUpIdeal.nD Cert.AdamCkvUpIdeal.τ Cert.AdamCkvUpIdeal.sig) → Buf (Elt Ideal) ℓ) (g : Dev Cert.AdamCkvUpIdeal.nD → PrngReg)
    (m' : (ℓ : Loc Cert.AdamCkvUpReferenceIdeal.nD Cert.AdamCkvUpReferenceIdeal.τ Cert.AdamCkvUpReferenceIdeal.sig) → Buf (Elt Ideal) ℓ) (g' : Dev Cert.AdamCkvUpReferenceIdeal.nD → PrngReg), Pre_AdamCkvUpIdeal m →
    (∀ c : Dev Cert.AdamCkvUpIdeal.nD,
      m' ((c.tc : Thread Cert.AdamCkvUpReferenceIdeal.nD Cert.AdamCkvUpReferenceIdeal.τ).loc Cert.AdamCkvUpReferenceIdeal.main_arg0) = m ((c.tc : Thread Cert.AdamCkvUpIdeal.nD Cert.AdamCkvUpIdeal.τ).loc Cert.AdamCkvUpIdeal.main_arg0)
      ∧ m' ((c.tc : Thread Cert.AdamCkvUpReferenceIdeal.nD Cert.AdamCkvUpReferenceIdeal.τ).loc Cert.AdamCkvUpReferenceIdeal.main_arg1) = m ((c.tc : Thread Cert.AdamCkvUpIdeal.nD Cert.AdamCkvUpIdeal.τ).loc Cert.AdamCkvUpIdeal.main_arg1)
      ∧ m' ((c.tc : Thread Cert.AdamCkvUpReferenceIdeal.nD Cert.AdamCkvUpReferenceIdeal.τ).loc Cert.AdamCkvUpReferenceIdeal.main_arg2) = m ((c.tc : Thread Cert.AdamCkvUpIdeal.nD Cert.AdamCkvUpIdeal.τ).loc Cert.AdamCkvUpIdeal.main_arg2)
      ∧ m' ((c.tc : Thread Cert.AdamCkvUpReferenceIdeal.nD Cert.AdamCkvUpReferenceIdeal.τ).loc Cert.AdamCkvUpReferenceIdeal.main_arg3) = m ((c.tc : Thread Cert.AdamCkvUpIdeal.nD Cert.AdamCkvUpIdeal.τ).loc Cert.AdamCkvUpIdeal.main_arg3)) →
    ∃ (v0 : (c : Dev Cert.AdamCkvUpIdeal.nD) → Buf (Elt Ideal) ((c.tc : Thread Cert.AdamCkvUpIdeal.nD Cert.AdamCkvUpIdeal.τ).loc Cert.AdamCkvUpIdeal.main_v1)) (v1 : (c : Dev Cert.AdamCkvUpIdeal.nD) → Buf (Elt Ideal) ((c.tc : Thread Cert.AdamCkvUpIdeal.nD Cert.AdamCkvUpIdeal.τ).loc Cert.AdamCkvUpIdeal.main_v2)) (v2 : (c : Dev Cert.AdamCkvUpIdeal.nD) → Buf (Elt Ideal) ((c.tc : Thread Cert.AdamCkvUpIdeal.nD Cert.AdamCkvUpIdeal.τ).loc Cert.AdamCkvUpIdeal.main_v3)) (v3 : (c : Dev Cert.AdamCkvUpIdeal.nD) → Buf (Elt Ideal) ((c.tc : Thread Cert.AdamCkvUpIdeal.nD Cert.AdamCkvUpIdeal.τ).loc Cert.AdamCkvUpIdeal.main_v4)),
      θ_run (Cert.AdamCkvUpIdeal.defs (F := Ideal)) (onTc (τ := Cert.AdamCkvUpIdeal.τ) (Cert.AdamCkvUpIdeal.main (F := Ideal))) ⟨m, fun _ => 0, g⟩ (fun r => ∀ c : Dev Cert.AdamCkvUpIdeal.nD,
          r.2.mem ((c.tc : Thread Cert.AdamCkvUpIdeal.nD Cert.AdamCkvUpIdeal.τ).loc Cert.AdamCkvUpIdeal.main_v1) = v0 c
          ∧ r.2.mem ((c.tc : Thread Cert.AdamCkvUpIdeal.nD Cert.AdamCkvUpIdeal.τ).loc Cert.AdamCkvUpIdeal.main_v2) = v1 c
          ∧ r.2.mem ((c.tc : Thread Cert.AdamCkvUpIdeal.nD Cert.AdamCkvUpIdeal.τ).loc Cert.AdamCkvUpIdeal.main_v3) = v2 c
          ∧ r.2.mem ((c.tc : Thread Cert.AdamCkvUpIdeal.nD Cert.AdamCkvUpIdeal.τ).loc Cert.AdamCkvUpIdeal.main_v4) = v3 c
          ∧ r.2.mem ((c.tc : Thread Cert.AdamCkvUpIdeal.nD Cert.AdamCkvUpIdeal.τ).loc Cert.AdamCkvUpIdeal.main_arg0) = m ((c.tc : Thread Cert.AdamCkvUpIdeal.nD Cert.AdamCkvUpIdeal.τ).loc Cert.AdamCkvUpIdeal.main_arg0)
          ∧ r.2.mem ((c.tc : Thread Cert.AdamCkvUpIdeal.nD Cert.AdamCkvUpIdeal.τ).loc Cert.AdamCkvUpIdeal.main_arg1) = m ((c.tc : Thread Cert.AdamCkvUpIdeal.nD Cert.AdamCkvUpIdeal.τ).loc Cert.AdamCkvUpIdeal.main_arg1)
          ∧ r.2.mem ((c.tc : Thread Cert.AdamCkvUpIdeal.nD Cert.AdamCkvUpIdeal.τ).loc Cert.AdamCkvUpIdeal.main_arg2) = m ((c.tc : Thread Cert.AdamCkvUpIdeal.nD Cert.AdamCkvUpIdeal.τ).loc Cert.AdamCkvUpIdeal.main_arg2)
          ∧ r.2.mem ((c.tc : Thread Cert.AdamCkvUpIdeal.nD Cert.AdamCkvUpIdeal.τ).loc Cert.AdamCkvUpIdeal.main_arg3) = m ((c.tc : Thread Cert.AdamCkvUpIdeal.nD Cert.AdamCkvUpIdeal.τ).loc Cert.AdamCkvUpIdeal.main_arg3))
      ∧ θ_run (Cert.AdamCkvUpReferenceIdeal.defs (F := Ideal)) (onTc (τ := Cert.AdamCkvUpReferenceIdeal.τ) (Cert.AdamCkvUpReferenceIdeal.main (F := Ideal))) ⟨m', fun _ => 0, g'⟩ (fun r => ∀ c : Dev Cert.AdamCkvUpReferenceIdeal.nD,
          r.2.mem ((c.tc : Thread Cert.AdamCkvUpReferenceIdeal.nD Cert.AdamCkvUpReferenceIdeal.τ).loc Cert.AdamCkvUpReferenceIdeal.main_v24) = v0 c
          ∧ r.2.mem ((c.tc : Thread Cert.AdamCkvUpReferenceIdeal.nD Cert.AdamCkvUpReferenceIdeal.τ).loc Cert.AdamCkvUpReferenceIdeal.main_v25) = v1 c
          ∧ r.2.mem ((c.tc : Thread Cert.AdamCkvUpReferenceIdeal.nD Cert.AdamCkvUpReferenceIdeal.τ).loc Cert.AdamCkvUpReferenceIdeal.main_v26) = v2 c
          ∧ r.2.mem ((c.tc : Thread Cert.AdamCkvUpReferenceIdeal.nD Cert.AdamCkvUpReferenceIdeal.τ).loc Cert.AdamCkvUpReferenceIdeal.main_v27) = v3 c
          ∧ r.2.mem ((c.tc : Thread Cert.AdamCkvUpReferenceIdeal.nD Cert.AdamCkvUpReferenceIdeal.τ).loc Cert.AdamCkvUpReferenceIdeal.main_arg0) = m' ((c.tc : Thread Cert.AdamCkvUpReferenceIdeal.nD Cert.AdamCkvUpReferenceIdeal.τ).loc Cert.AdamCkvUpReferenceIdeal.main_arg0)
          ∧ r.2.mem ((c.tc : Thread Cert.AdamCkvUpReferenceIdeal.nD Cert.AdamCkvUpReferenceIdeal.τ).loc Cert.AdamCkvUpReferenceIdeal.main_arg1) = m' ((c.tc : Thread Cert.AdamCkvUpReferenceIdeal.nD Cert.AdamCkvUpReferenceIdeal.τ).loc Cert.AdamCkvUpReferenceIdeal.main_arg1)
          ∧ r.2.mem ((c.tc : Thread Cert.AdamCkvUpReferenceIdeal.nD Cert.AdamCkvUpReferenceIdeal.τ).loc Cert.AdamCkvUpReferenceIdeal.main_arg2) = m' ((c.tc : Thread Cert.AdamCkvUpReferenceIdeal.nD Cert.AdamCkvUpReferenceIdeal.τ).loc Cert.AdamCkvUpReferenceIdeal.main_arg2)
          ∧ r.2.mem ((c.tc : Thread Cert.AdamCkvUpReferenceIdeal.nD Cert.AdamCkvUpReferenceIdeal.τ).loc Cert.AdamCkvUpReferenceIdeal.main_arg3) = m' ((c.tc : Thread Cert.AdamCkvUpReferenceIdeal.nD Cert.AdamCkvUpReferenceIdeal.τ).loc Cert.AdamCkvUpReferenceIdeal.main_arg3))

def preserves_AdamCkvLow_AdamCkvLowIdeal : Prop :=
  True

def algebraic_AdamCkvLowIdeal_AdamCkvLowReferenceIdeal [hAdamCkvLowIdeal : Cert.AdamCkvLowIdeal.Facts] [hAdamCkvLowReferenceIdeal : Cert.AdamCkvLowReferenceIdeal.Facts] : Prop :=
  ∀ (m : (ℓ : Loc Cert.AdamCkvLowIdeal.nD Cert.AdamCkvLowIdeal.τ Cert.AdamCkvLowIdeal.sig) → Buf (Elt Ideal) ℓ) (g : Dev Cert.AdamCkvLowIdeal.nD → PrngReg)
    (m' : (ℓ : Loc Cert.AdamCkvLowReferenceIdeal.nD Cert.AdamCkvLowReferenceIdeal.τ Cert.AdamCkvLowReferenceIdeal.sig) → Buf (Elt Ideal) ℓ) (g' : Dev Cert.AdamCkvLowReferenceIdeal.nD → PrngReg), Pre_AdamCkvLowIdeal m →
    (∀ c : Dev Cert.AdamCkvLowIdeal.nD,
      m' ((c.tc : Thread Cert.AdamCkvLowReferenceIdeal.nD Cert.AdamCkvLowReferenceIdeal.τ).loc Cert.AdamCkvLowReferenceIdeal.main_arg0) = m ((c.tc : Thread Cert.AdamCkvLowIdeal.nD Cert.AdamCkvLowIdeal.τ).loc Cert.AdamCkvLowIdeal.main_arg0)
      ∧ m' ((c.tc : Thread Cert.AdamCkvLowReferenceIdeal.nD Cert.AdamCkvLowReferenceIdeal.τ).loc Cert.AdamCkvLowReferenceIdeal.main_arg1) = m ((c.tc : Thread Cert.AdamCkvLowIdeal.nD Cert.AdamCkvLowIdeal.τ).loc Cert.AdamCkvLowIdeal.main_arg1)
      ∧ m' ((c.tc : Thread Cert.AdamCkvLowReferenceIdeal.nD Cert.AdamCkvLowReferenceIdeal.τ).loc Cert.AdamCkvLowReferenceIdeal.main_arg2) = m ((c.tc : Thread Cert.AdamCkvLowIdeal.nD Cert.AdamCkvLowIdeal.τ).loc Cert.AdamCkvLowIdeal.main_arg2)
      ∧ m' ((c.tc : Thread Cert.AdamCkvLowReferenceIdeal.nD Cert.AdamCkvLowReferenceIdeal.τ).loc Cert.AdamCkvLowReferenceIdeal.main_arg3) = m ((c.tc : Thread Cert.AdamCkvLowIdeal.nD Cert.AdamCkvLowIdeal.τ).loc Cert.AdamCkvLowIdeal.main_arg3)
      ∧ m' ((c.tc : Thread Cert.AdamCkvLowReferenceIdeal.nD Cert.AdamCkvLowReferenceIdeal.τ).loc Cert.AdamCkvLowReferenceIdeal.main_arg4) = m ((c.tc : Thread Cert.AdamCkvLowIdeal.nD Cert.AdamCkvLowIdeal.τ).loc Cert.AdamCkvLowIdeal.main_arg4)
      ∧ m' ((c.tc : Thread Cert.AdamCkvLowReferenceIdeal.nD Cert.AdamCkvLowReferenceIdeal.τ).loc Cert.AdamCkvLowReferenceIdeal.main_arg5) = m ((c.tc : Thread Cert.AdamCkvLowIdeal.nD Cert.AdamCkvLowIdeal.τ).loc Cert.AdamCkvLowIdeal.main_arg5)
      ∧ m' ((c.tc : Thread Cert.AdamCkvLowReferenceIdeal.nD Cert.AdamCkvLowReferenceIdeal.τ).loc Cert.AdamCkvLowReferenceIdeal.main_arg6) = m ((c.tc : Thread Cert.AdamCkvLowIdeal.nD Cert.AdamCkvLowIdeal.τ).loc Cert.AdamCkvLowIdeal.main_arg6)
      ∧ m' ((c.tc : Thread Cert.AdamCkvLowReferenceIdeal.nD Cert.AdamCkvLowReferenceIdeal.τ).loc Cert.AdamCkvLowReferenceIdeal.main_arg7) = m ((c.tc : Thread Cert.AdamCkvLowIdeal.nD Cert.AdamCkvLowIdeal.τ).loc Cert.AdamCkvLowIdeal.main_arg7)) →
    ∃ (v0 : (c : Dev Cert.AdamCkvLowIdeal.nD) → Buf (Elt Ideal) ((c.tc : Thread Cert.AdamCkvLowIdeal.nD Cert.AdamCkvLowIdeal.τ).loc Cert.AdamCkvLowIdeal.main_v0_0)) (v1 : (c : Dev Cert.AdamCkvLowIdeal.nD) → Buf (Elt Ideal) ((c.tc : Thread Cert.AdamCkvLowIdeal.nD Cert.AdamCkvLowIdeal.τ).loc Cert.AdamCkvLowIdeal.main_v0_1)) (v2 : (c : Dev Cert.AdamCkvLowIdeal.nD) → Buf (Elt Ideal) ((c.tc : Thread Cert.AdamCkvLowIdeal.nD Cert.AdamCkvLowIdeal.τ).loc Cert.AdamCkvLowIdeal.main_v0_2)) (v3 : (c : Dev Cert.AdamCkvLowIdeal.nD) → Buf (Elt Ideal) ((c.tc : Thread Cert.AdamCkvLowIdeal.nD Cert.AdamCkvLowIdeal.τ).loc Cert.AdamCkvLowIdeal.main_v0_3)),
      θ_run (Cert.AdamCkvLowIdeal.defs (F := Ideal)) (onTc (τ := Cert.AdamCkvLowIdeal.τ) (Cert.AdamCkvLowIdeal.main (F := Ideal))) ⟨m, fun _ => 0, g⟩ (fun r => ∀ c : Dev Cert.AdamCkvLowIdeal.nD,
          r.2.mem ((c.tc : Thread Cert.AdamCkvLowIdeal.nD Cert.AdamCkvLowIdeal.τ).loc Cert.AdamCkvLowIdeal.main_v0_0) = v0 c
          ∧ r.2.mem ((c.tc : Thread Cert.AdamCkvLowIdeal.nD Cert.AdamCkvLowIdeal.τ).loc Cert.AdamCkvLowIdeal.main_v0_1) = v1 c
          ∧ r.2.mem ((c.tc : Thread Cert.AdamCkvLowIdeal.nD Cert.AdamCkvLowIdeal.τ).loc Cert.AdamCkvLowIdeal.main_v0_2) = v2 c
          ∧ r.2.mem ((c.tc : Thread Cert.AdamCkvLowIdeal.nD Cert.AdamCkvLowIdeal.τ).loc Cert.AdamCkvLowIdeal.main_v0_3) = v3 c
          ∧ r.2.mem ((c.tc : Thread Cert.AdamCkvLowIdeal.nD Cert.AdamCkvLowIdeal.τ).loc Cert.AdamCkvLowIdeal.main_arg0) = m ((c.tc : Thread Cert.AdamCkvLowIdeal.nD Cert.AdamCkvLowIdeal.τ).loc Cert.AdamCkvLowIdeal.main_arg0)
          ∧ r.2.mem ((c.tc : Thread Cert.AdamCkvLowIdeal.nD Cert.AdamCkvLowIdeal.τ).loc Cert.AdamCkvLowIdeal.main_arg1) = m ((c.tc : Thread Cert.AdamCkvLowIdeal.nD Cert.AdamCkvLowIdeal.τ).loc Cert.AdamCkvLowIdeal.main_arg1)
          ∧ r.2.mem ((c.tc : Thread Cert.AdamCkvLowIdeal.nD Cert.AdamCkvLowIdeal.τ).loc Cert.AdamCkvLowIdeal.main_arg2) = m ((c.tc : Thread Cert.AdamCkvLowIdeal.nD Cert.AdamCkvLowIdeal.τ).loc Cert.AdamCkvLowIdeal.main_arg2)
          ∧ r.2.mem ((c.tc : Thread Cert.AdamCkvLowIdeal.nD Cert.AdamCkvLowIdeal.τ).loc Cert.AdamCkvLowIdeal.main_arg3) = m ((c.tc : Thread Cert.AdamCkvLowIdeal.nD Cert.AdamCkvLowIdeal.τ).loc Cert.AdamCkvLowIdeal.main_arg3)
          ∧ r.2.mem ((c.tc : Thread Cert.AdamCkvLowIdeal.nD Cert.AdamCkvLowIdeal.τ).loc Cert.AdamCkvLowIdeal.main_arg4) = m ((c.tc : Thread Cert.AdamCkvLowIdeal.nD Cert.AdamCkvLowIdeal.τ).loc Cert.AdamCkvLowIdeal.main_arg4)
          ∧ r.2.mem ((c.tc : Thread Cert.AdamCkvLowIdeal.nD Cert.AdamCkvLowIdeal.τ).loc Cert.AdamCkvLowIdeal.main_arg5) = m ((c.tc : Thread Cert.AdamCkvLowIdeal.nD Cert.AdamCkvLowIdeal.τ).loc Cert.AdamCkvLowIdeal.main_arg5)
          ∧ r.2.mem ((c.tc : Thread Cert.AdamCkvLowIdeal.nD Cert.AdamCkvLowIdeal.τ).loc Cert.AdamCkvLowIdeal.main_arg6) = m ((c.tc : Thread Cert.AdamCkvLowIdeal.nD Cert.AdamCkvLowIdeal.τ).loc Cert.AdamCkvLowIdeal.main_arg6)
          ∧ r.2.mem ((c.tc : Thread Cert.AdamCkvLowIdeal.nD Cert.AdamCkvLowIdeal.τ).loc Cert.AdamCkvLowIdeal.main_arg7) = m ((c.tc : Thread Cert.AdamCkvLowIdeal.nD Cert.AdamCkvLowIdeal.τ).loc Cert.AdamCkvLowIdeal.main_arg7))
      ∧ θ_run (Cert.AdamCkvLowReferenceIdeal.defs (F := Ideal)) (onTc (τ := Cert.AdamCkvLowReferenceIdeal.τ) (Cert.AdamCkvLowReferenceIdeal.main (F := Ideal))) ⟨m', fun _ => 0, g'⟩ (fun r => ∀ c : Dev Cert.AdamCkvLowReferenceIdeal.nD,
          r.2.mem ((c.tc : Thread Cert.AdamCkvLowReferenceIdeal.nD Cert.AdamCkvLowReferenceIdeal.τ).loc Cert.AdamCkvLowReferenceIdeal.main_v26) = v0 c
          ∧ r.2.mem ((c.tc : Thread Cert.AdamCkvLowReferenceIdeal.nD Cert.AdamCkvLowReferenceIdeal.τ).loc Cert.AdamCkvLowReferenceIdeal.main_v29) = v1 c
          ∧ r.2.mem ((c.tc : Thread Cert.AdamCkvLowReferenceIdeal.nD Cert.AdamCkvLowReferenceIdeal.τ).loc Cert.AdamCkvLowReferenceIdeal.main_v32) = v2 c
          ∧ r.2.mem ((c.tc : Thread Cert.AdamCkvLowReferenceIdeal.nD Cert.AdamCkvLowReferenceIdeal.τ).loc Cert.AdamCkvLowReferenceIdeal.main_v35) = v3 c
          ∧ r.2.mem ((c.tc : Thread Cert.AdamCkvLowReferenceIdeal.nD Cert.AdamCkvLowReferenceIdeal.τ).loc Cert.AdamCkvLowReferenceIdeal.main_arg0) = m' ((c.tc : Thread Cert.AdamCkvLowReferenceIdeal.nD Cert.AdamCkvLowReferenceIdeal.τ).loc Cert.AdamCkvLowReferenceIdeal.main_arg0)
          ∧ r.2.mem ((c.tc : Thread Cert.AdamCkvLowReferenceIdeal.nD Cert.AdamCkvLowReferenceIdeal.τ).loc Cert.AdamCkvLowReferenceIdeal.main_arg1) = m' ((c.tc : Thread Cert.AdamCkvLowReferenceIdeal.nD Cert.AdamCkvLowReferenceIdeal.τ).loc Cert.AdamCkvLowReferenceIdeal.main_arg1)
          ∧ r.2.mem ((c.tc : Thread Cert.AdamCkvLowReferenceIdeal.nD Cert.AdamCkvLowReferenceIdeal.τ).loc Cert.AdamCkvLowReferenceIdeal.main_arg2) = m' ((c.tc : Thread Cert.AdamCkvLowReferenceIdeal.nD Cert.AdamCkvLowReferenceIdeal.τ).loc Cert.AdamCkvLowReferenceIdeal.main_arg2)
          ∧ r.2.mem ((c.tc : Thread Cert.AdamCkvLowReferenceIdeal.nD Cert.AdamCkvLowReferenceIdeal.τ).loc Cert.AdamCkvLowReferenceIdeal.main_arg3) = m' ((c.tc : Thread Cert.AdamCkvLowReferenceIdeal.nD Cert.AdamCkvLowReferenceIdeal.τ).loc Cert.AdamCkvLowReferenceIdeal.main_arg3)
          ∧ r.2.mem ((c.tc : Thread Cert.AdamCkvLowReferenceIdeal.nD Cert.AdamCkvLowReferenceIdeal.τ).loc Cert.AdamCkvLowReferenceIdeal.main_arg4) = m' ((c.tc : Thread Cert.AdamCkvLowReferenceIdeal.nD Cert.AdamCkvLowReferenceIdeal.τ).loc Cert.AdamCkvLowReferenceIdeal.main_arg4)
          ∧ r.2.mem ((c.tc : Thread Cert.AdamCkvLowReferenceIdeal.nD Cert.AdamCkvLowReferenceIdeal.τ).loc Cert.AdamCkvLowReferenceIdeal.main_arg5) = m' ((c.tc : Thread Cert.AdamCkvLowReferenceIdeal.nD Cert.AdamCkvLowReferenceIdeal.τ).loc Cert.AdamCkvLowReferenceIdeal.main_arg5)
          ∧ r.2.mem ((c.tc : Thread Cert.AdamCkvLowReferenceIdeal.nD Cert.AdamCkvLowReferenceIdeal.τ).loc Cert.AdamCkvLowReferenceIdeal.main_arg6) = m' ((c.tc : Thread Cert.AdamCkvLowReferenceIdeal.nD Cert.AdamCkvLowReferenceIdeal.τ).loc Cert.AdamCkvLowReferenceIdeal.main_arg6)
          ∧ r.2.mem ((c.tc : Thread Cert.AdamCkvLowReferenceIdeal.nD Cert.AdamCkvLowReferenceIdeal.τ).loc Cert.AdamCkvLowReferenceIdeal.main_arg7) = m' ((c.tc : Thread Cert.AdamCkvLowReferenceIdeal.nD Cert.AdamCkvLowReferenceIdeal.τ).loc Cert.AdamCkvLowReferenceIdeal.main_arg7))

def preserves_AdamWiUp_AdamWiUpIdeal : Prop :=
  True

def algebraic_AdamWiUpIdeal_AdamWiUpReferenceIdeal [hAdamWiUpIdeal : Cert.AdamWiUpIdeal.Facts] [hAdamWiUpReferenceIdeal : Cert.AdamWiUpReferenceIdeal.Facts] : Prop :=
  ∀ (m : (ℓ : Loc Cert.AdamWiUpIdeal.nD Cert.AdamWiUpIdeal.τ Cert.AdamWiUpIdeal.sig) → Buf (Elt Ideal) ℓ) (g : Dev Cert.AdamWiUpIdeal.nD → PrngReg)
    (m' : (ℓ : Loc Cert.AdamWiUpReferenceIdeal.nD Cert.AdamWiUpReferenceIdeal.τ Cert.AdamWiUpReferenceIdeal.sig) → Buf (Elt Ideal) ℓ) (g' : Dev Cert.AdamWiUpReferenceIdeal.nD → PrngReg), Pre_AdamWiUpIdeal m →
    (∀ c : Dev Cert.AdamWiUpIdeal.nD,
      m' ((c.tc : Thread Cert.AdamWiUpReferenceIdeal.nD Cert.AdamWiUpReferenceIdeal.τ).loc Cert.AdamWiUpReferenceIdeal.main_arg0) = m ((c.tc : Thread Cert.AdamWiUpIdeal.nD Cert.AdamWiUpIdeal.τ).loc Cert.AdamWiUpIdeal.main_arg0)
      ∧ m' ((c.tc : Thread Cert.AdamWiUpReferenceIdeal.nD Cert.AdamWiUpReferenceIdeal.τ).loc Cert.AdamWiUpReferenceIdeal.main_arg1) = m ((c.tc : Thread Cert.AdamWiUpIdeal.nD Cert.AdamWiUpIdeal.τ).loc Cert.AdamWiUpIdeal.main_arg1)
      ∧ m' ((c.tc : Thread Cert.AdamWiUpReferenceIdeal.nD Cert.AdamWiUpReferenceIdeal.τ).loc Cert.AdamWiUpReferenceIdeal.main_arg2) = m ((c.tc : Thread Cert.AdamWiUpIdeal.nD Cert.AdamWiUpIdeal.τ).loc Cert.AdamWiUpIdeal.main_arg2)
      ∧ m' ((c.tc : Thread Cert.AdamWiUpReferenceIdeal.nD Cert.AdamWiUpReferenceIdeal.τ).loc Cert.AdamWiUpReferenceIdeal.main_arg3) = m ((c.tc : Thread Cert.AdamWiUpIdeal.nD Cert.AdamWiUpIdeal.τ).loc Cert.AdamWiUpIdeal.main_arg3)) →
    ∃ (v0 : (c : Dev Cert.AdamWiUpIdeal.nD) → Buf (Elt Ideal) ((c.tc : Thread Cert.AdamWiUpIdeal.nD Cert.AdamWiUpIdeal.τ).loc Cert.AdamWiUpIdeal.main_v1)) (v1 : (c : Dev Cert.AdamWiUpIdeal.nD) → Buf (Elt Ideal) ((c.tc : Thread Cert.AdamWiUpIdeal.nD Cert.AdamWiUpIdeal.τ).loc Cert.AdamWiUpIdeal.main_v2)) (v2 : (c : Dev Cert.AdamWiUpIdeal.nD) → Buf (Elt Ideal) ((c.tc : Thread Cert.AdamWiUpIdeal.nD Cert.AdamWiUpIdeal.τ).loc Cert.AdamWiUpIdeal.main_v3)) (v3 : (c : Dev Cert.AdamWiUpIdeal.nD) → Buf (Elt Ideal) ((c.tc : Thread Cert.AdamWiUpIdeal.nD Cert.AdamWiUpIdeal.τ).loc Cert.AdamWiUpIdeal.main_v4)),
      θ_run (Cert.AdamWiUpIdeal.defs (F := Ideal)) (onTc (τ := Cert.AdamWiUpIdeal.τ) (Cert.AdamWiUpIdeal.main (F := Ideal))) ⟨m, fun _ => 0, g⟩ (fun r => ∀ c : Dev Cert.AdamWiUpIdeal.nD,
          r.2.mem ((c.tc : Thread Cert.AdamWiUpIdeal.nD Cert.AdamWiUpIdeal.τ).loc Cert.AdamWiUpIdeal.main_v1) = v0 c
          ∧ r.2.mem ((c.tc : Thread Cert.AdamWiUpIdeal.nD Cert.AdamWiUpIdeal.τ).loc Cert.AdamWiUpIdeal.main_v2) = v1 c
          ∧ r.2.mem ((c.tc : Thread Cert.AdamWiUpIdeal.nD Cert.AdamWiUpIdeal.τ).loc Cert.AdamWiUpIdeal.main_v3) = v2 c
          ∧ r.2.mem ((c.tc : Thread Cert.AdamWiUpIdeal.nD Cert.AdamWiUpIdeal.τ).loc Cert.AdamWiUpIdeal.main_v4) = v3 c
          ∧ r.2.mem ((c.tc : Thread Cert.AdamWiUpIdeal.nD Cert.AdamWiUpIdeal.τ).loc Cert.AdamWiUpIdeal.main_arg0) = m ((c.tc : Thread Cert.AdamWiUpIdeal.nD Cert.AdamWiUpIdeal.τ).loc Cert.AdamWiUpIdeal.main_arg0)
          ∧ r.2.mem ((c.tc : Thread Cert.AdamWiUpIdeal.nD Cert.AdamWiUpIdeal.τ).loc Cert.AdamWiUpIdeal.main_arg1) = m ((c.tc : Thread Cert.AdamWiUpIdeal.nD Cert.AdamWiUpIdeal.τ).loc Cert.AdamWiUpIdeal.main_arg1)
          ∧ r.2.mem ((c.tc : Thread Cert.AdamWiUpIdeal.nD Cert.AdamWiUpIdeal.τ).loc Cert.AdamWiUpIdeal.main_arg2) = m ((c.tc : Thread Cert.AdamWiUpIdeal.nD Cert.AdamWiUpIdeal.τ).loc Cert.AdamWiUpIdeal.main_arg2)
          ∧ r.2.mem ((c.tc : Thread Cert.AdamWiUpIdeal.nD Cert.AdamWiUpIdeal.τ).loc Cert.AdamWiUpIdeal.main_arg3) = m ((c.tc : Thread Cert.AdamWiUpIdeal.nD Cert.AdamWiUpIdeal.τ).loc Cert.AdamWiUpIdeal.main_arg3))
      ∧ θ_run (Cert.AdamWiUpReferenceIdeal.defs (F := Ideal)) (onTc (τ := Cert.AdamWiUpReferenceIdeal.τ) (Cert.AdamWiUpReferenceIdeal.main (F := Ideal))) ⟨m', fun _ => 0, g'⟩ (fun r => ∀ c : Dev Cert.AdamWiUpReferenceIdeal.nD,
          r.2.mem ((c.tc : Thread Cert.AdamWiUpReferenceIdeal.nD Cert.AdamWiUpReferenceIdeal.τ).loc Cert.AdamWiUpReferenceIdeal.main_v24) = v0 c
          ∧ r.2.mem ((c.tc : Thread Cert.AdamWiUpReferenceIdeal.nD Cert.AdamWiUpReferenceIdeal.τ).loc Cert.AdamWiUpReferenceIdeal.main_v25) = v1 c
          ∧ r.2.mem ((c.tc : Thread Cert.AdamWiUpReferenceIdeal.nD Cert.AdamWiUpReferenceIdeal.τ).loc Cert.AdamWiUpReferenceIdeal.main_v26) = v2 c
          ∧ r.2.mem ((c.tc : Thread Cert.AdamWiUpReferenceIdeal.nD Cert.AdamWiUpReferenceIdeal.τ).loc Cert.AdamWiUpReferenceIdeal.main_v27) = v3 c
          ∧ r.2.mem ((c.tc : Thread Cert.AdamWiUpReferenceIdeal.nD Cert.AdamWiUpReferenceIdeal.τ).loc Cert.AdamWiUpReferenceIdeal.main_arg0) = m' ((c.tc : Thread Cert.AdamWiUpReferenceIdeal.nD Cert.AdamWiUpReferenceIdeal.τ).loc Cert.AdamWiUpReferenceIdeal.main_arg0)
          ∧ r.2.mem ((c.tc : Thread Cert.AdamWiUpReferenceIdeal.nD Cert.AdamWiUpReferenceIdeal.τ).loc Cert.AdamWiUpReferenceIdeal.main_arg1) = m' ((c.tc : Thread Cert.AdamWiUpReferenceIdeal.nD Cert.AdamWiUpReferenceIdeal.τ).loc Cert.AdamWiUpReferenceIdeal.main_arg1)
          ∧ r.2.mem ((c.tc : Thread Cert.AdamWiUpReferenceIdeal.nD Cert.AdamWiUpReferenceIdeal.τ).loc Cert.AdamWiUpReferenceIdeal.main_arg2) = m' ((c.tc : Thread Cert.AdamWiUpReferenceIdeal.nD Cert.AdamWiUpReferenceIdeal.τ).loc Cert.AdamWiUpReferenceIdeal.main_arg2)
          ∧ r.2.mem ((c.tc : Thread Cert.AdamWiUpReferenceIdeal.nD Cert.AdamWiUpReferenceIdeal.τ).loc Cert.AdamWiUpReferenceIdeal.main_arg3) = m' ((c.tc : Thread Cert.AdamWiUpReferenceIdeal.nD Cert.AdamWiUpReferenceIdeal.τ).loc Cert.AdamWiUpReferenceIdeal.main_arg3))

def preserves_AdamWiLow_AdamWiLowIdeal : Prop :=
  True

def algebraic_AdamWiLowIdeal_AdamWiLowReferenceIdeal [hAdamWiLowIdeal : Cert.AdamWiLowIdeal.Facts] [hAdamWiLowReferenceIdeal : Cert.AdamWiLowReferenceIdeal.Facts] : Prop :=
  ∀ (m : (ℓ : Loc Cert.AdamWiLowIdeal.nD Cert.AdamWiLowIdeal.τ Cert.AdamWiLowIdeal.sig) → Buf (Elt Ideal) ℓ) (g : Dev Cert.AdamWiLowIdeal.nD → PrngReg)
    (m' : (ℓ : Loc Cert.AdamWiLowReferenceIdeal.nD Cert.AdamWiLowReferenceIdeal.τ Cert.AdamWiLowReferenceIdeal.sig) → Buf (Elt Ideal) ℓ) (g' : Dev Cert.AdamWiLowReferenceIdeal.nD → PrngReg), Pre_AdamWiLowIdeal m →
    (∀ c : Dev Cert.AdamWiLowIdeal.nD,
      m' ((c.tc : Thread Cert.AdamWiLowReferenceIdeal.nD Cert.AdamWiLowReferenceIdeal.τ).loc Cert.AdamWiLowReferenceIdeal.main_arg0) = m ((c.tc : Thread Cert.AdamWiLowIdeal.nD Cert.AdamWiLowIdeal.τ).loc Cert.AdamWiLowIdeal.main_arg0)
      ∧ m' ((c.tc : Thread Cert.AdamWiLowReferenceIdeal.nD Cert.AdamWiLowReferenceIdeal.τ).loc Cert.AdamWiLowReferenceIdeal.main_arg1) = m ((c.tc : Thread Cert.AdamWiLowIdeal.nD Cert.AdamWiLowIdeal.τ).loc Cert.AdamWiLowIdeal.main_arg1)
      ∧ m' ((c.tc : Thread Cert.AdamWiLowReferenceIdeal.nD Cert.AdamWiLowReferenceIdeal.τ).loc Cert.AdamWiLowReferenceIdeal.main_arg2) = m ((c.tc : Thread Cert.AdamWiLowIdeal.nD Cert.AdamWiLowIdeal.τ).loc Cert.AdamWiLowIdeal.main_arg2)
      ∧ m' ((c.tc : Thread Cert.AdamWiLowReferenceIdeal.nD Cert.AdamWiLowReferenceIdeal.τ).loc Cert.AdamWiLowReferenceIdeal.main_arg3) = m ((c.tc : Thread Cert.AdamWiLowIdeal.nD Cert.AdamWiLowIdeal.τ).loc Cert.AdamWiLowIdeal.main_arg3)
      ∧ m' ((c.tc : Thread Cert.AdamWiLowReferenceIdeal.nD Cert.AdamWiLowReferenceIdeal.τ).loc Cert.AdamWiLowReferenceIdeal.main_arg4) = m ((c.tc : Thread Cert.AdamWiLowIdeal.nD Cert.AdamWiLowIdeal.τ).loc Cert.AdamWiLowIdeal.main_arg4)
      ∧ m' ((c.tc : Thread Cert.AdamWiLowReferenceIdeal.nD Cert.AdamWiLowReferenceIdeal.τ).loc Cert.AdamWiLowReferenceIdeal.main_arg5) = m ((c.tc : Thread Cert.AdamWiLowIdeal.nD Cert.AdamWiLowIdeal.τ).loc Cert.AdamWiLowIdeal.main_arg5)
      ∧ m' ((c.tc : Thread Cert.AdamWiLowReferenceIdeal.nD Cert.AdamWiLowReferenceIdeal.τ).loc Cert.AdamWiLowReferenceIdeal.main_arg6) = m ((c.tc : Thread Cert.AdamWiLowIdeal.nD Cert.AdamWiLowIdeal.τ).loc Cert.AdamWiLowIdeal.main_arg6)
      ∧ m' ((c.tc : Thread Cert.AdamWiLowReferenceIdeal.nD Cert.AdamWiLowReferenceIdeal.τ).loc Cert.AdamWiLowReferenceIdeal.main_arg7) = m ((c.tc : Thread Cert.AdamWiLowIdeal.nD Cert.AdamWiLowIdeal.τ).loc Cert.AdamWiLowIdeal.main_arg7)) →
    ∃ (v0 : (c : Dev Cert.AdamWiLowIdeal.nD) → Buf (Elt Ideal) ((c.tc : Thread Cert.AdamWiLowIdeal.nD Cert.AdamWiLowIdeal.τ).loc Cert.AdamWiLowIdeal.main_v0_0)) (v1 : (c : Dev Cert.AdamWiLowIdeal.nD) → Buf (Elt Ideal) ((c.tc : Thread Cert.AdamWiLowIdeal.nD Cert.AdamWiLowIdeal.τ).loc Cert.AdamWiLowIdeal.main_v0_1)) (v2 : (c : Dev Cert.AdamWiLowIdeal.nD) → Buf (Elt Ideal) ((c.tc : Thread Cert.AdamWiLowIdeal.nD Cert.AdamWiLowIdeal.τ).loc Cert.AdamWiLowIdeal.main_v0_2)) (v3 : (c : Dev Cert.AdamWiLowIdeal.nD) → Buf (Elt Ideal) ((c.tc : Thread Cert.AdamWiLowIdeal.nD Cert.AdamWiLowIdeal.τ).loc Cert.AdamWiLowIdeal.main_v0_3)),
      θ_run (Cert.AdamWiLowIdeal.defs (F := Ideal)) (onTc (τ := Cert.AdamWiLowIdeal.τ) (Cert.AdamWiLowIdeal.main (F := Ideal))) ⟨m, fun _ => 0, g⟩ (fun r => ∀ c : Dev Cert.AdamWiLowIdeal.nD,
          r.2.mem ((c.tc : Thread Cert.AdamWiLowIdeal.nD Cert.AdamWiLowIdeal.τ).loc Cert.AdamWiLowIdeal.main_v0_0) = v0 c
          ∧ r.2.mem ((c.tc : Thread Cert.AdamWiLowIdeal.nD Cert.AdamWiLowIdeal.τ).loc Cert.AdamWiLowIdeal.main_v0_1) = v1 c
          ∧ r.2.mem ((c.tc : Thread Cert.AdamWiLowIdeal.nD Cert.AdamWiLowIdeal.τ).loc Cert.AdamWiLowIdeal.main_v0_2) = v2 c
          ∧ r.2.mem ((c.tc : Thread Cert.AdamWiLowIdeal.nD Cert.AdamWiLowIdeal.τ).loc Cert.AdamWiLowIdeal.main_v0_3) = v3 c
          ∧ r.2.mem ((c.tc : Thread Cert.AdamWiLowIdeal.nD Cert.AdamWiLowIdeal.τ).loc Cert.AdamWiLowIdeal.main_arg0) = m ((c.tc : Thread Cert.AdamWiLowIdeal.nD Cert.AdamWiLowIdeal.τ).loc Cert.AdamWiLowIdeal.main_arg0)
          ∧ r.2.mem ((c.tc : Thread Cert.AdamWiLowIdeal.nD Cert.AdamWiLowIdeal.τ).loc Cert.AdamWiLowIdeal.main_arg1) = m ((c.tc : Thread Cert.AdamWiLowIdeal.nD Cert.AdamWiLowIdeal.τ).loc Cert.AdamWiLowIdeal.main_arg1)
          ∧ r.2.mem ((c.tc : Thread Cert.AdamWiLowIdeal.nD Cert.AdamWiLowIdeal.τ).loc Cert.AdamWiLowIdeal.main_arg2) = m ((c.tc : Thread Cert.AdamWiLowIdeal.nD Cert.AdamWiLowIdeal.τ).loc Cert.AdamWiLowIdeal.main_arg2)
          ∧ r.2.mem ((c.tc : Thread Cert.AdamWiLowIdeal.nD Cert.AdamWiLowIdeal.τ).loc Cert.AdamWiLowIdeal.main_arg3) = m ((c.tc : Thread Cert.AdamWiLowIdeal.nD Cert.AdamWiLowIdeal.τ).loc Cert.AdamWiLowIdeal.main_arg3)
          ∧ r.2.mem ((c.tc : Thread Cert.AdamWiLowIdeal.nD Cert.AdamWiLowIdeal.τ).loc Cert.AdamWiLowIdeal.main_arg4) = m ((c.tc : Thread Cert.AdamWiLowIdeal.nD Cert.AdamWiLowIdeal.τ).loc Cert.AdamWiLowIdeal.main_arg4)
          ∧ r.2.mem ((c.tc : Thread Cert.AdamWiLowIdeal.nD Cert.AdamWiLowIdeal.τ).loc Cert.AdamWiLowIdeal.main_arg5) = m ((c.tc : Thread Cert.AdamWiLowIdeal.nD Cert.AdamWiLowIdeal.τ).loc Cert.AdamWiLowIdeal.main_arg5)
          ∧ r.2.mem ((c.tc : Thread Cert.AdamWiLowIdeal.nD Cert.AdamWiLowIdeal.τ).loc Cert.AdamWiLowIdeal.main_arg6) = m ((c.tc : Thread Cert.AdamWiLowIdeal.nD Cert.AdamWiLowIdeal.τ).loc Cert.AdamWiLowIdeal.main_arg6)
          ∧ r.2.mem ((c.tc : Thread Cert.AdamWiLowIdeal.nD Cert.AdamWiLowIdeal.τ).loc Cert.AdamWiLowIdeal.main_arg7) = m ((c.tc : Thread Cert.AdamWiLowIdeal.nD Cert.AdamWiLowIdeal.τ).loc Cert.AdamWiLowIdeal.main_arg7))
      ∧ θ_run (Cert.AdamWiLowReferenceIdeal.defs (F := Ideal)) (onTc (τ := Cert.AdamWiLowReferenceIdeal.τ) (Cert.AdamWiLowReferenceIdeal.main (F := Ideal))) ⟨m', fun _ => 0, g'⟩ (fun r => ∀ c : Dev Cert.AdamWiLowReferenceIdeal.nD,
          r.2.mem ((c.tc : Thread Cert.AdamWiLowReferenceIdeal.nD Cert.AdamWiLowReferenceIdeal.τ).loc Cert.AdamWiLowReferenceIdeal.main_v26) = v0 c
          ∧ r.2.mem ((c.tc : Thread Cert.AdamWiLowReferenceIdeal.nD Cert.AdamWiLowReferenceIdeal.τ).loc Cert.AdamWiLowReferenceIdeal.main_v29) = v1 c
          ∧ r.2.mem ((c.tc : Thread Cert.AdamWiLowReferenceIdeal.nD Cert.AdamWiLowReferenceIdeal.τ).loc Cert.AdamWiLowReferenceIdeal.main_v32) = v2 c
          ∧ r.2.mem ((c.tc : Thread Cert.AdamWiLowReferenceIdeal.nD Cert.AdamWiLowReferenceIdeal.τ).loc Cert.AdamWiLowReferenceIdeal.main_v35) = v3 c
          ∧ r.2.mem ((c.tc : Thread Cert.AdamWiLowReferenceIdeal.nD Cert.AdamWiLowReferenceIdeal.τ).loc Cert.AdamWiLowReferenceIdeal.main_arg0) = m' ((c.tc : Thread Cert.AdamWiLowReferenceIdeal.nD Cert.AdamWiLowReferenceIdeal.τ).loc Cert.AdamWiLowReferenceIdeal.main_arg0)
          ∧ r.2.mem ((c.tc : Thread Cert.AdamWiLowReferenceIdeal.nD Cert.AdamWiLowReferenceIdeal.τ).loc Cert.AdamWiLowReferenceIdeal.main_arg1) = m' ((c.tc : Thread Cert.AdamWiLowReferenceIdeal.nD Cert.AdamWiLowReferenceIdeal.τ).loc Cert.AdamWiLowReferenceIdeal.main_arg1)
          ∧ r.2.mem ((c.tc : Thread Cert.AdamWiLowReferenceIdeal.nD Cert.AdamWiLowReferenceIdeal.τ).loc Cert.AdamWiLowReferenceIdeal.main_arg2) = m' ((c.tc : Thread Cert.AdamWiLowReferenceIdeal.nD Cert.AdamWiLowReferenceIdeal.τ).loc Cert.AdamWiLowReferenceIdeal.main_arg2)
          ∧ r.2.mem ((c.tc : Thread Cert.AdamWiLowReferenceIdeal.nD Cert.AdamWiLowReferenceIdeal.τ).loc Cert.AdamWiLowReferenceIdeal.main_arg3) = m' ((c.tc : Thread Cert.AdamWiLowReferenceIdeal.nD Cert.AdamWiLowReferenceIdeal.τ).loc Cert.AdamWiLowReferenceIdeal.main_arg3)
          ∧ r.2.mem ((c.tc : Thread Cert.AdamWiLowReferenceIdeal.nD Cert.AdamWiLowReferenceIdeal.τ).loc Cert.AdamWiLowReferenceIdeal.main_arg4) = m' ((c.tc : Thread Cert.AdamWiLowReferenceIdeal.nD Cert.AdamWiLowReferenceIdeal.τ).loc Cert.AdamWiLowReferenceIdeal.main_arg4)
          ∧ r.2.mem ((c.tc : Thread Cert.AdamWiLowReferenceIdeal.nD Cert.AdamWiLowReferenceIdeal.τ).loc Cert.AdamWiLowReferenceIdeal.main_arg5) = m' ((c.tc : Thread Cert.AdamWiLowReferenceIdeal.nD Cert.AdamWiLowReferenceIdeal.τ).loc Cert.AdamWiLowReferenceIdeal.main_arg5)
          ∧ r.2.mem ((c.tc : Thread Cert.AdamWiLowReferenceIdeal.nD Cert.AdamWiLowReferenceIdeal.τ).loc Cert.AdamWiLowReferenceIdeal.main_arg6) = m' ((c.tc : Thread Cert.AdamWiLowReferenceIdeal.nD Cert.AdamWiLowReferenceIdeal.τ).loc Cert.AdamWiLowReferenceIdeal.main_arg6)
          ∧ r.2.mem ((c.tc : Thread Cert.AdamWiLowReferenceIdeal.nD Cert.AdamWiLowReferenceIdeal.τ).loc Cert.AdamWiLowReferenceIdeal.main_arg7) = m' ((c.tc : Thread Cert.AdamWiLowReferenceIdeal.nD Cert.AdamWiLowReferenceIdeal.τ).loc Cert.AdamWiLowReferenceIdeal.main_arg7))

def preserves_AdamWoUp_AdamWoUpIdeal : Prop :=
  True

def algebraic_AdamWoUpIdeal_AdamWoUpReferenceIdeal [hAdamWoUpIdeal : Cert.AdamWoUpIdeal.Facts] [hAdamWoUpReferenceIdeal : Cert.AdamWoUpReferenceIdeal.Facts] : Prop :=
  ∀ (m : (ℓ : Loc Cert.AdamWoUpIdeal.nD Cert.AdamWoUpIdeal.τ Cert.AdamWoUpIdeal.sig) → Buf (Elt Ideal) ℓ) (g : Dev Cert.AdamWoUpIdeal.nD → PrngReg)
    (m' : (ℓ : Loc Cert.AdamWoUpReferenceIdeal.nD Cert.AdamWoUpReferenceIdeal.τ Cert.AdamWoUpReferenceIdeal.sig) → Buf (Elt Ideal) ℓ) (g' : Dev Cert.AdamWoUpReferenceIdeal.nD → PrngReg), Pre_AdamWoUpIdeal m →
    (∀ c : Dev Cert.AdamWoUpIdeal.nD,
      m' ((c.tc : Thread Cert.AdamWoUpReferenceIdeal.nD Cert.AdamWoUpReferenceIdeal.τ).loc Cert.AdamWoUpReferenceIdeal.main_arg0) = m ((c.tc : Thread Cert.AdamWoUpIdeal.nD Cert.AdamWoUpIdeal.τ).loc Cert.AdamWoUpIdeal.main_arg0)
      ∧ m' ((c.tc : Thread Cert.AdamWoUpReferenceIdeal.nD Cert.AdamWoUpReferenceIdeal.τ).loc Cert.AdamWoUpReferenceIdeal.main_arg1) = m ((c.tc : Thread Cert.AdamWoUpIdeal.nD Cert.AdamWoUpIdeal.τ).loc Cert.AdamWoUpIdeal.main_arg1)
      ∧ m' ((c.tc : Thread Cert.AdamWoUpReferenceIdeal.nD Cert.AdamWoUpReferenceIdeal.τ).loc Cert.AdamWoUpReferenceIdeal.main_arg2) = m ((c.tc : Thread Cert.AdamWoUpIdeal.nD Cert.AdamWoUpIdeal.τ).loc Cert.AdamWoUpIdeal.main_arg2)
      ∧ m' ((c.tc : Thread Cert.AdamWoUpReferenceIdeal.nD Cert.AdamWoUpReferenceIdeal.τ).loc Cert.AdamWoUpReferenceIdeal.main_arg3) = m ((c.tc : Thread Cert.AdamWoUpIdeal.nD Cert.AdamWoUpIdeal.τ).loc Cert.AdamWoUpIdeal.main_arg3)) →
    ∃ (v0 : (c : Dev Cert.AdamWoUpIdeal.nD) → Buf (Elt Ideal) ((c.tc : Thread Cert.AdamWoUpIdeal.nD Cert.AdamWoUpIdeal.τ).loc Cert.AdamWoUpIdeal.main_v1)) (v1 : (c : Dev Cert.AdamWoUpIdeal.nD) → Buf (Elt Ideal) ((c.tc : Thread Cert.AdamWoUpIdeal.nD Cert.AdamWoUpIdeal.τ).loc Cert.AdamWoUpIdeal.main_v2)) (v2 : (c : Dev Cert.AdamWoUpIdeal.nD) → Buf (Elt Ideal) ((c.tc : Thread Cert.AdamWoUpIdeal.nD Cert.AdamWoUpIdeal.τ).loc Cert.AdamWoUpIdeal.main_v3)) (v3 : (c : Dev Cert.AdamWoUpIdeal.nD) → Buf (Elt Ideal) ((c.tc : Thread Cert.AdamWoUpIdeal.nD Cert.AdamWoUpIdeal.τ).loc Cert.AdamWoUpIdeal.main_v4)),
      θ_run (Cert.AdamWoUpIdeal.defs (F := Ideal)) (onTc (τ := Cert.AdamWoUpIdeal.τ) (Cert.AdamWoUpIdeal.main (F := Ideal))) ⟨m, fun _ => 0, g⟩ (fun r => ∀ c : Dev Cert.AdamWoUpIdeal.nD,
          r.2.mem ((c.tc : Thread Cert.AdamWoUpIdeal.nD Cert.AdamWoUpIdeal.τ).loc Cert.AdamWoUpIdeal.main_v1) = v0 c
          ∧ r.2.mem ((c.tc : Thread Cert.AdamWoUpIdeal.nD Cert.AdamWoUpIdeal.τ).loc Cert.AdamWoUpIdeal.main_v2) = v1 c
          ∧ r.2.mem ((c.tc : Thread Cert.AdamWoUpIdeal.nD Cert.AdamWoUpIdeal.τ).loc Cert.AdamWoUpIdeal.main_v3) = v2 c
          ∧ r.2.mem ((c.tc : Thread Cert.AdamWoUpIdeal.nD Cert.AdamWoUpIdeal.τ).loc Cert.AdamWoUpIdeal.main_v4) = v3 c
          ∧ r.2.mem ((c.tc : Thread Cert.AdamWoUpIdeal.nD Cert.AdamWoUpIdeal.τ).loc Cert.AdamWoUpIdeal.main_arg0) = m ((c.tc : Thread Cert.AdamWoUpIdeal.nD Cert.AdamWoUpIdeal.τ).loc Cert.AdamWoUpIdeal.main_arg0)
          ∧ r.2.mem ((c.tc : Thread Cert.AdamWoUpIdeal.nD Cert.AdamWoUpIdeal.τ).loc Cert.AdamWoUpIdeal.main_arg1) = m ((c.tc : Thread Cert.AdamWoUpIdeal.nD Cert.AdamWoUpIdeal.τ).loc Cert.AdamWoUpIdeal.main_arg1)
          ∧ r.2.mem ((c.tc : Thread Cert.AdamWoUpIdeal.nD Cert.AdamWoUpIdeal.τ).loc Cert.AdamWoUpIdeal.main_arg2) = m ((c.tc : Thread Cert.AdamWoUpIdeal.nD Cert.AdamWoUpIdeal.τ).loc Cert.AdamWoUpIdeal.main_arg2)
          ∧ r.2.mem ((c.tc : Thread Cert.AdamWoUpIdeal.nD Cert.AdamWoUpIdeal.τ).loc Cert.AdamWoUpIdeal.main_arg3) = m ((c.tc : Thread Cert.AdamWoUpIdeal.nD Cert.AdamWoUpIdeal.τ).loc Cert.AdamWoUpIdeal.main_arg3))
      ∧ θ_run (Cert.AdamWoUpReferenceIdeal.defs (F := Ideal)) (onTc (τ := Cert.AdamWoUpReferenceIdeal.τ) (Cert.AdamWoUpReferenceIdeal.main (F := Ideal))) ⟨m', fun _ => 0, g'⟩ (fun r => ∀ c : Dev Cert.AdamWoUpReferenceIdeal.nD,
          r.2.mem ((c.tc : Thread Cert.AdamWoUpReferenceIdeal.nD Cert.AdamWoUpReferenceIdeal.τ).loc Cert.AdamWoUpReferenceIdeal.main_v24) = v0 c
          ∧ r.2.mem ((c.tc : Thread Cert.AdamWoUpReferenceIdeal.nD Cert.AdamWoUpReferenceIdeal.τ).loc Cert.AdamWoUpReferenceIdeal.main_v25) = v1 c
          ∧ r.2.mem ((c.tc : Thread Cert.AdamWoUpReferenceIdeal.nD Cert.AdamWoUpReferenceIdeal.τ).loc Cert.AdamWoUpReferenceIdeal.main_v26) = v2 c
          ∧ r.2.mem ((c.tc : Thread Cert.AdamWoUpReferenceIdeal.nD Cert.AdamWoUpReferenceIdeal.τ).loc Cert.AdamWoUpReferenceIdeal.main_v27) = v3 c
          ∧ r.2.mem ((c.tc : Thread Cert.AdamWoUpReferenceIdeal.nD Cert.AdamWoUpReferenceIdeal.τ).loc Cert.AdamWoUpReferenceIdeal.main_arg0) = m' ((c.tc : Thread Cert.AdamWoUpReferenceIdeal.nD Cert.AdamWoUpReferenceIdeal.τ).loc Cert.AdamWoUpReferenceIdeal.main_arg0)
          ∧ r.2.mem ((c.tc : Thread Cert.AdamWoUpReferenceIdeal.nD Cert.AdamWoUpReferenceIdeal.τ).loc Cert.AdamWoUpReferenceIdeal.main_arg1) = m' ((c.tc : Thread Cert.AdamWoUpReferenceIdeal.nD Cert.AdamWoUpReferenceIdeal.τ).loc Cert.AdamWoUpReferenceIdeal.main_arg1)
          ∧ r.2.mem ((c.tc : Thread Cert.AdamWoUpReferenceIdeal.nD Cert.AdamWoUpReferenceIdeal.τ).loc Cert.AdamWoUpReferenceIdeal.main_arg2) = m' ((c.tc : Thread Cert.AdamWoUpReferenceIdeal.nD Cert.AdamWoUpReferenceIdeal.τ).loc Cert.AdamWoUpReferenceIdeal.main_arg2)
          ∧ r.2.mem ((c.tc : Thread Cert.AdamWoUpReferenceIdeal.nD Cert.AdamWoUpReferenceIdeal.τ).loc Cert.AdamWoUpReferenceIdeal.main_arg3) = m' ((c.tc : Thread Cert.AdamWoUpReferenceIdeal.nD Cert.AdamWoUpReferenceIdeal.τ).loc Cert.AdamWoUpReferenceIdeal.main_arg3))

def preserves_AdamWoLow_AdamWoLowIdeal : Prop :=
  True

def algebraic_AdamWoLowIdeal_AdamWoLowReferenceIdeal [hAdamWoLowIdeal : Cert.AdamWoLowIdeal.Facts] [hAdamWoLowReferenceIdeal : Cert.AdamWoLowReferenceIdeal.Facts] : Prop :=
  ∀ (m : (ℓ : Loc Cert.AdamWoLowIdeal.nD Cert.AdamWoLowIdeal.τ Cert.AdamWoLowIdeal.sig) → Buf (Elt Ideal) ℓ) (g : Dev Cert.AdamWoLowIdeal.nD → PrngReg)
    (m' : (ℓ : Loc Cert.AdamWoLowReferenceIdeal.nD Cert.AdamWoLowReferenceIdeal.τ Cert.AdamWoLowReferenceIdeal.sig) → Buf (Elt Ideal) ℓ) (g' : Dev Cert.AdamWoLowReferenceIdeal.nD → PrngReg), Pre_AdamWoLowIdeal m →
    (∀ c : Dev Cert.AdamWoLowIdeal.nD,
      m' ((c.tc : Thread Cert.AdamWoLowReferenceIdeal.nD Cert.AdamWoLowReferenceIdeal.τ).loc Cert.AdamWoLowReferenceIdeal.main_arg0) = m ((c.tc : Thread Cert.AdamWoLowIdeal.nD Cert.AdamWoLowIdeal.τ).loc Cert.AdamWoLowIdeal.main_arg0)
      ∧ m' ((c.tc : Thread Cert.AdamWoLowReferenceIdeal.nD Cert.AdamWoLowReferenceIdeal.τ).loc Cert.AdamWoLowReferenceIdeal.main_arg1) = m ((c.tc : Thread Cert.AdamWoLowIdeal.nD Cert.AdamWoLowIdeal.τ).loc Cert.AdamWoLowIdeal.main_arg1)
      ∧ m' ((c.tc : Thread Cert.AdamWoLowReferenceIdeal.nD Cert.AdamWoLowReferenceIdeal.τ).loc Cert.AdamWoLowReferenceIdeal.main_arg2) = m ((c.tc : Thread Cert.AdamWoLowIdeal.nD Cert.AdamWoLowIdeal.τ).loc Cert.AdamWoLowIdeal.main_arg2)
      ∧ m' ((c.tc : Thread Cert.AdamWoLowReferenceIdeal.nD Cert.AdamWoLowReferenceIdeal.τ).loc Cert.AdamWoLowReferenceIdeal.main_arg3) = m ((c.tc : Thread Cert.AdamWoLowIdeal.nD Cert.AdamWoLowIdeal.τ).loc Cert.AdamWoLowIdeal.main_arg3)
      ∧ m' ((c.tc : Thread Cert.AdamWoLowReferenceIdeal.nD Cert.AdamWoLowReferenceIdeal.τ).loc Cert.AdamWoLowReferenceIdeal.main_arg4) = m ((c.tc : Thread Cert.AdamWoLowIdeal.nD Cert.AdamWoLowIdeal.τ).loc Cert.AdamWoLowIdeal.main_arg4)
      ∧ m' ((c.tc : Thread Cert.AdamWoLowReferenceIdeal.nD Cert.AdamWoLowReferenceIdeal.τ).loc Cert.AdamWoLowReferenceIdeal.main_arg5) = m ((c.tc : Thread Cert.AdamWoLowIdeal.nD Cert.AdamWoLowIdeal.τ).loc Cert.AdamWoLowIdeal.main_arg5)
      ∧ m' ((c.tc : Thread Cert.AdamWoLowReferenceIdeal.nD Cert.AdamWoLowReferenceIdeal.τ).loc Cert.AdamWoLowReferenceIdeal.main_arg6) = m ((c.tc : Thread Cert.AdamWoLowIdeal.nD Cert.AdamWoLowIdeal.τ).loc Cert.AdamWoLowIdeal.main_arg6)
      ∧ m' ((c.tc : Thread Cert.AdamWoLowReferenceIdeal.nD Cert.AdamWoLowReferenceIdeal.τ).loc Cert.AdamWoLowReferenceIdeal.main_arg7) = m ((c.tc : Thread Cert.AdamWoLowIdeal.nD Cert.AdamWoLowIdeal.τ).loc Cert.AdamWoLowIdeal.main_arg7)) →
    ∃ (v0 : (c : Dev Cert.AdamWoLowIdeal.nD) → Buf (Elt Ideal) ((c.tc : Thread Cert.AdamWoLowIdeal.nD Cert.AdamWoLowIdeal.τ).loc Cert.AdamWoLowIdeal.main_v0_0)) (v1 : (c : Dev Cert.AdamWoLowIdeal.nD) → Buf (Elt Ideal) ((c.tc : Thread Cert.AdamWoLowIdeal.nD Cert.AdamWoLowIdeal.τ).loc Cert.AdamWoLowIdeal.main_v0_1)) (v2 : (c : Dev Cert.AdamWoLowIdeal.nD) → Buf (Elt Ideal) ((c.tc : Thread Cert.AdamWoLowIdeal.nD Cert.AdamWoLowIdeal.τ).loc Cert.AdamWoLowIdeal.main_v0_2)) (v3 : (c : Dev Cert.AdamWoLowIdeal.nD) → Buf (Elt Ideal) ((c.tc : Thread Cert.AdamWoLowIdeal.nD Cert.AdamWoLowIdeal.τ).loc Cert.AdamWoLowIdeal.main_v0_3)),
      θ_run (Cert.AdamWoLowIdeal.defs (F := Ideal)) (onTc (τ := Cert.AdamWoLowIdeal.τ) (Cert.AdamWoLowIdeal.main (F := Ideal))) ⟨m, fun _ => 0, g⟩ (fun r => ∀ c : Dev Cert.AdamWoLowIdeal.nD,
          r.2.mem ((c.tc : Thread Cert.AdamWoLowIdeal.nD Cert.AdamWoLowIdeal.τ).loc Cert.AdamWoLowIdeal.main_v0_0) = v0 c
          ∧ r.2.mem ((c.tc : Thread Cert.AdamWoLowIdeal.nD Cert.AdamWoLowIdeal.τ).loc Cert.AdamWoLowIdeal.main_v0_1) = v1 c
          ∧ r.2.mem ((c.tc : Thread Cert.AdamWoLowIdeal.nD Cert.AdamWoLowIdeal.τ).loc Cert.AdamWoLowIdeal.main_v0_2) = v2 c
          ∧ r.2.mem ((c.tc : Thread Cert.AdamWoLowIdeal.nD Cert.AdamWoLowIdeal.τ).loc Cert.AdamWoLowIdeal.main_v0_3) = v3 c
          ∧ r.2.mem ((c.tc : Thread Cert.AdamWoLowIdeal.nD Cert.AdamWoLowIdeal.τ).loc Cert.AdamWoLowIdeal.main_arg0) = m ((c.tc : Thread Cert.AdamWoLowIdeal.nD Cert.AdamWoLowIdeal.τ).loc Cert.AdamWoLowIdeal.main_arg0)
          ∧ r.2.mem ((c.tc : Thread Cert.AdamWoLowIdeal.nD Cert.AdamWoLowIdeal.τ).loc Cert.AdamWoLowIdeal.main_arg1) = m ((c.tc : Thread Cert.AdamWoLowIdeal.nD Cert.AdamWoLowIdeal.τ).loc Cert.AdamWoLowIdeal.main_arg1)
          ∧ r.2.mem ((c.tc : Thread Cert.AdamWoLowIdeal.nD Cert.AdamWoLowIdeal.τ).loc Cert.AdamWoLowIdeal.main_arg2) = m ((c.tc : Thread Cert.AdamWoLowIdeal.nD Cert.AdamWoLowIdeal.τ).loc Cert.AdamWoLowIdeal.main_arg2)
          ∧ r.2.mem ((c.tc : Thread Cert.AdamWoLowIdeal.nD Cert.AdamWoLowIdeal.τ).loc Cert.AdamWoLowIdeal.main_arg3) = m ((c.tc : Thread Cert.AdamWoLowIdeal.nD Cert.AdamWoLowIdeal.τ).loc Cert.AdamWoLowIdeal.main_arg3)
          ∧ r.2.mem ((c.tc : Thread Cert.AdamWoLowIdeal.nD Cert.AdamWoLowIdeal.τ).loc Cert.AdamWoLowIdeal.main_arg4) = m ((c.tc : Thread Cert.AdamWoLowIdeal.nD Cert.AdamWoLowIdeal.τ).loc Cert.AdamWoLowIdeal.main_arg4)
          ∧ r.2.mem ((c.tc : Thread Cert.AdamWoLowIdeal.nD Cert.AdamWoLowIdeal.τ).loc Cert.AdamWoLowIdeal.main_arg5) = m ((c.tc : Thread Cert.AdamWoLowIdeal.nD Cert.AdamWoLowIdeal.τ).loc Cert.AdamWoLowIdeal.main_arg5)
          ∧ r.2.mem ((c.tc : Thread Cert.AdamWoLowIdeal.nD Cert.AdamWoLowIdeal.τ).loc Cert.AdamWoLowIdeal.main_arg6) = m ((c.tc : Thread Cert.AdamWoLowIdeal.nD Cert.AdamWoLowIdeal.τ).loc Cert.AdamWoLowIdeal.main_arg6)
          ∧ r.2.mem ((c.tc : Thread Cert.AdamWoLowIdeal.nD Cert.AdamWoLowIdeal.τ).loc Cert.AdamWoLowIdeal.main_arg7) = m ((c.tc : Thread Cert.AdamWoLowIdeal.nD Cert.AdamWoLowIdeal.τ).loc Cert.AdamWoLowIdeal.main_arg7))
      ∧ θ_run (Cert.AdamWoLowReferenceIdeal.defs (F := Ideal)) (onTc (τ := Cert.AdamWoLowReferenceIdeal.τ) (Cert.AdamWoLowReferenceIdeal.main (F := Ideal))) ⟨m', fun _ => 0, g'⟩ (fun r => ∀ c : Dev Cert.AdamWoLowReferenceIdeal.nD,
          r.2.mem ((c.tc : Thread Cert.AdamWoLowReferenceIdeal.nD Cert.AdamWoLowReferenceIdeal.τ).loc Cert.AdamWoLowReferenceIdeal.main_v26) = v0 c
          ∧ r.2.mem ((c.tc : Thread Cert.AdamWoLowReferenceIdeal.nD Cert.AdamWoLowReferenceIdeal.τ).loc Cert.AdamWoLowReferenceIdeal.main_v29) = v1 c
          ∧ r.2.mem ((c.tc : Thread Cert.AdamWoLowReferenceIdeal.nD Cert.AdamWoLowReferenceIdeal.τ).loc Cert.AdamWoLowReferenceIdeal.main_v32) = v2 c
          ∧ r.2.mem ((c.tc : Thread Cert.AdamWoLowReferenceIdeal.nD Cert.AdamWoLowReferenceIdeal.τ).loc Cert.AdamWoLowReferenceIdeal.main_v35) = v3 c
          ∧ r.2.mem ((c.tc : Thread Cert.AdamWoLowReferenceIdeal.nD Cert.AdamWoLowReferenceIdeal.τ).loc Cert.AdamWoLowReferenceIdeal.main_arg0) = m' ((c.tc : Thread Cert.AdamWoLowReferenceIdeal.nD Cert.AdamWoLowReferenceIdeal.τ).loc Cert.AdamWoLowReferenceIdeal.main_arg0)
          ∧ r.2.mem ((c.tc : Thread Cert.AdamWoLowReferenceIdeal.nD Cert.AdamWoLowReferenceIdeal.τ).loc Cert.AdamWoLowReferenceIdeal.main_arg1) = m' ((c.tc : Thread Cert.AdamWoLowReferenceIdeal.nD Cert.AdamWoLowReferenceIdeal.τ).loc Cert.AdamWoLowReferenceIdeal.main_arg1)
          ∧ r.2.mem ((c.tc : Thread Cert.AdamWoLowReferenceIdeal.nD Cert.AdamWoLowReferenceIdeal.τ).loc Cert.AdamWoLowReferenceIdeal.main_arg2) = m' ((c.tc : Thread Cert.AdamWoLowReferenceIdeal.nD Cert.AdamWoLowReferenceIdeal.τ).loc Cert.AdamWoLowReferenceIdeal.main_arg2)
          ∧ r.2.mem ((c.tc : Thread Cert.AdamWoLowReferenceIdeal.nD Cert.AdamWoLowReferenceIdeal.τ).loc Cert.AdamWoLowReferenceIdeal.main_arg3) = m' ((c.tc : Thread Cert.AdamWoLowReferenceIdeal.nD Cert.AdamWoLowReferenceIdeal.τ).loc Cert.AdamWoLowReferenceIdeal.main_arg3)
          ∧ r.2.mem ((c.tc : Thread Cert.AdamWoLowReferenceIdeal.nD Cert.AdamWoLowReferenceIdeal.τ).loc Cert.AdamWoLowReferenceIdeal.main_arg4) = m' ((c.tc : Thread Cert.AdamWoLowReferenceIdeal.nD Cert.AdamWoLowReferenceIdeal.τ).loc Cert.AdamWoLowReferenceIdeal.main_arg4)
          ∧ r.2.mem ((c.tc : Thread Cert.AdamWoLowReferenceIdeal.nD Cert.AdamWoLowReferenceIdeal.τ).loc Cert.AdamWoLowReferenceIdeal.main_arg5) = m' ((c.tc : Thread Cert.AdamWoLowReferenceIdeal.nD Cert.AdamWoLowReferenceIdeal.τ).loc Cert.AdamWoLowReferenceIdeal.main_arg5)
          ∧ r.2.mem ((c.tc : Thread Cert.AdamWoLowReferenceIdeal.nD Cert.AdamWoLowReferenceIdeal.τ).loc Cert.AdamWoLowReferenceIdeal.main_arg6) = m' ((c.tc : Thread Cert.AdamWoLowReferenceIdeal.nD Cert.AdamWoLowReferenceIdeal.τ).loc Cert.AdamWoLowReferenceIdeal.main_arg6)
          ∧ r.2.mem ((c.tc : Thread Cert.AdamWoLowReferenceIdeal.nD Cert.AdamWoLowReferenceIdeal.τ).loc Cert.AdamWoLowReferenceIdeal.main_arg7) = m' ((c.tc : Thread Cert.AdamWoLowReferenceIdeal.nD Cert.AdamWoLowReferenceIdeal.τ).loc Cert.AdamWoLowReferenceIdeal.main_arg7))

def preserves_CrossF_CrossFIdeal : Prop :=
  True

def algebraic_CrossFIdeal_CrossFReferenceIdeal [hCrossFIdeal : Cert.CrossFIdeal.Facts] [hCrossFReferenceIdeal : Cert.CrossFReferenceIdeal.Facts] : Prop :=
  ∀ (m : (ℓ : Loc Cert.CrossFIdeal.nD Cert.CrossFIdeal.τ Cert.CrossFIdeal.sig) → Buf (Elt Ideal) ℓ) (g : Dev Cert.CrossFIdeal.nD → PrngReg)
    (m' : (ℓ : Loc Cert.CrossFReferenceIdeal.nD Cert.CrossFReferenceIdeal.τ Cert.CrossFReferenceIdeal.sig) → Buf (Elt Ideal) ℓ) (g' : Dev Cert.CrossFReferenceIdeal.nD → PrngReg), Pre_CrossFIdeal m →
    (∀ c : Dev Cert.CrossFIdeal.nD,
      m' ((c.tc : Thread Cert.CrossFReferenceIdeal.nD Cert.CrossFReferenceIdeal.τ).loc Cert.CrossFReferenceIdeal.main_arg0) = m ((c.tc : Thread Cert.CrossFIdeal.nD Cert.CrossFIdeal.τ).loc Cert.CrossFIdeal.main_arg0)
      ∧ m' ((c.tc : Thread Cert.CrossFReferenceIdeal.nD Cert.CrossFReferenceIdeal.τ).loc Cert.CrossFReferenceIdeal.main_arg1) = m ((c.tc : Thread Cert.CrossFIdeal.nD Cert.CrossFIdeal.τ).loc Cert.CrossFIdeal.main_arg1)) →
    ∃ (v0 : (c : Dev Cert.CrossFIdeal.nD) → Buf (Elt Ideal) ((c.tc : Thread Cert.CrossFIdeal.nD Cert.CrossFIdeal.τ).loc Cert.CrossFIdeal.main_v0)),
      θ_run (Cert.CrossFIdeal.defs (F := Ideal)) (onTc (τ := Cert.CrossFIdeal.τ) (Cert.CrossFIdeal.main (F := Ideal))) ⟨m, fun _ => 0, g⟩ (fun r => ∀ c : Dev Cert.CrossFIdeal.nD,
          r.2.mem ((c.tc : Thread Cert.CrossFIdeal.nD Cert.CrossFIdeal.τ).loc Cert.CrossFIdeal.main_v0) = v0 c
          ∧ r.2.mem ((c.tc : Thread Cert.CrossFIdeal.nD Cert.CrossFIdeal.τ).loc Cert.CrossFIdeal.main_arg0) = m ((c.tc : Thread Cert.CrossFIdeal.nD Cert.CrossFIdeal.τ).loc Cert.CrossFIdeal.main_arg0)
          ∧ r.2.mem ((c.tc : Thread Cert.CrossFIdeal.nD Cert.CrossFIdeal.τ).loc Cert.CrossFIdeal.main_arg1) = m ((c.tc : Thread Cert.CrossFIdeal.nD Cert.CrossFIdeal.τ).loc Cert.CrossFIdeal.main_arg1))
      ∧ θ_run (Cert.CrossFReferenceIdeal.defs (F := Ideal)) (onTc (τ := Cert.CrossFReferenceIdeal.τ) (Cert.CrossFReferenceIdeal.main (F := Ideal))) ⟨m', fun _ => 0, g'⟩ (fun r => ∀ c : Dev Cert.CrossFReferenceIdeal.nD,
          r.2.mem ((c.tc : Thread Cert.CrossFReferenceIdeal.nD Cert.CrossFReferenceIdeal.τ).loc Cert.CrossFReferenceIdeal.main_v24) = v0 c
          ∧ r.2.mem ((c.tc : Thread Cert.CrossFReferenceIdeal.nD Cert.CrossFReferenceIdeal.τ).loc Cert.CrossFReferenceIdeal.main_arg0) = m' ((c.tc : Thread Cert.CrossFReferenceIdeal.nD Cert.CrossFReferenceIdeal.τ).loc Cert.CrossFReferenceIdeal.main_arg0)
          ∧ r.2.mem ((c.tc : Thread Cert.CrossFReferenceIdeal.nD Cert.CrossFReferenceIdeal.τ).loc Cert.CrossFReferenceIdeal.main_arg1) = m' ((c.tc : Thread Cert.CrossFReferenceIdeal.nD Cert.CrossFReferenceIdeal.τ).loc Cert.CrossFReferenceIdeal.main_arg1))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v14) = v0 c
          ∧ r.2.mem ((c.tc : Thread Cert.LossHeadReferenceIdeal.nD Cert.LossHeadReferenceIdeal.τ).loc Cert.LossHeadReferenceIdeal.main_v15) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_CrossB_CrossBIdeal : Prop :=
  True

def algebraic_CrossBIdeal_CrossBReferenceIdeal_pre_cross_bwd_finite [hCrossBIdeal : Cert.CrossBIdeal.Facts] [hCrossBReferenceIdeal : Cert.CrossBReferenceIdeal.Facts] [hPre_cross_bwd_finite : Cert.Pre_cross_bwd_finite.Facts] : Prop :=
  ∀ (m : (ℓ : Loc Cert.CrossBIdeal.nD Cert.CrossBIdeal.τ Cert.CrossBIdeal.sig) → Buf (Elt Ideal) ℓ) (g : Dev Cert.CrossBIdeal.nD → PrngReg)
    (m' : (ℓ : Loc Cert.CrossBReferenceIdeal.nD Cert.CrossBReferenceIdeal.τ Cert.CrossBReferenceIdeal.sig) → Buf (Elt Ideal) ℓ) (g' : Dev Cert.CrossBReferenceIdeal.nD → PrngReg), Pre_CrossBIdeal_cross_bwd_finite m →
    (∀ c : Dev Cert.CrossBIdeal.nD,
      m' ((c.tc : Thread Cert.CrossBReferenceIdeal.nD Cert.CrossBReferenceIdeal.τ).loc Cert.CrossBReferenceIdeal.main_arg0) = m ((c.tc : Thread Cert.CrossBIdeal.nD Cert.CrossBIdeal.τ).loc Cert.CrossBIdeal.main_arg0)
      ∧ m' ((c.tc : Thread Cert.CrossBReferenceIdeal.nD Cert.CrossBReferenceIdeal.τ).loc Cert.CrossBReferenceIdeal.main_arg1) = m ((c.tc : Thread Cert.CrossBIdeal.nD Cert.CrossBIdeal.τ).loc Cert.CrossBIdeal.main_arg1)
      ∧ m' ((c.tc : Thread Cert.CrossBReferenceIdeal.nD Cert.CrossBReferenceIdeal.τ).loc Cert.CrossBReferenceIdeal.main_arg2) = m ((c.tc : Thread Cert.CrossBIdeal.nD Cert.CrossBIdeal.τ).loc Cert.CrossBIdeal.main_arg2)) →
    ∃ (v0 : (c : Dev Cert.CrossBIdeal.nD) → Buf (Elt Ideal) ((c.tc : Thread Cert.CrossBIdeal.nD Cert.CrossBIdeal.τ).loc Cert.CrossBIdeal.main_v0_0)) (v1 : (c : Dev Cert.CrossBIdeal.nD) → Buf (Elt Ideal) ((c.tc : Thread Cert.CrossBIdeal.nD Cert.CrossBIdeal.τ).loc Cert.CrossBIdeal.main_v0_1)),
      θ_run (Cert.CrossBIdeal.defs (F := Ideal)) (onTc (τ := Cert.CrossBIdeal.τ) (Cert.CrossBIdeal.main (F := Ideal))) ⟨m, fun _ => 0, g⟩ (fun r => ∀ c : Dev Cert.CrossBIdeal.nD,
          r.2.mem ((c.tc : Thread Cert.CrossBIdeal.nD Cert.CrossBIdeal.τ).loc Cert.CrossBIdeal.main_v0_0) = v0 c
          ∧ r.2.mem ((c.tc : Thread Cert.CrossBIdeal.nD Cert.CrossBIdeal.τ).loc Cert.CrossBIdeal.main_v0_1) = v1 c
          ∧ r.2.mem ((c.tc : Thread Cert.CrossBIdeal.nD Cert.CrossBIdeal.τ).loc Cert.CrossBIdeal.main_arg0) = m ((c.tc : Thread Cert.CrossBIdeal.nD Cert.CrossBIdeal.τ).loc Cert.CrossBIdeal.main_arg0)
          ∧ r.2.mem ((c.tc : Thread Cert.CrossBIdeal.nD Cert.CrossBIdeal.τ).loc Cert.CrossBIdeal.main_arg1) = m ((c.tc : Thread Cert.CrossBIdeal.nD Cert.CrossBIdeal.τ).loc Cert.CrossBIdeal.main_arg1)
          ∧ r.2.mem ((c.tc : Thread Cert.CrossBIdeal.nD Cert.CrossBIdeal.τ).loc Cert.CrossBIdeal.main_arg2) = m ((c.tc : Thread Cert.CrossBIdeal.nD Cert.CrossBIdeal.τ).loc Cert.CrossBIdeal.main_arg2))
      ∧ θ_run (Cert.CrossBReferenceIdeal.defs (F := Ideal)) (onTc (τ := Cert.CrossBReferenceIdeal.τ) (Cert.CrossBReferenceIdeal.main (F := Ideal))) ⟨m', fun _ => 0, g'⟩ (fun r => ∀ c : Dev Cert.CrossBReferenceIdeal.nD,
          r.2.mem ((c.tc : Thread Cert.CrossBReferenceIdeal.nD Cert.CrossBReferenceIdeal.τ).loc Cert.CrossBReferenceIdeal.main_v69) = v0 c
          ∧ r.2.mem ((c.tc : Thread Cert.CrossBReferenceIdeal.nD Cert.CrossBReferenceIdeal.τ).loc Cert.CrossBReferenceIdeal.main_v67) = v1 c
          ∧ r.2.mem ((c.tc : Thread Cert.CrossBReferenceIdeal.nD Cert.CrossBReferenceIdeal.τ).loc Cert.CrossBReferenceIdeal.main_arg0) = m' ((c.tc : Thread Cert.CrossBReferenceIdeal.nD Cert.CrossBReferenceIdeal.τ).loc Cert.CrossBReferenceIdeal.main_arg0)
          ∧ r.2.mem ((c.tc : Thread Cert.CrossBReferenceIdeal.nD Cert.CrossBReferenceIdeal.τ).loc Cert.CrossBReferenceIdeal.main_arg1) = m' ((c.tc : Thread Cert.CrossBReferenceIdeal.nD Cert.CrossBReferenceIdeal.τ).loc Cert.CrossBReferenceIdeal.main_arg1)
          ∧ r.2.mem ((c.tc : Thread Cert.CrossBReferenceIdeal.nD Cert.CrossBReferenceIdeal.τ).loc Cert.CrossBReferenceIdeal.main_arg2) = m' ((c.tc : Thread Cert.CrossBReferenceIdeal.nD Cert.CrossBReferenceIdeal.τ).loc Cert.CrossBReferenceIdeal.main_arg2))

def Claim : Prop :=
  ∃ (hProj : Cert.Proj.Facts) (hProjIdeal : Cert.ProjIdeal.Facts) (hProjReferenceIdeal : Cert.ProjReferenceIdeal.Facts) (hBrRnn : Cert.BrRnn.Facts) (hBrRnnIdeal : Cert.BrRnnIdeal.Facts) (hBrRnnReferenceIdeal : Cert.BrRnnReferenceIdeal.Facts) (hBrAttn : Cert.BrAttn.Facts) (hBrAttnIdeal : Cert.BrAttnIdeal.Facts) (hBrAttnReferenceIdeal : Cert.BrAttnReferenceIdeal.Facts) (hCq : Cert.Cq.Facts) (hCqIdeal : Cert.CqIdeal.Facts) (hCqReferenceIdeal : Cert.CqReferenceIdeal.Facts) (hCkv : Cert.Ckv.Facts) (hCkvIdeal : Cert.CkvIdeal.Facts) (hCkvReferenceIdeal : Cert.CkvReferenceIdeal.Facts) (hFfnWi : Cert.FfnWi.Facts) (hFfnWiIdeal : Cert.FfnWiIdeal.Facts) (hFfnWiReferenceIdeal : Cert.FfnWiReferenceIdeal.Facts) (hDact : Cert.Dact.Facts) (hDactIdeal : Cert.DactIdeal.Facts) (hDactReferenceIdeal : Cert.DactReferenceIdeal.Facts) (hDh2 : Cert.Dh2.Facts) (hDh2Ideal : Cert.Dh2Ideal.Facts) (hDh2ReferenceIdeal : Cert.Dh2ReferenceIdeal.Facts) (hDo : Cert.Do.Facts) (hDoIdeal : Cert.DoIdeal.Facts) (hDoReferenceIdeal : Cert.DoReferenceIdeal.Facts) (hDh1 : Cert.Dh1.Facts) (hDh1Ideal : Cert.Dh1Ideal.Facts) (hDh1ReferenceIdeal : Cert.Dh1ReferenceIdeal.Facts) (hDmerged : Cert.Dmerged.Facts) (hDmergedIdeal : Cert.DmergedIdeal.Facts) (hDmergedReferenceIdeal : Cert.DmergedReferenceIdeal.Facts) (hDh : Cert.Dh.Facts) (hDhIdeal : Cert.DhIdeal.Facts) (hDhReferenceIdeal : Cert.DhReferenceIdeal.Facts) (hDFfnWo : Cert.DFfnWo.Facts) (hDFfnWoIdeal : Cert.DFfnWoIdeal.Facts) (hDFfnWoReferenceIdeal : Cert.DFfnWoReferenceIdeal.Facts) (hDFfnWi : Cert.DFfnWi.Facts) (hDFfnWiIdeal : Cert.DFfnWiIdeal.Facts) (hDFfnWiReferenceIdeal : Cert.DFfnWiReferenceIdeal.Facts) (hDco : Cert.Dco.Facts) (hDcoIdeal : Cert.DcoIdeal.Facts) (hDcoReferenceIdeal : Cert.DcoReferenceIdeal.Facts) (hDcq : Cert.Dcq.Facts) (hDcqIdeal : Cert.DcqIdeal.Facts) (hDcqReferenceIdeal : Cert.DcqReferenceIdeal.Facts) (hDckv : Cert.Dckv.Facts) (hDckvIdeal : Cert.DckvIdeal.Facts) (hDckvReferenceIdeal : Cert.DckvReferenceIdeal.Facts) (hDbrRnn : Cert.DbrRnn.Facts) (hDbrRnnIdeal : Cert.DbrRnnIdeal.Facts) (hDbrRnnReferenceIdeal : Cert.DbrRnnReferenceIdeal.Facts) (hDIn : Cert.DIn.Facts) (hDInIdeal : Cert.DInIdeal.Facts) (hDInReferenceIdeal : Cert.DInReferenceIdeal.Facts) (hMergeB : Cert.MergeB.Facts) (hMergeBIdeal : Cert.MergeBIdeal.Facts) (hMergeBReferenceIdeal : Cert.MergeBReferenceIdeal.Facts) (hMergeF : Cert.MergeF.Facts) (hMergeFIdeal : Cert.MergeFIdeal.Facts) (hMergeFReferenceIdeal : Cert.MergeFReferenceIdeal.Facts) (hSwigluB : Cert.SwigluB.Facts) (hSwigluBIdeal : Cert.SwigluBIdeal.Facts) (hSwigluBReferenceIdeal : Cert.SwigluBReferenceIdeal.Facts) (hSwigluF : Cert.SwigluF.Facts) (hSwigluFIdeal : Cert.SwigluFIdeal.Facts) (hSwigluFReferenceIdeal : Cert.SwigluFReferenceIdeal.Facts) (hAdamVec : Cert.AdamVec.Facts) (hAdamVecIdeal : Cert.AdamVecIdeal.Facts) (hAdamVecReferenceIdeal : Cert.AdamVecReferenceIdeal.Facts) (hAdamSinks : Cert.AdamSinks.Facts) (hAdamSinksIdeal : Cert.AdamSinksIdeal.Facts) (hAdamSinksReferenceIdeal : Cert.AdamSinksReferenceIdeal.Facts) (hAdamConv : Cert.AdamConv.Facts) (hAdamConvIdeal : Cert.AdamConvIdeal.Facts) (hAdamConvReferenceIdeal : Cert.AdamConvReferenceIdeal.Facts) (hAdamInUp : Cert.AdamInUp.Facts) (hAdamInUpIdeal : Cert.AdamInUpIdeal.Facts) (hAdamInUpReferenceIdeal : Cert.AdamInUpReferenceIdeal.Facts) (hAdamInLow : Cert.AdamInLow.Facts) (hAdamInLowIdeal : Cert.AdamInLowIdeal.Facts) (hAdamInLowReferenceIdeal : Cert.AdamInLowReferenceIdeal.Facts) (hAdamRgUp : Cert.AdamRgUp.Facts) (hAdamRgUpIdeal : Cert.AdamRgUpIdeal.Facts) (hAdamRgUpReferenceIdeal : Cert.AdamRgUpReferenceIdeal.Facts) (hAdamRgLow : Cert.AdamRgLow.Facts) (hAdamRgLowIdeal : Cert.AdamRgLowIdeal.Facts) (hAdamRgLowReferenceIdeal : Cert.AdamRgLowReferenceIdeal.Facts) (hAdamOutUp : Cert.AdamOutUp.Facts) (hAdamOutUpIdeal : Cert.AdamOutUpIdeal.Facts) (hAdamOutUpReferenceIdeal : Cert.AdamOutUpReferenceIdeal.Facts) (hAdamOutLow : Cert.AdamOutLow.Facts) (hAdamOutLowIdeal : Cert.AdamOutLowIdeal.Facts) (hAdamOutLowReferenceIdeal : Cert.AdamOutLowReferenceIdeal.Facts) (hAdamCkvUp : Cert.AdamCkvUp.Facts) (hAdamCkvUpIdeal : Cert.AdamCkvUpIdeal.Facts) (hAdamCkvUpReferenceIdeal : Cert.AdamCkvUpReferenceIdeal.Facts) (hAdamCkvLow : Cert.AdamCkvLow.Facts) (hAdamCkvLowIdeal : Cert.AdamCkvLowIdeal.Facts) (hAdamCkvLowReferenceIdeal : Cert.AdamCkvLowReferenceIdeal.Facts) (hAdamWiUp : Cert.AdamWiUp.Facts) (hAdamWiUpIdeal : Cert.AdamWiUpIdeal.Facts) (hAdamWiUpReferenceIdeal : Cert.AdamWiUpReferenceIdeal.Facts) (hAdamWiLow : Cert.AdamWiLow.Facts) (hAdamWiLowIdeal : Cert.AdamWiLowIdeal.Facts) (hAdamWiLowReferenceIdeal : Cert.AdamWiLowReferenceIdeal.Facts) (hAdamWoUp : Cert.AdamWoUp.Facts) (hAdamWoUpIdeal : Cert.AdamWoUpIdeal.Facts) (hAdamWoUpReferenceIdeal : Cert.AdamWoUpReferenceIdeal.Facts) (hAdamWoLow : Cert.AdamWoLow.Facts) (hAdamWoLowIdeal : Cert.AdamWoLowIdeal.Facts) (hAdamWoLowReferenceIdeal : Cert.AdamWoLowReferenceIdeal.Facts) (hCrossF : Cert.CrossF.Facts) (hCrossFIdeal : Cert.CrossFIdeal.Facts) (hCrossFReferenceIdeal : Cert.CrossFReferenceIdeal.Facts) (hLossHead : Cert.LossHead.Facts) (hLossHeadIdeal : Cert.LossHeadIdeal.Facts) (hLossHeadReferenceIdeal : Cert.LossHeadReferenceIdeal.Facts) (hCrossB : Cert.CrossB.Facts) (hCrossBIdeal : Cert.CrossBIdeal.Facts) (hCrossBReferenceIdeal : Cert.CrossBReferenceIdeal.Facts) (hPre_swiglu_bwd_finite : Cert.Pre_swiglu_bwd_finite.Facts) (hPre_cross_bwd_finite : Cert.Pre_cross_bwd_finite.Facts),
    quiescent_Proj (hProj := hProj)
    ∧ quiescent_ProjIdeal (hProjIdeal := hProjIdeal)
    ∧ quiescent_ProjReferenceIdeal (hProjReferenceIdeal := hProjReferenceIdeal)
    ∧ quiescent_BrRnn (hBrRnn := hBrRnn)
    ∧ quiescent_BrRnnIdeal (hBrRnnIdeal := hBrRnnIdeal)
    ∧ quiescent_BrRnnReferenceIdeal (hBrRnnReferenceIdeal := hBrRnnReferenceIdeal)
    ∧ quiescent_BrAttn (hBrAttn := hBrAttn)
    ∧ quiescent_BrAttnIdeal (hBrAttnIdeal := hBrAttnIdeal)
    ∧ quiescent_BrAttnReferenceIdeal (hBrAttnReferenceIdeal := hBrAttnReferenceIdeal)
    ∧ quiescent_Cq (hCq := hCq)
    ∧ quiescent_CqIdeal (hCqIdeal := hCqIdeal)
    ∧ quiescent_CqReferenceIdeal (hCqReferenceIdeal := hCqReferenceIdeal)
    ∧ quiescent_Ckv (hCkv := hCkv)
    ∧ quiescent_CkvIdeal (hCkvIdeal := hCkvIdeal)
    ∧ quiescent_CkvReferenceIdeal (hCkvReferenceIdeal := hCkvReferenceIdeal)
    ∧ quiescent_FfnWi (hFfnWi := hFfnWi)
    ∧ quiescent_FfnWiIdeal (hFfnWiIdeal := hFfnWiIdeal)
    ∧ quiescent_FfnWiReferenceIdeal (hFfnWiReferenceIdeal := hFfnWiReferenceIdeal)
    ∧ quiescent_Dact (hDact := hDact)
    ∧ quiescent_DactIdeal (hDactIdeal := hDactIdeal)
    ∧ quiescent_DactReferenceIdeal (hDactReferenceIdeal := hDactReferenceIdeal)
    ∧ quiescent_Dh2 (hDh2 := hDh2)
    ∧ quiescent_Dh2Ideal (hDh2Ideal := hDh2Ideal)
    ∧ quiescent_Dh2ReferenceIdeal (hDh2ReferenceIdeal := hDh2ReferenceIdeal)
    ∧ quiescent_Do (hDo := hDo)
    ∧ quiescent_DoIdeal (hDoIdeal := hDoIdeal)
    ∧ quiescent_DoReferenceIdeal (hDoReferenceIdeal := hDoReferenceIdeal)
    ∧ quiescent_Dh1 (hDh1 := hDh1)
    ∧ quiescent_Dh1Ideal (hDh1Ideal := hDh1Ideal)
    ∧ quiescent_Dh1ReferenceIdeal (hDh1ReferenceIdeal := hDh1ReferenceIdeal)
    ∧ quiescent_Dmerged (hDmerged := hDmerged)
    ∧ quiescent_DmergedIdeal (hDmergedIdeal := hDmergedIdeal)
    ∧ quiescent_DmergedReferenceIdeal (hDmergedReferenceIdeal := hDmergedReferenceIdeal)
    ∧ quiescent_Dh (hDh := hDh)
    ∧ quiescent_DhIdeal (hDhIdeal := hDhIdeal)
    ∧ quiescent_DhReferenceIdeal (hDhReferenceIdeal := hDhReferenceIdeal)
    ∧ quiescent_DFfnWo (hDFfnWo := hDFfnWo)
    ∧ quiescent_DFfnWoIdeal (hDFfnWoIdeal := hDFfnWoIdeal)
    ∧ quiescent_DFfnWoReferenceIdeal (hDFfnWoReferenceIdeal := hDFfnWoReferenceIdeal)
    ∧ quiescent_DFfnWi (hDFfnWi := hDFfnWi)
    ∧ quiescent_DFfnWiIdeal (hDFfnWiIdeal := hDFfnWiIdeal)
    ∧ quiescent_DFfnWiReferenceIdeal (hDFfnWiReferenceIdeal := hDFfnWiReferenceIdeal)
    ∧ quiescent_Dco (hDco := hDco)
    ∧ quiescent_DcoIdeal (hDcoIdeal := hDcoIdeal)
    ∧ quiescent_DcoReferenceIdeal (hDcoReferenceIdeal := hDcoReferenceIdeal)
    ∧ quiescent_Dcq (hDcq := hDcq)
    ∧ quiescent_DcqIdeal (hDcqIdeal := hDcqIdeal)
    ∧ quiescent_DcqReferenceIdeal (hDcqReferenceIdeal := hDcqReferenceIdeal)
    ∧ quiescent_Dckv (hDckv := hDckv)
    ∧ quiescent_DckvIdeal (hDckvIdeal := hDckvIdeal)
    ∧ quiescent_DckvReferenceIdeal (hDckvReferenceIdeal := hDckvReferenceIdeal)
    ∧ quiescent_DbrRnn (hDbrRnn := hDbrRnn)
    ∧ quiescent_DbrRnnIdeal (hDbrRnnIdeal := hDbrRnnIdeal)
    ∧ quiescent_DbrRnnReferenceIdeal (hDbrRnnReferenceIdeal := hDbrRnnReferenceIdeal)
    ∧ quiescent_DIn (hDIn := hDIn)
    ∧ quiescent_DInIdeal (hDInIdeal := hDInIdeal)
    ∧ quiescent_DInReferenceIdeal (hDInReferenceIdeal := hDInReferenceIdeal)
    ∧ quiescent_MergeB (hMergeB := hMergeB)
    ∧ quiescent_MergeBIdeal (hMergeBIdeal := hMergeBIdeal)
    ∧ quiescent_MergeBReferenceIdeal (hMergeBReferenceIdeal := hMergeBReferenceIdeal)
    ∧ quiescent_MergeF (hMergeF := hMergeF)
    ∧ quiescent_MergeFIdeal (hMergeFIdeal := hMergeFIdeal)
    ∧ quiescent_MergeFReferenceIdeal (hMergeFReferenceIdeal := hMergeFReferenceIdeal)
    ∧ quiescent_SwigluB (hSwigluB := hSwigluB)
    ∧ quiescent_SwigluBIdeal (hSwigluBIdeal := hSwigluBIdeal)
    ∧ quiescent_SwigluBIdeal_pre_swiglu_bwd_finite (hSwigluBIdeal := hSwigluBIdeal) (hPre_swiglu_bwd_finite := hPre_swiglu_bwd_finite)
    ∧ quiescent_SwigluBReferenceIdeal (hSwigluBReferenceIdeal := hSwigluBReferenceIdeal)
    ∧ quiescent_SwigluBReferenceIdeal_pre_swiglu_bwd_finite (hSwigluBReferenceIdeal := hSwigluBReferenceIdeal) (hPre_swiglu_bwd_finite := hPre_swiglu_bwd_finite)
    ∧ quiescent_SwigluF (hSwigluF := hSwigluF)
    ∧ quiescent_SwigluFIdeal (hSwigluFIdeal := hSwigluFIdeal)
    ∧ quiescent_SwigluFReferenceIdeal (hSwigluFReferenceIdeal := hSwigluFReferenceIdeal)
    ∧ quiescent_AdamVec (hAdamVec := hAdamVec)
    ∧ quiescent_AdamVecIdeal (hAdamVecIdeal := hAdamVecIdeal)
    ∧ quiescent_AdamVecReferenceIdeal (hAdamVecReferenceIdeal := hAdamVecReferenceIdeal)
    ∧ quiescent_AdamSinks (hAdamSinks := hAdamSinks)
    ∧ quiescent_AdamSinksIdeal (hAdamSinksIdeal := hAdamSinksIdeal)
    ∧ quiescent_AdamSinksReferenceIdeal (hAdamSinksReferenceIdeal := hAdamSinksReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_AdamInUp (hAdamInUp := hAdamInUp)
    ∧ quiescent_AdamInUpIdeal (hAdamInUpIdeal := hAdamInUpIdeal)
    ∧ quiescent_AdamInUpReferenceIdeal (hAdamInUpReferenceIdeal := hAdamInUpReferenceIdeal)
    ∧ quiescent_AdamInLow (hAdamInLow := hAdamInLow)
    ∧ quiescent_AdamInLowIdeal (hAdamInLowIdeal := hAdamInLowIdeal)
    ∧ quiescent_AdamInLowReferenceIdeal (hAdamInLowReferenceIdeal := hAdamInLowReferenceIdeal)
    ∧ quiescent_AdamRgUp (hAdamRgUp := hAdamRgUp)
    ∧ quiescent_AdamRgUpIdeal (hAdamRgUpIdeal := hAdamRgUpIdeal)
    ∧ quiescent_AdamRgUpReferenceIdeal (hAdamRgUpReferenceIdeal := hAdamRgUpReferenceIdeal)
    ∧ quiescent_AdamRgLow (hAdamRgLow := hAdamRgLow)
    ∧ quiescent_AdamRgLowIdeal (hAdamRgLowIdeal := hAdamRgLowIdeal)
    ∧ quiescent_AdamRgLowReferenceIdeal (hAdamRgLowReferenceIdeal := hAdamRgLowReferenceIdeal)
    ∧ quiescent_AdamOutUp (hAdamOutUp := hAdamOutUp)
    ∧ quiescent_AdamOutUpIdeal (hAdamOutUpIdeal := hAdamOutUpIdeal)
    ∧ quiescent_AdamOutUpReferenceIdeal (hAdamOutUpReferenceIdeal := hAdamOutUpReferenceIdeal)
    ∧ quiescent_AdamOutLow (hAdamOutLow := hAdamOutLow)
    ∧ quiescent_AdamOutLowIdeal (hAdamOutLowIdeal := hAdamOutLowIdeal)
    ∧ quiescent_AdamOutLowReferenceIdeal (hAdamOutLowReferenceIdeal := hAdamOutLowReferenceIdeal)
    ∧ quiescent_AdamCkvUp (hAdamCkvUp := hAdamCkvUp)
    ∧ quiescent_AdamCkvUpIdeal (hAdamCkvUpIdeal := hAdamCkvUpIdeal)
    ∧ quiescent_AdamCkvUpReferenceIdeal (hAdamCkvUpReferenceIdeal := hAdamCkvUpReferenceIdeal)
    ∧ quiescent_AdamCkvLow (hAdamCkvLow := hAdamCkvLow)
    ∧ quiescent_AdamCkvLowIdeal (hAdamCkvLowIdeal := hAdamCkvLowIdeal)
    ∧ quiescent_AdamCkvLowReferenceIdeal (hAdamCkvLowReferenceIdeal := hAdamCkvLowReferenceIdeal)
    ∧ quiescent_AdamWiUp (hAdamWiUp := hAdamWiUp)
    ∧ quiescent_AdamWiUpIdeal (hAdamWiUpIdeal := hAdamWiUpIdeal)
    ∧ quiescent_AdamWiUpReferenceIdeal (hAdamWiUpReferenceIdeal := hAdamWiUpReferenceIdeal)
    ∧ quiescent_AdamWiLow (hAdamWiLow := hAdamWiLow)
    ∧ quiescent_AdamWiLowIdeal (hAdamWiLowIdeal := hAdamWiLowIdeal)
    ∧ quiescent_AdamWiLowReferenceIdeal (hAdamWiLowReferenceIdeal := hAdamWiLowReferenceIdeal)
    ∧ quiescent_AdamWoUp (hAdamWoUp := hAdamWoUp)
    ∧ quiescent_AdamWoUpIdeal (hAdamWoUpIdeal := hAdamWoUpIdeal)
    ∧ quiescent_AdamWoUpReferenceIdeal (hAdamWoUpReferenceIdeal := hAdamWoUpReferenceIdeal)
    ∧ quiescent_AdamWoLow (hAdamWoLow := hAdamWoLow)
    ∧ quiescent_AdamWoLowIdeal (hAdamWoLowIdeal := hAdamWoLowIdeal)
    ∧ quiescent_AdamWoLowReferenceIdeal (hAdamWoLowReferenceIdeal := hAdamWoLowReferenceIdeal)
    ∧ quiescent_CrossF (hCrossF := hCrossF)
    ∧ quiescent_CrossFIdeal (hCrossFIdeal := hCrossFIdeal)
    ∧ quiescent_CrossFReferenceIdeal (hCrossFReferenceIdeal := hCrossFReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_CrossB (hCrossB := hCrossB)
    ∧ quiescent_CrossBIdeal (hCrossBIdeal := hCrossBIdeal)
    ∧ quiescent_CrossBIdeal_pre_cross_bwd_finite (hCrossBIdeal := hCrossBIdeal) (hPre_cross_bwd_finite := hPre_cross_bwd_finite)
    ∧ quiescent_CrossBReferenceIdeal (hCrossBReferenceIdeal := hCrossBReferenceIdeal)
    ∧ quiescent_CrossBReferenceIdeal_pre_cross_bwd_finite (hCrossBReferenceIdeal := hCrossBReferenceIdeal) (hPre_cross_bwd_finite := hPre_cross_bwd_finite)
    ∧ preserves_Proj_ProjIdeal
    ∧ algebraic_ProjIdeal_ProjReferenceIdeal (hProjIdeal := hProjIdeal) (hProjReferenceIdeal := hProjReferenceIdeal)
    ∧ preserves_BrRnn_BrRnnIdeal
    ∧ algebraic_BrRnnIdeal_BrRnnReferenceIdeal (hBrRnnIdeal := hBrRnnIdeal) (hBrRnnReferenceIdeal := hBrRnnReferenceIdeal)
    ∧ preserves_BrAttn_BrAttnIdeal
    ∧ algebraic_BrAttnIdeal_BrAttnReferenceIdeal (hBrAttnIdeal := hBrAttnIdeal) (hBrAttnReferenceIdeal := hBrAttnReferenceIdeal)
    ∧ preserves_Cq_CqIdeal
    ∧ algebraic_CqIdeal_CqReferenceIdeal (hCqIdeal := hCqIdeal) (hCqReferenceIdeal := hCqReferenceIdeal)
    ∧ preserves_Ckv_CkvIdeal
    ∧ algebraic_CkvIdeal_CkvReferenceIdeal (hCkvIdeal := hCkvIdeal) (hCkvReferenceIdeal := hCkvReferenceIdeal)
    ∧ preserves_FfnWi_FfnWiIdeal
    ∧ algebraic_FfnWiIdeal_FfnWiReferenceIdeal (hFfnWiIdeal := hFfnWiIdeal) (hFfnWiReferenceIdeal := hFfnWiReferenceIdeal)
    ∧ preserves_Dact_DactIdeal
    ∧ algebraic_DactIdeal_DactReferenceIdeal (hDactIdeal := hDactIdeal) (hDactReferenceIdeal := hDactReferenceIdeal)
    ∧ preserves_Dh2_Dh2Ideal
    ∧ algebraic_Dh2Ideal_Dh2ReferenceIdeal (hDh2Ideal := hDh2Ideal) (hDh2ReferenceIdeal := hDh2ReferenceIdeal)
    ∧ preserves_Do_DoIdeal
    ∧ algebraic_DoIdeal_DoReferenceIdeal (hDoIdeal := hDoIdeal) (hDoReferenceIdeal := hDoReferenceIdeal)
    ∧ preserves_Dh1_Dh1Ideal
    ∧ algebraic_Dh1Ideal_Dh1ReferenceIdeal (hDh1Ideal := hDh1Ideal) (hDh1ReferenceIdeal := hDh1ReferenceIdeal)
    ∧ preserves_Dmerged_DmergedIdeal
    ∧ algebraic_DmergedIdeal_DmergedReferenceIdeal (hDmergedIdeal := hDmergedIdeal) (hDmergedReferenceIdeal := hDmergedReferenceIdeal)
    ∧ preserves_Dh_DhIdeal
    ∧ algebraic_DhIdeal_DhReferenceIdeal (hDhIdeal := hDhIdeal) (hDhReferenceIdeal := hDhReferenceIdeal)
    ∧ preserves_DFfnWo_DFfnWoIdeal
    ∧ algebraic_DFfnWoIdeal_DFfnWoReferenceIdeal (hDFfnWoIdeal := hDFfnWoIdeal) (hDFfnWoReferenceIdeal := hDFfnWoReferenceIdeal)
    ∧ preserves_DFfnWi_DFfnWiIdeal
    ∧ algebraic_DFfnWiIdeal_DFfnWiReferenceIdeal (hDFfnWiIdeal := hDFfnWiIdeal) (hDFfnWiReferenceIdeal := hDFfnWiReferenceIdeal)
    ∧ preserves_Dco_DcoIdeal
    ∧ algebraic_DcoIdeal_DcoReferenceIdeal (hDcoIdeal := hDcoIdeal) (hDcoReferenceIdeal := hDcoReferenceIdeal)
    ∧ preserves_Dcq_DcqIdeal
    ∧ algebraic_DcqIdeal_DcqReferenceIdeal (hDcqIdeal := hDcqIdeal) (hDcqReferenceIdeal := hDcqReferenceIdeal)
    ∧ preserves_Dckv_DckvIdeal
    ∧ algebraic_DckvIdeal_DckvReferenceIdeal (hDckvIdeal := hDckvIdeal) (hDckvReferenceIdeal := hDckvReferenceIdeal)
    ∧ preserves_DbrRnn_DbrRnnIdeal
    ∧ algebraic_DbrRnnIdeal_DbrRnnReferenceIdeal (hDbrRnnIdeal := hDbrRnnIdeal) (hDbrRnnReferenceIdeal := hDbrRnnReferenceIdeal)
    ∧ preserves_DIn_DInIdeal
    ∧ algebraic_DInIdeal_DInReferenceIdeal (hDInIdeal := hDInIdeal) (hDInReferenceIdeal := hDInReferenceIdeal)
    ∧ preserves_MergeB_MergeBIdeal
    ∧ algebraic_MergeBIdeal_MergeBReferenceIdeal (hMergeBIdeal := hMergeBIdeal) (hMergeBReferenceIdeal := hMergeBReferenceIdeal)
    ∧ preserves_MergeF_MergeFIdeal
    ∧ algebraic_MergeFIdeal_MergeFReferenceIdeal (hMergeFIdeal := hMergeFIdeal) (hMergeFReferenceIdeal := hMergeFReferenceIdeal)
    ∧ preserves_SwigluB_SwigluBIdeal
    ∧ algebraic_SwigluBIdeal_SwigluBReferenceIdeal_pre_swiglu_bwd_finite (hSwigluBIdeal := hSwigluBIdeal) (hSwigluBReferenceIdeal := hSwigluBReferenceIdeal) (hPre_swiglu_bwd_finite := hPre_swiglu_bwd_finite)
    ∧ preserves_SwigluF_SwigluFIdeal
    ∧ algebraic_SwigluFIdeal_SwigluFReferenceIdeal (hSwigluFIdeal := hSwigluFIdeal) (hSwigluFReferenceIdeal := hSwigluFReferenceIdeal)
    ∧ preserves_AdamVec_AdamVecIdeal
    ∧ algebraic_AdamVecIdeal_AdamVecReferenceIdeal (hAdamVecIdeal := hAdamVecIdeal) (hAdamVecReferenceIdeal := hAdamVecReferenceIdeal)
    ∧ preserves_AdamSinks_AdamSinksIdeal
    ∧ algebraic_AdamSinksIdeal_AdamSinksReferenceIdeal (hAdamSinksIdeal := hAdamSinksIdeal) (hAdamSinksReferenceIdeal := hAdamSinksReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_AdamInUp_AdamInUpIdeal
    ∧ algebraic_AdamInUpIdeal_AdamInUpReferenceIdeal (hAdamInUpIdeal := hAdamInUpIdeal) (hAdamInUpReferenceIdeal := hAdamInUpReferenceIdeal)
    ∧ preserves_AdamInLow_AdamInLowIdeal
    ∧ algebraic_AdamInLowIdeal_AdamInLowReferenceIdeal (hAdamInLowIdeal := hAdamInLowIdeal) (hAdamInLowReferenceIdeal := hAdamInLowReferenceIdeal)
    ∧ preserves_AdamRgUp_AdamRgUpIdeal
    ∧ algebraic_AdamRgUpIdeal_AdamRgUpReferenceIdeal (hAdamRgUpIdeal := hAdamRgUpIdeal) (hAdamRgUpReferenceIdeal := hAdamRgUpReferenceIdeal)
    ∧ preserves_AdamRgLow_AdamRgLowIdeal
    ∧ algebraic_AdamRgLowIdeal_AdamRgLowReferenceIdeal (hAdamRgLowIdeal := hAdamRgLowIdeal) (hAdamRgLowReferenceIdeal := hAdamRgLowReferenceIdeal)
    ∧ preserves_AdamOutUp_AdamOutUpIdeal
    ∧ algebraic_AdamOutUpIdeal_AdamOutUpReferenceIdeal (hAdamOutUpIdeal := hAdamOutUpIdeal) (hAdamOutUpReferenceIdeal := hAdamOutUpReferenceIdeal)
    ∧ preserves_AdamOutLow_AdamOutLowIdeal
    ∧ algebraic_AdamOutLowIdeal_AdamOutLowReferenceIdeal (hAdamOutLowIdeal := hAdamOutLowIdeal) (hAdamOutLowReferenceIdeal := hAdamOutLowReferenceIdeal)
    ∧ preserves_AdamCkvUp_AdamCkvUpIdeal
    ∧ algebraic_AdamCkvUpIdeal_AdamCkvUpReferenceIdeal (hAdamCkvUpIdeal := hAdamCkvUpIdeal) (hAdamCkvUpReferenceIdeal := hAdamCkvUpReferenceIdeal)
    ∧ preserves_AdamCkvLow_AdamCkvLowIdeal
    ∧ algebraic_AdamCkvLowIdeal_AdamCkvLowReferenceIdeal (hAdamCkvLowIdeal := hAdamCkvLowIdeal) (hAdamCkvLowReferenceIdeal := hAdamCkvLowReferenceIdeal)
    ∧ preserves_AdamWiUp_AdamWiUpIdeal
    ∧ algebraic_AdamWiUpIdeal_AdamWiUpReferenceIdeal (hAdamWiUpIdeal := hAdamWiUpIdeal) (hAdamWiUpReferenceIdeal := hAdamWiUpReferenceIdeal)
    ∧ preserves_AdamWiLow_AdamWiLowIdeal
    ∧ algebraic_AdamWiLowIdeal_AdamWiLowReferenceIdeal (hAdamWiLowIdeal := hAdamWiLowIdeal) (hAdamWiLowReferenceIdeal := hAdamWiLowReferenceIdeal)
    ∧ preserves_AdamWoUp_AdamWoUpIdeal
    ∧ algebraic_AdamWoUpIdeal_AdamWoUpReferenceIdeal (hAdamWoUpIdeal := hAdamWoUpIdeal) (hAdamWoUpReferenceIdeal := hAdamWoUpReferenceIdeal)
    ∧ preserves_AdamWoLow_AdamWoLowIdeal
    ∧ algebraic_AdamWoLowIdeal_AdamWoLowReferenceIdeal (hAdamWoLowIdeal := hAdamWoLowIdeal) (hAdamWoLowReferenceIdeal := hAdamWoLowReferenceIdeal)
    ∧ preserves_CrossF_CrossFIdeal
    ∧ algebraic_CrossFIdeal_CrossFReferenceIdeal (hCrossFIdeal := hCrossFIdeal) (hCrossFReferenceIdeal := hCrossFReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_CrossB_CrossBIdeal
    ∧ algebraic_CrossBIdeal_CrossBReferenceIdeal_pre_cross_bwd_finite (hCrossBIdeal := hCrossBIdeal) (hCrossBReferenceIdeal := hCrossBReferenceIdeal) (hPre_cross_bwd_finite := hPre_cross_bwd_finite)
-- ==== Pre_cross_bwd_finite.lean ====
abbrev S2048x1024 : Shape := ⟨2, ![2048, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S2048x1024 .bf16) (main_arg1 : FVec F S256x2048 .bf16) (main_arg2 : FVec F S2048x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S256x1024 .bf16 := (extractStridedSlice S256x1024 ![0, 0] · slices_S256x2048_S256x1024_0_0) main_arg1
  let main_v6 : FVec F S256x1024 .f32 := (extf .f32 · bitsLt_bf16_f32) main_v5
  let main_v7 : FVec F S256x1024 .f32 := Host.absf main_v6
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  let main_c_1 : IVec S_ 1 := constantI S_ 1 1#1
  let main_v10 : IVec S_ 1 := (fun x v => Host.reduce IntOp.andi x v reducesTo_S256x1024_S_d0_1 h_S_) main_v9 main_c_1
  let main_v11 : IVec S_ 1 := andi main_v4 main_v10
  main_v11
-- ==== Pre_swiglu_bwd_finite.lean ====
abbrev S2x2048x2816 : Shape := ⟨3, ![2, 2048, 2816]⟩
abbrev S2048x2816 : Shape := ⟨2, ![2048, 2816]⟩
abbrev S_ : Shape := ⟨0, ![]⟩

class Facts : Prop where
  bcast_S_S2x2048x2816 : S_.BroadcastsInDim S2x2048x2816 (![] : Fin 0 → Fin S2x2048x2816.rank)
  reducesTo_S2x2048x2816_S_d0_1_2 : S2x2048x2816.ReducesTo [0, 1, 2] S_
  h_S_ : 0 < S_.numel
  bcast_S_S2048x2816 : S_.BroadcastsInDim S2048x2816 (![] : Fin 0 → Fin S2048x2816.rank)
  reducesTo_S2048x2816_S_d0_1 : S2048x2816.ReducesTo [0, 1] S_

variable [Facts]

def fn {F : FTy → Type} [FloatOps F] (main_arg0 : FVec F S2x2048x2816 .f32) (main_arg1 : FVec F S2048x2816 .f32) : IVec S_ 1 :=
  let main_v0 : FVec F S2x2048x2816 .f32 := Host.absf main_arg0
  let main_cst : FVec F S_ .f32 := constant S_ .f32 0x7F800000#32
  let main_v1 : FVec F S2x2048x2816 .f32 := broadcastInDim S2x2048x2816 ![] bcast_S_S2x2048x2816 main_cst
  let main_v2 : IVec S2x2048x2816 1 := cmpf .olt main_v0 main_v1
  let main_c : IVec S_ 1 := constantI S_ 1 1#1
  let main_v3 : IVec S_ 1 := (fun x v => Host.reduce IntOp.andi x v reducesTo_S2x2048x2816_S_d0_1_2 h_S_) main_v2 main_c
  let main_v4 : FVec F S2048x2816 .f32 := Host.absf main_arg1
  let main_cst_0 : FVec F S_ .f32 := constant S_ .f32 0x7F800000#32
  let main_v5 : FVec F S2048x2816 .f32 := broadcastInDim S2048x2816 ![] bcast_S_S2048x2816 main_cst_0
  let main_v6 : IVec S2048x2816 1 := cmpf .olt main_v4 main_v5
  let main_c_1 : IVec S_ 1 := constantI S_ 1 1#1
  let main_v7 : IVec S_ 1 := (fun x v => Host.reduce IntOp.andi x v reducesTo_S2048x2816_S_d0_1 h_S_) main_v6 main_c_1
  let main_v8 : IVec S_ 1 := andi main_v3 main_v7
  main_v8
-- ==== Proj.lean ====
abbrev S2048x1024 : Shape := ⟨2, ![2048, 1024]⟩
abbrev S5376x1024 : Shape := ⟨2, ![5376, 1024]⟩
abbrev S2048x5376 : Shape := ⟨2, ![2048, 5376]⟩
abbrev S1024x1024 : Shape := ⟨2, ![1024, 1024]⟩
abbrev S896x1024 : Shape := ⟨2, ![896, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S5376x1024, .bf16⟩
  | .hbm, ⟨2, _⟩ => ⟨S2048x5376, .f32⟩
  | .local _ .vmem, ⟨0, _⟩ => ⟨S1024x1024, .f32⟩
  | .local _ .vmem, ⟨1, _⟩ => ⟨S1024x1024, .f32⟩
  | .local _ .vmem, ⟨2, _⟩ => ⟨S896x1024, .bf16⟩
  | .local _ .vmem, ⟨3, _⟩ => ⟨S896x1024, .bf16⟩
  | .local _ .vmem, ⟨4, _⟩ => ⟨S1024x896, .f32⟩
  | .local _ .vmem, ⟨5, _⟩ => ⟨S1024x896, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S2048x1024 : Shape := ⟨2, ![2048, 1024]⟩
abbrev S5376x1024 : Shape := ⟨2, ![5376, 1024]⟩
abbrev S1024x5376 : Shape := ⟨2, ![1024, 5376]⟩
abbrev S2048x5376 : Shape := ⟨2, ![2048, 5376]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S5376x1024, .bf16⟩
  | .hbm, ⟨2, _⟩ => ⟨S5376x1024, .f32⟩
  | .hbm, ⟨3, _⟩ => ⟨S1024x5376, .f32⟩
  | .hbm, ⟨4, _⟩ => ⟨S2048x5376, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BrRnn.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrRnnReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BrAttn.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrAttnReferenceIdeal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Cq.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CqReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S2048x1024, .f32⟩
  | .hbm, ⟨4, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ckv.lean ====
abbrev S256x1024 : Shape := ⟨2, ![256, 1024]⟩
abbrev S4x1024x512 : Shape := ⟨3, ![4, 1024, 512]⟩
abbrev S256x2048 : Shape := ⟨2, ![256, 2048]⟩
abbrev S1x1024x512 : Shape := ⟨3, ![1, 1024, 512]⟩
abbrev S256x512 : Shape := ⟨2, ![256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S4x1024x512, .bf16⟩
  | .hbm, ⟨2, _⟩ => ⟨S256x2048, .bf16⟩
  | .local _ .vmem, ⟨0, _⟩ => ⟨S256x1024, .f32⟩
  | .local _ .vmem, ⟨1, _⟩ => ⟨S1x1024x512, .bf16⟩
  | .local _ .vmem, ⟨2, _⟩ => ⟨S1x1024x512, .bf16⟩
  | .local _ .vmem, ⟨3, _⟩ => ⟨S256x512, .bf16⟩
  | .local _ .vmem, ⟨4, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.divsi arg1 c1_i32_11
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .slt arg1 c0_i32_13
  let v31 : BitVec 32 := Scalar.extui v30
  let v32 : BitVec 32 := Scalar.subi v29 v31
  let c0_i32_14 : BitVec 32 := 0#32
  let v33 : BitVec 1 := Scalar.cmpi .sgt c1_i32_11 c0_i32_14
  let v34 : BitVec 32 := Scalar.extui v33
  let c0_i32_15 : BitVec 32 := 0#32
  let v35 : BitVec 1 := Scalar.cmpi .slt c1_i32_11 c0_i32_15
  let v36 : BitVec 32 := Scalar.extui v35
  let v37 : BitVec 32 := Scalar.subi v34 v36
  let v38 : BitVec 1 := Scalar.cmpi .ne v32 v37
  let v39 : BitVec 32 := Scalar.remsi arg1 c1_i32_11
  let c0_i32_16 : BitVec 32 := 0#32
  let v40 : BitVec 1 := Scalar.cmpi .ne v39 c0_i32_16
  let v41 : BitVec 1 := Scalar.andi v38 v40
  let c1_i32_17 : BitVec 32 := 1#32
  let v42 : BitVec 32 := Scalar.subi v27 c1_i32_17
  let v43 : BitVec 32 := Scalar.select v41 v42 v27
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, arg2.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CkvReferenceIdeal.lean ====
abbrev S256x1024 : Shape := ⟨2, ![256, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x1024x512, .bf16⟩
  | .hbm, ⟨2, _⟩ => ⟨S4x1024x512, .f32⟩
  | .hbm, ⟨3, _⟩ => ⟨S1024x4x512, .f32⟩
  | .hbm, ⟨4, _⟩ => ⟨S1024x2048, .f32⟩
  | .hbm, ⟨5, _⟩ => ⟨S256x2048, .f32⟩
  | .hbm, ⟨6, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnWi.lean ====
abbrev S2048x1024 : Shape := ⟨2, ![2048, 1024]⟩
abbrev S4x1024x1408 : Shape := ⟨3, ![4, 1024, 1408]⟩
abbrev S2x2048x2816 : Shape := ⟨3, ![2, 2048, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x1024x1408, .bf16⟩
  | .hbm, ⟨2, _⟩ => ⟨S2x2048x2816, .f32⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.divsi arg1 c1_i32_11
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .slt arg1 c0_i32_13
  let v31 : BitVec 32 := Scalar.extui v30
  let v32 : BitVec 32 := Scalar.subi v29 v31
  let c0_i32_14 : BitVec 32 := 0#32
  let v33 : BitVec 1 := Scalar.cmpi .sgt c1_i32_11 c0_i32_14
  let v34 : BitVec 32 := Scalar.extui v33
  let c0_i32_15 : BitVec 32 := 0#32
  let v35 : BitVec 1 := Scalar.cmpi .slt c1_i32_11 c0_i32_15
  let v36 : BitVec 32 := Scalar.extui v35
  let v37 : BitVec 32 := Scalar.subi v34 v36
  let v38 : BitVec 1 := Scalar.cmpi .ne v32 v37
  let v39 : BitVec 32 := Scalar.remsi arg1 c1_i32_11
  let c0_i32_16 : BitVec 32 := 0#32
  let v40 : BitVec 1 := Scalar.cmpi .ne v39 c0_i32_16
  let v41 : BitVec 1 := Scalar.andi v38 v40
  let c1_i32_17 : BitVec 32 := 1#32
  let v42 : BitVec 32 := Scalar.subi v27 c1_i32_17
  let v43 : BitVec 32 := Scalar.select v41 v42 v27
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, arg2.toNat, v53.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg1 c2_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, arg0.toNat, v53.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnWiReferenceIdeal.lean ====
abbrev S2048x1024 : Shape := ⟨2, ![2048, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩
abbrev S2x2048x2816 : Shape := ⟨3, ![2, 2048, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S1x2048x2816, .f32⟩
  | .hbm, ⟨9, _⟩ => ⟨S1x2048x2816, .f32⟩
  | .hbm, ⟨10, _⟩ => ⟨S2x2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Dact.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactReferenceIdeal.lean ====
abbrev S2048x1024 : Shape := ⟨2, ![2048, 1024]⟩
abbrev S2816x1024 : Shape := ⟨2, ![2816, 1024]⟩
abbrev S2048x2816 : Shape := ⟨2, ![2048, 2816]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2816x1024, .f32⟩
  | .hbm, ⟨3, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dh2.lean ====
abbrev S2x2048x2816 : Shape := ⟨3, ![2, 2048, 2816]⟩
abbrev S4x1024x1408 : Shape := ⟨3, ![4, 1024, 1408]⟩
abbrev S2048x1024 : Shape := ⟨2, ![2048, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x2816, .bf16⟩
  | .hbm, ⟨1, _⟩ => ⟨S4x1024x1408, .bf16⟩
  | .hbm, ⟨2, _⟩ => ⟨S2048x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg2 c2_i32_10
  let c0_i32_11 : BitVec 32 := 0#32
  let v28 : BitVec 1 := Scalar.cmpi .sgt arg2 c0_i32_11
  let v29 : BitVec 32 := Scalar.extui v28
  let c0_i32_12 : BitVec 32 := 0#32
  let v30 : BitVec 1 := Scalar.cmpi .slt arg2 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg2 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg2 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, arg0.toNat, v53.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.divsi arg2 c1_i32_11
  let c0_i32_12 : BitVec 32 := 0#32
  let v28 : BitVec 1 := Scalar.cmpi .sgt arg2 c0_i32_12
  let v29 : BitVec 32 := Scalar.extui v28
  let c0_i32_13 : BitVec 32 := 0#32
  let v30 : BitVec 1 := Scalar.cmpi .slt arg2 c0_i32_13
  let v31 : BitVec 32 := Scalar.extui v30
  let v32 : BitVec 32 := Scalar.subi v29 v31
  let c0_i32_14 : BitVec 32 := 0#32
  let v33 : BitVec 1 := Scalar.cmpi .sgt c1_i32_11 c0_i32_14
  let v34 : BitVec 32 := Scalar.extui v33
  let c0_i32_15 : BitVec 32 := 0#32
  let v35 : BitVec 1 := Scalar.cmpi .slt c1_i32_11 c0_i32_15
  let v36 : BitVec 32 := Scalar.extui v35
  let v37 : BitVec 32 := Scalar.subi v34 v36
  let v38 : BitVec 1 := Scalar.cmpi .ne v32 v37
  let v39 : BitVec 32 := Scalar.remsi arg2 c1_i32_11
  let c0_i32_16 : BitVec 32 := 0#32
  let v40 : BitVec 1 := Scalar.cmpi .ne v39 c0_i32_16
  let v41 : BitVec 1 := Scalar.andi v38 v40
  let c1_i32_17 : BitVec 32 := 1#32
  let v42 : BitVec 32 := Scalar.subi v27 c1_i32_17
  let v43 : BitVec 32 := Scalar.select v41 v42 v27
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, arg1.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2ReferenceIdeal.lean ====
abbrev S2x2048x2816 : Shape := ⟨3, ![2, 2048, 2816]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S1x2048x2816 : Shape := ⟨3, ![1, 2048, 2816]⟩
abbrev S2048x2816 : Shape := ⟨2, ![2048, 2816]⟩
abbrev S2048x5632 : Shape := ⟨2, ![2048, 5632]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S4x1024x1408, .bf16⟩
  | .hbm, ⟨2, _⟩ => ⟨S2x2048x2816, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S1x2048x2816, .f32⟩
  | .hbm, ⟨7, _⟩ => ⟨S2048x2816, .f32⟩
  | .hbm, ⟨8, _⟩ => ⟨S1x2048x2816, .f32⟩
  | .hbm, ⟨9, _⟩ => ⟨S2048x2816, .f32⟩
  | .hbm, ⟨10, _⟩ => ⟨S2048x5632, .f32⟩
  | .hbm, ⟨11, _⟩ => ⟨S2048x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Do.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S2048x1024, .f32⟩
  | .hbm, ⟨4, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dh1.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1ReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dmerged.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedReferenceIdeal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dh.lean ====
abbrev S2048x5376 : Shape := ⟨2, ![2048, 5376]⟩
abbrev S5376x1024 : Shape := ⟨2, ![5376, 1024]⟩
abbrev S2048x1024 : Shape := ⟨2, ![2048, 1024]⟩
abbrev S1024x1792 : Shape := ⟨2, ![1024, 1792]⟩
abbrev S1792x1024 : Shape := ⟨2, ![1792, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x5376, .bf16⟩
  | .hbm, ⟨1, _⟩ => ⟨S5376x1024, .bf16⟩
  | .hbm, ⟨2, _⟩ => ⟨S2048x1024, .f32⟩
  | .hbm, ⟨3, _⟩ => ⟨S2048x1024, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhReferenceIdeal.lean ====
abbrev S2048x5376 : Shape := ⟨2, ![2048, 5376]⟩
abbrev S5376x1024 : Shape := ⟨2, ![5376, 1024]⟩
abbrev S2048x1024 : Shape := ⟨2, ![2048, 1024]⟩
abbrev S1024x5376 : Shape := ⟨2, ![1024, 5376]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x5376, .bf16⟩
  | .hbm, ⟨1, _⟩ => ⟨S5376x1024, .bf16⟩
  | .hbm, ⟨2, _⟩ => ⟨S2048x1024, .f32⟩
  | .hbm, ⟨3, _⟩ => ⟨S5376x1024, .f32⟩
  | .hbm, ⟨4, _⟩ => ⟨S1024x5376, .f32⟩
  | .hbm, ⟨5, _⟩ => ⟨S2048x5376, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | _, _ => ⟨S2048x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DFfnWo.lean ====
abbrev S2048x2816 : Shape := ⟨2, ![2048, 2816]⟩
abbrev S2048x1024 : Shape := ⟨2, ![2048, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFfnWoReferenceIdeal.lean ====
abbrev S2048x2816 : Shape := ⟨2, ![2048, 2816]⟩
abbrev S2048x1024 : Shape := ⟨2, ![2048, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2048x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DFfnWi.lean ====
abbrev S2048x1024 : Shape := ⟨2, ![2048, 1024]⟩
abbrev S2x2048x2816 : Shape := ⟨3, ![2, 2048, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2x2048x2816, .bf16⟩
  | .hbm, ⟨2, _⟩ => ⟨S4x1024x1408, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg1 c2_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, arg2.toNat, v53.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.divsi arg1 c1_i32_11
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .slt arg1 c0_i32_13
  let v31 : BitVec 32 := Scalar.extui v30
  let v32 : BitVec 32 := Scalar.subi v29 v31
  let c0_i32_14 : BitVec 32 := 0#32
  let v33 : BitVec 1 := Scalar.cmpi .sgt c1_i32_11 c0_i32_14
  let v34 : BitVec 32 := Scalar.extui v33
  let c0_i32_15 : BitVec 32 := 0#32
  let v35 : BitVec 1 := Scalar.cmpi .slt c1_i32_11 c0_i32_15
  let v36 : BitVec 32 := Scalar.extui v35
  let v37 : BitVec 32 := Scalar.subi v34 v36
  let v38 : BitVec 1 := Scalar.cmpi .ne v32 v37
  let v39 : BitVec 32 := Scalar.remsi arg1 c1_i32_11
  let c0_i32_16 : BitVec 32 := 0#32
  let v40 : BitVec 1 := Scalar.cmpi .ne v39 c0_i32_16
  let v41 : BitVec 1 := Scalar.andi v38 v40
  let c1_i32_17 : BitVec 32 := 1#32
  let v42 : BitVec 32 := Scalar.subi v27 c1_i32_17
  let v43 : BitVec 32 := Scalar.select v41 v42 v27
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, arg0.toNat, v53.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFfnWiReferenceIdeal.lean ====
abbrev S2048x1024 : Shape := ⟨2, ![2048, 1024]⟩
abbrev S2x2048x2816 : Shape := ⟨3, ![2, 2048, 2816]⟩
abbrev S1x2048x2816 : Shape := ⟨3, ![1, 2048, 2816]⟩
abbrev S2048x2816 : Shape := ⟨2, ![2048, 2816]⟩
abbrev S2048x5632 : Shape := ⟨2, ![2048, 5632]⟩
abbrev S5632x1024 : Shape := ⟨2, ![5632, 1024]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x2048x2816, .bf16⟩
  | .hbm, ⟨2, _⟩ => ⟨S2x2048x2816, .f32⟩
  | .hbm, ⟨3, _⟩ => ⟨S1x2048x2816, .f32⟩
  | .hbm, ⟨4, _⟩ => ⟨S2048x2816, .f32⟩
  | .hbm, ⟨5, _⟩ => ⟨S1x2048x2816, .f32⟩
  | .hbm, ⟨6, _⟩ => ⟨S2048x2816, .f32⟩
  | .hbm, ⟨7, _⟩ => ⟨S2048x5632, .f32⟩
  | .hbm, ⟨8, _⟩ => ⟨S5632x1024, .f32⟩
  | .hbm, ⟨9, _⟩ => ⟨S1024x5632, .f32⟩
  | .hbm, ⟨10, _⟩ => ⟨S1024x4x1408, .f32⟩
  | .hbm, ⟨11, _⟩ => ⟨S4x1024x1408, .f32⟩
  | .hbm, ⟨12, _⟩ => ⟨S4x1024x1408, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Dco.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DcoReferenceIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dcq.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DcqReferenceIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dckv.lean ====
abbrev S256x1024 : Shape := ⟨2, ![256, 1024]⟩
abbrev S256x2048 : Shape := ⟨2, ![256, 2048]⟩
abbrev S4x1024x512 : Shape := ⟨3, ![4, 1024, 512]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S4x1024x512, .bf16⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S1x1024x512, .bf16⟩
  | .local _ .vmem, ⟨4, _⟩ => ⟨S1x1024x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.divsi arg1 c1_i32_11
  let c0_i32_12 : BitVec 32 := 0#32
  let v28 : BitVec 1 := Scalar.cmpi .sgt arg1 c0_i32_12
  let v29 : BitVec 32 := Scalar.extui v28
  let c0_i32_13 : BitVec 32 := 0#32
  let v30 : BitVec 1 := Scalar.cmpi .slt arg1 c0_i32_13
  let v31 : BitVec 32 := Scalar.extui v30
  let v32 : BitVec 32 := Scalar.subi v29 v31
  let c0_i32_14 : BitVec 32 := 0#32
  let v33 : BitVec 1 := Scalar.cmpi .sgt c1_i32_11 c0_i32_14
  let v34 : BitVec 32 := Scalar.extui v33
  let c0_i32_15 : BitVec 32 := 0#32
  let v35 : BitVec 1 := Scalar.cmpi .slt c1_i32_11 c0_i32_15
  let v36 : BitVec 32 := Scalar.extui v35
  let v37 : BitVec 32 := Scalar.subi v34 v36
  let v38 : BitVec 1 := Scalar.cmpi .ne v32 v37
  let v39 : BitVec 32 := Scalar.remsi arg1 c1_i32_11
  let c0_i32_16 : BitVec 32 := 0#32
  let v40 : BitVec 1 := Scalar.cmpi .ne v39 c0_i32_16
  let v41 : BitVec 1 := Scalar.andi v38 v40
  let c1_i32_17 : BitVec 32 := 1#32
  let v42 : BitVec 32 := Scalar.subi v27 c1_i32_17
  let v43 : BitVec 32 := Scalar.select v41 v42 v27
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, arg0.toNat, v53.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DckvReferenceIdeal.lean ====
abbrev S256x1024 : Shape := ⟨2, ![256, 1024]⟩
abbrev S256x2048 : Shape := ⟨2, ![256, 2048]⟩
abbrev S2048x1024 : Shape := ⟨2, ![2048, 1024]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S2048x1024, .f32⟩
  | .hbm, ⟨3, _⟩ => ⟨S1024x2048, .f32⟩
  | .hbm, ⟨4, _⟩ => ⟨S1024x4x512, .f32⟩
  | .hbm, ⟨5, _⟩ => ⟨S4x1024x512, .f32⟩
  | .hbm, ⟨6, _⟩ => ⟨S4x1024x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DbrRnn.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DbrRnnReferenceIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DIn.lean ====
abbrev S2048x5376 : Shape := ⟨2, ![2048, 5376]⟩
abbrev S2048x1024 : Shape := ⟨2, ![2048, 1024]⟩
abbrev S5376x1024 : Shape := ⟨2, ![5376, 1024]⟩
abbrev S512x1792 : Shape := ⟨2, ![512, 1792]⟩
abbrev S512x1024 : Shape := ⟨2, ![512, 1024]⟩
abbrev S1792x1024 : Shape := ⟨2, ![1792, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5376, .bf16⟩
  | .hbm, ⟨1, _⟩ => ⟨S2048x1024, .f32⟩
  | .hbm, ⟨2, _⟩ => ⟨S5376x1024, .bf16⟩
  | .local _ .vmem, ⟨0, _⟩ => ⟨S512x1792, .bf16⟩
  | .local _ .vmem, ⟨1, _⟩ => ⟨S512x1792, .bf16⟩
  | .local _ .vmem, ⟨2, _⟩ => ⟨S512x1024, .f32⟩
  | .local _ .vmem, ⟨3, _⟩ => ⟨S512x1024, .f32⟩
  | .local _ .vmem, ⟨4, _⟩ => ⟨S1792x1024, .bf16⟩
  | .local _ .vmem, ⟨5, _⟩ => ⟨S1792x1024, .bf16⟩
  | .local _ .vmem, ⟨6, _⟩ => ⟨S1792x1024, .f32⟩
  | _, _ => ⟨S2048x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInReferenceIdeal.lean ====
abbrev S2048x5376 : Shape := ⟨2, ![2048, 5376]⟩
abbrev S2048x1024 : Shape := ⟨2, ![2048, 1024]⟩
abbrev S5376x1024 : Shape := ⟨2, ![5376, 1024]⟩
abbrev S1024x5376 : Shape := ⟨2, ![1024, 5376]⟩

abbrev nBuf : Space → Nat
  | .hbm => 7
  | .vmem => 0
  | .smem => 0
  | _ => 0

abbrev bufTy : (tb : Table) → Fin (tcTables nBuf tb) → BufTy
  | .hbm, ⟨0, _⟩ => ⟨S2048x5376, .bf16⟩
  | .hbm, ⟨1, _⟩ => ⟨S2048x1024, .f32⟩
  | .hbm, ⟨2, _⟩ => ⟨S2048x5376, .f32⟩
  | .hbm, ⟨3, _⟩ => ⟨S5376x1024, .f32⟩
  | .hbm, ⟨4, _⟩ => ⟨S1024x5376, .f32⟩
  | .hbm, ⟨5, _⟩ => ⟨S5376x1024, .f32⟩
  | .hbm, ⟨6, _⟩ => ⟨S5376x1024, .bf16⟩
  | _, _ => ⟨S2048x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MergeB.lean ====
abbrev S2048x5376 : Shape := ⟨2, ![2048, 5376]⟩
abbrev S2048x1024 : Shape := ⟨2, ![2048, 1024]⟩
abbrev S1024x256 : Shape := ⟨2, ![1024, 256]⟩

abbrev nBuf : Space → Nat
  | .hbm => 8
  | .vmem => 18
  | .smem => 0
  | _ => 0

abbrev bufTy : (tb : Table) → Fin (tcTables nBuf tb) → BufTy
  | .hbm, ⟨0, _⟩ => ⟨S2048x5376, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | _, _ => ⟨S2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeBReferenceIdeal.lean ====
abbrev S2048x5376 : Shape := ⟨2, ![2048, 5376]⟩
abbrev S2048x1024 : Shape := ⟨2, ![2048, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x5376, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | .hbm, ⟨42, _⟩ => ⟨S2048x1024, .bf16⟩
  | .hbm, ⟨43, _⟩ => ⟨S2048x1024, .bf16⟩
  | .hbm, ⟨44, _⟩ => ⟨S2048x1024, .bf16⟩
  | _, _ => ⟨S2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== MergeF.lean ====
abbrev S2048x5376 : Shape := ⟨2, ![2048, 5376]⟩
abbrev S2048x1024 : Shape := ⟨2, ![2048, 1024]⟩
abbrev S1024x256 : Shape := ⟨2, ![1024, 256]⟩

abbrev nBuf : Space → Nat
  | .hbm => 4
  | .vmem => 10
  | .smem => 0
  | _ => 0

abbrev bufTy : (tb : Table) → Fin (tcTables nBuf tb) → BufTy
  | .hbm, ⟨0, _⟩ => ⟨S2048x5376, .f32⟩
  | .hbm, ⟨1, _⟩ => ⟨S2048x1024, .f32⟩
  | .hbm, ⟨2, _⟩ => ⟨S2048x1024, .f32⟩
  | .hbm, ⟨3, _⟩ => ⟨S2048x1024, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | _, _ => ⟨S2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFReferenceIdeal.lean ====
abbrev S2048x5376 : Shape := ⟨2, ![2048, 5376]⟩
abbrev S2048x1024 : Shape := ⟨2, ![2048, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x5376, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== SwigluB.lean ====
abbrev S2x2048x2816 : Shape := ⟨3, ![2, 2048, 2816]⟩
abbrev S2048x2816 : Shape := ⟨2, ![2048, 2816]⟩
abbrev S2x256x1408 : Shape := ⟨3, ![2, 256, 1408]⟩
abbrev S256x1408 : Shape := ⟨2, ![256, 1408]⟩
abbrev S1x256x1408 : Shape := ⟨3, ![1, 256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S2x2048x2816, .bf16⟩
  | .local _ .vmem, ⟨0, _⟩ => ⟨S2x256x1408, .f32⟩
  | .local _ .vmem, ⟨1, _⟩ => ⟨S2x256x1408, .f32⟩
  | .local _ .vmem, ⟨2, _⟩ => ⟨S256x1408, .f32⟩
  | .local _ .vmem, ⟨3, _⟩ => ⟨S256x1408, .f32⟩
  | .local _ .vmem, ⟨4, _⟩ => ⟨S2x256x1408, .bf16⟩
  | .local _ .vmem, ⟨5, _⟩ => ⟨S2x256x1408, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluBReferenceIdeal.lean ====
abbrev S2x2048x2816 : Shape := ⟨3, ![2, 2048, 2816]⟩
abbrev S2048x2816 : Shape := ⟨2, ![2048, 2816]⟩
abbrev S1x2048x2816 : Shape := ⟨3, ![1, 2048, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .f32⟩
  | .hbm, ⟨2, _⟩ => ⟨S1x2048x2816, .f32⟩
  | .hbm, ⟨3, _⟩ => ⟨S2048x2816, .f32⟩
  | .hbm, ⟨4, _⟩ => ⟨S1x2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S1x2048x2816, .f32⟩
  | .hbm, ⟨27, _⟩ => ⟨S1x2048x2816, .f32⟩
  | .hbm, ⟨28, _⟩ => ⟨S2x2048x2816, .f32⟩
  | .hbm, ⟨29, _⟩ => ⟨S2x2048x2816, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩

abbrev nD : Nat := 1
abbrev τ : Topo := Topo.v7x

variable {F : FTy → Type} [FloatOps F]
-- ==== SwigluF.lean ====
abbrev S2x2048x2816 : Shape := ⟨3, ![2, 2048, 2816]⟩
abbrev S2048x2816 : Shape := ⟨2, ![2048, 2816]⟩
abbrev S2x256x1408 : Shape := ⟨3, ![2, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x2816, .f32⟩
  | .hbm, ⟨1, _⟩ => ⟨S2048x2816, .bf16⟩
  | .local _ .vmem, ⟨0, _⟩ => ⟨S2x256x1408, .f32⟩
  | .local _ .vmem, ⟨1, _⟩ => ⟨S2x256x1408, .f32⟩
  | .local _ .vmem, ⟨2, _⟩ => ⟨S256x1408, .bf16⟩
  | .local _ .vmem, ⟨3, _⟩ => ⟨S256x1408, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SwigluFReferenceIdeal.lean ====
abbrev S2x2048x2816 : Shape := ⟨3, ![2, 2048, 2816]⟩
abbrev S1x2048x2816 : Shape := ⟨3, ![1, 2048, 2816]⟩
abbrev S2048x2816 : Shape := ⟨2, ![2048, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S1x2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S_, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S1x2048x2816, .f32⟩
  | .hbm, ⟨13, _⟩ => ⟨S2048x2816, .f32⟩
  | .hbm, ⟨14, _⟩ => ⟨S2048x2816, .f32⟩
  | .hbm, ⟨15, _⟩ => ⟨S2048x2816, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== AdamVec.lean ====
abbrev S4x1024 : Shape := ⟨2, ![4, 1024]⟩
abbrev S1x4x1024 : Shape := ⟨3, ![1, 4, 1024]⟩

abbrev nBuf : Space → Nat
  | .hbm => 16
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S1x4x1024, .f32⟩
  | .hbm, ⟨5, _⟩ => ⟨S1x4x1024, .f32⟩
  | .hbm, ⟨6, _⟩ => ⟨S1x4x1024, .f32⟩
  | .hbm, ⟨7, _⟩ => ⟨S1x4x1024, .f32⟩
  | .hbm, ⟨8, _⟩ => ⟨S1x4x1024, .f32⟩
  | .hbm, ⟨9, _⟩ => ⟨S1x4x1024, .f32⟩
  | .hbm, ⟨10, _⟩ => ⟨S1x4x1024, .f32⟩
  | .hbm, ⟨11, _⟩ => ⟨S1x4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .local _ .vmem, ⟨0, _⟩ => ⟨S1x4x1024, .f32⟩
  | .local _ .vmem, ⟨1, _⟩ => ⟨S1x4x1024, .f32⟩
  | .local _ .vmem, ⟨2, _⟩ => ⟨S1x4x1024, .f32⟩
  | .local _ .vmem, ⟨3, _⟩ => ⟨S1x4x1024, .f32⟩
  | .local _ .vmem, ⟨4, _⟩ => ⟨S1x4x1024, .f32⟩
  | .local _ .vmem, ⟨5, _⟩ => ⟨S1x4x1024, .f32⟩
  | .local _ .vmem, ⟨6, _⟩ => ⟨S1x4x1024, .f32⟩
  | .local _ .vmem, ⟨7, _⟩ => ⟨S1x4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 1 → Memref sig .tc .vmem S1x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamVecReferenceIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSinks.lean ====
abbrev S4x16 : Shape := ⟨2, ![4, 16]⟩
abbrev S1x4x16 : Shape := ⟨3, ![1, 4, 16]⟩

abbrev nBuf : Space → Nat
  | .hbm => 16
  | .vmem => 8
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S1x4x16, .f32⟩
  | .hbm, ⟨5, _⟩ => ⟨S1x4x16, .f32⟩
  | .hbm, ⟨6, _⟩ => ⟨S1x4x16, .f32⟩
  | .hbm, ⟨7, _⟩ => ⟨S1x4x16, .f32⟩
  | .hbm, ⟨8, _⟩ => ⟨S1x4x16, .f32⟩
  | .hbm, ⟨9, _⟩ => ⟨S1x4x16, .f32⟩
  | .hbm, ⟨10, _⟩ => ⟨S1x4x16, .f32⟩
  | .hbm, ⟨11, _⟩ => ⟨S1x4x16, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S4x16, .f32⟩
  | .local _ .vmem, ⟨0, _⟩ => ⟨S1x4x16, .f32⟩
  | .local _ .vmem, ⟨1, _⟩ => ⟨S1x4x16, .f32⟩
  | .local _ .vmem, ⟨2, _⟩ => ⟨S1x4x16, .f32⟩
  | .local _ .vmem, ⟨3, _⟩ => ⟨S1x4x16, .f32⟩
  | .local _ .vmem, ⟨4, _⟩ => ⟨S1x4x16, .f32⟩
  | .local _ .vmem, ⟨5, _⟩ => ⟨S1x4x16, .f32⟩
  | .local _ .vmem, ⟨6, _⟩ => ⟨S1x4x16, .f32⟩
  | .local _ .vmem, ⟨7, _⟩ => ⟨S1x4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 1 → Memref sig .tc .vmem S1x4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSinksReferenceIdeal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S4x4x256 : Shape := ⟨3, ![4, 4, 256]⟩
abbrev S1x4x256 : Shape := ⟨3, ![1, 4, 256]⟩
abbrev S4x256 : Shape := ⟨2, ![4, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x4x256, .f32⟩
  | .hbm, ⟨1, _⟩ => ⟨S4x4x256, .f32⟩
  | .hbm, ⟨2, _⟩ => ⟨S4x4x256, .f32⟩
  | .hbm, ⟨3, _⟩ => ⟨S4x4x256, .f32⟩
  | .hbm, ⟨4, _⟩ => ⟨S4x4x256, .f32⟩
  | .hbm, ⟨5, _⟩ => ⟨S4x4x256, .f32⟩
  | .hbm, ⟨6, _⟩ => ⟨S4x4x256, .f32⟩
  | .hbm, ⟨7, _⟩ => ⟨S4x4x256, .f32⟩
  | .local _ .vmem, ⟨0, _⟩ => ⟨S1x4x256, .f32⟩
  | .local _ .vmem, ⟨1, _⟩ => ⟨S1x4x256, .f32⟩
  | .local _ .vmem, ⟨2, _⟩ => ⟨S1x4x256, .f32⟩
  | .local _ .vmem, ⟨3, _⟩ => ⟨S1x4x256, .f32⟩
  | .local _ .vmem, ⟨4, _⟩ => ⟨S1x4x256, .f32⟩
  | .local _ .vmem, ⟨5, _⟩ => ⟨S1x4x256, .f32⟩
  | .local _ .vmem, ⟨6, _⟩ => ⟨S1x4x256, .f32⟩
  | .local _ .vmem, ⟨7, _⟩ => ⟨S1x4x256, .f32⟩
  | .local _ .vmem, ⟨8, _⟩ => ⟨S1x4x256, .f32⟩
  | .local _ .vmem, ⟨9, _⟩ => ⟨S1x4x256, .f32⟩
  | .local _ .vmem, ⟨10, _⟩ => ⟨S1x4x256, .f32⟩
  | .local _ .vmem, ⟨11, _⟩ => ⟨S1x4x256, .f32⟩
  | .local _ .vmem, ⟨12, _⟩ => ⟨S1x4x256, .f32⟩
  | .local _ .vmem, ⟨13, _⟩ => ⟨S1x4x256, .f32⟩
  | .local _ .vmem, ⟨14, _⟩ => ⟨S1x4x256, .f32⟩
  | .local _ .vmem, ⟨15, _⟩ => ⟨S1x4x256, .f32⟩
  | _, _ => ⟨S4x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamConvReferenceIdeal.lean ====
abbrev S4x4x256 : Shape := ⟨3, ![4, 4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x256, .f32⟩
  | .hbm, ⟨1, _⟩ => ⟨S4x4x256, .f32⟩
  | .hbm, ⟨2, _⟩ => ⟨S4x4x256, .f32⟩
  | .hbm, ⟨3, _⟩ => ⟨S4x4x256, .f32⟩
  | .hbm, ⟨4, _⟩ => ⟨S_, .f32⟩
  | .hbm, ⟨5, _⟩ => ⟨S4x4x256, .f32⟩
  | .hbm, ⟨6, _⟩ => ⟨S4x4x256, .f32⟩
  | .hbm, ⟨7, _⟩ => ⟨S_, .f32⟩
  | .hbm, ⟨8, _⟩ => ⟨S4x4x256, .f32⟩
  | .hbm, ⟨9, _⟩ => ⟨S4x4x256, .f32⟩
  | .hbm, ⟨10, _⟩ => ⟨S4x4x256, .f32⟩
  | .hbm, ⟨11, _⟩ => ⟨S_, .f32⟩
  | .hbm, ⟨12, _⟩ => ⟨S4x4x256, .f32⟩
  | .hbm, ⟨13, _⟩ => ⟨S4x4x256, .f32⟩
  | .hbm, ⟨14, _⟩ => ⟨S4x4x256, .f32⟩
  | .hbm, ⟨15, _⟩ => ⟨S_, .f32⟩
  | .hbm, ⟨16, _⟩ => ⟨S4x4x256, .f32⟩
  | .hbm, ⟨17, _⟩ => ⟨S4x4x256, .f32⟩
  | .hbm, ⟨18, _⟩ => ⟨S4x4x256, .f32⟩
  | .hbm, ⟨19, _⟩ => ⟨S_, .f32⟩
  | .hbm, ⟨20, _⟩ => ⟨S4x4x256, .f32⟩
  | .hbm, ⟨21, _⟩ => ⟨S4x4x256, .f32⟩
  | .hbm, ⟨22, _⟩ => ⟨S_, .f32⟩
  | .hbm, ⟨23, _⟩ => ⟨S4x4x256, .f32⟩
  | .hbm, ⟨24, _⟩ => ⟨S4x4x256, .f32⟩
  | .hbm, ⟨25, _⟩ => ⟨S4x4x256, .f32⟩
  | .hbm, ⟨26, _⟩ => ⟨S_, .f32⟩
  | .hbm, ⟨27, _⟩ => ⟨S4x4x256, .f32⟩
  | .hbm, ⟨28, _⟩ => ⟨S4x4x256, .f32⟩
  | .hbm, ⟨29, _⟩ => ⟨S4x4x256, .f32⟩
  | .hbm, ⟨30, _⟩ => ⟨S_, .f32⟩
  | .hbm, ⟨31, _⟩ => ⟨S4x4x256, .f32⟩
  | .hbm, ⟨32, _⟩ => ⟨S4x4x256, .f32⟩
  | .hbm, ⟨33, _⟩ => ⟨S4x4x256, .f32⟩
  | .hbm, ⟨34, _⟩ => ⟨S_, .f32⟩
  | .hbm, ⟨35, _⟩ => ⟨S4x4x256, .f32⟩
  | .hbm, ⟨36, _⟩ => ⟨S4x4x256, .f32⟩
  | _, _ => ⟨S4x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInUp.lean ====
abbrev S4x1344x1024 : Shape := ⟨3, ![4, 1344, 1024]⟩
abbrev S1x224x1024 : Shape := ⟨3, ![1, 224, 1024]⟩
abbrev S224x1024 : Shape := ⟨2, ![224, 1024]⟩
abbrev S2x1344x1024 : Shape := ⟨3, ![2, 1344, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1344x1024, .f32⟩
  | .hbm, ⟨1, _⟩ => ⟨S4x1344x1024, .f32⟩
  | .hbm, ⟨2, _⟩ => ⟨S4x1344x1024, .f32⟩
  | .hbm, ⟨3, _⟩ => ⟨S4x1344x1024, .f32⟩
  | .hbm, ⟨4, _⟩ => ⟨S4x1344x1024, .f32⟩
  | .hbm, ⟨5, _⟩ => ⟨S4x1344x1024, .f32⟩
  | .hbm, ⟨6, _⟩ => ⟨S4x1344x1024, .f32⟩
  | .hbm, ⟨7, _⟩ => ⟨S4x1344x1024, .f32⟩
  | .hbm, ⟨8, _⟩ => ⟨S2x1344x1024, .f32⟩
  | .hbm, ⟨9, _⟩ => ⟨S2x1344x1024, .f32⟩
  | .hbm, ⟨10, _⟩ => ⟨S2x1344x1024, .f32⟩
  | .hbm, ⟨11, _⟩ => ⟨S2x1344x1024, .f32⟩
  | .local _ .vmem, ⟨0, _⟩ => ⟨S1x224x1024, .f32⟩
  | .local _ .vmem, ⟨1, _⟩ => ⟨S1x224x1024, .f32⟩
  | .local _ .vmem, ⟨2, _⟩ => ⟨S1x224x1024, .f32⟩
  | .local _ .vmem, ⟨3, _⟩ => ⟨S1x224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S1x224x1024, .f32⟩
  | .local _ .vmem, ⟨9, _⟩ => ⟨S1x224x1024, .f32⟩
  | .local _ .vmem, ⟨10, _⟩ => ⟨S1x224x1024, .f32⟩
  | .local _ .vmem, ⟨11, _⟩ => ⟨S1x224x1024, .f32⟩
  | .local _ .vmem, ⟨12, _⟩ => ⟨S1x224x1024, .f32⟩
  | .local _ .vmem, ⟨13, _⟩ => ⟨S1x224x1024, .f32⟩
  | .local _ .vmem, ⟨14, _⟩ => ⟨S1x224x1024, .f32⟩
  | .local _ .vmem, ⟨15, _⟩ => ⟨S1x224x1024, .f32⟩
  | _, _ => ⟨S4x1344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInUpIdeal.lean ====
abbrev S4x1344x1024 : Shape := ⟨3, ![4, 1344, 1024]⟩
abbrev S1x224x1024 : Shape := ⟨3, ![1, 224, 1024]⟩
abbrev S224x1024 : Shape := ⟨2, ![224, 1024]⟩
abbrev S2x1344x1024 : Shape := ⟨3, ![2, 1344, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1344x1024, .f32⟩
  | .hbm, ⟨1, _⟩ => ⟨S4x1344x1024, .f32⟩
  | .hbm, ⟨2, _⟩ => ⟨S4x1344x1024, .f32⟩
  | .hbm, ⟨3, _⟩ => ⟨S4x1344x1024, .f32⟩
  | .hbm, ⟨4, _⟩ => ⟨S4x1344x1024, .f32⟩
  | .hbm, ⟨5, _⟩ => ⟨S4x1344x1024, .f32⟩
  | .hbm, ⟨6, _⟩ => ⟨S4x1344x1024, .f32⟩
  | .hbm, ⟨7, _⟩ => ⟨S4x1344x1024, .f32⟩
  | .hbm, ⟨8, _⟩ => ⟨S2x1344x1024, .f32⟩
  | .hbm, ⟨9, _⟩ => ⟨S2x1344x1024, .f32⟩
  | .hbm, ⟨10, _⟩ => ⟨S2x1344x1024, .f32⟩
  | .hbm, ⟨11, _⟩ => ⟨S2x1344x1024, .f32⟩
  | .local _ .vmem, ⟨0, _⟩ => ⟨S1x224x1024, .f32⟩
  | .local _ .vmem, ⟨1, _⟩ => ⟨S1x224x1024, .f32⟩
  | .local _ .vmem, ⟨2, _⟩ => ⟨S1x224x1024, .f32⟩
  | .local _ .vmem, ⟨3, _⟩ => ⟨S1x224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S1x224x1024, .f32⟩
  | .local _ .vmem, ⟨9, _⟩ => ⟨S1x224x1024, .f32⟩
  | .local _ .vmem, ⟨10, _⟩ => ⟨S1x224x1024, .f32⟩
  | .local _ .vmem, ⟨11, _⟩ => ⟨S1x224x1024, .f32⟩
  | .local _ .vmem, ⟨12, _⟩ => ⟨S1x224x1024, .f32⟩
  | .local _ .vmem, ⟨13, _⟩ => ⟨S1x224x1024, .f32⟩
  | .local _ .vmem, ⟨14, _⟩ => ⟨S1x224x1024, .f32⟩
  | .local _ .vmem, ⟨15, _⟩ => ⟨S1x224x1024, .f32⟩
  | _, _ => ⟨S4x1344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInUpReferenceIdeal.lean ====
abbrev S4x1344x1024 : Shape := ⟨3, ![4, 1344, 1024]⟩
abbrev S_ : Shape := ⟨0, ![]⟩
abbrev S2x1344x1024 : Shape := ⟨3, ![2, 1344, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x1344x1024, .f32⟩
  | .hbm, ⟨1, _⟩ => ⟨S4x1344x1024, .f32⟩
  | .hbm, ⟨2, _⟩ => ⟨S4x1344x1024, .f32⟩
  | .hbm, ⟨3, _⟩ => ⟨S4x1344x1024, .f32⟩
  | .hbm, ⟨4, _⟩ => ⟨S_, .f32⟩
  | .hbm, ⟨5, _⟩ => ⟨S4x1344x1024, .f32⟩
  | .hbm, ⟨6, _⟩ => ⟨S4x1344x1024, .f32⟩
  | .hbm, ⟨7, _⟩ => ⟨S_, .f32⟩
  | .hbm, ⟨8, _⟩ => ⟨S4x1344x1024, .f32⟩
  | .hbm, ⟨9, _⟩ => ⟨S4x1344x1024, .f32⟩
  | .hbm, ⟨10, _⟩ => ⟨S4x1344x1024, .f32⟩
  | .hbm, ⟨11, _⟩ => ⟨S_, .f32⟩
  | .hbm, ⟨12, _⟩ => ⟨S4x1344x1024, .f32⟩
  | .hbm, ⟨13, _⟩ => ⟨S4x1344x1024, .f32⟩
  | .hbm, ⟨14, _⟩ => ⟨S4x1344x1024, .f32⟩
  | .hbm, ⟨15, _⟩ => ⟨S_, .f32⟩
  | .hbm, ⟨16, _⟩ => ⟨S4x1344x1024, .f32⟩
  | .hbm, ⟨17, _⟩ => ⟨S4x1344x1024, .f32⟩
  | .hbm, ⟨18, _⟩ => ⟨S4x1344x1024, .f32⟩
  | .hbm, ⟨19, _⟩ => ⟨S_, .f32⟩
  | .hbm, ⟨20, _⟩ => ⟨S4x1344x1024, .f32⟩
  | .hbm, ⟨21, _⟩ => ⟨S4x1344x1024, .f32⟩
  | .hbm, ⟨22, _⟩ => ⟨S_, .f32⟩
  | .hbm, ⟨23, _⟩ => ⟨S4x1344x1024, .f32⟩
  | .hbm, ⟨24, _⟩ => ⟨S4x1344x1024, .f32⟩
  | .hbm, ⟨25, _⟩ => ⟨S4x1344x1024, .f32⟩
  | .hbm, ⟨26, _⟩ => ⟨S_, .f32⟩
  | .hbm, ⟨27, _⟩ => ⟨S4x1344x1024, .f32⟩
  | .hbm, ⟨28, _⟩ => ⟨S4x1344x1024, .f32⟩
  | .hbm, ⟨29, _⟩ => ⟨S4x1344x1024, .f32⟩
  | .hbm, ⟨30, _⟩ => ⟨S_, .f32⟩
  | .hbm, ⟨31, _⟩ => ⟨S4x1344x1024, .f32⟩
  | .hbm, ⟨32, _⟩ => ⟨S4x1344x1024, .f32⟩
  | .hbm, ⟨33, _⟩ => ⟨S4x1344x1024, .f32⟩
  | .hbm, ⟨34, _⟩ => ⟨S_, .f32⟩
  | .hbm, ⟨35, _⟩ => ⟨S4x1344x1024, .f32⟩
  | .hbm, ⟨36, _⟩ => ⟨S4x1344x1024, .f32⟩
  | .hbm, ⟨37, _⟩ => ⟨S2x1344x1024, .f32⟩
  | .hbm, ⟨38, _⟩ => ⟨S2x1344x1024, .f32⟩
  | .hbm, ⟨39, _⟩ => ⟨S2x1344x1024, .f32⟩
  | .hbm, ⟨40, _⟩ => ⟨S2x1344x1024, .f32⟩
  | _, _ => ⟨S4x1344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamInLow.lean ====
abbrev S4x1344x1024 : Shape := ⟨3, ![4, 1344, 1024]⟩
abbrev S1x224x1024 : Shape := ⟨3, ![1, 224, 1024]⟩
abbrev S224x1024 : Shape := ⟨2, ![224, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1344x1024, .f32⟩
  | .hbm, ⟨1, _⟩ => ⟨S4x1344x1024, .f32⟩
  | .hbm, ⟨2, _⟩ => ⟨S4x1344x1024, .f32⟩
  | .hbm, ⟨3, _⟩ => ⟨S4x1344x1024, .f32⟩
  | .hbm, ⟨4, _⟩ => ⟨S4x1344x1024, .f32⟩
  | .hbm, ⟨5, _⟩ => ⟨S4x1344x1024, .f32⟩
  | .hbm, ⟨6, _⟩ => ⟨S4x1344x1024, .f32⟩
  | .hbm, ⟨7, _⟩ => ⟨S4x1344x1024, .f32⟩
  | .hbm, ⟨8, _⟩ => ⟨S4x1344x1024, .f32⟩
  | .hbm, ⟨9, _⟩ => ⟨S4x1344x1024, .f32⟩
  | .hbm, ⟨10, _⟩ => ⟨S4x1344x1024, .f32⟩
  | .hbm, ⟨11, _⟩ => ⟨S4x1344x1024, .f32⟩
  | .local _ .vmem, ⟨0, _⟩ => ⟨S1x224x1024, .f32⟩
  | .local _ .vmem, ⟨1, _⟩ => ⟨S1x224x1024, .f32⟩
  | .local _ .vmem, ⟨2, _⟩ => ⟨S1x224x1024, .f32⟩
  | .local _ .vmem, ⟨3, _⟩ => ⟨S1x224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S1x224x1024, .f32⟩
  | .local _ .vmem, ⟨9, _⟩ => ⟨S1x224x1024, .f32⟩
  | .local _ .vmem, ⟨10, _⟩ => ⟨S1x224x1024, .f32⟩
  | .local _ .vmem, ⟨11, _⟩ => ⟨S1x224x1024, .f32⟩
  | .local _ .vmem, ⟨12, _⟩ => ⟨S1x224x1024, .f32⟩
  | .local _ .vmem, ⟨13, _⟩ => ⟨S1x224x1024, .f32⟩
  | .local _ .vmem, ⟨14, _⟩ => ⟨S1x224x1024, .f32⟩
  | .local _ .vmem, ⟨15, _⟩ => ⟨S1x224x1024, .f32⟩
  | _, _ => ⟨S4x1344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInLowIdeal.lean ====
abbrev S4x1344x1024 : Shape := ⟨3, ![4, 1344, 1024]⟩
abbrev S1x224x1024 : Shape := ⟨3, ![1, 224, 1024]⟩
abbrev S224x1024 : Shape := ⟨2, ![224, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x1344x1024, .f32⟩
  | .hbm, ⟨1, _⟩ => ⟨S4x1344x1024, .f32⟩
  | .hbm, ⟨2, _⟩ => ⟨S4x1344x1024, .f32⟩
  | .hbm, ⟨3, _⟩ => ⟨S4x1344x1024, .f32⟩
  | .hbm, ⟨4, _⟩ => ⟨S4x1344x1024, .f32⟩
  | .hbm, ⟨5, _⟩ => ⟨S4x1344x1024, .f32⟩
  | .hbm, ⟨6, _⟩ => ⟨S4x1344x1024, .f32⟩
  | .hbm, ⟨7, _⟩ => ⟨S4x1344x1024, .f32⟩
  | .hbm, ⟨8, _⟩ => ⟨S4x1344x1024, .f32⟩
  | .hbm, ⟨9, _⟩ => ⟨S4x1344x1024, .f32⟩
  | .hbm, ⟨10, _⟩ => ⟨S4x1344x1024, .f32⟩
  | .hbm, ⟨11, _⟩ => ⟨S4x1344x1024, .f32⟩
  | .local _ .vmem, ⟨0, _⟩ => ⟨S1x224x1024, .f32⟩
  | .local _ .vmem, ⟨1, _⟩ => ⟨S1x224x1024, .f32⟩
  | .local _ .vmem, ⟨2, _⟩ => ⟨S1x224x1024, .f32⟩
  | .local _ .vmem, ⟨3, _⟩ => ⟨S1x224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S1x224x1024, .f32⟩
  | .local _ .vmem, ⟨9, _⟩ => ⟨S1x224x1024, .f32⟩
  | .local _ .vmem, ⟨10, _⟩ => ⟨S1x224x1024, .f32⟩
  | .local _ .vmem, ⟨11, _⟩ => ⟨S1x224x1024, .f32⟩
  | .local _ .vmem, ⟨12, _⟩ => ⟨S1x224x1024, .f32⟩
  | .local _ .vmem, ⟨13, _⟩ => ⟨S1x224x1024, .f32⟩
  | .local _ .vmem, ⟨14, _⟩ => ⟨S1x224x1024, .f32⟩
  | .local _ .vmem, ⟨15, _⟩ => ⟨S1x224x1024, .f32⟩
  | _, _ => ⟨S4x1344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInLowReferenceIdeal.lean ====
abbrev S4x1344x1024 : Shape := ⟨3, ![4, 1344, 1024]⟩
abbrev S_ : Shape := ⟨0, ![]⟩
abbrev S2x1344x1024 : Shape := ⟨3, ![2, 1344, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x1344x1024, .f32⟩
  | .hbm, ⟨1, _⟩ => ⟨S4x1344x1024, .f32⟩
  | .hbm, ⟨2, _⟩ => ⟨S4x1344x1024, .f32⟩
  | .hbm, ⟨3, _⟩ => ⟨S4x1344x1024, .f32⟩
  | .hbm, ⟨4, _⟩ => ⟨S4x1344x1024, .f32⟩
  | .hbm, ⟨5, _⟩ => ⟨S4x1344x1024, .f32⟩
  | .hbm, ⟨6, _⟩ => ⟨S4x1344x1024, .f32⟩
  | .hbm, ⟨7, _⟩ => ⟨S4x1344x1024, .f32⟩
  | .hbm, ⟨8, _⟩ => ⟨S_, .f32⟩
  | .hbm, ⟨9, _⟩ => ⟨S4x1344x1024, .f32⟩
  | .hbm, ⟨10, _⟩ => ⟨S4x1344x1024, .f32⟩
  | .hbm, ⟨11, _⟩ => ⟨S_, .f32⟩
  | .hbm, ⟨12, _⟩ => ⟨S4x1344x1024, .f32⟩
  | .hbm, ⟨13, _⟩ => ⟨S4x1344x1024, .f32⟩
  | .hbm, ⟨14, _⟩ => ⟨S4x1344x1024, .f32⟩
  | .hbm, ⟨15, _⟩ => ⟨S_, .f32⟩
  | .hbm, ⟨16, _⟩ => ⟨S4x1344x1024, .f32⟩
  | .hbm, ⟨17, _⟩ => ⟨S4x1344x1024, .f32⟩
  | .hbm, ⟨18, _⟩ => ⟨S4x1344x1024, .f32⟩
  | .hbm, ⟨19, _⟩ => ⟨S_, .f32⟩
  | .hbm, ⟨20, _⟩ => ⟨S4x1344x1024, .f32⟩
  | .hbm, ⟨21, _⟩ => ⟨S4x1344x1024, .f32⟩
  | .hbm, ⟨22, _⟩ => ⟨S4x1344x1024, .f32⟩
  | .hbm, ⟨23, _⟩ => ⟨S_, .f32⟩
  | .hbm, ⟨24, _⟩ => ⟨S4x1344x1024, .f32⟩
  | .hbm, ⟨25, _⟩ => ⟨S4x1344x1024, .f32⟩
  | .hbm, ⟨26, _⟩ => ⟨S_, .f32⟩
  | .hbm, ⟨27, _⟩ => ⟨S4x1344x1024, .f32⟩
  | .hbm, ⟨28, _⟩ => ⟨S4x1344x1024, .f32⟩
  | .hbm, ⟨29, _⟩ => ⟨S4x1344x1024, .f32⟩
  | .hbm, ⟨30, _⟩ => ⟨S_, .f32⟩
  | .hbm, ⟨31, _⟩ => ⟨S4x1344x1024, .f32⟩
  | .hbm, ⟨32, _⟩ => ⟨S4x1344x1024, .f32⟩
  | .hbm, ⟨33, _⟩ => ⟨S4x1344x1024, .f32⟩
  | .hbm, ⟨34, _⟩ => ⟨S_, .f32⟩
  | .hbm, ⟨35, _⟩ => ⟨S4x1344x1024, .f32⟩
  | .hbm, ⟨36, _⟩ => ⟨S4x1344x1024, .f32⟩
  | .hbm, ⟨37, _⟩ => ⟨S4x1344x1024, .f32⟩
  | .hbm, ⟨38, _⟩ => ⟨S_, .f32⟩
  | .hbm, ⟨39, _⟩ => ⟨S4x1344x1024, .f32⟩
  | .hbm, ⟨40, _⟩ => ⟨S4x1344x1024, .f32⟩
  | .hbm, ⟨41, _⟩ => ⟨S2x1344x1024, .f32⟩
  | .hbm, ⟨42, _⟩ => ⟨S2x1344x1024, .f32⟩
  | .hbm, ⟨43, _⟩ => ⟨S4x1344x1024, .f32⟩
  | .hbm, ⟨44, _⟩ => ⟨S2x1344x1024, .f32⟩
  | .hbm, ⟨45, _⟩ => ⟨S2x1344x1024, .f32⟩
  | .hbm, ⟨46, _⟩ => ⟨S4x1344x1024, .f32⟩
  | .hbm, ⟨47, _⟩ => ⟨S2x1344x1024, .f32⟩
  | .hbm, ⟨48, _⟩ => ⟨S2x1344x1024, .f32⟩
  | .hbm, ⟨49, _⟩ => ⟨S4x1344x1024, .f32⟩
  | .hbm, ⟨50, _⟩ => ⟨S2x1344x1024, .f32⟩
  | .hbm, ⟨51, _⟩ => ⟨S2x1344x1024, .f32⟩
  | .hbm, ⟨52, _⟩ => ⟨S4x1344x1024, .f32⟩
  | _, _ => ⟨S4x1344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== AdamRgUp.lean ====
abbrev S4x4x64x256 : Shape := ⟨4, ![4, 4, 64, 256]⟩
abbrev S4x256x256 : Shape := ⟨3, ![4, 256, 256]⟩
abbrev S1x256x256 : Shape := ⟨3, ![1, 256, 256]⟩
abbrev S256x256 : Shape := ⟨2, ![256, 256]⟩
abbrev S2x4x64x256 : Shape := ⟨4, ![2, 4, 64, 256]⟩

abbrev nBuf : Space → Nat
  | .hbm => 20
  | .vmem => 16
  | .smem => 0
  | _ => 0

abbrev bufTy : (tb : Table) → Fin (tcTables nBuf tb) → BufTy
  | .hbm, ⟨0, _⟩ => ⟨S4x4x64x256, .f32⟩
  | .hbm, ⟨1, _⟩ => ⟨S4x4x64x256, .f32⟩
  | .hbm, ⟨2, _⟩ => ⟨S4x4x64x256, .f32⟩
  | .hbm, ⟨3, _⟩ => ⟨S4x4x64x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .hbm, ⟨12, _⟩ => ⟨S4x4x64x256, .f32⟩
  | .hbm, ⟨13, _⟩ => ⟨S4x4x64x256, .f32⟩
  | .hbm, ⟨14, _⟩ => ⟨S4x4x64x256, .f32⟩
  | .hbm, ⟨15, _⟩ => ⟨S4x4x64x256, .f32⟩
  | .hbm, ⟨16, _⟩ => ⟨S2x4x64x256, .f32⟩
  | .hbm, ⟨17, _⟩ => ⟨S2x4x64x256, .f32⟩
  | .hbm, ⟨18, _⟩ => ⟨S2x4x64x256, .f32⟩
  | .hbm, ⟨19, _⟩ => ⟨S2x4x64x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S4x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRgUpIdeal.lean ====
abbrev S4x4x64x256 : Shape := ⟨4, ![4, 4, 64, 256]⟩
abbrev S4x256x256 : Shape := ⟨3, ![4, 256, 256]⟩
abbrev S1x256x256 : Shape := ⟨3, ![1, 256, 256]⟩
abbrev S256x256 : Shape := ⟨2, ![256, 256]⟩
abbrev S2x4x64x256 : Shape := ⟨4, ![2, 4, 64, 256]⟩

abbrev nBuf : Space → Nat
  | .hbm => 20
  | .vmem => 16
  | .smem => 0
  | _ => 0

abbrev bufTy : (tb : Table) → Fin (tcTables nBuf tb) → BufTy
  | .hbm, ⟨0, _⟩ => ⟨S4x4x64x256, .f32⟩
  | .hbm, ⟨1, _⟩ => ⟨S4x4x64x256, .f32⟩
  | .hbm, ⟨2, _⟩ => ⟨S4x4x64x256, .f32⟩
  | .hbm, ⟨3, _⟩ => ⟨S4x4x64x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .hbm, ⟨12, _⟩ => ⟨S4x4x64x256, .f32⟩
  | .hbm, ⟨13, _⟩ => ⟨S4x4x64x256, .f32⟩
  | .hbm, ⟨14, _⟩ => ⟨S4x4x64x256, .f32⟩
  | .hbm, ⟨15, _⟩ => ⟨S4x4x64x256, .f32⟩
  | .hbm, ⟨16, _⟩ => ⟨S2x4x64x256, .f32⟩
  | .hbm, ⟨17, _⟩ => ⟨S2x4x64x256, .f32⟩
  | .hbm, ⟨18, _⟩ => ⟨S2x4x64x256, .f32⟩
  | .hbm, ⟨19, _⟩ => ⟨S2x4x64x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S4x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRgUpReferenceIdeal.lean ====
abbrev S4x4x64x256 : Shape := ⟨4, ![4, 4, 64, 256]⟩
abbrev S_ : Shape := ⟨0, ![]⟩
abbrev S2x4x64x256 : Shape := ⟨4, ![2, 4, 64, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x4x64x256, .f32⟩
  | .hbm, ⟨1, _⟩ => ⟨S4x4x64x256, .f32⟩
  | .hbm, ⟨2, _⟩ => ⟨S4x4x64x256, .f32⟩
  | .hbm, ⟨3, _⟩ => ⟨S4x4x64x256, .f32⟩
  | .hbm, ⟨4, _⟩ => ⟨S_, .f32⟩
  | .hbm, ⟨5, _⟩ => ⟨S4x4x64x256, .f32⟩
  | .hbm, ⟨6, _⟩ => ⟨S4x4x64x256, .f32⟩
  | .hbm, ⟨7, _⟩ => ⟨S_, .f32⟩
  | .hbm, ⟨8, _⟩ => ⟨S4x4x64x256, .f32⟩
  | .hbm, ⟨9, _⟩ => ⟨S4x4x64x256, .f32⟩
  | .hbm, ⟨10, _⟩ => ⟨S4x4x64x256, .f32⟩
  | .hbm, ⟨11, _⟩ => ⟨S_, .f32⟩
  | .hbm, ⟨12, _⟩ => ⟨S4x4x64x256, .f32⟩
  | .hbm, ⟨13, _⟩ => ⟨S4x4x64x256, .f32⟩
  | .hbm, ⟨14, _⟩ => ⟨S4x4x64x256, .f32⟩
  | .hbm, ⟨15, _⟩ => ⟨S_, .f32⟩
  | .hbm, ⟨16, _⟩ => ⟨S4x4x64x256, .f32⟩
  | .hbm, ⟨17, _⟩ => ⟨S4x4x64x256, .f32⟩
  | .hbm, ⟨18, _⟩ => ⟨S4x4x64x256, .f32⟩
  | .hbm, ⟨19, _⟩ => ⟨S_, .f32⟩
  | .hbm, ⟨20, _⟩ => ⟨S4x4x64x256, .f32⟩
  | .hbm, ⟨21, _⟩ => ⟨S4x4x64x256, .f32⟩
  | .hbm, ⟨22, _⟩ => ⟨S_, .f32⟩
  | .hbm, ⟨23, _⟩ => ⟨S4x4x64x256, .f32⟩
  | .hbm, ⟨24, _⟩ => ⟨S4x4x64x256, .f32⟩
  | .hbm, ⟨25, _⟩ => ⟨S4x4x64x256, .f32⟩
  | .hbm, ⟨26, _⟩ => ⟨S_, .f32⟩
  | .hbm, ⟨27, _⟩ => ⟨S4x4x64x256, .f32⟩
  | .hbm, ⟨28, _⟩ => ⟨S4x4x64x256, .f32⟩
  | .hbm, ⟨29, _⟩ => ⟨S4x4x64x256, .f32⟩
  | .hbm, ⟨30, _⟩ => ⟨S_, .f32⟩
  | .hbm, ⟨31, _⟩ => ⟨S4x4x64x256, .f32⟩
  | .hbm, ⟨32, _⟩ => ⟨S4x4x64x256, .f32⟩
  | .hbm, ⟨33, _⟩ => ⟨S4x4x64x256, .f32⟩
  | .hbm, ⟨34, _⟩ => ⟨S_, .f32⟩
  | .hbm, ⟨35, _⟩ => ⟨S4x4x64x256, .f32⟩
  | .hbm, ⟨36, _⟩ => ⟨S4x4x64x256, .f32⟩
  | .hbm, ⟨37, _⟩ => ⟨S2x4x64x256, .f32⟩
  | .hbm, ⟨38, _⟩ => ⟨S2x4x64x256, .f32⟩
  | .hbm, ⟨39, _⟩ => ⟨S2x4x64x256, .f32⟩
  | .hbm, ⟨40, _⟩ => ⟨S2x4x64x256, .f32⟩
  | _, _ => ⟨S4x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamRgLow.lean ====
abbrev S4x4x64x256 : Shape := ⟨4, ![4, 4, 64, 256]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 24
  | .vmem => 16
  | .smem => 0
  | _ => 0

abbrev bufTy : (tb : Table) → Fin (tcTables nBuf tb) → BufTy
  | .hbm, ⟨0, _⟩ => ⟨S4x4x64x256, .f32⟩
  | .hbm, ⟨1, _⟩ => ⟨S4x4x64x256, .f32⟩
  | .hbm, ⟨2, _⟩ => ⟨S4x4x64x256, .f32⟩
  | .hbm, ⟨3, _⟩ => ⟨S4x4x64x256, .f32⟩
  | .hbm, ⟨4, _⟩ => ⟨S4x4x64x256, .f32⟩
  | .hbm, ⟨5, _⟩ => ⟨S4x4x64x256, .f32⟩
  | .hbm, ⟨6, _⟩ => ⟨S4x4x64x256, .f32⟩
  | .hbm, ⟨7, _⟩ => ⟨S4x4x64x256, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S4x256x256, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S4x256x256, .f32⟩
  | .hbm, ⟨20, _⟩ => ⟨S4x4x64x256, .f32⟩
  | .hbm, ⟨21, _⟩ => ⟨S4x4x64x256, .f32⟩
  | .hbm, ⟨22, _⟩ => ⟨S4x4x64x256, .f32⟩
  | .hbm, ⟨23, _⟩ => ⟨S4x4x64x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S4x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRgLowIdeal.lean ====
abbrev S4x4x64x256 : Shape := ⟨4, ![4, 4, 64, 256]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 24
  | .vmem => 16
  | .smem => 0
  | _ => 0

abbrev bufTy : (tb : Table) → Fin (tcTables nBuf tb) → BufTy
  | .hbm, ⟨0, _⟩ => ⟨S4x4x64x256, .f32⟩
  | .hbm, ⟨1, _⟩ => ⟨S4x4x64x256, .f32⟩
  | .hbm, ⟨2, _⟩ => ⟨S4x4x64x256, .f32⟩
  | .hbm, ⟨3, _⟩ => ⟨S4x4x64x256, .f32⟩
  | .hbm, ⟨4, _⟩ => ⟨S4x4x64x256, .f32⟩
  | .hbm, ⟨5, _⟩ => ⟨S4x4x64x256, .f32⟩
  | .hbm, ⟨6, _⟩ => ⟨S4x4x64x256, .f32⟩
  | .hbm, ⟨7, _⟩ => ⟨S4x4x64x256, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S4x256x256, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S4x256x256, .f32⟩
  | .hbm, ⟨20, _⟩ => ⟨S4x4x64x256, .f32⟩
  | .hbm, ⟨21, _⟩ => ⟨S4x4x64x256, .f32⟩
  | .hbm, ⟨22, _⟩ => ⟨S4x4x64x256, .f32⟩
  | .hbm, ⟨23, _⟩ => ⟨S4x4x64x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S4x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRgLowReferenceIdeal.lean ====
abbrev S4x4x64x256 : Shape := ⟨4, ![4, 4, 64, 256]⟩
abbrev S_ : Shape := ⟨0, ![]⟩
abbrev S2x4x64x256 : Shape := ⟨4, ![2, 4, 64, 256]⟩

abbrev nBuf : Space → Nat
  | .hbm => 53
  | .vmem => 0
  | .smem => 0
  | _ => 0

abbrev bufTy : (tb : Table) → Fin (tcTables nBuf tb) → BufTy
  | .hbm, ⟨0, _⟩ => ⟨S4x4x64x256, .f32⟩
  | .hbm, ⟨1, _⟩ => ⟨S4x4x64x256, .f32⟩
  | .hbm, ⟨2, _⟩ => ⟨S4x4x64x256, .f32⟩
  | .hbm, ⟨3, _⟩ => ⟨S4x4x64x256, .f32⟩
  | .hbm, ⟨4, _⟩ => ⟨S4x4x64x256, .f32⟩
  | .hbm, ⟨5, _⟩ => ⟨S4x4x64x256, .f32⟩
  | .hbm, ⟨6, _⟩ => ⟨S4x4x64x256, .f32⟩
  | .hbm, ⟨7, _⟩ => ⟨S4x4x64x256, .f32⟩
  | .hbm, ⟨8, _⟩ => ⟨S_, .f32⟩
  | .hbm, ⟨9, _⟩ => ⟨S4x4x64x256, .f32⟩
  | .hbm, ⟨10, _⟩ => ⟨S4x4x64x256, .f32⟩
  | .hbm, ⟨11, _⟩ => ⟨S_, .f32⟩
  | .hbm, ⟨12, _⟩ => ⟨S4x4x64x256, .f32⟩
  | .hbm, ⟨13, _⟩ => ⟨S4x4x64x256, .f32⟩
  | .hbm, ⟨14, _⟩ => ⟨S4x4x64x256, .f32⟩
  | .hbm, ⟨15, _⟩ => ⟨S_, .f32⟩
  | .hbm, ⟨16, _⟩ => ⟨S4x4x64x256, .f32⟩
  | .hbm, ⟨17, _⟩ => ⟨S4x4x64x256, .f32⟩
  | .hbm, ⟨18, _⟩ => ⟨S4x4x64x256, .f32⟩
  | .hbm, ⟨19, _⟩ => ⟨S_, .f32⟩
  | .hbm, ⟨20, _⟩ => ⟨S4x4x64x256, .f32⟩
  | .hbm, ⟨21, _⟩ => ⟨S4x4x64x256, .f32⟩
  | .hbm, ⟨22, _⟩ => ⟨S4x4x64x256, .f32⟩
  | .hbm, ⟨23, _⟩ => ⟨S_, .f32⟩
  | .hbm, ⟨24, _⟩ => ⟨S4x4x64x256, .f32⟩
  | .hbm, ⟨25, _⟩ => ⟨S4x4x64x256, .f32⟩
  | .hbm, ⟨26, _⟩ => ⟨S_, .f32⟩
  | .hbm, ⟨27, _⟩ => ⟨S4x4x64x256, .f32⟩
  | .hbm, ⟨28, _⟩ => ⟨S4x4x64x256, .f32⟩
  | .hbm, ⟨29, _⟩ => ⟨S4x4x64x256, .f32⟩
  | .hbm, ⟨30, _⟩ => ⟨S_, .f32⟩
  | .hbm, ⟨31, _⟩ => ⟨S4x4x64x256, .f32⟩
  | .hbm, ⟨32, _⟩ => ⟨S4x4x64x256, .f32⟩
  | .hbm, ⟨33, _⟩ => ⟨S4x4x64x256, .f32⟩
  | .hbm, ⟨34, _⟩ => ⟨S_, .f32⟩
  | .hbm, ⟨35, _⟩ => ⟨S4x4x64x256, .f32⟩
  | .hbm, ⟨36, _⟩ => ⟨S4x4x64x256, .f32⟩
  | .hbm, ⟨37, _⟩ => ⟨S4x4x64x256, .f32⟩
  | .hbm, ⟨38, _⟩ => ⟨S_, .f32⟩
  | .hbm, ⟨39, _⟩ => ⟨S4x4x64x256, .f32⟩
  | .hbm, ⟨40, _⟩ => ⟨S4x4x64x256, .f32⟩
  | .hbm, ⟨41, _⟩ => ⟨S2x4x64x256, .f32⟩
  | .hbm, ⟨42, _⟩ => ⟨S2x4x64x256, .f32⟩
  | .hbm, ⟨43, _⟩ => ⟨S4x4x64x256, .f32⟩
  | .hbm, ⟨44, _⟩ => ⟨S2x4x64x256, .f32⟩
  | .hbm, ⟨45, _⟩ => ⟨S2x4x64x256, .f32⟩
  | .hbm, ⟨46, _⟩ => ⟨S4x4x64x256, .f32⟩
  | .hbm, ⟨47, _⟩ => ⟨S2x4x64x256, .f32⟩
  | .hbm, ⟨48, _⟩ => ⟨S2x4x64x256, .f32⟩
  | .hbm, ⟨49, _⟩ => ⟨S4x4x64x256, .f32⟩
  | .hbm, ⟨50, _⟩ => ⟨S2x4x64x256, .f32⟩
  | .hbm, ⟨51, _⟩ => ⟨S2x4x64x256, .f32⟩
  | .hbm, ⟨52, _⟩ => ⟨S4x4x64x256, .f32⟩
  | _, _ => ⟨S4x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== AdamOutUp.lean ====
abbrev S4x256x1024 : Shape := ⟨3, ![4, 256, 1024]⟩
abbrev S1x256x1024 : Shape := ⟨3, ![1, 256, 1024]⟩
abbrev S256x1024 : Shape := ⟨2, ![256, 1024]⟩
abbrev S2x256x1024 : Shape := ⟨3, ![2, 256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutUpIdeal.lean ====
abbrev S4x256x1024 : Shape := ⟨3, ![4, 256, 1024]⟩
abbrev S1x256x1024 : Shape := ⟨3, ![1, 256, 1024]⟩
abbrev S256x1024 : Shape := ⟨2, ![256, 1024]⟩
abbrev S2x256x1024 : Shape := ⟨3, ![2, 256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutUpReferenceIdeal.lean ====
abbrev S4x256x1024 : Shape := ⟨3, ![4, 256, 1024]⟩
abbrev S_ : Shape := ⟨0, ![]⟩
abbrev S2x256x1024 : Shape := ⟨3, ![2, 256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S2x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamOutLow.lean ====
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutLowIdeal.lean ====
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutLowReferenceIdeal.lean ====
abbrev S4x256x1024 : Shape := ⟨3, ![4, 256, 1024]⟩
abbrev S_ : Shape := ⟨0, ![]⟩
abbrev S2x256x1024 : Shape := ⟨3, ![2, 256, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S_, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S2x256x1024, .f32⟩
  | .hbm, ⟨42, _⟩ => ⟨S2x256x1024, .f32⟩
  | .hbm, ⟨43, _⟩ => ⟨S4x256x1024, .f32⟩
  | .hbm, ⟨44, _⟩ => ⟨S2x256x1024, .f32⟩
  | .hbm, ⟨45, _⟩ => ⟨S2x256x1024, .f32⟩
  | .hbm, ⟨46, _⟩ => ⟨S4x256x1024, .f32⟩
  | .hbm, ⟨47, _⟩ => ⟨S2x256x1024, .f32⟩
  | .hbm, ⟨48, _⟩ => ⟨S2x256x1024, .f32⟩
  | .hbm, ⟨49, _⟩ => ⟨S4x256x1024, .f32⟩
  | .hbm, ⟨50, _⟩ => ⟨S2x256x1024, .f32⟩
  | .hbm, ⟨51, _⟩ => ⟨S2x256x1024, .f32⟩
  | .hbm, ⟨52, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== AdamCkvUp.lean ====
abbrev S4x1024x512 : Shape := ⟨3, ![4, 1024, 512]⟩
abbrev S1x512x512 : Shape := ⟨3, ![1, 512, 512]⟩
abbrev S512x512 : Shape := ⟨2, ![512, 512]⟩
abbrev S2x1024x512 : Shape := ⟨3, ![2, 1024, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamCkvUpIdeal.lean ====
abbrev S4x1024x512 : Shape := ⟨3, ![4, 1024, 512]⟩
abbrev S1x512x512 : Shape := ⟨3, ![1, 512, 512]⟩
abbrev S512x512 : Shape := ⟨2, ![512, 512]⟩
abbrev S2x1024x512 : Shape := ⟨3, ![2, 1024, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamCkvUpReferenceIdeal.lean ====
abbrev S4x1024x512 : Shape := ⟨3, ![4, 1024, 512]⟩
abbrev S_ : Shape := ⟨0, ![]⟩
abbrev S2x1024x512 : Shape := ⟨3, ![2, 1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S2x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamCkvLow.lean ====
abbrev S4x1024x512 : Shape := ⟨3, ![4, 1024, 512]⟩
abbrev S1x512x512 : Shape := ⟨3, ![1, 512, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamCkvLowIdeal.lean ====
abbrev S4x1024x512 : Shape := ⟨3, ![4, 1024, 512]⟩
abbrev S1x512x512 : Shape := ⟨3, ![1, 512, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamCkvLowReferenceIdeal.lean ====
abbrev S4x1024x512 : Shape := ⟨3, ![4, 1024, 512]⟩
abbrev S_ : Shape := ⟨0, ![]⟩
abbrev S2x1024x512 : Shape := ⟨3, ![2, 1024, 512]⟩

abbrev nBuf : Space → Nat
  | .hbm => 53
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S_, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S4x1024x512, .f32⟩
  | .hbm, ⟨23, _⟩ => ⟨S_, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4x1024x512, .f32⟩
  | .hbm, ⟨38, _⟩ => ⟨S_, .f32⟩
  | .hbm, ⟨39, _⟩ => ⟨S4x1024x512, .f32⟩
  | .hbm, ⟨40, _⟩ => ⟨S4x1024x512, .f32⟩
  | .hbm, ⟨41, _⟩ => ⟨S2x1024x512, .f32⟩
  | .hbm, ⟨42, _⟩ => ⟨S2x1024x512, .f32⟩
  | .hbm, ⟨43, _⟩ => ⟨S4x1024x512, .f32⟩
  | .hbm, ⟨44, _⟩ => ⟨S2x1024x512, .f32⟩
  | .hbm, ⟨45, _⟩ => ⟨S2x1024x512, .f32⟩
  | .hbm, ⟨46, _⟩ => ⟨S4x1024x512, .f32⟩
  | .hbm, ⟨47, _⟩ => ⟨S2x1024x512, .f32⟩
  | .hbm, ⟨48, _⟩ => ⟨S2x1024x512, .f32⟩
  | .hbm, ⟨49, _⟩ => ⟨S4x1024x512, .f32⟩
  | .hbm, ⟨50, _⟩ => ⟨S2x1024x512, .f32⟩
  | .hbm, ⟨51, _⟩ => ⟨S2x1024x512, .f32⟩
  | .hbm, ⟨52, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== AdamWiUp.lean ====
abbrev S4x1024x1408 : Shape := ⟨3, ![4, 1024, 1408]⟩
abbrev S1x128x1408 : Shape := ⟨3, ![1, 128, 1408]⟩
abbrev S128x1408 : Shape := ⟨2, ![128, 1408]⟩
abbrev S2x1024x1408 : Shape := ⟨3, ![2, 1024, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWiUpIdeal.lean ====
abbrev S4x1024x1408 : Shape := ⟨3, ![4, 1024, 1408]⟩
abbrev S1x128x1408 : Shape := ⟨3, ![1, 128, 1408]⟩
abbrev S128x1408 : Shape := ⟨2, ![128, 1408]⟩
abbrev S2x1024x1408 : Shape := ⟨3, ![2, 1024, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWiUpReferenceIdeal.lean ====
abbrev S4x1024x1408 : Shape := ⟨3, ![4, 1024, 1408]⟩
abbrev S_ : Shape := ⟨0, ![]⟩
abbrev S2x1024x1408 : Shape := ⟨3, ![2, 1024, 1408]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S2x1024x1408, .f32⟩
  | .hbm, ⟨38, _⟩ => ⟨S2x1024x1408, .f32⟩
  | .hbm, ⟨39, _⟩ => ⟨S2x1024x1408, .f32⟩
  | .hbm, ⟨40, _⟩ => ⟨S2x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamWiLow.lean ====
abbrev S4x1024x1408 : Shape := ⟨3, ![4, 1024, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S4x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWiLowIdeal.lean ====
abbrev S4x1024x1408 : Shape := ⟨3, ![4, 1024, 1408]⟩
abbrev S1x128x1408 : Shape := ⟨3, ![1, 128, 1408]⟩
abbrev S128x1408 : Shape := ⟨2, ![128, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S4x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWiLowReferenceIdeal.lean ====
abbrev S4x1024x1408 : Shape := ⟨3, ![4, 1024, 1408]⟩
abbrev S_ : Shape := ⟨0, ![]⟩
abbrev S2x1024x1408 : Shape := ⟨3, ![2, 1024, 1408]⟩

abbrev nBuf : Space → Nat
  | .hbm => 53
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S_, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S4x1024x1408, .f32⟩
  | .hbm, ⟨23, _⟩ => ⟨S_, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4x1024x1408, .f32⟩
  | .hbm, ⟨38, _⟩ => ⟨S_, .f32⟩
  | .hbm, ⟨39, _⟩ => ⟨S4x1024x1408, .f32⟩
  | .hbm, ⟨40, _⟩ => ⟨S4x1024x1408, .f32⟩
  | .hbm, ⟨41, _⟩ => ⟨S2x1024x1408, .f32⟩
  | .hbm, ⟨42, _⟩ => ⟨S2x1024x1408, .f32⟩
  | .hbm, ⟨43, _⟩ => ⟨S4x1024x1408, .f32⟩
  | .hbm, ⟨44, _⟩ => ⟨S2x1024x1408, .f32⟩
  | .hbm, ⟨45, _⟩ => ⟨S2x1024x1408, .f32⟩
  | .hbm, ⟨46, _⟩ => ⟨S4x1024x1408, .f32⟩
  | .hbm, ⟨47, _⟩ => ⟨S2x1024x1408, .f32⟩
  | .hbm, ⟨48, _⟩ => ⟨S2x1024x1408, .f32⟩
  | .hbm, ⟨49, _⟩ => ⟨S4x1024x1408, .f32⟩
  | .hbm, ⟨50, _⟩ => ⟨S2x1024x1408, .f32⟩
  | .hbm, ⟨51, _⟩ => ⟨S2x1024x1408, .f32⟩
  | .hbm, ⟨52, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== AdamWoUp.lean ====
abbrev S4x704x1024 : Shape := ⟨3, ![4, 704, 1024]⟩
abbrev S1x176x1024 : Shape := ⟨3, ![1, 176, 1024]⟩
abbrev S176x1024 : Shape := ⟨2, ![176, 1024]⟩
abbrev S2x704x1024 : Shape := ⟨3, ![2, 704, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWoUpReferenceIdeal.lean ====
abbrev S4x704x1024 : Shape := ⟨3, ![4, 704, 1024]⟩
abbrev S_ : Shape := ⟨0, ![]⟩
abbrev S2x704x1024 : Shape := ⟨3, ![2, 704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S2x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamWoLow.lean ====
abbrev S4x704x1024 : Shape := ⟨3, ![4, 704, 1024]⟩
abbrev S1x176x1024 : Shape := ⟨3, ![1, 176, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWoLowReferenceIdeal.lean ====
abbrev S4x704x1024 : Shape := ⟨3, ![4, 704, 1024]⟩
abbrev S_ : Shape := ⟨0, ![]⟩
abbrev S2x704x1024 : Shape := ⟨3, ![2, 704, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S_, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S4x704x1024, .f32⟩
  | .hbm, ⟨23, _⟩ => ⟨S_, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S4x704x1024, .f32⟩
  | .hbm, ⟨38, _⟩ => ⟨S_, .f32⟩
  | .hbm, ⟨39, _⟩ => ⟨S4x704x1024, .f32⟩
  | .hbm, ⟨40, _⟩ => ⟨S4x704x1024, .f32⟩
  | .hbm, ⟨41, _⟩ => ⟨S2x704x1024, .f32⟩
  | .hbm, ⟨42, _⟩ => ⟨S2x704x1024, .f32⟩
  | .hbm, ⟨43, _⟩ => ⟨S4x704x1024, .f32⟩
  | .hbm, ⟨44, _⟩ => ⟨S2x704x1024, .f32⟩
  | .hbm, ⟨45, _⟩ => ⟨S2x704x1024, .f32⟩
  | .hbm, ⟨46, _⟩ => ⟨S4x704x1024, .f32⟩
  | .hbm, ⟨47, _⟩ => ⟨S2x704x1024, .f32⟩
  | .hbm, ⟨48, _⟩ => ⟨S2x704x1024, .f32⟩
  | .hbm, ⟨49, _⟩ => ⟨S4x704x1024, .f32⟩
  | .hbm, ⟨50, _⟩ => ⟨S2x704x1024, .f32⟩
  | .hbm, ⟨51, _⟩ => ⟨S2x704x1024, .f32⟩
  | .hbm, ⟨52, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== CrossF.lean ====
abbrev S2048x1024 : Shape := ⟨2, ![2048, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CrossFReferenceIdeal.lean ====
abbrev S2048x1024 : Shape := ⟨2, ![2048, 1024]⟩
abbrev S256x2048 : Shape := ⟨2, ![256, 2048]⟩
abbrev S2048x4x256 : Shape := ⟨3, ![2048, 4, 256]⟩
abbrev S256x1024 : Shape := ⟨2, ![256, 1024]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .f32⟩
  | .hbm, ⟨3, _⟩ => ⟨S256x2048, .f32⟩
  | .hbm, ⟨4, _⟩ => ⟨S2048x4x256, .f32⟩
  | .hbm, ⟨5, _⟩ => ⟨S256x1024, .f32⟩
  | .hbm, ⟨6, _⟩ => ⟨S256x1024, .f32⟩
  | .hbm, ⟨7, _⟩ => ⟨S256x4x256, .f32⟩
  | .hbm, ⟨8, _⟩ => ⟨S256x4x256, .f32⟩
  | .hbm, ⟨9, _⟩ => ⟨S4x2048x256, .f32⟩
  | .hbm, ⟨10, _⟩ => ⟨S_, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x256, .f32⟩
  | .hbm, ⟨26, _⟩ => ⟨S4x2048x256, .f32⟩
  | .hbm, ⟨27, _⟩ => ⟨S4x256x2048, .f32⟩
  | .hbm, ⟨28, _⟩ => ⟨S2048x4x256, .f32⟩
  | .hbm, ⟨29, _⟩ => ⟨S2048x1024, .f32⟩
  | .hbm, ⟨30, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== LossHead.lean ====
abbrev S2048x1024 : Shape := ⟨2, ![2048, 1024]⟩
abbrev S1x1 : Shape := ⟨2, ![1, 1]⟩
abbrev S512x1024 : Shape := ⟨2, ![512, 1024]⟩
abbrev S1x1024 : Shape := ⟨2, ![1, 1024]⟩
abbrev S1024 : Shape := ⟨1, ![1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadReferenceIdeal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== CrossB.lean ====
abbrev S2048x1024 : Shape := ⟨2, ![2048, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256x512 : Shape := ⟨2, ![256, 512]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== CrossBReferenceIdeal.lean ====
abbrev S2048x1024 : Shape := ⟨2, ![2048, 1024]⟩
abbrev S256x2048 : Shape := ⟨2, ![256, 2048]⟩
abbrev S2048x4x256 : Shape := ⟨3, ![2048, 4, 256]⟩
abbrev S256x1024 : Shape := ⟨2, ![256, 1024]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x2048, .bf16⟩
  | .hbm, ⟨2, _⟩ => ⟨S2048x1024, .bf16⟩
  | .hbm, ⟨3, _⟩ => ⟨S2048x1024, .f32⟩
  | .hbm, ⟨4, _⟩ => ⟨S256x2048, .f32⟩
  | .hbm, ⟨5, _⟩ => ⟨S2048x4x256, .f32⟩
  | .hbm, ⟨6, _⟩ => ⟨S256x1024, .f32⟩
  | .hbm, ⟨7, _⟩ => ⟨S256x1024, .f32⟩
  | .hbm, ⟨8, _⟩ => ⟨S256x4x256, .f32⟩
  | .hbm, ⟨9, _⟩ => ⟨S256x4x256, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .i1⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x256, .f32⟩
  | .hbm, ⟨47, _⟩ => ⟨S4x2048x256, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x256x2048, .f32⟩
  | .hbm, ⟨53, _⟩ => ⟨S2048x4x256, .f32⟩
  | .hbm, ⟨54, _⟩ => ⟨S2048x1024, .f32⟩
  | .hbm, ⟨55, _⟩ => ⟨S2048x1024, .f32⟩
  | .hbm, ⟨56, _⟩ => ⟨S2048x4x256, .f32⟩
  | .hbm, ⟨57, _⟩ => ⟨S4x256x2048, .f32⟩
  | .hbm, ⟨58, _⟩ => ⟨S4x2048x256, .f32⟩
  | .hbm, ⟨59, _⟩ => ⟨S4x256x256, .f32⟩
  | .hbm, ⟨60, _⟩ => ⟨S256x4x256, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1, .f32⟩
  | .hbm, ⟨68, _⟩ => ⟨S4x2048x256, .f32⟩
  | .hbm, ⟨69, _⟩ => ⟨S4x2048x256, .f32⟩
  | .hbm, ⟨70, _⟩ => ⟨S_, .f32⟩
  | .hbm, ⟨71, _⟩ => ⟨S4x2048, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S_, .f32⟩
  | .hbm, ⟨76, _⟩ => ⟨S4x2048x256, .f32⟩
  | .hbm, ⟨77, _⟩ => ⟨S4x2048x256, .f32⟩
  | .hbm, ⟨78, _⟩ => ⟨S4x256x256, .f32⟩
  | .hbm, ⟨79, _⟩ => ⟨S256x4x256, .f32⟩
  | .hbm, ⟨80, _⟩ => ⟨S4x2048x256, .f32⟩
  | .hbm, ⟨81, _⟩ => ⟨S2048x4x256, .f32⟩
  | .hbm, ⟨82, _⟩ => ⟨S256x1024, .f32⟩
  | .hbm, ⟨83, _⟩ => ⟨S256x1024, .f32⟩
  | .hbm, ⟨84, _⟩ => ⟨S256x2048, .f32⟩
  | .hbm, ⟨85, _⟩ => ⟨S2048x1024, .f32⟩
  | .hbm, ⟨86, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Proof.Base.lean ====
module

public import Idealize.ShloMosaic.Lib.Claim
public import Idealize.ShloMosaic.Lib.Pipeline.ValueKit
public import Idealize.ShloMosaic.Lib.Pointwise

@[expose] public section

/- Small facts the value modules share. -/

namespace Cert.Base

/-- A block number and a place in the block give a place in the whole. -/
theorem mul_add_lt {a b n k l : ℕ} (ha : a < n) (hb : b < k) (h : n * k = l) : a * k + b < l := by
  subst h
  calc a * k + b < a * k + k := Nat.add_lt_add_left hb _
    _ = (a + 1) * k := (Nat.succ_mul a k).symm
    _ ≤ n * k := Nat.mul_le_mul_right k ha

end Cert.Base
-- ==== Proof.VProj.lean ====
module

public import proofs.«01_k».proof.Proof.Gen.ProjIdeal.Frame
public import proofs.«01_k».proof.Proof.Base

@[expose] public section

/- What the input projection computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.ProjIdeal.Val

open Cert.ProjIdeal Cert.ProjIdeal.Gen

variable (m : (ℓ : Loc nD τ sig) → Buf (Elt Ideal) ℓ)

/-- One entry of the product: row `r`, column `c`. -/
def entry (x : FVec Ideal S2048x1024 .f32) (w : FVec Ideal S5376x1024 .bf16) (r : Fin 2048) (c : Fin 5376) : EReal :=
  ∑ q : Fin 1024, x (ix2 r q) * w (ix2 c q)

/-- The array the call leaves. -/
def G (x : FVec Ideal S2048x1024 .f32) (w : FVec Ideal S5376x1024 .bf16) : FVec Ideal S2048x5376 .f32 :=
  fun i => entry x w (i 0) (i 1)

theorem idx : ∀ t : Fin cfg0.N, win0_0.index t = ![t.val / 6, 0] ∧ win0_1.index t = ![t.val % 6, 0] ∧ win0_2.index t = ![t.val / 6, t.val % 6] :=
  (by decide +kernel : ∀ t : Fin grid0.N, _)

theorem part (x0 : Vec Ideal S1024x1024 .f32) (x1 : Vec Ideal S896x1024 .bf16) (y) : k0_pay1 x0 x1 y = ∑ k : Fin 1024, x0 (ix2 (y 0) k) * x1 (ix2 (y 1) k) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.ProjIdeal.Val

end
-- ==== Proof.AProj.lean ====
module

public import proofs.«01_k».proof.Defs
public import proofs.«01_k».proof.Proof.Gen.Proj.Frame
public import proofs.«01_k».proof.Proof.Gen.ProjReferenceIdeal.Run
public import proofs.«01_k».proof.Proof.VProj

@[expose] public section

/- The claims about `Proj`: both frames, and its value beside the reference's. -/

set_option maxRecDepth 16384

noncomputable section

open Idealize.ShloMosaic Idealize.ShloMosaic.TcCoe Idealize.SL.Sem

namespace Cert.AProj

theorem frameReference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

set_option maxHeartbeats 1600000 in
theorem value : Cert.algebraic_ProjIdeal_ProjReferenceIdeal := by
  pair_intro
  · run_from Cert.ProjIdeal.Gen.run_main m g
  · hlo_run
    rw [Cert.ProjIdeal.Val.final m c]
    funext i
    idx_vars i
    pointwise [Cert.ProjIdeal.Val.G, Cert.ProjIdeal.Val.entry]

end Cert.AProj

end
-- ==== Proof.VBrRnn.lean ====
module

public import proofs.«01_k».proof.Proof.Gen.BrRnnIdeal.Frame
public import proofs.«01_k».proof.Proof.Base

@[expose] public section

/- What the recurrent branch's projection computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.BrRnnIdeal.Val

open Cert.BrRnnIdeal Cert.BrRnnIdeal.Gen

variable (m : (ℓ : Loc nD τ sig) → Buf (Elt Ideal) ℓ)

/-- One entry of the product: row `r`, column `c`. -/
def entry (x : FVec Ideal S2048x1024 .bf16) (w : FVec Ideal S1024x1024 .bf16) (r : Fin 2048) (c : Fin 1024) : EReal :=
  ∑ q : Fin 1024, x (ix2 r q) * w (ix2 q c)

/-- The array the call leaves. -/
def G (x : FVec Ideal S2048x1024 .bf16) (w : FVec Ideal S1024x1024 .bf16) : FVec Ideal S2048x1024 .f32 :=
  fun i => entry x w (i 0) (i 1)

theorem idx : ∀ t : Fin cfg0.N, win0_0.index t = ![t.val, 0] ∧ win0_1.index t = ![0, 0] ∧ win0_2.index t = ![t.val, 0] :=
  (by decide +kernel : ∀ t : Fin grid0.N, _)

theorem part (x0 : Vec Ideal S512x1024 .bf16) (x1 : Vec Ideal S1024x1024 .bf16) (y) : k0_pay1 x0 x1 y = ∑ k : Fin 1024, x0 (ix2 (y 0) k) * x1 (ix2 k (y 1)) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.BrRnnIdeal.Val

end
-- ==== Proof.ABrRnn.lean ====
module

public import proofs.«01_k».proof.Defs
public import proofs.«01_k».proof.Proof.Gen.BrRnn.Frame
public import proofs.«01_k».proof.Proof.Gen.BrRnnReferenceIdeal.Run
public import proofs.«01_k».proof.Proof.VBrRnn

@[expose] public section

/- The claims about `BrRnn`: both frames, and its value beside the reference's. -/

set_option maxRecDepth 16384

noncomputable section

open Idealize.ShloMosaic Idealize.ShloMosaic.TcCoe Idealize.SL.Sem

namespace Cert.ABrRnn

theorem frameReference : Cert.quiescent_BrRnnReferenceIdeal := fun m ρ _ =>
  (θ_run Cert.BrRnnReferenceIdeal.defs _ _).mono (fun r h => ⟨fun c => (h c).2, sem_eq_zero_of_no_sems (by decide) r.2⟩)
    (Cert.BrRnnReferenceIdeal.Value.run (F := Ideal) m ρ)

set_option maxHeartbeats 1600000 in
theorem value : Cert.algebraic_BrRnnIdeal_BrRnnReferenceIdeal := by
  pair_intro
  · run_from Cert.BrRnnIdeal.Gen.run_main m g
  · hlo_run
    rw [Cert.BrRnnIdeal.Val.final m c]
    funext i
    idx_vars i
    pointwise [Cert.BrRnnIdeal.Val.G, Cert.BrRnnIdeal.Val.entry]

end Cert.ABrRnn

end
-- ==== Proof.VBrAttn.lean ====
module

public import proofs.«01_k».proof.Proof.Gen.BrAttnIdeal.Frame
public import proofs.«01_k».proof.Proof.Base

@[expose] public section

/- What the attention branch's projection computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.BrAttnIdeal.Val

open Cert.BrAttnIdeal Cert.BrAttnIdeal.Gen

variable (m : (ℓ : Loc nD τ sig) → Buf (Elt Ideal) ℓ)

/-- One entry of the product: row `r`, column `c`. -/
def entry (x : FVec Ideal S2048x1024 .f32) (w : FVec Ideal S1024x1024 .bf16) (r : Fin 2048) (c : Fin 1024) : EReal :=
  ∑ q : Fin 1024, x (ix2 r q) * w (ix2 q c)

/-- The array the call leaves. -/
def G (x : FVec Ideal S2048x1024 .f32) (w : FVec Ideal S1024x1024 .bf16) : FVec Ideal S2048x1024 .f32 :=
  fun i => entry x w (i 0) (i 1)

theorem idx : ∀ t : Fin cfg0.N, win0_0.index t = ![t.val, 0] ∧ win0_1.index t = ![0, 0] ∧ win0_2.index t = ![t.val, 0] :=
  (by decide +kernel : ∀ t : Fin grid0.N, _)

theorem part (x0 : Vec Ideal S512x1024 .f32) (x1 : Vec Ideal S1024x1024 .bf16) (y) : k0_pay1 x0 x1 y = ∑ k : Fin 1024, x0 (ix2 (y 0) k) * x1 (ix2 k (y 1)) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.BrAttnIdeal.Val

end
-- ==== Proof.ABrAttn.lean ====
module

public import proofs.«01_k».proof.Defs
public import proofs.«01_k».proof.Proof.Gen.BrAttn.Frame
public import proofs.«01_k».proof.Proof.Gen.BrAttnReferenceIdeal.Run
public import proofs.«01_k».proof.Proof.VBrAttn

@[expose] public section

/- The claims about `BrAttn`: both frames, and its value beside the reference's. -/

set_option maxRecDepth 16384

noncomputable section

open Idealize.ShloMosaic Idealize.ShloMosaic.TcCoe Idealize.SL.Sem

namespace Cert.ABrAttn

theorem frameReference : Cert.quiescent_BrAttnReferenceIdeal := fun m ρ _ =>
  (θ_run Cert.BrAttnReferenceIdeal.defs _ _).mono (fun r h => ⟨fun c => (h c).2, sem_eq_zero_of_no_sems (by decide) r.2⟩)
    (Cert.BrAttnReferenceIdeal.Value.run (F := Ideal) m ρ)

set_option maxHeartbeats 1600000 in
theorem value : Cert.algebraic_BrAttnIdeal_BrAttnReferenceIdeal := by
  pair_intro
  · run_from Cert.BrAttnIdeal.Gen.run_main m g
  · hlo_run
    rw [Cert.BrAttnIdeal.Val.final m c]
    funext i
    idx_vars i
    pointwise [Cert.BrAttnIdeal.Val.G, Cert.BrAttnIdeal.Val.entry]

end Cert.ABrAttn

end
-- ==== Proof.VCq.lean ====
module

public import proofs.«01_k».proof.Proof.Gen.CqIdeal.Frame
public import proofs.«01_k».proof.Proof.Base

@[expose] public section

/- What the cross-attention queries computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.CqIdeal.Val

open Cert.CqIdeal Cert.CqIdeal.Gen

variable (m : (ℓ : Loc nD τ sig) → Buf (Elt Ideal) ℓ)

/-- One entry of the product: row `r`, column `c`. -/
def entry (x : FVec Ideal S2048x1024 .f32) (w : FVec Ideal S1024x1024 .bf16) (r : Fin 2048) (c : Fin 1024) : EReal :=
  ∑ q : Fin 1024, x (ix2 r q) * w (ix2 q c)

/-- The array the call leaves. -/
def G (x : FVec Ideal S2048x1024 .f32) (w : FVec Ideal S1024x1024 .bf16) : FVec Ideal S2048x1024 .bf16 :=
  fun i => entry x w (i 0) (i 1)

theorem idx : ∀ t : Fin cfg0.N, win0_0.index t = ![t.val, 0] ∧ win0_1.index t = ![0, 0] ∧ win0_2.index t = ![t.val, 0] :=
  (by decide +kernel : ∀ t : Fin grid0.N, _)

theorem part (x0 : Vec Ideal S512x1024 .f32) (x1 : Vec Ideal S1024x1024 .bf16) (y) : k0_pay1 x0 x1 y = ∑ k : Fin 1024, x0 (ix2 (y 0) k) * x1 (ix2 k (y 1)) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.CqIdeal.Val

end
-- ==== Proof.ACq.lean ====
module

public import proofs.«01_k».proof.Defs
public import proofs.«01_k».proof.Proof.Gen.Cq.Frame
public import proofs.«01_k».proof.Proof.Gen.CqReferenceIdeal.Run
public import proofs.«01_k».proof.Proof.VCq

@[expose] public section

/- The claims about `Cq`: both frames, and its value beside the reference's. -/

set_option maxRecDepth 16384

noncomputable section

open Idealize.ShloMosaic Idealize.ShloMosaic.TcCoe Idealize.SL.Sem

namespace Cert.ACq

theorem frameReference : Cert.quiescent_CqReferenceIdeal := fun m ρ _ =>
  (θ_run Cert.CqReferenceIdeal.defs _ _).mono (fun r h => ⟨fun c => (h c).2, sem_eq_zero_of_no_sems (by decide) r.2⟩)
    (Cert.CqReferenceIdeal.Value.run (F := Ideal) m ρ)

set_option maxHeartbeats 1600000 in
theorem value : Cert.algebraic_CqIdeal_CqReferenceIdeal := by
  pair_intro
  · run_from Cert.CqIdeal.Gen.run_main m g
  · hlo_run
    rw [Cert.CqIdeal.Val.final m c]
    funext i
    idx_vars i
    pointwise [Cert.CqIdeal.Val.G, Cert.CqIdeal.Val.entry]

end Cert.ACq

end
-- ==== Proof.VCkv.lean ====
module

public import proofs.«01_k».proof.Proof.Gen.CkvIdeal.Frame
public import proofs.«01_k».proof.Proof.Base

@[expose] public section

/- What the cross-attention keys and values computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.CkvIdeal.Val

open Cert.CkvIdeal Cert.CkvIdeal.Gen

variable (m : (ℓ : Loc nD τ sig) → Buf (Elt Ideal) ℓ)

/-- One entry of the product: row `r`, column `c`. -/
def entry (x : FVec Ideal S256x1024 .f32) (w : FVec Ideal S4x1024x512 .bf16) (r : Fin 256) (c : Fin 2048) : EReal :=
  ∑ q : Fin 1024, x (ix2 r q) * w (ix3 ⟨c.val / 512, by omega⟩ q ⟨c.val % 512, by omega⟩)

/-- The array the call leaves. -/
def G (x : FVec Ideal S256x1024 .f32) (w : FVec Ideal S4x1024x512 .bf16) : FVec Ideal S256x2048 .bf16 :=
  fun i => entry x w (i 0) (i 1)

theorem idx : ∀ t : Fin cfg0.N, win0_0.index t = ![0, 0] ∧ win0_1.index t = ![t.val, 0, 0] ∧ win0_2.index t = ![0, t.val] :=
  (by decide +kernel : ∀ t : Fin grid0.N, _)

theorem part (x0 : Vec Ideal S256x1024 .f32) (x1 : Vec Ideal S1x1024x512 .bf16) (y) : k0_pay1 x0 x1 y = ∑ k : Fin 1024, x0 (ix2 (y 0) k) * x1 (ix3 0 k (y 1)) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.CkvIdeal.Val

end
-- ==== Proof.ACkv.lean ====
module

public import proofs.«01_k».proof.Defs
public import proofs.«01_k».proof.Proof.Gen.Ckv.Frame
public import proofs.«01_k».proof.Proof.Gen.CkvReferenceIdeal.Run
public import proofs.«01_k».proof.Proof.VCkv

@[expose] public section

/- The claims about `Ckv`: both frames, and its value beside the reference's. -/

set_option maxRecDepth 16384

noncomputable section

open Idealize.ShloMosaic Idealize.ShloMosaic.TcCoe Idealize.SL.Sem

namespace Cert.ACkv

theorem frameReference : Cert.quiescent_CkvReferenceIdeal := fun m ρ _ =>
  (θ_run Cert.CkvReferenceIdeal.defs _ _).mono (fun r h => ⟨fun c => (h c).2, sem_eq_zero_of_no_sems (by decide) r.2⟩)
    (Cert.CkvReferenceIdeal.Value.run (F := Ideal) m ρ)

set_option maxHeartbeats 1600000 in
theorem value : Cert.algebraic_CkvIdeal_CkvReferenceIdeal := by
  pair_intro
  · run_from Cert.CkvIdeal.Gen.run_main m g
  · hlo_run
    rw [Cert.CkvIdeal.Val.final m c]
    funext i
    idx_vars i
    pointwise [Cert.CkvIdeal.Val.G, Cert.CkvIdeal.Val.entry]

end Cert.ACkv

end
-- ==== Proof.VFfnWi.lean ====
module

public import proofs.«01_k».proof.Proof.Gen.FfnWiIdeal.Frame
public import proofs.«01_k».proof.Proof.Base

@[expose] public section

/- What the feed-forward input product computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.FfnWiIdeal.Val

open Cert.FfnWiIdeal Cert.FfnWiIdeal.Gen

variable (m : (ℓ : Loc nD τ sig) → Buf (Elt Ideal) ℓ)

/-- One entry of the product: row `r`, column `c`. -/
def entry (x : FVec Ideal S2048x1024 .f32) (w : FVec Ideal S4x1024x1408 .bf16) (r : Fin 2048) (c : Fin 5632) : EReal :=
  ∑ q : Fin 1024, x (ix2 r q) * w (ix3 ⟨c.val / 1408, by omega⟩ q ⟨c.val % 1408, by omega⟩)

/-- The array the call leaves. -/
def G (x : FVec Ideal S2048x1024 .f32) (w : FVec Ideal S4x1024x1408 .bf16) : FVec Ideal S2x2048x2816 .f32 :=
  fun i => entry x w (i 1) ⟨(i 0).val * 2816 + (i 2).val, Cert.Base.mul_add_lt (i 0).isLt (i 2).isLt rfl⟩

theorem idx : ∀ t : Fin cfg0.N, win0_0.index t = ![t.val / 4, 0] ∧ win0_1.index t = ![t.val % 4, 0, 0] ∧ win0_2.index t = ![(t.val % 4) / 2, t.val / 4, (t.val % 4) % 2] :=
  (by decide +kernel : ∀ t : Fin grid0.N, _)

theorem part (x0 : Vec Ideal S1024x1024 .f32) (x1 : Vec Ideal S1x1024x1408 .bf16) (y) : k0_pay1 x0 x1 y = ∑ k : Fin 1024, x0 (ix2 (y 1) k) * x1 (ix3 0 k (y 2)) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.FfnWiIdeal.Val

end
-- ==== Proof.AFfnWi.lean ====
module

public import proofs.«01_k».proof.Defs
public import proofs.«01_k».proof.Proof.Gen.FfnWi.Frame
public import proofs.«01_k».proof.Proof.Gen.FfnWiReferenceIdeal.Run
public import proofs.«01_k».proof.Proof.VFfnWi

@[expose] public section

/- The claims about `FfnWi`: both frames, and its value beside the reference's. -/

set_option maxRecDepth 16384

noncomputable section

open Idealize.ShloMosaic Idealize.ShloMosaic.TcCoe Idealize.SL.Sem

namespace Cert.AFfnWi

theorem frameReference : Cert.quiescent_FfnWiReferenceIdeal := fun m ρ _ =>
  (θ_run Cert.FfnWiReferenceIdeal.defs _ _).mono (fun r h => ⟨fun c => (h c).2, sem_eq_zero_of_no_sems (by decide) r.2⟩)
    (Cert.FfnWiReferenceIdeal.Value.run (F := Ideal) m ρ)

set_option maxHeartbeats 1600000 in
theorem value : Cert.algebraic_FfnWiIdeal_FfnWiReferenceIdeal := by
  pair_intro
  · run_from Cert.FfnWiIdeal.Gen.run_main m g
  · hlo_run
    rw [Cert.FfnWiIdeal.Val.final m c]
    funext i
    idx_vars i
    pointwise [Cert.FfnWiIdeal.Val.G, Cert.FfnWiIdeal.Val.entry]
    split <;> refine Finset.sum_congr rfl fun q _ => Ideal.mul_congr rfl (congrArg _ (congrArg₂ (fun a b => ix3 a q b)
      (Fin.ext ?_) (Fin.ext ?_))) <;> dsimp only <;> omega

end Cert.AFfnWi

end
-- ==== Proof.VDact.lean ====
module

public import proofs.«01_k».proof.Proof.Gen.DactIdeal.Frame
public import proofs.«01_k».proof.Proof.Base

@[expose] public section

/- What the gradient of the feed-forward activation computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DactIdeal.Val

open Cert.DactIdeal Cert.DactIdeal.Gen

variable (m : (ℓ : Loc nD τ sig) → Buf (Elt Ideal) ℓ)

/-- One entry of the product: row `r`, column `c`. -/
def entry (x : FVec Ideal S2048x1024 .f32) (w : FVec Ideal S2816x1024 .bf16) (r : Fin 2048) (c : Fin 2816) : EReal :=
  ∑ q : Fin 1024, x (ix2 r q) * w (ix2 c q)

/-- The array the call leaves. -/
def G (x : FVec Ideal S2048x1024 .f32) (w : FVec Ideal S2816x1024 .bf16) : FVec Ideal S2048x2816 .f32 :=
  fun i => entry x w (i 0) (i 1)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem part (x0 : Vec Ideal S1024x1024 .f32) (x1 : Vec Ideal S1408x1024 .bf16) (y) : k0_pay1 x0 x1 y = ∑ k : Fin 1024, x0 (ix2 (y 0) k) * x1 (ix2 (y 1) k) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.DactIdeal.Val

end
-- ==== Proof.ADact.lean ====
module

public import proofs.«01_k».proof.Defs
public import proofs.«01_k».proof.Proof.Gen.Dact.Frame
public import proofs.«01_k».proof.Proof.Gen.DactReferenceIdeal.Run
public import proofs.«01_k».proof.Proof.VDact

@[expose] public section

/- The claims about `Dact`: both frames, and its value beside the reference's. -/

set_option maxRecDepth 16384

noncomputable section

open Idealize.ShloMosaic Idealize.ShloMosaic.TcCoe Idealize.SL.Sem

namespace Cert.ADact

theorem frameReference : Cert.quiescent_DactReferenceIdeal := fun m ρ _ =>
  (θ_run Cert.DactReferenceIdeal.defs _ _).mono (fun r h => ⟨fun c => (h c).2, sem_eq_zero_of_no_sems (by decide) r.2⟩)
    (Cert.DactReferenceIdeal.Value.run (F := Ideal) m ρ)

set_option maxHeartbeats 1600000 in
theorem value : Cert.algebraic_DactIdeal_DactReferenceIdeal := by
  pair_intro
  · run_from Cert.DactIdeal.Gen.run_main m g
  · hlo_run
    rw [Cert.DactIdeal.Val.final m c]
    funext i
    idx_vars i
    pointwise [Cert.DactIdeal.Val.G, Cert.DactIdeal.Val.entry]

end Cert.ADact

end
-- ==== Proof.VDh2.lean ====
module

public import proofs.«01_k».proof.Proof.Gen.Dh2Ideal.Frame
public import proofs.«01_k».proof.Proof.Base

@[expose] public section

/- What the gradient of the feed-forward input computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.Dh2Ideal.Val

open Cert.Dh2Ideal Cert.Dh2Ideal.Gen

variable (m : (ℓ : Loc nD τ sig) → Buf (Elt Ideal) ℓ)

/-- One entry of the product: row `r`, column `c`. -/
def entry (x : FVec Ideal S2x2048x2816 .bf16) (w : FVec Ideal S4x1024x1408 .bf16) (r : Fin 2048) (c : Fin 1024) : EReal :=
  ∑ q : Fin 5632, x (ix3 ⟨q.val / 2816, by omega⟩ r ⟨q.val % 2816, by omega⟩) * w (ix3 ⟨q.val / 1408, by omega⟩ c ⟨q.val % 1408, by omega⟩)

/-- The array the call leaves. -/
def G (x : FVec Ideal S2x2048x2816 .bf16) (w : FVec Ideal S4x1024x1408 .bf16) : FVec Ideal S2048x1024 .f32 :=
  fun i => entry x w (i 0) (i 1)

theorem idx : ∀ t : Fin cfg0.N, win0_0.index t = ![(t.val % 4) / 2, t.val / 4, (t.val % 4) % 2] ∧ win0_1.index t = ![t.val % 4, 0, 0] ∧ win0_2.index t = ![t.val / 4, 0] :=
  (by decide +kernel : ∀ t : Fin grid0.N, _)

theorem first (x0 : Vec Ideal S1x1024x1408 .bf16) (x1 : Vec Ideal S1x1024x1408 .bf16) (j) : k0_pay2 x0 x1 j = 0 + ∑ k : Fin 1408, x0 (ix3 0 (j 0) k) * x1 (ix3 0 (j 1) k) := by
  pointwise [k0_pay2, k0_pay1]

theorem next (x0 : Vec Ideal S1x1024x1408 .bf16) (x1 : Vec Ideal S1x1024x1408 .bf16) (acc : Vec Ideal S1024x1024 .f32) (j) :
    k0_pay3 x0 x1 acc j = acc j + ∑ k : Fin 1408, x0 (ix3 0 (j 0) k) * x1 (ix3 0 (j 1) k) := by
  pointwise [k0_pay3, k0_pay1]

/-- What the point `t` adds to the accumulator. -/
def term (c : Dev nD) (t : Fin cfg0.N) (j : S1024x1024.Idx) : EReal :=
  ∑ k : Fin 1408, (show EReal from iblk m c 0 t (ix3 0 (j 0) k)) * (show EReal from iblk m c 1 t (ix3 0 (j 1) k))

/-- The accumulator at the last point of a run. -/
theorem acc (c : Dev nD) (t : Fin cfg0.N) (h : t.val % 4 = 4 - 1) (j) :
    (outsAt0 m c t.val t.isLt) j = ∑ s : Fin 4, term m c ⟨4 * (t.val / 4) + s.val, Pipeline.run_point_lt_of_flush t h s⟩ j := by
  rw [Pipeline.eq_sum_fin_of_reset_step_apply_of_flush (fun n h => (outsAt0 m c n h)) 4 (fun _ => 0) (term m c)
    (fun t h j => by
      rw [outsAt0_A m c t h (by omega)]; frame_out
      exact first _ _ j)
    (fun t h j => by
      rw [outsAt0_B m c t h (by omega)]; frame_out
      exact next _ _ _ j) t h j, zero_add]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  have h : t.val % 4 = 4 - 1 := by have := (flush0_2 t).mp hf; have := lt_of_lt_of_eq t.isLt N_0; omega
  rw [after0_2]
  refine (acc m c t h y).trans ?_
  unfold G entry term
  refine Fin.sum_mul_add_congr fun s k hl => ?_
  refine Ideal.mul_congr ?_ ?_ <;> blk_ext [iblk, V, idx t, idx ⟨_, Pipeline.run_point_lt_of_flush t h s⟩]

end Cert.Dh2Ideal.Val

end
-- ==== Proof.ADh2.lean ====
module

public import proofs.«01_k».proof.Defs
public import proofs.«01_k».proof.Proof.Gen.Dh2.Frame
public import proofs.«01_k».proof.Proof.Gen.Dh2ReferenceIdeal.Run
public import proofs.«01_k».proof.Proof.VDh2

@[expose] public section

/- The claims about `Dh2`: both frames, and its value beside the reference's. -/

set_option maxRecDepth 16384

noncomputable section

open Idealize.ShloMosaic Idealize.ShloMosaic.TcCoe Idealize.SL.Sem

namespace Cert.ADh2

theorem frameReference : Cert.quiescent_Dh2ReferenceIdeal := fun m ρ _ =>
  (θ_run Cert.Dh2ReferenceIdeal.defs _ _).mono (fun r h => ⟨fun c => (h c).2, sem_eq_zero_of_no_sems (by decide) r.2⟩)
    (Cert.Dh2ReferenceIdeal.Value.run (F := Ideal) m ρ)

set_option maxHeartbeats 1600000 in
theorem value : Cert.algebraic_Dh2Ideal_Dh2ReferenceIdeal := by
  pair_intro
  · run_from Cert.Dh2Ideal.Gen.run_main m g
  · hlo_run
    rw [Cert.Dh2Ideal.Val.final m c]
    funext i
    idx_vars i
    pointwise [Cert.Dh2Ideal.Val.G, Cert.Dh2Ideal.Val.entry]
    refine Eq.trans ?_ (Fin.sum_univ_add (a := 2816) (b := 2816) _).symm
    refine Ideal.add_congr ?_ ?_ <;> refine Finset.sum_congr rfl fun q _ => Ideal.mul_congr
      (congrArg _ (congrArg₂ (fun a b => ix3 a i0 b) (Fin.ext ?_) (Fin.ext ?_))) (congrArg _ (congrArg₂ (fun a b => ix3 a i1 b) (Fin.ext ?_) (Fin.ext ?_))) <;>
      simp only [Fin.val_castAdd, Fin.val_natAdd, Fin.val_zero, Fin.val_one] <;> omega

end Cert.ADh2

end
-- ==== Proof.VDo.lean ====
module

public import proofs.«01_k».proof.Proof.Gen.DoIdeal.Frame
public import proofs.«01_k».proof.Proof.Base

@[expose] public section

/- What the gradient of the cross-attention output computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DoIdeal.Val

open Cert.DoIdeal Cert.DoIdeal.Gen

variable (m : (ℓ : Loc nD τ sig) → Buf (Elt Ideal) ℓ)

/-- One entry of the product: row `r`, column `c`. -/
def entry (x : FVec Ideal S2048x1024 .f32) (w : FVec Ideal S1024x1024 .bf16) (r : Fin 2048) (c : Fin 1024) : EReal :=
  ∑ q : Fin 1024, x (ix2 r q) * w (ix2 c q)

/-- The array the call leaves. -/
def G (x : FVec Ideal S2048x1024 .f32) (w : FVec Ideal S1024x1024 .bf16) : FVec Ideal S2048x1024 .bf16 :=
  fun i => entry x w (i 0) (i 1)

theorem idx : ∀ t : Fin cfg0.N, win0_0.index t = ![t.val, 0] ∧ win0_1.index t = ![0, 0] ∧ win0_2.index t = ![t.val, 0] :=
  (by decide +kernel : ∀ t : Fin grid0.N, _)

theorem part (x0 : Vec Ideal S512x1024 .f32) (x1 : Vec Ideal S1024x1024 .bf16) (y) : k0_pay1 x0 x1 y = ∑ k : Fin 1024, x0 (ix2 (y 0) k) * x1 (ix2 (y 1) k) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.DoIdeal.Val

end
-- ==== Proof.ADo.lean ====
module

public import proofs.«01_k».proof.Defs
public import proofs.«01_k».proof.Proof.Gen.Do.Frame
public import proofs.«01_k».proof.Proof.Gen.DoReferenceIdeal.Run
public import proofs.«01_k».proof.Proof.VDo

@[expose] public section

/- The claims about `Do`: both frames, and its value beside the reference's. -/

set_option maxRecDepth 16384

noncomputable section

open Idealize.ShloMosaic Idealize.ShloMosaic.TcCoe Idealize.SL.Sem

namespace Cert.ADo

theorem frameReference : Cert.quiescent_DoReferenceIdeal := fun m ρ _ =>
  (θ_run Cert.DoReferenceIdeal.defs _ _).mono (fun r h => ⟨fun c => (h c).2, sem_eq_zero_of_no_sems (by decide) r.2⟩)
    (Cert.DoReferenceIdeal.Value.run (F := Ideal) m ρ)

set_option maxHeartbeats 1600000 in
theorem value : Cert.algebraic_DoIdeal_DoReferenceIdeal := by
  pair_intro
  · run_from Cert.DoIdeal.Gen.run_main m g
  · hlo_run
    rw [Cert.DoIdeal.Val.final m c]
    funext i
    idx_vars i
    pointwise [Cert.DoIdeal.Val.G, Cert.DoIdeal.Val.entry]

end Cert.ADo

end
-- ==== Proof.VDh1.lean ====
module

public import proofs.«01_k».proof.Proof.Gen.Dh1Ideal.Frame
public import proofs.«01_k».proof.Proof.Base

@[expose] public section

/- What the gradient of the cross-attention input computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.Dh1Ideal.Val

open Cert.Dh1Ideal Cert.Dh1Ideal.Gen

variable (m : (ℓ : Loc nD τ sig) → Buf (Elt Ideal) ℓ)

/-- One entry of the product: row `r`, column `c`. -/
def entry (x : FVec Ideal S2048x1024 .bf16) (w : FVec Ideal S1024x1024 .bf16) (r : Fin 2048) (c : Fin 1024) : EReal :=
  ∑ q : Fin 1024, x (ix2 r q) * w (ix2 c q)

/-- The array the call leaves. -/
def G (x : FVec Ideal S2048x1024 .bf16) (w : FVec Ideal S1024x1024 .bf16) : FVec Ideal S2048x1024 .f32 :=
  fun i => entry x w (i 0) (i 1)

theorem idx : ∀ t : Fin cfg0.N, win0_0.index t = ![t.val, 0] ∧ win0_1.index t = ![0, 0] ∧ win0_2.index t = ![t.val, 0] :=
  (by decide +kernel : ∀ t : Fin grid0.N, _)

theorem part (x0 : Vec Ideal S512x1024 .bf16) (x1 : Vec Ideal S1024x1024 .bf16) (y) : k0_pay1 x0 x1 y = ∑ k : Fin 1024, x0 (ix2 (y 0) k) * x1 (ix2 (y 1) k) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.Dh1Ideal.Val

end
-- ==== Proof.ADh1.lean ====
module

public import proofs.«01_k».proof.Defs
public import proofs.«01_k».proof.Proof.Gen.Dh1.Frame
public import proofs.«01_k».proof.Proof.Gen.Dh1ReferenceIdeal.Run
public import proofs.«01_k».proof.Proof.VDh1

@[expose] public section

/- The claims about `Dh1`: both frames, and its value beside the reference's. -/

set_option maxRecDepth 16384

noncomputable section

open Idealize.ShloMosaic Idealize.ShloMosaic.TcCoe Idealize.SL.Sem

namespace Cert.ADh1

theorem frameReference : Cert.quiescent_Dh1ReferenceIdeal := fun m ρ _ =>
  (θ_run Cert.Dh1ReferenceIdeal.defs _ _).mono (fun r h => ⟨fun c => (h c).2, sem_eq_zero_of_no_sems (by decide) r.2⟩)
    (Cert.Dh1ReferenceIdeal.Value.run (F := Ideal) m ρ)

set_option maxHeartbeats 1600000 in
theorem value : Cert.algebraic_Dh1Ideal_Dh1ReferenceIdeal := by
  pair_intro
  · run_from Cert.Dh1Ideal.Gen.run_main m g
  · hlo_run
    rw [Cert.Dh1Ideal.Val.final m c]
    funext i
    idx_vars i
    pointwise [Cert.Dh1Ideal.Val.G, Cert.Dh1Ideal.Val.entry]

end Cert.ADh1

end
-- ==== Proof.VDmerged.lean ====
module

public import proofs.«01_k».proof.Proof.Gen.DmergedIdeal.Frame
public import proofs.«01_k».proof.Proof.Base

@[expose] public section

/- What the gradient of the merged branches computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DmergedIdeal.Val

open Cert.DmergedIdeal Cert.DmergedIdeal.Gen

variable (m : (ℓ : Loc nD τ sig) → Buf (Elt Ideal) ℓ)

/-- One entry of the product: row `r`, column `c`. -/
def entry (x : FVec Ideal S2048x1024 .f32) (w : FVec Ideal S1024x1024 .bf16) (r : Fin 2048) (c : Fin 1024) : EReal :=
  ∑ q : Fin 1024, x (ix2 r q) * w (ix2 c q)

/-- The array the call leaves. -/
def G (x : FVec Ideal S2048x1024 .f32) (w : FVec Ideal S1024x1024 .bf16) : FVec Ideal S2048x1024 .f32 :=
  fun i => entry x w (i 0) (i 1)

theorem idx : ∀ t : Fin cfg0.N, win0_0.index t = ![t.val, 0] ∧ win0_1.index t = ![0, 0] ∧ win0_2.index t = ![t.val, 0] :=
  (by decide +kernel : ∀ t : Fin grid0.N, _)

theorem part (x0 : Vec Ideal S512x1024 .f32) (x1 : Vec Ideal S1024x1024 .bf16) (y) : k0_pay1 x0 x1 y = ∑ k : Fin 1024, x0 (ix2 (y 0) k) * x1 (ix2 (y 1) k) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.DmergedIdeal.Val

end
-- ==== Proof.ADmerged.lean ====
module

public import proofs.«01_k».proof.Defs
public import proofs.«01_k».proof.Proof.Gen.Dmerged.Frame
public import proofs.«01_k».proof.Proof.Gen.DmergedReferenceIdeal.Run
public import proofs.«01_k».proof.Proof.VDmerged

@[expose] public section

/- The claims about `Dmerged`: both frames, and its value beside the reference's. -/

set_option maxRecDepth 16384

noncomputable section

open Idealize.ShloMosaic Idealize.ShloMosaic.TcCoe Idealize.SL.Sem

namespace Cert.ADmerged

theorem frameReference : Cert.quiescent_DmergedReferenceIdeal := fun m ρ _ =>
  (θ_run Cert.DmergedReferenceIdeal.defs _ _).mono (fun r h => ⟨fun c => (h c).2, sem_eq_zero_of_no_sems (by decide) r.2⟩)
    (Cert.DmergedReferenceIdeal.Value.run (F := Ideal) m ρ)

set_option maxHeartbeats 1600000 in
theorem value : Cert.algebraic_DmergedIdeal_DmergedReferenceIdeal := by
  pair_intro
  · run_from Cert.DmergedIdeal.Gen.run_main m g
  · hlo_run
    rw [Cert.DmergedIdeal.Val.final m c]
    funext i
    idx_vars i
    pointwise [Cert.DmergedIdeal.Val.G, Cert.DmergedIdeal.Val.entry]

end Cert.ADmerged

end
-- ==== Proof.VDh.lean ====
module

public import proofs.«01_k».proof.Proof.Gen.DhIdeal.Frame
public import proofs.«01_k».proof.Proof.Base

@[expose] public section

/- What the gradient of the layer's input computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DhIdeal.Val

open Cert.DhIdeal Cert.DhIdeal.Gen

variable (m : (ℓ : Loc nD τ sig) → Buf (Elt Ideal) ℓ)

/-- One entry of the product: row `r`, column `c`. -/
def entry (x : FVec Ideal S2048x5376 .bf16) (w : FVec Ideal S5376x1024 .bf16) (r : Fin 2048) (c : Fin 1024) : EReal :=
  ∑ q : Fin 5376, x (ix2 r q) * w (ix2 q c)

/-- The array the call leaves. -/
def G (x : FVec Ideal S2048x5376 .bf16) (w : FVec Ideal S5376x1024 .bf16) (z : FVec Ideal S2048x1024 .f32) : FVec Ideal S2048x1024 .f32 :=
  fun i => Ideal.ofBits .f32 0x3FD744FD#32 * z i + entry x w (i 0) (i 1)

theorem idx : ∀ t : Fin cfg0.N, win0_0.index t = ![t.val / 3, t.val % 3] ∧ win0_1.index t = ![t.val % 3, 0] ∧ win0_2.index t = ![t.val / 3, 0] ∧ win0_3.index t = ![t.val / 3, 0] :=
  (by decide +kernel : ∀ t : Fin grid0.N, _)

theorem first (x0 : Vec Ideal S1024x1792 .bf16) (x1 : Vec Ideal S1792x1024 .bf16) (j) : k0_pay2 x0 x1 j = 0 + ∑ k : Fin 1792, x0 (ix2 (j 0) k) * x1 (ix2 k (j 1)) := by
  pointwise [k0_pay2, k0_pay1]

theorem next (x0 : Vec Ideal S1024x1792 .bf16) (x1 : Vec Ideal S1792x1024 .bf16) (acc : Vec Ideal S1024x1024 .f32) (j) :
    k0_pay3 x0 x1 acc j = acc j + ∑ k : Fin 1792, x0 (ix2 (j 0) k) * x1 (ix2 k (j 1)) := by
  pointwise [k0_pay3, k0_pay1]

/-- What the point `t` adds to the accumulator. -/
def term (c : Dev nD) (t : Fin cfg0.N) (j : S1024x1024.Idx) : EReal :=
  ∑ k : Fin 1792, (show EReal from iblk m c 0 t (ix2 (j 0) k)) * (show EReal from iblk m c 1 t (ix2 k (j 1)))

/-- The accumulator after a point, before the last point of a run adds the residual's share to it. -/
def run (c : Dev nD) (n : ℕ) (h : n < cfg0.N) (j : S1024x1024.Idx) : EReal :=
  if n % 3 = 2 then
    (show EReal from outsAt0 m c (n - 1) (Nat.lt_of_le_of_lt (Nat.sub_le _ _) h) j) + term m c ⟨n, h⟩ j
  else outsAt0 m c n h j

theorem acc (c : Dev nD) (t : Fin cfg0.N) (h : t.val % 3 = 3 - 1) (j) :
    run m c t.val t.isLt j = ∑ s : Fin 3, term m c ⟨3 * (t.val / 3) + s.val, Pipeline.run_point_lt_of_flush t h s⟩ j := by
  rw [Pipeline.eq_sum_fin_of_reset_step_apply_of_flush (fun n h => run m c n h) 3 (fun _ => 0) (term m c)
    (fun t h j => by
      unfold run
      rw [if_neg (by omega), outsAt0_A m c t h (by omega) (by omega)]; frame_out
      exact first _ _ j)
    (fun t h j => by
      have hp : ¬(t.val - 1) % 3 = 2 := by omega
      unfold run
      rw [if_neg hp]
      by_cases h2 : t.val % 3 = 2
      · rw [if_pos h2]
      · rw [if_neg h2, outsAt0_B m c t h (by omega) h2]; frame_out
        exact next _ _ _ j) t h j, zero_add]

theorem last (a z : Vec Ideal S1024x1024 .f32) (j) : k0_pay4 a z j = Ideal.ofBits .f32 0x3FD744FD#32 * a j + z j := by
  pointwise [k0_pay4]

theorem final (c : Dev nD) : (dats m 0 c).arrAt 3 (cfgs 0).N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h : t.val % 3 = 3 - 1 := (flush0_3 t).mp hf
  have e : outsAt0 m c t.val t.isLt y
      = Ideal.ofBits .f32 0x3FD744FD#32 * (show EReal from iblk m c 2 t y) + run m c t.val t.isLt y := by
    unfold run
    rw [if_pos h, outsAt0_C m c t (by omega) (by omega) h]; frame_out
    refine (last _ _ y).trans ?_
    exact congrArg _ (next _ _ _ y)
  rw [after0_3]
  refine e.trans ?_
  rw [acc m c t h y]
  unfold G entry term
  refine Ideal.add_congr (Ideal.mul_congr rfl (by blk_ext [iblk, V, idx t])) ?_
  refine Fin.sum_mul_add_congr fun s k hl => ?_
  refine Ideal.mul_congr ?_ ?_ <;> blk_ext [iblk, V, idx t, idx ⟨_, Pipeline.run_point_lt_of_flush t h s⟩]

end Cert.DhIdeal.Val

end
-- ==== Proof.ADh.lean ====
module

public import proofs.«01_k».proof.Defs
public import proofs.«01_k».proof.Proof.Gen.Dh.Frame
public import proofs.«01_k».proof.Proof.Gen.DhReferenceIdeal.Run
public import proofs.«01_k».proof.Proof.VDh

@[expose] public section

/- The claims about `Dh`: both frames, and its value beside the reference's. -/

set_option maxRecDepth 16384

noncomputable section

open Idealize.ShloMosaic Idealize.ShloMosaic.TcCoe Idealize.SL.Sem

namespace Cert.ADh

theorem frameReference : Cert.quiescent_DhReferenceIdeal := fun m ρ _ =>
  (θ_run Cert.DhReferenceIdeal.defs _ _).mono (fun r h => ⟨fun c => (h c).2, sem_eq_zero_of_no_sems (by decide) r.2⟩)
    (Cert.DhReferenceIdeal.Value.run (F := Ideal) m ρ)

set_option maxHeartbeats 1600000 in
theorem value : Cert.algebraic_DhIdeal_DhReferenceIdeal := by
  pair_intro
  · run_from Cert.DhIdeal.Gen.run_main m g
  · hlo_run
    rw [Cert.DhIdeal.Val.final m c]
    funext i
    idx_vars i
    pointwise [Cert.DhIdeal.Val.G, Cert.DhIdeal.Val.entry]
    exact add_comm _ _

end Cert.ADh

end
-- ==== Proof.VDFfnWo.lean ====
module

public import proofs.«01_k».proof.Proof.Gen.DFfnWoIdeal.Frame
public import proofs.«01_k».proof.Proof.Base

@[expose] public section

/- What the gradient of the feed-forward output weights computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DFfnWoIdeal.Val

open Cert.DFfnWoIdeal Cert.DFfnWoIdeal.Gen

variable (m : (ℓ : Loc nD τ sig) → Buf (Elt Ideal) ℓ)

/-- One entry of the product: row `r`, column `c`. -/
def entry (x : FVec Ideal S2048x2816 .bf16) (w : FVec Ideal S2048x1024 .f32) (r : Fin 2816) (c : Fin 1024) : EReal :=
  ∑ q : Fin 2048, x (ix2 q r) * w (ix2 q c)

/-- The array the call leaves. -/
def G (x : FVec Ideal S2048x2816 .bf16) (w : FVec Ideal S2048x1024 .f32) : FVec Ideal S2816x1024 .bf16 :=
  fun i => entry x w (i 0) (i 1)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem first (x0 : Vec Ideal S512x1408 .bf16) (x1 : Vec Ideal S512x1024 .f32) (j) : k0_pay2 x0 x1 j = 0 + ∑ k : Fin 512, x0 (ix2 k (j 0)) * x1 (ix2 k (j 1)) := by
  pointwise [k0_pay2, k0_pay1]

theorem next (x0 : Vec Ideal S512x1408 .bf16) (x1 : Vec Ideal S512x1024 .f32) (acc : Vec Ideal S1408x1024 .f32) (j) :
    k0_pay3 x0 x1 acc j = acc j + ∑ k : Fin 512, x0 (ix2 k (j 0)) * x1 (ix2 k (j 1)) := by
  pointwise [k0_pay3, k0_pay1]

/-- What the point `t` adds to the accumulator. -/
def term (c : Dev nD) (t : Fin cfg0.N) (j : S1408x1024.Idx) : EReal :=
  ∑ k : Fin 512, (show EReal from iblk m c 0 t (ix2 k (j 0))) * (show EReal from iblk m c 1 t (ix2 k (j 1)))

/-- The accumulator at the last point of a run. -/
theorem acc (c : Dev nD) (t : Fin cfg0.N) (h : t.val % 4 = 4 - 1) (j) :
    (outsAt0 m c t.val t.isLt).2 j = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h j => by
      rw [outsAt0_A m c t h (by omega) (by omega)]; frame_out
      exact first _ _ j)
    (fun t h j => by
      by_cases h2 : t.val % 4 = 3
      · rw [outsAt0_C m c t h (by omega) (by omega)]; frame_out
        exact (congrFun (congrArg _ ((Memref.isWhole_whole _).read_unread _)) j).trans (next _ _ _ j)
      · rw [outsAt0_B m c t h (by omega) (by omega)]; frame_out
        exact (congrFun (congrArg _ ((Memref.isWhole_whole _).read_unread _)) j).trans (next _ _ _ j)) t h j, zero_add]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  have h : t.val % 4 = 4 - 1 := by have := (flush0_2 t).mp hf; have := lt_of_lt_of_eq t.isLt N_0; omega
  have e : (outsAt0 m c t.val t.isLt).1 y = (outsAt0 m c t.val t.isLt).2 y := by
    rw [outsAt0_C m c t (by omega) (by omega) (by omega)]; frame_out
    pointwise [k0_pay4]
  rw [after0_2]
  refine e.trans ((acc m c t h y).trans ?_)
  unfold G entry term
  refine Fin.sum_mul_add_congr fun s k hl => ?_
  refine Ideal.mul_congr ?_ ?_ <;> blk_ext [iblk, V, idx t, idx ⟨_, Pipeline.run_point_lt_of_flush t h s⟩]

end Cert.DFfnWoIdeal.Val

end
-- ==== Proof.ADFfnWo.lean ====
module

public import proofs.«01_k».proof.Defs
public import proofs.«01_k».proof.Proof.Gen.DFfnWo.Frame
public import proofs.«01_k».proof.Proof.Gen.DFfnWoReferenceIdeal.Run
public import proofs.«01_k».proof.Proof.VDFfnWo

@[expose] public section

/- The claims about `DFfnWo`: both frames, and its value beside the reference's. -/

set_option maxRecDepth 16384

noncomputable section

open Idealize.ShloMosaic Idealize.ShloMosaic.TcCoe Idealize.SL.Sem

namespace Cert.ADFfnWo

theorem frameReference : Cert.quiescent_DFfnWoReferenceIdeal := fun m ρ _ =>
  (θ_run Cert.DFfnWoReferenceIdeal.defs _ _).mono (fun r h => ⟨fun c => (h c).2, sem_eq_zero_of_no_sems (by decide) r.2⟩)
    (Cert.DFfnWoReferenceIdeal.Value.run (F := Ideal) m ρ)

set_option maxHeartbeats 1600000 in
theorem value : Cert.algebraic_DFfnWoIdeal_DFfnWoReferenceIdeal := by
  pair_intro
  · run_from Cert.DFfnWoIdeal.Gen.run_main m g
  · hlo_run
    rw [Cert.DFfnWoIdeal.Val.final m c]
    funext i
    idx_vars i
    pointwise [Cert.DFfnWoIdeal.Val.G, Cert.DFfnWoIdeal.Val.entry]
    exact Finset.sum_congr rfl fun q _ => mul_comm _ _

end Cert.ADFfnWo

end
-- ==== Proof.VDFfnWi.lean ====
module

public import proofs.«01_k».proof.Proof.Gen.DFfnWiIdeal.Frame
public import proofs.«01_k».proof.Proof.Base

@[expose] public section

/- What the gradient of the feed-forward input weights computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DFfnWiIdeal.Val

open Cert.DFfnWiIdeal Cert.DFfnWiIdeal.Gen

variable (m : (ℓ : Loc nD τ sig) → Buf (Elt Ideal) ℓ)

/-- One entry of the product: row `r`, column `c`. -/
def entry (x : FVec Ideal S2048x1024 .f32) (w : FVec Ideal S2x2048x2816 .bf16) (r : Fin 1024) (c : Fin 5632) : EReal :=
  ∑ q : Fin 2048, x (ix2 q r) * w (ix3 ⟨c.val / 2816, by omega⟩ q ⟨c.val % 2816, by omega⟩)

/-- The array the call leaves. -/
def G (x : FVec Ideal S2048x1024 .f32) (w : FVec Ideal S2x2048x2816 .bf16) : FVec Ideal S4x1024x1408 .bf16 :=
  fun i => entry x w (i 1) ⟨(i 0).val * 1408 + (i 2).val, Cert.Base.mul_add_lt (i 0).isLt (i 2).isLt rfl⟩

theorem idx : ∀ t : Fin cfg0.N, win0_0.index t = ![t.val % 2, 0] ∧ win0_1.index t = ![(t.val / 2) / 2, t.val % 2, (t.val / 2) % 2] ∧ win0_2.index t = ![t.val / 2, 0, 0] :=
  (by decide +kernel : ∀ t : Fin grid0.N, _)

theorem first (x0 : Vec Ideal S1024x1024 .f32) (x1 : Vec Ideal S1x1024x1408 .bf16) (j) : k0_pay2 x0 x1 j = 0 + ∑ k : Fin 1024, x0 (ix2 k (j 0)) * x1 (ix3 0 k (j 1)) := by
  pointwise [k0_pay2, k0_pay1]

theorem next (x0 : Vec Ideal S1024x1024 .f32) (x1 : Vec Ideal S1x1024x1408 .bf16) (acc : Vec Ideal S1024x1408 .f32) (j) :
    k0_pay3 x0 x1 acc j = acc j + ∑ k : Fin 1024, x0 (ix2 k (j 0)) * x1 (ix3 0 k (j 1)) := by
  pointwise [k0_pay3, k0_pay1]

/-- What the point `t` adds to the accumulator. -/
def term (c : Dev nD) (t : Fin cfg0.N) (j : S1024x1408.Idx) : EReal :=
  ∑ k : Fin 1024, (show EReal from iblk m c 0 t (ix2 k (j 0))) * (show EReal from iblk m c 1 t (ix3 0 k (j 1)))

/-- The accumulator at the last point of a run. -/
theorem acc (c : Dev nD) (t : Fin cfg0.N) (h : t.val % 2 = 2 - 1) (j) :
    (outsAt0 m c t.val t.isLt).2 j = ∑ s : Fin 2, term m c ⟨2 * (t.val / 2) + s.val, Pipeline.run_point_lt_of_flush t h s⟩ j := by
  rw [Pipeline.eq_sum_fin_of_reset_step_apply_of_flush (fun n h => (outsAt0 m c n h).2) 2 (fun _ => 0) (term m c)
    (fun t h j => by
      rw [outsAt0_A m c t h (by omega) (by omega)]; frame_out
      exact first _ _ j)
    (fun t h j => by
      rw [outsAt0_B m c t h (by omega) (by omega)]; frame_out
      exact (congrFun (congrArg _ ((Memref.isWhole_whole _).read_unread _)) j).trans (next _ _ _ j)) t h j, zero_add]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  have h : t.val % 2 = 2 - 1 := by have := (flush0_2 t).mp hf; have := lt_of_lt_of_eq t.isLt N_0; omega
  have e : (outsAt0 m c t.val t.isLt).1 y = (outsAt0 m c t.val t.isLt).2 (ix2 (y 1) (y 2)) := by
    rw [outsAt0_B m c t (by omega) (by omega) (by omega)]; frame_out
    pointwise [k0_pay4]
  rw [after0_2]
  refine e.trans ((acc m c t h (ix2 (y 1) (y 2))).trans ?_)
  unfold G entry term
  refine Fin.sum_mul_add_congr fun s k hl => ?_
  refine Ideal.mul_congr ?_ ?_ <;> blk_ext [iblk, V, idx t, idx ⟨_, Pipeline.run_point_lt_of_flush t h s⟩]

end Cert.DFfnWiIdeal.Val

end
-- ==== Proof.ADFfnWi.lean ====
module

public import proofs.«01_k».proof.Defs
public import proofs.«01_k».proof.Proof.Gen.DFfnWi.Frame
public import proofs.«01_k».proof.Proof.Gen.DFfnWiReferenceIdeal.Run
public import proofs.«01_k».proof.Proof.VDFfnWi

@[expose] public section

/- The claims about `DFfnWi`: both frames, and its value beside the reference's. -/

set_option maxRecDepth 16384

noncomputable section

open Idealize.ShloMosaic Idealize.ShloMosaic.TcCoe Idealize.SL.Sem

namespace Cert.ADFfnWi

theorem frameReference : Cert.quiescent_DFfnWiReferenceIdeal := fun m ρ _ =>
  (θ_run Cert.DFfnWiReferenceIdeal.defs _ _).mono (fun r h => ⟨fun c => (h c).2, sem_eq_zero_of_no_sems (by decide) r.2⟩)
    (Cert.DFfnWiReferenceIdeal.Value.run (F := Ideal) m ρ)

set_option maxHeartbeats 1600000 in
theorem value : Cert.algebraic_DFfnWiIdeal_DFfnWiReferenceIdeal := by
  pair_intro
  · run_from Cert.DFfnWiIdeal.Gen.run_main m g
  · hlo_run
    rw [Cert.DFfnWiIdeal.Val.final m c]
    funext i
    idx_vars i
    pointwise [Cert.DFfnWiIdeal.Val.G, Cert.DFfnWiIdeal.Val.entry]
    refine Finset.sum_congr rfl fun q _ => ?_
    rw [mul_comm]
    refine Ideal.mul_congr rfl ?_
    split <;> refine congrArg _ (congrArg₂ (fun a b => ix3 a q b) (Fin.ext ?_) (Fin.ext ?_)) <;>
      (try simp only [Fin.val_zero, Fin.val_one]) <;> omega

end Cert.ADFfnWi

end
-- ==== Proof.VDco.lean ====
module

public import proofs.«01_k».proof.Proof.Gen.DcoIdeal.Frame
public import proofs.«01_k».proof.Proof.Base

@[expose] public section

/- What the gradient of the cross-attention output weights computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DcoIdeal.Val

open Cert.DcoIdeal Cert.DcoIdeal.Gen

variable (m : (ℓ : Loc nD τ sig) → Buf (Elt Ideal) ℓ)

/-- One entry of the product: row `r`, column `c`. -/
def entry (x : FVec Ideal S2048x1024 .bf16) (w : FVec Ideal S2048x1024 .f32) (r : Fin 1024) (c : Fin 1024) : EReal :=
  ∑ q : Fin 2048, x (ix2 q r) * w (ix2 q c)

/-- The array the call leaves. -/
def G (x : FVec Ideal S2048x1024 .bf16) (w : FVec Ideal S2048x1024 .f32) : FVec Ideal S1024x1024 .bf16 :=
  fun i => entry x w (i 0) (i 1)

theorem idx : ∀ t : Fin cfg0.N, win0_0.index t = ![t.val, 0] ∧ win0_1.index t = ![t.val, 0] ∧ win0_2.index t = ![0, 0] :=
  (by decide +kernel : ∀ t : Fin grid0.N, _)

theorem first (x0 : Vec Ideal S512x1024 .bf16) (x1 : Vec Ideal S512x1024 .f32) (j) : k0_pay2 x0 x1 j = 0 + ∑ k : Fin 512, x0 (ix2 k (j 0)) * x1 (ix2 k (j 1)) := by
  pointwise [k0_pay2, k0_pay1]

theorem next (x0 : Vec Ideal S512x1024 .bf16) (x1 : Vec Ideal S512x1024 .f32) (acc : Vec Ideal S1024x1024 .f32) (j) :
    k0_pay3 x0 x1 acc j = acc j + ∑ k : Fin 512, x0 (ix2 k (j 0)) * x1 (ix2 k (j 1)) := by
  pointwise [k0_pay3, k0_pay1]

/-- What the point `t` adds to the accumulator. -/
def term (c : Dev nD) (t : Fin cfg0.N) (j : S1024x1024.Idx) : EReal :=
  ∑ k : Fin 512, (show EReal from iblk m c 0 t (ix2 k (j 0))) * (show EReal from iblk m c 1 t (ix2 k (j 1)))

/-- The accumulator at the last point of a run. -/
theorem acc (c : Dev nD) (t : Fin cfg0.N) (h : t.val % 4 = 4 - 1) (j) :
    (outsAt0 m c t.val t.isLt).2 j = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h j => by
      have := lt_of_lt_of_eq t.isLt N_0; rw [outsAt0_A m c t h (by omega) (by omega)]; frame_out
      exact first _ _ j)
    (fun t h j => by
      by_cases h2 : t.val % 4 = 3
      · have := lt_of_lt_of_eq t.isLt N_0; rw [outsAt0_C m c t h (by omega) (by omega)]; frame_out
        exact (congrFun (congrArg _ ((Memref.isWhole_whole _).read_unread _)) j).trans (next _ _ _ j)
      · have := lt_of_lt_of_eq t.isLt N_0; rw [outsAt0_B m c t h (by omega) (by omega)]; frame_out
        exact (congrFun (congrArg _ ((Memref.isWhole_whole _).read_unread _)) j).trans (next _ _ _ j)) t h j, zero_add]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  have h : t.val % 4 = 4 - 1 := by have := (flush0_2 t).mp hf; have := lt_of_lt_of_eq t.isLt N_0; omega
  have e : (outsAt0 m c t.val t.isLt).1 y = (outsAt0 m c t.val t.isLt).2 y := by
    rw [outsAt0_C m c t (by omega) (by omega) (by omega)]; frame_out
    pointwise [k0_pay4]
  rw [after0_2]
  refine e.trans ((acc m c t h y).trans ?_)
  unfold G entry term
  refine Fin.sum_mul_add_congr fun s k hl => ?_
  refine Ideal.mul_congr ?_ ?_ <;> blk_ext [iblk, V, idx t, idx ⟨_, Pipeline.run_point_lt_of_flush t h s⟩]

end Cert.DcoIdeal.Val

end
-- ==== Proof.ADco.lean ====
module

public import proofs.«01_k».proof.Defs
public import proofs.«01_k».proof.Proof.Gen.Dco.Frame
public import proofs.«01_k».proof.Proof.Gen.DcoReferenceIdeal.Run
public import proofs.«01_k».proof.Proof.VDco

@[expose] public section

/- The claims about `Dco`: both frames, and its value beside the reference's. -/

set_option maxRecDepth 16384

noncomputable section

open Idealize.ShloMosaic Idealize.ShloMosaic.TcCoe Idealize.SL.Sem

namespace Cert.ADco

theorem frameReference : Cert.quiescent_DcoReferenceIdeal := fun m ρ _ =>
  (θ_run Cert.DcoReferenceIdeal.defs _ _).mono (fun r h => ⟨fun c => (h c).2, sem_eq_zero_of_no_sems (by decide) r.2⟩)
    (Cert.DcoReferenceIdeal.Value.run (F := Ideal) m ρ)

set_option maxHeartbeats 1600000 in
theorem value : Cert.algebraic_DcoIdeal_DcoReferenceIdeal := by
  pair_intro
  · run_from Cert.DcoIdeal.Gen.run_main m g
  · hlo_run
    rw [Cert.DcoIdeal.Val.final m c]
    funext i
    idx_vars i
    pointwise [Cert.DcoIdeal.Val.G, Cert.DcoIdeal.Val.entry]
    exact Finset.sum_congr rfl fun q _ => mul_comm _ _

end Cert.ADco

end
-- ==== Proof.VDcq.lean ====
module

public import proofs.«01_k».proof.Proof.Gen.DcqIdeal.Frame
public import proofs.«01_k».proof.Proof.Base

@[expose] public section

/- What the gradient of the query weights computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DcqIdeal.Val

open Cert.DcqIdeal Cert.DcqIdeal.Gen

variable (m : (ℓ : Loc nD τ sig) → Buf (Elt Ideal) ℓ)

/-- One entry of the product: row `r`, column `c`. -/
def entry (x : FVec Ideal S2048x1024 .f32) (w : FVec Ideal S2048x1024 .bf16) (r : Fin 1024) (c : Fin 1024) : EReal :=
  ∑ q : Fin 2048, x (ix2 q r) * w (ix2 q c)

/-- The array the call leaves. -/
def G (x : FVec Ideal S2048x1024 .f32) (w : FVec Ideal S2048x1024 .bf16) : FVec Ideal S1024x1024 .bf16 :=
  fun i => entry x w (i 0) (i 1)

theorem idx : ∀ t : Fin cfg0.N, win0_0.index t = ![t.val, 0] ∧ win0_1.index t = ![t.val, 0] ∧ win0_2.index t = ![0, 0] :=
  (by decide +kernel : ∀ t : Fin grid0.N, _)

theorem first (x0 : Vec Ideal S512x1024 .f32) (x1 : Vec Ideal S512x1024 .bf16) (j) : k0_pay2 x0 x1 j = 0 + ∑ k : Fin 512, x0 (ix2 k (j 0)) * x1 (ix2 k (j 1)) := by
  pointwise [k0_pay2, k0_pay1]

theorem next (x0 : Vec Ideal S512x1024 .f32) (x1 : Vec Ideal S512x1024 .bf16) (acc : Vec Ideal S1024x1024 .f32) (j) :
    k0_pay3 x0 x1 acc j = acc j + ∑ k : Fin 512, x0 (ix2 k (j 0)) * x1 (ix2 k (j 1)) := by
  pointwise [k0_pay3, k0_pay1]

/-- What the point `t` adds to the accumulator. -/
def term (c : Dev nD) (t : Fin cfg0.N) (j : S1024x1024.Idx) : EReal :=
  ∑ k : Fin 512, (show EReal from iblk m c 0 t (ix2 k (j 0))) * (show EReal from iblk m c 1 t (ix2 k (j 1)))

/-- The accumulator at the last point of a run. -/
theorem acc (c : Dev nD) (t : Fin cfg0.N) (h : t.val % 4 = 4 - 1) (j) :
    (outsAt0 m c t.val t.isLt).2 j = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h j => by
      have := lt_of_lt_of_eq t.isLt N_0; rw [outsAt0_A m c t h (by omega) (by omega)]; frame_out
      exact first _ _ j)
    (fun t h j => by
      by_cases h2 : t.val % 4 = 3
      · have := lt_of_lt_of_eq t.isLt N_0; rw [outsAt0_C m c t h (by omega) (by omega)]; frame_out
        exact (congrFun (congrArg _ ((Memref.isWhole_whole _).read_unread _)) j).trans (next _ _ _ j)
      · have := lt_of_lt_of_eq t.isLt N_0; rw [outsAt0_B m c t h (by omega) (by omega)]; frame_out
        exact (congrFun (congrArg _ ((Memref.isWhole_whole _).read_unread _)) j).trans (next _ _ _ j)) t h j, zero_add]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  have h : t.val % 4 = 4 - 1 := by have := (flush0_2 t).mp hf; have := lt_of_lt_of_eq t.isLt N_0; omega
  have e : (outsAt0 m c t.val t.isLt).1 y = (outsAt0 m c t.val t.isLt).2 y := by
    rw [outsAt0_C m c t (by omega) (by omega) (by omega)]; frame_out
    pointwise [k0_pay4]
  rw [after0_2]
  refine e.trans ((acc m c t h y).trans ?_)
  unfold G entry term
  refine Fin.sum_mul_add_congr fun s k hl => ?_
  refine Ideal.mul_congr ?_ ?_ <;> blk_ext [iblk, V, idx t, idx ⟨_, Pipeline.run_point_lt_of_flush t h s⟩]

end Cert.DcqIdeal.Val

end
-- ==== Proof.ADcq.lean ====
module

public import proofs.«01_k».proof.Defs
public import proofs.«01_k».proof.Proof.Gen.Dcq.Frame
public import proofs.«01_k».proof.Proof.Gen.DcqReferenceIdeal.Run
public import proofs.«01_k».proof.Proof.VDcq

@[expose] public section

/- The claims about `Dcq`: both frames, and its value beside the reference's. -/

set_option maxRecDepth 16384

noncomputable section

open Idealize.ShloMosaic Idealize.ShloMosaic.TcCoe Idealize.SL.Sem

namespace Cert.ADcq

theorem frameReference : Cert.quiescent_DcqReferenceIdeal := fun m ρ _ =>
  (θ_run Cert.DcqReferenceIdeal.defs _ _).mono (fun r h => ⟨fun c => (h c).2, sem_eq_zero_of_no_sems (by decide) r.2⟩)
    (Cert.DcqReferenceIdeal.Value.run (F := Ideal) m ρ)

set_option maxHeartbeats 1600000 in
theorem value : Cert.algebraic_DcqIdeal_DcqReferenceIdeal := by
  pair_intro
  · run_from Cert.DcqIdeal.Gen.run_main m g
  · hlo_run
    rw [Cert.DcqIdeal.Val.final m c]
    funext i
    idx_vars i
    pointwise [Cert.DcqIdeal.Val.G, Cert.DcqIdeal.Val.entry]
    exact Finset.sum_congr rfl fun q _ => mul_comm _ _

end Cert.ADcq

end
-- ==== Proof.VDckv.lean ====
module

public import proofs.«01_k».proof.Proof.Gen.DckvIdeal.Frame
public import proofs.«01_k».proof.Proof.Base

@[expose] public section

/- What the gradient of the key and value weights computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DckvIdeal.Val

open Cert.DckvIdeal Cert.DckvIdeal.Gen

variable (m : (ℓ : Loc nD τ sig) → Buf (Elt Ideal) ℓ)

/-- One entry of the product: row `r`, column `c`. -/
def entry (x : FVec Ideal S256x1024 .f32) (w : FVec Ideal S256x2048 .f32) (r : Fin 1024) (c : Fin 2048) : EReal :=
  ∑ q : Fin 256, x (ix2 q r) * w (ix2 q c)

/-- The array the call leaves. -/
def G (x : FVec Ideal S256x1024 .f32) (w : FVec Ideal S256x2048 .f32) : FVec Ideal S4x1024x512 .bf16 :=
  fun i => entry x w (i 1) ⟨(i 0).val * 512 + (i 2).val, Cert.Base.mul_add_lt (i 0).isLt (i 2).isLt rfl⟩

theorem idx : ∀ t : Fin cfg0.N, win0_0.index t = ![0, 0] ∧ win0_1.index t = ![0, t.val] ∧ win0_2.index t = ![t.val, 0, 0] :=
  (by decide +kernel : ∀ t : Fin grid0.N, _)

theorem part (x0 : Vec Ideal S256x1024 .f32) (x1 : Vec Ideal S256x512 .f32) (y) : k0_pay1 x0 x1 y = ∑ k : Fin 256, x0 (ix2 k (y 1)) * x1 (ix2 k (y 2)) := by
  pointwise [k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]; frame_out
  refine (part _ _ y).trans ?_
  unfold G entry
  refine Finset.sum_congr rfl fun k _ => ?_
  refine Ideal.mul_congr ?_ ?_ <;> blk_ext [iblk, V, idx t]

end Cert.DckvIdeal.Val

end
-- ==== Proof.ADckv.lean ====
module

public import proofs.«01_k».proof.Defs
public import proofs.«01_k».proof.Proof.Gen.Dckv.Frame
public import proofs.«01_k».proof.Proof.Gen.DckvReferenceIdeal.Run
public import proofs.«01_k».proof.Proof.VDckv

@[expose] public section

/- The claims about `Dckv`: both frames, and its value beside the reference's. -/

set_option maxRecDepth 16384

noncomputable section

open Idealize.ShloMosaic Idealize.ShloMosaic.TcCoe Idealize.SL.Sem

namespace Cert.ADckv

theorem frameReference : Cert.quiescent_DckvReferenceIdeal := fun m ρ _ =>
  (θ_run Cert.DckvReferenceIdeal.defs _ _).mono (fun r h => ⟨fun c => (h c).2, sem_eq_zero_of_no_sems (by decide) r.2⟩)
    (Cert.DckvReferenceIdeal.Value.run (F := Ideal) m ρ)

set_option maxHeartbeats 1600000 in
theorem value : Cert.algebraic_DckvIdeal_DckvReferenceIdeal := by
  pair_intro
  · run_from Cert.DckvIdeal.Gen.run_main m g
  · hlo_run
    rw [Cert.DckvIdeal.Val.final m c]
    funext i
    idx_vars i
    pointwise [Cert.DckvIdeal.Val.G, Cert.DckvIdeal.Val.entry]
    exact Finset.sum_congr rfl fun q _ => mul_comm _ _

end Cert.ADckv

end
-- ==== Proof.VDbrRnn.lean ====
module

public import proofs.«01_k».proof.Proof.Gen.DbrRnnIdeal.Frame
public import proofs.«01_k».proof.Proof.Base

@[expose] public section

/- What the gradient of the branch weights computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DbrRnnIdeal.Val

open Cert.DbrRnnIdeal Cert.DbrRnnIdeal.Gen

variable (m : (ℓ : Loc nD τ sig) → Buf (Elt Ideal) ℓ)

/-- One entry of the product: row `r`, column `c`. -/
def entry (x : FVec Ideal S2048x1024 .bf16) (w : FVec Ideal S2048x1024 .bf16) (r : Fin 1024) (c : Fin 1024) : EReal :=
  ∑ q : Fin 2048, x (ix2 q r) * w (ix2 q c)

/-- The array the call leaves. -/
def G (x : FVec Ideal S2048x1024 .bf16) (w : FVec Ideal S2048x1024 .bf16) : FVec Ideal S1024x1024 .bf16 :=
  fun i => entry x w (i 0) (i 1)

theorem idx : ∀ t : Fin cfg0.N, win0_0.index t = ![t.val, 0] ∧ win0_1.index t = ![t.val, 0] ∧ win0_2.index t = ![0, 0] :=
  (by decide +kernel : ∀ t : Fin grid0.N, _)

theorem first (x0 : Vec Ideal S512x1024 .bf16) (x1 : Vec Ideal S512x1024 .bf16) (j) : k0_pay2 x0 x1 j = 0 + ∑ k : Fin 512, x0 (ix2 k (j 0)) * x1 (ix2 k (j 1)) := by
  pointwise [k0_pay2, k0_pay1]

theorem next (x0 : Vec Ideal S512x1024 .bf16) (x1 : Vec Ideal S512x1024 .bf16) (acc : Vec Ideal S1024x1024 .f32) (j) :
    k0_pay3 x0 x1 acc j = acc j + ∑ k : Fin 512, x0 (ix2 k (j 0)) * x1 (ix2 k (j 1)) := by
  pointwise [k0_pay3, k0_pay1]

/-- What the point `t` adds to the accumulator. -/
def term (c : Dev nD) (t : Fin cfg0.N) (j : S1024x1024.Idx) : EReal :=
  ∑ k : Fin 512, (show EReal from iblk m c 0 t (ix2 k (j 0))) * (show EReal from iblk m c 1 t (ix2 k (j 1)))

/-- The accumulator at the last point of a run. -/
theorem acc (c : Dev nD) (t : Fin cfg0.N) (h : t.val % 4 = 4 - 1) (j) :
    (outsAt0 m c t.val t.isLt).2 j = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h j => by
      have := lt_of_lt_of_eq t.isLt N_0; rw [outsAt0_A m c t h (by omega) (by omega)]; frame_out
      exact first _ _ j)
    (fun t h j => by
      by_cases h2 : t.val % 4 = 3
      · have := lt_of_lt_of_eq t.isLt N_0; rw [outsAt0_C m c t h (by omega) (by omega)]; frame_out
        exact (congrFun (congrArg _ ((Memref.isWhole_whole _).read_unread _)) j).trans (next _ _ _ j)
      · have := lt_of_lt_of_eq t.isLt N_0; rw [outsAt0_B m c t h (by omega) (by omega)]; frame_out
        exact (congrFun (congrArg _ ((Memref.isWhole_whole _).read_unread _)) j).trans (next _ _ _ j)) t h j, zero_add]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  have h : t.val % 4 = 4 - 1 := by have := (flush0_2 t).mp hf; have := lt_of_lt_of_eq t.isLt N_0; omega
  have e : (outsAt0 m c t.val t.isLt).1 y = (outsAt0 m c t.val t.isLt).2 y := by
    rw [outsAt0_C m c t (by omega) (by omega) (by omega)]; frame_out
    pointwise [k0_pay4]
  rw [after0_2]
  refine e.trans ((acc m c t h y).trans ?_)
  unfold G entry term
  refine Fin.sum_mul_add_congr fun s k hl => ?_
  refine Ideal.mul_congr ?_ ?_ <;> blk_ext [iblk, V, idx t, idx ⟨_, Pipeline.run_point_lt_of_flush t h s⟩]

end Cert.DbrRnnIdeal.Val

end
-- ==== Proof.ADbrRnn.lean ====
module

public import proofs.«01_k».proof.Defs
public import proofs.«01_k».proof.Proof.Gen.DbrRnn.Frame
public import proofs.«01_k».proof.Proof.Gen.DbrRnnReferenceIdeal.Run
public import proofs.«01_k».proof.Proof.VDbrRnn

@[expose] public section

/- The claims about `DbrRnn`: both frames, and its value beside the reference's. -/

set_option maxRecDepth 16384

noncomputable section

open Idealize.ShloMosaic Idealize.ShloMosaic.TcCoe Idealize.SL.Sem

namespace Cert.ADbrRnn

theorem frameReference : Cert.quiescent_DbrRnnReferenceIdeal := fun m ρ _ =>
  (θ_run Cert.DbrRnnReferenceIdeal.defs _ _).mono (fun r h => ⟨fun c => (h c).2, sem_eq_zero_of_no_sems (by decide) r.2⟩)
    (Cert.DbrRnnReferenceIdeal.Value.run (F := Ideal) m ρ)

set_option maxHeartbeats 1600000 in
theorem value : Cert.algebraic_DbrRnnIdeal_DbrRnnReferenceIdeal := by
  pair_intro
  · run_from Cert.DbrRnnIdeal.Gen.run_main m g
  · hlo_run
    rw [Cert.DbrRnnIdeal.Val.final m c]
    funext i
    idx_vars i
    pointwise [Cert.DbrRnnIdeal.Val.G, Cert.DbrRnnIdeal.Val.entry]
    exact Finset.sum_congr rfl fun q _ => mul_comm _ _

end Cert.ADbrRnn

end
-- ==== Proof.VDIn.lean ====
module

public import proofs.«01_k».proof.Proof.Gen.DInIdeal.Frame
public import proofs.«01_k».proof.Proof.Base

@[expose] public section

/- What the gradient of the input projection's weights computes, over the extended reals: each entry of the array the call leaves is the entry of the product. -/

set_option maxRecDepth 16384

noncomputable section

open Idealize.ShloMosaic Idealize.ShloMosaic.TcCoe Idealize.SL.Sem
open Idealize.ShloMosaic.Pipeline (Dat)

namespace Cert.DInIdeal.Val

open Cert.DInIdeal Cert.DInIdeal.Gen

variable (m : (ℓ : Loc nD τ sig) → Buf (Elt Ideal) ℓ)

/-- One entry of the product: row `r`, column `c`. -/
def entry (x : FVec Ideal S2048x5376 .bf16) (w : FVec Ideal S2048x1024 .f32) (r : Fin 5376) (c : Fin 1024) : EReal :=
  ∑ q : Fin 2048, x (ix2 q r) * w (ix2 q c)

/-- The array the call leaves. -/
def G (x : FVec Ideal S2048x5376 .bf16) (w : FVec Ideal S2048x1024 .f32) : FVec Ideal S5376x1024 .bf16 :=
  fun i => entry x w (i 0) (i 1)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem first (x0 : Vec Ideal S512x1792 .bf16) (x1 : Vec Ideal S512x1024 .f32) (j) : k0_pay2 x0 x1 j = 0 + ∑ k : Fin 512, x0 (ix2 k (j 0)) * x1 (ix2 k (j 1)) := by
  pointwise [k0_pay2, k0_pay1]

theorem next (x0 : Vec Ideal S512x1792 .bf16) (x1 : Vec Ideal S512x1024 .f32) (acc : Vec Ideal S1792x1024 .f32) (j) :
    k0_pay3 x0 x1 acc j = acc j + ∑ k : Fin 512, x0 (ix2 k (j 0)) * x1 (ix2 k (j 1)) := by
  pointwise [k0_pay3, k0_pay1]

/-- What the point `t` adds to the accumulator. -/
def term (c : Dev nD) (t : Fin cfg0.N) (j : S1792x1024.Idx) : EReal :=
  ∑ k : Fin 512, (show EReal from iblk m c 0 t (ix2 k (j 0))) * (show EReal from iblk m c 1 t (ix2 k (j 1)))

/-- The accumulator at the last point of a run. -/
theorem acc (c : Dev nD) (t : Fin cfg0.N) (h : t.val % 4 = 4 - 1) (j) :
    (outsAt0 m c t.val t.isLt).2 j = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h j => by
      rw [outsAt0_A m c t h (by omega) (by omega)]; frame_out
      exact first _ _ j)
    (fun t h j => by
      by_cases h2 : t.val % 4 = 3
      · rw [outsAt0_C m c t h (by omega) (by omega)]; frame_out
        exact (congrFun (congrArg _ ((Memref.isWhole_whole _).read_unread _)) j).trans (next _ _ _ j)
      · rw [outsAt0_B m c t h (by omega) (by omega)]; frame_out
        exact (congrFun (congrArg _ ((Memref.isWhole_whole _).read_unread _)) j).trans (next _ _ _ j)) t h j, zero_add]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  have h : t.val % 4 = 4 - 1 := by have := (flush0_2 t).mp hf; have := lt_of_lt_of_eq t.isLt N_0; omega
  have e : (outsAt0 m c t.val t.isLt).1 y = (outsAt0 m c t.val t.isLt).2 y := by
    rw [outsAt0_C m c t (by omega) (by omega) (by omega)]; frame_out
    pointwise [k0_pay4]
  rw [after0_2]
  refine e.trans ((acc m c t h y).trans ?_)
  unfold G entry term
  refine Fin.sum_mul_add_congr fun s k hl => ?_
  refine Ideal.mul_congr ?_ ?_ <;> blk_ext [iblk, V, idx t, idx ⟨_, Pipeline.run_point_lt_of_flush t h s⟩]

end Cert.DInIdeal.Val

end
-- ==== Proof.ADIn.lean ====
module

public import proofs.«01_k».proof.Defs
public import proofs.«01_k».proof.Proof.Gen.DIn.Frame
public import proofs.«01_k».proof.Proof.Gen.DInReferenceIdeal.Run
public import proofs.«01_k».proof.Proof.VDIn

@[expose] public section

/- The claims about `DIn`: both frames, and its value beside the reference's. -/

set_option maxRecDepth 16384

noncomputable section

open Idealize.ShloMosaic Idealize.ShloMosaic.TcCoe Idealize.SL.Sem

namespace Cert.ADIn

theorem frameReference : Cert.quiescent_DInReferenceIdeal := fun m ρ _ =>
  (θ_run Cert.DInReferenceIdeal.defs _ _).mono (fun r h => ⟨fun c => (h c).2, sem_eq_zero_of_no_sems (by decide) r.2⟩)
    (Cert.DInReferenceIdeal.Value.run (F := Ideal) m ρ)

set_option maxHeartbeats 1600000 in
theorem value : Cert.algebraic_DInIdeal_DInReferenceIdeal := by
  pair_intro
  · run_from Cert.DInIdeal.Gen.run_main m g
  · hlo_run
    rw [Cert.DInIdeal.Val.final m c]
    funext i
    idx_vars i
    pointwise [Cert.DInIdeal.Val.G, Cert.DInIdeal.Val.entry]

end Cert.ADIn

end
-- ==== Proof.VMergeB.lean ====
module

public import proofs.«01_k».proof.Proof.Gen.MergeBIdeal.Frame
public import proofs.«01_k».proof.Proof.Base

@[expose] public section

/- What the backward call of the gated sum computes, over the extended reals: the four arrays it leaves, entry by entry. -/

set_option maxRecDepth 16384

noncomputable section

open Idealize.ShloMosaic Idealize.ShloMosaic.TcCoe Idealize.SL.Sem
open Idealize.ShloMosaic.Pipeline (Dat)

namespace Cert.MergeBIdeal.Val

open Cert.MergeBIdeal Cert.MergeBIdeal.Gen

variable (m : (ℓ : Loc nD τ sig) → Buf (Elt Ideal) ℓ)

/-- An entry of the gate `o` columns into the projection. -/
def gate (p : FVec Ideal S2048x5376 .f32) (o : ℕ) (ho : o ≤ 4352) (i : S2048x1024.Idx) : EReal :=
  Ideal.logistic (p (ix2 (i 0) ⟨o + (i 1).val, by have : (i 1).val < 1024 := (i 1).isLt; omega⟩))

/-- The gradient of one branch. -/
def Gp (p : FVec Ideal S2048x5376 .f32) (d : FVec Ideal S2048x1024 .f32) (o : ℕ) (ho : o ≤ 4352) : FVec Ideal S2048x1024 .bf16 :=
  fun i => d i * gate p o ho i

/-- The gradient of one gate's argument. -/
def Gg (p : FVec Ideal S2048x5376 .f32) (x d : FVec Ideal S2048x1024 .f32) (o : ℕ) (ho : o ≤ 4352) : FVec Ideal S2048x1024 .bf16 :=
  fun i => d i * x i * (gate p o ho i * (1 - gate p o ho i))

theorem idx : ∀ t : Fin cfg0.N, win0_0.index t = ![t.val / 4, 13 + t.val % 4] ∧ win0_1.index t = ![t.val / 4, 17 + t.val % 4] ∧ win0_2.index t = ![t.val / 4, t.val % 4] ∧ win0_3.index t = ![t.val / 4, t.val % 4] ∧ win0_4.index t = ![t.val / 4, t.val % 4] ∧ win0_5.index t = ![t.val / 4, t.val % 4] ∧ win0_6.index t = ![t.val / 4, t.val % 4] ∧ win0_7.index t = ![t.val / 4, t.val % 4] ∧ win0_8.index t = ![t.val / 4, t.val % 4] :=
  (by decide +kernel : ∀ t : Fin grid0.N, _)

theorem sig1 (x : Vec Ideal S1024x256 .f32) (j) : k0_pay3 x j = Ideal.logistic (x j) := by
  pointwise [k0_pay3]
  rw [zero_sub]; rfl

theorem sig2 (x : Vec Ideal S1024x256 .f32) (j) : k0_pay4 x j = Ideal.logistic (x j) := by
  pointwise [k0_pay4]
  rw [zero_sub]; rfl

theorem branch1 (x d : Vec Ideal S1024x256 .f32) (j) : k0_pay5 x d j = d j * Ideal.logistic (x j) := by
  pointwise [k0_pay5]
  exact congrArg _ (sig1 x j)

theorem branch2 (x d : Vec Ideal S1024x256 .f32) (j) : k0_pay6 x d j = d j * Ideal.logistic (x j) := by
  pointwise [k0_pay6]
  exact congrArg _ (sig2 x j)

theorem arg1 (x d z : Vec Ideal S1024x256 .f32) (j) :
    k0_pay1 (k0_pay7 x d z) j = d j * z j * (Ideal.logistic (x j) * (1 - Ideal.logistic (x j))) := by
  rw [← sig1]
  pointwise [k0_pay1, k0_pay7]

theorem arg2 (x d z : Vec Ideal S1024x256 .f32) (j) :
    k0_pay2 (k0_pay4 x) d z j = d j * z j * (Ideal.logistic (x j) * (1 - Ideal.logistic (x j))) := by
  rw [← sig2]
  pointwise [k0_pay2]

theorem final5 (c : Dev nD) : (dats m 0 c).arrAt 5 (cfgs 0).N = Gp (m ((c : Thread nD τ).loc main_arg0)) (m ((c : Thread nD τ).loc main_arg3)) 3328 (by decide) := by
  refine (dats m 0 c).arrAt_eq_of_covers 5 _ (by decide +kernel) fun t _ y => ?_
  blk_simp
  rw [after0_5]; frame_out
  refine (branch1 _ _ y).trans ?_
  unfold Gp gate
  refine Ideal.mul_congr ?_ (congrArg _ ?_) <;> blk_ext [iblk, V, idx t]

theorem final6 (c : Dev nD) : (dats m 0 c).arrAt 6 (cfgs 0).N = Gp (m ((c : Thread nD τ).loc main_arg0)) (m ((c : Thread nD τ).loc main_arg3)) 4352 (by decide) := by
  refine (dats m 0 c).arrAt_eq_of_covers 6 _ (by decide +kernel) fun t _ y => ?_
  blk_simp
  rw [after0_6]; frame_out
  refine (branch2 _ _ y).trans ?_
  unfold Gp gate
  refine Ideal.mul_congr ?_ (congrArg _ ?_) <;> blk_ext [iblk, V, idx t]

theorem final7 (c : Dev nD) : (dats m 0 c).arrAt 7 (cfgs 0).N = Gg (m ((c : Thread nD τ).loc main_arg0)) (m ((c : Thread nD τ).loc main_arg1)) (m ((c : Thread nD τ).loc main_arg3)) 3328 (by decide) := by
  refine (dats m 0 c).arrAt_eq_of_covers 7 _ (by decide +kernel) fun t _ y => ?_
  blk_simp
  rw [after0_7]; frame_out
  refine (arg1 _ _ _ y).trans ?_
  unfold Gg gate
  refine Ideal.mul_congr (Ideal.mul_congr ?_ ?_) (congrArg (fun z : EReal => Ideal.logistic z * (1 - Ideal.logistic z)) ?_) <;> blk_ext [iblk, V, idx t]

theorem final8 (c : Dev nD) : (dats m 0 c).arrAt 8 (cfgs 0).N = Gg (m ((c : Thread nD τ).loc main_arg0)) (m ((c : Thread nD τ).loc main_arg2)) (m ((c : Thread nD τ).loc main_arg3)) 4352 (by decide) := by
  refine (dats m 0 c).arrAt_eq_of_covers 8 _ (by decide +kernel) fun t _ y => ?_
  blk_simp
  rw [after0_8]; frame_out
  refine (arg2 _ _ _ y).trans ?_
  unfold Gg gate
  refine Ideal.mul_congr (Ideal.mul_congr ?_ ?_) (congrArg (fun z : EReal => Ideal.logistic z * (1 - Ideal.logistic z)) ?_) <;> blk_ext [iblk, V, idx t]

end Cert.MergeBIdeal.Val

end
-- ==== Proof.AMergeB.lean ====
module

public import proofs.«01_k».proof.Defs
public import proofs.«01_k».proof.Proof.Gen.MergeB.Frame
public import proofs.«01_k».proof.Proof.Gen.MergeBReferenceIdeal.Run
public import proofs.«01_k».proof.Proof.VMergeB

@[expose] public section

/- The claims about `MergeB`: both frames, and its value beside the reference's. -/

set_option maxRecDepth 16384

noncomputable section

open Idealize.ShloMosaic Idealize.ShloMosaic.TcCoe Idealize.SL.Sem

namespace Cert.AMergeB

theorem frameReference : Cert.quiescent_MergeBReferenceIdeal := fun m ρ _ =>
  (θ_run Cert.MergeBReferenceIdeal.defs _ _).mono (fun r h => ⟨fun c => (h c).2.2.2.2, sem_eq_zero_of_no_sems (by decide) r.2⟩)
    (Cert.MergeBReferenceIdeal.Value.run (F := Ideal) m ρ)

set_option maxHeartbeats 1600000 in
theorem value : Cert.algebraic_MergeBIdeal_MergeBReferenceIdeal := by
  pair_intro
  · run_from Cert.MergeBIdeal.Gen.run_main m g
  · hlo_run
    · rw [Cert.MergeBIdeal.Val.final5 m c]
      funext i
      idx_vars i
      pointwise [Cert.MergeBIdeal.Val.Gp, Cert.MergeBIdeal.Val.gate]
      exact mul_comm _ _
    · rw [Cert.MergeBIdeal.Val.final6 m c]
      funext i
      idx_vars i
      pointwise [Cert.MergeBIdeal.Val.Gp, Cert.MergeBIdeal.Val.gate]
      exact mul_comm _ _
    · rw [Cert.MergeBIdeal.Val.final7 m c]
      funext i
      idx_vars i
      pointwise [Cert.MergeBIdeal.Val.Gg, Cert.MergeBIdeal.Val.gate]
      rfl
    · rw [Cert.MergeBIdeal.Val.final8 m c]
      funext i
      idx_vars i
      pointwise [Cert.MergeBIdeal.Val.Gg, Cert.MergeBIdeal.Val.gate]
      rfl

end Cert.AMergeB

end
-- ==== Proof.VMergeF.lean ====
module

public import proofs.«01_k».proof.Proof.Gen.MergeFIdeal.Frame
public import proofs.«01_k».proof.Proof.Base

@[expose] public section

/- What the gated sum computes, over the extended reals, entry by entry. -/

set_option maxRecDepth 16384

noncomputable section

open Idealize.ShloMosaic Idealize.ShloMosaic.TcCoe Idealize.SL.Sem
open Idealize.ShloMosaic.Pipeline (Dat)

namespace Cert.MergeFIdeal.Val

open Cert.MergeFIdeal Cert.MergeFIdeal.Gen

variable (m : (ℓ : Loc nD τ sig) → Buf (Elt Ideal) ℓ)

/-- An entry of the gate `o` columns into the projection. -/
def gate (p : FVec Ideal S2048x5376 .f32) (o : ℕ) (ho : o ≤ 4352) (i : S2048x1024.Idx) : EReal :=
  Ideal.logistic (p (ix2 (i 0) ⟨o + (i 1).val, by have : (i 1).val < 1024 := (i 1).isLt; omega⟩))

/-- The array the call leaves. -/
def G (p : FVec Ideal S2048x5376 .f32) (x z : FVec Ideal S2048x1024 .f32) : FVec Ideal S2048x1024 .bf16 :=
  fun i => gate p 3328 (by decide) i * x i + gate p 4352 (by decide) i * z i

theorem idx : ∀ t : Fin cfg0.N, win0_0.index t = ![t.val / 4, 13 + t.val % 4] ∧ win0_1.index t = ![t.val / 4, 17 + t.val % 4] ∧ win0_2.index t = ![t.val / 4, t.val % 4] ∧ win0_3.index t = ![t.val / 4, t.val % 4] ∧ win0_4.index t = ![t.val / 4, t.val % 4] :=
  (by decide +kernel : ∀ t : Fin grid0.N, _)

theorem part (p x q z : Vec Ideal S1024x256 .f32) (j) : k0_pay1 p x q z j = Ideal.logistic (p j) * x j + Ideal.logistic (q j) * z j := by
  pointwise [k0_pay1]
  rw [zero_sub, zero_sub]; rfl

theorem final (c : Dev nD) : (dats m 0 c).arrAt 4 (cfgs 0).N = G (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine (part _ _ _ _ y).trans ?_
  unfold G gate
  refine Ideal.add_congr (Ideal.mul_congr (congrArg _ ?_) ?_) (Ideal.mul_congr (congrArg _ ?_) ?_) <;> blk_ext [iblk, V, idx t]

end Cert.MergeFIdeal.Val

end
-- ==== Proof.AMergeF.lean ====
module

public import proofs.«01_k».proof.Defs
public import proofs.«01_k».proof.Proof.Gen.MergeF.Frame
public import proofs.«01_k».proof.Proof.Gen.MergeFReferenceIdeal.Run
public import proofs.«01_k».proof.Proof.VMergeF

@[expose] public section

/- The claims about `MergeF`: both frames, and its value beside the reference's. -/

set_option maxRecDepth 16384

noncomputable section

open Idealize.ShloMosaic Idealize.ShloMosaic.TcCoe Idealize.SL.Sem

namespace Cert.AMergeF

theorem frameReference : Cert.quiescent_MergeFReferenceIdeal := fun m ρ _ =>
  (θ_run Cert.MergeFReferenceIdeal.defs _ _).mono (fun r h => ⟨fun c => (h c).2, sem_eq_zero_of_no_sems (by decide) r.2⟩)
    (Cert.MergeFReferenceIdeal.Value.run (F := Ideal) m ρ)

set_option maxHeartbeats 1600000 in
theorem value : Cert.algebraic_MergeFIdeal_MergeFReferenceIdeal := by
  pair_intro
  · run_from Cert.MergeFIdeal.Gen.run_main m g
  · hlo_run
    rw [Cert.MergeFIdeal.Val.final m c]
    funext i
    idx_vars i
    pointwise [Cert.MergeFIdeal.Val.G, Cert.MergeFIdeal.Val.gate]
    rfl

end Cert.AMergeF

end
-- ==== Proof.VSwigluB.lean ====
module

public import proofs.«01_k».proof.Proof.Gen.SwigluBIdeal.Frame
public import proofs.«01_k».proof.Proof.Base

@[expose] public section

/- What the backward call of the gated unit computes, over the extended reals, entry by entry. -/

set_option maxRecDepth 16384

noncomputable section

open Idealize.ShloMosaic Idealize.ShloMosaic.TcCoe Idealize.SL.Sem
open Idealize.ShloMosaic.Pipeline (Dat)

namespace Cert.SwigluBIdeal.Val

open Cert.SwigluBIdeal Cert.SwigluBIdeal.Gen

variable (m : (ℓ : Loc nD τ sig) → Buf (Elt Ideal) ℓ)

/-- The array the call leaves: the gradients of the gate and of the other half. -/
def G (g : FVec Ideal S2x2048x2816 .f32) (d : FVec Ideal S2048x2816 .f32) : FVec Ideal S2x2048x2816 .bf16 := fun i =>
  if (i 0).val < 1 then
    d (ix2 (i 1) (i 2)) * g (ix3 1 (i 1) (i 2)) * (Ideal.logistic (g (ix3 0 (i 1) (i 2))) * (1 + g (ix3 0 (i 1) (i 2)) * (1 - Ideal.logistic (g (ix3 0 (i 1) (i 2))))))
  else d (ix2 (i 1) (i 2)) * (g (ix3 0 (i 1) (i 2)) * Ideal.logistic (g (ix3 0 (i 1) (i 2))))

theorem idx : ∀ t : Fin cfg0.N, win0_0.index t = ![0, t.val / 2, t.val % 2] ∧ win0_1.index t = ![t.val / 2, t.val % 2] ∧ win0_2.index t = ![0, t.val / 2, t.val % 2] :=
  (by decide +kernel : ∀ t : Fin grid0.N, _)

theorem sigAt (x : Vec Ideal S1x256x1408 .f32) (j) : k0_pay2 x j = Ideal.logistic (x (ix3 0 (j 0) (j 1))) := by
  pointwise [k0_pay2, k0_pay1]
  rw [zero_sub]; rfl

theorem gateGrad (x z : Vec Ideal S1x256x1408 .f32) (d : Vec Ideal S256x1408 .f32) (r : Fin 256) (c : Fin 1408) :
    k0_pay3 x z d (ix3 0 r c) = d (ix2 r c) * z (ix3 0 r c) * (Ideal.logistic (x (ix3 0 r c)) * (1 + x (ix3 0 r c) * (1 - Ideal.logistic (x (ix3 0 r c))))) := by
  pointwise [k0_pay3, sigAt, k0_pay1]

theorem upGrad (x : Vec Ideal S1x256x1408 .f32) (d : Vec Ideal S256x1408 .f32) (r : Fin 256) (c : Fin 1408) :
    k0_pay4 x d (ix3 0 r c) = d (ix2 r c) * (x (ix3 0 r c) * Ideal.logistic (x (ix3 0 r c))) := by
  pointwise [k0_pay4, sigAt, k0_pay1]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  canon_tiles x h
  · idx_vars x
    obtain rfl : x0 = 0 := Fin.eq_zero x0
    refine (upGrad _ _ _ _).trans ?_
    unfold G
    rw [if_neg (by blk_simp [idx t] <;> omega)]
    pointwise
    refine Ideal.mul_congr ?_ (congrArg (fun z : EReal => z * Ideal.logistic z) ?_) <;> blk_ext [iblk, V, idx t]
  · idx_vars x
    obtain rfl : x0 = 0 := Fin.eq_zero x0
    refine (gateGrad _ _ _ _ _).trans ?_
    unfold G
    rw [if_pos (by blk_simp [idx t] <;> omega)]
    pointwise
    refine Ideal.mul_congr (Ideal.mul_congr ?_ ?_) (congrArg (fun z : EReal => Ideal.logistic z * (1 + z * (1 - Ideal.logistic z))) ?_) <;> blk_ext [iblk, V, idx t]

end Cert.SwigluBIdeal.Val

end
-- ==== Proof.Reals.lean ====
module

public import Idealize.ShloMosaic.Lib.Claim
public import Idealize.ShloMosaic.Lib.Pointwise
public import Idealize.ShloMosaic.Lib.ReduceAll

@[expose] public section

/- Values that are real numbers: how a precondition gives them, and the identities that hold of them. -/

noncomputable section

open Idealize.ShloMosaic

namespace Cert.Reals

/-- An entry whose magnitude compares below infinity is a real number. -/
theorem real_of_cmp (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

/-- What `jnp.all(jnp.abs(x) < jnp.inf)` says of every entry. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩) (hu : 0 < (⟨0, ![]⟩ : Shape).numel)
    (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : ∃ r : ℝ, x i = r :=
  haveI : Subsingleton (⟨0, ![]⟩ : Shape).Idx := ⟨fun a b => funext fun k => k.elim0⟩
  real_of_cmp _ (Host.reduce_andi_all _ _ hr hu j e i)

theorem logistic_coe (r : ℝ) : Ideal.logistic (r : EReal) = ((1 / (1 + Real.exp (-r)) : ℝ) : EReal) := by
  unfold Ideal.logistic
  rw [← EReal.coe_neg, Ideal.exp_coe, ← EReal.coe_one, ← EReal.coe_add, Ideal.div_coe (by positivity), ← EReal.coe_mul, one_mul]

/-- The derivative of `x * logistic x`, times a cotangent, in the two orders of multiplying out. -/
theorem silu_grad (g d u : EReal) (hg : ∃ r : ℝ, g = r) (hd : ∃ r : ℝ, d = r) (hu : ∃ r : ℝ, u = r) :
    d * u * Ideal.logistic g + g * (d * u) * (Ideal.logistic g * (1 - Ideal.logistic g))
      = d * u * (Ideal.logistic g * (1 + g * (1 - Ideal.logistic g))) := by
  obtain ⟨g, rfl⟩ := hg
  obtain ⟨d, rfl⟩ := hd
  obtain ⟨u, rfl⟩ := hu
  rw [logistic_coe]
  generalize 1 / (1 + Real.exp (-g)) = s
  norm_cast
  ring

end Cert.Reals

end
-- ==== Proof.ASwigluB.lean ====
module

public import proofs.«01_k».proof.Defs
public import proofs.«01_k».proof.Proof.Gen.SwigluB.Frame
public import proofs.«01_k».proof.Proof.Gen.SwigluBReferenceIdeal.Run
public import proofs.«01_k».proof.Proof.VSwigluB
public import proofs.«01_k».proof.Proof.Reals
public import proofs.«01_k».proof.Proof.Gen.Pre_swiglu_bwd_finite

@[expose] public section

/- The claims about `SwigluB`: both frames, and its value beside the reference's. -/

set_option maxRecDepth 16384

noncomputable section

open Idealize.ShloMosaic Idealize.ShloMosaic.TcCoe Idealize.SL.Sem

namespace Cert.ASwigluB

theorem frameReference : Cert.quiescent_SwigluBReferenceIdeal := fun m ρ _ =>
  (θ_run Cert.SwigluBReferenceIdeal.defs _ _).mono (fun r h => ⟨fun c => (h c).2, sem_eq_zero_of_no_sems (by decide) r.2⟩)
    (Cert.SwigluBReferenceIdeal.Value.run (F := Ideal) m ρ)

set_option maxHeartbeats 1600000 in
theorem value : Cert.algebraic_SwigluBIdeal_SwigluBReferenceIdeal_pre_swiglu_bwd_finite (hPre_swiglu_bwd_finite := Cert.Pre_swiglu_bwd_finite.Gen.facts) := by
  pair_intro
  · run_from Cert.SwigluBIdeal.Gen.run_main m g
  · run_from Cert.SwigluBReferenceIdeal.Value.run m' g'
    have hp := hpre c
    rw [Cert.SwigluBIdeal.Val.final m c]
    generalize m ((c.tc : Thread Cert.SwigluBIdeal.nD Cert.SwigluBIdeal.τ).loc Cert.SwigluBIdeal.main_arg0) = x at hp ⊢
    generalize m ((c.tc : Thread Cert.SwigluBIdeal.nD Cert.SwigluBIdeal.τ).loc Cert.SwigluBIdeal.main_arg1) = d at hp ⊢
    have hq := congrFun hp (fun k => k.elim0)
    dsimp only [Cert.Pre_swiglu_bwd_finite.fn, andi] at hq
    rw [IntOp.andi_eq_one] at hq
    have hx := Cert.Reals.real_of_all x _ _ _ _ hq.1
    have hd := Cert.Reals.real_of_all d _ _ _ _ hq.2
    funext i
    idx_vars i
    pointwise [Cert.SwigluBIdeal.Val.G]
    by_cases h : (i0 : ℕ) < 1
    · rw [dif_pos h, if_pos h]
      exact Cert.Reals.silu_grad _ _ _ (hx _) (hd _) (hx _)
    · rw [dif_neg h, if_neg h]
      exact mul_comm _ _

end Cert.ASwigluB

end
-- ==== Proof.VSwigluF.lean ====
module

public import proofs.«01_k».proof.Proof.Gen.SwigluFIdeal.Frame
public import proofs.«01_k».proof.Proof.Base

@[expose] public section

/- What the gated unit computes, over the extended reals, entry by entry. -/

set_option maxRecDepth 16384

noncomputable section

open Idealize.ShloMosaic Idealize.ShloMosaic.TcCoe Idealize.SL.Sem
open Idealize.ShloMosaic.Pipeline (Dat)

namespace Cert.SwigluFIdeal.Val

open Cert.SwigluFIdeal Cert.SwigluFIdeal.Gen

variable (m : (ℓ : Loc nD τ sig) → Buf (Elt Ideal) ℓ)

/-- The array the call leaves. -/
def G (g : FVec Ideal S2x2048x2816 .f32) : FVec Ideal S2048x2816 .bf16 :=
  fun i => g (ix3 0 (i 0) (i 1)) * Ideal.logistic (g (ix3 0 (i 0) (i 1))) * g (ix3 1 (i 0) (i 1))

theorem idx : ∀ t : Fin cfg0.N, win0_0.index t = ![0, t.val / 2, t.val % 2] ∧ win0_1.index t = ![t.val / 2, t.val % 2] :=
  (by decide +kernel : ∀ t : Fin grid0.N, _)

theorem part (x z : Vec Ideal S1x256x1408 .f32) (j) : k0_pay1 x z j = x (ix3 0 (j 0) (j 1)) * Ideal.logistic (x (ix3 0 (j 0) (j 1))) * z (ix3 0 (j 0) (j 1)) := by
  pointwise [k0_pay1]
  rw [zero_sub]; rfl

theorem final (c : Dev nD) : (dats m 0 c).arrAt 1 (cfgs 0).N = G (m ((c : Thread nD τ).loc main_arg0)) := by
  refine (dats m 0 c).arrAt_eq_of_covers 1 _ (by decide +kernel) fun t _ y => ?_
  blk_simp
  rw [after0_1]; frame_out
  refine (part _ _ y).trans ?_
  unfold G
  pointwise
  refine Ideal.mul_congr (congrArg (fun z : EReal => z * Ideal.logistic z) ?_) ?_ <;> blk_ext [iblk, V, idx t]

end Cert.SwigluFIdeal.Val

end
-- ==== Proof.ASwigluF.lean ====
module

public import proofs.«01_k».proof.Defs
public import proofs.«01_k».proof.Proof.Gen.SwigluF.Frame
public import proofs.«01_k».proof.Proof.Gen.SwigluFReferenceIdeal.Run
public import proofs.«01_k».proof.Proof.VSwigluF

@[expose] public section

/- The claims about `SwigluF`: both frames, and its value beside the reference's. -/

set_option maxRecDepth 16384

noncomputable section

open Idealize.ShloMosaic Idealize.ShloMosaic.TcCoe Idealize.SL.Sem

namespace Cert.ASwigluF

theorem frameReference : Cert.quiescent_SwigluFReferenceIdeal := fun m ρ _ =>
  (θ_run Cert.SwigluFReferenceIdeal.defs _ _).mono (fun r h => ⟨fun c => (h c).2, sem_eq_zero_of_no_sems (by decide) r.2⟩)
    (Cert.SwigluFReferenceIdeal.Value.run (F := Ideal) m ρ)

set_option maxHeartbeats 1600000 in
theorem value : Cert.algebraic_SwigluFIdeal_SwigluFReferenceIdeal := by
  pair_intro
  · run_from Cert.SwigluFIdeal.Gen.run_main m g
  · run_from Cert.SwigluFReferenceIdeal.Value.run m' g'
    rw [Cert.SwigluFIdeal.Val.final m c]
    funext i
    idx_vars i
    pointwise [Cert.SwigluFIdeal.Val.G]
    rfl

end Cert.ASwigluF

end
-- ==== Proof.Adam.lean ====
module

public import proofs.«01_k».proof.Proof.Base

@[expose] public section

/- The AdamW update of one entry, over the extended reals: what both the kernel and the reference spell out array by array. -/

noncomputable section

open Idealize.ShloMosaic Idealize.ShloMosaic.TcCoe

namespace Cert.Adam

/-- The first moment after the step. -/
def mom (g m : EReal) : EReal := Ideal.ofBits .f32 0x3F666666#32 * m + Ideal.ofBits .f32 0x3DCCCCCD#32 * g

/-- The second moment after the step. -/
def sec (g v : EReal) : EReal := Ideal.ofBits .f32 0x3F7FBE77#32 * v + Ideal.ofBits .f32 0x3A83126F#32 * (g * g)

/-- What the step adds to the weight. -/
def delta (w g m v : EReal) : EReal :=
  Ideal.ofBits .f32 0xBA83126F#32 *
    (Ideal.div (Ideal.div (mom g m) (Ideal.ofBits .f32 0x3F26BD02#32))
      (Ideal.sqrt (Ideal.div (sec g v) (Ideal.ofBits .f32 0x3C231ACC#32)) + Ideal.ofBits .f32 0x322BCC77#32)
      + Ideal.ofBits .f32 0x3C23D70A#32 * w)

end Cert.Adam

end
-- ==== Proof.VAdamVec.lean ====
module

public import proofs.«01_k».proof.Proof.Gen.AdamVecIdeal.Frame
public import proofs.«01_k».proof.Proof.Base
public import proofs.«01_k».proof.Proof.Adam

@[expose] public section

/- What the AdamW update of a vector per layer computes, over the extended reals. -/

set_option maxRecDepth 16384

noncomputable section

open Idealize.ShloMosaic Idealize.ShloMosaic.TcCoe Idealize.SL.Sem
open Idealize.ShloMosaic.Pipeline (Dat)

namespace Cert.AdamVecIdeal.Val

open Cert.AdamVecIdeal Cert.AdamVecIdeal.Gen

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] :=
  (by decide +kernel : ∀ t : Fin grid0.N, _)

theorem pay_m (g x : Vec Ideal S1x4x1024 .f32) (r : Fin 4) (k : Fin 1024) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x4x1024 .f32) (r : Fin 4) (k : Fin 1024) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x4x1024 .f32) (r : Fin 4) (k : Fin 1024) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x4x1024 .f32) (r : Fin 4) (k : Fin 1024) : k0_pay4 (k0_pay5 g) (ix3 0 r k) = g (ix3 0 r k) := by
  pointwise [k0_pay4, k0_pay5]

theorem entry0 (c : Dev nD) : V m c main_v0 = shapeCast S1x4x1024 (m ((c : Thread nD τ).loc main_arg0)) shapeCasts_S4x1024_S1x4x1024 := by
  unfold V V0
  rw [show List.flatten [hostOps0] = (hostOps0 : List (HloOp τ sig (Elt Ideal))) from rfl]
  after_results
  try rfl

theorem entry1 (c : Dev nD) : V m c main_v1 = shapeCast S1x4x1024 (m ((c : Thread nD τ).loc main_arg1)) shapeCasts_S4x1024_S1x4x1024 := by
  unfold V V0
  rw [show List.flatten [hostOps0] = (hostOps0 : List (HloOp τ sig (Elt Ideal))) from rfl]
  after_results
  try rfl

theorem entry2 (c : Dev nD) : V m c main_v2 = shapeCast S1x4x1024 (m ((c : Thread nD τ).loc main_arg2)) shapeCasts_S4x1024_S1x4x1024 := by
  unfold V V0
  rw [show List.flatten [hostOps0] = (hostOps0 : List (HloOp τ sig (Elt Ideal))) from rfl]
  after_results
  try rfl

theorem entry3 (c : Dev nD) : V m c main_v3 = shapeCast S1x4x1024 (m ((c : Thread nD τ).loc main_arg3)) shapeCasts_S4x1024_S1x4x1024 := by
  unfold V V0
  rw [show List.flatten [hostOps0] = (hostOps0 : List (HloOp τ sig (Elt Ideal))) from rfl]
  after_results
  try rfl

theorem cast_at (x : FVec Ideal S4x1024 .f32) (i : S1x4x1024.Idx) : shapeCast S1x4x1024 x shapeCasts_S4x1024_S1x4x1024 i = x (ix2 (i 1) (i 2)) := by
  idx_vars i
  obtain rfl : i0 = 0 := Fin.eq_zero i0
  pointwise

theorem final4 (c : Dev nD) : (dats m 0 c).arrAt 4 (cfgs 0).N = fun (i : S1x4x1024.Idx) => Cert.Adam.delta (m ((c : Thread nD τ).loc main_arg0) (ix2 (i 1) (i 2))) (m ((c : Thread nD τ).loc main_arg1) (ix2 (i 1) (i 2))) (m ((c : Thread nD τ).loc main_arg2) (ix2 (i 1) (i 2))) (m ((c : Thread nD τ).loc main_arg3) (ix2 (i 1) (i 2))) := by
  refine (dats m 0 c).arrAt_eq_of_covers 4 _ (by decide +kernel) fun t _ y => ?_
  blk_simp
  rw [after0_4]; frame_out
  idx_vars y
  obtain rfl : y0 = 0 := Fin.eq_zero y0
  refine (pay_d _ _ _ _  _ _).trans ?_
  congr 1 <;> (blk_simp [iblk, idx t]; first | rw [entry0] | rw [entry1] | rw [entry2] | rw [entry3]) <;> (refine (cast_at _ _).trans ?_; blk_ext [idx t])

theorem final5 (c : Dev nD) : (dats m 0 c).arrAt 5 (cfgs 0).N = fun (i : S1x4x1024.Idx) => Cert.Adam.mom (m ((c : Thread nD τ).loc main_arg1) (ix2 (i 1) (i 2))) (m ((c : Thread nD τ).loc main_arg2) (ix2 (i 1) (i 2))) := by
  refine (dats m 0 c).arrAt_eq_of_covers 5 _ (by decide +kernel) fun t _ y => ?_
  blk_simp
  rw [after0_5]; frame_out
  idx_vars y
  obtain rfl : y0 = 0 := Fin.eq_zero y0
  refine (pay_m _ _  _ _).trans ?_
  congr 1 <;> (blk_simp [iblk, idx t]; first | rw [entry0] | rw [entry1] | rw [entry2] | rw [entry3]) <;> (refine (cast_at _ _).trans ?_; blk_ext [idx t])

theorem final6 (c : Dev nD) : (dats m 0 c).arrAt 6 (cfgs 0).N = fun (i : S1x4x1024.Idx) => Cert.Adam.sec (m ((c : Thread nD τ).loc main_arg1) (ix2 (i 1) (i 2))) (m ((c : Thread nD τ).loc main_arg3) (ix2 (i 1) (i 2))) := by
  refine (dats m 0 c).arrAt_eq_of_covers 6 _ (by decide +kernel) fun t _ y => ?_
  blk_simp
  rw [after0_6]; frame_out
  idx_vars y
  obtain rfl : y0 = 0 := Fin.eq_zero y0
  refine (pay_v _ _  _ _).trans ?_
  congr 1 <;> (blk_simp [iblk, idx t]; first | rw [entry0] | rw [entry1] | rw [entry2] | rw [entry3]) <;> (refine (cast_at _ _).trans ?_; blk_ext [idx t])

theorem final7 (c : Dev nD) : (dats m 0 c).arrAt 7 (cfgs 0).N = fun (i : S1x4x1024.Idx) => m ((c : Thread nD τ).loc main_arg1) (ix2 (i 1) (i 2)) := by
  refine (dats m 0 c).arrAt_eq_of_covers 7 _ (by decide +kernel) fun t _ y => ?_
  blk_simp
  rw [after0_7]; frame_out
  idx_vars y
  obtain rfl : y0 = 0 := Fin.eq_zero y0
  refine (pay_g _  _ _).trans ?_
  congr 1 <;> (blk_simp [iblk, idx t]; first | rw [entry0] | rw [entry1] | rw [entry2] | rw [entry3]) <;> (refine (cast_at _ _).trans ?_; blk_ext [idx t])

theorem uncast_at (x : FVec Ideal S1x4x1024 .f32) (i : S4x1024.Idx) : shapeCast S4x1024 x shapeCasts_S1x4x1024_S4x1024 i = x (ix3 0 (i 0) (i 1)) := by
  idx_vars i
  pointwise

theorem arr_inj : Function.Injective (Pipeline.arrRef spec0) := by decide

theorem tail5 (c : Dev nD) : Pipeline.afterTail₀ cfgs (dats m) 0 (V0 m) [hostOps1] c main_v5 = fun (i : S4x1024.Idx) => Cert.Adam.delta (m ((c : Thread nD τ).loc main_arg0) (ix2 (i 0) (i 1))) (m ((c : Thread nD τ).loc main_arg1) (ix2 (i 0) (i 1))) (m ((c : Thread nD τ).loc main_arg2) (ix2 (i 0) (i 1))) (m ((c : Thread nD τ).loc main_arg3) (ix2 (i 0) (i 1))) := by
  unfold Pipeline.afterTail₀
  rw [show List.flatten [hostOps1] = (hostOps1 : List (HloOp τ sig (Elt Ideal))) from rfl]
  after_results
  refine (congrArg (fun z : FVec Ideal S1x4x1024 .f32 => shapeCast S4x1024 z shapeCasts_S1x4x1024_S4x1024)
    ((Pipeline.withArrays_arr spec0 arr_inj c _ _ 4).trans (final4 m c))).trans ?_
  funext i
  exact uncast_at _ i

theorem tail6 (c : Dev nD) : Pipeline.afterTail₀ cfgs (dats m) 0 (V0 m) [hostOps1] c main_v6 = fun (i : S4x1024.Idx) => Cert.Adam.mom (m ((c : Thread nD τ).loc main_arg1) (ix2 (i 0) (i 1))) (m ((c : Thread nD τ).loc main_arg2) (ix2 (i 0) (i 1))) := by
  unfold Pipeline.afterTail₀
  rw [show List.flatten [hostOps1] = (hostOps1 : List (HloOp τ sig (Elt Ideal))) from rfl]
  after_results
  refine (congrArg (fun z : FVec Ideal S1x4x1024 .f32 => shapeCast S4x1024 z shapeCasts_S1x4x1024_S4x1024)
    ((Pipeline.withArrays_arr spec0 arr_inj c _ _ 5).trans (final5 m c))).trans ?_
  funext i
  exact uncast_at _ i

theorem tail7 (c : Dev nD) : Pipeline.afterTail₀ cfgs (dats m) 0 (V0 m) [hostOps1] c main_v7 = fun (i : S4x1024.Idx) => Cert.Adam.sec (m ((c : Thread nD τ).loc main_arg1) (ix2 (i 0) (i 1))) (m ((c : Thread nD τ).loc main_arg3) (ix2 (i 0) (i 1))) := by
  unfold Pipeline.afterTail₀
  rw [show List.flatten [hostOps1] = (hostOps1 : List (HloOp τ sig (Elt Ideal))) from rfl]
  after_results
  refine (congrArg (fun z : FVec Ideal S1x4x1024 .f32 => shapeCast S4x1024 z shapeCasts_S1x4x1024_S4x1024)
    ((Pipeline.withArrays_arr spec0 arr_inj c _ _ 6).trans (final6 m c))).trans ?_
  funext i
  exact uncast_at _ i

theorem tail8 (c : Dev nD) : Pipeline.afterTail₀ cfgs (dats m) 0 (V0 m) [hostOps1] c main_v8 = fun (i : S4x1024.Idx) => m ((c : Thread nD τ).loc main_arg1) (ix2 (i 0) (i 1)) := by
  unfold Pipeline.afterTail₀
  rw [show List.flatten [hostOps1] = (hostOps1 : List (HloOp τ sig (Elt Ideal))) from rfl]
  after_results
  refine (congrArg (fun z : FVec Ideal S1x4x1024 .f32 => shapeCast S4x1024 z shapeCasts_S1x4x1024_S4x1024)
    ((Pipeline.withArrays_arr spec0 arr_inj c _ _ 7).trans (final7 m c))).trans ?_
  funext i
  exact uncast_at _ i

end Cert.AdamVecIdeal.Val

end
-- ==== Proof.AAdamVec.lean ====
module

public import proofs.«01_k».proof.Defs
public import proofs.«01_k».proof.Proof.Gen.AdamVec.Frame
public import proofs.«01_k».proof.Proof.Gen.AdamVecReferenceIdeal.Run
public import proofs.«01_k».proof.Proof.VAdamVec

@[expose] public section

/- The claims about `AdamVec`: both frames, and its value beside the reference's. -/

set_option maxRecDepth 16384

noncomputable section

open Idealize.ShloMosaic Idealize.ShloMosaic.TcCoe Idealize.SL.Sem

namespace Cert.AAdamVec

theorem frameReference : Cert.quiescent_AdamVecReferenceIdeal := fun m ρ _ =>
  (θ_run Cert.AdamVecReferenceIdeal.defs _ _).mono (fun r h => ⟨fun c => (h c).2.2.2.2, sem_eq_zero_of_no_sems (by decide) r.2⟩)
    (Cert.AdamVecReferenceIdeal.Value.run (F := Ideal) m ρ)

set_option maxHeartbeats 1600000 in
theorem value : Cert.algebraic_AdamVecIdeal_AdamVecReferenceIdeal := by
  pair_intro
  · run_from Cert.AdamVecIdeal.Gen.run_main m g
    all_goals first
      | exact Cert.AdamVecIdeal.Gen.W_main_arg0 m _ c
      | exact Cert.AdamVecIdeal.Gen.W_main_arg1 m _ c
      | exact Cert.AdamVecIdeal.Gen.W_main_arg2 m _ c
      | exact Cert.AdamVecIdeal.Gen.W_main_arg3 m _ c
  · hlo_run
    · rw [Cert.AdamVecIdeal.Val.tail5 m c]
      funext i
      idx_vars i
      pointwise [Cert.Adam.delta, Cert.Adam.mom, Cert.Adam.sec]
    · rw [Cert.AdamVecIdeal.Val.tail6 m c]
      funext i
      idx_vars i
      pointwise [Cert.Adam.mom]
    · rw [Cert.AdamVecIdeal.Val.tail7 m c]
      funext i
      idx_vars i
      pointwise [Cert.Adam.sec]
    · rw [Cert.AdamVecIdeal.Val.tail8 m c]
      funext i
      idx_vars i

end Cert.AAdamVec

end
-- ==== Proof.VAdamSinks.lean ====
module

public import proofs.«01_k».proof.Proof.Gen.AdamSinksIdeal.Frame
public import proofs.«01_k».proof.Proof.Base
public import proofs.«01_k».proof.Proof.Adam

@[expose] public section

/- What the AdamW update of the sinks computes, over the extended reals. -/

set_option maxRecDepth 16384

noncomputable section

open Idealize.ShloMosaic Idealize.ShloMosaic.TcCoe Idealize.SL.Sem
open Idealize.ShloMosaic.Pipeline (Dat)

namespace Cert.AdamSinksIdeal.Val

open Cert.AdamSinksIdeal Cert.AdamSinksIdeal.Gen

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] :=
  (by decide +kernel : ∀ t : Fin grid0.N, _)

theorem pay_m (g x : Vec Ideal S1x4x16 .f32) (r : Fin 4) (k : Fin 16) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x4x16 .f32) (r : Fin 4) (k : Fin 16) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x4x16 .f32) (r : Fin 4) (k : Fin 16) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x4x16 .f32) (r : Fin 4) (k : Fin 16) : k0_pay4 (k0_pay5 g) (ix3 0 r k) = g (ix3 0 r k) := by
  pointwise [k0_pay4, k0_pay5]

theorem entry0 (c : Dev nD) : V m c main_v0 = shapeCast S1x4x16 (m ((c : Thread nD τ).loc main_arg0)) shapeCasts_S4x16_S1x4x16 := by
  unfold V V0
  rw [show List.flatten [hostOps0] = (hostOps0 : List (HloOp τ sig (Elt Ideal))) from rfl]
  after_results
  try rfl

theorem entry1 (c : Dev nD) : V m c main_v1 = shapeCast S1x4x16 (m ((c : Thread nD τ).loc main_arg1)) shapeCasts_S4x16_S1x4x16 := by
  unfold V V0
  rw [show List.flatten [hostOps0] = (hostOps0 : List (HloOp τ sig (Elt Ideal))) from rfl]
  after_results
  try rfl

theorem entry2 (c : Dev nD) : V m c main_v2 = shapeCast S1x4x16 (m ((c : Thread nD τ).loc main_arg2)) shapeCasts_S4x16_S1x4x16 := by
  unfold V V0
  rw [show List.flatten [hostOps0] = (hostOps0 : List (HloOp τ sig (Elt Ideal))) from rfl]
  after_results
  try rfl

theorem entry3 (c : Dev nD) : V m c main_v3 = shapeCast S1x4x16 (m ((c : Thread nD τ).loc main_arg3)) shapeCasts_S4x16_S1x4x16 := by
  unfold V V0
  rw [show List.flatten [hostOps0] = (hostOps0 : List (HloOp τ sig (Elt Ideal))) from rfl]
  after_results
  try rfl

theorem cast_at (x : FVec Ideal S4x16 .f32) (i : S1x4x16.Idx) : shapeCast S1x4x16 x shapeCasts_S4x16_S1x4x16 i = x (ix2 (i 1) (i 2)) := by
  idx_vars i
  obtain rfl : i0 = 0 := Fin.eq_zero i0
  pointwise

theorem final4 (c : Dev nD) : (dats m 0 c).arrAt 4 (cfgs 0).N = fun (i : S1x4x16.Idx) => Cert.Adam.delta (m ((c : Thread nD τ).loc main_arg0) (ix2 (i 1) (i 2))) (m ((c : Thread nD τ).loc main_arg1) (ix2 (i 1) (i 2))) (m ((c : Thread nD τ).loc main_arg2) (ix2 (i 1) (i 2))) (m ((c : Thread nD τ).loc main_arg3) (ix2 (i 1) (i 2))) := by
  refine (dats m 0 c).arrAt_eq_of_covers 4 _ (by decide +kernel) fun t _ y => ?_
  blk_simp
  rw [after0_4]; frame_out
  idx_vars y
  obtain rfl : y0 = 0 := Fin.eq_zero y0
  refine (pay_d _ _ _ _  _ _).trans ?_
  congr 1 <;> (blk_simp [iblk, idx t]; first | rw [entry0] | rw [entry1] | rw [entry2] | rw [entry3]) <;> (refine (cast_at _ _).trans ?_; blk_ext [idx t])

theorem final5 (c : Dev nD) : (dats m 0 c).arrAt 5 (cfgs 0).N = fun (i : S1x4x16.Idx) => Cert.Adam.mom (m ((c : Thread nD τ).loc main_arg1) (ix2 (i 1) (i 2))) (m ((c : Thread nD τ).loc main_arg2) (ix2 (i 1) (i 2))) := by
  refine (dats m 0 c).arrAt_eq_of_covers 5 _ (by decide +kernel) fun t _ y => ?_
  blk_simp
  rw [after0_5]; frame_out
  idx_vars y
  obtain rfl : y0 = 0 := Fin.eq_zero y0
  refine (pay_m _ _  _ _).trans ?_
  congr 1 <;> (blk_simp [iblk, idx t]; first | rw [entry0] | rw [entry1] | rw [entry2] | rw [entry3]) <;> (refine (cast_at _ _).trans ?_; blk_ext [idx t])

theorem final6 (c : Dev nD) : (dats m 0 c).arrAt 6 (cfgs 0).N = fun (i : S1x4x16.Idx) => Cert.Adam.sec (m ((c : Thread nD τ).loc main_arg1) (ix2 (i 1) (i 2))) (m ((c : Thread nD τ).loc main_arg3) (ix2 (i 1) (i 2))) := by
  refine (dats m 0 c).arrAt_eq_of_covers 6 _ (by decide +kernel) fun t _ y => ?_
  blk_simp
  rw [after0_6]; frame_out
  idx_vars y
  obtain rfl : y0 = 0 := Fin.eq_zero y0
  refine (pay_v _ _  _ _).trans ?_
  congr 1 <;> (blk_simp [iblk, idx t]; first | rw [entry0] | rw [entry1] | rw [entry2] | rw [entry3]) <;> (refine (cast_at _ _).trans ?_; blk_ext [idx t])

theorem final7 (c : Dev nD) : (dats m 0 c).arrAt 7 (cfgs 0).N = fun (i : S1x4x16.Idx) => m ((c : Thread nD τ).loc main_arg1) (ix2 (i 1) (i 2)) := by
  refine (dats m 0 c).arrAt_eq_of_covers 7 _ (by decide +kernel) fun t _ y => ?_
  blk_simp
  rw [after0_7]; frame_out
  idx_vars y
  obtain rfl : y0 = 0 := Fin.eq_zero y0
  refine (pay_g _  _ _).trans ?_
  congr 1 <;> (blk_simp [iblk, idx t]; first | rw [entry0] | rw [entry1] | rw [entry2] | rw [entry3]) <;> (refine (cast_at _ _).trans ?_; blk_ext [idx t])

theorem uncast_at (x : FVec Ideal S1x4x16 .f32) (i : S4x16.Idx) : shapeCast S4x16 x shapeCasts_S1x4x16_S4x16 i = x (ix3 0 (i 0) (i 1)) := by
  idx_vars i
  pointwise

theorem arr_inj : Function.Injective (Pipeline.arrRef spec0) := by decide

theorem tail5 (c : Dev nD) : Pipeline.afterTail₀ cfgs (dats m) 0 (V0 m) [hostOps1] c main_v5 = fun (i : S4x16.Idx) => Cert.Adam.delta (m ((c : Thread nD τ).loc main_arg0) (ix2 (i 0) (i 1))) (m ((c : Thread nD τ).loc main_arg1) (ix2 (i 0) (i 1))) (m ((c : Thread nD τ).loc main_arg2) (ix2 (i 0) (i 1))) (m ((c : Thread nD τ).loc main_arg3) (ix2 (i 0) (i 1))) := by
  unfold Pipeline.afterTail₀
  rw [show List.flatten [hostOps1] = (hostOps1 : List (HloOp τ sig (Elt Ideal))) from rfl]
  after_results
  refine (congrArg (fun z : FVec Ideal S1x4x16 .f32 => shapeCast S4x16 z shapeCasts_S1x4x16_S4x16)
    ((Pipeline.withArrays_arr spec0 arr_inj c _ _ 4).trans (final4 m c))).trans ?_
  funext i
  exact uncast_at _ i

theorem tail6 (c : Dev nD) : Pipeline.afterTail₀ cfgs (dats m) 0 (V0 m) [hostOps1] c main_v6 = fun (i : S4x16.Idx) => Cert.Adam.mom (m ((c : Thread nD τ).loc main_arg1) (ix2 (i 0) (i 1))) (m ((c : Thread nD τ).loc main_arg2) (ix2 (i 0) (i 1))) := by
  unfold Pipeline.afterTail₀
  rw [show List.flatten [hostOps1] = (hostOps1 : List (HloOp τ sig (Elt Ideal))) from rfl]
  after_results
  refine (congrArg (fun z : FVec Ideal S1x4x16 .f32 => shapeCast S4x16 z shapeCasts_S1x4x16_S4x16)
    ((Pipeline.withArrays_arr spec0 arr_inj c _ _ 5).trans (final5 m c))).trans ?_
  funext i
  exact uncast_at _ i

theorem tail7 (c : Dev nD) : Pipeline.afterTail₀ cfgs (dats m) 0 (V0 m) [hostOps1] c main_v7 = fun (i : S4x16.Idx) => Cert.Adam.sec (m ((c : Thread nD τ).loc main_arg1) (ix2 (i 0) (i 1))) (m ((c : Thread nD τ).loc main_arg3) (ix2 (i 0) (i 1))) := by
  unfold Pipeline.afterTail₀
  rw [show List.flatten [hostOps1] = (hostOps1 : List (HloOp τ sig (Elt Ideal))) from rfl]
  after_results
  refine (congrArg (fun z : FVec Ideal S1x4x16 .f32 => shapeCast S4x16 z shapeCasts_S1x4x16_S4x16)
    ((Pipeline.withArrays_arr spec0 arr_inj c _ _ 6).trans (final6 m c))).trans ?_
  funext i
  exact uncast_at _ i

theorem tail8 (c : Dev nD) : Pipeline.afterTail₀ cfgs (dats m) 0 (V0 m) [hostOps1] c main_v8 = fun (i : S4x16.Idx) => m ((c : Thread nD τ).loc main_arg1) (ix2 (i 0) (i 1)) := by
  unfold Pipeline.afterTail₀
  rw [show List.flatten [hostOps1] = (hostOps1 : List (HloOp τ sig (Elt Ideal))) from rfl]
  after_results
  refine (congrArg (fun z : FVec Ideal S1x4x16 .f32 => shapeCast S4x16 z shapeCasts_S1x4x16_S4x16)
    ((Pipeline.withArrays_arr spec0 arr_inj c _ _ 7).trans (final7 m c))).trans ?_
  funext i
  exact uncast_at _ i

end Cert.AdamSinksIdeal.Val

end
-- ==== Proof.AAdamSinks.lean ====
module

public import proofs.«01_k».proof.Defs
public import proofs.«01_k».proof.Proof.Gen.AdamSinks.Frame
public import proofs.«01_k».proof.Proof.Gen.AdamSinksReferenceIdeal.Run
public import proofs.«01_k».proof.Proof.VAdamSinks

@[expose] public section

/- The claims about `AdamSinks`: both frames, and its value beside the reference's. -/

set_option maxRecDepth 16384

noncomputable section

open Idealize.ShloMosaic Idealize.ShloMosaic.TcCoe Idealize.SL.Sem

namespace Cert.AAdamSinks

theorem frameReference : Cert.quiescent_AdamSinksReferenceIdeal := fun m ρ _ =>
  (θ_run Cert.AdamSinksReferenceIdeal.defs _ _).mono (fun r h => ⟨fun c => (h c).2.2.2.2, sem_eq_zero_of_no_sems (by decide) r.2⟩)
    (Cert.AdamSinksReferenceIdeal.Value.run (F := Ideal) m ρ)

set_option maxHeartbeats 1600000 in
theorem value : Cert.algebraic_AdamSinksIdeal_AdamSinksReferenceIdeal := by
  pair_intro
  · run_from Cert.AdamSinksIdeal.Gen.run_main m g
    all_goals first
      | exact Cert.AdamSinksIdeal.Gen.W_main_arg0 m _ c
      | exact Cert.AdamSinksIdeal.Gen.W_main_arg1 m _ c
      | exact Cert.AdamSinksIdeal.Gen.W_main_arg2 m _ c
      | exact Cert.AdamSinksIdeal.Gen.W_main_arg3 m _ c
  · hlo_run
    · rw [Cert.AdamSinksIdeal.Val.tail5 m c]
      funext i
      idx_vars i
      pointwise [Cert.Adam.delta, Cert.Adam.mom, Cert.Adam.sec]
    · rw [Cert.AdamSinksIdeal.Val.tail6 m c]
      funext i
      idx_vars i
      pointwise [Cert.Adam.mom]
    · rw [Cert.AdamSinksIdeal.Val.tail7 m c]
      funext i
      idx_vars i
      pointwise [Cert.Adam.sec]
    · rw [Cert.AdamSinksIdeal.Val.tail8 m c]
      funext i
      idx_vars i

end Cert.AAdamSinks

end
-- ==== Proof.VAdamConv.lean ====
module

public import proofs.«01_k».proof.Proof.Gen.AdamConvIdeal.Frame
public import proofs.«01_k».proof.Proof.Base
public import proofs.«01_k».proof.Proof.Adam

@[expose] public section

/- What the AdamW update of the convolution's weight computes, over the extended reals. -/

set_option maxRecDepth 16384

noncomputable section

open Idealize.ShloMosaic Idealize.ShloMosaic.TcCoe Idealize.SL.Sem
open Idealize.ShloMosaic.Pipeline (Dat)

namespace Cert.AdamConvIdeal.Val

open Cert.AdamConvIdeal Cert.AdamConvIdeal.Gen

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

theorem pay_m (g x : Vec Ideal S1x4x256 .f32) (r : Fin 4) (k : Fin 256) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x4x256 .f32) (r : Fin 4) (k : Fin 256) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x4x256 .f32) (r : Fin 4) (k : Fin 256) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x4x256 .f32) (r : Fin 4) (k : Fin 256) : k0_pay4 (k0_pay5 g) (ix3 0 r k) = g (ix3 0 r k) := by
  pointwise [k0_pay4, k0_pay5]

theorem final4 (c : Dev nD) : (dats m 0 c).arrAt 4 (cfgs 0).N = fun i => Cert.Adam.delta (m ((c : Thread nD τ).loc main_arg0) i) (m ((c : Thread nD τ).loc main_arg1) i) (m ((c : Thread nD τ).loc main_arg2) i) (m ((c : Thread nD τ).loc main_arg3) i) := by
  refine (dats m 0 c).arrAt_eq_of_covers 4 _ (by decide +kernel) fun t _ y => ?_
  blk_simp
  rw [after0_4]; frame_out
  idx_vars y
  obtain rfl : y0 = 0 := Fin.eq_zero y0
  refine (pay_d _ _ _ _  _ _).trans ?_
  congr 1 <;> blk_ext [iblk, V, idx t]

theorem final5 (c : Dev nD) : (dats m 0 c).arrAt 5 (cfgs 0).N = fun i => Cert.Adam.mom (m ((c : Thread nD τ).loc main_arg1) i) (m ((c : Thread nD τ).loc main_arg2) i) := by
  refine (dats m 0 c).arrAt_eq_of_covers 5 _ (by decide +kernel) fun t _ y => ?_
  blk_simp
  rw [after0_5]; frame_out
  idx_vars y
  obtain rfl : y0 = 0 := Fin.eq_zero y0
  refine (pay_m _ _  _ _).trans ?_
  congr 1 <;> blk_ext [iblk, V, idx t]

theorem final6 (c : Dev nD) : (dats m 0 c).arrAt 6 (cfgs 0).N = fun i => Cert.Adam.sec (m ((c : Thread nD τ).loc main_arg1) i) (m ((c : Thread nD τ).loc main_arg3) i) := by
  refine (dats m 0 c).arrAt_eq_of_covers 6 _ (by decide +kernel) fun t _ y => ?_
  blk_simp
  rw [after0_6]; frame_out
  idx_vars y
  obtain rfl : y0 = 0 := Fin.eq_zero y0
  refine (pay_v _ _  _ _).trans ?_
  congr 1 <;> blk_ext [iblk, V, idx t]

theorem final7 (c : Dev nD) : (dats m 0 c).arrAt 7 (cfgs 0).N = fun i => m ((c : Thread nD τ).loc main_arg1) i := by
  refine (dats m 0 c).arrAt_eq_of_covers 7 _ (by decide +kernel) fun t _ y => ?_
  blk_simp
  rw [after0_7]; frame_out
  idx_vars y
  obtain rfl : y0 = 0 := Fin.eq_zero y0
  refine (pay_g _  _ _).trans ?_
  congr 1 <;> blk_ext [iblk, V, idx t]

end Cert.AdamConvIdeal.Val

end
-- ==== Proof.AAdamConv.lean ====
module

public import proofs.«01_k».proof.Defs
public import proofs.«01_k».proof.Proof.Gen.AdamConv.Frame
public import proofs.«01_k».proof.Proof.Gen.AdamConvReferenceIdeal.Run
public import proofs.«01_k».proof.Proof.VAdamConv

@[expose] public section

/- The claims about `AdamConv`: both frames, and its value beside the reference's. -/

set_option maxRecDepth 16384

noncomputable section

open Idealize.ShloMosaic Idealize.ShloMosaic.TcCoe Idealize.SL.Sem

namespace Cert.AAdamConv

theorem frameReference : Cert.quiescent_AdamConvReferenceIdeal := fun m ρ _ =>
  (θ_run Cert.AdamConvReferenceIdeal.defs _ _).mono (fun r h => ⟨fun c => (h c).2.2.2.2, sem_eq_zero_of_no_sems (by decide) r.2⟩)
    (Cert.AdamConvReferenceIdeal.Value.run (F := Ideal) m ρ)

set_option maxHeartbeats 1600000 in
theorem value : Cert.algebraic_AdamConvIdeal_AdamConvReferenceIdeal := by
  pair_intro
  · run_from Cert.AdamConvIdeal.Gen.run_main m g
  · hlo_run
    · rw [Cert.AdamConvIdeal.Val.final4 m c]
      funext i
      idx_vars i
      pointwise [Cert.Adam.delta, Cert.Adam.mom, Cert.Adam.sec]
    · rw [Cert.AdamConvIdeal.Val.final5 m c]
      funext i
      idx_vars i
      pointwise [Cert.Adam.mom]
    · rw [Cert.AdamConvIdeal.Val.final6 m c]
      funext i
      idx_vars i
      pointwise [Cert.Adam.sec]
    · rw [Cert.AdamConvIdeal.Val.final7 m c]

end Cert.AAdamConv

end
-- ==== Proof.VAdamInUp.lean ====
module

public import proofs.«01_k».proof.Proof.Gen.AdamInUpIdeal.Frame
public import proofs.«01_k».proof.Proof.Base
public import proofs.«01_k».proof.Proof.Adam

@[expose] public section

/- What the AdamW update of a matrix weight computes, over the extended reals. -/

set_option maxRecDepth 16384

noncomputable section

open Idealize.ShloMosaic Idealize.ShloMosaic.TcCoe Idealize.SL.Sem
open Idealize.ShloMosaic.Pipeline (Dat)

namespace Cert.AdamInUpIdeal.Val

open Cert.AdamInUpIdeal Cert.AdamInUpIdeal.Gen

variable (m : (ℓ : Loc nD τ sig) → Buf (Elt Ideal) ℓ)

theorem idx : ∀ t : Fin cfg0.N, win0_0.index t = ![2 + t.val / 6, t.val % 6, 0] ∧ win0_1.index t = ![2 + t.val / 6, t.val % 6, 0] ∧ win0_2.index t = ![2 + t.val / 6, t.val % 6, 0] ∧ win0_3.index t = ![2 + t.val / 6, t.val % 6, 0] ∧ win0_4.index t = ![2 + t.val / 6, t.val % 6, 0] ∧ win0_5.index t = ![2 + t.val / 6, t.val % 6, 0] ∧ win0_6.index t = ![2 + t.val / 6, t.val % 6, 0] ∧ win0_7.index t = ![2 + t.val / 6, t.val % 6, 0] :=
  (by decide +kernel : ∀ t : Fin grid0.N, _)

theorem pay_m (g x : Vec Ideal S1x224x1024 .f32) (r : Fin 224) (k : Fin 1024) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x224x1024 .f32) (r : Fin 224) (k : Fin 1024) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x224x1024 .f32) (r : Fin 224) (k : Fin 1024) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x224x1024 .f32) (r : Fin 224) (k : Fin 1024) : k0_pay4 (k0_pay5 g) (ix3 0 r k) = g (ix3 0 r k) := by
  pointwise [k0_pay4, k0_pay5]

theorem final4 (c : Dev nD) : (dats m 0 c).arrAt 4 (cfgs 0).N =
    fun i => if 2 ≤ (i 0 : ℕ) / 1 then Cert.Adam.delta (m ((c : Thread nD τ).loc main_arg0) i) (m ((c : Thread nD τ).loc main_arg1) i) (m ((c : Thread nD τ).loc main_arg2) i) (m ((c : Thread nD τ).loc main_arg3) i) else V m c main_v0_0 i := by
  refine (dats m 0 c).arrAt_eq_of_coversWhere 4 _ (fun β => 2 ≤ β (0 : Fin _)) (by decide +kernel) (fun t _ y => ?_) (fun j => Iff.rfl)
  blk_simp
  rw [after0_4]; frame_out
  idx_vars y
  obtain rfl : y0 = 0 := Fin.eq_zero y0
  refine (pay_d _ _ _ _ _ _).trans ?_
  congr 1 <;> blk_ext [iblk, V, idx t]

theorem final5 (c : Dev nD) : (dats m 0 c).arrAt 5 (cfgs 0).N =
    fun i => if 2 ≤ (i 0 : ℕ) / 1 then Cert.Adam.mom (m ((c : Thread nD τ).loc main_arg1) i) (m ((c : Thread nD τ).loc main_arg2) i) else V m c main_v0_1 i := by
  refine (dats m 0 c).arrAt_eq_of_coversWhere 5 _ (fun β => 2 ≤ β (0 : Fin _)) (by decide +kernel) (fun t _ y => ?_) (fun j => Iff.rfl)
  blk_simp
  rw [after0_5]; frame_out
  idx_vars y
  obtain rfl : y0 = 0 := Fin.eq_zero y0
  refine (pay_m _ _ _ _).trans ?_
  congr 1 <;> blk_ext [iblk, V, idx t]

theorem final6 (c : Dev nD) : (dats m 0 c).arrAt 6 (cfgs 0).N =
    fun i => if 2 ≤ (i 0 : ℕ) / 1 then Cert.Adam.sec (m ((c : Thread nD τ).loc main_arg1) i) (m ((c : Thread nD τ).loc main_arg3) i) else V m c main_v0_2 i := by
  refine (dats m 0 c).arrAt_eq_of_coversWhere 6 _ (fun β => 2 ≤ β (0 : Fin _)) (by decide +kernel) (fun t _ y => ?_) (fun j => Iff.rfl)
  blk_simp
  rw [after0_6]; frame_out
  idx_vars y
  obtain rfl : y0 = 0 := Fin.eq_zero y0
  refine (pay_v _ _ _ _).trans ?_
  congr 1 <;> blk_ext [iblk, V, idx t]

theorem final7 (c : Dev nD) : (dats m 0 c).arrAt 7 (cfgs 0).N =
    fun i => if 2 ≤ (i 0 : ℕ) / 1 then m ((c : Thread nD τ).loc main_arg1) i else V m c main_v0_3 i := by
  refine (dats m 0 c).arrAt_eq_of_coversWhere 7 _ (fun β => 2 ≤ β (0 : Fin _)) (by decide +kernel) (fun t _ y => ?_) (fun j => Iff.rfl)
  blk_simp
  rw [after0_7]; frame_out
  idx_vars y
  obtain rfl : y0 = 0 := Fin.eq_zero y0
  refine (pay_g _ _ _).trans ?_
  congr 1 <;> blk_ext [iblk, V, idx t]

theorem arr_inj : Function.Injective (Pipeline.arrRef spec0) := by decide

theorem tail4 (c : Dev nD) : Pipeline.afterTail₀ cfgs (dats m) 0 (V0 m) [hostOps1] c main_v1 =
    extractStridedSlice S2x1344x1024 ![2, 0, 0] (fun i : S4x1344x1024.Idx => if 2 ≤ (i 0 : ℕ) / 1 then Cert.Adam.delta (m ((c : Thread nD τ).loc main_arg0) i) (m ((c : Thread nD τ).loc main_arg1) i) (m ((c : Thread nD τ).loc main_arg2) i) (m ((c : Thread nD τ).loc main_arg3) i) else V m c main_v0_0 i) slices_S4x1344x1024_S2x1344x1024_2_0_0 := by
  unfold Pipeline.afterTail₀
  rw [show List.flatten [hostOps1] = (hostOps1 : List (HloOp τ sig (Elt Ideal))) from rfl]
  after_results
  refine congrArg (fun z : FVec Ideal S4x1344x1024 .f32 => extractStridedSlice S2x1344x1024 ![2, 0, 0] z slices_S4x1344x1024_S2x1344x1024_2_0_0) (?_ : _ = _)
  exact (Pipeline.withArrays_arr spec0 arr_inj c _ _ 4).trans (final4 m c)

theorem tail5 (c : Dev nD) : Pipeline.afterTail₀ cfgs (dats m) 0 (V0 m) [hostOps1] c main_v2 =
    extractStridedSlice S2x1344x1024 ![2, 0, 0] (fun i : S4x1344x1024.Idx => if 2 ≤ (i 0 : ℕ) / 1 then Cert.Adam.mom (m ((c : Thread nD τ).loc main_arg1) i) (m ((c : Thread nD τ).loc main_arg2) i) else V m c main_v0_1 i) slices_S4x1344x1024_S2x1344x1024_2_0_0 := by
  unfold Pipeline.afterTail₀
  rw [show List.flatten [hostOps1] = (hostOps1 : List (HloOp τ sig (Elt Ideal))) from rfl]
  after_results
  refine congrArg (fun z : FVec Ideal S4x1344x1024 .f32 => extractStridedSlice S2x1344x1024 ![2, 0, 0] z slices_S4x1344x1024_S2x1344x1024_2_0_0) (?_ : _ = _)
  exact (Pipeline.withArrays_arr spec0 arr_inj c _ _ 5).trans (final5 m c)

theorem tail6 (c : Dev nD) : Pipeline.afterTail₀ cfgs (dats m) 0 (V0 m) [hostOps1] c main_v3 =
    extractStridedSlice S2x1344x1024 ![2, 0, 0] (fun i : S4x1344x1024.Idx => if 2 ≤ (i 0 : ℕ) / 1 then Cert.Adam.sec (m ((c : Thread nD τ).loc main_arg1) i) (m ((c : Thread nD τ).loc main_arg3) i) else V m c main_v0_2 i) slices_S4x1344x1024_S2x1344x1024_2_0_0 := by
  unfold Pipeline.afterTail₀
  rw [show List.flatten [hostOps1] = (hostOps1 : List (HloOp τ sig (Elt Ideal))) from rfl]
  after_results
  refine congrArg (fun z : FVec Ideal S4x1344x1024 .f32 => extractStridedSlice S2x1344x1024 ![2, 0, 0] z slices_S4x1344x1024_S2x1344x1024_2_0_0) (?_ : _ = _)
  exact (Pipeline.withArrays_arr spec0 arr_inj c _ _ 6).trans (final6 m c)

theorem tail7 (c : Dev nD) : Pipeline.afterTail₀ cfgs (dats m) 0 (V0 m) [hostOps1] c main_v4 =
    extractStridedSlice S2x1344x1024 ![2, 0, 0] (fun i : S4x1344x1024.Idx => if 2 ≤ (i 0 : ℕ) / 1 then m ((c : Thread nD τ).loc main_arg1) i else V m c main_v0_3 i) slices_S4x1344x1024_S2x1344x1024_2_0_0 := by
  unfold Pipeline.afterTail₀
  rw [show List.flatten [hostOps1] = (hostOps1 : List (HloOp τ sig (Elt Ideal))) from rfl]
  after_results
  refine congrArg (fun z : FVec Ideal S4x1344x1024 .f32 => extractStridedSlice S2x1344x1024 ![2, 0, 0] z slices_S4x1344x1024_S2x1344x1024_2_0_0) (?_ : _ = _)
  exact (Pipeline.withArrays_arr spec0 arr_inj c _ _ 7).trans (final7 m c)

end Cert.AdamInUpIdeal.Val

end
-- ==== Proof.AAdamInUp.lean ====
module

public import proofs.«01_k».proof.Defs
public import proofs.«01_k».proof.Proof.Gen.AdamInUp.Frame
public import proofs.«01_k».proof.Proof.Gen.AdamInUpReferenceIdeal.Run
public import proofs.«01_k».proof.Proof.VAdamInUp

@[expose] public section

/- The claims about `AdamInUp`: both frames, and its value beside the reference's. -/

set_option maxRecDepth 16384

noncomputable section

open Idealize.ShloMosaic Idealize.ShloMosaic.TcCoe Idealize.SL.Sem

namespace Cert.AAdamInUp

theorem frameReference : Cert.quiescent_AdamInUpReferenceIdeal := fun m ρ _ =>
  (θ_run Cert.AdamInUpReferenceIdeal.defs _ _).mono (fun r h => ⟨fun c => (h c).2.2.2.2, sem_eq_zero_of_no_sems (by decide) r.2⟩)
    (Cert.AdamInUpReferenceIdeal.Value.run (F := Ideal) m ρ)

set_option maxHeartbeats 1600000 in
theorem value : Cert.algebraic_AdamInUpIdeal_AdamInUpReferenceIdeal := by
  pair_intro
  · run_from Cert.AdamInUpIdeal.Gen.run_main m g
  · hlo_run
    · rw [Cert.AdamInUpIdeal.Val.tail4 m c]
      funext i
      idx_vars i
      pointwise [Cert.Adam.delta, Cert.Adam.mom, Cert.Adam.sec]
    · rw [Cert.AdamInUpIdeal.Val.tail5 m c]
      funext i
      idx_vars i
      pointwise [Cert.Adam.mom]
    · rw [Cert.AdamInUpIdeal.Val.tail6 m c]
      funext i
      idx_vars i
      pointwise [Cert.Adam.sec]
    · rw [Cert.AdamInUpIdeal.Val.tail7 m c]
      funext i
      idx_vars i
      pointwise []

end Cert.AAdamInUp

end
-- ==== Proof.VAdamInLow.lean ====
module

public import proofs.«01_k».proof.Proof.Gen.AdamInLowIdeal.Frame
public import proofs.«01_k».proof.Proof.Base
public import proofs.«01_k».proof.Proof.Adam

@[expose] public section

/- What the AdamW update of a matrix weight computes, over the extended reals. -/

set_option maxRecDepth 16384

noncomputable section

open Idealize.ShloMosaic Idealize.ShloMosaic.TcCoe Idealize.SL.Sem
open Idealize.ShloMosaic.Pipeline (Dat)

namespace Cert.AdamInLowIdeal.Val

open Cert.AdamInLowIdeal Cert.AdamInLowIdeal.Gen

variable (m : (ℓ : Loc nD τ sig) → Buf (Elt Ideal) ℓ)

theorem idx : ∀ t : Fin cfg0.N, win0_0.index t = ![t.val / 6, t.val % 6, 0] ∧ win0_1.index t = ![t.val / 6, t.val % 6, 0] ∧ win0_2.index t = ![t.val / 6, t.val % 6, 0] ∧ win0_3.index t = ![t.val / 6, t.val % 6, 0] ∧ win0_4.index t = ![t.val / 6, t.val % 6, 0] ∧ win0_5.index t = ![t.val / 6, t.val % 6, 0] ∧ win0_6.index t = ![t.val / 6, t.val % 6, 0] ∧ win0_7.index t = ![t.val / 6, t.val % 6, 0] :=
  (by decide +kernel : ∀ t : Fin grid0.N, _)

theorem pay_m (g x : Vec Ideal S1x224x1024 .f32) (r : Fin 224) (k : Fin 1024) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x224x1024 .f32) (r : Fin 224) (k : Fin 1024) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x224x1024 .f32) (r : Fin 224) (k : Fin 1024) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x224x1024 .f32) (r : Fin 224) (k : Fin 1024) : k0_pay4 (k0_pay5 g) (ix3 0 r k) = g (ix3 0 r k) := by
  pointwise [k0_pay4, k0_pay5]

/-- The region finds the arguments, and in each result the copy of the array the upper layers' call left. -/
theorem in0 (c : Dev nD) : V m c main_arg0 = m ((c : Thread nD τ).loc main_arg0) := by
  unfold V
  after_results

theorem in1 (c : Dev nD) : V m c main_arg1 = m ((c : Thread nD τ).loc main_arg1) := by
  unfold V
  after_results

theorem in2 (c : Dev nD) : V m c main_arg2 = m ((c : Thread nD τ).loc main_arg2) := by
  unfold V
  after_results

theorem in3 (c : Dev nD) : V m c main_arg3 = m ((c : Thread nD τ).loc main_arg3) := by
  unfold V
  after_results

theorem entry0 (c : Dev nD) : V m c main_v0_0 = m ((c : Thread nD τ).loc main_arg4) := by
  unfold V
  after_results
  try rfl

theorem entry1 (c : Dev nD) : V m c main_v0_1 = m ((c : Thread nD τ).loc main_arg5) := by
  unfold V
  after_results
  try rfl

theorem entry2 (c : Dev nD) : V m c main_v0_2 = m ((c : Thread nD τ).loc main_arg6) := by
  unfold V
  after_results
  try rfl

theorem entry3 (c : Dev nD) : V m c main_v0_3 = m ((c : Thread nD τ).loc main_arg7) := by
  unfold V
  after_results
  try rfl

theorem final4 (c : Dev nD) : (dats m 0 c).arrAt 4 (cfgs 0).N =
    fun i => if (i 0 : ℕ) / 1 < 2 then Cert.Adam.delta (m ((c : Thread nD τ).loc main_arg0) i) (m ((c : Thread nD τ).loc main_arg1) i) (m ((c : Thread nD τ).loc main_arg2) i) (m ((c : Thread nD τ).loc main_arg3) i) else V m c main_v0_0 i := by
  refine (dats m 0 c).arrAt_eq_of_coversWhere 4 _ (fun β => β (0 : Fin _) < 2) (by decide +kernel) (fun t _ y => ?_) (fun j => Iff.rfl)
  blk_simp
  rw [after0_4]; unfold outsAt0; frame_out
  idx_vars y
  obtain rfl : y0 = 0 := Fin.eq_zero y0
  refine (pay_d _ _ _ _ _ _).trans ?_
  congr 1 <;> (blk_simp [iblk, idx t]; first | rw [in0] | rw [in1] | rw [in2] | rw [in3]) <;> blk_ext [idx t]

theorem final5 (c : Dev nD) : (dats m 0 c).arrAt 5 (cfgs 0).N =
    fun i => if (i 0 : ℕ) / 1 < 2 then Cert.Adam.mom (m ((c : Thread nD τ).loc main_arg1) i) (m ((c : Thread nD τ).loc main_arg2) i) else V m c main_v0_1 i := by
  refine (dats m 0 c).arrAt_eq_of_coversWhere 5 _ (fun β => β (0 : Fin _) < 2) (by decide +kernel) (fun t _ y => ?_) (fun j => Iff.rfl)
  blk_simp
  rw [after0_5]; unfold outsAt0; frame_out
  idx_vars y
  obtain rfl : y0 = 0 := Fin.eq_zero y0
  refine (pay_m _ _ _ _).trans ?_
  congr 1 <;> (blk_simp [iblk, idx t]; first | rw [in0] | rw [in1] | rw [in2] | rw [in3]) <;> blk_ext [idx t]

theorem final6 (c : Dev nD) : (dats m 0 c).arrAt 6 (cfgs 0).N =
    fun i => if (i 0 : ℕ) / 1 < 2 then Cert.Adam.sec (m ((c : Thread nD τ).loc main_arg1) i) (m ((c : Thread nD τ).loc main_arg3) i) else V m c main_v0_2 i := by
  refine (dats m 0 c).arrAt_eq_of_coversWhere 6 _ (fun β => β (0 : Fin _) < 2) (by decide +kernel) (fun t _ y => ?_) (fun j => Iff.rfl)
  blk_simp
  rw [after0_6]; unfold outsAt0; frame_out
  idx_vars y
  obtain rfl : y0 = 0 := Fin.eq_zero y0
  refine (pay_v _ _ _ _).trans ?_
  congr 1 <;> (blk_simp [iblk, idx t]; first | rw [in0] | rw [in1] | rw [in2] | rw [in3]) <;> blk_ext [idx t]

theorem final7 (c : Dev nD) : (dats m 0 c).arrAt 7 (cfgs 0).N =
    fun i => if (i 0 : ℕ) / 1 < 2 then m ((c : Thread nD τ).loc main_arg1) i else V m c main_v0_3 i := by
  refine (dats m 0 c).arrAt_eq_of_coversWhere 7 _ (fun β => β (0 : Fin _) < 2) (by decide +kernel) (fun t _ y => ?_) (fun j => Iff.rfl)
  blk_simp
  rw [after0_7]; unfold outsAt0; frame_out
  idx_vars y
  obtain rfl : y0 = 0 := Fin.eq_zero y0
  refine (pay_g _ _ _).trans ?_
  congr 1 <;> (blk_simp [iblk, idx t]; first | rw [in0] | rw [in1] | rw [in2] | rw [in3]) <;> blk_ext [idx t]

end Cert.AdamInLowIdeal.Val

end
-- ==== Proof.Halves.lean ====
module

public import Mathlib.Data.Fin.Basic

@[expose] public section

/- The two halves of the four layers: a large weight's optimiser takes the upper two in one call, then the lower two
in another. -/

namespace Cert.Halves

/-- A layer of the upper half, counted from that half's first. -/
theorem upper (i : Fin 4) (h : ¬ (i : ℕ) < 2) (p : 2 + ((i : ℕ) - 2) < 4) : (⟨2 + ((i : ℕ) - 2), p⟩ : Fin 4) = i :=
  Fin.ext (show 2 + ((i : ℕ) - 2) = (i : ℕ) by omega)

end Cert.Halves
-- ==== Proof.AAdamInLow.lean ====
module

public import proofs.«01_k».proof.Defs
public import proofs.«01_k».proof.Proof.Gen.AdamInLow.Frame
public import proofs.«01_k».proof.Proof.Gen.AdamInLowReferenceIdeal.Run
public import proofs.«01_k».proof.Proof.VAdamInLow
public import proofs.«01_k».proof.Proof.Halves

@[expose] public section

/- The claims about `AdamInLow`: both frames, and its value beside the reference's. -/

set_option maxRecDepth 16384

noncomputable section

open Idealize.ShloMosaic Idealize.ShloMosaic.TcCoe Idealize.SL.Sem

namespace Cert.AAdamInLow

theorem frameReference : Cert.quiescent_AdamInLowReferenceIdeal := fun m ρ _ =>
  (θ_run Cert.AdamInLowReferenceIdeal.defs _ _).mono (fun r h => ⟨fun c => (h c).2.2.2.2, sem_eq_zero_of_no_sems (by decide) r.2⟩)
    (Cert.AdamInLowReferenceIdeal.Value.run (F := Ideal) m ρ)

set_option maxHeartbeats 1600000 in
theorem value : Cert.algebraic_AdamInLowIdeal_AdamInLowReferenceIdeal := by
  pair_intro
  · run_from Cert.AdamInLowIdeal.Gen.run_main m g
  · hlo_run
    · rw [Cert.AdamInLowIdeal.Val.final4 m c]
      funext i
      idx_vars i
      pointwise [Cert.Adam.delta, Cert.Adam.mom, Cert.Adam.sec]
      by_cases h : (i0 : ℕ) < 2
      · simp only [h, ↓reduceDIte, ↓reduceIte, hagree c]
      · simp only [h, ↓reduceDIte, ↓reduceIte, Cert.Halves.upper i0 h, hagree c]
        exact (congrFun (Cert.AdamInLowIdeal.Val.entry0 m c) _).symm
    · rw [Cert.AdamInLowIdeal.Val.final5 m c]
      funext i
      idx_vars i
      pointwise [Cert.Adam.mom]
      by_cases h : (i0 : ℕ) < 2
      · simp only [h, ↓reduceDIte, ↓reduceIte, hagree c]
      · simp only [h, ↓reduceDIte, ↓reduceIte, Cert.Halves.upper i0 h, hagree c]
        exact (congrFun (Cert.AdamInLowIdeal.Val.entry1 m c) _).symm
    · rw [Cert.AdamInLowIdeal.Val.final6 m c]
      funext i
      idx_vars i
      pointwise [Cert.Adam.sec]
      by_cases h : (i0 : ℕ) < 2
      · simp only [h, ↓reduceDIte, ↓reduceIte, hagree c]
      · simp only [h, ↓reduceDIte, ↓reduceIte, Cert.Halves.upper i0 h, hagree c]
        exact (congrFun (Cert.AdamInLowIdeal.Val.entry2 m c) _).symm
    · rw [Cert.AdamInLowIdeal.Val.final7 m c]
      funext i
      idx_vars i
      pointwise []
      by_cases h : (i0 : ℕ) < 2
      · simp only [h, ↓reduceDIte, ↓reduceIte, hagree c]
      · simp only [h, ↓reduceDIte, ↓reduceIte, Cert.Halves.upper i0 h, hagree c]
        exact (congrFun (Cert.AdamInLowIdeal.Val.entry3 m c) _).symm

end Cert.AAdamInLow

end
-- ==== Proof.VAdamRgUp.lean ====
module

public import proofs.«01_k».proof.Proof.Gen.AdamRgUpIdeal.Frame
public import proofs.«01_k».proof.Proof.Base
public import proofs.«01_k».proof.Proof.Adam

@[expose] public section

/- What the AdamW update of a gate's matrices computes, over the extended reals. -/

set_option maxRecDepth 16384

noncomputable section

open Idealize.ShloMosaic Idealize.ShloMosaic.TcCoe Idealize.SL.Sem
open Idealize.ShloMosaic.Pipeline (Dat)

namespace Cert.AdamRgUpIdeal.Val

open Cert.AdamRgUpIdeal Cert.AdamRgUpIdeal.Gen

variable (m : (ℓ : Loc nD τ sig) → Buf (Elt Ideal) ℓ)

theorem idx : ∀ t : Fin cfg0.N, win0_0.index t = ![2 + t.val / 1, t.val % 1, 0] ∧ win0_1.index t = ![2 + t.val / 1, t.val % 1, 0] ∧ win0_2.index t = ![2 + t.val / 1, t.val % 1, 0] ∧ win0_3.index t = ![2 + t.val / 1, t.val % 1, 0] ∧ win0_4.index t = ![2 + t.val / 1, t.val % 1, 0] ∧ win0_5.index t = ![2 + t.val / 1, t.val % 1, 0] ∧ win0_6.index t = ![2 + t.val / 1, t.val % 1, 0] ∧ win0_7.index t = ![2 + t.val / 1, t.val % 1, 0] :=
  (by decide +kernel : ∀ t : Fin grid0.N, _)

theorem pay_m (g x : Vec Ideal S1x256x256 .f32) (r : Fin 256) (k : Fin 256) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x256x256 .f32) (r : Fin 256) (k : Fin 256) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x256x256 .f32) (r : Fin 256) (k : Fin 256) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x256x256 .f32) (r : Fin 256) (k : Fin 256) : k0_pay4 (k0_pay5 g) (ix3 0 r k) = g (ix3 0 r k) := by
  pointwise [k0_pay4, k0_pay5]

/-- The region finds the arguments with the two middle axes joined. -/
theorem entry0 (c : Dev nD) : V m c main_v0 = shapeCast S4x256x256 (m ((c : Thread nD τ).loc main_arg0)) shapeCasts_S4x4x64x256_S4x256x256 := by
  unfold V V0
  rw [show List.flatten [hostOps0] = (hostOps0 : List (HloOp τ sig (Elt Ideal))) from rfl]
  after_results
  try rfl

theorem entry1 (c : Dev nD) : V m c main_v1 = shapeCast S4x256x256 (m ((c : Thread nD τ).loc main_arg1)) shapeCasts_S4x4x64x256_S4x256x256 := by
  unfold V V0
  rw [show List.flatten [hostOps0] = (hostOps0 : List (HloOp τ sig (Elt Ideal))) from rfl]
  after_results
  try rfl

theorem entry2 (c : Dev nD) : V m c main_v2 = shapeCast S4x256x256 (m ((c : Thread nD τ).loc main_arg2)) shapeCasts_S4x4x64x256_S4x256x256 := by
  unfold V V0
  rw [show List.flatten [hostOps0] = (hostOps0 : List (HloOp τ sig (Elt Ideal))) from rfl]
  after_results
  try rfl

theorem entry3 (c : Dev nD) : V m c main_v3 = shapeCast S4x256x256 (m ((c : Thread nD τ).loc main_arg3)) shapeCasts_S4x4x64x256_S4x256x256 := by
  unfold V V0
  rw [show List.flatten [hostOps0] = (hostOps0 : List (HloOp τ sig (Elt Ideal))) from rfl]
  after_results
  try rfl

theorem final4 (c : Dev nD) : (dats m 0 c).arrAt 4 (cfgs 0).N =
    fun i => if 2 ≤ (i 0 : ℕ) / 1 then Cert.Adam.delta (shapeCast S4x256x256 (m ((c : Thread nD τ).loc main_arg0)) shapeCasts_S4x4x64x256_S4x256x256 i) (shapeCast S4x256x256 (m ((c : Thread nD τ).loc main_arg1)) shapeCasts_S4x4x64x256_S4x256x256 i) (shapeCast S4x256x256 (m ((c : Thread nD τ).loc main_arg2)) shapeCasts_S4x4x64x256_S4x256x256 i) (shapeCast S4x256x256 (m ((c : Thread nD τ).loc main_arg3)) shapeCasts_S4x4x64x256_S4x256x256 i) else V m c main_v4_0 i := by
  refine (dats m 0 c).arrAt_eq_of_coversWhere 4 _ (fun β => 2 ≤ β (0 : Fin _)) (by decide +kernel) (fun t _ y => ?_) (fun j => Iff.rfl)
  blk_simp
  rw [after0_4]; frame_out
  idx_vars y
  obtain rfl : y0 = 0 := Fin.eq_zero y0
  refine (pay_d _ _ _ _ _ _).trans ?_
  congr 1 <;> (blk_simp [iblk, idx t]; first | rw [entry0] | rw [entry1] | rw [entry2] | rw [entry3]) <;> blk_ext [idx t]

theorem final5 (c : Dev nD) : (dats m 0 c).arrAt 5 (cfgs 0).N =
    fun i => if 2 ≤ (i 0 : ℕ) / 1 then Cert.Adam.mom (shapeCast S4x256x256 (m ((c : Thread nD τ).loc main_arg1)) shapeCasts_S4x4x64x256_S4x256x256 i) (shapeCast S4x256x256 (m ((c : Thread nD τ).loc main_arg2)) shapeCasts_S4x4x64x256_S4x256x256 i) else V m c main_v4_1 i := by
  refine (dats m 0 c).arrAt_eq_of_coversWhere 5 _ (fun β => 2 ≤ β (0 : Fin _)) (by decide +kernel) (fun t _ y => ?_) (fun j => Iff.rfl)
  blk_simp
  rw [after0_5]; frame_out
  idx_vars y
  obtain rfl : y0 = 0 := Fin.eq_zero y0
  refine (pay_m _ _ _ _).trans ?_
  congr 1 <;> (blk_simp [iblk, idx t]; first | rw [entry0] | rw [entry1] | rw [entry2] | rw [entry3]) <;> blk_ext [idx t]

theorem final6 (c : Dev nD) : (dats m 0 c).arrAt 6 (cfgs 0).N =
    fun i => if 2 ≤ (i 0 : ℕ) / 1 then Cert.Adam.sec (shapeCast S4x256x256 (m ((c : Thread nD τ).loc main_arg1)) shapeCasts_S4x4x64x256_S4x256x256 i) (shapeCast S4x256x256 (m ((c : Thread nD τ).loc main_arg3)) shapeCasts_S4x4x64x256_S4x256x256 i) else V m c main_v4_2 i := by
  refine (dats m 0 c).arrAt_eq_of_coversWhere 6 _ (fun β => 2 ≤ β (0 : Fin _)) (by decide +kernel) (fun t _ y => ?_) (fun j => Iff.rfl)
  blk_simp
  rw [after0_6]; frame_out
  idx_vars y
  obtain rfl : y0 = 0 := Fin.eq_zero y0
  refine (pay_v _ _ _ _).trans ?_
  congr 1 <;> (blk_simp [iblk, idx t]; first | rw [entry0] | rw [entry1] | rw [entry2] | rw [entry3]) <;> blk_ext [idx t]

theorem final7 (c : Dev nD) : (dats m 0 c).arrAt 7 (cfgs 0).N =
    fun i => if 2 ≤ (i 0 : ℕ) / 1 then (shapeCast S4x256x256 (m ((c : Thread nD τ).loc main_arg1)) shapeCasts_S4x4x64x256_S4x256x256 i) else V m c main_v4_3 i := by
  refine (dats m 0 c).arrAt_eq_of_coversWhere 7 _ (fun β => 2 ≤ β (0 : Fin _)) (by decide +kernel) (fun t _ y => ?_) (fun j => Iff.rfl)
  blk_simp
  rw [after0_7]; frame_out
  idx_vars y
  obtain rfl : y0 = 0 := Fin.eq_zero y0
  refine (pay_g _ _ _).trans ?_
  congr 1 <;> (blk_simp [iblk, idx t]; first | rw [entry0] | rw [entry1] | rw [entry2] | rw [entry3]) <;> blk_ext [idx t]

theorem back_at (z : FVec Ideal S4x256x256 .f32) (a b : Fin 4) (r : Fin 64) (k : Fin 256) :
    shapeCast S4x4x64x256 z shapeCasts_S4x256x256_S4x4x64x256 (ix4 a b r k) =
      z (ix3 a ⟨b.val * 64 + r.val, Cert.Base.mul_add_lt b.isLt r.isLt rfl⟩ k) := by
  pointwise

theorem there_at (x : FVec Ideal S4x4x64x256 .f32) (a b : Fin 4) (r : Fin 64) (k : Fin 256) :
    shapeCast S4x256x256 x shapeCasts_S4x4x64x256_S4x256x256 (ix3 a ⟨b.val * 64 + r.val, Cert.Base.mul_add_lt b.isLt r.isLt rfl⟩ k) =
      x (ix4 a b r k) := by
  pointwise

theorem arr_inj : Function.Injective (Pipeline.arrRef spec0) := by decide

theorem split4 (c : Dev nD) : shapeCast S4x4x64x256 ((dats m 0 c).arrAt 4 (cfgs 0).N) shapeCasts_S4x256x256_S4x4x64x256 =
    fun i : S4x4x64x256.Idx => if 2 ≤ (i 0 : ℕ) then Cert.Adam.delta (m ((c : Thread nD τ).loc main_arg0) i) (m ((c : Thread nD τ).loc main_arg1) i) (m ((c : Thread nD τ).loc main_arg2) i) (m ((c : Thread nD τ).loc main_arg3) i) else V m c main_v4_0 (ix3 (i 0) ⟨(i 1).val * 64 + (i 2).val, Cert.Base.mul_add_lt (i 1).isLt (i 2).isLt rfl⟩ (i 3)) := by
  rw [final4 m c]
  funext i
  idx_vars i
  refine (back_at _ i0 i1 i2 i3).trans ?_
  show (if _ then _ else _) = _
  simp only [there_at, Nat.div_one]
  refine if_congr Iff.rfl ?_ ?_ <;> first | exact there_at _ i0 i1 i2 i3 | rfl

theorem tail4 (c : Dev nD) : Pipeline.afterTail₀ cfgs (dats m) 0 (V0 m) [hostOps1] c main_v9 =
    extractStridedSlice S2x4x64x256 ![2, 0, 0, 0] (fun i : S4x4x64x256.Idx => if 2 ≤ (i 0 : ℕ) then Cert.Adam.delta (m ((c : Thread nD τ).loc main_arg0) i) (m ((c : Thread nD τ).loc main_arg1) i) (m ((c : Thread nD τ).loc main_arg2) i) (m ((c : Thread nD τ).loc main_arg3) i) else V m c main_v4_0 (ix3 (i 0) ⟨(i 1).val * 64 + (i 2).val, Cert.Base.mul_add_lt (i 1).isLt (i 2).isLt rfl⟩ (i 3))) slices_S4x4x64x256_S2x4x64x256_2_0_0_0 := by
  rw [← split4 m c]
  unfold Pipeline.afterTail₀
  rw [show List.flatten [hostOps1] = (hostOps1 : List (HloOp τ sig (Elt Ideal))) from rfl]
  after_results
  refine congrArg (fun z : FVec Ideal S4x4x64x256 .f32 => extractStridedSlice S2x4x64x256 ![2, 0, 0, 0] z slices_S4x4x64x256_S2x4x64x256_2_0_0_0) (?_ : _ = _)
  refine congrArg (fun z : FVec Ideal S4x256x256 .f32 => shapeCast S4x4x64x256 z shapeCasts_S4x256x256_S4x4x64x256) (?_ : _ = _)
  exact Pipeline.withArrays_arr spec0 arr_inj c _ _ 4

theorem split5 (c : Dev nD) : shapeCast S4x4x64x256 ((dats m 0 c).arrAt 5 (cfgs 0).N) shapeCasts_S4x256x256_S4x4x64x256 =
    fun i : S4x4x64x256.Idx => if 2 ≤ (i 0 : ℕ) then Cert.Adam.mom (m ((c : Thread nD τ).loc main_arg1) i) (m ((c : Thread nD τ).loc main_arg2) i) else V m c main_v4_1 (ix3 (i 0) ⟨(i 1).val * 64 + (i 2).val, Cert.Base.mul_add_lt (i 1).isLt (i 2).isLt rfl⟩ (i 3)) := by
  rw [final5 m c]
  funext i
  idx_vars i
  refine (back_at _ i0 i1 i2 i3).trans ?_
  show (if _ then _ else _) = _
  simp only [there_at, Nat.div_one]
  refine if_congr Iff.rfl ?_ ?_ <;> first | exact there_at _ i0 i1 i2 i3 | rfl

theorem tail5 (c : Dev nD) : Pipeline.afterTail₀ cfgs (dats m) 0 (V0 m) [hostOps1] c main_v10 =
    extractStridedSlice S2x4x64x256 ![2, 0, 0, 0] (fun i : S4x4x64x256.Idx => if 2 ≤ (i 0 : ℕ) then Cert.Adam.mom (m ((c : Thread nD τ).loc main_arg1) i) (m ((c : Thread nD τ).loc main_arg2) i) else V m c main_v4_1 (ix3 (i 0) ⟨(i 1).val * 64 + (i 2).val, Cert.Base.mul_add_lt (i 1).isLt (i 2).isLt rfl⟩ (i 3))) slices_S4x4x64x256_S2x4x64x256_2_0_0_0 := by
  rw [← split5 m c]
  unfold Pipeline.afterTail₀
  rw [show List.flatten [hostOps1] = (hostOps1 : List (HloOp τ sig (Elt Ideal))) from rfl]
  after_results
  refine congrArg (fun z : FVec Ideal S4x4x64x256 .f32 => extractStridedSlice S2x4x64x256 ![2, 0, 0, 0] z slices_S4x4x64x256_S2x4x64x256_2_0_0_0) (?_ : _ = _)
  refine congrArg (fun z : FVec Ideal S4x256x256 .f32 => shapeCast S4x4x64x256 z shapeCasts_S4x256x256_S4x4x64x256) (?_ : _ = _)
  exact Pipeline.withArrays_arr spec0 arr_inj c _ _ 5

theorem split6 (c : Dev nD) : shapeCast S4x4x64x256 ((dats m 0 c).arrAt 6 (cfgs 0).N) shapeCasts_S4x256x256_S4x4x64x256 =
    fun i : S4x4x64x256.Idx => if 2 ≤ (i 0 : ℕ) then Cert.Adam.sec (m ((c : Thread nD τ).loc main_arg1) i) (m ((c : Thread nD τ).loc main_arg3) i) else V m c main_v4_2 (ix3 (i 0) ⟨(i 1).val * 64 + (i 2).val, Cert.Base.mul_add_lt (i 1).isLt (i 2).isLt rfl⟩ (i 3)) := by
  rw [final6 m c]
  funext i
  idx_vars i
  refine (back_at _ i0 i1 i2 i3).trans ?_
  show (if _ then _ else _) = _
  simp only [there_at, Nat.div_one]
  refine if_congr Iff.rfl ?_ ?_ <;> first | exact there_at _ i0 i1 i2 i3 | rfl

theorem tail6 (c : Dev nD) : Pipeline.afterTail₀ cfgs (dats m) 0 (V0 m) [hostOps1] c main_v11 =
    extractStridedSlice S2x4x64x256 ![2, 0, 0, 0] (fun i : S4x4x64x256.Idx => if 2 ≤ (i 0 : ℕ) then Cert.Adam.sec (m ((c : Thread nD τ).loc main_arg1) i) (m ((c : Thread nD τ).loc main_arg3) i) else V m c main_v4_2 (ix3 (i 0) ⟨(i 1).val * 64 + (i 2).val, Cert.Base.mul_add_lt (i 1).isLt (i 2).isLt rfl⟩ (i 3))) slices_S4x4x64x256_S2x4x64x256_2_0_0_0 := by
  rw [← split6 m c]
  unfold Pipeline.afterTail₀
  rw [show List.flatten [hostOps1] = (hostOps1 : List (HloOp τ sig (Elt Ideal))) from rfl]
  after_results
  refine congrArg (fun z : FVec Ideal S4x4x64x256 .f32 => extractStridedSlice S2x4x64x256 ![2, 0, 0, 0] z slices_S4x4x64x256_S2x4x64x256_2_0_0_0) (?_ : _ = _)
  refine congrArg (fun z : FVec Ideal S4x256x256 .f32 => shapeCast S4x4x64x256 z shapeCasts_S4x256x256_S4x4x64x256) (?_ : _ = _)
  exact Pipeline.withArrays_arr spec0 arr_inj c _ _ 6

theorem split7 (c : Dev nD) : shapeCast S4x4x64x256 ((dats m 0 c).arrAt 7 (cfgs 0).N) shapeCasts_S4x256x256_S4x4x64x256 =
    fun i : S4x4x64x256.Idx => if 2 ≤ (i 0 : ℕ) then (m ((c : Thread nD τ).loc main_arg1) i) else V m c main_v4_3 (ix3 (i 0) ⟨(i 1).val * 64 + (i 2).val, Cert.Base.mul_add_lt (i 1).isLt (i 2).isLt rfl⟩ (i 3)) := by
  rw [final7 m c]
  funext i
  idx_vars i
  refine (back_at _ i0 i1 i2 i3).trans ?_
  show (if _ then _ else _) = _
  simp only [there_at, Nat.div_one]
  refine if_congr Iff.rfl ?_ ?_ <;> first | exact there_at _ i0 i1 i2 i3 | rfl

theorem tail7 (c : Dev nD) : Pipeline.afterTail₀ cfgs (dats m) 0 (V0 m) [hostOps1] c main_v12 =
    extractStridedSlice S2x4x64x256 ![2, 0, 0, 0] (fun i : S4x4x64x256.Idx => if 2 ≤ (i 0 : ℕ) then (m ((c : Thread nD τ).loc main_arg1) i) else V m c main_v4_3 (ix3 (i 0) ⟨(i 1).val * 64 + (i 2).val, Cert.Base.mul_add_lt (i 1).isLt (i 2).isLt rfl⟩ (i 3))) slices_S4x4x64x256_S2x4x64x256_2_0_0_0 := by
  rw [← split7 m c]
  unfold Pipeline.afterTail₀
  rw [show List.flatten [hostOps1] = (hostOps1 : List (HloOp τ sig (Elt Ideal))) from rfl]
  after_results
  refine congrArg (fun z : FVec Ideal S4x4x64x256 .f32 => extractStridedSlice S2x4x64x256 ![2, 0, 0, 0] z slices_S4x4x64x256_S2x4x64x256_2_0_0_0) (?_ : _ = _)
  refine congrArg (fun z : FVec Ideal S4x256x256 .f32 => shapeCast S4x4x64x256 z shapeCasts_S4x256x256_S4x4x64x256) (?_ : _ = _)
  exact Pipeline.withArrays_arr spec0 arr_inj c _ _ 7

end Cert.AdamRgUpIdeal.Val

end
-- ==== Proof.AAdamRgUp.lean ====
module

public import proofs.«01_k».proof.Defs
public import proofs.«01_k».proof.Proof.Gen.AdamRgUp.Frame
public import proofs.«01_k».proof.Proof.Gen.AdamRgUpReferenceIdeal.Run
public import proofs.«01_k».proof.Proof.VAdamRgUp

@[expose] public section

/- The claims about `AdamRgUp`: both frames, and its value beside the reference's. -/

set_option maxRecDepth 16384

noncomputable section

open Idealize.ShloMosaic Idealize.ShloMosaic.TcCoe Idealize.SL.Sem

namespace Cert.AAdamRgUp

theorem frameReference : Cert.quiescent_AdamRgUpReferenceIdeal := fun m ρ _ =>
  (θ_run Cert.AdamRgUpReferenceIdeal.defs _ _).mono (fun r h => ⟨fun c => (h c).2.2.2.2, sem_eq_zero_of_no_sems (by decide) r.2⟩)
    (Cert.AdamRgUpReferenceIdeal.Value.run (F := Ideal) m ρ)

set_option maxHeartbeats 1600000 in
theorem value : Cert.algebraic_AdamRgUpIdeal_AdamRgUpReferenceIdeal := by
  pair_intro
  · run_from Cert.AdamRgUpIdeal.Gen.run_main m g
    all_goals first
      | exact Cert.AdamRgUpIdeal.Gen.W_main_arg0 m _ c
      | exact Cert.AdamRgUpIdeal.Gen.W_main_arg1 m _ c
      | exact Cert.AdamRgUpIdeal.Gen.W_main_arg2 m _ c
      | exact Cert.AdamRgUpIdeal.Gen.W_main_arg3 m _ c
  · hlo_run
    · rw [Cert.AdamRgUpIdeal.Val.tail4 m c]
      funext i
      idx_vars i
      pointwise [Cert.Adam.delta, Cert.Adam.mom, Cert.Adam.sec]
    · rw [Cert.AdamRgUpIdeal.Val.tail5 m c]
      funext i
      idx_vars i
      pointwise [Cert.Adam.mom]
    · rw [Cert.AdamRgUpIdeal.Val.tail6 m c]
      funext i
      idx_vars i
      pointwise [Cert.Adam.sec]
    · rw [Cert.AdamRgUpIdeal.Val.tail7 m c]
      funext i
      idx_vars i
      pointwise []

end Cert.AAdamRgUp

end
-- ==== Proof.VAdamRgLow.lean ====
module

public import proofs.«01_k».proof.Proof.Gen.AdamRgLowIdeal.Frame
public import proofs.«01_k».proof.Proof.Base
public import proofs.«01_k».proof.Proof.Adam

@[expose] public section

/- What the AdamW update of a gate's matrices computes, over the extended reals. -/

set_option maxRecDepth 16384

noncomputable section

open Idealize.ShloMosaic Idealize.ShloMosaic.TcCoe Idealize.SL.Sem
open Idealize.ShloMosaic.Pipeline (Dat)

namespace Cert.AdamRgLowIdeal.Val

open Cert.AdamRgLowIdeal Cert.AdamRgLowIdeal.Gen

variable (m : (ℓ : Loc nD τ sig) → Buf (Elt Ideal) ℓ)

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] :=
  (by decide +kernel : ∀ t : Fin grid0.N, _)

theorem pay_m (g x : Vec Ideal S1x256x256 .f32) (r : Fin 256) (k : Fin 256) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x256x256 .f32) (r : Fin 256) (k : Fin 256) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x256x256 .f32) (r : Fin 256) (k : Fin 256) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x256x256 .f32) (r : Fin 256) (k : Fin 256) : k0_pay4 (k0_pay5 g) (ix3 0 r k) = g (ix3 0 r k) := by
  pointwise [k0_pay4, k0_pay5]

/-- The region finds the arguments with the two middle axes joined. -/
theorem entry0 (c : Dev nD) : V m c main_v0 = shapeCast S4x256x256 (m ((c : Thread nD τ).loc main_arg0)) shapeCasts_S4x4x64x256_S4x256x256 := by
  unfold V V0
  rw [show List.flatten [hostOps0] = (hostOps0 : List (HloOp τ sig (Elt Ideal))) from rfl]
  after_results
  try rfl

theorem entry1 (c : Dev nD) : V m c main_v1 = shapeCast S4x256x256 (m ((c : Thread nD τ).loc main_arg1)) shapeCasts_S4x4x64x256_S4x256x256 := by
  unfold V V0
  rw [show List.flatten [hostOps0] = (hostOps0 : List (HloOp τ sig (Elt Ideal))) from rfl]
  after_results
  try rfl

theorem entry2 (c : Dev nD) : V m c main_v2 = shapeCast S4x256x256 (m ((c : Thread nD τ).loc main_arg2)) shapeCasts_S4x4x64x256_S4x256x256 := by
  unfold V V0
  rw [show List.flatten [hostOps0] = (hostOps0 : List (HloOp τ sig (Elt Ideal))) from rfl]
  after_results
  try rfl

theorem entry3 (c : Dev nD) : V m c main_v3 = shapeCast S4x256x256 (m ((c : Thread nD τ).loc main_arg3)) shapeCasts_S4x4x64x256_S4x256x256 := by
  unfold V V0
  rw [show List.flatten [hostOps0] = (hostOps0 : List (HloOp τ sig (Elt Ideal))) from rfl]
  after_results
  try rfl

theorem entry4 (c : Dev nD) : V m c main_v8_0 = shapeCast S4x256x256 (m ((c : Thread nD τ).loc main_arg4)) shapeCasts_S4x4x64x256_S4x256x256 := by
  unfold V V0
  rw [show List.flatten [hostOps0] = (hostOps0 : List (HloOp τ sig (Elt Ideal))) from rfl]
  after_results
  try rfl

theorem entry5 (c : Dev nD) : V m c main_v8_1 = shapeCast S4x256x256 (m ((c : Thread nD τ).loc main_arg5)) shapeCasts_S4x4x64x256_S4x256x256 := by
  unfold V V0
  rw [show List.flatten [hostOps0] = (hostOps0 : List (HloOp τ sig (Elt Ideal))) from rfl]
  after_results
  try rfl

theorem entry6 (c : Dev nD) : V m c main_v8_2 = shapeCast S4x256x256 (m ((c : Thread nD τ).loc main_arg6)) shapeCasts_S4x4x64x256_S4x256x256 := by
  unfold V V0
  rw [show List.flatten [hostOps0] = (hostOps0 : List (HloOp τ sig (Elt Ideal))) from rfl]
  after_results
  try rfl

theorem entry7 (c : Dev nD) : V m c main_v8_3 = shapeCast S4x256x256 (m ((c : Thread nD τ).loc main_arg7)) shapeCasts_S4x4x64x256_S4x256x256 := by
  unfold V V0
  rw [show List.flatten [hostOps0] = (hostOps0 : List (HloOp τ sig (Elt Ideal))) from rfl]
  after_results
  try rfl

theorem final4 (c : Dev nD) : (dats m 0 c).arrAt 4 (cfgs 0).N =
    fun i => if (i 0 : ℕ) / 1 < 2 then Cert.Adam.delta (shapeCast S4x256x256 (m ((c : Thread nD τ).loc main_arg0)) shapeCasts_S4x4x64x256_S4x256x256 i) (shapeCast S4x256x256 (m ((c : Thread nD τ).loc main_arg1)) shapeCasts_S4x4x64x256_S4x256x256 i) (shapeCast S4x256x256 (m ((c : Thread nD τ).loc main_arg2)) shapeCasts_S4x4x64x256_S4x256x256 i) (shapeCast S4x256x256 (m ((c : Thread nD τ).loc main_arg3)) shapeCasts_S4x4x64x256_S4x256x256 i) else V m c main_v8_0 i := by
  refine (dats m 0 c).arrAt_eq_of_coversWhere 4 _ (fun β => β (0 : Fin _) < 2) (by decide +kernel) (fun t _ y => ?_) (fun j => Iff.rfl)
  blk_simp
  rw [after0_4]; unfold outsAt0; frame_out
  idx_vars y
  obtain rfl : y0 = 0 := Fin.eq_zero y0
  refine (pay_d _ _ _ _ _ _).trans ?_
  congr 1 <;> (blk_simp [iblk, idx t]; first | rw [entry0] | rw [entry1] | rw [entry2] | rw [entry3]) <;> blk_ext [idx t]

theorem final5 (c : Dev nD) : (dats m 0 c).arrAt 5 (cfgs 0).N =
    fun i => if (i 0 : ℕ) / 1 < 2 then Cert.Adam.mom (shapeCast S4x256x256 (m ((c : Thread nD τ).loc main_arg1)) shapeCasts_S4x4x64x256_S4x256x256 i) (shapeCast S4x256x256 (m ((c : Thread nD τ).loc main_arg2)) shapeCasts_S4x4x64x256_S4x256x256 i) else V m c main_v8_1 i := by
  refine (dats m 0 c).arrAt_eq_of_coversWhere 5 _ (fun β => β (0 : Fin _) < 2) (by decide +kernel) (fun t _ y => ?_) (fun j => Iff.rfl)
  blk_simp
  rw [after0_5]; unfold outsAt0; frame_out
  idx_vars y
  obtain rfl : y0 = 0 := Fin.eq_zero y0
  refine (pay_m _ _ _ _).trans ?_
  congr 1 <;> (blk_simp [iblk, idx t]; first | rw [entry0] | rw [entry1] | rw [entry2] | rw [entry3]) <;> blk_ext [idx t]

theorem final6 (c : Dev nD) : (dats m 0 c).arrAt 6 (cfgs 0).N =
    fun i => if (i 0 : ℕ) / 1 < 2 then Cert.Adam.sec (shapeCast S4x256x256 (m ((c : Thread nD τ).loc main_arg1)) shapeCasts_S4x4x64x256_S4x256x256 i) (shapeCast S4x256x256 (m ((c : Thread nD τ).loc main_arg3)) shapeCasts_S4x4x64x256_S4x256x256 i) else V m c main_v8_2 i := by
  refine (dats m 0 c).arrAt_eq_of_coversWhere 6 _ (fun β => β (0 : Fin _) < 2) (by decide +kernel) (fun t _ y => ?_) (fun j => Iff.rfl)
  blk_simp
  rw [after0_6]; unfold outsAt0; frame_out
  idx_vars y
  obtain rfl : y0 = 0 := Fin.eq_zero y0
  refine (pay_v _ _ _ _).trans ?_
  congr 1 <;> (blk_simp [iblk, idx t]; first | rw [entry0] | rw [entry1] | rw [entry2] | rw [entry3]) <;> blk_ext [idx t]

theorem final7 (c : Dev nD) : (dats m 0 c).arrAt 7 (cfgs 0).N =
    fun i => if (i 0 : ℕ) / 1 < 2 then (shapeCast S4x256x256 (m ((c : Thread nD τ).loc main_arg1)) shapeCasts_S4x4x64x256_S4x256x256 i) else V m c main_v8_3 i := by
  refine (dats m 0 c).arrAt_eq_of_coversWhere 7 _ (fun β => β (0 : Fin _) < 2) (by decide +kernel) (fun t _ y => ?_) (fun j => Iff.rfl)
  blk_simp
  rw [after0_7]; unfold outsAt0; frame_out
  idx_vars y
  obtain rfl : y0 = 0 := Fin.eq_zero y0
  refine (pay_g _ _ _).trans ?_
  congr 1 <;> (blk_simp [iblk, idx t]; first | rw [entry0] | rw [entry1] | rw [entry2] | rw [entry3]) <;> blk_ext [idx t]

theorem back_at (z : FVec Ideal S4x256x256 .f32) (a b : Fin 4) (r : Fin 64) (k : Fin 256) :
    shapeCast S4x4x64x256 z shapeCasts_S4x256x256_S4x4x64x256 (ix4 a b r k) =
      z (ix3 a ⟨b.val * 64 + r.val, Cert.Base.mul_add_lt b.isLt r.isLt rfl⟩ k) := by
  pointwise

theorem there_at (x : FVec Ideal S4x4x64x256 .f32) (a b : Fin 4) (r : Fin 64) (k : Fin 256) :
    shapeCast S4x256x256 x shapeCasts_S4x4x64x256_S4x256x256 (ix3 a ⟨b.val * 64 + r.val, Cert.Base.mul_add_lt b.isLt r.isLt rfl⟩ k) =
      x (ix4 a b r k) := by
  pointwise

theorem arr_inj : Function.Injective (Pipeline.arrRef spec0) := by decide

theorem split4 (c : Dev nD) : shapeCast S4x4x64x256 ((dats m 0 c).arrAt 4 (cfgs 0).N) shapeCasts_S4x256x256_S4x4x64x256 =
    fun i : S4x4x64x256.Idx => if (i 0 : ℕ) < 2 then Cert.Adam.delta (m ((c : Thread nD τ).loc main_arg0) i) (m ((c : Thread nD τ).loc main_arg1) i) (m ((c : Thread nD τ).loc main_arg2) i) (m ((c : Thread nD τ).loc main_arg3) i) else (m ((c : Thread nD τ).loc main_arg4) i) := by
  rw [final4 m c]
  rw [entry4]
  funext i
  idx_vars i
  refine (back_at _ i0 i1 i2 i3).trans ?_
  show (if _ then _ else _) = _
  simp only [there_at, Nat.div_one]
  refine if_congr Iff.rfl ?_ ?_ <;> first | exact there_at _ i0 i1 i2 i3 | rfl

theorem tail4 (c : Dev nD) : Pipeline.afterTail₀ cfgs (dats m) 0 (V0 m) [hostOps1] c main_v9 =
    (fun i : S4x4x64x256.Idx => if (i 0 : ℕ) < 2 then Cert.Adam.delta (m ((c : Thread nD τ).loc main_arg0) i) (m ((c : Thread nD τ).loc main_arg1) i) (m ((c : Thread nD τ).loc main_arg2) i) (m ((c : Thread nD τ).loc main_arg3) i) else (m ((c : Thread nD τ).loc main_arg4) i)) := by
  rw [← split4 m c]
  unfold Pipeline.afterTail₀
  rw [show List.flatten [hostOps1] = (hostOps1 : List (HloOp τ sig (Elt Ideal))) from rfl]
  after_results
  refine congrArg (fun z : FVec Ideal S4x256x256 .f32 => shapeCast S4x4x64x256 z shapeCasts_S4x256x256_S4x4x64x256) (?_ : _ = _)
  exact Pipeline.withArrays_arr spec0 arr_inj c _ _ 4

theorem split5 (c : Dev nD) : shapeCast S4x4x64x256 ((dats m 0 c).arrAt 5 (cfgs 0).N) shapeCasts_S4x256x256_S4x4x64x256 =
    fun i : S4x4x64x256.Idx => if (i 0 : ℕ) < 2 then Cert.Adam.mom (m ((c : Thread nD τ).loc main_arg1) i) (m ((c : Thread nD τ).loc main_arg2) i) else (m ((c : Thread nD τ).loc main_arg5) i) := by
  rw [final5 m c]
  rw [entry5]
  funext i
  idx_vars i
  refine (back_at _ i0 i1 i2 i3).trans ?_
  show (if _ then _ else _) = _
  simp only [there_at, Nat.div_one]
  refine if_congr Iff.rfl ?_ ?_ <;> first | exact there_at _ i0 i1 i2 i3 | rfl

theorem tail5 (c : Dev nD) : Pipeline.afterTail₀ cfgs (dats m) 0 (V0 m) [hostOps1] c main_v10 =
    (fun i : S4x4x64x256.Idx => if (i 0 : ℕ) < 2 then Cert.Adam.mom (m ((c : Thread nD τ).loc main_arg1) i) (m ((c : Thread nD τ).loc main_arg2) i) else (m ((c : Thread nD τ).loc main_arg5) i)) := by
  rw [← split5 m c]
  unfold Pipeline.afterTail₀
  rw [show List.flatten [hostOps1] = (hostOps1 : List (HloOp τ sig (Elt Ideal))) from rfl]
  after_results
  refine congrArg (fun z : FVec Ideal S4x256x256 .f32 => shapeCast S4x4x64x256 z shapeCasts_S4x256x256_S4x4x64x256) (?_ : _ = _)
  exact Pipeline.withArrays_arr spec0 arr_inj c _ _ 5

theorem split6 (c : Dev nD) : shapeCast S4x4x64x256 ((dats m 0 c).arrAt 6 (cfgs 0).N) shapeCasts_S4x256x256_S4x4x64x256 =
    fun i : S4x4x64x256.Idx => if (i 0 : ℕ) < 2 then Cert.Adam.sec (m ((c : Thread nD τ).loc main_arg1) i) (m ((c : Thread nD τ).loc main_arg3) i) else (m ((c : Thread nD τ).loc main_arg6) i) := by
  rw [final6 m c]
  rw [entry6]
  funext i
  idx_vars i
  refine (back_at _ i0 i1 i2 i3).trans ?_
  show (if _ then _ else _) = _
  simp only [there_at, Nat.div_one]
  refine if_congr Iff.rfl ?_ ?_ <;> first | exact there_at _ i0 i1 i2 i3 | rfl

theorem tail6 (c : Dev nD) : Pipeline.afterTail₀ cfgs (dats m) 0 (V0 m) [hostOps1] c main_v11 =
    (fun i : S4x4x64x256.Idx => if (i 0 : ℕ) < 2 then Cert.Adam.sec (m ((c : Thread nD τ).loc main_arg1) i) (m ((c : Thread nD τ).loc main_arg3) i) else (m ((c : Thread nD τ).loc main_arg6) i)) := by
  rw [← split6 m c]
  unfold Pipeline.afterTail₀
  rw [show List.flatten [hostOps1] = (hostOps1 : List (HloOp τ sig (Elt Ideal))) from rfl]
  after_results
  refine congrArg (fun z : FVec Ideal S4x256x256 .f32 => shapeCast S4x4x64x256 z shapeCasts_S4x256x256_S4x4x64x256) (?_ : _ = _)
  exact Pipeline.withArrays_arr spec0 arr_inj c _ _ 6

theorem split7 (c : Dev nD) : shapeCast S4x4x64x256 ((dats m 0 c).arrAt 7 (cfgs 0).N) shapeCasts_S4x256x256_S4x4x64x256 =
    fun i : S4x4x64x256.Idx => if (i 0 : ℕ) < 2 then (m ((c : Thread nD τ).loc main_arg1) i) else (m ((c : Thread nD τ).loc main_arg7) i) := by
  rw [final7 m c]
  rw [entry7]
  funext i
  idx_vars i
  refine (back_at _ i0 i1 i2 i3).trans ?_
  show (if _ then _ else _) = _
  simp only [there_at, Nat.div_one]
  refine if_congr Iff.rfl ?_ ?_ <;> first | exact there_at _ i0 i1 i2 i3 | rfl

theorem tail7 (c : Dev nD) : Pipeline.afterTail₀ cfgs (dats m) 0 (V0 m) [hostOps1] c main_v12 =
    (fun i : S4x4x64x256.Idx => if (i 0 : ℕ) < 2 then (m ((c : Thread nD τ).loc main_arg1) i) else (m ((c : Thread nD τ).loc main_arg7) i)) := by
  rw [← split7 m c]
  unfold Pipeline.afterTail₀
  rw [show List.flatten [hostOps1] = (hostOps1 : List (HloOp τ sig (Elt Ideal))) from rfl]
  after_results
  refine congrArg (fun z : FVec Ideal S4x256x256 .f32 => shapeCast S4x4x64x256 z shapeCasts_S4x256x256_S4x4x64x256) (?_ : _ = _)
  exact Pipeline.withArrays_arr spec0 arr_inj c _ _ 7

end Cert.AdamRgLowIdeal.Val

end
-- ==== Proof.AAdamRgLow.lean ====
module

public import proofs.«01_k».proof.Defs
public import proofs.«01_k».proof.Proof.Gen.AdamRgLow.Frame
public import proofs.«01_k».proof.Proof.Gen.AdamRgLowReferenceIdeal.Run
public import proofs.«01_k».proof.Proof.VAdamRgLow
public import proofs.«01_k».proof.Proof.Halves

@[expose] public section

/- The claims about `AdamRgLow`: both frames, and its value beside the reference's. -/

set_option maxRecDepth 16384

noncomputable section

open Idealize.ShloMosaic Idealize.ShloMosaic.TcCoe Idealize.SL.Sem

namespace Cert.AAdamRgLow

theorem frameReference : Cert.quiescent_AdamRgLowReferenceIdeal := fun m ρ _ =>
  (θ_run Cert.AdamRgLowReferenceIdeal.defs _ _).mono (fun r h => ⟨fun c => (h c).2.2.2.2, sem_eq_zero_of_no_sems (by decide) r.2⟩)
    (Cert.AdamRgLowReferenceIdeal.Value.run (F := Ideal) m ρ)

set_option maxHeartbeats 1600000 in
theorem value : Cert.algebraic_AdamRgLowIdeal_AdamRgLowReferenceIdeal := by
  pair_intro
  · run_from Cert.AdamRgLowIdeal.Gen.run_main m g
    all_goals first
      | exact Cert.AdamRgLowIdeal.Gen.W_main_arg0 m _ c
      | exact Cert.AdamRgLowIdeal.Gen.W_main_arg1 m _ c
      | exact Cert.AdamRgLowIdeal.Gen.W_main_arg2 m _ c
      | exact Cert.AdamRgLowIdeal.Gen.W_main_arg3 m _ c
      | exact Cert.AdamRgLowIdeal.Gen.W_main_arg4 m _ c
      | exact Cert.AdamRgLowIdeal.Gen.W_main_arg5 m _ c
      | exact Cert.AdamRgLowIdeal.Gen.W_main_arg6 m _ c
      | exact Cert.AdamRgLowIdeal.Gen.W_main_arg7 m _ c
  · hlo_run
    · rw [Cert.AdamRgLowIdeal.Val.tail4 m c]
      funext i
      idx_vars i
      pointwise [Cert.Adam.delta, Cert.Adam.mom, Cert.Adam.sec]
      by_cases h : (i0 : ℕ) < 2
      · simp only [h, ↓reduceDIte, ↓reduceIte, hagree c]
      · simp only [h, ↓reduceDIte, ↓reduceIte, Cert.Halves.upper i0 h, hagree c]
    · rw [Cert.AdamRgLowIdeal.Val.tail5 m c]
      funext i
      idx_vars i
      pointwise [Cert.Adam.mom]
      by_cases h : (i0 : ℕ) < 2
      · simp only [h, ↓reduceDIte, ↓reduceIte, hagree c]
      · simp only [h, ↓reduceDIte, ↓reduceIte, Cert.Halves.upper i0 h, hagree c]
    · rw [Cert.AdamRgLowIdeal.Val.tail6 m c]
      funext i
      idx_vars i
      pointwise [Cert.Adam.sec]
      by_cases h : (i0 : ℕ) < 2
      · simp only [h, ↓reduceDIte, ↓reduceIte, hagree c]
      · simp only [h, ↓reduceDIte, ↓reduceIte, Cert.Halves.upper i0 h, hagree c]
    · rw [Cert.AdamRgLowIdeal.Val.tail7 m c]
      funext i
      idx_vars i
      pointwise []
      by_cases h : (i0 : ℕ) < 2
      · simp only [h, ↓reduceDIte, ↓reduceIte, hagree c]
      · simp only [h, ↓reduceDIte, ↓reduceIte, Cert.Halves.upper i0 h, hagree c]

end Cert.AAdamRgLow

end
-- ==== Proof.VAdamOutUp.lean ====
module

public import proofs.«01_k».proof.Proof.Gen.AdamOutUpIdeal.Frame
public import proofs.«01_k».proof.Proof.Base
public import proofs.«01_k».proof.Proof.Adam

@[expose] public section

/- What the AdamW update of a matrix weight computes, over the extended reals. -/

set_option maxRecDepth 16384

noncomputable section

open Idealize.ShloMosaic Idealize.ShloMosaic.TcCoe Idealize.SL.Sem
open Idealize.ShloMosaic.Pipeline (Dat)

namespace Cert.AdamOutUpIdeal.Val

open Cert.AdamOutUpIdeal Cert.AdamOutUpIdeal.Gen

variable (m : (ℓ : Loc nD τ sig) → Buf (Elt Ideal) ℓ)

theorem idx : ∀ t : Fin cfg0.N, win0_0.index t = ![2 + t.val / 1, t.val % 1, 0] ∧ win0_1.index t = ![2 + t.val / 1, t.val % 1, 0] ∧ win0_2.index t = ![2 + t.val / 1, t.val % 1, 0] ∧ win0_3.index t = ![2 + t.val / 1, t.val % 1, 0] ∧ win0_4.index t = ![2 + t.val / 1, t.val % 1, 0] ∧ win0_5.index t = ![2 + t.val / 1, t.val % 1, 0] ∧ win0_6.index t = ![2 + t.val / 1, t.val % 1, 0] ∧ win0_7.index t = ![2 + t.val / 1, t.val % 1, 0] :=
  (by decide +kernel : ∀ t : Fin grid0.N, _)

theorem pay_m (g x : Vec Ideal S1x256x1024 .f32) (r : Fin 256) (k : Fin 1024) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x256x1024 .f32) (r : Fin 256) (k : Fin 1024) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x256x1024 .f32) (r : Fin 256) (k : Fin 1024) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x256x1024 .f32) (r : Fin 256) (k : Fin 1024) : k0_pay4 (k0_pay5 g) (ix3 0 r k) = g (ix3 0 r k) := by
  pointwise [k0_pay4, k0_pay5]

theorem final4 (c : Dev nD) : (dats m 0 c).arrAt 4 (cfgs 0).N =
    fun i => if 2 ≤ (i 0 : ℕ) / 1 then Cert.Adam.delta (m ((c : Thread nD τ).loc main_arg0) i) (m ((c : Thread nD τ).loc main_arg1) i) (m ((c : Thread nD τ).loc main_arg2) i) (m ((c : Thread nD τ).loc main_arg3) i) else V m c main_v0_0 i := by
  refine (dats m 0 c).arrAt_eq_of_coversWhere 4 _ (fun β => 2 ≤ β (0 : Fin _)) (by decide +kernel) (fun t _ y => ?_) (fun j => Iff.rfl)
  blk_simp
  rw [after0_4]; frame_out
  idx_vars y
  obtain rfl : y0 = 0 := Fin.eq_zero y0
  refine (pay_d _ _ _ _ _ _).trans ?_
  congr 1 <;> blk_ext [iblk, V, idx t]

theorem final5 (c : Dev nD) : (dats m 0 c).arrAt 5 (cfgs 0).N =
    fun i => if 2 ≤ (i 0 : ℕ) / 1 then Cert.Adam.mom (m ((c : Thread nD τ).loc main_arg1) i) (m ((c : Thread nD τ).loc main_arg2) i) else V m c main_v0_1 i := by
  refine (dats m 0 c).arrAt_eq_of_coversWhere 5 _ (fun β => 2 ≤ β (0 : Fin _)) (by decide +kernel) (fun t _ y => ?_) (fun j => Iff.rfl)
  blk_simp
  rw [after0_5]; frame_out
  idx_vars y
  obtain rfl : y0 = 0 := Fin.eq_zero y0
  refine (pay_m _ _ _ _).trans ?_
  congr 1 <;> blk_ext [iblk, V, idx t]

theorem final6 (c : Dev nD) : (dats m 0 c).arrAt 6 (cfgs 0).N =
    fun i => if 2 ≤ (i 0 : ℕ) / 1 then Cert.Adam.sec (m ((c : Thread nD τ).loc main_arg1) i) (m ((c : Thread nD τ).loc main_arg3) i) else V m c main_v0_2 i := by
  refine (dats m 0 c).arrAt_eq_of_coversWhere 6 _ (fun β => 2 ≤ β (0 : Fin _)) (by decide +kernel) (fun t _ y => ?_) (fun j => Iff.rfl)
  blk_simp
  rw [after0_6]; frame_out
  idx_vars y
  obtain rfl : y0 = 0 := Fin.eq_zero y0
  refine (pay_v _ _ _ _).trans ?_
  congr 1 <;> blk_ext [iblk, V, idx t]

theorem final7 (c : Dev nD) : (dats m 0 c).arrAt 7 (cfgs 0).N =
    fun i => if 2 ≤ (i 0 : ℕ) / 1 then m ((c : Thread nD τ).loc main_arg1) i else V m c main_v0_3 i := by
  refine (dats m 0 c).arrAt_eq_of_coversWhere 7 _ (fun β => 2 ≤ β (0 : Fin _)) (by decide +kernel) (fun t _ y => ?_) (fun j => Iff.rfl)
  blk_simp
  rw [after0_7]; frame_out
  idx_vars y
  obtain rfl : y0 = 0 := Fin.eq_zero y0
  refine (pay_g _ _ _).trans ?_
  congr 1 <;> blk_ext [iblk, V, idx t]

theorem arr_inj : Function.Injective (Pipeline.arrRef spec0) := by decide

theorem tail4 (c : Dev nD) : Pipeline.afterTail₀ cfgs (dats m) 0 (V0 m) [hostOps1] c main_v1 =
    extractStridedSlice S2x256x1024 ![2, 0, 0] (fun i : S4x256x1024.Idx => if 2 ≤ (i 0 : ℕ) / 1 then Cert.Adam.delta (m ((c : Thread nD τ).loc main_arg0) i) (m ((c : Thread nD τ).loc main_arg1) i) (m ((c : Thread nD τ).loc main_arg2) i) (m ((c : Thread nD τ).loc main_arg3) i) else V m c main_v0_0 i) slices_S4x256x1024_S2x256x1024_2_0_0 := by
  unfold Pipeline.afterTail₀
  rw [show List.flatten [hostOps1] = (hostOps1 : List (HloOp τ sig (Elt Ideal))) from rfl]
  after_results
  refine congrArg (fun z : FVec Ideal S4x256x1024 .f32 => extractStridedSlice S2x256x1024 ![2, 0, 0] z slices_S4x256x1024_S2x256x1024_2_0_0) (?_ : _ = _)
  exact (Pipeline.withArrays_arr spec0 arr_inj c _ _ 4).trans (final4 m c)

theorem tail5 (c : Dev nD) : Pipeline.afterTail₀ cfgs (dats m) 0 (V0 m) [hostOps1] c main_v2 =
    extractStridedSlice S2x256x1024 ![2, 0, 0] (fun i : S4x256x1024.Idx => if 2 ≤ (i 0 : ℕ) / 1 then Cert.Adam.mom (m ((c : Thread nD τ).loc main_arg1) i) (m ((c : Thread nD τ).loc main_arg2) i) else V m c main_v0_1 i) slices_S4x256x1024_S2x256x1024_2_0_0 := by
  unfold Pipeline.afterTail₀
  rw [show List.flatten [hostOps1] = (hostOps1 : List (HloOp τ sig (Elt Ideal))) from rfl]
  after_results
  refine congrArg (fun z : FVec Ideal S4x256x1024 .f32 => extractStridedSlice S2x256x1024 ![2, 0, 0] z slices_S4x256x1024_S2x256x1024_2_0_0) (?_ : _ = _)
  exact (Pipeline.withArrays_arr spec0 arr_inj c _ _ 5).trans (final5 m c)

theorem tail6 (c : Dev nD) : Pipeline.afterTail₀ cfgs (dats m) 0 (V0 m) [hostOps1] c main_v3 =
    extractStridedSlice S2x256x1024 ![2, 0, 0] (fun i : S4x256x1024.Idx => if 2 ≤ (i 0 : ℕ) / 1 then Cert.Adam.sec (m ((c : Thread nD τ).loc main_arg1) i) (m ((c : Thread nD τ).loc main_arg3) i) else V m c main_v0_2 i) slices_S4x256x1024_S2x256x1024_2_0_0 := by
  unfold Pipeline.afterTail₀
  rw [show List.flatten [hostOps1] = (hostOps1 : List (HloOp τ sig (Elt Ideal))) from rfl]
  after_results
  refine congrArg (fun z : FVec Ideal S4x256x1024 .f32 => extractStridedSlice S2x256x1024 ![2, 0, 0] z slices_S4x256x1024_S2x256x1024_2_0_0) (?_ : _ = _)
  exact (Pipeline.withArrays_arr spec0 arr_inj c _ _ 6).trans (final6 m c)

theorem tail7 (c : Dev nD) : Pipeline.afterTail₀ cfgs (dats m) 0 (V0 m) [hostOps1] c main_v4 =
    extractStridedSlice S2x256x1024 ![2, 0, 0] (fun i : S4x256x1024.Idx => if 2 ≤ (i 0 : ℕ) / 1 then m ((c : Thread nD τ).loc main_arg1) i else V m c main_v0_3 i) slices_S4x256x1024_S2x256x1024_2_0_0 := by
  unfold Pipeline.afterTail₀
  rw [show List.flatten [hostOps1] = (hostOps1 : List (HloOp τ sig (Elt Ideal))) from rfl]
  after_results
  refine congrArg (fun z : FVec Ideal S4x256x1024 .f32 => extractStridedSlice S2x256x1024 ![2, 0, 0] z slices_S4x256x1024_S2x256x1024_2_0_0) (?_ : _ = _)
  exact (Pipeline.withArrays_arr spec0 arr_inj c _ _ 7).trans (final7 m c)

end Cert.AdamOutUpIdeal.Val

end
-- ==== Proof.AAdamOutUp.lean ====
module

public import proofs.«01_k».proof.Defs
public import proofs.«01_k».proof.Proof.Gen.AdamOutUp.Frame
public import proofs.«01_k».proof.Proof.Gen.AdamOutUpReferenceIdeal.Run
public import proofs.«01_k».proof.Proof.VAdamOutUp

@[expose] public section

/- The claims about `AdamOutUp`: both frames, and its value beside the reference's. -/

set_option maxRecDepth 16384

noncomputable section

open Idealize.ShloMosaic Idealize.ShloMosaic.TcCoe Idealize.SL.Sem

namespace Cert.AAdamOutUp

theorem frameReference : Cert.quiescent_AdamOutUpReferenceIdeal := fun m ρ _ =>
  (θ_run Cert.AdamOutUpReferenceIdeal.defs _ _).mono (fun r h => ⟨fun c => (h c).2.2.2.2, sem_eq_zero_of_no_sems (by decide) r.2⟩)
    (Cert.AdamOutUpReferenceIdeal.Value.run (F := Ideal) m ρ)

set_option maxHeartbeats 1600000 in
theorem value : Cert.algebraic_AdamOutUpIdeal_AdamOutUpReferenceIdeal := by
  pair_intro
  · run_from Cert.AdamOutUpIdeal.Gen.run_main m g
  · hlo_run
    · rw [Cert.AdamOutUpIdeal.Val.tail4 m c]
      funext i
      idx_vars i
      pointwise [Cert.Adam.delta, Cert.Adam.mom, Cert.Adam.sec]
    · rw [Cert.AdamOutUpIdeal.Val.tail5 m c]
      funext i
      idx_vars i
      pointwise [Cert.Adam.mom]
    · rw [Cert.AdamOutUpIdeal.Val.tail6 m c]
      funext i
      idx_vars i
      pointwise [Cert.Adam.sec]
    · rw [Cert.AdamOutUpIdeal.Val.tail7 m c]
      funext i
      idx_vars i
      pointwise []

end Cert.AAdamOutUp

end
-- ==== Proof.VAdamOutLow.lean ====
module

public import proofs.«01_k».proof.Proof.Gen.AdamOutLowIdeal.Frame
public import proofs.«01_k».proof.Proof.Base
public import proofs.«01_k».proof.Proof.Adam

@[expose] public section

/- What the AdamW update of a matrix weight computes, over the extended reals. -/

set_option maxRecDepth 16384

noncomputable section

open Idealize.ShloMosaic Idealize.ShloMosaic.TcCoe Idealize.SL.Sem
open Idealize.ShloMosaic.Pipeline (Dat)

namespace Cert.AdamOutLowIdeal.Val

open Cert.AdamOutLowIdeal Cert.AdamOutLowIdeal.Gen

variable (m : (ℓ : Loc nD τ sig) → Buf (Elt Ideal) ℓ)

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] :=
  (by decide +kernel : ∀ t : Fin grid0.N, _)

theorem pay_m (g x : Vec Ideal S1x256x1024 .f32) (r : Fin 256) (k : Fin 1024) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x256x1024 .f32) (r : Fin 256) (k : Fin 1024) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x256x1024 .f32) (r : Fin 256) (k : Fin 1024) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x256x1024 .f32) (r : Fin 256) (k : Fin 1024) : k0_pay4 (k0_pay5 g) (ix3 0 r k) = g (ix3 0 r k) := by
  pointwise [k0_pay4, k0_pay5]

/-- The region finds the arguments, and in each result the copy of the array the upper layers' call left. -/
theorem in0 (c : Dev nD) : V m c main_arg0 = m ((c : Thread nD τ).loc main_arg0) := by
  unfold V
  after_results

theorem in1 (c : Dev nD) : V m c main_arg1 = m ((c : Thread nD τ).loc main_arg1) := by
  unfold V
  after_results

theorem in2 (c : Dev nD) : V m c main_arg2 = m ((c : Thread nD τ).loc main_arg2) := by
  unfold V
  after_results

theorem in3 (c : Dev nD) : V m c main_arg3 = m ((c : Thread nD τ).loc main_arg3) := by
  unfold V
  after_results

theorem entry0 (c : Dev nD) : V m c main_v0_0 = m ((c : Thread nD τ).loc main_arg4) := by
  unfold V
  after_results
  try rfl

theorem entry1 (c : Dev nD) : V m c main_v0_1 = m ((c : Thread nD τ).loc main_arg5) := by
  unfold V
  after_results
  try rfl

theorem entry2 (c : Dev nD) : V m c main_v0_2 = m ((c : Thread nD τ).loc main_arg6) := by
  unfold V
  after_results
  try rfl

theorem entry3 (c : Dev nD) : V m c main_v0_3 = m ((c : Thread nD τ).loc main_arg7) := by
  unfold V
  after_results
  try rfl

theorem final4 (c : Dev nD) : (dats m 0 c).arrAt 4 (cfgs 0).N =
    fun i => if (i 0 : ℕ) / 1 < 2 then Cert.Adam.delta (m ((c : Thread nD τ).loc main_arg0) i) (m ((c : Thread nD τ).loc main_arg1) i) (m ((c : Thread nD τ).loc main_arg2) i) (m ((c : Thread nD τ).loc main_arg3) i) else V m c main_v0_0 i := by
  refine (dats m 0 c).arrAt_eq_of_coversWhere 4 _ (fun β => β (0 : Fin _) < 2) (by decide +kernel) (fun t _ y => ?_) (fun j => Iff.rfl)
  blk_simp
  rw [after0_4]; unfold outsAt0; frame_out
  idx_vars y
  obtain rfl : y0 = 0 := Fin.eq_zero y0
  refine (pay_d _ _ _ _ _ _).trans ?_
  congr 1 <;> (blk_simp [iblk, idx t]; first | rw [in0] | rw [in1] | rw [in2] | rw [in3]) <;> blk_ext [idx t]

theorem final5 (c : Dev nD) : (dats m 0 c).arrAt 5 (cfgs 0).N =
    fun i => if (i 0 : ℕ) / 1 < 2 then Cert.Adam.mom (m ((c : Thread nD τ).loc main_arg1) i) (m ((c : Thread nD τ).loc main_arg2) i) else V m c main_v0_1 i := by
  refine (dats m 0 c).arrAt_eq_of_coversWhere 5 _ (fun β => β (0 : Fin _) < 2) (by decide +kernel) (fun t _ y => ?_) (fun j => Iff.rfl)
  blk_simp
  rw [after0_5]; unfold outsAt0; frame_out
  idx_vars y
  obtain rfl : y0 = 0 := Fin.eq_zero y0
  refine (pay_m _ _ _ _).trans ?_
  congr 1 <;> (blk_simp [iblk, idx t]; first | rw [in0] | rw [in1] | rw [in2] | rw [in3]) <;> blk_ext [idx t]

theorem final6 (c : Dev nD) : (dats m 0 c).arrAt 6 (cfgs 0).N =
    fun i => if (i 0 : ℕ) / 1 < 2 then Cert.Adam.sec (m ((c : Thread nD τ).loc main_arg1) i) (m ((c : Thread nD τ).loc main_arg3) i) else V m c main_v0_2 i := by
  refine (dats m 0 c).arrAt_eq_of_coversWhere 6 _ (fun β => β (0 : Fin _) < 2) (by decide +kernel) (fun t _ y => ?_) (fun j => Iff.rfl)
  blk_simp
  rw [after0_6]; unfold outsAt0; frame_out
  idx_vars y
  obtain rfl : y0 = 0 := Fin.eq_zero y0
  refine (pay_v _ _ _ _).trans ?_
  congr 1 <;> (blk_simp [iblk, idx t]; first | rw [in0] | rw [in1] | rw [in2] | rw [in3]) <;> blk_ext [idx t]

theorem final7 (c : Dev nD) : (dats m 0 c).arrAt 7 (cfgs 0).N =
    fun i => if (i 0 : ℕ) / 1 < 2 then m ((c : Thread nD τ).loc main_arg1) i else V m c main_v0_3 i := by
  refine (dats m 0 c).arrAt_eq_of_coversWhere 7 _ (fun β => β (0 : Fin _) < 2) (by decide +kernel) (fun t _ y => ?_) (fun j => Iff.rfl)
  blk_simp
  rw [after0_7]; unfold outsAt0; frame_out
  idx_vars y
  obtain rfl : y0 = 0 := Fin.eq_zero y0
  refine (pay_g _ _ _).trans ?_
  congr 1 <;> (blk_simp [iblk, idx t]; first | rw [in0] | rw [in1] | rw [in2] | rw [in3]) <;> blk_ext [idx t]

end Cert.AdamOutLowIdeal.Val

end
-- ==== Proof.AAdamOutLow.lean ====
module

public import proofs.«01_k».proof.Defs
public import proofs.«01_k».proof.Proof.Gen.AdamOutLow.Frame
public import proofs.«01_k».proof.Proof.Gen.AdamOutLowReferenceIdeal.Run
public import proofs.«01_k».proof.Proof.VAdamOutLow
public import proofs.«01_k».proof.Proof.Halves

@[expose] public section

/- The claims about `AdamOutLow`: both frames, and its value beside the reference's. -/

set_option maxRecDepth 16384

noncomputable section

open Idealize.ShloMosaic Idealize.ShloMosaic.TcCoe Idealize.SL.Sem

namespace Cert.AAdamOutLow

theorem frameReference : Cert.quiescent_AdamOutLowReferenceIdeal := fun m ρ _ =>
  (θ_run Cert.AdamOutLowReferenceIdeal.defs _ _).mono (fun r h => ⟨fun c => (h c).2.2.2.2, sem_eq_zero_of_no_sems (by decide) r.2⟩)
    (Cert.AdamOutLowReferenceIdeal.Value.run (F := Ideal) m ρ)

set_option maxHeartbeats 1600000 in
theorem value : Cert.algebraic_AdamOutLowIdeal_AdamOutLowReferenceIdeal := by
  pair_intro
  · run_from Cert.AdamOutLowIdeal.Gen.run_main m g
  · hlo_run
    · rw [Cert.AdamOutLowIdeal.Val.final4 m c]
      funext i
      idx_vars i
      pointwise [Cert.Adam.delta, Cert.Adam.mom, Cert.Adam.sec]
      by_cases h : (i0 : ℕ) < 2
      · simp only [h, ↓reduceDIte, ↓reduceIte, hagree c]
      · simp only [h, ↓reduceDIte, ↓reduceIte, Cert.Halves.upper i0 h, hagree c]
        exact (congrFun (Cert.AdamOutLowIdeal.Val.entry0 m c) _).symm
    · rw [Cert.AdamOutLowIdeal.Val.final5 m c]
      funext i
      idx_vars i
      pointwise [Cert.Adam.mom]
      by_cases h : (i0 : ℕ) < 2
      · simp only [h, ↓reduceDIte, ↓reduceIte, hagree c]
      · simp only [h, ↓reduceDIte, ↓reduceIte, Cert.Halves.upper i0 h, hagree c]
        exact (congrFun (Cert.AdamOutLowIdeal.Val.entry1 m c) _).symm
    · rw [Cert.AdamOutLowIdeal.Val.final6 m c]
      funext i
      idx_vars i
      pointwise [Cert.Adam.sec]
      by_cases h : (i0 : ℕ) < 2
      · simp only [h, ↓reduceDIte, ↓reduceIte, hagree c]
      · simp only [h, ↓reduceDIte, ↓reduceIte, Cert.Halves.upper i0 h, hagree c]
        exact (congrFun (Cert.AdamOutLowIdeal.Val.entry2 m c) _).symm
    · rw [Cert.AdamOutLowIdeal.Val.final7 m c]
      funext i
      idx_vars i
      pointwise []
      by_cases h : (i0 : ℕ) < 2
      · simp only [h, ↓reduceDIte, ↓reduceIte, hagree c]
      · simp only [h, ↓reduceDIte, ↓reduceIte, Cert.Halves.upper i0 h, hagree c]
        exact (congrFun (Cert.AdamOutLowIdeal.Val.entry3 m c) _).symm

end Cert.AAdamOutLow

end
-- ==== Proof.VAdamCkvUp.lean ====
module

public import proofs.«01_k».proof.Proof.Gen.AdamCkvUpIdeal.Frame
public import proofs.«01_k».proof.Proof.Base
public import proofs.«01_k».proof.Proof.Adam

@[expose] public section

/- What the AdamW update of a matrix weight computes, over the extended reals. -/

set_option maxRecDepth 16384

noncomputable section

open Idealize.ShloMosaic Idealize.ShloMosaic.TcCoe Idealize.SL.Sem
open Idealize.ShloMosaic.Pipeline (Dat)

namespace Cert.AdamCkvUpIdeal.Val

open Cert.AdamCkvUpIdeal Cert.AdamCkvUpIdeal.Gen

variable (m : (ℓ : Loc nD τ sig) → Buf (Elt Ideal) ℓ)

theorem idx : ∀ t : Fin cfg0.N, win0_0.index t = ![2 + t.val / 2, t.val % 2, 0] ∧ win0_1.index t = ![2 + t.val / 2, t.val % 2, 0] ∧ win0_2.index t = ![2 + t.val / 2, t.val % 2, 0] ∧ win0_3.index t = ![2 + t.val / 2, t.val % 2, 0] ∧ win0_4.index t = ![2 + t.val / 2, t.val % 2, 0] ∧ win0_5.index t = ![2 + t.val / 2, t.val % 2, 0] ∧ win0_6.index t = ![2 + t.val / 2, t.val % 2, 0] ∧ win0_7.index t = ![2 + t.val / 2, t.val % 2, 0] :=
  (by decide +kernel : ∀ t : Fin grid0.N, _)

theorem pay_m (g x : Vec Ideal S1x512x512 .f32) (r : Fin 512) (k : Fin 512) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x512x512 .f32) (r : Fin 512) (k : Fin 512) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x512x512 .f32) (r : Fin 512) (k : Fin 512) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x512x512 .f32) (r : Fin 512) (k : Fin 512) : k0_pay4 (k0_pay5 g) (ix3 0 r k) = g (ix3 0 r k) := by
  pointwise [k0_pay4, k0_pay5]

theorem final4 (c : Dev nD) : (dats m 0 c).arrAt 4 (cfgs 0).N =
    fun i => if 2 ≤ (i 0 : ℕ) / 1 then Cert.Adam.delta (m ((c : Thread nD τ).loc main_arg0) i) (m ((c : Thread nD τ).loc main_arg1) i) (m ((c : Thread nD τ).loc main_arg2) i) (m ((c : Thread nD τ).loc main_arg3) i) else V m c main_v0_0 i := by
  refine (dats m 0 c).arrAt_eq_of_coversWhere 4 _ (fun β => 2 ≤ β (0 : Fin _)) (by decide +kernel) (fun t _ y => ?_) (fun j => Iff.rfl)
  blk_simp
  rw [after0_4]; frame_out
  idx_vars y
  obtain rfl : y0 = 0 := Fin.eq_zero y0
  refine (pay_d _ _ _ _ _ _).trans ?_
  congr 1 <;> blk_ext [iblk, V, idx t]

theorem final5 (c : Dev nD) : (dats m 0 c).arrAt 5 (cfgs 0).N =
    fun i => if 2 ≤ (i 0 : ℕ) / 1 then Cert.Adam.mom (m ((c : Thread nD τ).loc main_arg1) i) (m ((c : Thread nD τ).loc main_arg2) i) else V m c main_v0_1 i := by
  refine (dats m 0 c).arrAt_eq_of_coversWhere 5 _ (fun β => 2 ≤ β (0 : Fin _)) (by decide +kernel) (fun t _ y => ?_) (fun j => Iff.rfl)
  blk_simp
  rw [after0_5]; frame_out
  idx_vars y
  obtain rfl : y0 = 0 := Fin.eq_zero y0
  refine (pay_m _ _ _ _).trans ?_
  congr 1 <;> blk_ext [iblk, V, idx t]

theorem final6 (c : Dev nD) : (dats m 0 c).arrAt 6 (cfgs 0).N =
    fun i => if 2 ≤ (i 0 : ℕ) / 1 then Cert.Adam.sec (m ((c : Thread nD τ).loc main_arg1) i) (m ((c : Thread nD τ).loc main_arg3) i) else V m c main_v0_2 i := by
  refine (dats m 0 c).arrAt_eq_of_coversWhere 6 _ (fun β => 2 ≤ β (0 : Fin _)) (by decide +kernel) (fun t _ y => ?_) (fun j => Iff.rfl)
  blk_simp
  rw [after0_6]; frame_out
  idx_vars y
  obtain rfl : y0 = 0 := Fin.eq_zero y0
  refine (pay_v _ _ _ _).trans ?_
  congr 1 <;> blk_ext [iblk, V, idx t]

theorem final7 (c : Dev nD) : (dats m 0 c).arrAt 7 (cfgs 0).N =
    fun i => if 2 ≤ (i 0 : ℕ) / 1 then m ((c : Thread nD τ).loc main_arg1) i else V m c main_v0_3 i := by
  refine (dats m 0 c).arrAt_eq_of_coversWhere 7 _ (fun β => 2 ≤ β (0 : Fin _)) (by decide +kernel) (fun t _ y => ?_) (fun j => Iff.rfl)
  blk_simp
  rw [after0_7]; frame_out
  idx_vars y
  obtain rfl : y0 = 0 := Fin.eq_zero y0
  refine (pay_g _ _ _).trans ?_
  congr 1 <;> blk_ext [iblk, V, idx t]

theorem arr_inj : Function.Injective (Pipeline.arrRef spec0) := by decide

theorem tail4 (c : Dev nD) : Pipeline.afterTail₀ cfgs (dats m) 0 (V0 m) [hostOps1] c main_v1 =
    extractStridedSlice S2x1024x512 ![2, 0, 0] (fun i : S4x1024x512.Idx => if 2 ≤ (i 0 : ℕ) / 1 then Cert.Adam.delta (m ((c : Thread nD τ).loc main_arg0) i) (m ((c : Thread nD τ).loc main_arg1) i) (m ((c : Thread nD τ).loc main_arg2) i) (m ((c : Thread nD τ).loc main_arg3) i) else V m c main_v0_0 i) slices_S4x1024x512_S2x1024x512_2_0_0 := by
  unfold Pipeline.afterTail₀
  rw [show List.flatten [hostOps1] = (hostOps1 : List (HloOp τ sig (Elt Ideal))) from rfl]
  after_results
  refine congrArg (fun z : FVec Ideal S4x1024x512 .f32 => extractStridedSlice S2x1024x512 ![2, 0, 0] z slices_S4x1024x512_S2x1024x512_2_0_0) (?_ : _ = _)
  exact (Pipeline.withArrays_arr spec0 arr_inj c _ _ 4).trans (final4 m c)

theorem tail5 (c : Dev nD) : Pipeline.afterTail₀ cfgs (dats m) 0 (V0 m) [hostOps1] c main_v2 =
    extractStridedSlice S2x1024x512 ![2, 0, 0] (fun i : S4x1024x512.Idx => if 2 ≤ (i 0 : ℕ) / 1 then Cert.Adam.mom (m ((c : Thread nD τ).loc main_arg1) i) (m ((c : Thread nD τ).loc main_arg2) i) else V m c main_v0_1 i) slices_S4x1024x512_S2x1024x512_2_0_0 := by
  unfold Pipeline.afterTail₀
  rw [show List.flatten [hostOps1] = (hostOps1 : List (HloOp τ sig (Elt Ideal))) from rfl]
  after_results
  refine congrArg (fun z : FVec Ideal S4x1024x512 .f32 => extractStridedSlice S2x1024x512 ![2, 0, 0] z slices_S4x1024x512_S2x1024x512_2_0_0) (?_ : _ = _)
  exact (Pipeline.withArrays_arr spec0 arr_inj c _ _ 5).trans (final5 m c)

theorem tail6 (c : Dev nD) : Pipeline.afterTail₀ cfgs (dats m) 0 (V0 m) [hostOps1] c main_v3 =
    extractStridedSlice S2x1024x512 ![2, 0, 0] (fun i : S4x1024x512.Idx => if 2 ≤ (i 0 : ℕ) / 1 then Cert.Adam.sec (m ((c : Thread nD τ).loc main_arg1) i) (m ((c : Thread nD τ).loc main_arg3) i) else V m c main_v0_2 i) slices_S4x1024x512_S2x1024x512_2_0_0 := by
  unfold Pipeline.afterTail₀
  rw [show List.flatten [hostOps1] = (hostOps1 : List (HloOp τ sig (Elt Ideal))) from rfl]
  after_results
  refine congrArg (fun z : FVec Ideal S4x1024x512 .f32 => extractStridedSlice S2x1024x512 ![2, 0, 0] z slices_S4x1024x512_S2x1024x512_2_0_0) (?_ : _ = _)
  exact (Pipeline.withArrays_arr spec0 arr_inj c _ _ 6).trans (final6 m c)

theorem tail7 (c : Dev nD) : Pipeline.afterTail₀ cfgs (dats m) 0 (V0 m) [hostOps1] c main_v4 =
    extractStridedSlice S2x1024x512 ![2, 0, 0] (fun i : S4x1024x512.Idx => if 2 ≤ (i 0 : ℕ) / 1 then m ((c : Thread nD τ).loc main_arg1) i else V m c main_v0_3 i) slices_S4x1024x512_S2x1024x512_2_0_0 := by
  unfold Pipeline.afterTail₀
  rw [show List.flatten [hostOps1] = (hostOps1 : List (HloOp τ sig (Elt Ideal))) from rfl]
  after_results
  refine congrArg (fun z : FVec Ideal S4x1024x512 .f32 => extractStridedSlice S2x1024x512 ![2, 0, 0] z slices_S4x1024x512_S2x1024x512_2_0_0) (?_ : _ = _)
  exact (Pipeline.withArrays_arr spec0 arr_inj c _ _ 7).trans (final7 m c)

end Cert.AdamCkvUpIdeal.Val

end
-- ==== Proof.AAdamCkvUp.lean ====
module

public import proofs.«01_k».proof.Defs
public import proofs.«01_k».proof.Proof.Gen.AdamCkvUp.Frame
public import proofs.«01_k».proof.Proof.Gen.AdamCkvUpReferenceIdeal.Run
public import proofs.«01_k».proof.Proof.VAdamCkvUp

@[expose] public section

/- The claims about `AdamCkvUp`: both frames, and its value beside the reference's. -/

set_option maxRecDepth 16384

noncomputable section

open Idealize.ShloMosaic Idealize.ShloMosaic.TcCoe Idealize.SL.Sem

namespace Cert.AAdamCkvUp

theorem frameReference : Cert.quiescent_AdamCkvUpReferenceIdeal := fun m ρ _ =>
  (θ_run Cert.AdamCkvUpReferenceIdeal.defs _ _).mono (fun r h => ⟨fun c => (h c).2.2.2.2, sem_eq_zero_of_no_sems (by decide) r.2⟩)
    (Cert.AdamCkvUpReferenceIdeal.Value.run (F := Ideal) m ρ)

set_option maxHeartbeats 1600000 in
theorem value : Cert.algebraic_AdamCkvUpIdeal_AdamCkvUpReferenceIdeal := by
  pair_intro
  · run_from Cert.AdamCkvUpIdeal.Gen.run_main m g
  · hlo_run
    · rw [Cert.AdamCkvUpIdeal.Val.tail4 m c]
      funext i
      idx_vars i
      pointwise [Cert.Adam.delta, Cert.Adam.mom, Cert.Adam.sec]
    · rw [Cert.AdamCkvUpIdeal.Val.tail5 m c]
      funext i
      idx_vars i
      pointwise [Cert.Adam.mom]
    · rw [Cert.AdamCkvUpIdeal.Val.tail6 m c]
      funext i
      idx_vars i
      pointwise [Cert.Adam.sec]
    · rw [Cert.AdamCkvUpIdeal.Val.tail7 m c]
      funext i
      idx_vars i
      pointwise []

end Cert.AAdamCkvUp

end
-- ==== Proof.VAdamCkvLow.lean ====
module

public import proofs.«01_k».proof.Proof.Gen.AdamCkvLowIdeal.Frame
public import proofs.«01_k».proof.Proof.Base
public import proofs.«01_k».proof.Proof.Adam

@[expose] public section

/- What the AdamW update of a matrix weight computes, over the extended reals. -/

set_option maxRecDepth 16384

noncomputable section

open Idealize.ShloMosaic Idealize.ShloMosaic.TcCoe Idealize.SL.Sem
open Idealize.ShloMosaic.Pipeline (Dat)

namespace Cert.AdamCkvLowIdeal.Val

open Cert.AdamCkvLowIdeal Cert.AdamCkvLowIdeal.Gen

variable (m : (ℓ : Loc nD τ sig) → Buf (Elt Ideal) ℓ)

theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] :=
  (by decide +kernel : ∀ t : Fin grid0.N, _)

theorem pay_m (g x : Vec Ideal S1x512x512 .f32) (r : Fin 512) (k : Fin 512) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x512x512 .f32) (r : Fin 512) (k : Fin 512) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x512x512 .f32) (r : Fin 512) (k : Fin 512) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x512x512 .f32) (r : Fin 512) (k : Fin 512) : k0_pay4 (k0_pay5 g) (ix3 0 r k) = g (ix3 0 r k) := by
  pointwise [k0_pay4, k0_pay5]

/-- The region finds the arguments, and in each result the copy of the array the upper layers' call left. -/
theorem in0 (c : Dev nD) : V m c main_arg0 = m ((c : Thread nD τ).loc main_arg0) := by
  unfold V
  after_results

theorem in1 (c : Dev nD) : V m c main_arg1 = m ((c : Thread nD τ).loc main_arg1) := by
  unfold V
  after_results

theorem in2 (c : Dev nD) : V m c main_arg2 = m ((c : Thread nD τ).loc main_arg2) := by
  unfold V
  after_results

theorem in3 (c : Dev nD) : V m c main_arg3 = m ((c : Thread nD τ).loc main_arg3) := by
  unfold V
  after_results

theorem entry0 (c : Dev nD) : V m c main_v0_0 = m ((c : Thread nD τ).loc main_arg4) := by
  unfold V
  after_results
  try rfl

theorem entry1 (c : Dev nD) : V m c main_v0_1 = m ((c : Thread nD τ).loc main_arg5) := by
  unfold V
  after_results
  try rfl

theorem entry2 (c : Dev nD) : V m c main_v0_2 = m ((c : Thread nD τ).loc main_arg6) := by
  unfold V
  after_results
  try rfl

theorem entry3 (c : Dev nD) : V m c main_v0_3 = m ((c : Thread nD τ).loc main_arg7) := by
  unfold V
  after_results
  try rfl

theorem final4 (c : Dev nD) : (dats m 0 c).arrAt 4 (cfgs 0).N =
    fun i => if (i 0 : ℕ) / 1 < 2 then Cert.Adam.delta (m ((c : Thread nD τ).loc main_arg0) i) (m ((c : Thread nD τ).loc main_arg1) i) (m ((c : Thread nD τ).loc main_arg2) i) (m ((c : Thread nD τ).loc main_arg3) i) else V m c main_v0_0 i := by
  refine (dats m 0 c).arrAt_eq_of_coversWhere 4 _ (fun β => β (0 : Fin _) < 2) (by decide +kernel) (fun t _ y => ?_) (fun j => Iff.rfl)
  blk_simp
  rw [after0_4]; unfold outsAt0; frame_out
  idx_vars y
  obtain rfl : y0 = 0 := Fin.eq_zero y0
  refine (pay_d _ _ _ _ _ _).trans ?_
  congr 1 <;> (blk_simp [iblk, idx t]; first | rw [in0] | rw [in1] | rw [in2] | rw [in3]) <;> blk_ext [idx t]

theorem final5 (c : Dev nD) : (dats m 0 c).arrAt 5 (cfgs 0).N =
    fun i => if (i 0 : ℕ) / 1 < 2 then Cert.Adam.mom (m ((c : Thread nD τ).loc main_arg1) i) (m ((c : Thread nD τ).loc main_arg2) i) else V m c main_v0_1 i := by
  refine (dats m 0 c).arrAt_eq_of_coversWhere 5 _ (fun β => β (0 : Fin _) < 2) (by decide +kernel) (fun t _ y => ?_) (fun j => Iff.rfl)
  blk_simp
  rw [after0_5]; unfold outsAt0; frame_out
  idx_vars y
  obtain rfl : y0 = 0 := Fin.eq_zero y0
  refine (pay_m _ _ _ _).trans ?_
  congr 1 <;> (blk_simp [iblk, idx t]; first | rw [in0] | rw [in1] | rw [in2] | rw [in3]) <;> blk_ext [idx t]

theorem final6 (c : Dev nD) : (dats m 0 c).arrAt 6 (cfgs 0).N =
    fun i => if (i 0 : ℕ) / 1 < 2 then Cert.Adam.sec (m ((c : Thread nD τ).loc main_arg1) i) (m ((c : Thread nD τ).loc main_arg3) i) else V m c main_v0_2 i := by
  refine (dats m 0 c).arrAt_eq_of_coversWhere 6 _ (fun β => β (0 : Fin _) < 2) (by decide +kernel) (fun t _ y => ?_) (fun j => Iff.rfl)
  blk_simp
  rw [after0_6]; unfold outsAt0; frame_out
  idx_vars y
  obtain rfl : y0 = 0 := Fin.eq_zero y0
  refine (pay_v _ _ _ _).trans ?_
  congr 1 <;> (blk_simp [iblk, idx t]; first | rw [in0] | rw [in1] | rw [in2] | rw [in3]) <;> blk_ext [idx t]

theorem final7 (c : Dev nD) : (dats m 0 c).arrAt 7 (cfgs 0).N =
    fun i => if (i 0 : ℕ) / 1 < 2 then m ((c : Thread nD τ).loc main_arg1) i else V m c main_v0_3 i := by
  refine (dats m 0 c).arrAt_eq_of_coversWhere 7 _ (fun β => β (0 : Fin _) < 2) (by decide +kernel) (fun t _ y => ?_) (fun j => Iff.rfl)
  blk_simp
  rw [after0_7]; unfold outsAt0; frame_out
  idx_vars y
  obtain rfl : y0 = 0 := Fin.eq_zero y0
  refine (pay_g _ _ _).trans ?_
  congr 1 <;> (blk_simp [iblk, idx t]; first | rw [in0] | rw [in1] | rw [in2] | rw [in3]) <;> blk_ext [idx t]

end Cert.AdamCkvLowIdeal.Val

end
-- ==== Proof.AAdamCkvLow.lean ====
module

public import proofs.«01_k».proof.Defs
public import proofs.«01_k».proof.Proof.Gen.AdamCkvLow.Frame
public import proofs.«01_k».proof.Proof.Gen.AdamCkvLowReferenceIdeal.Run
public import proofs.«01_k».proof.Proof.VAdamCkvLow
public import proofs.«01_k».proof.Proof.Halves

@[expose] public section

/- The claims about `AdamCkvLow`: both frames, and its value beside the reference's. -/

set_option maxRecDepth 16384

noncomputable section

open Idealize.ShloMosaic Idealize.ShloMosaic.TcCoe Idealize.SL.Sem

namespace Cert.AAdamCkvLow

theorem frameReference : Cert.quiescent_AdamCkvLowReferenceIdeal := fun m ρ _ =>
  (θ_run Cert.AdamCkvLowReferenceIdeal.defs _ _).mono (fun r h => ⟨fun c => (h c).2.2.2.2, sem_eq_zero_of_no_sems (by decide) r.2⟩)
    (Cert.AdamCkvLowReferenceIdeal.Value.run (F := Ideal) m ρ)

set_option maxHeartbeats 1600000 in
theorem value : Cert.algebraic_AdamCkvLowIdeal_AdamCkvLowReferenceIdeal := by
  pair_intro
  · run_from Cert.AdamCkvLowIdeal.Gen.run_main m g
  · hlo_run
    · rw [Cert.AdamCkvLowIdeal.Val.final4 m c]
      funext i
      idx_vars i
      pointwise [Cert.Adam.delta, Cert.Adam.mom, Cert.Adam.sec]
      by_cases h : (i0 : ℕ) < 2
      · simp only [h, ↓reduceDIte, ↓reduceIte, hagree c]
      · simp only [h, ↓reduceDIte, ↓reduceIte, Cert.Halves.upper i0 h, hagree c]
        exact (congrFun (Cert.AdamCkvLowIdeal.Val.entry0 m c) _).symm
    · rw [Cert.AdamCkvLowIdeal.Val.final5 m c]
      funext i
      idx_vars i
      pointwise [Cert.Adam.mom]
      by_cases h : (i0 : ℕ) < 2
      · simp only [h, ↓reduceDIte, ↓reduceIte, hagree c]
      · simp only [h, ↓reduceDIte, ↓reduceIte, Cert.Halves.upper i0 h, hagree c]
        exact (congrFun (Cert.AdamCkvLowIdeal.Val.entry1 m c) _).symm
    · rw [Cert.AdamCkvLowIdeal.Val.final6 m c]
      funext i
      idx_vars i
      pointwise [Cert.Adam.sec]
      by_cases h : (i0 : ℕ) < 2
      · simp only [h, ↓reduceDIte, ↓reduceIte, hagree c]
      · simp only [h, ↓reduceDIte, ↓reduceIte, Cert.Halves.upper i0 h, hagree c]
        exact (congrFun (Cert.AdamCkvLowIdeal.Val.entry2 m c) _).symm
    · rw [Cert.AdamCkvLowIdeal.Val.final7 m c]
      funext i
      idx_vars i
      pointwise []
      by_cases h : (i0 : ℕ) < 2
      · simp only [h, ↓reduceDIte, ↓reduceIte, hagree c]
      · simp only [h, ↓reduceDIte, ↓reduceIte, Cert.Halves.upper i0 h, hagree c]
        exact (congrFun (Cert.AdamCkvLowIdeal.Val.entry3 m c) _).symm

end Cert.AAdamCkvLow

end
-- ==== Proof.VAdamWiUp.lean ====
module

public import proofs.«01_k».proof.Proof.Gen.AdamWiUpIdeal.Frame
public import proofs.«01_k».proof.Proof.Base
public import proofs.«01_k».proof.Proof.Adam

@[expose] public section

/- What the AdamW update of a matrix weight computes, over the extended reals. -/

set_option maxRecDepth 16384

noncomputable section

open Idealize.ShloMosaic Idealize.ShloMosaic.TcCoe Idealize.SL.Sem
open Idealize.ShloMosaic.Pipeline (Dat)

namespace Cert.AdamWiUpIdeal.Val

open Cert.AdamWiUpIdeal Cert.AdamWiUpIdeal.Gen

variable (m : (ℓ : Loc nD τ sig) → Buf (Elt Ideal) ℓ)

theorem idx : ∀ t : Fin cfg0.N, win0_0.index t = ![2 + t.val / 8, t.val % 8, 0] ∧ win0_1.index t = ![2 + t.val / 8, t.val % 8, 0] ∧ win0_2.index t = ![2 + t.val / 8, t.val % 8, 0] ∧ win0_3.index t = ![2 + t.val / 8, t.val % 8, 0] ∧ win0_4.index t = ![2 + t.val / 8, t.val % 8, 0] ∧ win0_5.index t = ![2 + t.val / 8, t.val % 8, 0] ∧ win0_6.index t = ![2 + t.val / 8, t.val % 8, 0] ∧ win0_7.index t = ![2 + t.val / 8, t.val % 8, 0] :=
  (by decide +kernel : ∀ t : Fin grid0.N, _)

theorem pay_m (g x : Vec Ideal S1x128x1408 .f32) (r : Fin 128) (k : Fin 1408) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x128x1408 .f32) (r : Fin 128) (k : Fin 1408) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x128x1408 .f32) (r : Fin 128) (k : Fin 1408) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x128x1408 .f32) (r : Fin 128) (k : Fin 1408) : k0_pay4 (k0_pay5 g) (ix3 0 r k) = g (ix3 0 r k) := by
  pointwise [k0_pay4, k0_pay5]

theorem final4 (c : Dev nD) : (dats m 0 c).arrAt 4 (cfgs 0).N =
    fun i => if 2 ≤ (i 0 : ℕ) / 1 then Cert.Adam.delta (m ((c : Thread nD τ).loc main_arg0) i) (m ((c : Thread nD τ).loc main_arg1) i) (m ((c : Thread nD τ).loc main_arg2) i) (m ((c : Thread nD τ).loc main_arg3) i) else V m c main_v0_0 i := by
  refine (dats m 0 c).arrAt_eq_of_coversWhere 4 _ (fun β => 2 ≤ β (0 : Fin _)) (by decide +kernel) (fun t _ y => ?_) (fun j => Iff.rfl)
  blk_simp
  rw [after0_4]; frame_out
  idx_vars y
  obtain rfl : y0 = 0 := Fin.eq_zero y0
  refine (pay_d _ _ _ _ _ _).trans ?_
  congr 1 <;> blk_ext [iblk, V, idx t]

theorem final5 (c : Dev nD) : (dats m 0 c).arrAt 5 (cfgs 0).N =
    fun i => if 2 ≤ (i 0 : ℕ) / 1 then Cert.Adam.mom (m ((c : Thread nD τ).loc main_arg1) i) (m ((c : Thread nD τ).loc main_arg2) i) else V m c main_v0_1 i := by
  refine (dats m 0 c).arrAt_eq_of_coversWhere 5 _ (fun β => 2 ≤ β (0 : Fin _)) (by decide +kernel) (fun t _ y => ?_) (fun j => Iff.rfl)
  blk_simp
  rw [after0_5]; frame_out
  idx_vars y
  obtain rfl : y0 = 0 := Fin.eq_zero y0
  refine (pay_m _ _ _ _).trans ?_
  congr 1 <;> blk_ext [iblk, V, idx t]

theorem final6 (c : Dev nD) : (dats m 0 c).arrAt 6 (cfgs 0).N =
    fun i => if 2 ≤ (i 0 : ℕ) / 1 then Cert.Adam.sec (m ((c : Thread nD τ).loc main_arg1) i) (m ((c : Thread nD τ).loc main_arg3) i) else V m c main_v0_2 i := by
  refine (dats m 0 c).arrAt_eq_of_coversWhere 6 _ (fun β => 2 ≤ β (0 : Fin _)) (by decide +kernel) (fun t _ y => ?_) (fun j => Iff.rfl)
  blk_simp
  rw [after0_6]; frame_out
  idx_vars y
  obtain rfl : y0 = 0 := Fin.eq_zero y0
  refine (pay_v _ _ _ _).trans ?_
  congr 1 <;> blk_ext [iblk, V, idx t]

theorem final7 (c : Dev nD) : (dats m 0 c).arrAt 7 (cfgs 0).N =
    fun i => if 2 ≤ (i 0 : ℕ) / 1 then m ((c : Thread nD τ).loc main_arg1) i else V m c main_v0_3 i := by
  refine (dats m 0 c).arrAt_eq_of_coversWhere 7 _ (fun β => 2 ≤ β (0 : Fin _)) (by decide +kernel) (fun t _ y => ?_) (fun j => Iff.rfl)
  blk_simp
  rw [after0_7]; frame_out
  idx_vars y
  obtain rfl : y0 = 0 := Fin.eq_zero y0
  refine (pay_g _ _ _).trans ?_
  congr 1 <;> blk_ext [iblk, V, idx t]

theorem arr_inj : Function.Injective (Pipeline.arrRef spec0) := by decide

theorem tail4 (c : Dev nD) : Pipeline.afterTail₀ cfgs (dats m) 0 (V0 m) [hostOps1] c main_v1 =
    extractStridedSlice S2x1024x1408 ![2, 0, 0] (fun i : S4x1024x1408.Idx => if 2 ≤ (i 0 : ℕ) / 1 then Cert.Adam.delta (m ((c : Thread nD τ).loc main_arg0) i) (m ((c : Thread nD τ).loc main_arg1) i) (m ((c : Thread nD τ).loc main_arg2) i) (m ((c : Thread nD τ).loc main_arg3) i) else V m c main_v0_0 i) slices_S4x1024x1408_S2x1024x1408_2_0_0 := by
  unfold Pipeline.afterTail₀
  rw [show List.flatten [hostOps1] = (hostOps1 : List (HloOp τ sig (Elt Ideal))) from rfl]
  after_results
  refine congrArg (fun z : FVec Ideal S4x1024x1408 .f32 => extractStridedSlice S2x1024x1408 ![2, 0, 0] z slices_S4x1024x1408_S2x1024x1408_2_0_0) (?_ : _ = _)
  exact (Pipeline.withArrays_arr spec0 arr_inj c _ _ 4).trans (final4 m c)

theorem tail5 (c : Dev nD) : Pipeline.afterTail₀ cfgs (dats m) 0 (V0 m) [hostOps1] c main_v2 =
    extractStridedSlice S2x1024x1408 ![2, 0, 0] (fun i : S4x1024x1408.Idx => if 2 ≤ (i 0 : ℕ) / 1 then Cert.Adam.mom (m ((c : Thread nD τ).loc main_arg1) i) (m ((c : Thread nD τ).loc main_arg2) i) else V m c main_v0_1 i) slices_S4x1024x1408_S2x1024x1408_2_0_0 := by
  unfold Pipeline.afterTail₀
  rw [show List.flatten [hostOps1] = (hostOps1 : List (HloOp τ sig (Elt Ideal))) from rfl]
  after_results
  refine congrArg (fun z : FVec Ideal S4x1024x1408 .f32 => extractStridedSlice S2x1024x1408 ![2, 0, 0] z slices_S4x1024x1408_S2x1024x1408_2_0_0) (?_ : _ = _)
  exact (Pipeline.withArrays_arr spec0 arr_inj c _ _ 5).trans (final5 m c)

theorem tail6 (c : Dev nD) : Pipeline.afterTail₀ cfgs (dats m) 0 (V0 m) [hostOps1] c main_v3 =
    extractStridedSlice S2x1024x1408 ![2, 0, 0] (fun i : S4x1024x1408.Idx => if 2 ≤ (i 0 : ℕ) / 1 then Cert.Adam.sec (m ((c : Thread nD τ).loc main_arg1) i) (m ((c : Thread nD τ).loc main_arg3) i) else V m c main_v0_2 i) slices_S4x1024x1408_S2x1024x1408_2_0_0 := by
  unfold Pipeline.afterTail₀
  rw [show List.flatten [hostOps1] = (hostOps1 : List (HloOp τ sig (Elt Ideal))) from rfl]
  after_results
  refine congrArg (fun z : FVec Ideal S4x1024x1408 .f32 => extractStridedSlice S2x1024x1408 ![2, 0, 0] z slices_S4x1024x1408_S2x1024x1408_2_0_0) (?_ : _ = _)
  exact (Pipeline.withArrays_arr spec0 arr_inj c _ _ 6).trans (final6 m c)

theorem tail7 (c : Dev nD) : Pipeline.afterTail₀ cfgs (dats m) 0 (V0 m) [hostOps1] c main_v4 =
    extractStridedSlice S2x1024x1408 ![2, 0, 0] (fun i : S4x1024x1408.Idx => if 2 ≤ (i 0 : ℕ) / 1 then m ((c : Thread nD τ).loc main_arg1) i else V m c main_v0_3 i) slices_S4x1024x1408_S2x1024x1408_2_0_0 := by
  unfold Pipeline.afterTail₀
  rw [show List.flatten [hostOps1] = (hostOps1 : List (HloOp τ sig (Elt Ideal))) from rfl]
  after_results
  refine congrArg (fun z : FVec Ideal S4x1024x1408 .f32 => extractStridedSlice S2x1024x1408 ![2, 0, 0] z slices_S4x1024x1408_S2x1024x1408_2_0_0) (?_ : _ = _)
  exact (Pipeline.withArrays_arr spec0 arr_inj c _ _ 7).trans (final7 m c)

end Cert.AdamWiUpIdeal.Val

end
-- ==== Proof.AAdamWiUp.lean ====
module

public import proofs.«01_k».proof.Defs
public import proofs.«01_k».proof.Proof.Gen.AdamWiUp.Frame
public import proofs.«01_k».proof.Proof.Gen.AdamWiUpReferenceIdeal.Run
public import proofs.«01_k».proof.Proof.VAdamWiUp

@[expose] public section

/- The claims about `AdamWiUp`: both frames, and its value beside the reference's. -/

set_option maxRecDepth 16384

noncomputable section

open Idealize.ShloMosaic Idealize.ShloMosaic.TcCoe Idealize.SL.Sem

namespace Cert.AAdamWiUp

theorem frameReference : Cert.quiescent_AdamWiUpReferenceIdeal := fun m ρ _ =>
  (θ_run Cert.AdamWiUpReferenceIdeal.defs _ _).mono (fun r h => ⟨fun c => (h c).2.2.2.2, sem_eq_zero_of_no_sems (by decide) r.2⟩)
    (Cert.AdamWiUpReferenceIdeal.Value.run (F := Ideal) m ρ)

set_option maxHeartbeats 1600000 in
theorem value : Cert.algebraic_AdamWiUpIdeal_AdamWiUpReferenceIdeal := by
  pair_intro
  · run_from Cert.AdamWiUpIdeal.Gen.run_main m g
  · hlo_run
    · rw [Cert.AdamWiUpIdeal.Val.tail4 m c]
      funext i
      idx_vars i
      pointwise [Cert.Adam.delta, Cert.Adam.mom, Cert.Adam.sec]
    · rw [Cert.AdamWiUpIdeal.Val.tail5 m c]
      funext i
      idx_vars i
      pointwise [Cert.Adam.mom]
    · rw [Cert.AdamWiUpIdeal.Val.tail6 m c]
      funext i
      idx_vars i
      pointwise [Cert.Adam.sec]
    · rw [Cert.AdamWiUpIdeal.Val.tail7 m c]
      funext i
      idx_vars i
      pointwise []

end Cert.AAdamWiUp

end
-- ==== Proof.VAdamWiLow.lean ====
module

public import proofs.«01_k».proof.Proof.Gen.AdamWiLowIdeal.Frame
public import proofs.«01_k».proof.Proof.Base
public import proofs.«01_k».proof.Proof.Adam

@[expose] public section

/- What the AdamW update of a matrix weight computes, over the extended reals. -/

set_option maxRecDepth 16384

noncomputable section

open Idealize.ShloMosaic Idealize.ShloMosaic.TcCoe Idealize.SL.Sem
open Idealize.ShloMosaic.Pipeline (Dat)

namespace Cert.AdamWiLowIdeal.Val

open Cert.AdamWiLowIdeal Cert.AdamWiLowIdeal.Gen

variable (m : (ℓ : Loc nD τ sig) → Buf (Elt Ideal) ℓ)

theorem idx : ∀ t : Fin cfg0.N, win0_0.index t = ![t.val / 8, t.val % 8, 0] ∧ win0_1.index t = ![t.val / 8, t.val % 8, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] ∧ win0_7.index t = ![t.val / 8, t.val % 8, 0] :=
  (by decide +kernel : ∀ t : Fin grid0.N, _)

theorem pay_m (g x : Vec Ideal S1x128x1408 .f32) (r : Fin 128) (k : Fin 1408) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x128x1408 .f32) (r : Fin 128) (k : Fin 1408) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x128x1408 .f32) (r : Fin 128) (k : Fin 1408) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x128x1408 .f32) (r : Fin 128) (k : Fin 1408) : k0_pay4 (k0_pay5 g) (ix3 0 r k) = g (ix3 0 r k) := by
  pointwise [k0_pay4, k0_pay5]

/-- The region finds the arguments, and in each result the copy of the array the upper layers' call left. -/
theorem in0 (c : Dev nD) : V m c main_arg0 = m ((c : Thread nD τ).loc main_arg0) := by
  unfold V
  after_results

theorem in1 (c : Dev nD) : V m c main_arg1 = m ((c : Thread nD τ).loc main_arg1) := by
  unfold V
  after_results

theorem in2 (c : Dev nD) : V m c main_arg2 = m ((c : Thread nD τ).loc main_arg2) := by
  unfold V
  after_results

theorem in3 (c : Dev nD) : V m c main_arg3 = m ((c : Thread nD τ).loc main_arg3) := by
  unfold V
  after_results

theorem entry0 (c : Dev nD) : V m c main_v0_0 = m ((c : Thread nD τ).loc main_arg4) := by
  unfold V
  after_results
  try rfl

theorem entry1 (c : Dev nD) : V m c main_v0_1 = m ((c : Thread nD τ).loc main_arg5) := by
  unfold V
  after_results
  try rfl

theorem entry2 (c : Dev nD) : V m c main_v0_2 = m ((c : Thread nD τ).loc main_arg6) := by
  unfold V
  after_results
  try rfl

theorem entry3 (c : Dev nD) : V m c main_v0_3 = m ((c : Thread nD τ).loc main_arg7) := by
  unfold V
  after_results
  try rfl

theorem final4 (c : Dev nD) : (dats m 0 c).arrAt 4 (cfgs 0).N =
    fun i => if (i 0 : ℕ) / 1 < 2 then Cert.Adam.delta (m ((c : Thread nD τ).loc main_arg0) i) (m ((c : Thread nD τ).loc main_arg1) i) (m ((c : Thread nD τ).loc main_arg2) i) (m ((c : Thread nD τ).loc main_arg3) i) else V m c main_v0_0 i := by
  refine (dats m 0 c).arrAt_eq_of_coversWhere 4 _ (fun β => β (0 : Fin _) < 2) (by decide +kernel) (fun t _ y => ?_) (fun j => Iff.rfl)
  blk_simp
  rw [after0_4]; unfold outsAt0; frame_out
  idx_vars y
  obtain rfl : y0 = 0 := Fin.eq_zero y0
  refine (pay_d _ _ _ _ _ _).trans ?_
  congr 1 <;> (blk_simp [iblk, idx t]; first | rw [in0] | rw [in1] | rw [in2] | rw [in3]) <;> blk_ext [idx t]

theorem final5 (c : Dev nD) : (dats m 0 c).arrAt 5 (cfgs 0).N =
    fun i => if (i 0 : ℕ) / 1 < 2 then Cert.Adam.mom (m ((c : Thread nD τ).loc main_arg1) i) (m ((c : Thread nD τ).loc main_arg2) i) else V m c main_v0_1 i := by
  refine (dats m 0 c).arrAt_eq_of_coversWhere 5 _ (fun β => β (0 : Fin _) < 2) (by decide +kernel) (fun t _ y => ?_) (fun j => Iff.rfl)
  blk_simp
  rw [after0_5]; unfold outsAt0; frame_out
  idx_vars y
  obtain rfl : y0 = 0 := Fin.eq_zero y0
  refine (pay_m _ _ _ _).trans ?_
  congr 1 <;> (blk_simp [iblk, idx t]; first | rw [in0] | rw [in1] | rw [in2] | rw [in3]) <;> blk_ext [idx t]

theorem final6 (c : Dev nD) : (dats m 0 c).arrAt 6 (cfgs 0).N =
    fun i => if (i 0 : ℕ) / 1 < 2 then Cert.Adam.sec (m ((c : Thread nD τ).loc main_arg1) i) (m ((c : Thread nD τ).loc main_arg3) i) else V m c main_v0_2 i := by
  refine (dats m 0 c).arrAt_eq_of_coversWhere 6 _ (fun β => β (0 : Fin _) < 2) (by decide +kernel) (fun t _ y => ?_) (fun j => Iff.rfl)
  blk_simp
  rw [after0_6]; unfold outsAt0; frame_out
  idx_vars y
  obtain rfl : y0 = 0 := Fin.eq_zero y0
  refine (pay_v _ _ _ _).trans ?_
  congr 1 <;> (blk_simp [iblk, idx t]; first | rw [in0] | rw [in1] | rw [in2] | rw [in3]) <;> blk_ext [idx t]

theorem final7 (c : Dev nD) : (dats m 0 c).arrAt 7 (cfgs 0).N =
    fun i => if (i 0 : ℕ) / 1 < 2 then m ((c : Thread nD τ).loc main_arg1) i else V m c main_v0_3 i := by
  refine (dats m 0 c).arrAt_eq_of_coversWhere 7 _ (fun β => β (0 : Fin _) < 2) (by decide +kernel) (fun t _ y => ?_) (fun j => Iff.rfl)
  blk_simp
  rw [after0_7]; unfold outsAt0; frame_out
  idx_vars y
  obtain rfl : y0 = 0 := Fin.eq_zero y0
  refine (pay_g _ _ _).trans ?_
  congr 1 <;> (blk_simp [iblk, idx t]; first | rw [in0] | rw [in1] | rw [in2] | rw [in3]) <;> blk_ext [idx t]

end Cert.AdamWiLowIdeal.Val

end
-- ==== Proof.AAdamWiLow.lean ====
module

public import proofs.«01_k».proof.Defs
public import proofs.«01_k».proof.Proof.Gen.AdamWiLow.Frame
public import proofs.«01_k».proof.Proof.Gen.AdamWiLowReferenceIdeal.Run
public import proofs.«01_k».proof.Proof.VAdamWiLow
public import proofs.«01_k».proof.Proof.Halves

@[expose] public section

/- The claims about `AdamWiLow`: both frames, and its value beside the reference's. -/

set_option maxRecDepth 16384

noncomputable section

open Idealize.ShloMosaic Idealize.ShloMosaic.TcCoe Idealize.SL.Sem

namespace Cert.AAdamWiLow

theorem frameReference : Cert.quiescent_AdamWiLowReferenceIdeal := fun m ρ _ =>
  (θ_run Cert.AdamWiLowReferenceIdeal.defs _ _).mono (fun r h => ⟨fun c => (h c).2.2.2.2, sem_eq_zero_of_no_sems (by decide) r.2⟩)
    (Cert.AdamWiLowReferenceIdeal.Value.run (F := Ideal) m ρ)

set_option maxHeartbeats 1600000 in
theorem value : Cert.algebraic_AdamWiLowIdeal_AdamWiLowReferenceIdeal := by
  pair_intro
  · run_from Cert.AdamWiLowIdeal.Gen.run_main m g
  · hlo_run
    · rw [Cert.AdamWiLowIdeal.Val.final4 m c]
      funext i
      idx_vars i
      pointwise [Cert.Adam.delta, Cert.Adam.mom, Cert.Adam.sec]
      by_cases h : (i0 : ℕ) < 2
      · simp only [h, ↓reduceDIte, ↓reduceIte, hagree c]
      · simp only [h, ↓reduceDIte, ↓reduceIte, Cert.Halves.upper i0 h, hagree c]
        exact (congrFun (Cert.AdamWiLowIdeal.Val.entry0 m c) _).symm
    · rw [Cert.AdamWiLowIdeal.Val.final5 m c]
      funext i
      idx_vars i
      pointwise [Cert.Adam.mom]
      by_cases h : (i0 : ℕ) < 2
      · simp only [h, ↓reduceDIte, ↓reduceIte, hagree c]
      · simp only [h, ↓reduceDIte, ↓reduceIte, Cert.Halves.upper i0 h, hagree c]
        exact (congrFun (Cert.AdamWiLowIdeal.Val.entry1 m c) _).symm
    · rw [Cert.AdamWiLowIdeal.Val.final6 m c]
      funext i
      idx_vars i
      pointwise [Cert.Adam.sec]
      by_cases h : (i0 : ℕ) < 2
      · simp only [h, ↓reduceDIte, ↓reduceIte, hagree c]
      · simp only [h, ↓reduceDIte, ↓reduceIte, Cert.Halves.upper i0 h, hagree c]
        exact (congrFun (Cert.AdamWiLowIdeal.Val.entry2 m c) _).symm
    · rw [Cert.AdamWiLowIdeal.Val.final7 m c]
      funext i
      idx_vars i
      pointwise []
      by_cases h : (i0 : ℕ) < 2
      · simp only [h, ↓reduceDIte, ↓reduceIte, hagree c]
      · simp only [h, ↓reduceDIte, ↓reduceIte, Cert.Halves.upper i0 h, hagree c]
        exact (congrFun (Cert.AdamWiLowIdeal.Val.entry3 m c) _).symm

end Cert.AAdamWiLow

end
-- ==== Proof.VAdamWoUp.lean ====
module

public import proofs.«01_k».proof.Proof.Gen.AdamWoUpIdeal.Frame
public import proofs.«01_k».proof.Proof.Base
public import proofs.«01_k».proof.Proof.Adam

@[expose] public section

/- What the AdamW update of a matrix weight computes, over the extended reals. -/

set_option maxRecDepth 16384

noncomputable section

open Idealize.ShloMosaic Idealize.ShloMosaic.TcCoe Idealize.SL.Sem
open Idealize.ShloMosaic.Pipeline (Dat)

namespace Cert.AdamWoUpIdeal.Val

open Cert.AdamWoUpIdeal Cert.AdamWoUpIdeal.Gen

variable (m : (ℓ : Loc nD τ sig) → Buf (Elt Ideal) ℓ)

theorem idx : ∀ t : Fin cfg0.N, win0_0.index t = ![2 + t.val / 4, t.val % 4, 0] ∧ win0_1.index t = ![2 + t.val / 4, t.val % 4, 0] ∧ win0_2.index t = ![2 + t.val / 4, t.val % 4, 0] ∧ win0_3.index t = ![2 + t.val / 4, t.val % 4, 0] ∧ win0_4.index t = ![2 + t.val / 4, t.val % 4, 0] ∧ win0_5.index t = ![2 + t.val / 4, t.val % 4, 0] ∧ win0_6.index t = ![2 + t.val / 4, t.val % 4, 0] ∧ win0_7.index t = ![2 + t.val / 4, t.val % 4, 0] :=
  (by decide +kernel : ∀ t : Fin grid0.N, _)

theorem pay_m (g x : Vec Ideal S1x176x1024 .f32) (r : Fin 176) (k : Fin 1024) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x176x1024 .f32) (r : Fin 176) (k : Fin 1024) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x176x1024 .f32) (r : Fin 176) (k : Fin 1024) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x176x1024 .f32) (r : Fin 176) (k : Fin 1024) : k0_pay4 (k0_pay5 g) (ix3 0 r k) = g (ix3 0 r k) := by
  pointwise [k0_pay4, k0_pay5]

theorem final4 (c : Dev nD) : (dats m 0 c).arrAt 4 (cfgs 0).N =
    fun i => if 2 ≤ (i 0 : ℕ) / 1 then Cert.Adam.delta (m ((c : Thread nD τ).loc main_arg0) i) (m ((c : Thread nD τ).loc main_arg1) i) (m ((c : Thread nD τ).loc main_arg2) i) (m ((c : Thread nD τ).loc main_arg3) i) else V m c main_v0_0 i := by
  refine (dats m 0 c).arrAt_eq_of_coversWhere 4 _ (fun β => 2 ≤ β (0 : Fin _)) (by decide +kernel) (fun t _ y => ?_) (fun j => Iff.rfl)
  blk_simp
  rw [after0_4]; frame_out
  idx_vars y
  obtain rfl : y0 = 0 := Fin.eq_zero y0
  refine (pay_d _ _ _ _ _ _).trans ?_
  congr 1 <;> blk_ext [iblk, V, idx t]

theorem final5 (c : Dev nD) : (dats m 0 c).arrAt 5 (cfgs 0).N =
    fun i => if 2 ≤ (i 0 : ℕ) / 1 then Cert.Adam.mom (m ((c : Thread nD τ).loc main_arg1) i) (m ((c : Thread nD τ).loc main_arg2) i) else V m c main_v0_1 i := by
  refine (dats m 0 c).arrAt_eq_of_coversWhere 5 _ (fun β => 2 ≤ β (0 : Fin _)) (by decide +kernel) (fun t _ y => ?_) (fun j => Iff.rfl)
  blk_simp
  rw [after0_5]; frame_out
  idx_vars y
  obtain rfl : y0 = 0 := Fin.eq_zero y0
  refine (pay_m _ _ _ _).trans ?_
  congr 1 <;> blk_ext [iblk, V, idx t]

theorem final6 (c : Dev nD) : (dats m 0 c).arrAt 6 (cfgs 0).N =
    fun i => if 2 ≤ (i 0 : ℕ) / 1 then Cert.Adam.sec (m ((c : Thread nD τ).loc main_arg1) i) (m ((c : Thread nD τ).loc main_arg3) i) else V m c main_v0_2 i := by
  refine (dats m 0 c).arrAt_eq_of_coversWhere 6 _ (fun β => 2 ≤ β (0 : Fin _)) (by decide +kernel) (fun t _ y => ?_) (fun j => Iff.rfl)
  blk_simp
  rw [after0_6]; frame_out
  idx_vars y
  obtain rfl : y0 = 0 := Fin.eq_zero y0
  refine (pay_v _ _ _ _).trans ?_
  congr 1 <;> blk_ext [iblk, V, idx t]

theorem final7 (c : Dev nD) : (dats m 0 c).arrAt 7 (cfgs 0).N =
    fun i => if 2 ≤ (i 0 : ℕ) / 1 then m ((c : Thread nD τ).loc main_arg1) i else V m c main_v0_3 i := by
  refine (dats m 0 c).arrAt_eq_of_coversWhere 7 _ (fun β => 2 ≤ β (0 : Fin _)) (by decide +kernel) (fun t _ y => ?_) (fun j => Iff.rfl)
  blk_simp
  rw [after0_7]; frame_out
  idx_vars y
  obtain rfl : y0 = 0 := Fin.eq_zero y0
  refine (pay_g _ _ _).trans ?_
  congr 1 <;> blk_ext [iblk, V, idx t]

theorem arr_inj : Function.Injective (Pipeline.arrRef spec0) := by decide

theorem tail4 (c : Dev nD) : Pipeline.afterTail₀ cfgs (dats m) 0 (V0 m) [hostOps1] c main_v1 =
    extractStridedSlice S2x704x1024 ![2, 0, 0] (fun i : S4x704x1024.Idx => if 2 ≤ (i 0 : ℕ) / 1 then Cert.Adam.delta (m ((c : Thread nD τ).loc main_arg0) i) (m ((c : Thread nD τ).loc main_arg1) i) (m ((c : Thread nD τ).loc main_arg2) i) (m ((c : Thread nD τ).loc main_arg3) i) else V m c main_v0_0 i) slices_S4x704x1024_S2x704x1024_2_0_0 := by
  unfold Pipeline.afterTail₀
  rw [show List.flatten [hostOps1] = (hostOps1 : List (HloOp τ sig (Elt Ideal))) from rfl]
  after_results
  refine congrArg (fun z : FVec Ideal S4x704x1024 .f32 => extractStridedSlice S2x704x1024 ![2, 0, 0] z slices_S4x704x1024_S2x704x1024_2_0_0) (?_ : _ = _)
  exact (Pipeline.withArrays_arr spec0 arr_inj c _ _ 4).trans (final4 m c)

theorem tail5 (c : Dev nD) : Pipeline.afterTail₀ cfgs (dats m) 0 (V0 m) [hostOps1] c main_v2 =
    extractStridedSlice S2x704x1024 ![2, 0, 0] (fun i : S4x704x1024.Idx => if 2 ≤ (i 0 : ℕ) / 1 then Cert.Adam.mom (m ((c : Thread nD τ).loc main_arg1) i) (m ((c : Thread nD τ).loc main_arg2) i) else V m c main_v0_1 i) slices_S4x704x1024_S2x704x1024_2_0_0 := by
  unfold Pipeline.afterTail₀
  rw [show List.flatten [hostOps1] = (hostOps1 : List (HloOp τ sig (Elt Ideal))) from rfl]
  after_results
  refine congrArg (fun z : FVec Ideal S4x704x1024 .f32 => extractStridedSlice S2x704x1024 ![2, 0, 0] z slices_S4x704x1024_S2x704x1024_2_0_0) (?_ : _ = _)
  exact (Pipeline.withArrays_arr spec0 arr_inj c _ _ 5).trans (final5 m c)

theorem tail6 (c : Dev nD) : Pipeline.afterTail₀ cfgs (dats m) 0 (V0 m) [hostOps1] c main_v3 =
    extractStridedSlice S2x704x1024 ![2, 0, 0] (fun i : S4x704x1024.Idx => if 2 ≤ (i 0 : ℕ) / 1 then Cert.Adam.sec (m ((c : Thread nD τ).loc main_arg1) i) (m ((c : Thread nD τ).loc main_arg3) i) else V m c main_v0_2 i) slices_S4x704x1024_S2x704x1024_2_0_0 := by
  unfold Pipeline.afterTail₀
  rw [show List.flatten [hostOps1] = (hostOps1 : List (HloOp τ sig (Elt Ideal))) from rfl]
  after_results
  refine congrArg (fun z : FVec Ideal S4x704x1024 .f32 => extractStridedSlice S2x704x1024 ![2, 0, 0] z slices_S4x704x1024_S2x704x1024_2_0_0) (?_ : _ = _)
  exact (Pipeline.withArrays_arr spec0 arr_inj c _ _ 6).trans (final6 m c)

theorem tail7 (c : Dev nD) : Pipeline.afterTail₀ cfgs (dats m) 0 (V0 m) [hostOps1] c main_v4 =
    extractStridedSlice S2x704x1024 ![2, 0, 0] (fun i : S4x704x1024.Idx => if 2 ≤ (i 0 : ℕ) / 1 then m ((c : Thread nD τ).loc main_arg1) i else V m c main_v0_3 i) slices_S4x704x1024_S2x704x1024_2_0_0 := by
  unfold Pipeline.afterTail₀
  rw [show List.flatten [hostOps1] = (hostOps1 : List (HloOp τ sig (Elt Ideal))) from rfl]
  after_results
  refine congrArg (fun z : FVec Ideal S4x704x1024 .f32 => extractStridedSlice S2x704x1024 ![2, 0, 0] z slices_S4x704x1024_S2x704x1024_2_0_0) (?_ : _ = _)
  exact (Pipeline.withArrays_arr spec0 arr_inj c _ _ 7).trans (final7 m c)

end Cert.AdamWoUpIdeal.Val

end
-- ==== Proof.AAdamWoUp.lean ====
module

public import proofs.«01_k».proof.Defs
public import proofs.«01_k».proof.Proof.Gen.AdamWoUp.Frame
public import proofs.«01_k».proof.Proof.Gen.AdamWoUpReferenceIdeal.Run
public import proofs.«01_k».proof.Proof.VAdamWoUp

@[expose] public section

/- The claims about `AdamWoUp`: both frames, and its value beside the reference's. -/

set_option maxRecDepth 16384

noncomputable section

open Idealize.ShloMosaic Idealize.ShloMosaic.TcCoe Idealize.SL.Sem

namespace Cert.AAdamWoUp

theorem frameReference : Cert.quiescent_AdamWoUpReferenceIdeal := fun m ρ _ =>
  (θ_run Cert.AdamWoUpReferenceIdeal.defs _ _).mono (fun r h => ⟨fun c => (h c).2.2.2.2, sem_eq_zero_of_no_sems (by decide) r.2⟩)
    (Cert.AdamWoUpReferenceIdeal.Value.run (F := Ideal) m ρ)

set_option maxHeartbeats 1600000 in
theorem value : Cert.algebraic_AdamWoUpIdeal_AdamWoUpReferenceIdeal := by
  pair_intro
  · run_from Cert.AdamWoUpIdeal.Gen.run_main m g
  · hlo_run
    · rw [Cert.AdamWoUpIdeal.Val.tail4 m c]
      funext i
      idx_vars i
      pointwise [Cert.Adam.delta, Cert.Adam.mom, Cert.Adam.sec]
    · rw [Cert.AdamWoUpIdeal.Val.tail5 m c]
      funext i
      idx_vars i
      pointwise [Cert.Adam.mom]
    · rw [Cert.AdamWoUpIdeal.Val.tail6 m c]
      funext i
      idx_vars i
      pointwise [Cert.Adam.sec]
    · rw [Cert.AdamWoUpIdeal.Val.tail7 m c]
      funext i
      idx_vars i
      pointwise []

end Cert.AAdamWoUp

end
-- ==== Proof.VAdamWoLow.lean ====
module

public import proofs.«01_k».proof.Proof.Gen.AdamWoLowIdeal.Frame
public import proofs.«01_k».proof.Proof.Base
public import proofs.«01_k».proof.Proof.Adam

@[expose] public section

/- What the AdamW update of a matrix weight computes, over the extended reals. -/

set_option maxRecDepth 16384

noncomputable section

open Idealize.ShloMosaic Idealize.ShloMosaic.TcCoe Idealize.SL.Sem
open Idealize.ShloMosaic.Pipeline (Dat)

namespace Cert.AdamWoLowIdeal.Val

open Cert.AdamWoLowIdeal Cert.AdamWoLowIdeal.Gen

variable (m : (ℓ : Loc nD τ sig) → Buf (Elt Ideal) ℓ)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] :=
  (by decide +kernel : ∀ t : Fin grid0.N, _)

theorem pay_m (g x : Vec Ideal S1x176x1024 .f32) (r : Fin 176) (k : Fin 1024) :
    k0_pay2 (k0_pay6 g x) (ix3 0 r k) = Cert.Adam.mom (g (ix3 0 r k)) (x (ix3 0 r k)) := by
  pointwise [k0_pay2, k0_pay6, k0_pay5]
  rfl

theorem pay_v (g x : Vec Ideal S1x176x1024 .f32) (r : Fin 176) (k : Fin 1024) :
    k0_pay3 (k0_pay7 g x) (ix3 0 r k) = Cert.Adam.sec (g (ix3 0 r k)) (x (ix3 0 r k)) := by
  pointwise [k0_pay3, k0_pay7, k0_pay5]
  rfl

theorem pay_d (w g x y : Vec Ideal S1x176x1024 .f32) (r : Fin 176) (k : Fin 1024) :
    k0_pay1 (k0_pay8 g x y w) (ix3 0 r k) =
      Cert.Adam.delta (w (ix3 0 r k)) (g (ix3 0 r k)) (x (ix3 0 r k)) (y (ix3 0 r k)) := by
  pointwise [k0_pay1, k0_pay8, k0_pay7, k0_pay6, k0_pay5]
  rfl

theorem pay_g (g : Vec Ideal S1x176x1024 .f32) (r : Fin 176) (k : Fin 1024) : k0_pay4 (k0_pay5 g) (ix3 0 r k) = g (ix3 0 r k) := by
  pointwise [k0_pay4, k0_pay5]

/-- The region finds the arguments, and in each result the copy of the array the upper layers' call left. -/
theorem in0 (c : Dev nD) : V m c main_arg0 = m ((c : Thread nD τ).loc main_arg0) := by
  unfold V
  after_results

theorem in1 (c : Dev nD) : V m c main_arg1 = m ((c : Thread nD τ).loc main_arg1) := by
  unfold V
  after_results

theorem in2 (c : Dev nD) : V m c main_arg2 = m ((c : Thread nD τ).loc main_arg2) := by
  unfold V
  after_results

theorem in3 (c : Dev nD) : V m c main_arg3 = m ((c : Thread nD τ).loc main_arg3) := by
  unfold V
  after_results

theorem entry0 (c : Dev nD) : V m c main_v0_0 = m ((c : Thread nD τ).loc main_arg4) := by
  unfold V
  after_results
  try rfl

theorem entry1 (c : Dev nD) : V m c main_v0_1 = m ((c : Thread nD τ).loc main_arg5) := by
  unfold V
  after_results
  try rfl

theorem entry2 (c : Dev nD) : V m c main_v0_2 = m ((c : Thread nD τ).loc main_arg6) := by
  unfold V
  after_results
  try rfl

theorem entry3 (c : Dev nD) : V m c main_v0_3 = m ((c : Thread nD τ).loc main_arg7) := by
  unfold V
  after_results
  try rfl

theorem final4 (c : Dev nD) : (dats m 0 c).arrAt 4 (cfgs 0).N =
    fun i => if (i 0 : ℕ) / 1 < 2 then Cert.Adam.delta (m ((c : Thread nD τ).loc main_arg0) i) (m ((c : Thread nD τ).loc main_arg1) i) (m ((c : Thread nD τ).loc main_arg2) i) (m ((c : Thread nD τ).loc main_arg3) i) else V m c main_v0_0 i := by
  refine (dats m 0 c).arrAt_eq_of_coversWhere 4 _ (fun β => β (0 : Fin _) < 2) (by decide +kernel) (fun t _ y => ?_) (fun j => Iff.rfl)
  blk_simp
  rw [after0_4]; unfold outsAt0; frame_out
  idx_vars y
  obtain rfl : y0 = 0 := Fin.eq_zero y0
  refine (pay_d _ _ _ _ _ _).trans ?_
  congr 1 <;> (blk_simp [iblk, idx t]; first | rw [in0] | rw [in1] | rw [in2] | rw [in3]) <;> blk_ext [idx t]

theorem final5 (c : Dev nD) : (dats m 0 c).arrAt 5 (cfgs 0).N =
    fun i => if (i 0 : ℕ) / 1 < 2 then Cert.Adam.mom (m ((c : Thread nD τ).loc main_arg1) i) (m ((c : Thread nD τ).loc main_arg2) i) else V m c main_v0_1 i := by
  refine (dats m 0 c).arrAt_eq_of_coversWhere 5 _ (fun β => β (0 : Fin _) < 2) (by decide +kernel) (fun t _ y => ?_) (fun j => Iff.rfl)
  blk_simp
  rw [after0_5]; unfold outsAt0; frame_out
  idx_vars y
  obtain rfl : y0 = 0 := Fin.eq_zero y0
  refine (pay_m _ _ _ _).trans ?_
  congr 1 <;> (blk_simp [iblk, idx t]; first | rw [in0] | rw [in1] | rw [in2] | rw [in3]) <;> blk_ext [idx t]

theorem final6 (c : Dev nD) : (dats m 0 c).arrAt 6 (cfgs 0).N =
    fun i => if (i 0 : ℕ) / 1 < 2 then Cert.Adam.sec (m ((c : Thread nD τ).loc main_arg1) i) (m ((c : Thread nD τ).loc main_arg3) i) else V m c main_v0_2 i := by
  refine (dats m 0 c).arrAt_eq_of_coversWhere 6 _ (fun β => β (0 : Fin _) < 2) (by decide +kernel) (fun t _ y => ?_) (fun j => Iff.rfl)
  blk_simp
  rw [after0_6]; unfold outsAt0; frame_out
  idx_vars y
  obtain rfl : y0 = 0 := Fin.eq_zero y0
  refine (pay_v _ _ _ _).trans ?_
  congr 1 <;> (blk_simp [iblk, idx t]; first | rw [in0] | rw [in1] | rw [in2] | rw [in3]) <;> blk_ext [idx t]

theorem final7 (c : Dev nD) : (dats m 0 c).arrAt 7 (cfgs 0).N =
    fun i => if (i 0 : ℕ) / 1 < 2 then m ((c : Thread nD τ).loc main_arg1) i else V m c main_v0_3 i := by
  refine (dats m 0 c).arrAt_eq_of_coversWhere 7 _ (fun β => β (0 : Fin _) < 2) (by decide +kernel) (fun t _ y => ?_) (fun j => Iff.rfl)
  blk_simp
  rw [after0_7]; unfold outsAt0; frame_out
  idx_vars y
  obtain rfl : y0 = 0 := Fin.eq_zero y0
  refine (pay_g _ _ _).trans ?_
  congr 1 <;> (blk_simp [iblk, idx t]; first | rw [in0] | rw [in1] | rw [in2] | rw [in3]) <;> blk_ext [idx t]

end Cert.AdamWoLowIdeal.Val

end
-- ==== Proof.AAdamWoLow.lean ====
module

public import proofs.«01_k».proof.Defs
public import proofs.«01_k».proof.Proof.Gen.AdamWoLow.Frame
public import proofs.«01_k».proof.Proof.Gen.AdamWoLowReferenceIdeal.Run
public import proofs.«01_k».proof.Proof.VAdamWoLow
public import proofs.«01_k».proof.Proof.Halves

@[expose] public section

/- The claims about `AdamWoLow`: both frames, and its value beside the reference's. -/

set_option maxRecDepth 16384

noncomputable section

open Idealize.ShloMosaic Idealize.ShloMosaic.TcCoe Idealize.SL.Sem

namespace Cert.AAdamWoLow

theorem frameReference : Cert.quiescent_AdamWoLowReferenceIdeal := fun m ρ _ =>
  (θ_run Cert.AdamWoLowReferenceIdeal.defs _ _).mono (fun r h => ⟨fun c => (h c).2.2.2.2, sem_eq_zero_of_no_sems (by decide) r.2⟩)
    (Cert.AdamWoLowReferenceIdeal.Value.run (F := Ideal) m ρ)

set_option maxHeartbeats 1600000 in
theorem value : Cert.algebraic_AdamWoLowIdeal_AdamWoLowReferenceIdeal := by
  pair_intro
  · run_from Cert.AdamWoLowIdeal.Gen.run_main m g
  · hlo_run
    · rw [Cert.AdamWoLowIdeal.Val.final4 m c]
      funext i
      idx_vars i
      pointwise [Cert.Adam.delta, Cert.Adam.mom, Cert.Adam.sec]
      by_cases h : (i0 : ℕ) < 2
      · simp only [h, ↓reduceDIte, ↓reduceIte, hagree c]
      · simp only [h, ↓reduceDIte, ↓reduceIte, Cert.Halves.upper i0 h, hagree c]
        exact (congrFun (Cert.AdamWoLowIdeal.Val.entry0 m c) _).symm
    · rw [Cert.AdamWoLowIdeal.Val.final5 m c]
      funext i
      idx_vars i
      pointwise [Cert.Adam.mom]
      by_cases h : (i0 : ℕ) < 2
      · simp only [h, ↓reduceDIte, ↓reduceIte, hagree c]
      · simp only [h, ↓reduceDIte, ↓reduceIte, Cert.Halves.upper i0 h, hagree c]
        exact (congrFun (Cert.AdamWoLowIdeal.Val.entry1 m c) _).symm
    · rw [Cert.AdamWoLowIdeal.Val.final6 m c]
      funext i
      idx_vars i
      pointwise [Cert.Adam.sec]
      by_cases h : (i0 : ℕ) < 2
      · simp only [h, ↓reduceDIte, ↓reduceIte, hagree c]
      · simp only [h, ↓reduceDIte, ↓reduceIte, Cert.Halves.upper i0 h, hagree c]
        exact (congrFun (Cert.AdamWoLowIdeal.Val.entry2 m c) _).symm
    · rw [Cert.AdamWoLowIdeal.Val.final7 m c]
      funext i
      idx_vars i
      pointwise []
      by_cases h : (i0 : ℕ) < 2
      · simp only [h, ↓reduceDIte, ↓reduceIte, hagree c]
      · simp only [h, ↓reduceDIte, ↓reduceIte, Cert.Halves.upper i0 h, hagree c]
        exact (congrFun (Cert.AdamWoLowIdeal.Val.entry3 m c) _).symm

end Cert.AAdamWoLow

end
-- ==== Proof.Cross.lean ====
module

public import proofs.«01_k».proof.Proof.Base
public import proofs.«01_k».proof.Proof.Reals

@[expose] public section

/- The cross-attention of one query row and one head, over the extended reals: 256 memory rows, 256 columns a head. -/

noncomputable section

open Idealize.ShloMosaic

namespace Cert.Cross

/-- The scaled products of a query row with the memory rows' keys. -/
def score (q : Fin 256 → EReal) (k : Fin 256 → Fin 256 → EReal) (j : Fin 256) : EReal :=
  (∑ d : Fin 256, q d * k j d) * Ideal.ofBits .f32 0x3D800000#32

/-- The largest of a row's scores. -/
def top (s : Fin 256 → EReal) : EReal := Finset.univ.fold max (Ideal.ofBits .f32 0xFF800000#32) s

/-- The softmax of a row's scores. -/
def prob (s : Fin 256 → EReal) (j : Fin 256) : EReal :=
  Ideal.div (Ideal.exp (s j - top s)) (∑ l : Fin 256, Ideal.exp (s l - top s))

/-- One column of the result: the values of the memory rows weighted by the softmax. -/
def out (q : Fin 256 → EReal) (k : Fin 256 → Fin 256 → EReal) (v : Fin 256 → EReal) : EReal :=
  ∑ j : Fin 256, prob (score q k) j * v j

theorem out_congr {q q' : Fin 256 → EReal} {k k' : Fin 256 → Fin 256 → EReal} {v v' : Fin 256 → EReal}
    (hq : ∀ d, q d = q' d) (hk : ∀ j d, k j d = k' j d) (hv : ∀ j, v j = v' j) : out q k v = out q' k' v' := by
  obtain rfl : q = q' := funext hq
  obtain rfl : k = k' := funext fun j => funext (hk j)
  obtain rfl : v = v' := funext hv
  rfl

/-- The largest of a row's scores is not below the value the search for it starts from. -/
theorem max_fold (b : EReal) (s : Fin 256 → EReal) : max b (Finset.univ.fold max b s) = Finset.univ.fold max b s :=
  max_eq_right (Finset.le_fold_max _ |>.mpr (Or.inl le_rfl))

/-- The gradient of the softmax's result: the cotangent's products with the memory rows' values. -/
def back (o : Fin 256 → EReal) (v : Fin 256 → Fin 256 → EReal) (j : Fin 256) : EReal := ∑ d : Fin 256, o d * v j d

/-- The gradient of a row's unscaled scores `s`, from that of the softmax's result, as the kernel takes it. -/
def ds (s g : Fin 256 → EReal) (j : Fin 256) : EReal :=
  prob s j * (g j - ∑ l : Fin 256, prob s l * g l) * Ideal.ofBits .f32 0x3D800000#32

theorem coe_sum {n : ℕ} (g : Fin n → ℝ) : ∑ i, (g i : EReal) = ((∑ i, g i : ℝ) : EReal) := by
  refine Finset.induction_on (Finset.univ : Finset (Fin n)) (by simp) fun i t hi ih => ?_
  rw [Finset.sum_insert hi, Finset.sum_insert hi, ih, EReal.coe_add]

/-- The gradient of a row's unscaled scores, from the row's query and cotangent and the memory rows' keys and values. -/
def grad (q o : Fin 256 → EReal) (k v : Fin 256 → Fin 256 → EReal) (j : Fin 256) : EReal := ds (score q k) (back o v) j

theorem grad_congr {q q' o o' : Fin 256 → EReal} {k k' v v' : Fin 256 → Fin 256 → EReal} {j j' : Fin 256}
    (hq : ∀ d, q d = q' d) (ho : ∀ d, o d = o' d) (hk : ∀ j d, k j d = k' j d) (hv : ∀ j d, v j d = v' j d) (hj : j = j') :
    grad q o k v j = grad q' o' k' v' j' := by
  obtain rfl : q = q' := funext hq
  obtain rfl : o = o' := funext ho
  obtain rfl : k = k' := funext fun j => funext (hk j)
  obtain rfl : v = v' := funext fun j => funext (hv j)
  rw [hj]

theorem prob_congr {q q' : Fin 256 → EReal} {k k' : Fin 256 → Fin 256 → EReal} {j j' : Fin 256}
    (hq : ∀ d, q d = q' d) (hk : ∀ j d, k j d = k' j d) (hj : j = j') : prob (score q k) j = prob (score q' k') j' := by
  obtain rfl : q = q' := funext hq
  obtain rfl : k = k' := funext fun j => funext (hk j)
  rw [hj]

/-- A sum of real numbers is a real number. -/
theorem real_sum {n : ℕ} (f : Fin n → EReal) (h : ∀ i, ∃ r : ℝ, f i = r) : ∃ r : ℝ, ∑ i, f i = r := by
  choose g hg using h
  exact ⟨∑ i, g i, by simp only [hg, coe_sum]⟩

/-- The scores of real entries are real numbers. -/
theorem real_score (q : Fin 256 → EReal) (k : Fin 256 → Fin 256 → EReal) (hq : ∀ d, ∃ r : ℝ, q d = r) (hk : ∀ j d, ∃ r : ℝ, k j d = r)
    (j : Fin 256) : ∃ r : ℝ, score q k j = r := by
  obtain ⟨a, ha⟩ := real_sum (fun d => q d * k j d) fun d => by
    obtain ⟨x, hx⟩ := hq d
    obtain ⟨y, hy⟩ := hk j d
    exact ⟨x * y, by rw [hx, hy, EReal.coe_mul]⟩
  have hc : Ideal.ofBits .f32 0x3D800000#32 = ((1 / 16 : ℝ) : EReal) := by
    simp [Ideal.ofBits, Ideal.ieee]
    rw [← EReal.coe_mul]
    norm_num
  exact ⟨a * (1 / 16), by unfold score; rw [ha, hc, EReal.coe_mul]⟩

/-- The largest of real scores is a real number. -/
theorem real_top (s : Fin 256 → EReal) (h : ∀ j, ∃ r : ℝ, s j = r) : ∃ r : ℝ, top s = r := by
  have hb : Ideal.ofBits .f32 0xFF800000#32 = ⊥ := by simp [Ideal.ofBits, Ideal.ieee]
  have lt : top s < ⊤ := by
    unfold top
    rw [Finset.fold_max_lt, hb]
    refine ⟨bot_lt_top, fun j _ => ?_⟩
    obtain ⟨r, hr⟩ := h j
    rw [hr]
    exact EReal.coe_lt_top r
  have gt : ⊥ < top s := by
    unfold top
    rw [Finset.lt_fold_max]
    obtain ⟨r, hr⟩ := h 0
    exact Or.inr ⟨0, Finset.mem_univ _, by rw [hr]; exact EReal.bot_lt_coe r⟩
  exact ⟨(top s).toReal, (EReal.coe_toReal lt.ne gt.ne').symm⟩

/-- A positive real factor is multiplied into a sum. -/
theorem mul_sum (a : ℝ) (ha : 0 < a) (f : Fin 256 → EReal) : (a : EReal) * ∑ l, f l = ∑ l, (a : EReal) * f l := by
  refine Finset.induction_on (Finset.univ : Finset (Fin 256)) (by simp) fun i t hi ih => ?_
  rw [Finset.sum_insert hi, Finset.sum_insert hi, ← ih,
    EReal.left_distrib_of_nonneg_of_ne_top (by exact_mod_cast ha.le) (EReal.coe_ne_top a)]

/-- For real scores the gradient as the kernel takes it is the one `jax.vjp` takes, which divides and multiplies by the exponentials apart. -/
theorem ds_eq (s g : Fin 256 → EReal) (h : ∀ j, ∃ r : ℝ, s j = r) (j : Fin 256) :
    (Ideal.div (g j) (∑ l, Ideal.exp (s l - top s))
        + -∑ l, g l * Ideal.div 1 ((∑ l, Ideal.exp (s l - top s)) * ∑ l, Ideal.exp (s l - top s)) * Ideal.exp (s l - top s))
      * Ideal.exp (s j - top s) * Ideal.ofBits .f32 0x3D800000#32 = ds s g j := by
  obtain ⟨t, ht⟩ := real_top s h
  choose r hr using h
  have he : ∀ l, Ideal.exp (s l - top s) = ((Real.exp (r l - t) : ℝ) : EReal) := fun l => by
    rw [ht, hr, ← EReal.coe_sub, Ideal.exp_coe]
  unfold ds prob
  simp only [he]
  have hS : ∑ l, ((Real.exp (r l - t) : ℝ) : EReal) = ((∑ l, Real.exp (r l - t) : ℝ) : EReal) := coe_sum _
  have pos : 0 < ∑ l, Real.exp (r l - t) := Finset.sum_pos (fun _ _ => Real.exp_pos _) ⟨0, Finset.mem_univ _⟩
  rw [hS]
  generalize ∑ l, Real.exp (r l - t) = S at pos
  rw [← EReal.coe_mul]
  simp only [Ideal.div_coe pos.ne', Ideal.div_coe (mul_pos pos pos).ne', one_mul]
  have ha : 0 < 1 / S := by positivity
  have e2 : ((1 / (S * S) : ℝ) : EReal) = ((1 / S : ℝ) : EReal) * ((1 / S : ℝ) : EReal) := by
    rw [← EReal.coe_mul, one_div_mul_one_div]
  rw [e2]
  generalize 1 / S = a at ha
  have e3 : ∑ l, g l * ((a : EReal) * a) * ((Real.exp (r l - t) : ℝ) : EReal) = (a : EReal) * ∑ l, ((Real.exp (r l - t) : ℝ) : EReal) * a * g l := by
    rw [mul_sum a ha]
    exact Finset.sum_congr rfl fun l _ => by ac_rfl
  rw [e3]
  generalize ∑ l, ((Real.exp (r l - t) : ℝ) : EReal) * a * g l = T
  have e4 : g j * (a : EReal) + -((a : EReal) * T) = (a : EReal) * (g j - T) := by
    rw [sub_eq_add_neg, EReal.left_distrib_of_nonneg_of_ne_top (by exact_mod_cast ha.le) (EReal.coe_ne_top a), mul_comm (g j), mul_neg]
  rw [e4]
  ac_rfl

end Cert.Cross

end
-- ==== Proof.VCrossF.lean ====
module

public import proofs.«01_k».proof.Proof.Gen.CrossFIdeal.Frame
public import proofs.«01_k».proof.Proof.Base
public import proofs.«01_k».proof.Proof.Cross

@[expose] public section

/- What the forward call of the cross-attention computes, over the extended reals. -/

set_option maxRecDepth 16384

noncomputable section

open Idealize.ShloMosaic Idealize.ShloMosaic.TcCoe Idealize.SL.Sem
open Idealize.ShloMosaic.Pipeline (Dat)

namespace Cert.CrossFIdeal.Val

open Cert.CrossFIdeal Cert.CrossFIdeal.Gen

variable (m : (ℓ : Loc nD τ sig) → Buf (Elt Ideal) ℓ)

/-- A column of the head that holds column `i`. -/
def inHead (i : Fin 1024) (d : Fin 256) : Fin 1024 := ⟨i.val / 256 * 256 + d.val, by have := i.isLt; have := d.isLt; omega⟩

/-- The array the call leaves. -/
def G (q : FVec Ideal S2048x1024 .bf16) (kv : FVec Ideal S256x2048 .bf16) : FVec Ideal S2048x1024 .bf16 := fun i =>
  Cert.Cross.out (fun d => q (ix2 (i 0) (inHead (i 1) d))) (fun j d => kv (ix2 j ⟨(inHead (i 1) d).val, by have := (inHead (i 1) d).isLt; omega⟩))
    (fun j => kv (ix2 j ⟨1024 + (i 1).val, by have : (i 1).val < 1024 := (i 1).isLt; omega⟩))

theorem idx : ∀ t : Fin cfg0.N, win0_0.index t = ![t.val, 0] ∧ win0_1.index t = ![0, 0] ∧ win0_2.index t = ![t.val, 0] :=
  (by decide +kernel : ∀ t : Fin grid0.N, _)

theorem head0 (q : Vec Ideal S512x256 .bf16) (k v : Vec Ideal S256x256 .bf16) (r : Fin 512) (d : Fin 256) :
    k0_pay2 q k v (ix2 r d) = Cert.Cross.out (fun e => q (ix2 r e)) (fun j e => k (ix2 j e)) (fun j => v (ix2 j d)) := by
  pointwise [k0_pay2, Cert.Cross.out, Cert.Cross.prob, Cert.Cross.top, Cert.Cross.score]

theorem head1 (q : Vec Ideal S512x256 .bf16) (k v : Vec Ideal S256x256 .bf16) (r : Fin 512) (d : Fin 256) :
    k0_pay4 (k0_pay3 q k) v (ix2 r d) = Cert.Cross.out (fun e => q (ix2 r e)) (fun j e => k (ix2 j e)) (fun j => v (ix2 j d)) := by
  pointwise [k0_pay4, k0_pay3, Cert.Cross.out, Cert.Cross.prob, Cert.Cross.top, Cert.Cross.score]

theorem head2 (q : Vec Ideal S512x256 .bf16) (k v : Vec Ideal S256x256 .bf16) (r : Fin 512) (d : Fin 256) :
    k0_pay5 q k v (ix2 r d) = Cert.Cross.out (fun e => q (ix2 r e)) (fun j e => k (ix2 j e)) (fun j => v (ix2 j d)) := by
  pointwise [k0_pay5, Cert.Cross.out, Cert.Cross.prob, Cert.Cross.top, Cert.Cross.score]

theorem head3 (q : Vec Ideal S512x256 .bf16) (k v : Vec Ideal S256x256 .bf16) (r : Fin 512) (d : Fin 256) :
    k0_pay1 (k0_pay6 q k) (k0_pay7 q k) v (ix2 r d) = Cert.Cross.out (fun e => q (ix2 r e)) (fun j e => k (ix2 j e)) (fun j => v (ix2 j d)) := by
  pointwise [k0_pay1, k0_pay6, k0_pay7, Cert.Cross.out, Cert.Cross.prob, Cert.Cross.top, Cert.Cross.score]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t _ y => ?_
  blk_simp
  rw [after0_2]
  canon_tiles x h <;> idx_vars x
  · refine (head3 _ _ _ _ _).trans ?_
    unfold G
    refine Cert.Cross.out_congr (fun d => ?_) (fun j d => ?_) (fun j => ?_) <;> pointwise <;> blk_ext [iblk, V, idx t, inHead]
  · refine (head2 _ _ _ _ _).trans ?_
    unfold G
    refine Cert.Cross.out_congr (fun d => ?_) (fun j d => ?_) (fun j => ?_) <;> pointwise <;> blk_ext [iblk, V, idx t, inHead]
  · refine (head1 _ _ _ _ _).trans ?_
    unfold G
    refine Cert.Cross.out_congr (fun d => ?_) (fun j d => ?_) (fun j => ?_) <;> pointwise <;> blk_ext [iblk, V, idx t, inHead]
  · refine (head0 _ _ _ _ _).trans ?_
    unfold G
    refine Cert.Cross.out_congr (fun d => ?_) (fun j d => ?_) (fun j => ?_) <;> pointwise <;> blk_ext [iblk, V, idx t, inHead]

end Cert.CrossFIdeal.Val

end
-- ==== Proof.ACrossF.lean ====
module

public import proofs.«01_k».proof.Defs
public import proofs.«01_k».proof.Proof.Gen.CrossF.Frame
public import proofs.«01_k».proof.Proof.Gen.CrossFReferenceIdeal.Run
public import proofs.«01_k».proof.Proof.VCrossF

@[expose] public section

/- The claims about `CrossF`: both frames, and its value beside the reference's. -/

set_option maxRecDepth 16384

noncomputable section

open Idealize.ShloMosaic Idealize.ShloMosaic.TcCoe Idealize.SL.Sem

namespace Cert.ACrossF

theorem frameReference : Cert.quiescent_CrossFReferenceIdeal := fun m ρ _ =>
  (θ_run Cert.CrossFReferenceIdeal.defs _ _).mono (fun r h => ⟨fun c => (h c).2, sem_eq_zero_of_no_sems (by decide) r.2⟩)
    (Cert.CrossFReferenceIdeal.Value.run (F := Ideal) m ρ)

set_option maxHeartbeats 1600000 in
theorem value : Cert.algebraic_CrossFIdeal_CrossFReferenceIdeal := by
  pair_intro
  · run_from Cert.CrossFIdeal.Gen.run_main m g
  · hlo_run
    rw [Cert.CrossFIdeal.Val.final m c]
    funext i
    idx_vars i
    pointwise [Cert.CrossFIdeal.Val.G, Cert.CrossFIdeal.Val.inHead, Cert.Cross.out, Cert.Cross.prob, Cert.Cross.top, Cert.Cross.score]
    have e : 1024 + ((i1 : ℕ) / 256 * 256 + (i1 : ℕ) % 256) = 1024 + (i1 : ℕ) := by omega
    simp only [e, Cert.Cross.max_fold]
    exact Finset.sum_congr rfl fun x _ => mul_comm _ _

end Cert.ACrossF

end
-- ==== Proof.VLossHead.lean ====
module

public import proofs.«01_k».proof.Proof.Gen.LossHeadIdeal.Frame
public import proofs.«01_k».proof.Proof.Base

@[expose] public section

/- What the loss head's call computes, over the extended reals. -/

set_option maxRecDepth 16384

noncomputable section

open Idealize.ShloMosaic Idealize.ShloMosaic.TcCoe Idealize.SL.Sem
open Idealize.ShloMosaic.Pipeline (Dat)

namespace Cert.LossHeadIdeal.Val

open Cert.LossHeadIdeal Cert.LossHeadIdeal.Gen

variable (m : (ℓ : Loc nD τ sig) → Buf (Elt Ideal) ℓ)

/-- The squared error of one entry. -/
def sq {n : ℕ} (y t : (⟨2, ![n, 1024]⟩ : Shape).Idx → EReal) (r : Fin n) (c : Fin 1024) : EReal :=
  (y (ix2 r c) - t (ix2 r c)) * (y (ix2 r c) - t (ix2 r c))

/-- The gradient. -/
def GD (y t : FVec Ideal S2048x1024 .f32) : FVec Ideal S2048x1024 .f32 := fun i =>
  ((y i : EReal) - t i) * Ideal.ofBits .f32 0x3A800000#32

/-- The loss: half the squared errors' mean over a row, summed over the rows. -/
def GLoss (y t : FVec Ideal S2048x1024 .f32) : FVec Ideal S1x1 .f32 := fun _ =>
  (∑ c : Fin 1024, ∑ r : Fin 2048, sq (n := 2048) y t r c) * Ideal.ofBits .f32 0x3A000000#32

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem dy (y t : Vec Ideal S512x1024 .f32) (j) : k0_pay3 y t j = ((y j : EReal) - t j) * Ideal.ofBits .f32 0x3A800000#32 := by
  pointwise [k0_pay3, k0_pay2]

theorem next (y t : Vec Ideal S512x1024 .f32) (acc : Vec Ideal S1x1024 .f32) (j : S1x1024.Idx) :
    k0_pay4 y t acc j = acc j + ∑ k : Fin 512, sq (n := 512) y t k (j 1) := by
  idx_vars j
  pointwise [k0_pay4, k0_pay2, sq]

theorem zero (j) : (k0_pay1 (F := Ideal)) j = (0 : EReal) := by
  pointwise [k0_pay1]

theorem last (acc : Vec Ideal S1x1024 .f32) (j : S1x1.Idx) :
    k0_pay5 acc j = (∑ c : Fin 1024, acc (ix2 (0 : Fin 1) c)) * Ideal.ofBits .f32 0x3A000000#32 := by
  idx_vars j
  pointwise [k0_pay5]

theorem finalD (c : Dev nD) : (dats m 0 c).arrAt 2 (cfgs 0).N = GD (m ((c : Thread nD τ).loc main_arg0)) (m ((c : Thread nD τ).loc main_arg1)) := by
  refine (dats m 0 c).arrAt_eq_of_covers 2 _ (by decide +kernel) fun t _ y => ?_
  blk_simp
  rw [after0_2]
  have e : (outsAt0 m c t.val t.isLt).1 y = k0_pay3 (iblk m c 0 t) (iblk m c 1 t) y := by
    by_cases h0 : t.val % 4 = 0
    · rw [outsAt0_A m c t h0 (by omega)]; frame_out
    · by_cases h1 : t.val % 4 = 3
      · rw [outsAt0_C m c t h0 h1]; frame_out
      · rw [outsAt0_B m c t h0 h1]; frame_out
  refine e.trans ((dy _ _ y).trans ?_)
  unfold GD
  refine Ideal.mul_congr (congrArg₂ (fun a b : EReal => a - b) ?_ ?_) rfl <;> blk_ext [iblk, V, idx t]

/-- What the point `t` adds to the accumulator. -/
def term (c : Dev nD) (t : Fin cfg0.N) (j : S1x1024.Idx) : EReal := ∑ k : Fin 512, sq (n := 512) (iblk m c 0 t) (iblk m c 1 t) k (j 1)

/-- The accumulator at the last point of a run. -/
theorem acc (c : Dev nD) (t : Fin cfg0.N) (h : t.val % 4 = 4 - 1) (j) :
    (outsAt0 m c t.val t.isLt).2.2 j = ∑ s : Fin 4, term m c ⟨4 * (t.val / 4) + s.val, Pipeline.run_point_lt_of_flush t h s⟩ j := by
  rw [Pipeline.eq_sum_fin_of_reset_step_apply_of_flush (fun n h => (outsAt0 m c n h).2.2) 4 (fun _ => 0) (term m c)
    (fun t h j => by
      rw [outsAt0_A m c t h (by omega)]; frame_out
      exact (next _ _ _ j).trans (Ideal.add_congr (zero _) rfl))
    (fun t h j => by
      by_cases h2 : t.val % 4 = 3
      · rw [outsAt0_C m c t h h2]; frame_out
        exact (congrFun (congrArg _ ((Memref.isWhole_whole _).read_unread _)) j).trans (next _ _ _ j)
      · rw [outsAt0_B m c t h h2]; frame_out
        exact (congrFun (congrArg _ ((Memref.isWhole_whole _).read_unread _)) j).trans (next _ _ _ j)) t h j, zero_add]

theorem finalL (c : Dev nD) : (dats m 0 c).arrAt 3 (cfgs 0).N = GLoss (m ((c : Thread nD τ).loc main_arg0)) (m ((c : Thread nD τ).loc main_arg1)) := by
  refine (dats m 0 c).arrAt_eq_of_covers 3 _ (by decide +kernel) fun t hf y => ?_
  blk_simp
  have h : t.val % 4 = 4 - 1 := by have := (flush0_3 t).mp hf; have := lt_of_lt_of_eq t.isLt N_0; omega
  have e : (outsAt0 m c t.val t.isLt).2.1 y = k0_pay5 (outsAt0 m c t.val t.isLt).2.2 y := by
    rw [outsAt0_C m c t (by omega) (by omega)]; frame_out
  rw [after0_3]
  refine e.trans ((last _ y).trans ?_)
  unfold GLoss
  refine Ideal.mul_congr (Finset.sum_congr rfl fun i _ => (acc m c t h _).trans ?_) rfl
  unfold term sq
  refine Fin.sum_mul_add_congr fun s k hl => ?_
  refine Ideal.mul_congr (congrArg₂ (fun a b : EReal => a - b) ?_ ?_) (congrArg₂ (fun a b : EReal => a - b) ?_ ?_) <;>
    blk_ext [iblk, V, idx t, idx ⟨_, Pipeline.run_point_lt_of_flush t h s⟩]

end Cert.LossHeadIdeal.Val

end
-- ==== Proof.Loss.lean ====
module

public import proofs.«01_k».proof.Proof.Base

@[expose] public section

/- The constants of the loss and how they join, over the extended reals. -/

noncomputable section

open Idealize.ShloMosaic

namespace Cert.Loss

theorem half : Ideal.ofBits .f32 0x3F000000#32 = ((1 / 2 : ℝ) : EReal) := by
  simp [Ideal.ofBits, Ideal.ieee]
  rw [← EReal.coe_mul]
  norm_num

theorem two : Ideal.ofBits .f32 0x40000000#32 = ((2 : ℝ) : EReal) := by
  simp [Ideal.ofBits, Ideal.ieee]
  try rw [← EReal.coe_mul]
  try norm_num

theorem width : Ideal.ofBits .f32 0x44800000#32 = ((1024 : ℝ) : EReal) := by
  simp [Ideal.ofBits, Ideal.ieee]
  rw [← EReal.coe_mul]
  norm_num

theorem per_width : Ideal.ofBits .f32 0x3A800000#32 = ((1 / 1024 : ℝ) : EReal) := by
  simp [Ideal.ofBits, Ideal.ieee]
  rw [← EReal.coe_mul]
  norm_num

theorem half_per_width : Ideal.ofBits .f32 0x3A000000#32 = ((1 / 2048 : ℝ) : EReal) := by
  simp [Ideal.ofBits, Ideal.ieee]
  rw [← EReal.coe_mul]
  norm_num

/-- A positive real factor is multiplied into a sum. -/
theorem sum_mul {n : ℕ} (a : ℝ) (ha : 0 < a) (f : Fin n → EReal) : ∑ l, f l * (a : EReal) = (∑ l, f l) * a := by
  refine Finset.induction_on (Finset.univ : Finset (Fin n)) (by simp) fun i t hi ih => ?_
  rw [Finset.sum_insert hi, Finset.sum_insert hi, ih,
    EReal.right_distrib_of_nonneg_of_ne_top (by exact_mod_cast ha.le) (EReal.coe_ne_top a)]

/-- The gradient of one entry: half of the mean's share, times twice the error. -/
theorem grad (e : EReal) : Ideal.div (Ideal.ofBits .f32 0x3F000000#32) (Ideal.ofBits .f32 0x44800000#32) * (Ideal.ofBits .f32 0x40000000#32 * e) =
    e * Ideal.ofBits .f32 0x3A800000#32 := by
  rw [half, two, width, per_width, Ideal.div_coe (by norm_num), ← EReal.coe_mul, ← mul_assoc, ← EReal.coe_mul, mul_comm e]
  norm_num

/-- Half the rows' means, summed, is the sum of the columns' sums times half a row's share. -/
theorem total (f : Fin 2048 → Fin 1024 → EReal) :
    Ideal.ofBits .f32 0x3F000000#32 * ∑ r, Ideal.div (∑ c, f r c) (Ideal.ofBits .f32 0x44800000#32) =
      (∑ c, ∑ r, f r c) * Ideal.ofBits .f32 0x3A000000#32 := by
  rw [half, width, half_per_width]
  simp only [Ideal.div_coe (show (1024 : ℝ) ≠ 0 by norm_num)]
  rw [sum_mul _ (by norm_num), Finset.sum_comm, mul_comm, mul_assoc, ← EReal.coe_mul]
  norm_num

end Cert.Loss

end
-- ==== Proof.ALossHead.lean ====
module

public import proofs.«01_k».proof.Defs
public import proofs.«01_k».proof.Proof.Gen.LossHead.Frame
public import proofs.«01_k».proof.Proof.Gen.LossHeadReferenceIdeal.Run
public import proofs.«01_k».proof.Proof.VLossHead
public import proofs.«01_k».proof.Proof.Loss

@[expose] public section

/- The claims about `LossHead`: both frames, and its values beside the reference's. -/

set_option maxRecDepth 16384

noncomputable section

open Idealize.ShloMosaic Idealize.ShloMosaic.TcCoe Idealize.SL.Sem

namespace Cert.ALossHead

theorem frameReference : Cert.quiescent_LossHeadReferenceIdeal := fun m ρ _ =>
  (θ_run Cert.LossHeadReferenceIdeal.defs _ _).mono (fun r h => ⟨fun c => (h c).2.2, sem_eq_zero_of_no_sems (by decide) r.2⟩)
    (Cert.LossHeadReferenceIdeal.Value.run (F := Ideal) m ρ)

set_option maxHeartbeats 1600000 in
theorem value : Cert.algebraic_LossHeadIdeal_LossHeadReferenceIdeal := by
  pair_intro
  · run_from Cert.LossHeadIdeal.Gen.run_main m g
  · hlo_run
    · rw [Cert.LossHeadIdeal.Val.finalD m c]
      funext i
      idx_vars i
      pointwise [Cert.LossHeadIdeal.Val.GD]
      exact Cert.Loss.grad _
    · rw [Cert.LossHeadIdeal.Val.finalL m c]
      funext i
      idx_vars i
      pointwise [Cert.LossHeadIdeal.Val.GLoss, Cert.LossHeadIdeal.Val.sq]
      exact Cert.Loss.total _

end Cert.ALossHead

end
-- ==== Proof.VCrossB.lean ====
module

public import proofs.«01_k».proof.Proof.Gen.CrossBIdeal.Frame
public import proofs.«01_k».proof.Proof.Base
public import proofs.«01_k».proof.Proof.Cross

@[expose] public section

/- What the backward call of the cross-attention computes, over the extended reals. -/

set_option maxRecDepth 16384

noncomputable section

open Idealize.ShloMosaic Idealize.ShloMosaic.TcCoe Idealize.SL.Sem
open Idealize.ShloMosaic.Pipeline (Dat)

namespace Cert.CrossBIdeal.Val

open Cert.CrossBIdeal Cert.CrossBIdeal.Gen

variable (m : (ℓ : Loc nD τ sig) → Buf (Elt Ideal) ℓ)

/-- Column `d` of the head that holds column `i`: in the queries, in the keys' half, in the values' half. -/
def inHead (i : Fin 1024) (d : Fin 256) : Fin 1024 := ⟨i.val / 256 * 256 + d.val, by have := i.isLt; have := d.isLt; omega⟩
def low (i : Fin 1024) : Fin 2048 := ⟨i.val, by have := i.isLt; omega⟩
def high (i : Fin 1024) : Fin 2048 := ⟨1024 + i.val, by have := i.isLt; omega⟩

/-- The gradient of the scores of query row `r`, in the head that holds column `i`. -/
def grad {n : ℕ} (q o : (⟨2, ![n, 1024]⟩ : Shape).Idx → EReal) (kv : S256x2048.Idx → EReal) (i : Fin 1024) (r : Fin n) (j : Fin 256) : EReal :=
  Cert.Cross.grad (fun d => q (ix2 r (inHead i d))) (fun d => o (ix2 r (inHead i d))) (fun j d => kv (ix2 j (low (inHead i d))))
    (fun j d => kv (ix2 j (high (inHead i d)))) j

/-- The softmax of that row's scores. -/
def prob {n : ℕ} (q : (⟨2, ![n, 1024]⟩ : Shape).Idx → EReal) (kv : S256x2048.Idx → EReal) (i : Fin 1024) (r : Fin n) (j : Fin 256) : EReal :=
  Cert.Cross.prob (Cert.Cross.score (fun d => q (ix2 r (inHead i d))) fun j d => kv (ix2 j (low (inHead i d)))) j

/-- The gradient of the queries. -/
def GQ (q : FVec Ideal S2048x1024 .bf16) (kv : FVec Ideal S256x2048 .bf16) (o : FVec Ideal S2048x1024 .bf16) : FVec Ideal S2048x1024 .bf16 := fun y =>
  ∑ j : Fin 256, grad q o kv (y 1) (y 0) j * kv (ix2 j (low (y 1)))

/-- What `n` query rows add to the gradient of the keys (the lower columns) and of the values (the upper). -/
def part {n : ℕ} (q o : (⟨2, ![n, 1024]⟩ : Shape).Idx → EReal) (kv : S256x2048.Idx → EReal) (j : Fin 256) (y : Fin 2048) : EReal :=
  if h : y.val < 1024 then ∑ r : Fin n, grad q o kv ⟨y.val, h⟩ r j * q (ix2 r ⟨y.val, h⟩)
  else ∑ r : Fin n, prob q kv ⟨y.val - 1024, by have := y.isLt; omega⟩ r j * o (ix2 r ⟨y.val - 1024, by have := y.isLt; omega⟩)

theorem idx : ∀ t : Fin cfg0.N, win0_0.index t = ![t.val, 0] ∧ win0_1.index t = ![0, 0] ∧ win0_2.index t = ![t.val, 0] ∧ win0_3.index t = ![t.val, 0] ∧ win0_4.index t = ![0, 0] :=
  (by decide +kernel : ∀ t : Fin grid0.N, _)

section
variable (q o : Vec Ideal S512x256 .bf16) (k v : Vec Ideal S256x256 .bf16) (acc : Vec Ideal S256x256 .f32) (r : Fin 512) (j d : Fin 256)

theorem dq0 : k0_pay6 q k v o (ix2 r d) =
    ∑ j : Fin 256, Cert.Cross.grad (fun d => q (ix2 r d)) (fun d => o (ix2 r d)) (fun j d => k (ix2 j d)) (fun j d => v (ix2 j d)) j * k (ix2 j d) := by
  pointwise [k0_pay6, k0_pay5, k0_pay4, Cert.Cross.grad, Cert.Cross.ds, Cert.Cross.back, Cert.Cross.prob, Cert.Cross.top, Cert.Cross.score]

theorem dk0 : k0_pay7 q (k0_pay5 q k v o) acc (ix2 j d) =
    acc (ix2 j d) + ∑ r : Fin 512, Cert.Cross.grad (fun d => q (ix2 r d)) (fun d => o (ix2 r d)) (fun j d => k (ix2 j d)) (fun j d => v (ix2 j d)) j * q (ix2 r d) := by
  pointwise [k0_pay7, k0_pay5, k0_pay4, Cert.Cross.grad, Cert.Cross.ds, Cert.Cross.back, Cert.Cross.prob, Cert.Cross.top, Cert.Cross.score]

theorem dv0 : k0_pay8 o (k0_pay4 q k) acc (ix2 j d) =
    acc (ix2 j d) + ∑ r : Fin 512, Cert.Cross.prob (Cert.Cross.score (fun d => q (ix2 r d)) fun j d => k (ix2 j d)) j * o (ix2 r d) := by
  pointwise [k0_pay8, k0_pay4, Cert.Cross.prob, Cert.Cross.top, Cert.Cross.score]

/- The other heads' payloads are the first head's. -/
theorem dq1 : k0_pay13 k (k0_pay9 q k) (k0_pay10 v o) (k0_pay11 q k v o) = k0_pay6 q k v o := rfl
theorem dq2 : k0_pay19 k v o (k0_pay16 q k) = k0_pay6 q k v o := rfl
theorem dq3 : k0_pay24 q k v o = k0_pay6 q k v o := rfl
theorem dk1 : k0_pay14 q (k0_pay9 q k) (k0_pay10 v o) (k0_pay11 q k v o) acc = k0_pay7 q (k0_pay5 q k v o) acc := rfl
theorem dk2 : k0_pay20 q v o (k0_pay16 q k) acc = k0_pay7 q (k0_pay5 q k v o) acc := rfl
theorem dk3 : k0_pay1 (k0_pay25 q k v o acc) = k0_pay7 q (k0_pay5 q k v o) acc := rfl
theorem dv1 : k0_pay15 o (k0_pay9 q k) acc = k0_pay8 o (k0_pay4 q k) acc := rfl
theorem dv2 : k0_pay21 o (k0_pay16 q k) acc = k0_pay8 o (k0_pay4 q k) acc := rfl
theorem dv3 : k0_pay2 o (k0_pay22 q k) acc = k0_pay8 o (k0_pay4 q k) acc := rfl

end

set_option maxHeartbeats 1600000 in
theorem finalQ (c : Dev nD) : (dats m 0 c).arrAt 3 (cfgs 0).N =
    GQ (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases hA : t.val % 4 = 0
  · rw [outsAt0_A m c t hA]
    frame_out
    simp only [dq1, dq2, dq3]
    canon_tiles x h <;> idx_vars x <;>
    · refine (dq0 _ _ _ _ _ _).trans ?_
      unfold GQ grad
      refine Finset.sum_congr rfl fun j _ => Ideal.mul_congr (Cert.Cross.grad_congr (fun d => ?_) (fun d => ?_) (fun j d => ?_) (fun j d => ?_) rfl) ?_ <;>
        pointwise <;> blk_ext [iblk, V, idx t, inHead, low, high]
  · rw [outsAt0_B m c t hA]
    frame_out
    simp only [dq1, dq2, dq3]
    canon_tiles x h <;> idx_vars x <;>
    · refine (dq0 _ _ _ _ _ _).trans ?_
      unfold GQ grad
      refine Finset.sum_congr rfl fun j _ => Ideal.mul_congr (Cert.Cross.grad_congr (fun d => ?_) (fun d => ?_) (fun j d => ?_) (fun j d => ?_) rfl) ?_ <;>
        pointwise <;> blk_ext [iblk, V, idx t, inHead, low, high]

/-- What the point `t` adds to the gradient of the keys and values. -/
def term (c : Dev nD) (t : Fin cfg0.N) (y : S256x2048.Idx) : EReal :=
  part (n := 512) (iblk m c 0 t) (iblk m c 2 t) (iblk m c 1 t) (y 0) (y 1)

theorem part_low {n : ℕ} (q o : (⟨2, ![n, 1024]⟩ : Shape).Idx → EReal) (kv : S256x2048.Idx → EReal) (j : Fin 256) (y : Fin 2048) (i : Fin 1024)
    (h : y.val = i.val) : part q o kv j y = ∑ r : Fin n, grad q o kv i r j * q (ix2 r i) := by
  have hy : y.val < 1024 := by have := i.isLt; omega
  obtain rfl : i = ⟨y.val, hy⟩ := Fin.ext h.symm
  unfold part
  rw [dif_pos hy]

theorem part_high {n : ℕ} (q o : (⟨2, ![n, 1024]⟩ : Shape).Idx → EReal) (kv : S256x2048.Idx → EReal) (j : Fin 256) (y : Fin 2048) (i : Fin 1024)
    (h : y.val = 1024 + i.val) : part q o kv j y = ∑ r : Fin n, prob q kv i r j * o (ix2 r i) := by
  have hy : ¬y.val < 1024 := by omega
  have e : (⟨y.val - 1024, by have := y.isLt; omega⟩ : Fin 1024) = i := Fin.ext (by simp only; omega)
  unfold part
  rw [dif_neg hy, e]

/-- A store that does not hold a place leaves what the earlier ones left there. -/
theorem skip {off size : Fin 2 → ℕ} {inb} (w) (L : List (View.Piece (Elt Ideal) S256x2048 .f32)) (y : S256x2048.Idx)
    (h : (y 1 : ℕ) < off 1 ∨ off 1 + size 1 ≤ (y 1 : ℕ)) : View.canon (⟨Rect.unit off size inb, w⟩ :: L) y = View.canon L y :=
  View.canon_cons_of_not_mem _ _ (by
    rw [Rect.mem_set_unit]
    intro hm
    have := hm 1
    omega)

theorem zero (y : S256x2048.Idx) (inb) : View.canon [(⟨Rect.unit ![0, 0] ![256, 2048] inb, k0_pay3 (F := Ideal)⟩ : View.Piece (Elt Ideal) S256x2048 .f32)] y = (0 : EReal) := by
  rw [View.canon_cons_unit_lit' (S := S256x2048)]
  · pointwise [k0_pay3]
  · decide

end Cert.CrossBIdeal.Val

end
-- ==== Proof.WCrossB.lean ====
module

public import proofs.«01_k».proof.Proof.VCrossB

@[expose] public section

/- The gradient of the keys and values, summed over the calls' grid points. -/

set_option maxRecDepth 16384

noncomputable section

open Idealize.ShloMosaic Idealize.ShloMosaic.TcCoe Idealize.SL.Sem
open Idealize.ShloMosaic.Pipeline (Dat)

namespace Cert.CrossBIdeal.Val

open Cert.CrossBIdeal Cert.CrossBIdeal.Gen

variable (m : (ℓ : Loc nD τ sig) → Buf (Elt Ideal) ℓ)

section
variable (Q O : (⟨2, ![512, 1024]⟩ : Shape).Idx → EReal) (KV : S256x2048.Idx → EReal)
  (q o : Vec Ideal S512x256 .bf16) (k v : Vec Ideal S256x256 .bf16) (acc : Vec Ideal S256x256 .f32) (j d : Fin 256) (i : Fin 1024) (y : Fin 2048)

theorem dk_part (hd : d.val = i.val % 256) (hy : y.val = i.val)
    (hq : ∀ r d, q (ix2 r d) = Q (ix2 r (inHead i d))) (ho : ∀ r d, o (ix2 r d) = O (ix2 r (inHead i d)))
    (hk : ∀ j d, k (ix2 j d) = KV (ix2 j (low (inHead i d)))) (hv : ∀ j d, v (ix2 j d) = KV (ix2 j (high (inHead i d)))) :
    k0_pay7 q (k0_pay5 q k v o) acc (ix2 j d) = acc (ix2 j d) + part Q O KV j y := by
  have e : inHead i d = i := Fin.ext (by simp only [inHead]; omega)
  rw [dk0, part_low _ _ _ _ _ i hy]
  unfold grad
  refine Ideal.add_congr rfl (Finset.sum_congr rfl fun r _ => Ideal.mul_congr
    (Cert.Cross.grad_congr (hq r) (ho r) hk hv rfl) ((hq r d).trans (by rw [e])))

theorem dv_part (hd : d.val = i.val % 256) (hy : y.val = 1024 + i.val)
    (hq : ∀ r d, q (ix2 r d) = Q (ix2 r (inHead i d))) (ho : ∀ r d, o (ix2 r d) = O (ix2 r (inHead i d)))
    (hk : ∀ j d, k (ix2 j d) = KV (ix2 j (low (inHead i d)))) :
    k0_pay8 o (k0_pay4 q k) acc (ix2 j d) = acc (ix2 j d) + part Q O KV j y := by
  have e : inHead i d = i := Fin.ext (by simp only [inHead]; omega)
  rw [dv0, part_high _ _ _ _ _ i hy]
  unfold prob
  refine Ideal.add_congr rfl (Finset.sum_congr rfl fun r _ => Ideal.mul_congr
    (Cert.Cross.prob_congr (hq r) hk rfl) ((ho r d).trans (by rw [e])))

end

/-- A load of a block of columns. -/
theorem ld_at {n p a b off : ℕ} (X : Vec Ideal ⟨2, ![n, p]⟩ .bf16) (inb) (r : Fin a) (d : Fin b) (r' : Fin n) (c : Fin p)
    (hr : r'.val = r.val) (hc : c.val = off + d.val) :
    View.ld X (Rect.unit (s := ⟨2, ![n, p]⟩) ![0, off] ![a, b] inb) (ix2 r d) = X (ix2 r' c) := by
  refine congrArg X (funext fun k => Fin.ext ?_)
  rw [Rect.idx_unit_val]
  fin_cases k
  · simp [ix2, hr]
  · simp [ix2, hc]

theorem ld_at' {n p a b off : ℕ} (X : Vec Ideal ⟨2, ![n, p]⟩ .f32) (inb) (r : Fin a) (d : Fin b) (r' : Fin n) (c : Fin p)
    (hr : r'.val = r.val) (hc : c.val = off + d.val) :
    View.ld X (Rect.unit (s := ⟨2, ![n, p]⟩) ![0, off] ![a, b] inb) (ix2 r d) = X (ix2 r' c) := by
  refine congrArg X (funext fun k => Fin.ext ?_)
  rw [Rect.idx_unit_val]
  fin_cases k
  · simp [ix2, hr]
  · simp [ix2, hc]

section
variable (Q O : Vec Ideal S512x1024 .bf16) (KV : Vec Ideal S256x2048 .bf16) (acc : Vec Ideal S256x256 .f32) (j d : Fin 256) (y : Fin 2048)
  {off off' : ℕ} (inbq inbo inbk inbv)

/-- One head's share of the keys' gradient, from the head's columns of the blocks. -/
theorem dk_head (h : off % 256 = 0) (hl : off + 256 ≤ 1024) (e : off' = 1024 + off) (hy : y.val = off + d.val) :
    k0_pay7 (View.ld Q (Rect.unit (s := S512x1024) ![0, off] ![512, 256] inbq))
      (k0_pay5 (View.ld Q (Rect.unit (s := S512x1024) ![0, off] ![512, 256] inbq)) (View.ld KV (Rect.unit (s := S256x2048) ![0, off] ![256, 256] inbk))
        (View.ld KV (Rect.unit (s := S256x2048) ![0, off'] ![256, 256] inbv)) (View.ld O (Rect.unit (s := S512x1024) ![0, off] ![512, 256] inbo)))
      acc (ix2 j d) = acc (ix2 j d) + part Q O KV j y := by
  have hd := d.isLt
  refine dk_part Q O KV _ _ _ _ _ _ _ ⟨off + d.val, by omega⟩ y (by simp only; omega) hy (fun r d => ?_) (fun r d => ?_) (fun j d => ?_) (fun j d => ?_) <;>
    exact ld_at _ _ _ _ _ _ rfl (by simp only [inHead, low, high]; omega)

/-- One head's share of the values' gradient. -/
theorem dv_head (h : off % 256 = 0) (hl : off + 256 ≤ 1024) (hy : y.val = 1024 + (off + d.val)) :
    k0_pay8 (View.ld O (Rect.unit (s := S512x1024) ![0, off] ![512, 256] inbo))
      (k0_pay4 (View.ld Q (Rect.unit (s := S512x1024) ![0, off] ![512, 256] inbq)) (View.ld KV (Rect.unit (s := S256x2048) ![0, off] ![256, 256] inbk)))
      acc (ix2 j d) = acc (ix2 j d) + part Q O KV j y := by
  have hd := d.isLt
  refine dv_part Q O KV _ _ _ _ _ _ ⟨off + d.val, by omega⟩ y (by simp only; omega) hy (fun r d => ?_) (fun r d => ?_) (fun j d => ?_) <;>
    exact ld_at _ _ _ _ _ _ rfl (by simp only [inHead, low, high]; omega)

end

/-- What a point that is not the first of its run leaves. -/
theorem stepB (c : Dev nD) (t : Fin cfg0.N) (h : ¬t.val % 4 = 0) (y) : (outsAt0 m c t.val t.isLt).2 y =
    (outsAt0 m c (t.val - 1) (lt_of_le_of_lt (Nat.sub_le _ _) t.isLt)).2 y + term m c t y := by
  rw [outsAt0_B m c t h]; frame_out
  simp only [dk1, dk2, dk3, dv1, dv2, dv3]
  generalize (outsAt0 m c (t.val - 1) _).2 = prev
  unfold term
  generalize iblk m c 0 t = Q
  generalize iblk m c 1 t = KV
  generalize iblk m c 2 t = O
  canon_tiles x h <;> idx_vars x <;> idx_vars y <;> obtain rfl : y0 = x0 := Fin.ext h0
  · exact (dv_head Q O KV _ _ _ y1 _ _ _ (by decide) (by decide) (by omega)).trans (Ideal.add_congr (ld_at' _ _ _ _ _ _ rfl (by omega)) rfl)
  · exact (dk_head Q O KV _ _ _ y1 _ _ _ _ (by decide) (by decide) rfl (by omega)).trans (Ideal.add_congr (ld_at' _ _ _ _ _ _ rfl (by omega)) rfl)
  · exact (dv_head Q O KV _ _ _ y1 _ _ _ (by decide) (by decide) (by omega)).trans (Ideal.add_congr (ld_at' _ _ _ _ _ _ rfl (by omega)) rfl)
  · exact (dk_head Q O KV _ _ _ y1 _ _ _ _ (by decide) (by decide) rfl (by omega)).trans (Ideal.add_congr (ld_at' _ _ _ _ _ _ rfl (by omega)) rfl)
  · exact (dv_head Q O KV _ _ _ y1 _ _ _ (by decide) (by decide) (by omega)).trans (Ideal.add_congr (ld_at' _ _ _ _ _ _ rfl (by omega)) rfl)
  · exact (dk_head Q O KV _ _ _ y1 _ _ _ _ (by decide) (by decide) rfl (by omega)).trans (Ideal.add_congr (ld_at' _ _ _ _ _ _ rfl (by omega)) rfl)
  · exact (dv_head Q O KV _ _ _ y1 _ _ _ (by decide) (by decide) (by omega)).trans (Ideal.add_congr (ld_at' _ _ _ _ _ _ rfl (by omega)) rfl)
  · exact (dk_head Q O KV _ _ _ y1 _ _ _ _ (by decide) (by decide) rfl (by omega)).trans (Ideal.add_congr (ld_at' _ _ _ _ _ _ rfl (by omega)) rfl)

/-- A store that holds a place leaves there what it stores. -/
theorem hit {off : ℕ} {inb} (w : Vec Ideal S256x256 .f32) (L : List (View.Piece (Elt Ideal) S256x2048 .f32)) (y : S256x2048.Idx) (j d : Fin 256)
    (h0 : (y 0 : ℕ) = j.val) (h1 : (y 1 : ℕ) = off + d.val) :
    View.canon (⟨Rect.unit (s := S256x2048) ![0, off] ![256, 256] inb, w⟩ :: L) y = w (ix2 j d) := by
  have e : y = (Rect.unit (s := S256x2048) ![0, off] ![256, 256] inb).emb (ix2 j d) := by
    refine funext fun k => Fin.ext ?_
    refine Eq.trans ?_ (Rect.idx_unit_val ..).symm
    fin_cases k
    · simpa [ix2] using h0
    · simpa [ix2] using h1
  rw [e]
  exact View.canon_cons_emb _ _ _ _

/-- What the first point of a run leaves: every head adds to the zeros stored first. -/
theorem stepA (c : Dev nD) (t : Fin cfg0.N) (h : t.val % 4 = 0) (y) : (outsAt0 m c t.val t.isLt).2 y = term m c t y := by
  rw [outsAt0_A m c t h]; frame_out
  simp only [dk1, dk2, dk3, dv1, dv2, dv3]
  unfold term
  generalize iblk m c 0 t = Q
  generalize iblk m c 1 t = KV
  generalize iblk m c 2 t = O
  idx_vars y
  rcases (by omega : (1792 ≤ y1.val ∧ y1.val < 2048) ∨ (768 ≤ y1.val ∧ y1.val < 1024) ∨ (1536 ≤ y1.val ∧ y1.val < 1792) ∨ (512 ≤ y1.val ∧ y1.val < 768) ∨
    (1280 ≤ y1.val ∧ y1.val < 1536) ∨ (256 ≤ y1.val ∧ y1.val < 512) ∨ (1024 ≤ y1.val ∧ y1.val < 1280) ∨ (0 ≤ y1.val ∧ y1.val < 256)) with
    h | h | h | h | h | h | h | h
  · refine (hit _ _ _ y0 ⟨y1.val - 1792, by omega⟩ rfl (by simp [ix2] <;> omega)).trans ?_
    refine (dv_head Q O KV _ _ _ y1 _ _ _ (by decide) (by decide) (by simp only; omega)).trans ((Ideal.add_congr ?_ rfl).trans (zero_add _))
    rw [View.readCov_eq_canon']
    dsimp only
    iterate 7 refine (skip _ _ _ (by simp [Rect.idx_unit_val, ix2]; try omega)).trans ?_
    exact zero _ _
  · refine (skip _ _ _ (by simp [Rect.idx_unit_val, ix2]; try omega)).trans ?_
    refine (hit _ _ _ y0 ⟨y1.val - 768, by omega⟩ rfl (by simp [ix2] <;> omega)).trans ?_
    refine (dk_head Q O KV _ _ _ y1 _ _ _ _ (by decide) (by decide) rfl (by simp only; omega)).trans ((Ideal.add_congr ?_ rfl).trans (zero_add _))
    rw [View.readCov_eq_canon']
    dsimp only
    iterate 6 refine (skip _ _ _ (by simp [Rect.idx_unit_val, ix2]; try omega)).trans ?_
    exact zero _ _
  · iterate 2 refine (skip _ _ _ (by simp [Rect.idx_unit_val, ix2]; try omega)).trans ?_
    refine (hit _ _ _ y0 ⟨y1.val - 1536, by omega⟩ rfl (by simp [ix2] <;> omega)).trans ?_
    refine (dv_head Q O KV _ _ _ y1 _ _ _ (by decide) (by decide) (by simp only; omega)).trans ((Ideal.add_congr ?_ rfl).trans (zero_add _))
    rw [View.readCov_eq_canon']
    dsimp only
    iterate 5 refine (skip _ _ _ (by simp [Rect.idx_unit_val, ix2]; try omega)).trans ?_
    exact zero _ _
  · iterate 3 refine (skip _ _ _ (by simp [Rect.idx_unit_val, ix2]; try omega)).trans ?_
    refine (hit _ _ _ y0 ⟨y1.val - 512, by omega⟩ rfl (by simp [ix2] <;> omega)).trans ?_
    refine (dk_head Q O KV _ _ _ y1 _ _ _ _ (by decide) (by decide) rfl (by simp only; omega)).trans ((Ideal.add_congr ?_ rfl).trans (zero_add _))
    rw [View.readCov_eq_canon']
    dsimp only
    iterate 4 refine (skip _ _ _ (by simp [Rect.idx_unit_val, ix2]; try omega)).trans ?_
    exact zero _ _
  · iterate 4 refine (skip _ _ _ (by simp [Rect.idx_unit_val, ix2]; try omega)).trans ?_
    refine (hit _ _ _ y0 ⟨y1.val - 1280, by omega⟩ rfl (by simp [ix2] <;> omega)).trans ?_
    refine (dv_head Q O KV _ _ _ y1 _ _ _ (by decide) (by decide) (by simp only; omega)).trans ((Ideal.add_congr ?_ rfl).trans (zero_add _))
    rw [View.readCov_eq_canon']
    dsimp only
    iterate 3 refine (skip _ _ _ (by simp [Rect.idx_unit_val, ix2]; try omega)).trans ?_
    exact zero _ _
  · iterate 5 refine (skip _ _ _ (by simp [Rect.idx_unit_val, ix2]; try omega)).trans ?_
    refine (hit _ _ _ y0 ⟨y1.val - 256, by omega⟩ rfl (by simp [ix2] <;> omega)).trans ?_
    refine (dk_head Q O KV _ _ _ y1 _ _ _ _ (by decide) (by decide) rfl (by simp only; omega)).trans ((Ideal.add_congr ?_ rfl).trans (zero_add _))
    rw [View.readCov_eq_canon']
    dsimp only
    iterate 2 refine (skip _ _ _ (by simp [Rect.idx_unit_val, ix2]; try omega)).trans ?_
    exact zero _ _
  · iterate 6 refine (skip _ _ _ (by simp [Rect.idx_unit_val, ix2]; try omega)).trans ?_
    refine (hit _ _ _ y0 ⟨y1.val - 1024, by omega⟩ rfl (by simp [ix2] <;> omega)).trans ?_
    refine (dv_head Q O KV _ _ _ y1 _ _ _ (by decide) (by decide) (by simp only; omega)).trans ((Ideal.add_congr ?_ rfl).trans (zero_add _))
    rw [View.readCov_eq_canon']
    dsimp only
    refine (skip _ _ _ (by simp [Rect.idx_unit_val, ix2]; try omega)).trans ?_
    exact zero _ _
  · iterate 7 refine (skip _ _ _ (by simp [Rect.idx_unit_val, ix2]; try omega)).trans ?_
    refine (hit _ _ _ y0 ⟨y1.val - 0, by omega⟩ rfl (by simp [ix2] <;> omega)).trans ?_
    refine (dk_head Q O KV _ _ _ y1 _ _ _ _ (by decide) (by decide) rfl (by simp only; omega)).trans ((Ideal.add_congr ?_ rfl).trans (zero_add _))
    rw [View.readCov_eq_canon']
    dsimp only
    exact zero _ _

/-- The gradient of the keys and values after the last point of a run. -/
theorem finalK (c : Dev nD) (t : Fin cfg0.N) (h : t.val % 4 = 4 - 1) (j) :
    (outsAt0 m c t.val t.isLt).2 j = ∑ s : Fin 4, term m c ⟨4 * (t.val / 4) + s.val, Pipeline.run_point_lt_of_flush t h s⟩ j := by
  rw [Pipeline.eq_sum_fin_of_reset_step_apply_of_flush (fun n h => (outsAt0 m c n h).2) 4 (fun _ => 0) (term m c)
    (fun t h j => (stepA m c t h j).trans (zero_add _).symm) (fun t h j => stepB m c t h j) t h j, zero_add]

/-- The gradient of the keys and values. -/
def GK (q : FVec Ideal S2048x1024 .bf16) (kv : FVec Ideal S256x2048 .bf16) (o : FVec Ideal S2048x1024 .bf16) : FVec Ideal S256x2048 .f32 := fun y =>
  part (n := 2048) q o kv (y 0) (y 1)

/-- Four blocks of rows together. -/
theorem part_sum (Qs Os : Fin 4 → (⟨2, ![512, 1024]⟩ : Shape).Idx → EReal) (Ks : Fin 4 → S256x2048.Idx → EReal)
    (Q O : (⟨2, ![2048, 1024]⟩ : Shape).Idx → EReal) (K : S256x2048.Idx → EReal) (j : Fin 256) (y : Fin 2048)
    (hq : ∀ s (k : Fin 512) (r : Fin 2048) i, r.val = s.val * 512 + k.val → Qs s (ix2 k i) = Q (ix2 r i))
    (ho : ∀ s (k : Fin 512) (r : Fin 2048) i, r.val = s.val * 512 + k.val → Os s (ix2 k i) = O (ix2 r i))
    (hk : ∀ s j i, Ks s (ix2 j i) = K (ix2 j i)) : ∑ s, part (Qs s) (Os s) (Ks s) j y = part Q O K j y := by
  unfold part grad prob
  by_cases h : y.val < 1024
  · simp only [dif_pos h]
    refine Fin.sum_mul_add_congr fun s k hl => ?_
    exact Ideal.mul_congr (Cert.Cross.grad_congr (fun d => hq s k _ _ rfl) (fun d => ho s k _ _ rfl) (fun j d => hk s _ _) (fun j d => hk s _ _) rfl) (hq s k _ _ rfl)
  · simp only [dif_neg h]
    refine Fin.sum_mul_add_congr fun s k hl => ?_
    exact Ideal.mul_congr (Cert.Cross.prob_congr (fun d => hq s k _ _ rfl) (fun j d => hk s _ _) rfl) (ho s k _ _ rfl)

set_option maxHeartbeats 1600000 in
theorem final4 (c : Dev nD) : (dats m 0 c).arrAt 4 (cfgs 0).N =
    GK (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  have h : t.val % 4 = 4 - 1 := by have := (flush0_4 t).mp hf; have := lt_of_lt_of_eq t.isLt N_0; omega
  rw [after0_4]
  refine (finalK m c t h y).trans ?_
  unfold GK term
  refine (part_sum _ _ _ (m ((c : Thread nD τ).loc main_arg0)) (m ((c : Thread nD τ).loc main_arg2)) (m ((c : Thread nD τ).loc main_arg1)) _ _
    (fun s k r i hr => ?_) (fun s k r i hr => ?_) fun s j i => ?_).trans ?_
  · blk_ext [iblk, V, idx t, idx ⟨_, Pipeline.run_point_lt_of_flush t h s⟩]
  · blk_ext [iblk, V, idx t, idx ⟨_, Pipeline.run_point_lt_of_flush t h s⟩]
  · blk_ext [iblk, V, idx t, idx ⟨_, Pipeline.run_point_lt_of_flush t h s⟩]
  · refine congrArg₂ (part _ _ _) ?_ ?_ <;> refine Fin.ext ?_ <;> simp [idx t]

end Cert.CrossBIdeal.Val

end
-- ==== Proof.XCrossB.lean ====
module

public import proofs.«01_k».proof.Proof.Cross

@[expose] public section

/- The expressions `jax.vjp` makes of the cross-attention, over the extended reals. -/

noncomputable section

open Idealize.ShloMosaic

namespace Cert.CrossForm

/-- The gradient as `jax.vjp` takes it, written out. -/
theorem grad_form (q o : Fin 256 → EReal) (k v : Fin 256 → Fin 256 → EReal) (hq : ∀ d, ∃ r : ℝ, q d = r) (hk : ∀ j d, ∃ r : ℝ, k j d = r) (j : Fin 256) :
    (Ideal.div (∑ d, o d * v j d) (∑ l, Ideal.exp ((∑ d, q d * k l d) * Ideal.ofBits .f32 0x3D800000#32 -
            max (Ideal.ofBits .f32 0xFF800000#32) (Finset.univ.fold max (Ideal.ofBits .f32 0xFF800000#32) fun x => (∑ d, q d * k x d) * Ideal.ofBits .f32 0x3D800000#32)))
        + ∑ _x : Fin 1, -∑ l, (∑ d, o d * v l d) * Ideal.div 1
            ((∑ l, Ideal.exp ((∑ d, q d * k l d) * Ideal.ofBits .f32 0x3D800000#32 -
                max (Ideal.ofBits .f32 0xFF800000#32) (Finset.univ.fold max (Ideal.ofBits .f32 0xFF800000#32) fun x => (∑ d, q d * k x d) * Ideal.ofBits .f32 0x3D800000#32)))
              * ∑ l, Ideal.exp ((∑ d, q d * k l d) * Ideal.ofBits .f32 0x3D800000#32 -
                max (Ideal.ofBits .f32 0xFF800000#32) (Finset.univ.fold max (Ideal.ofBits .f32 0xFF800000#32) fun x => (∑ d, q d * k x d) * Ideal.ofBits .f32 0x3D800000#32)))
            * Ideal.exp ((∑ d, q d * k l d) * Ideal.ofBits .f32 0x3D800000#32 -
                max (Ideal.ofBits .f32 0xFF800000#32) (Finset.univ.fold max (Ideal.ofBits .f32 0xFF800000#32) fun x => (∑ d, q d * k x d) * Ideal.ofBits .f32 0x3D800000#32)))
      * Ideal.exp ((∑ d, q d * k j d) * Ideal.ofBits .f32 0x3D800000#32 -
          max (Ideal.ofBits .f32 0xFF800000#32) (Finset.univ.fold max (Ideal.ofBits .f32 0xFF800000#32) fun x => (∑ d, q d * k x d) * Ideal.ofBits .f32 0x3D800000#32))
      * Ideal.ofBits .f32 0x3D800000#32 = Cert.Cross.grad q o k v j := by
  simp only [Cert.Cross.max_fold, Finset.univ_unique, Finset.sum_singleton]
  exact Cert.Cross.ds_eq (Cert.Cross.score q k) (Cert.Cross.back o v) (Cert.Cross.real_score q k hq hk) j

/-- The softmax, with the largest score found as the reference finds it. -/
theorem prob_form (q : Fin 256 → EReal) (k : Fin 256 → Fin 256 → EReal) (j : Fin 256) :
    Ideal.div (Ideal.exp ((∑ d, q d * k j d) * Ideal.ofBits .f32 0x3D800000#32 -
        max (Ideal.ofBits .f32 0xFF800000#32) (Finset.univ.fold max (Ideal.ofBits .f32 0xFF800000#32) fun x => (∑ d, q d * k x d) * Ideal.ofBits .f32 0x3D800000#32)))
      (∑ l, Ideal.exp ((∑ d, q d * k l d) * Ideal.ofBits .f32 0x3D800000#32 -
        max (Ideal.ofBits .f32 0xFF800000#32) (Finset.univ.fold max (Ideal.ofBits .f32 0xFF800000#32) fun x => (∑ d, q d * k x d) * Ideal.ofBits .f32 0x3D800000#32)))
      = Cert.Cross.prob (Cert.Cross.score q k) j := by
  simp only [Cert.Cross.max_fold]
  rfl

end Cert.CrossForm

end
-- ==== Proof.ACrossBQ.lean ====
module

public import proofs.«01_k».proof.Proof.Gen.CrossBReferenceIdeal.Run
public import proofs.«01_k».proof.Proof.WCrossB
public import proofs.«01_k».proof.Proof.XCrossB
public import Idealize.ShloMosaic.Lib.Claim

@[expose] public section

/- The reference's gradient of the queries is the kernel's. -/

set_option maxRecDepth 16384

noncomputable section

open Idealize.ShloMosaic Idealize.ShloMosaic.TcCoe Idealize.SL.Sem

namespace Cert.ACrossB

open Cert.CrossBIdeal (S2048x1024 S256x2048)

set_option maxHeartbeats 3200000 in
theorem valueQ (m : (ℓ : Loc Cert.CrossBReferenceIdeal.nD Cert.CrossBReferenceIdeal.τ Cert.CrossBReferenceIdeal.sig) → Buf (Elt Ideal) ℓ) (c : Dev Cert.CrossBReferenceIdeal.nD)
    (q : FVec Ideal S2048x1024 .bf16) (kv : FVec Ideal S256x2048 .bf16) (o : FVec Ideal S2048x1024 .bf16)
    (e0 : m ((c.tc : Thread _ _).loc Cert.CrossBReferenceIdeal.main_arg0) = q) (e1 : m ((c.tc : Thread _ _).loc Cert.CrossBReferenceIdeal.main_arg1) = kv)
    (e2 : m ((c.tc : Thread _ _).loc Cert.CrossBReferenceIdeal.main_arg2) = o) (hx : ∀ i, ∃ r : ℝ, q i = r) (hk : ∀ (j : Fin 256) (i : Fin 1024), ∃ r : ℝ, kv (ix2 j (Cert.CrossBIdeal.Val.low i)) = r) :
    Cert.CrossBReferenceIdeal.Value.res_main_v69 m c = Cert.CrossBIdeal.Val.GQ q kv o := by
  unfold Cert.CrossBReferenceIdeal.Value.res_main_v69
  simp only [e0, e1, e2]
  funext i
  idx_vars i
  pointwise [Cert.CrossBIdeal.Val.GQ, Cert.CrossBIdeal.Val.grad]
  refine Finset.sum_congr rfl fun x _ => Ideal.mul_congr ?_ rfl
  exact Cert.CrossForm.grad_form (fun d => q (ix2 i0 (Cert.CrossBIdeal.Val.inHead i1 d))) (fun d => o (ix2 i0 (Cert.CrossBIdeal.Val.inHead i1 d)))
    (fun j d => kv (ix2 j (Cert.CrossBIdeal.Val.low (Cert.CrossBIdeal.Val.inHead i1 d))))
    (fun j d => kv (ix2 j (Cert.CrossBIdeal.Val.high (Cert.CrossBIdeal.Val.inHead i1 d)))) (fun d => hx _) (fun j d => hk _ _) x

end Cert.ACrossB

end
-- ==== Proof.ACrossBK.lean ====
module

public import proofs.«01_k».proof.Proof.Gen.CrossBReferenceIdeal.Run
public import proofs.«01_k».proof.Proof.ACrossBQ
public import Idealize.ShloMosaic.Lib.Claim

@[expose] public section

/- The reference's gradient of the keys and values is the kernel's. -/

set_option maxRecDepth 16384

noncomputable section

open Idealize.ShloMosaic Idealize.ShloMosaic.TcCoe Idealize.SL.Sem

namespace Cert.ACrossB

open Cert.CrossBIdeal (S2048x1024 S256x2048)

open Cert.CrossBIdeal.Val (inHead low high grad prob)

theorem low_form (q o : FVec Ideal S2048x1024 .bf16) (kv : FVec Ideal S256x2048 .bf16) (hx : ∀ i, ∃ r : ℝ, q i = r) (hk : ∀ (j : Fin 256) (i : Fin 1024), ∃ r : ℝ, kv (ix2 j (Cert.CrossBIdeal.Val.low i)) = r)
    (i i' : Fin 1024) (e : i' = i) (j : Fin 256) : (∑ r : Fin 2048, (Ideal.div (∑ d : Fin 256, o (ix2 r (inHead i d)) * kv (ix2 j (high (inHead i d)))) (∑ l : Fin 256, Ideal.exp (((∑ d : Fin 256, q (ix2 r (inHead i d)) * kv (ix2 l (low (inHead i d)))) * Ideal.ofBits .f32 0x3D800000#32) - max (Ideal.ofBits .f32 0xFF800000#32) (Finset.univ.fold max (Ideal.ofBits .f32 0xFF800000#32) fun x : Fin 256 => ((∑ d : Fin 256, q (ix2 r (inHead i d)) * kv (ix2 x (low (inHead i d)))) * Ideal.ofBits .f32 0x3D800000#32))))
        + ∑ _x : Fin 1, -∑ l : Fin 256, (∑ d : Fin 256, o (ix2 r (inHead i d)) * kv (ix2 l (high (inHead i d)))) * Ideal.div 1 ((∑ l : Fin 256, Ideal.exp (((∑ d : Fin 256, q (ix2 r (inHead i d)) * kv (ix2 l (low (inHead i d)))) * Ideal.ofBits .f32 0x3D800000#32) - max (Ideal.ofBits .f32 0xFF800000#32) (Finset.univ.fold max (Ideal.ofBits .f32 0xFF800000#32) fun x : Fin 256 => ((∑ d : Fin 256, q (ix2 r (inHead i d)) * kv (ix2 x (low (inHead i d)))) * Ideal.ofBits .f32 0x3D800000#32)))) * (∑ l : Fin 256, Ideal.exp (((∑ d : Fin 256, q (ix2 r (inHead i d)) * kv (ix2 l (low (inHead i d)))) * Ideal.ofBits .f32 0x3D800000#32) - max (Ideal.ofBits .f32 0xFF800000#32) (Finset.univ.fold max (Ideal.ofBits .f32 0xFF800000#32) fun x : Fin 256 => ((∑ d : Fin 256, q (ix2 r (inHead i d)) * kv (ix2 x (low (inHead i d)))) * Ideal.ofBits .f32 0x3D800000#32))))) * Ideal.exp (((∑ d : Fin 256, q (ix2 r (inHead i d)) * kv (ix2 l (low (inHead i d)))) * Ideal.ofBits .f32 0x3D800000#32) - max (Ideal.ofBits .f32 0xFF800000#32) (Finset.univ.fold max (Ideal.ofBits .f32 0xFF800000#32) fun x : Fin 256 => ((∑ d : Fin 256, q (ix2 r (inHead i d)) * kv (ix2 x (low (inHead i d)))) * Ideal.ofBits .f32 0x3D800000#32))))
      * Ideal.exp (((∑ d : Fin 256, q (ix2 r (inHead i d)) * kv (ix2 j (low (inHead i d)))) * Ideal.ofBits .f32 0x3D800000#32) - max (Ideal.ofBits .f32 0xFF800000#32) (Finset.univ.fold max (Ideal.ofBits .f32 0xFF800000#32) fun x : Fin 256 => ((∑ d : Fin 256, q (ix2 r (inHead i d)) * kv (ix2 x (low (inHead i d)))) * Ideal.ofBits .f32 0x3D800000#32))) * Ideal.ofBits .f32 0x3D800000#32 * q (ix2 r i') : EReal) = ∑ r : Fin 2048, grad q o kv i r j * q (ix2 r i) := by
  subst e
  exact Finset.sum_congr rfl fun r _ => Ideal.mul_congr (Cert.CrossForm.grad_form (fun d => q (ix2 r (inHead i' d))) (fun d => o (ix2 r (inHead i' d)))
    (fun j d => kv (ix2 j (low (inHead i' d)))) (fun j d => kv (ix2 j (high (inHead i' d)))) (fun d => hx _) (fun j d => hk _ _) j) rfl

theorem high_form (q o : FVec Ideal S2048x1024 .bf16) (kv : FVec Ideal S256x2048 .bf16) (i i' : Fin 1024) (e : i' = i) (j : Fin 256) :
    (∑ r : Fin 2048, o (ix2 r i') * Ideal.div (Ideal.exp (((∑ d : Fin 256, q (ix2 r (inHead i d)) * kv (ix2 j (low (inHead i d)))) * Ideal.ofBits .f32 0x3D800000#32) - max (Ideal.ofBits .f32 0xFF800000#32) (Finset.univ.fold max (Ideal.ofBits .f32 0xFF800000#32) fun x : Fin 256 => ((∑ d : Fin 256, q (ix2 r (inHead i d)) * kv (ix2 x (low (inHead i d)))) * Ideal.ofBits .f32 0x3D800000#32)))) (∑ l : Fin 256, Ideal.exp (((∑ d : Fin 256, q (ix2 r (inHead i d)) * kv (ix2 l (low (inHead i d)))) * Ideal.ofBits .f32 0x3D800000#32) - max (Ideal.ofBits .f32 0xFF800000#32) (Finset.univ.fold max (Ideal.ofBits .f32 0xFF800000#32) fun x : Fin 256 => ((∑ d : Fin 256, q (ix2 r (inHead i d)) * kv (ix2 x (low (inHead i d)))) * Ideal.ofBits .f32 0x3D800000#32)))) : EReal) = ∑ r : Fin 2048, prob q kv i r j * o (ix2 r i) := by
  subst e
  exact Finset.sum_congr rfl fun r _ => (mul_comm _ _).trans (Ideal.mul_congr (Cert.CrossForm.prob_form (fun d => q (ix2 r (inHead i' d)))
    (fun j d => kv (ix2 j (low (inHead i' d)))) j) rfl)

set_option maxHeartbeats 3200000 in
theorem valueK (m : (ℓ : Loc Cert.CrossBReferenceIdeal.nD Cert.CrossBReferenceIdeal.τ Cert.CrossBReferenceIdeal.sig) → Buf (Elt Ideal) ℓ) (c : Dev Cert.CrossBReferenceIdeal.nD)
    (q : FVec Ideal S2048x1024 .bf16) (kv : FVec Ideal S256x2048 .bf16) (o : FVec Ideal S2048x1024 .bf16)
    (e0 : m ((c.tc : Thread _ _).loc Cert.CrossBReferenceIdeal.main_arg0) = q) (e1 : m ((c.tc : Thread _ _).loc Cert.CrossBReferenceIdeal.main_arg1) = kv)
    (e2 : m ((c.tc : Thread _ _).loc Cert.CrossBReferenceIdeal.main_arg2) = o) (hx : ∀ i, ∃ r : ℝ, q i = r) (hk : ∀ (j : Fin 256) (i : Fin 1024), ∃ r : ℝ, kv (ix2 j (Cert.CrossBIdeal.Val.low i)) = r) :
    Cert.CrossBReferenceIdeal.Value.res_main_v67 m c = Cert.CrossBIdeal.Val.GK q kv o := by
  unfold Cert.CrossBReferenceIdeal.Value.res_main_v67
  subst e0 e1 e2
  funext i
  idx_vars i
  pointwise [Cert.CrossBIdeal.Val.GK, Cert.CrossBIdeal.Val.part]
  by_cases h : (i1 : ℕ) < 1024
  · simp only [h, ↓reduceIte, ↓reduceDIte]
    exact low_form (m ((c.tc : Thread _ _).loc Cert.CrossBReferenceIdeal.main_arg0)) (m ((c.tc : Thread _ _).loc Cert.CrossBReferenceIdeal.main_arg2)) (m ((c.tc : Thread _ _).loc Cert.CrossBReferenceIdeal.main_arg1)) hx hk ⟨(i1 : ℕ), h⟩ ⟨(i1 : ℕ) / 256 * 256 + (i1 : ℕ) % 256, by omega⟩ (Fin.ext (Nat.div_add_mod' (i1 : ℕ) 256)) i0
  · simp only [h, ↓reduceIte, ↓reduceDIte]
    exact high_form (m ((c.tc : Thread _ _).loc Cert.CrossBReferenceIdeal.main_arg0)) (m ((c.tc : Thread _ _).loc Cert.CrossBReferenceIdeal.main_arg2)) (m ((c.tc : Thread _ _).loc Cert.CrossBReferenceIdeal.main_arg1)) ⟨(i1 : ℕ) - 1024, by have := i1.isLt; omega⟩ ⟨((i1 : ℕ) - 1024) / 256 * 256 + ((i1 : ℕ) - 1024) % 256, by have := i1.isLt; omega⟩ (Fin.ext (Nat.div_add_mod' ((i1 : ℕ) - 1024) 256)) i0

end Cert.ACrossB

end
-- ==== Proof.ACrossB.lean ====
module

public import proofs.«01_k».proof.Defs
public import proofs.«01_k».proof.Proof.Gen.CrossB.Frame
public import proofs.«01_k».proof.Proof.Gen.CrossBReferenceIdeal.Run
public import proofs.«01_k».proof.Proof.ACrossBQ
public import proofs.«01_k».proof.Proof.ACrossBK
public import proofs.«01_k».proof.Proof.Gen.Pre_cross_bwd_finite

@[expose] public section

/- The claims about `CrossB`: both frames, and its value beside the reference's. -/

set_option maxRecDepth 16384

noncomputable section

open Idealize.ShloMosaic Idealize.ShloMosaic.TcCoe Idealize.SL.Sem

namespace Cert.ACrossB

theorem frameReference : Cert.quiescent_CrossBReferenceIdeal := fun m ρ _ =>
  (θ_run Cert.CrossBReferenceIdeal.defs _ _).mono (fun r h => ⟨fun c => (h c).2.2, sem_eq_zero_of_no_sems (by decide) r.2⟩)
    (Cert.CrossBReferenceIdeal.Value.run (F := Ideal) m ρ)

/-- What the precondition says of the keys, the lower half of the columns. -/
theorem low_real (kv : FVec Ideal Cert.CrossBIdeal.S256x2048 .bf16) (hs : (⟨2, ![256, 2048]⟩ : Shape).Slices ![0, 0] ⟨2, ![256, 1024]⟩)
    (h : ∀ i, ∃ r : ℝ, extractStridedSlice (⟨2, ![256, 1024]⟩ : Shape) ![0, 0] kv hs i = r) (j : Fin 256) (i : Fin 1024) :
    ∃ r : ℝ, kv (ix2 j (Cert.CrossBIdeal.Val.low i)) = r := by
  obtain ⟨r, hr⟩ := h (ix2 j i)
  refine ⟨r, ?_⟩
  rw [← hr]
  pointwise
  rfl

set_option maxHeartbeats 3200000 in
theorem value : Cert.algebraic_CrossBIdeal_CrossBReferenceIdeal_pre_cross_bwd_finite (hPre_cross_bwd_finite := Cert.Pre_cross_bwd_finite.Gen.facts) := by
  pair_intro
  · run_from Cert.CrossBIdeal.Gen.run_main m g
  · run_from Cert.CrossBReferenceIdeal.Value.run m' g'
    all_goals
      have hq := congrFun (hpre c) (fun k => k.elim0)
      dsimp only [Cert.Pre_cross_bwd_finite.fn, andi] at hq
      rw [IntOp.andi_eq_one] at hq
      have hx := Cert.Reals.real_of_all _ _ _ _ _ hq.1
      have hk := Cert.Reals.real_of_all _ _ _ _ _ hq.2
    · exact (valueQ m' c _ _ _ (hagree c).1 (hagree c).2.1 (hagree c).2.2 hx fun j i => low_real _ Cert.Pre_cross_bwd_finite.Gen.slices_S256x2048_S256x1024_0_0 hk j i).trans (Cert.CrossBIdeal.Val.finalQ m c).symm
    · exact (valueK m' c _ _ _ (hagree c).1 (hagree c).2.1 (hagree c).2.2 hx fun j i => low_real _ Cert.Pre_cross_bwd_finite.Gen.slices_S256x2048_S256x1024_0_0 hk j i).trans (Cert.CrossBIdeal.Val.final4 m c).symm

end Cert.ACrossB

end
-- ==== Proof.lean ====
module

public import proofs.«01_k».proof.Defs
public import proofs.«01_k».proof.Proof.Gen.Proj.Frame
public import proofs.«01_k».proof.Proof.Gen.ProjIdeal.Frame
public import proofs.«01_k».proof.Proof.Gen.ProjReferenceIdeal.Run
public import proofs.«01_k».proof.Proof.AProj
public import proofs.«01_k».proof.Proof.Gen.BrRnn.Frame
public import proofs.«01_k».proof.Proof.Gen.BrRnnIdeal.Frame
public import proofs.«01_k».proof.Proof.Gen.BrRnnReferenceIdeal.Run
public import proofs.«01_k».proof.Proof.ABrRnn
public import proofs.«01_k».proof.Proof.Gen.BrAttn.Frame
public import proofs.«01_k».proof.Proof.Gen.BrAttnIdeal.Frame
public import proofs.«01_k».proof.Proof.Gen.BrAttnReferenceIdeal.Run
public import proofs.«01_k».proof.Proof.ABrAttn
public import proofs.«01_k».proof.Proof.Gen.Cq.Frame
public import proofs.«01_k».proof.Proof.Gen.CqIdeal.Frame
public import proofs.«01_k».proof.Proof.Gen.CqReferenceIdeal.Run
public import proofs.«01_k».proof.Proof.ACq
public import proofs.«01_k».proof.Proof.Gen.Ckv.Frame
public import proofs.«01_k».proof.Proof.Gen.CkvIdeal.Frame
public import proofs.«01_k».proof.Proof.Gen.CkvReferenceIdeal.Run
public import proofs.«01_k».proof.Proof.ACkv
public import proofs.«01_k».proof.Proof.Gen.FfnWi.Frame
public import proofs.«01_k».proof.Proof.Gen.FfnWiIdeal.Frame
public import proofs.«01_k».proof.Proof.Gen.FfnWiReferenceIdeal.Run
public import proofs.«01_k».proof.Proof.AFfnWi
public import proofs.«01_k».proof.Proof.Gen.Dact.Frame
public import proofs.«01_k».proof.Proof.Gen.DactIdeal.Frame
public import proofs.«01_k».proof.Proof.Gen.DactReferenceIdeal.Run
public import proofs.«01_k».proof.Proof.ADact
public import proofs.«01_k».proof.Proof.Gen.Dh2.Frame
public import proofs.«01_k».proof.Proof.Gen.Dh2Ideal.Frame
public import proofs.«01_k».proof.Proof.Gen.Dh2ReferenceIdeal.Run
public import proofs.«01_k».proof.Proof.ADh2
public import proofs.«01_k».proof.Proof.Gen.Do.Frame
public import proofs.«01_k».proof.Proof.Gen.DoIdeal.Frame
public import proofs.«01_k».proof.Proof.Gen.DoReferenceIdeal.Run
public import proofs.«01_k».proof.Proof.ADo
public import proofs.«01_k».proof.Proof.Gen.Dh1.Frame
public import proofs.«01_k».proof.Proof.Gen.Dh1Ideal.Frame
public import proofs.«01_k».proof.Proof.Gen.Dh1ReferenceIdeal.Run
public import proofs.«01_k».proof.Proof.ADh1
public import proofs.«01_k».proof.Proof.Gen.Dmerged.Frame
public import proofs.«01_k».proof.Proof.Gen.DmergedIdeal.Frame
public import proofs.«01_k».proof.Proof.Gen.DmergedReferenceIdeal.Run
public import proofs.«01_k».proof.Proof.ADmerged
public import proofs.«01_k».proof.Proof.Gen.Dh.Frame
public import proofs.«01_k».proof.Proof.Gen.DhIdeal.Frame
public import proofs.«01_k».proof.Proof.Gen.DhReferenceIdeal.Run
public import proofs.«01_k».proof.Proof.ADh
public import proofs.«01_k».proof.Proof.Gen.DFfnWo.Frame
public import proofs.«01_k».proof.Proof.Gen.DFfnWoIdeal.Frame
public import proofs.«01_k».proof.Proof.Gen.DFfnWoReferenceIdeal.Run
public import proofs.«01_k».proof.Proof.ADFfnWo
public import proofs.«01_k».proof.Proof.Gen.DFfnWi.Frame
public import proofs.«01_k».proof.Proof.Gen.DFfnWiIdeal.Frame
public import proofs.«01_k».proof.Proof.Gen.DFfnWiReferenceIdeal.Run
public import proofs.«01_k».proof.Proof.ADFfnWi
public import proofs.«01_k».proof.Proof.Gen.Dco.Frame
public import proofs.«01_k».proof.Proof.Gen.DcoIdeal.Frame
public import proofs.«01_k».proof.Proof.Gen.DcoReferenceIdeal.Run
public import proofs.«01_k».proof.Proof.ADco
public import proofs.«01_k».proof.Proof.Gen.Dcq.Frame
public import proofs.«01_k».proof.Proof.Gen.DcqIdeal.Frame
public import proofs.«01_k».proof.Proof.Gen.DcqReferenceIdeal.Run
public import proofs.«01_k».proof.Proof.ADcq
public import proofs.«01_k».proof.Proof.Gen.Dckv.Frame
public import proofs.«01_k».proof.Proof.Gen.DckvIdeal.Frame
public import proofs.«01_k».proof.Proof.Gen.DckvReferenceIdeal.Run
public import proofs.«01_k».proof.Proof.ADckv
public import proofs.«01_k».proof.Proof.Gen.DbrRnn.Frame
public import proofs.«01_k».proof.Proof.Gen.DbrRnnIdeal.Frame
public import proofs.«01_k».proof.Proof.Gen.DbrRnnReferenceIdeal.Run
public import proofs.«01_k».proof.Proof.ADbrRnn
public import proofs.«01_k».proof.Proof.Gen.DIn.Frame
public import proofs.«01_k».proof.Proof.Gen.DInIdeal.Frame
public import proofs.«01_k».proof.Proof.Gen.DInReferenceIdeal.Run
public import proofs.«01_k».proof.Proof.ADIn
public import proofs.«01_k».proof.Proof.Gen.MergeB.Frame
public import proofs.«01_k».proof.Proof.Gen.MergeBIdeal.Frame
public import proofs.«01_k».proof.Proof.Gen.MergeBReferenceIdeal.Run
public import proofs.«01_k».proof.Proof.AMergeB
public import proofs.«01_k».proof.Proof.Gen.MergeF.Frame
public import proofs.«01_k».proof.Proof.Gen.MergeFIdeal.Frame
public import proofs.«01_k».proof.Proof.Gen.MergeFReferenceIdeal.Run
public import proofs.«01_k».proof.Proof.AMergeF
public import proofs.«01_k».proof.Proof.Gen.SwigluB.Frame
public import proofs.«01_k».proof.Proof.Gen.SwigluBIdeal.Frame
public import proofs.«01_k».proof.Proof.Gen.SwigluBReferenceIdeal.Run
public import proofs.«01_k».proof.Proof.ASwigluB
public import proofs.«01_k».proof.Proof.Gen.SwigluF.Frame
public import proofs.«01_k».proof.Proof.Gen.SwigluFIdeal.Frame
public import proofs.«01_k».proof.Proof.Gen.SwigluFReferenceIdeal.Run
public import proofs.«01_k».proof.Proof.ASwigluF
public import proofs.«01_k».proof.Proof.Gen.AdamVec.Frame
public import proofs.«01_k».proof.Proof.Gen.AdamVecIdeal.Frame
public import proofs.«01_k».proof.Proof.Gen.AdamVecReferenceIdeal.Run
public import proofs.«01_k».proof.Proof.AAdamVec
public import proofs.«01_k».proof.Proof.Gen.AdamSinks.Frame
public import proofs.«01_k».proof.Proof.Gen.AdamSinksIdeal.Frame
public import proofs.«01_k».proof.Proof.Gen.AdamSinksReferenceIdeal.Run
public import proofs.«01_k».proof.Proof.AAdamSinks
public import proofs.«01_k».proof.Proof.Gen.AdamConv.Frame
public import proofs.«01_k».proof.Proof.Gen.AdamConvIdeal.Frame
public import proofs.«01_k».proof.Proof.Gen.AdamConvReferenceIdeal.Run
public import proofs.«01_k».proof.Proof.AAdamConv
public import proofs.«01_k».proof.Proof.Gen.AdamInUp.Frame
public import proofs.«01_k».proof.Proof.Gen.AdamInUpIdeal.Frame
public import proofs.«01_k».proof.Proof.Gen.AdamInUpReferenceIdeal.Run
public import proofs.«01_k».proof.Proof.AAdamInUp
public import proofs.«01_k».proof.Proof.Gen.AdamInLow.Frame
public import proofs.«01_k».proof.Proof.Gen.AdamInLowIdeal.Frame
public import proofs.«01_k».proof.Proof.Gen.AdamInLowReferenceIdeal.Run
public import proofs.«01_k».proof.Proof.AAdamInLow
public import proofs.«01_k».proof.Proof.Gen.AdamRgUp.Frame
public import proofs.«01_k».proof.Proof.Gen.AdamRgUpIdeal.Frame
public import proofs.«01_k».proof.Proof.Gen.AdamRgUpReferenceIdeal.Run
public import proofs.«01_k».proof.Proof.AAdamRgUp
public import proofs.«01_k».proof.Proof.Gen.AdamRgLow.Frame
public import proofs.«01_k».proof.Proof.Gen.AdamRgLowIdeal.Frame
public import proofs.«01_k».proof.Proof.Gen.AdamRgLowReferenceIdeal.Run
public import proofs.«01_k».proof.Proof.AAdamRgLow
public import proofs.«01_k».proof.Proof.Gen.AdamOutUp.Frame
public import proofs.«01_k».proof.Proof.Gen.AdamOutUpIdeal.Frame
public import proofs.«01_k».proof.Proof.Gen.AdamOutUpReferenceIdeal.Run
public import proofs.«01_k».proof.Proof.AAdamOutUp
public import proofs.«01_k».proof.Proof.Gen.AdamOutLow.Frame
public import proofs.«01_k».proof.Proof.Gen.AdamOutLowIdeal.Frame
public import proofs.«01_k».proof.Proof.Gen.AdamOutLowReferenceIdeal.Run
public import proofs.«01_k».proof.Proof.AAdamOutLow
public import proofs.«01_k».proof.Proof.Gen.AdamCkvUp.Frame
public import proofs.«01_k».proof.Proof.Gen.AdamCkvUpIdeal.Frame
public import proofs.«01_k».proof.Proof.Gen.AdamCkvUpReferenceIdeal.Run
public import proofs.«01_k».proof.Proof.AAdamCkvUp
public import proofs.«01_k».proof.Proof.Gen.AdamCkvLow.Frame
public import proofs.«01_k».proof.Proof.Gen.AdamCkvLowIdeal.Frame
public import proofs.«01_k».proof.Proof.Gen.AdamCkvLowReferenceIdeal.Run
public import proofs.«01_k».proof.Proof.AAdamCkvLow
public import proofs.«01_k».proof.Proof.Gen.AdamWiUp.Frame
public import proofs.«01_k».proof.Proof.Gen.AdamWiUpIdeal.Frame
public import proofs.«01_k».proof.Proof.Gen.AdamWiUpReferenceIdeal.Run
public import proofs.«01_k».proof.Proof.AAdamWiUp
public import proofs.«01_k».proof.Proof.Gen.AdamWiLow.Frame
public import proofs.«01_k».proof.Proof.Gen.AdamWiLowIdeal.Frame
public import proofs.«01_k».proof.Proof.Gen.AdamWiLowReferenceIdeal.Run
public import proofs.«01_k».proof.Proof.AAdamWiLow
public import proofs.«01_k».proof.Proof.Gen.AdamWoUp.Frame
public import proofs.«01_k».proof.Proof.Gen.AdamWoUpIdeal.Frame
public import proofs.«01_k».proof.Proof.Gen.AdamWoUpReferenceIdeal.Run
public import proofs.«01_k».proof.Proof.AAdamWoUp
public import proofs.«01_k».proof.Proof.Gen.AdamWoLow.Frame
public import proofs.«01_k».proof.Proof.Gen.AdamWoLowIdeal.Frame
public import proofs.«01_k».proof.Proof.Gen.AdamWoLowReferenceIdeal.Run
public import proofs.«01_k».proof.Proof.AAdamWoLow
public import proofs.«01_k».proof.Proof.Gen.CrossF.Frame
public import proofs.«01_k».proof.Proof.Gen.CrossFIdeal.Frame
public import proofs.«01_k».proof.Proof.Gen.CrossFReferenceIdeal.Run
public import proofs.«01_k».proof.Proof.ACrossF
public import proofs.«01_k».proof.Proof.Gen.LossHead.Frame
public import proofs.«01_k».proof.Proof.Gen.LossHeadIdeal.Frame
public import proofs.«01_k».proof.Proof.Gen.LossHeadReferenceIdeal.Run
public import proofs.«01_k».proof.Proof.ALossHead
public import proofs.«01_k».proof.Proof.Gen.CrossB.Frame
public import proofs.«01_k».proof.Proof.Gen.CrossBIdeal.Frame
public import proofs.«01_k».proof.Proof.Gen.CrossBReferenceIdeal.Run
public import proofs.«01_k».proof.Proof.ACrossB
public import proofs.«01_k».proof.Proof.Gen.Pre_swiglu_bwd_finite
public import proofs.«01_k».proof.Proof.Gen.Pre_cross_bwd_finite

/- The certificate: for every call its frame bit-exactly and over the extended reals, its reference's frame, and its
   value beside the reference's. `A<call>` holds the value and the reference's frame, `V<call>` what the call computes. -/

@[expose] public section

noncomputable section

open Idealize.ShloMosaic Idealize.SL.Sem

namespace Cert.Proof

/-- Every claim of the certificate. -/
theorem claim : Cert.Claim :=
  ⟨Cert.Proj.Gen.facts, Cert.ProjIdeal.Gen.facts, Cert.ProjReferenceIdeal.Gen.facts,
    Cert.BrRnn.Gen.facts, Cert.BrRnnIdeal.Gen.facts, Cert.BrRnnReferenceIdeal.Gen.facts,
    Cert.BrAttn.Gen.facts, Cert.BrAttnIdeal.Gen.facts, Cert.BrAttnReferenceIdeal.Gen.facts,
    Cert.Cq.Gen.facts, Cert.CqIdeal.Gen.facts, Cert.CqReferenceIdeal.Gen.facts,
    Cert.Ckv.Gen.facts, Cert.CkvIdeal.Gen.facts, Cert.CkvReferenceIdeal.Gen.facts,
    Cert.FfnWi.Gen.facts, Cert.FfnWiIdeal.Gen.facts, Cert.FfnWiReferenceIdeal.Gen.facts,
    Cert.Dact.Gen.facts, Cert.DactIdeal.Gen.facts, Cert.DactReferenceIdeal.Gen.facts,
    Cert.Dh2.Gen.facts, Cert.Dh2Ideal.Gen.facts, Cert.Dh2ReferenceIdeal.Gen.facts,
    Cert.Do.Gen.facts, Cert.DoIdeal.Gen.facts, Cert.DoReferenceIdeal.Gen.facts,
    Cert.Dh1.Gen.facts, Cert.Dh1Ideal.Gen.facts, Cert.Dh1ReferenceIdeal.Gen.facts,
    Cert.Dmerged.Gen.facts, Cert.DmergedIdeal.Gen.facts, Cert.DmergedReferenceIdeal.Gen.facts,
    Cert.Dh.Gen.facts, Cert.DhIdeal.Gen.facts, Cert.DhReferenceIdeal.Gen.facts,
    Cert.DFfnWo.Gen.facts, Cert.DFfnWoIdeal.Gen.facts, Cert.DFfnWoReferenceIdeal.Gen.facts,
    Cert.DFfnWi.Gen.facts, Cert.DFfnWiIdeal.Gen.facts, Cert.DFfnWiReferenceIdeal.Gen.facts,
    Cert.Dco.Gen.facts, Cert.DcoIdeal.Gen.facts, Cert.DcoReferenceIdeal.Gen.facts,
    Cert.Dcq.Gen.facts, Cert.DcqIdeal.Gen.facts, Cert.DcqReferenceIdeal.Gen.facts,
    Cert.Dckv.Gen.facts, Cert.DckvIdeal.Gen.facts, Cert.DckvReferenceIdeal.Gen.facts,
    Cert.DbrRnn.Gen.facts, Cert.DbrRnnIdeal.Gen.facts, Cert.DbrRnnReferenceIdeal.Gen.facts,
    Cert.DIn.Gen.facts, Cert.DInIdeal.Gen.facts, Cert.DInReferenceIdeal.Gen.facts,
    Cert.MergeB.Gen.facts, Cert.MergeBIdeal.Gen.facts, Cert.MergeBReferenceIdeal.Gen.facts,
    Cert.MergeF.Gen.facts, Cert.MergeFIdeal.Gen.facts, Cert.MergeFReferenceIdeal.Gen.facts,
    Cert.SwigluB.Gen.facts, Cert.SwigluBIdeal.Gen.facts, Cert.SwigluBReferenceIdeal.Gen.facts,
    Cert.SwigluF.Gen.facts, Cert.SwigluFIdeal.Gen.facts, Cert.SwigluFReferenceIdeal.Gen.facts,
    Cert.AdamVec.Gen.facts, Cert.AdamVecIdeal.Gen.facts, Cert.AdamVecReferenceIdeal.Gen.facts,
    Cert.AdamSinks.Gen.facts, Cert.AdamSinksIdeal.Gen.facts, Cert.AdamSinksReferenceIdeal.Gen.facts,
    Cert.AdamConv.Gen.facts, Cert.AdamConvIdeal.Gen.facts, Cert.AdamConvReferenceIdeal.Gen.facts,
    Cert.AdamInUp.Gen.facts, Cert.AdamInUpIdeal.Gen.facts, Cert.AdamInUpReferenceIdeal.Gen.facts,
    Cert.AdamInLow.Gen.facts, Cert.AdamInLowIdeal.Gen.facts, Cert.AdamInLowReferenceIdeal.Gen.facts,
    Cert.AdamRgUp.Gen.facts, Cert.AdamRgUpIdeal.Gen.facts, Cert.AdamRgUpReferenceIdeal.Gen.facts,
    Cert.AdamRgLow.Gen.facts, Cert.AdamRgLowIdeal.Gen.facts, Cert.AdamRgLowReferenceIdeal.Gen.facts,
    Cert.AdamOutUp.Gen.facts, Cert.AdamOutUpIdeal.Gen.facts, Cert.AdamOutUpReferenceIdeal.Gen.facts,
    Cert.AdamOutLow.Gen.facts, Cert.AdamOutLowIdeal.Gen.facts, Cert.AdamOutLowReferenceIdeal.Gen.facts,
    Cert.AdamCkvUp.Gen.facts, Cert.AdamCkvUpIdeal.Gen.facts, Cert.AdamCkvUpReferenceIdeal.Gen.facts,
    Cert.AdamCkvLow.Gen.facts, Cert.AdamCkvLowIdeal.Gen.facts, Cert.AdamCkvLowReferenceIdeal.Gen.facts,
    Cert.AdamWiUp.Gen.facts, Cert.AdamWiUpIdeal.Gen.facts, Cert.AdamWiUpReferenceIdeal.Gen.facts,
    Cert.AdamWiLow.Gen.facts, Cert.AdamWiLowIdeal.Gen.facts, Cert.AdamWiLowReferenceIdeal.Gen.facts,
    Cert.AdamWoUp.Gen.facts, Cert.AdamWoUpIdeal.Gen.facts, Cert.AdamWoUpReferenceIdeal.Gen.facts,
    Cert.AdamWoLow.Gen.facts, Cert.AdamWoLowIdeal.Gen.facts, Cert.AdamWoLowReferenceIdeal.Gen.facts,
    Cert.CrossF.Gen.facts, Cert.CrossFIdeal.Gen.facts, Cert.CrossFReferenceIdeal.Gen.facts,
    Cert.LossHead.Gen.facts, Cert.LossHeadIdeal.Gen.facts, Cert.LossHeadReferenceIdeal.Gen.facts,
    Cert.CrossB.Gen.facts, Cert.CrossBIdeal.Gen.facts, Cert.CrossBReferenceIdeal.Gen.facts, Cert.Pre_swiglu_bwd_finite.Gen.facts, Cert.Pre_cross_bwd_finite.Gen.facts,
    fun m ρ _ => Cert.Proj.Gen.frame m ρ, fun m ρ _ => Cert.ProjIdeal.Gen.frame m ρ, Cert.AProj.frameReference,
    fun m ρ _ => Cert.BrRnn.Gen.frame m ρ, fun m ρ _ => Cert.BrRnnIdeal.Gen.frame m ρ, Cert.ABrRnn.frameReference,
    fun m ρ _ => Cert.BrAttn.Gen.frame m ρ, fun m ρ _ => Cert.BrAttnIdeal.Gen.frame m ρ, Cert.ABrAttn.frameReference,
    fun m ρ _ => Cert.Cq.Gen.frame m ρ, fun m ρ _ => Cert.CqIdeal.Gen.frame m ρ, Cert.ACq.frameReference,
    fun m ρ _ => Cert.Ckv.Gen.frame m ρ, fun m ρ _ => Cert.CkvIdeal.Gen.frame m ρ, Cert.ACkv.frameReference,
    fun m ρ _ => Cert.FfnWi.Gen.frame m ρ, fun m ρ _ => Cert.FfnWiIdeal.Gen.frame m ρ, Cert.AFfnWi.frameReference,
    fun m ρ _ => Cert.Dact.Gen.frame m ρ, fun m ρ _ => Cert.DactIdeal.Gen.frame m ρ, Cert.ADact.frameReference,
    fun m ρ _ => Cert.Dh2.Gen.frame m ρ, fun m ρ _ => Cert.Dh2Ideal.Gen.frame m ρ, Cert.ADh2.frameReference,
    fun m ρ _ => Cert.Do.Gen.frame m ρ, fun m ρ _ => Cert.DoIdeal.Gen.frame m ρ, Cert.ADo.frameReference,
    fun m ρ _ => Cert.Dh1.Gen.frame m ρ, fun m ρ _ => Cert.Dh1Ideal.Gen.frame m ρ, Cert.ADh1.frameReference,
    fun m ρ _ => Cert.Dmerged.Gen.frame m ρ, fun m ρ _ => Cert.DmergedIdeal.Gen.frame m ρ, Cert.ADmerged.frameReference,
    fun m ρ _ => Cert.Dh.Gen.frame m ρ, fun m ρ _ => Cert.DhIdeal.Gen.frame m ρ, Cert.ADh.frameReference,
    fun m ρ _ => Cert.DFfnWo.Gen.frame m ρ, fun m ρ _ => Cert.DFfnWoIdeal.Gen.frame m ρ, Cert.ADFfnWo.frameReference,
    fun m ρ _ => Cert.DFfnWi.Gen.frame m ρ, fun m ρ _ => Cert.DFfnWiIdeal.Gen.frame m ρ, Cert.ADFfnWi.frameReference,
    fun m ρ _ => Cert.Dco.Gen.frame m ρ, fun m ρ _ => Cert.DcoIdeal.Gen.frame m ρ, Cert.ADco.frameReference,
    fun m ρ _ => Cert.Dcq.Gen.frame m ρ, fun m ρ _ => Cert.DcqIdeal.Gen.frame m ρ, Cert.ADcq.frameReference,
    fun m ρ _ => Cert.Dckv.Gen.frame m ρ, fun m ρ _ => Cert.DckvIdeal.Gen.frame m ρ, Cert.ADckv.frameReference,
    fun m ρ _ => Cert.DbrRnn.Gen.frame m ρ, fun m ρ _ => Cert.DbrRnnIdeal.Gen.frame m ρ, Cert.ADbrRnn.frameReference,
    fun m ρ _ => Cert.DIn.Gen.frame m ρ, fun m ρ _ => Cert.DInIdeal.Gen.frame m ρ, Cert.ADIn.frameReference,
    fun m ρ _ => Cert.MergeB.Gen.frame m ρ, fun m ρ _ => Cert.MergeBIdeal.Gen.frame m ρ, Cert.AMergeB.frameReference,
    fun m ρ _ => Cert.MergeF.Gen.frame m ρ, fun m ρ _ => Cert.MergeFIdeal.Gen.frame m ρ, Cert.AMergeF.frameReference,
    fun m ρ _ => Cert.SwigluB.Gen.frame m ρ, fun m ρ _ => Cert.SwigluBIdeal.Gen.frame m ρ, fun m ρ _ => Cert.SwigluBIdeal.Gen.frame m ρ, Cert.ASwigluB.frameReference, fun m ρ _ => Cert.ASwigluB.frameReference m ρ trivial,
    fun m ρ _ => Cert.SwigluF.Gen.frame m ρ, fun m ρ _ => Cert.SwigluFIdeal.Gen.frame m ρ, Cert.ASwigluF.frameReference,
    fun m ρ _ => Cert.AdamVec.Gen.frame m ρ, fun m ρ _ => Cert.AdamVecIdeal.Gen.frame m ρ, Cert.AAdamVec.frameReference,
    fun m ρ _ => Cert.AdamSinks.Gen.frame m ρ, fun m ρ _ => Cert.AdamSinksIdeal.Gen.frame m ρ, Cert.AAdamSinks.frameReference,
    fun m ρ _ => Cert.AdamConv.Gen.frame m ρ, fun m ρ _ => Cert.AdamConvIdeal.Gen.frame m ρ, Cert.AAdamConv.frameReference,
    fun m ρ _ => Cert.AdamInUp.Gen.frame m ρ, fun m ρ _ => Cert.AdamInUpIdeal.Gen.frame m ρ, Cert.AAdamInUp.frameReference,
    fun m ρ _ => Cert.AdamInLow.Gen.frame m ρ, fun m ρ _ => Cert.AdamInLowIdeal.Gen.frame m ρ, Cert.AAdamInLow.frameReference,
    fun m ρ _ => Cert.AdamRgUp.Gen.frame m ρ, fun m ρ _ => Cert.AdamRgUpIdeal.Gen.frame m ρ, Cert.AAdamRgUp.frameReference,
    fun m ρ _ => Cert.AdamRgLow.Gen.frame m ρ, fun m ρ _ => Cert.AdamRgLowIdeal.Gen.frame m ρ, Cert.AAdamRgLow.frameReference,
    fun m ρ _ => Cert.AdamOutUp.Gen.frame m ρ, fun m ρ _ => Cert.AdamOutUpIdeal.Gen.frame m ρ, Cert.AAdamOutUp.frameReference,
    fun m ρ _ => Cert.AdamOutLow.Gen.frame m ρ, fun m ρ _ => Cert.AdamOutLowIdeal.Gen.frame m ρ, Cert.AAdamOutLow.frameReference,
    fun m ρ _ => Cert.AdamCkvUp.Gen.frame m ρ, fun m ρ _ => Cert.AdamCkvUpIdeal.Gen.frame m ρ, Cert.AAdamCkvUp.frameReference,
    fun m ρ _ => Cert.AdamCkvLow.Gen.frame m ρ, fun m ρ _ => Cert.AdamCkvLowIdeal.Gen.frame m ρ, Cert.AAdamCkvLow.frameReference,
    fun m ρ _ => Cert.AdamWiUp.Gen.frame m ρ, fun m ρ _ => Cert.AdamWiUpIdeal.Gen.frame m ρ, Cert.AAdamWiUp.frameReference,
    fun m ρ _ => Cert.AdamWiLow.Gen.frame m ρ, fun m ρ _ => Cert.AdamWiLowIdeal.Gen.frame m ρ, Cert.AAdamWiLow.frameReference,
    fun m ρ _ => Cert.AdamWoUp.Gen.frame m ρ, fun m ρ _ => Cert.AdamWoUpIdeal.Gen.frame m ρ, Cert.AAdamWoUp.frameReference,
    fun m ρ _ => Cert.AdamWoLow.Gen.frame m ρ, fun m ρ _ => Cert.AdamWoLowIdeal.Gen.frame m ρ, Cert.AAdamWoLow.frameReference,
    fun m ρ _ => Cert.CrossF.Gen.frame m ρ, fun m ρ _ => Cert.CrossFIdeal.Gen.frame m ρ, Cert.ACrossF.frameReference,
    fun m ρ _ => Cert.LossHead.Gen.frame m ρ, fun m ρ _ => Cert.LossHeadIdeal.Gen.frame m ρ, Cert.ALossHead.frameReference,
    fun m ρ _ => Cert.CrossB.Gen.frame m ρ, fun m ρ _ => Cert.CrossBIdeal.Gen.frame m ρ, fun m ρ _ => Cert.CrossBIdeal.Gen.frame m ρ, Cert.ACrossB.frameReference, fun m ρ _ => Cert.ACrossB.frameReference m ρ trivial,
    trivial, Cert.AProj.value,
    trivial, Cert.ABrRnn.value,
    trivial, Cert.ABrAttn.value,
    trivial, Cert.ACq.value,
    trivial, Cert.ACkv.value,
    trivial, Cert.AFfnWi.value,
    trivial, Cert.ADact.value,
    trivial, Cert.ADh2.value,
    trivial, Cert.ADo.value,
    trivial, Cert.ADh1.value,
    trivial, Cert.ADmerged.value,
    trivial, Cert.ADh.value,
    trivial, Cert.ADFfnWo.value,
    trivial, Cert.ADFfnWi.value,
    trivial, Cert.ADco.value,
    trivial, Cert.ADcq.value,
    trivial, Cert.ADckv.value,
    trivial, Cert.ADbrRnn.value,
    trivial, Cert.ADIn.value,
    trivial, Cert.AMergeB.value,
    trivial, Cert.AMergeF.value,
    trivial, Cert.ASwigluB.value,
    trivial, Cert.ASwigluF.value,
    trivial, Cert.AAdamVec.value,
    trivial, Cert.AAdamSinks.value,
    trivial, Cert.AAdamConv.value,
    trivial, Cert.AAdamInUp.value,
    trivial, Cert.AAdamInLow.value,
    trivial, Cert.AAdamRgUp.value,
    trivial, Cert.AAdamRgLow.value,
    trivial, Cert.AAdamOutUp.value,
    trivial, Cert.AAdamOutLow.value,
    trivial, Cert.AAdamCkvUp.value,
    trivial, Cert.AAdamCkvLow.value,
    trivial, Cert.AAdamWiUp.value,
    trivial, Cert.AAdamWiLow.value,
    trivial, Cert.AAdamWoUp.value,
    trivial, Cert.AAdamWoLow.value,
    trivial, Cert.ACrossF.value,
    trivial, Cert.ALossHead.value,
    trivial, Cert.ACrossB.value⟩

end Cert.Proof

end
